-- ==== Defs.lean ====
def Pre_MemNormBwd (m : (ℓ : Loc Cert.MemNormBwd.nD Cert.MemNormBwd.τ Cert.MemNormBwd.sig) → Buf (Elt Bits) ℓ) : Prop :=
  True

def Pre_MemNormBwdIdeal (m : (ℓ : Loc Cert.MemNormBwdIdeal.nD Cert.MemNormBwdIdeal.τ Cert.MemNormBwdIdeal.sig) → Buf (Elt Ideal) ℓ) : Prop :=
  True

def Pre_MemNormBwdIdeal_mem_norm_finite [hPre_mem_norm_finite : Cert.Pre_mem_norm_finite.Facts] (m : (ℓ : Loc Cert.MemNormBwdIdeal.nD Cert.MemNormBwdIdeal.τ Cert.MemNormBwdIdeal.sig) → Buf (Elt Ideal) ℓ) : Prop :=
  ∀ c : Dev Cert.MemNormBwdIdeal.nD,
    (Cert.Pre_mem_norm_finite.fn (F := Ideal) (m ((c.tc : Thread Cert.MemNormBwdIdeal.nD Cert.MemNormBwdIdeal.τ).loc Cert.MemNormBwdIdeal.main_arg0)) (m ((c.tc : Thread Cert.MemNormBwdIdeal.nD Cert.MemNormBwdIdeal.τ).loc Cert.MemNormBwdIdeal.main_arg1)) (m ((c.tc : Thread Cert.MemNormBwdIdeal.nD Cert.MemNormBwdIdeal.τ).loc Cert.MemNormBwdIdeal.main_arg2))) = (fun _ => 1#1)

def Pre_MemNormBwdRefIdeal (m : (ℓ : Loc Cert.MemNormBwdRefIdeal.nD Cert.MemNormBwdRefIdeal.τ Cert.MemNormBwdRefIdeal.sig) → Buf (Elt Ideal) ℓ) : Prop :=
  True

def Pre_MemNormBwdRefIdeal_mem_norm_finite [hPre_mem_norm_finite : Cert.Pre_mem_norm_finite.Facts] (m : (ℓ : Loc Cert.MemNormBwdRefIdeal.nD Cert.MemNormBwdRefIdeal.τ Cert.MemNormBwdRefIdeal.sig) → Buf (Elt Ideal) ℓ) : Prop :=
  ∀ c : Dev Cert.MemNormBwdRefIdeal.nD,
    (Cert.Pre_mem_norm_finite.fn (F := Ideal) (m ((c.tc : Thread Cert.MemNormBwdRefIdeal.nD Cert.MemNormBwdRefIdeal.τ).loc Cert.MemNormBwdRefIdeal.main_arg0)) (m ((c.tc : Thread Cert.MemNormBwdRefIdeal.nD Cert.MemNormBwdRefIdeal.τ).loc Cert.MemNormBwdRefIdeal.main_arg1)) (m ((c.tc : Thread Cert.MemNormBwdRefIdeal.nD Cert.MemNormBwdRefIdeal.τ).loc Cert.MemNormBwdRefIdeal.main_arg2))) = (fun _ => 1#1)

def Pre_MemNormFwd (m : (ℓ : Loc Cert.MemNormFwd.nD Cert.MemNormFwd.τ Cert.MemNormFwd.sig) → Buf (Elt Bits) ℓ) : Prop :=
  True

def Pre_MemNormFwdIdeal (m : (ℓ : Loc Cert.MemNormFwdIdeal.nD Cert.MemNormFwdIdeal.τ Cert.MemNormFwdIdeal.sig) → Buf (Elt Ideal) ℓ) : Prop :=
  True

def Pre_MemNormFwdRefIdeal (m : (ℓ : Loc Cert.MemNormFwdRefIdeal.nD Cert.MemNormFwdRefIdeal.τ Cert.MemNormFwdRefIdeal.sig) → Buf (Elt Ideal) ℓ) : Prop :=
  True

def Pre_MemAttnBwd (m : (ℓ : Loc Cert.MemAttnBwd.nD Cert.MemAttnBwd.τ Cert.MemAttnBwd.sig) → Buf (Elt Bits) ℓ) : Prop :=
  True

def Pre_MemAttnBwdIdeal (m : (ℓ : Loc Cert.MemAttnBwdIdeal.nD Cert.MemAttnBwdIdeal.τ Cert.MemAttnBwdIdeal.sig) → Buf (Elt Ideal) ℓ) : Prop :=
  True

def Pre_MemAttnBwdIdeal_mem_attn_finite [hPre_mem_attn_finite : Cert.Pre_mem_attn_finite.Facts] (m : (ℓ : Loc Cert.MemAttnBwdIdeal.nD Cert.MemAttnBwdIdeal.τ Cert.MemAttnBwdIdeal.sig) → Buf (Elt Ideal) ℓ) : Prop :=
  ∀ c : Dev Cert.MemAttnBwdIdeal.nD,
    (Cert.Pre_mem_attn_finite.fn (F := Ideal) (m ((c.tc : Thread Cert.MemAttnBwdIdeal.nD Cert.MemAttnBwdIdeal.τ).loc Cert.MemAttnBwdIdeal.main_arg0)) (m ((c.tc : Thread Cert.MemAttnBwdIdeal.nD Cert.MemAttnBwdIdeal.τ).loc Cert.MemAttnBwdIdeal.main_arg1)) (m ((c.tc : Thread Cert.MemAttnBwdIdeal.nD Cert.MemAttnBwdIdeal.τ).loc Cert.MemAttnBwdIdeal.main_arg2))) = (fun _ => 1#1)

def Pre_MemAttnBwdRefIdeal (m : (ℓ : Loc Cert.MemAttnBwdRefIdeal.nD Cert.MemAttnBwdRefIdeal.τ Cert.MemAttnBwdRefIdeal.sig) → Buf (Elt Ideal) ℓ) : Prop :=
  True

def Pre_MemAttnBwdRefIdeal_mem_attn_finite [hPre_mem_attn_finite : Cert.Pre_mem_attn_finite.Facts] (m : (ℓ : Loc Cert.MemAttnBwdRefIdeal.nD Cert.MemAttnBwdRefIdeal.τ Cert.MemAttnBwdRefIdeal.sig) → Buf (Elt Ideal) ℓ) : Prop :=
  ∀ c : Dev Cert.MemAttnBwdRefIdeal.nD,
    (Cert.Pre_mem_attn_finite.fn (F := Ideal) (m ((c.tc : Thread Cert.MemAttnBwdRefIdeal.nD Cert.MemAttnBwdRefIdeal.τ).loc Cert.MemAttnBwdRefIdeal.main_arg0)) (m ((c.tc : Thread Cert.MemAttnBwdRefIdeal.nD Cert.MemAttnBwdRefIdeal.τ).loc Cert.MemAttnBwdRefIdeal.main_arg1)) (m ((c.tc : Thread Cert.MemAttnBwdRefIdeal.nD Cert.MemAttnBwdRefIdeal.τ).loc Cert.MemAttnBwdRefIdeal.main_arg2))) = (fun _ => 1#1)

def Pre_MemAttnFwd (m : (ℓ : Loc Cert.MemAttnFwd.nD Cert.MemAttnFwd.τ Cert.MemAttnFwd.sig) → Buf (Elt Bits) ℓ) : Prop :=
  True

def Pre_MemAttnFwdIdeal (m : (ℓ : Loc Cert.MemAttnFwdIdeal.nD Cert.MemAttnFwdIdeal.τ Cert.MemAttnFwdIdeal.sig) → Buf (Elt Ideal) ℓ) : Prop :=
  True

def Pre_MemAttnFwdRefIdeal (m : (ℓ : Loc Cert.MemAttnFwdRefIdeal.nD Cert.MemAttnFwdRefIdeal.τ Cert.MemAttnFwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdIdeal_glu_finite [hPre_glu_finite : Cert.Pre_glu_finite.Facts] (m : (ℓ : Loc Cert.GluBwdIdeal.nD Cert.GluBwdIdeal.τ Cert.GluBwdIdeal.sig) → Buf (Elt Ideal) ℓ) : Prop :=
  ∀ c : Dev Cert.GluBwdIdeal.nD,
    (Cert.Pre_glu_finite.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4)) (m ((c.tc : Thread Cert.GluBwdIdeal.nD Cert.GluBwdIdeal.τ).loc Cert.GluBwdIdeal.main_arg5))) = (fun _ => 1#1)

def Pre_GluBwdRefIdeal (m : (ℓ : Loc Cert.GluBwdRefIdeal.nD Cert.GluBwdRefIdeal.τ Cert.GluBwdRefIdeal.sig) → Buf (Elt Ideal) ℓ) : Prop :=
  True

def Pre_GluBwdRefIdeal_glu_finite [hPre_glu_finite : Cert.Pre_glu_finite.Facts] (m : (ℓ : Loc Cert.GluBwdRefIdeal.nD Cert.GluBwdRefIdeal.τ Cert.GluBwdRefIdeal.sig) → Buf (Elt Ideal) ℓ) : Prop :=
  ∀ c : Dev Cert.GluBwdRefIdeal.nD,
    (Cert.Pre_glu_finite.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4)) (m ((c.tc : Thread Cert.GluBwdRefIdeal.nD Cert.GluBwdRefIdeal.τ).loc Cert.GluBwdRefIdeal.main_arg5))) = (fun _ => 1#1)

def Pre_GluFwd (m : (ℓ : Loc Cert.GluFwd.nD Cert.GluFwd.τ Cert.GluFwd.sig) → Buf (Elt Bits) ℓ) : Prop :=
  True

def Pre_GluFwdIdeal (m : (ℓ : Loc Cert.GluFwdIdeal.nD Cert.GluFwdIdeal.τ Cert.GluFwdIdeal.sig) → Buf (Elt Ideal) ℓ) : Prop :=
  True

def Pre_GluFwdRefIdeal (m : (ℓ : Loc Cert.GluFwdRefIdeal.nD Cert.GluFwdRefIdeal.τ Cert.GluFwdRefIdeal.sig) → Buf (Elt Ideal) ℓ) : Prop :=
  True

def Pre_BranchMergeBwd (m : (ℓ : Loc Cert.BranchMergeBwd.nD Cert.BranchMergeBwd.τ Cert.BranchMergeBwd.sig) → Buf (Elt Bits) ℓ) : Prop :=
  True

def Pre_BranchMergeBwdIdeal (m : (ℓ : Loc Cert.BranchMergeBwdIdeal.nD Cert.BranchMergeBwdIdeal.τ Cert.BranchMergeBwdIdeal.sig) → Buf (Elt Ideal) ℓ) : Prop :=
  True

def Pre_BranchMergeBwdRefIdeal (m : (ℓ : Loc Cert.BranchMergeBwdRefIdeal.nD Cert.BranchMergeBwdRefIdeal.τ Cert.BranchMergeBwdRefIdeal.sig) → Buf (Elt Ideal) ℓ) : Prop :=
  True

def Pre_BranchMergeFwd (m : (ℓ : Loc Cert.BranchMergeFwd.nD Cert.BranchMergeFwd.τ Cert.BranchMergeFwd.sig) → Buf (Elt Bits) ℓ) : Prop :=
  True

def Pre_BranchMergeFwdIdeal (m : (ℓ : Loc Cert.BranchMergeFwdIdeal.nD Cert.BranchMergeFwdIdeal.τ Cert.BranchMergeFwdIdeal.sig) → Buf (Elt Ideal) ℓ) : Prop :=
  True

def Pre_BranchMergeFwdRefIdeal (m : (ℓ : Loc Cert.BranchMergeFwdRefIdeal.nD Cert.BranchMergeFwdRefIdeal.τ Cert.BranchMergeFwdRefIdeal.sig) → Buf (Elt Ideal) ℓ) : Prop :=
  True

def Pre_Norm2Bwd (m : (ℓ : Loc Cert.Norm2Bwd.nD Cert.Norm2Bwd.τ Cert.Norm2Bwd.sig) → Buf (Elt Bits) ℓ) : Prop :=
  True

def Pre_Norm2BwdIdeal (m : (ℓ : Loc Cert.Norm2BwdIdeal.nD Cert.Norm2BwdIdeal.τ Cert.Norm2BwdIdeal.sig) → Buf (Elt Ideal) ℓ) : Prop :=
  True

def Pre_Norm2BwdIdeal_norm2_finite [hPre_norm2_finite : Cert.Pre_norm2_finite.Facts] (m : (ℓ : Loc Cert.Norm2BwdIdeal.nD Cert.Norm2BwdIdeal.τ Cert.Norm2BwdIdeal.sig) → Buf (Elt Ideal) ℓ) : Prop :=
  ∀ c : Dev Cert.Norm2BwdIdeal.nD,
    (Cert.Pre_norm2_finite.fn (F := Ideal) (m ((c.tc : Thread Cert.Norm2BwdIdeal.nD Cert.Norm2BwdIdeal.τ).loc Cert.Norm2BwdIdeal.main_arg0)) (m ((c.tc : Thread Cert.Norm2BwdIdeal.nD Cert.Norm2BwdIdeal.τ).loc Cert.Norm2BwdIdeal.main_arg1)) (m ((c.tc : Thread Cert.Norm2BwdIdeal.nD Cert.Norm2BwdIdeal.τ).loc Cert.Norm2BwdIdeal.main_arg2)) (m ((c.tc : Thread Cert.Norm2BwdIdeal.nD Cert.Norm2BwdIdeal.τ).loc Cert.Norm2BwdIdeal.main_arg3)) (m ((c.tc : Thread Cert.Norm2BwdIdeal.nD Cert.Norm2BwdIdeal.τ).loc Cert.Norm2BwdIdeal.main_arg4))) = (fun _ => 1#1)

def Pre_Norm2BwdRefIdeal (m : (ℓ : Loc Cert.Norm2BwdRefIdeal.nD Cert.Norm2BwdRefIdeal.τ Cert.Norm2BwdRefIdeal.sig) → Buf (Elt Ideal) ℓ) : Prop :=
  True

def Pre_Norm2BwdRefIdeal_norm2_finite [hPre_norm2_finite : Cert.Pre_norm2_finite.Facts] (m : (ℓ : Loc Cert.Norm2BwdRefIdeal.nD Cert.Norm2BwdRefIdeal.τ Cert.Norm2BwdRefIdeal.sig) → Buf (Elt Ideal) ℓ) : Prop :=
  ∀ c : Dev Cert.Norm2BwdRefIdeal.nD,
    (Cert.Pre_norm2_finite.fn (F := Ideal) (m ((c.tc : Thread Cert.Norm2BwdRefIdeal.nD Cert.Norm2BwdRefIdeal.τ).loc Cert.Norm2BwdRefIdeal.main_arg0)) (m ((c.tc : Thread Cert.Norm2BwdRefIdeal.nD Cert.Norm2BwdRefIdeal.τ).loc Cert.Norm2BwdRefIdeal.main_arg1)) (m ((c.tc : Thread Cert.Norm2BwdRefIdeal.nD Cert.Norm2BwdRefIdeal.τ).loc Cert.Norm2BwdRefIdeal.main_arg2)) (m ((c.tc : Thread Cert.Norm2BwdRefIdeal.nD Cert.Norm2BwdRefIdeal.τ).loc Cert.Norm2BwdRefIdeal.main_arg3)) (m ((c.tc : Thread Cert.Norm2BwdRefIdeal.nD Cert.Norm2BwdRefIdeal.τ).loc Cert.Norm2BwdRefIdeal.main_arg4))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Norm1Bwd (m : (ℓ : Loc Cert.Norm1Bwd.nD Cert.Norm1Bwd.τ Cert.Norm1Bwd.sig) → Buf (Elt Bits) ℓ) : Prop :=
  True

def Pre_Norm1BwdIdeal (m : (ℓ : Loc Cert.Norm1BwdIdeal.nD Cert.Norm1BwdIdeal.τ Cert.Norm1BwdIdeal.sig) → Buf (Elt Ideal) ℓ) : Prop :=
  True

def Pre_Norm1BwdIdeal_norm1_finite [hPre_norm1_finite : Cert.Pre_norm1_finite.Facts] (m : (ℓ : Loc Cert.Norm1BwdIdeal.nD Cert.Norm1BwdIdeal.τ Cert.Norm1BwdIdeal.sig) → Buf (Elt Ideal) ℓ) : Prop :=
  ∀ c : Dev Cert.Norm1BwdIdeal.nD,
    (Cert.Pre_norm1_finite.fn (F := Ideal) (m ((c.tc : Thread Cert.Norm1BwdIdeal.nD Cert.Norm1BwdIdeal.τ).loc Cert.Norm1BwdIdeal.main_arg0)) (m ((c.tc : Thread Cert.Norm1BwdIdeal.nD Cert.Norm1BwdIdeal.τ).loc Cert.Norm1BwdIdeal.main_arg1)) (m ((c.tc : Thread Cert.Norm1BwdIdeal.nD Cert.Norm1BwdIdeal.τ).loc Cert.Norm1BwdIdeal.main_arg2)) (m ((c.tc : Thread Cert.Norm1BwdIdeal.nD Cert.Norm1BwdIdeal.τ).loc Cert.Norm1BwdIdeal.main_arg3)) (m ((c.tc : Thread Cert.Norm1BwdIdeal.nD Cert.Norm1BwdIdeal.τ).loc Cert.Norm1BwdIdeal.main_arg4)) (m ((c.tc : Thread Cert.Norm1BwdIdeal.nD Cert.Norm1BwdIdeal.τ).loc Cert.Norm1BwdIdeal.main_arg5)) (m ((c.tc : Thread Cert.Norm1BwdIdeal.nD Cert.Norm1BwdIdeal.τ).loc Cert.Norm1BwdIdeal.main_arg6)) (m ((c.tc : Thread Cert.Norm1BwdIdeal.nD Cert.Norm1BwdIdeal.τ).loc Cert.Norm1BwdIdeal.main_arg7)) (m ((c.tc : Thread Cert.Norm1BwdIdeal.nD Cert.Norm1BwdIdeal.τ).loc Cert.Norm1BwdIdeal.main_arg8)) (m ((c.tc : Thread Cert.Norm1BwdIdeal.nD Cert.Norm1BwdIdeal.τ).loc Cert.Norm1BwdIdeal.main_arg9))) = (fun _ => 1#1)

def Pre_Norm1BwdRefIdeal (m : (ℓ : Loc Cert.Norm1BwdRefIdeal.nD Cert.Norm1BwdRefIdeal.τ Cert.Norm1BwdRefIdeal.sig) → Buf (Elt Ideal) ℓ) : Prop :=
  True

def Pre_Norm1BwdRefIdeal_norm1_finite [hPre_norm1_finite : Cert.Pre_norm1_finite.Facts] (m : (ℓ : Loc Cert.Norm1BwdRefIdeal.nD Cert.Norm1BwdRefIdeal.τ Cert.Norm1BwdRefIdeal.sig) → Buf (Elt Ideal) ℓ) : Prop :=
  ∀ c : Dev Cert.Norm1BwdRefIdeal.nD,
    (Cert.Pre_norm1_finite.fn (F := Ideal) (m ((c.tc : Thread Cert.Norm1BwdRefIdeal.nD Cert.Norm1BwdRefIdeal.τ).loc Cert.Norm1BwdRefIdeal.main_arg0)) (m ((c.tc : Thread Cert.Norm1BwdRefIdeal.nD Cert.Norm1BwdRefIdeal.τ).loc Cert.Norm1BwdRefIdeal.main_arg1)) (m ((c.tc : Thread Cert.Norm1BwdRefIdeal.nD Cert.Norm1BwdRefIdeal.τ).loc Cert.Norm1BwdRefIdeal.main_arg2)) (m ((c.tc : Thread Cert.Norm1BwdRefIdeal.nD Cert.Norm1BwdRefIdeal.τ).loc Cert.Norm1BwdRefIdeal.main_arg3)) (m ((c.tc : Thread Cert.Norm1BwdRefIdeal.nD Cert.Norm1BwdRefIdeal.τ).loc Cert.Norm1BwdRefIdeal.main_arg4)) (m ((c.tc : Thread Cert.Norm1BwdRefIdeal.nD Cert.Norm1BwdRefIdeal.τ).loc Cert.Norm1BwdRefIdeal.main_arg5)) (m ((c.tc : Thread Cert.Norm1BwdRefIdeal.nD Cert.Norm1BwdRefIdeal.τ).loc Cert.Norm1BwdRefIdeal.main_arg6)) (m ((c.tc : Thread Cert.Norm1BwdRefIdeal.nD Cert.Norm1BwdRefIdeal.τ).loc Cert.Norm1BwdRefIdeal.main_arg7)) (m ((c.tc : Thread Cert.Norm1BwdRefIdeal.nD Cert.Norm1BwdRefIdeal.τ).loc Cert.Norm1BwdRefIdeal.main_arg8)) (m ((c.tc : Thread Cert.Norm1BwdRefIdeal.nD Cert.Norm1BwdRefIdeal.τ).loc Cert.Norm1BwdRefIdeal.main_arg9))) = (fun _ => 1#1)

def Pre_Norm1Fwd (m : (ℓ : Loc Cert.Norm1Fwd.nD Cert.Norm1Fwd.τ Cert.Norm1Fwd.sig) → Buf (Elt Bits) ℓ) : Prop :=
  True

def Pre_Norm1FwdIdeal (m : (ℓ : Loc Cert.Norm1FwdIdeal.nD Cert.Norm1FwdIdeal.τ Cert.Norm1FwdIdeal.sig) → Buf (Elt Ideal) ℓ) : Prop :=
  True

def Pre_Norm1FwdRefIdeal (m : (ℓ : Loc Cert.Norm1FwdRefIdeal.nD Cert.Norm1FwdRefIdeal.τ Cert.Norm1FwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_head_finite [hPre_loss_head_finite : Cert.Pre_loss_head_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_head_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4))) = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_head_finite [hPre_loss_head_finite : Cert.Pre_loss_head_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_head_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3)) (m ((c.tc : Thread Cert.LossHeadRefIdeal.nD Cert.LossHeadRefIdeal.τ).loc Cert.LossHeadRefIdeal.main_arg4))) = (fun _ => 1#1)

def Pre_Relu2Bwd (m : (ℓ : Loc Cert.Relu2Bwd.nD Cert.Relu2Bwd.τ Cert.Relu2Bwd.sig) → Buf (Elt Bits) ℓ) : Prop :=
  True

def Pre_Relu2BwdIdeal (m : (ℓ : Loc Cert.Relu2BwdIdeal.nD Cert.Relu2BwdIdeal.τ Cert.Relu2BwdIdeal.sig) → Buf (Elt Ideal) ℓ) : Prop :=
  True

def Pre_Relu2BwdRefIdeal (m : (ℓ : Loc Cert.Relu2BwdRefIdeal.nD Cert.Relu2BwdRefIdeal.τ Cert.Relu2BwdRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_AttnMerge (m : (ℓ : Loc Cert.AttnMerge.nD Cert.AttnMerge.τ Cert.AttnMerge.sig) → Buf (Elt Bits) ℓ) : Prop :=
  True

def Pre_AttnMergeIdeal (m : (ℓ : Loc Cert.AttnMergeIdeal.nD Cert.AttnMergeIdeal.τ Cert.AttnMergeIdeal.sig) → Buf (Elt Ideal) ℓ) : Prop :=
  True

def Pre_AttnMergeRefIdeal (m : (ℓ : Loc Cert.AttnMergeRefIdeal.nD Cert.AttnMergeRefIdeal.τ Cert.AttnMergeRefIdeal.sig) → Buf (Elt Ideal) ℓ) : Prop :=
  True

def Pre_AttnFwd1 (m : (ℓ : Loc Cert.AttnFwd1.nD Cert.AttnFwd1.τ Cert.AttnFwd1.sig) → Buf (Elt Bits) ℓ) : Prop :=
  True

def Pre_AttnFwd1Ideal (m : (ℓ : Loc Cert.AttnFwd1Ideal.nD Cert.AttnFwd1Ideal.τ Cert.AttnFwd1Ideal.sig) → Buf (Elt Ideal) ℓ) : Prop :=
  True

def Pre_AttnFwd1RefIdeal (m : (ℓ : Loc Cert.AttnFwd1RefIdeal.nD Cert.AttnFwd1RefIdeal.τ Cert.AttnFwd1RefIdeal.sig) → Buf (Elt Ideal) ℓ) : Prop :=
  True

def Pre_AttnFwd4 (m : (ℓ : Loc Cert.AttnFwd4.nD Cert.AttnFwd4.τ Cert.AttnFwd4.sig) → Buf (Elt Bits) ℓ) : Prop :=
  True

def Pre_AttnFwd4Ideal (m : (ℓ : Loc Cert.AttnFwd4Ideal.nD Cert.AttnFwd4Ideal.τ Cert.AttnFwd4Ideal.sig) → Buf (Elt Ideal) ℓ) : Prop :=
  True

def Pre_AttnFwd4RefIdeal (m : (ℓ : Loc Cert.AttnFwd4RefIdeal.nD Cert.AttnFwd4RefIdeal.τ Cert.AttnFwd4RefIdeal.sig) → Buf (Elt Ideal) ℓ) : Prop :=
  True

def Pre_AttnFwd16 (m : (ℓ : Loc Cert.AttnFwd16.nD Cert.AttnFwd16.τ Cert.AttnFwd16.sig) → Buf (Elt Bits) ℓ) : Prop :=
  True

def Pre_AttnFwd16Ideal (m : (ℓ : Loc Cert.AttnFwd16Ideal.nD Cert.AttnFwd16Ideal.τ Cert.AttnFwd16Ideal.sig) → Buf (Elt Ideal) ℓ) : Prop :=
  True

def Pre_AttnFwd16RefIdeal (m : (ℓ : Loc Cert.AttnFwd16RefIdeal.nD Cert.AttnFwd16RefIdeal.τ Cert.AttnFwd16RefIdeal.sig) → Buf (Elt Ideal) ℓ) : Prop :=
  True

def Pre_SsmBwdEnds (m : (ℓ : Loc Cert.SsmBwdEnds.nD Cert.SsmBwdEnds.τ Cert.SsmBwdEnds.sig) → Buf (Elt Bits) ℓ) : Prop :=
  True

def Pre_SsmBwdEndsIdeal (m : (ℓ : Loc Cert.SsmBwdEndsIdeal.nD Cert.SsmBwdEndsIdeal.τ Cert.SsmBwdEndsIdeal.sig) → Buf (Elt Ideal) ℓ) : Prop :=
  True

def quiescent_MemNormBwd [hMemNormBwd : Cert.MemNormBwd.Facts] : Prop :=
  ∀ (m : (ℓ : Loc Cert.MemNormBwd.nD Cert.MemNormBwd.τ Cert.MemNormBwd.sig) → Buf (Elt Bits) ℓ) (g : Dev Cert.MemNormBwd.nD → PrngReg), Pre_MemNormBwd m →
    θ_run (Cert.MemNormBwd.defs (F := Bits)) (onTc (τ := Cert.MemNormBwd.τ) (Cert.MemNormBwd.main (F := Bits))) ⟨m, fun _ => 0, g⟩ (fun r => (∀ c : Dev Cert.MemNormBwd.nD,
      r.2.mem ((c.tc : Thread Cert.MemNormBwd.nD Cert.MemNormBwd.τ).loc Cert.MemNormBwd.main_arg0) = m ((c.tc : Thread Cert.MemNormBwd.nD Cert.MemNormBwd.τ).loc Cert.MemNormBwd.main_arg0)
      ∧ r.2.mem ((c.tc : Thread Cert.MemNormBwd.nD Cert.MemNormBwd.τ).loc Cert.MemNormBwd.main_arg1) = m ((c.tc : Thread Cert.MemNormBwd.nD Cert.MemNormBwd.τ).loc Cert.MemNormBwd.main_arg1)
      ∧ r.2.mem ((c.tc : Thread Cert.MemNormBwd.nD Cert.MemNormBwd.τ).loc Cert.MemNormBwd.main_arg2) = m ((c.tc : Thread Cert.MemNormBwd.nD Cert.MemNormBwd.τ).loc Cert.MemNormBwd.main_arg2))
      ∧ r.2.sem = fun _ => 0)

def quiescent_MemNormBwdIdeal [hMemNormBwdIdeal : Cert.MemNormBwdIdeal.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdIdeal_pre_mem_norm_finite [hMemNormBwdIdeal : Cert.MemNormBwdIdeal.Facts] [hPre_mem_norm_finite : Cert.Pre_mem_norm_finite.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg), Pre_MemNormBwdIdeal_mem_norm_finite m →
    θ_run (Cert.MemNormBwdIdeal.defs (F := Ideal)) (onTc (τ := Cert.MemNormBwdIdeal.τ) (Cert.MemNormBwdIdeal.main (F := Ideal))) ⟨m, fun _ => 0, g⟩ (fun r => (∀ c : Dev Cert.MemNormBwdIdeal.nD,
      r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
      ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
      ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ r.2.sem = fun _ => 0)

def quiescent_MemNormBwdRefIdeal [hMemNormBwdRefIdeal : Cert.MemNormBwdRefIdeal.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_MemNormBwdRefIdeal_pre_mem_norm_finite [hMemNormBwdRefIdeal : Cert.MemNormBwdRefIdeal.Facts] [hPre_mem_norm_finite : Cert.Pre_mem_norm_finite.Facts] : Prop :=
  ∀ (m : (ℓ : Loc Cert.MemNormBwdRefIdeal.nD Cert.MemNormBwdRefIdeal.τ Cert.MemNormBwdRefIdeal.sig) → Buf (Elt Ideal) ℓ) (g : Dev Cert.MemNormBwdRefIdeal.nD → PrngReg), Pre_MemNormBwdRefIdeal_mem_norm_finite m →
    θ_run (Cert.MemNormBwdRefIdeal.defs (F := Ideal)) (onTc (τ := Cert.MemNormBwdRefIdeal.τ) (Cert.MemNormBwdRefIdeal.main (F := Ideal))) ⟨m, fun _ => 0, g⟩ (fun r => (∀ c : Dev Cert.MemNormBwdRefIdeal.nD,
      r.2.mem ((c.tc : Thread Cert.MemNormBwdRefIdeal.nD Cert.MemNormBwdRefIdeal.τ).loc Cert.MemNormBwdRefIdeal.main_arg0) = m ((c.tc : Thread Cert.MemNormBwdRefIdeal.nD Cert.MemNormBwdRefIdeal.τ).loc Cert.MemNormBwdRefIdeal.main_arg0)
      ∧ r.2.mem ((c.tc : Thread Cert.MemNormBwdRefIdeal.nD Cert.MemNormBwdRefIdeal.τ).loc Cert.MemNormBwdRefIdeal.main_arg1) = m ((c.tc : Thread Cert.MemNormBwdRefIdeal.nD Cert.MemNormBwdRefIdeal.τ).loc Cert.MemNormBwdRefIdeal.main_arg1)
      ∧ r.2.mem ((c.tc : Thread Cert.MemNormBwdRefIdeal.nD Cert.MemNormBwdRefIdeal.τ).loc Cert.MemNormBwdRefIdeal.main_arg2) = m ((c.tc : Thread Cert.MemNormBwdRefIdeal.nD Cert.MemNormBwdRefIdeal.τ).loc Cert.MemNormBwdRefIdeal.main_arg2))
      ∧ r.2.sem = fun _ => 0)

def quiescent_MemNormFwd [hMemNormFwd : Cert.MemNormFwd.Facts] : Prop :=
  ∀ (m : (ℓ : Loc Cert.MemNormFwd.nD Cert.MemNormFwd.τ Cert.MemNormFwd.sig) → Buf (Elt Bits) ℓ) (g : Dev Cert.MemNormFwd.nD → PrngReg), Pre_MemNormFwd m →
    θ_run (Cert.MemNormFwd.defs (F := Bits)) (onTc (τ := Cert.MemNormFwd.τ) (Cert.MemNormFwd.main (F := Bits))) ⟨m, fun _ => 0, g⟩ (fun r => (∀ c : Dev Cert.MemNormFwd.nD,
      r.2.mem ((c.tc : Thread Cert.MemNormFwd.nD Cert.MemNormFwd.τ).loc Cert.MemNormFwd.main_arg0) = m ((c.tc : Thread Cert.MemNormFwd.nD Cert.MemNormFwd.τ).loc Cert.MemNormFwd.main_arg0)
      ∧ r.2.mem ((c.tc : Thread Cert.MemNormFwd.nD Cert.MemNormFwd.τ).loc Cert.MemNormFwd.main_arg1) = m ((c.tc : Thread Cert.MemNormFwd.nD Cert.MemNormFwd.τ).loc Cert.MemNormFwd.main_arg1))
      ∧ r.2.sem = fun _ => 0)

def quiescent_MemNormFwdIdeal [hMemNormFwdIdeal : Cert.MemNormFwdIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg), Pre_MemNormFwdIdeal m →
    θ_run (Cert.MemNormFwdIdeal.defs (F := Ideal)) (onTc (τ := Cert.MemNormFwdIdeal.τ) (Cert.MemNormFwdIdeal.main (F := Ideal))) ⟨m, fun _ => 0, g⟩ (fun r => (∀ c : Dev Cert.MemNormFwdIdeal.nD,
      r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
      ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ r.2.sem = fun _ => 0)

def quiescent_MemNormFwdRefIdeal [hMemNormFwdRefIdeal : Cert.MemNormFwdRefIdeal.Facts] : Prop :=
  ∀ (m : (ℓ : Loc Cert.MemNormFwdRefIdeal.nD Cert.MemNormFwdRefIdeal.τ Cert.MemNormFwdRefIdeal.sig) → Buf (Elt Ideal) ℓ) (g : Dev Cert.MemNormFwdRefIdeal.nD → PrngReg), Pre_MemNormFwdRefIdeal m →
    θ_run (Cert.MemNormFwdRefIdeal.defs (F := Ideal)) (onTc (τ := Cert.MemNormFwdRefIdeal.τ) (Cert.MemNormFwdRefIdeal.main (F := Ideal))) ⟨m, fun _ => 0, g⟩ (fun r => (∀ c : Dev Cert.MemNormFwdRefIdeal.nD,
      r.2.mem ((c.tc : Thread Cert.MemNormFwdRefIdeal.nD Cert.MemNormFwdRefIdeal.τ).loc Cert.MemNormFwdRefIdeal.main_arg0) = m ((c.tc : Thread Cert.MemNormFwdRefIdeal.nD Cert.MemNormFwdRefIdeal.τ).loc Cert.MemNormFwdRefIdeal.main_arg0)
      ∧ r.2.mem ((c.tc : Thread Cert.MemNormFwdRefIdeal.nD Cert.MemNormFwdRefIdeal.τ).loc Cert.MemNormFwdRefIdeal.main_arg1) = m ((c.tc : Thread Cert.MemNormFwdRefIdeal.nD Cert.MemNormFwdRefIdeal.τ).loc Cert.MemNormFwdRefIdeal.main_arg1))
      ∧ r.2.sem = fun _ => 0)

def quiescent_MemAttnBwd [hMemAttnBwd : Cert.MemAttnBwd.Facts] : Prop :=
  ∀ (m : (ℓ : Loc Cert.MemAttnBwd.nD Cert.MemAttnBwd.τ Cert.MemAttnBwd.sig) → Buf (Elt Bits) ℓ) (g : Dev Cert.MemAttnBwd.nD → PrngReg), Pre_MemAttnBwd m →
    θ_run (Cert.MemAttnBwd.defs (F := Bits)) (onTc (τ := Cert.MemAttnBwd.τ) (Cert.MemAttnBwd.main (F := Bits))) ⟨m, fun _ => 0, g⟩ (fun r => (∀ c : Dev Cert.MemAttnBwd.nD,
      r.2.mem ((c.tc : Thread Cert.MemAttnBwd.nD Cert.MemAttnBwd.τ).loc Cert.MemAttnBwd.main_arg0) = m ((c.tc : Thread Cert.MemAttnBwd.nD Cert.MemAttnBwd.τ).loc Cert.MemAttnBwd.main_arg0)
      ∧ r.2.mem ((c.tc : Thread Cert.MemAttnBwd.nD Cert.MemAttnBwd.τ).loc Cert.MemAttnBwd.main_arg1) = m ((c.tc : Thread Cert.MemAttnBwd.nD Cert.MemAttnBwd.τ).loc Cert.MemAttnBwd.main_arg1)
      ∧ r.2.mem ((c.tc : Thread Cert.MemAttnBwd.nD Cert.MemAttnBwd.τ).loc Cert.MemAttnBwd.main_arg2) = m ((c.tc : Thread Cert.MemAttnBwd.nD Cert.MemAttnBwd.τ).loc Cert.MemAttnBwd.main_arg2))
      ∧ r.2.sem = fun _ => 0)

def quiescent_MemAttnBwdIdeal [hMemAttnBwdIdeal : Cert.MemAttnBwdIdeal.Facts] : Prop :=
  ∀ (m : (ℓ : Loc Cert.MemAttnBwdIdeal.nD Cert.MemAttnBwdIdeal.τ Cert.MemAttnBwdIdeal.sig) → Buf (Elt Ideal) ℓ) (g : Dev Cert.MemAttnBwdIdeal.nD → PrngReg), Pre_MemAttnBwdIdeal m →
    θ_run (Cert.MemAttnBwdIdeal.defs (F := Ideal)) (onTc (τ := Cert.MemAttnBwdIdeal.τ) (Cert.MemAttnBwdIdeal.main (F := Ideal))) ⟨m, fun _ => 0, g⟩ (fun r => (∀ c : Dev Cert.MemAttnBwdIdeal.nD,
      r.2.mem ((c.tc : Thread Cert.MemAttnBwdIdeal.nD Cert.MemAttnBwdIdeal.τ).loc Cert.MemAttnBwdIdeal.main_arg0) = m ((c.tc : Thread Cert.MemAttnBwdIdeal.nD Cert.MemAttnBwdIdeal.τ).loc Cert.MemAttnBwdIdeal.main_arg0)
      ∧ r.2.mem ((c.tc : Thread Cert.MemAttnBwdIdeal.nD Cert.MemAttnBwdIdeal.τ).loc Cert.MemAttnBwdIdeal.main_arg1) = m ((c.tc : Thread Cert.MemAttnBwdIdeal.nD Cert.MemAttnBwdIdeal.τ).loc Cert.MemAttnBwdIdeal.main_arg1)
      ∧ r.2.mem ((c.tc : Thread Cert.MemAttnBwdIdeal.nD Cert.MemAttnBwdIdeal.τ).loc Cert.MemAttnBwdIdeal.main_arg2) = m ((c.tc : Thread Cert.MemAttnBwdIdeal.nD Cert.MemAttnBwdIdeal.τ).loc Cert.MemAttnBwdIdeal.main_arg2))
      ∧ r.2.sem = fun _ => 0)

def quiescent_MemAttnBwdIdeal_pre_mem_attn_finite [hMemAttnBwdIdeal : Cert.MemAttnBwdIdeal.Facts] [hPre_mem_attn_finite : Cert.Pre_mem_attn_finite.Facts] : Prop :=
  ∀ (m : (ℓ : Loc Cert.MemAttnBwdIdeal.nD Cert.MemAttnBwdIdeal.τ Cert.MemAttnBwdIdeal.sig) → Buf (Elt Ideal) ℓ) (g : Dev Cert.MemAttnBwdIdeal.nD → PrngReg), Pre_MemAttnBwdIdeal_mem_attn_finite m →
    θ_run (Cert.MemAttnBwdIdeal.defs (F := Ideal)) (onTc (τ := Cert.MemAttnBwdIdeal.τ) (Cert.MemAttnBwdIdeal.main (F := Ideal))) ⟨m, fun _ => 0, g⟩ (fun r => (∀ c : Dev Cert.MemAttnBwdIdeal.nD,
      r.2.mem ((c.tc : Thread Cert.MemAttnBwdIdeal.nD Cert.MemAttnBwdIdeal.τ).loc Cert.MemAttnBwdIdeal.main_arg0) = m ((c.tc : Thread Cert.MemAttnBwdIdeal.nD Cert.MemAttnBwdIdeal.τ).loc Cert.MemAttnBwdIdeal.main_arg0)
      ∧ r.2.mem ((c.tc : Thread Cert.MemAttnBwdIdeal.nD Cert.MemAttnBwdIdeal.τ).loc Cert.MemAttnBwdIdeal.main_arg1) = m ((c.tc : Thread Cert.MemAttnBwdIdeal.nD Cert.MemAttnBwdIdeal.τ).loc Cert.MemAttnBwdIdeal.main_arg1)
      ∧ r.2.mem ((c.tc : Thread Cert.MemAttnBwdIdeal.nD Cert.MemAttnBwdIdeal.τ).loc Cert.MemAttnBwdIdeal.main_arg2) = m ((c.tc : Thread Cert.MemAttnBwdIdeal.nD Cert.MemAttnBwdIdeal.τ).loc Cert.MemAttnBwdIdeal.main_arg2))
      ∧ r.2.sem = fun _ => 0)

def quiescent_MemAttnBwdRefIdeal [hMemAttnBwdRefIdeal : Cert.MemAttnBwdRefIdeal.Facts] : Prop :=
  ∀ (m : (ℓ : Loc Cert.MemAttnBwdRefIdeal.nD Cert.MemAttnBwdRefIdeal.τ Cert.MemAttnBwdRefIdeal.sig) → Buf (Elt Ideal) ℓ) (g : Dev Cert.MemAttnBwdRefIdeal.nD → PrngReg), Pre_MemAttnBwdRefIdeal m →
    θ_run (Cert.MemAttnBwdRefIdeal.defs (F := Ideal)) (onTc (τ := Cert.MemAttnBwdRefIdeal.τ) (Cert.MemAttnBwdRefIdeal.main (F := Ideal))) ⟨m, fun _ => 0, g⟩ (fun r => (∀ c : Dev Cert.MemAttnBwdRefIdeal.nD,
      r.2.mem ((c.tc : Thread Cert.MemAttnBwdRefIdeal.nD Cert.MemAttnBwdRefIdeal.τ).loc Cert.MemAttnBwdRefIdeal.main_arg0) = m ((c.tc : Thread Cert.MemAttnBwdRefIdeal.nD Cert.MemAttnBwdRefIdeal.τ).loc Cert.MemAttnBwdRefIdeal.main_arg0)
      ∧ r.2.mem ((c.tc : Thread Cert.MemAttnBwdRefIdeal.nD Cert.MemAttnBwdRefIdeal.τ).loc Cert.MemAttnBwdRefIdeal.main_arg1) = m ((c.tc : Thread Cert.MemAttnBwdRefIdeal.nD Cert.MemAttnBwdRefIdeal.τ).loc Cert.MemAttnBwdRefIdeal.main_arg1)
      ∧ r.2.mem ((c.tc : Thread Cert.MemAttnBwdRefIdeal.nD Cert.MemAttnBwdRefIdeal.τ).loc Cert.MemAttnBwdRefIdeal.main_arg2) = m ((c.tc : Thread Cert.MemAttnBwdRefIdeal.nD Cert.MemAttnBwdRefIdeal.τ).loc Cert.MemAttnBwdRefIdeal.main_arg2))
      ∧ r.2.sem = fun _ => 0)

def quiescent_MemAttnBwdRefIdeal_pre_mem_attn_finite [hMemAttnBwdRefIdeal : Cert.MemAttnBwdRefIdeal.Facts] [hPre_mem_attn_finite : Cert.Pre_mem_attn_finite.Facts] : Prop :=
  ∀ (m : (ℓ : Loc Cert.MemAttnBwdRefIdeal.nD Cert.MemAttnBwdRefIdeal.τ Cert.MemAttnBwdRefIdeal.sig) → Buf (Elt Ideal) ℓ) (g : Dev Cert.MemAttnBwdRefIdeal.nD → PrngReg), Pre_MemAttnBwdRefIdeal_mem_attn_finite m →
    θ_run (Cert.MemAttnBwdRefIdeal.defs (F := Ideal)) (onTc (τ := Cert.MemAttnBwdRefIdeal.τ) (Cert.MemAttnBwdRefIdeal.main (F := Ideal))) ⟨m, fun _ => 0, g⟩ (fun r => (∀ c : Dev Cert.MemAttnBwdRefIdeal.nD,
      r.2.mem ((c.tc : Thread Cert.MemAttnBwdRefIdeal.nD Cert.MemAttnBwdRefIdeal.τ).loc Cert.MemAttnBwdRefIdeal.main_arg0) = m ((c.tc : Thread Cert.MemAttnBwdRefIdeal.nD Cert.MemAttnBwdRefIdeal.τ).loc Cert.MemAttnBwdRefIdeal.main_arg0)
      ∧ r.2.mem ((c.tc : Thread Cert.MemAttnBwdRefIdeal.nD Cert.MemAttnBwdRefIdeal.τ).loc Cert.MemAttnBwdRefIdeal.main_arg1) = m ((c.tc : Thread Cert.MemAttnBwdRefIdeal.nD Cert.MemAttnBwdRefIdeal.τ).loc Cert.MemAttnBwdRefIdeal.main_arg1)
      ∧ r.2.mem ((c.tc : Thread Cert.MemAttnBwdRefIdeal.nD Cert.MemAttnBwdRefIdeal.τ).loc Cert.MemAttnBwdRefIdeal.main_arg2) = m ((c.tc : Thread Cert.MemAttnBwdRefIdeal.nD Cert.MemAttnBwdRefIdeal.τ).loc Cert.MemAttnBwdRefIdeal.main_arg2))
      ∧ r.2.sem = fun _ => 0)

def quiescent_MemAttnFwd [hMemAttnFwd : Cert.MemAttnFwd.Facts] : Prop :=
  ∀ (m : (ℓ : Loc Cert.MemAttnFwd.nD Cert.MemAttnFwd.τ Cert.MemAttnFwd.sig) → Buf (Elt Bits) ℓ) (g : Dev Cert.MemAttnFwd.nD → PrngReg), Pre_MemAttnFwd m →
    θ_run (Cert.MemAttnFwd.defs (F := Bits)) (onTc (τ := Cert.MemAttnFwd.τ) (Cert.MemAttnFwd.main (F := Bits))) ⟨m, fun _ => 0, g⟩ (fun r => (∀ c : Dev Cert.MemAttnFwd.nD,
      r.2.mem ((c.tc : Thread Cert.MemAttnFwd.nD Cert.MemAttnFwd.τ).loc Cert.MemAttnFwd.main_arg0) = m ((c.tc : Thread Cert.MemAttnFwd.nD Cert.MemAttnFwd.τ).loc Cert.MemAttnFwd.main_arg0)
      ∧ r.2.mem ((c.tc : Thread Cert.MemAttnFwd.nD Cert.MemAttnFwd.τ).loc Cert.MemAttnFwd.main_arg1) = m ((c.tc : Thread Cert.MemAttnFwd.nD Cert.MemAttnFwd.τ).loc Cert.MemAttnFwd.main_arg1))
      ∧ r.2.sem = fun _ => 0)

def quiescent_MemAttnFwdIdeal [hMemAttnFwdIdeal : Cert.MemAttnFwdIdeal.Facts] : Prop :=
  ∀ (m : (ℓ : Loc Cert.MemAttnFwdIdeal.nD Cert.MemAttnFwdIdeal.τ Cert.MemAttnFwdIdeal.sig) → Buf (Elt Ideal) ℓ) (g : Dev Cert.MemAttnFwdIdeal.nD → PrngReg), Pre_MemAttnFwdIdeal m →
    θ_run (Cert.MemAttnFwdIdeal.defs (F := Ideal)) (onTc (τ := Cert.MemAttnFwdIdeal.τ) (Cert.MemAttnFwdIdeal.main (F := Ideal))) ⟨m, fun _ => 0, g⟩ (fun r => (∀ c : Dev Cert.MemAttnFwdIdeal.nD,
      r.2.mem ((c.tc : Thread Cert.MemAttnFwdIdeal.nD Cert.MemAttnFwdIdeal.τ).loc Cert.MemAttnFwdIdeal.main_arg0) = m ((c.tc : Thread Cert.MemAttnFwdIdeal.nD Cert.MemAttnFwdIdeal.τ).loc Cert.MemAttnFwdIdeal.main_arg0)
      ∧ r.2.mem ((c.tc : Thread Cert.MemAttnFwdIdeal.nD Cert.MemAttnFwdIdeal.τ).loc Cert.MemAttnFwdIdeal.main_arg1) = m ((c.tc : Thread Cert.MemAttnFwdIdeal.nD Cert.MemAttnFwdIdeal.τ).loc Cert.MemAttnFwdIdeal.main_arg1))
      ∧ r.2.sem = fun _ => 0)

def quiescent_MemAttnFwdRefIdeal [hMemAttnFwdRefIdeal : Cert.MemAttnFwdRefIdeal.Facts] : Prop :=
  ∀ (m : (ℓ : Loc Cert.MemAttnFwdRefIdeal.nD Cert.MemAttnFwdRefIdeal.τ Cert.MemAttnFwdRefIdeal.sig) → Buf (Elt Ideal) ℓ) (g : Dev Cert.MemAttnFwdRefIdeal.nD → PrngReg), Pre_MemAttnFwdRefIdeal m →
    θ_run (Cert.MemAttnFwdRefIdeal.defs (F := Ideal)) (onTc (τ := Cert.MemAttnFwdRefIdeal.τ) (Cert.MemAttnFwdRefIdeal.main (F := Ideal))) ⟨m, fun _ => 0, g⟩ (fun r => (∀ c : Dev Cert.MemAttnFwdRefIdeal.nD,
      r.2.mem ((c.tc : Thread Cert.MemAttnFwdRefIdeal.nD Cert.MemAttnFwdRefIdeal.τ).loc Cert.MemAttnFwdRefIdeal.main_arg0) = m ((c.tc : Thread Cert.MemAttnFwdRefIdeal.nD Cert.MemAttnFwdRefIdeal.τ).loc Cert.MemAttnFwdRefIdeal.main_arg0)
      ∧ r.2.mem ((c.tc : Thread Cert.MemAttnFwdRefIdeal.nD Cert.MemAttnFwdRefIdeal.τ).loc Cert.MemAttnFwdRefIdeal.main_arg1) = m ((c.tc : Thread Cert.MemAttnFwdRefIdeal.nD Cert.MemAttnFwdRefIdeal.τ).loc Cert.MemAttnFwdRefIdeal.main_arg1))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4)
      ∧ r.2.mem ((c.tc : Thread Cert.GluBwd.nD Cert.GluBwd.τ).loc Cert.GluBwd.main_arg5) = m ((c.tc : Thread Cert.GluBwd.nD Cert.GluBwd.τ).loc Cert.GluBwd.main_arg5))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ r.2.sem = fun _ => 0)

def quiescent_GluBwdIdeal_pre_glu_finite [hGluBwdIdeal : Cert.GluBwdIdeal.Facts] [hPre_glu_finite : Cert.Pre_glu_finite.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal_glu_finite m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4)
      ∧ r.2.mem ((c.tc : Thread Cert.GluBwdRefIdeal.nD Cert.GluBwdRefIdeal.τ).loc Cert.GluBwdRefIdeal.main_arg5) = m ((c.tc : Thread Cert.GluBwdRefIdeal.nD Cert.GluBwdRefIdeal.τ).loc Cert.GluBwdRefIdeal.main_arg5))
      ∧ r.2.sem = fun _ => 0)

def quiescent_GluBwdRefIdeal_pre_glu_finite [hGluBwdRefIdeal : Cert.GluBwdRefIdeal.Facts] [hPre_glu_finite : Cert.Pre_glu_finite.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal_glu_finite m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4)
      ∧ r.2.mem ((c.tc : Thread Cert.GluBwdRefIdeal.nD Cert.GluBwdRefIdeal.τ).loc Cert.GluBwdRefIdeal.main_arg5) = m ((c.tc : Thread Cert.GluBwdRefIdeal.nD Cert.GluBwdRefIdeal.τ).loc Cert.GluBwdRefIdeal.main_arg5))
      ∧ r.2.sem = fun _ => 0)

def quiescent_GluFwd [hGluFwd : Cert.GluFwd.Facts] : Prop :=
  ∀ (m : (ℓ : Loc Cert.GluFwd.nD Cert.GluFwd.τ Cert.GluFwd.sig) → Buf (Elt Bits) ℓ) (g : Dev Cert.GluFwd.nD → PrngReg), Pre_GluFwd m →
    θ_run (Cert.GluFwd.defs (F := Bits)) (onTc (τ := Cert.GluFwd.τ) (Cert.GluFwd.main (F := Bits))) ⟨m, fun _ => 0, g⟩ (fun r => (∀ c : Dev Cert.GluFwd.nD,
      r.2.mem ((c.tc : Thread Cert.GluFwd.nD Cert.GluFwd.τ).loc Cert.GluFwd.main_arg0) = m ((c.tc : Thread Cert.GluFwd.nD Cert.GluFwd.τ).loc Cert.GluFwd.main_arg0)
      ∧ r.2.mem ((c.tc : Thread Cert.GluFwd.nD Cert.GluFwd.τ).loc Cert.GluFwd.main_arg1) = m ((c.tc : Thread Cert.GluFwd.nD Cert.GluFwd.τ).loc Cert.GluFwd.main_arg1)
      ∧ r.2.mem ((c.tc : Thread Cert.GluFwd.nD Cert.GluFwd.τ).loc Cert.GluFwd.main_arg2) = m ((c.tc : Thread Cert.GluFwd.nD Cert.GluFwd.τ).loc Cert.GluFwd.main_arg2)
      ∧ r.2.mem ((c.tc : Thread Cert.GluFwd.nD Cert.GluFwd.τ).loc Cert.GluFwd.main_arg3) = m ((c.tc : Thread Cert.GluFwd.nD Cert.GluFwd.τ).loc Cert.GluFwd.main_arg3)
      ∧ r.2.mem ((c.tc : Thread Cert.GluFwd.nD Cert.GluFwd.τ).loc Cert.GluFwd.main_arg4) = m ((c.tc : Thread Cert.GluFwd.nD Cert.GluFwd.τ).loc Cert.GluFwd.main_arg4))
      ∧ r.2.sem = fun _ => 0)

def quiescent_GluFwdIdeal [hGluFwdIdeal : Cert.GluFwdIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg), Pre_GluFwdIdeal m →
    θ_run (Cert.GluFwdIdeal.defs (F := Ideal)) (onTc (τ := Cert.GluFwdIdeal.τ) (Cert.GluFwdIdeal.main (F := Ideal))) ⟨m, fun _ => 0, g⟩ (fun r => (∀ c : Dev Cert.GluFwdIdeal.nD,
      r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
      ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
      ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
      ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
      ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ r.2.sem = fun _ => 0)

def quiescent_GluFwdRefIdeal [hGluFwdRefIdeal : Cert.GluFwdRefIdeal.Facts] : Prop :=
  ∀ (m : (ℓ : Loc Cert.GluFwdRefIdeal.nD Cert.GluFwdRefIdeal.τ Cert.GluFwdRefIdeal.sig) → Buf (Elt Ideal) ℓ) (g : Dev Cert.GluFwdRefIdeal.nD → PrngReg), Pre_GluFwdRefIdeal m →
    θ_run (Cert.GluFwdRefIdeal.defs (F := Ideal)) (onTc (τ := Cert.GluFwdRefIdeal.τ) (Cert.GluFwdRefIdeal.main (F := Ideal))) ⟨m, fun _ => 0, g⟩ (fun r => (∀ c : Dev Cert.GluFwdRefIdeal.nD,
      r.2.mem ((c.tc : Thread Cert.GluFwdRefIdeal.nD Cert.GluFwdRefIdeal.τ).loc Cert.GluFwdRefIdeal.main_arg0) = m ((c.tc : Thread Cert.GluFwdRefIdeal.nD Cert.GluFwdRefIdeal.τ).loc Cert.GluFwdRefIdeal.main_arg0)
      ∧ r.2.mem ((c.tc : Thread Cert.GluFwdRefIdeal.nD Cert.GluFwdRefIdeal.τ).loc Cert.GluFwdRefIdeal.main_arg1) = m ((c.tc : Thread Cert.GluFwdRefIdeal.nD Cert.GluFwdRefIdeal.τ).loc Cert.GluFwdRefIdeal.main_arg1)
      ∧ r.2.mem ((c.tc : Thread Cert.GluFwdRefIdeal.nD Cert.GluFwdRefIdeal.τ).loc Cert.GluFwdRefIdeal.main_arg2) = m ((c.tc : Thread Cert.GluFwdRefIdeal.nD Cert.GluFwdRefIdeal.τ).loc Cert.GluFwdRefIdeal.main_arg2)
      ∧ r.2.mem ((c.tc : Thread Cert.GluFwdRefIdeal.nD Cert.GluFwdRefIdeal.τ).loc Cert.GluFwdRefIdeal.main_arg3) = m ((c.tc : Thread Cert.GluFwdRefIdeal.nD Cert.GluFwdRefIdeal.τ).loc Cert.GluFwdRefIdeal.main_arg3)
      ∧ r.2.mem ((c.tc : Thread Cert.GluFwdRefIdeal.nD Cert.GluFwdRefIdeal.τ).loc Cert.GluFwdRefIdeal.main_arg4) = m ((c.tc : Thread Cert.GluFwdRefIdeal.nD Cert.GluFwdRefIdeal.τ).loc Cert.GluFwdRefIdeal.main_arg4))
      ∧ r.2.sem = fun _ => 0)

def quiescent_BranchMergeBwd [hBranchMergeBwd : Cert.BranchMergeBwd.Facts] : Prop :=
  ∀ (m : (ℓ : Loc Cert.BranchMergeBwd.nD Cert.BranchMergeBwd.τ Cert.BranchMergeBwd.sig) → Buf (Elt Bits) ℓ) (g : Dev Cert.BranchMergeBwd.nD → PrngReg), Pre_BranchMergeBwd m →
    θ_run (Cert.BranchMergeBwd.defs (F := Bits)) (onTc (τ := Cert.BranchMergeBwd.τ) (Cert.BranchMergeBwd.main (F := Bits))) ⟨m, fun _ => 0, g⟩ (fun r => (∀ c : Dev Cert.BranchMergeBwd.nD,
      r.2.mem ((c.tc : Thread Cert.BranchMergeBwd.nD Cert.BranchMergeBwd.τ).loc Cert.BranchMergeBwd.main_arg0) = m ((c.tc : Thread Cert.BranchMergeBwd.nD Cert.BranchMergeBwd.τ).loc Cert.BranchMergeBwd.main_arg0)
      ∧ r.2.mem ((c.tc : Thread Cert.BranchMergeBwd.nD Cert.BranchMergeBwd.τ).loc Cert.BranchMergeBwd.main_arg1) = m ((c.tc : Thread Cert.BranchMergeBwd.nD Cert.BranchMergeBwd.τ).loc Cert.BranchMergeBwd.main_arg1)
      ∧ r.2.mem ((c.tc : Thread Cert.BranchMergeBwd.nD Cert.BranchMergeBwd.τ).loc Cert.BranchMergeBwd.main_arg2) = m ((c.tc : Thread Cert.BranchMergeBwd.nD Cert.BranchMergeBwd.τ).loc Cert.BranchMergeBwd.main_arg2)
      ∧ r.2.mem ((c.tc : Thread Cert.BranchMergeBwd.nD Cert.BranchMergeBwd.τ).loc Cert.BranchMergeBwd.main_arg3) = m ((c.tc : Thread Cert.BranchMergeBwd.nD Cert.BranchMergeBwd.τ).loc Cert.BranchMergeBwd.main_arg3)
      ∧ r.2.mem ((c.tc : Thread Cert.BranchMergeBwd.nD Cert.BranchMergeBwd.τ).loc Cert.BranchMergeBwd.main_arg4) = m ((c.tc : Thread Cert.BranchMergeBwd.nD Cert.BranchMergeBwd.τ).loc Cert.BranchMergeBwd.main_arg4)
      ∧ r.2.mem ((c.tc : Thread Cert.BranchMergeBwd.nD Cert.BranchMergeBwd.τ).loc Cert.BranchMergeBwd.main_arg5) = m ((c.tc : Thread Cert.BranchMergeBwd.nD Cert.BranchMergeBwd.τ).loc Cert.BranchMergeBwd.main_arg5)
      ∧ r.2.mem ((c.tc : Thread Cert.BranchMergeBwd.nD Cert.BranchMergeBwd.τ).loc Cert.BranchMergeBwd.main_arg6) = m ((c.tc : Thread Cert.BranchMergeBwd.nD Cert.BranchMergeBwd.τ).loc Cert.BranchMergeBwd.main_arg6)
      ∧ r.2.mem ((c.tc : Thread Cert.BranchMergeBwd.nD Cert.BranchMergeBwd.τ).loc Cert.BranchMergeBwd.main_arg7) = m ((c.tc : Thread Cert.BranchMergeBwd.nD Cert.BranchMergeBwd.τ).loc Cert.BranchMergeBwd.main_arg7)
      ∧ r.2.mem ((c.tc : Thread Cert.BranchMergeBwd.nD Cert.BranchMergeBwd.τ).loc Cert.BranchMergeBwd.main_arg8) = m ((c.tc : Thread Cert.BranchMergeBwd.nD Cert.BranchMergeBwd.τ).loc Cert.BranchMergeBwd.main_arg8))
      ∧ r.2.sem = fun _ => 0)

def quiescent_BranchMergeBwdIdeal [hBranchMergeBwdIdeal : Cert.BranchMergeBwdIdeal.Facts] : Prop :=
  ∀ (m : (ℓ : Loc Cert.BranchMergeBwdIdeal.nD Cert.BranchMergeBwdIdeal.τ Cert.BranchMergeBwdIdeal.sig) → Buf (Elt Ideal) ℓ) (g : Dev Cert.BranchMergeBwdIdeal.nD → PrngReg), Pre_BranchMergeBwdIdeal m →
    θ_run (Cert.BranchMergeBwdIdeal.defs (F := Ideal)) (onTc (τ := Cert.BranchMergeBwdIdeal.τ) (Cert.BranchMergeBwdIdeal.main (F := Ideal))) ⟨m, fun _ => 0, g⟩ (fun r => (∀ c : Dev Cert.BranchMergeBwdIdeal.nD,
      r.2.mem ((c.tc : Thread Cert.BranchMergeBwdIdeal.nD Cert.BranchMergeBwdIdeal.τ).loc Cert.BranchMergeBwdIdeal.main_arg0) = m ((c.tc : Thread Cert.BranchMergeBwdIdeal.nD Cert.BranchMergeBwdIdeal.τ).loc Cert.BranchMergeBwdIdeal.main_arg0)
      ∧ r.2.mem ((c.tc : Thread Cert.BranchMergeBwdIdeal.nD Cert.BranchMergeBwdIdeal.τ).loc Cert.BranchMergeBwdIdeal.main_arg1) = m ((c.tc : Thread Cert.BranchMergeBwdIdeal.nD Cert.BranchMergeBwdIdeal.τ).loc Cert.BranchMergeBwdIdeal.main_arg1)
      ∧ r.2.mem ((c.tc : Thread Cert.BranchMergeBwdIdeal.nD Cert.BranchMergeBwdIdeal.τ).loc Cert.BranchMergeBwdIdeal.main_arg2) = m ((c.tc : Thread Cert.BranchMergeBwdIdeal.nD Cert.BranchMergeBwdIdeal.τ).loc Cert.BranchMergeBwdIdeal.main_arg2)
      ∧ r.2.mem ((c.tc : Thread Cert.BranchMergeBwdIdeal.nD Cert.BranchMergeBwdIdeal.τ).loc Cert.BranchMergeBwdIdeal.main_arg3) = m ((c.tc : Thread Cert.BranchMergeBwdIdeal.nD Cert.BranchMergeBwdIdeal.τ).loc Cert.BranchMergeBwdIdeal.main_arg3)
      ∧ r.2.mem ((c.tc : Thread Cert.BranchMergeBwdIdeal.nD Cert.BranchMergeBwdIdeal.τ).loc Cert.BranchMergeBwdIdeal.main_arg4) = m ((c.tc : Thread Cert.BranchMergeBwdIdeal.nD Cert.BranchMergeBwdIdeal.τ).loc Cert.BranchMergeBwdIdeal.main_arg4)
      ∧ r.2.mem ((c.tc : Thread Cert.BranchMergeBwdIdeal.nD Cert.BranchMergeBwdIdeal.τ).loc Cert.BranchMergeBwdIdeal.main_arg5) = m ((c.tc : Thread Cert.BranchMergeBwdIdeal.nD Cert.BranchMergeBwdIdeal.τ).loc Cert.BranchMergeBwdIdeal.main_arg5)
      ∧ r.2.mem ((c.tc : Thread Cert.BranchMergeBwdIdeal.nD Cert.BranchMergeBwdIdeal.τ).loc Cert.BranchMergeBwdIdeal.main_arg6) = m ((c.tc : Thread Cert.BranchMergeBwdIdeal.nD Cert.BranchMergeBwdIdeal.τ).loc Cert.BranchMergeBwdIdeal.main_arg6)
      ∧ r.2.mem ((c.tc : Thread Cert.BranchMergeBwdIdeal.nD Cert.BranchMergeBwdIdeal.τ).loc Cert.BranchMergeBwdIdeal.main_arg7) = m ((c.tc : Thread Cert.BranchMergeBwdIdeal.nD Cert.BranchMergeBwdIdeal.τ).loc Cert.BranchMergeBwdIdeal.main_arg7)
      ∧ r.2.mem ((c.tc : Thread Cert.BranchMergeBwdIdeal.nD Cert.BranchMergeBwdIdeal.τ).loc Cert.BranchMergeBwdIdeal.main_arg8) = m ((c.tc : Thread Cert.BranchMergeBwdIdeal.nD Cert.BranchMergeBwdIdeal.τ).loc Cert.BranchMergeBwdIdeal.main_arg8))
      ∧ r.2.sem = fun _ => 0)

def quiescent_BranchMergeBwdRefIdeal [hBranchMergeBwdRefIdeal : Cert.BranchMergeBwdRefIdeal.Facts] : Prop :=
  ∀ (m : (ℓ : Loc Cert.BranchMergeBwdRefIdeal.nD Cert.BranchMergeBwdRefIdeal.τ Cert.BranchMergeBwdRefIdeal.sig) → Buf (Elt Ideal) ℓ) (g : Dev Cert.BranchMergeBwdRefIdeal.nD → PrngReg), Pre_BranchMergeBwdRefIdeal m →
    θ_run (Cert.BranchMergeBwdRefIdeal.defs (F := Ideal)) (onTc (τ := Cert.BranchMergeBwdRefIdeal.τ) (Cert.BranchMergeBwdRefIdeal.main (F := Ideal))) ⟨m, fun _ => 0, g⟩ (fun r => (∀ c : Dev Cert.BranchMergeBwdRefIdeal.nD,
      r.2.mem ((c.tc : Thread Cert.BranchMergeBwdRefIdeal.nD Cert.BranchMergeBwdRefIdeal.τ).loc Cert.BranchMergeBwdRefIdeal.main_arg0) = m ((c.tc : Thread Cert.BranchMergeBwdRefIdeal.nD Cert.BranchMergeBwdRefIdeal.τ).loc Cert.BranchMergeBwdRefIdeal.main_arg0)
      ∧ r.2.mem ((c.tc : Thread Cert.BranchMergeBwdRefIdeal.nD Cert.BranchMergeBwdRefIdeal.τ).loc Cert.BranchMergeBwdRefIdeal.main_arg1) = m ((c.tc : Thread Cert.BranchMergeBwdRefIdeal.nD Cert.BranchMergeBwdRefIdeal.τ).loc Cert.BranchMergeBwdRefIdeal.main_arg1)
      ∧ r.2.mem ((c.tc : Thread Cert.BranchMergeBwdRefIdeal.nD Cert.BranchMergeBwdRefIdeal.τ).loc Cert.BranchMergeBwdRefIdeal.main_arg2) = m ((c.tc : Thread Cert.BranchMergeBwdRefIdeal.nD Cert.BranchMergeBwdRefIdeal.τ).loc Cert.BranchMergeBwdRefIdeal.main_arg2)
      ∧ r.2.mem ((c.tc : Thread Cert.BranchMergeBwdRefIdeal.nD Cert.BranchMergeBwdRefIdeal.τ).loc Cert.BranchMergeBwdRefIdeal.main_arg3) = m ((c.tc : Thread Cert.BranchMergeBwdRefIdeal.nD Cert.BranchMergeBwdRefIdeal.τ).loc Cert.BranchMergeBwdRefIdeal.main_arg3)
      ∧ r.2.mem ((c.tc : Thread Cert.BranchMergeBwdRefIdeal.nD Cert.BranchMergeBwdRefIdeal.τ).loc Cert.BranchMergeBwdRefIdeal.main_arg4) = m ((c.tc : Thread Cert.BranchMergeBwdRefIdeal.nD Cert.BranchMergeBwdRefIdeal.τ).loc Cert.BranchMergeBwdRefIdeal.main_arg4)
      ∧ r.2.mem ((c.tc : Thread Cert.BranchMergeBwdRefIdeal.nD Cert.BranchMergeBwdRefIdeal.τ).loc Cert.BranchMergeBwdRefIdeal.main_arg5) = m ((c.tc : Thread Cert.BranchMergeBwdRefIdeal.nD Cert.BranchMergeBwdRefIdeal.τ).loc Cert.BranchMergeBwdRefIdeal.main_arg5)
      ∧ r.2.mem ((c.tc : Thread Cert.BranchMergeBwdRefIdeal.nD Cert.BranchMergeBwdRefIdeal.τ).loc Cert.BranchMergeBwdRefIdeal.main_arg6) = m ((c.tc : Thread Cert.BranchMergeBwdRefIdeal.nD Cert.BranchMergeBwdRefIdeal.τ).loc Cert.BranchMergeBwdRefIdeal.main_arg6)
      ∧ r.2.mem ((c.tc : Thread Cert.BranchMergeBwdRefIdeal.nD Cert.BranchMergeBwdRefIdeal.τ).loc Cert.BranchMergeBwdRefIdeal.main_arg7) = m ((c.tc : Thread Cert.BranchMergeBwdRefIdeal.nD Cert.BranchMergeBwdRefIdeal.τ).loc Cert.BranchMergeBwdRefIdeal.main_arg7)
      ∧ r.2.mem ((c.tc : Thread Cert.BranchMergeBwdRefIdeal.nD Cert.BranchMergeBwdRefIdeal.τ).loc Cert.BranchMergeBwdRefIdeal.main_arg8) = m ((c.tc : Thread Cert.BranchMergeBwdRefIdeal.nD Cert.BranchMergeBwdRefIdeal.τ).loc Cert.BranchMergeBwdRefIdeal.main_arg8))
      ∧ r.2.sem = fun _ => 0)

def quiescent_BranchMergeFwd [hBranchMergeFwd : Cert.BranchMergeFwd.Facts] : Prop :=
  ∀ (m : (ℓ : Loc Cert.BranchMergeFwd.nD Cert.BranchMergeFwd.τ Cert.BranchMergeFwd.sig) → Buf (Elt Bits) ℓ) (g : Dev Cert.BranchMergeFwd.nD → PrngReg), Pre_BranchMergeFwd m →
    θ_run (Cert.BranchMergeFwd.defs (F := Bits)) (onTc (τ := Cert.BranchMergeFwd.τ) (Cert.BranchMergeFwd.main (F := Bits))) ⟨m, fun _ => 0, g⟩ (fun r => (∀ c : Dev Cert.BranchMergeFwd.nD,
      r.2.mem ((c.tc : Thread Cert.BranchMergeFwd.nD Cert.BranchMergeFwd.τ).loc Cert.BranchMergeFwd.main_arg0) = m ((c.tc : Thread Cert.BranchMergeFwd.nD Cert.BranchMergeFwd.τ).loc Cert.BranchMergeFwd.main_arg0)
      ∧ r.2.mem ((c.tc : Thread Cert.BranchMergeFwd.nD Cert.BranchMergeFwd.τ).loc Cert.BranchMergeFwd.main_arg1) = m ((c.tc : Thread Cert.BranchMergeFwd.nD Cert.BranchMergeFwd.τ).loc Cert.BranchMergeFwd.main_arg1)
      ∧ r.2.mem ((c.tc : Thread Cert.BranchMergeFwd.nD Cert.BranchMergeFwd.τ).loc Cert.BranchMergeFwd.main_arg2) = m ((c.tc : Thread Cert.BranchMergeFwd.nD Cert.BranchMergeFwd.τ).loc Cert.BranchMergeFwd.main_arg2)
      ∧ r.2.mem ((c.tc : Thread Cert.BranchMergeFwd.nD Cert.BranchMergeFwd.τ).loc Cert.BranchMergeFwd.main_arg3) = m ((c.tc : Thread Cert.BranchMergeFwd.nD Cert.BranchMergeFwd.τ).loc Cert.BranchMergeFwd.main_arg3)
      ∧ r.2.mem ((c.tc : Thread Cert.BranchMergeFwd.nD Cert.BranchMergeFwd.τ).loc Cert.BranchMergeFwd.main_arg4) = m ((c.tc : Thread Cert.BranchMergeFwd.nD Cert.BranchMergeFwd.τ).loc Cert.BranchMergeFwd.main_arg4)
      ∧ r.2.mem ((c.tc : Thread Cert.BranchMergeFwd.nD Cert.BranchMergeFwd.τ).loc Cert.BranchMergeFwd.main_arg5) = m ((c.tc : Thread Cert.BranchMergeFwd.nD Cert.BranchMergeFwd.τ).loc Cert.BranchMergeFwd.main_arg5)
      ∧ r.2.mem ((c.tc : Thread Cert.BranchMergeFwd.nD Cert.BranchMergeFwd.τ).loc Cert.BranchMergeFwd.main_arg6) = m ((c.tc : Thread Cert.BranchMergeFwd.nD Cert.BranchMergeFwd.τ).loc Cert.BranchMergeFwd.main_arg6)
      ∧ r.2.mem ((c.tc : Thread Cert.BranchMergeFwd.nD Cert.BranchMergeFwd.τ).loc Cert.BranchMergeFwd.main_arg7) = m ((c.tc : Thread Cert.BranchMergeFwd.nD Cert.BranchMergeFwd.τ).loc Cert.BranchMergeFwd.main_arg7))
      ∧ r.2.sem = fun _ => 0)

def quiescent_BranchMergeFwdIdeal [hBranchMergeFwdIdeal : Cert.BranchMergeFwdIdeal.Facts] : Prop :=
  ∀ (m : (ℓ : Loc Cert.BranchMergeFwdIdeal.nD Cert.BranchMergeFwdIdeal.τ Cert.BranchMergeFwdIdeal.sig) → Buf (Elt Ideal) ℓ) (g : Dev Cert.BranchMergeFwdIdeal.nD → PrngReg), Pre_BranchMergeFwdIdeal m →
    θ_run (Cert.BranchMergeFwdIdeal.defs (F := Ideal)) (onTc (τ := Cert.BranchMergeFwdIdeal.τ) (Cert.BranchMergeFwdIdeal.main (F := Ideal))) ⟨m, fun _ => 0, g⟩ (fun r => (∀ c : Dev Cert.BranchMergeFwdIdeal.nD,
      r.2.mem ((c.tc : Thread Cert.BranchMergeFwdIdeal.nD Cert.BranchMergeFwdIdeal.τ).loc Cert.BranchMergeFwdIdeal.main_arg0) = m ((c.tc : Thread Cert.BranchMergeFwdIdeal.nD Cert.BranchMergeFwdIdeal.τ).loc Cert.BranchMergeFwdIdeal.main_arg0)
      ∧ r.2.mem ((c.tc : Thread Cert.BranchMergeFwdIdeal.nD Cert.BranchMergeFwdIdeal.τ).loc Cert.BranchMergeFwdIdeal.main_arg1) = m ((c.tc : Thread Cert.BranchMergeFwdIdeal.nD Cert.BranchMergeFwdIdeal.τ).loc Cert.BranchMergeFwdIdeal.main_arg1)
      ∧ r.2.mem ((c.tc : Thread Cert.BranchMergeFwdIdeal.nD Cert.BranchMergeFwdIdeal.τ).loc Cert.BranchMergeFwdIdeal.main_arg2) = m ((c.tc : Thread Cert.BranchMergeFwdIdeal.nD Cert.BranchMergeFwdIdeal.τ).loc Cert.BranchMergeFwdIdeal.main_arg2)
      ∧ r.2.mem ((c.tc : Thread Cert.BranchMergeFwdIdeal.nD Cert.BranchMergeFwdIdeal.τ).loc Cert.BranchMergeFwdIdeal.main_arg3) = m ((c.tc : Thread Cert.BranchMergeFwdIdeal.nD Cert.BranchMergeFwdIdeal.τ).loc Cert.BranchMergeFwdIdeal.main_arg3)
      ∧ r.2.mem ((c.tc : Thread Cert.BranchMergeFwdIdeal.nD Cert.BranchMergeFwdIdeal.τ).loc Cert.BranchMergeFwdIdeal.main_arg4) = m ((c.tc : Thread Cert.BranchMergeFwdIdeal.nD Cert.BranchMergeFwdIdeal.τ).loc Cert.BranchMergeFwdIdeal.main_arg4)
      ∧ r.2.mem ((c.tc : Thread Cert.BranchMergeFwdIdeal.nD Cert.BranchMergeFwdIdeal.τ).loc Cert.BranchMergeFwdIdeal.main_arg5) = m ((c.tc : Thread Cert.BranchMergeFwdIdeal.nD Cert.BranchMergeFwdIdeal.τ).loc Cert.BranchMergeFwdIdeal.main_arg5)
      ∧ r.2.mem ((c.tc : Thread Cert.BranchMergeFwdIdeal.nD Cert.BranchMergeFwdIdeal.τ).loc Cert.BranchMergeFwdIdeal.main_arg6) = m ((c.tc : Thread Cert.BranchMergeFwdIdeal.nD Cert.BranchMergeFwdIdeal.τ).loc Cert.BranchMergeFwdIdeal.main_arg6)
      ∧ r.2.mem ((c.tc : Thread Cert.BranchMergeFwdIdeal.nD Cert.BranchMergeFwdIdeal.τ).loc Cert.BranchMergeFwdIdeal.main_arg7) = m ((c.tc : Thread Cert.BranchMergeFwdIdeal.nD Cert.BranchMergeFwdIdeal.τ).loc Cert.BranchMergeFwdIdeal.main_arg7))
      ∧ r.2.sem = fun _ => 0)

def quiescent_BranchMergeFwdRefIdeal [hBranchMergeFwdRefIdeal : Cert.BranchMergeFwdRefIdeal.Facts] : Prop :=
  ∀ (m : (ℓ : Loc Cert.BranchMergeFwdRefIdeal.nD Cert.BranchMergeFwdRefIdeal.τ Cert.BranchMergeFwdRefIdeal.sig) → Buf (Elt Ideal) ℓ) (g : Dev Cert.BranchMergeFwdRefIdeal.nD → PrngReg), Pre_BranchMergeFwdRefIdeal m →
    θ_run (Cert.BranchMergeFwdRefIdeal.defs (F := Ideal)) (onTc (τ := Cert.BranchMergeFwdRefIdeal.τ) (Cert.BranchMergeFwdRefIdeal.main (F := Ideal))) ⟨m, fun _ => 0, g⟩ (fun r => (∀ c : Dev Cert.BranchMergeFwdRefIdeal.nD,
      r.2.mem ((c.tc : Thread Cert.BranchMergeFwdRefIdeal.nD Cert.BranchMergeFwdRefIdeal.τ).loc Cert.BranchMergeFwdRefIdeal.main_arg0) = m ((c.tc : Thread Cert.BranchMergeFwdRefIdeal.nD Cert.BranchMergeFwdRefIdeal.τ).loc Cert.BranchMergeFwdRefIdeal.main_arg0)
      ∧ r.2.mem ((c.tc : Thread Cert.BranchMergeFwdRefIdeal.nD Cert.BranchMergeFwdRefIdeal.τ).loc Cert.BranchMergeFwdRefIdeal.main_arg1) = m ((c.tc : Thread Cert.BranchMergeFwdRefIdeal.nD Cert.BranchMergeFwdRefIdeal.τ).loc Cert.BranchMergeFwdRefIdeal.main_arg1)
      ∧ r.2.mem ((c.tc : Thread Cert.BranchMergeFwdRefIdeal.nD Cert.BranchMergeFwdRefIdeal.τ).loc Cert.BranchMergeFwdRefIdeal.main_arg2) = m ((c.tc : Thread Cert.BranchMergeFwdRefIdeal.nD Cert.BranchMergeFwdRefIdeal.τ).loc Cert.BranchMergeFwdRefIdeal.main_arg2)
      ∧ r.2.mem ((c.tc : Thread Cert.BranchMergeFwdRefIdeal.nD Cert.BranchMergeFwdRefIdeal.τ).loc Cert.BranchMergeFwdRefIdeal.main_arg3) = m ((c.tc : Thread Cert.BranchMergeFwdRefIdeal.nD Cert.BranchMergeFwdRefIdeal.τ).loc Cert.BranchMergeFwdRefIdeal.main_arg3)
      ∧ r.2.mem ((c.tc : Thread Cert.BranchMergeFwdRefIdeal.nD Cert.BranchMergeFwdRefIdeal.τ).loc Cert.BranchMergeFwdRefIdeal.main_arg4) = m ((c.tc : Thread Cert.BranchMergeFwdRefIdeal.nD Cert.BranchMergeFwdRefIdeal.τ).loc Cert.BranchMergeFwdRefIdeal.main_arg4)
      ∧ r.2.mem ((c.tc : Thread Cert.BranchMergeFwdRefIdeal.nD Cert.BranchMergeFwdRefIdeal.τ).loc Cert.BranchMergeFwdRefIdeal.main_arg5) = m ((c.tc : Thread Cert.BranchMergeFwdRefIdeal.nD Cert.BranchMergeFwdRefIdeal.τ).loc Cert.BranchMergeFwdRefIdeal.main_arg5)
      ∧ r.2.mem ((c.tc : Thread Cert.BranchMergeFwdRefIdeal.nD Cert.BranchMergeFwdRefIdeal.τ).loc Cert.BranchMergeFwdRefIdeal.main_arg6) = m ((c.tc : Thread Cert.BranchMergeFwdRefIdeal.nD Cert.BranchMergeFwdRefIdeal.τ).loc Cert.BranchMergeFwdRefIdeal.main_arg6)
      ∧ r.2.mem ((c.tc : Thread Cert.BranchMergeFwdRefIdeal.nD Cert.BranchMergeFwdRefIdeal.τ).loc Cert.BranchMergeFwdRefIdeal.main_arg7) = m ((c.tc : Thread Cert.BranchMergeFwdRefIdeal.nD Cert.BranchMergeFwdRefIdeal.τ).loc Cert.BranchMergeFwdRefIdeal.main_arg7))
      ∧ r.2.sem = fun _ => 0)

def quiescent_Norm2Bwd [hNorm2Bwd : Cert.Norm2Bwd.Facts] : Prop :=
  ∀ (m : (ℓ : Loc Cert.Norm2Bwd.nD Cert.Norm2Bwd.τ Cert.Norm2Bwd.sig) → Buf (Elt Bits) ℓ) (g : Dev Cert.Norm2Bwd.nD → PrngReg), Pre_Norm2Bwd m →
    θ_run (Cert.Norm2Bwd.defs (F := Bits)) (onTc (τ := Cert.Norm2Bwd.τ) (Cert.Norm2Bwd.main (F := Bits))) ⟨m, fun _ => 0, g⟩ (fun r => (∀ c : Dev Cert.Norm2Bwd.nD,
      r.2.mem ((c.tc : Thread Cert.Norm2Bwd.nD Cert.Norm2Bwd.τ).loc Cert.Norm2Bwd.main_arg0) = m ((c.tc : Thread Cert.Norm2Bwd.nD Cert.Norm2Bwd.τ).loc Cert.Norm2Bwd.main_arg0)
      ∧ r.2.mem ((c.tc : Thread Cert.Norm2Bwd.nD Cert.Norm2Bwd.τ).loc Cert.Norm2Bwd.main_arg1) = m ((c.tc : Thread Cert.Norm2Bwd.nD Cert.Norm2Bwd.τ).loc Cert.Norm2Bwd.main_arg1)
      ∧ r.2.mem ((c.tc : Thread Cert.Norm2Bwd.nD Cert.Norm2Bwd.τ).loc Cert.Norm2Bwd.main_arg2) = m ((c.tc : Thread Cert.Norm2Bwd.nD Cert.Norm2Bwd.τ).loc Cert.Norm2Bwd.main_arg2)
      ∧ r.2.mem ((c.tc : Thread Cert.Norm2Bwd.nD Cert.Norm2Bwd.τ).loc Cert.Norm2Bwd.main_arg3) = m ((c.tc : Thread Cert.Norm2Bwd.nD Cert.Norm2Bwd.τ).loc Cert.Norm2Bwd.main_arg3)
      ∧ r.2.mem ((c.tc : Thread Cert.Norm2Bwd.nD Cert.Norm2Bwd.τ).loc Cert.Norm2Bwd.main_arg4) = m ((c.tc : Thread Cert.Norm2Bwd.nD Cert.Norm2Bwd.τ).loc Cert.Norm2Bwd.main_arg4))
      ∧ r.2.sem = fun _ => 0)

def quiescent_Norm2BwdIdeal [hNorm2BwdIdeal : Cert.Norm2BwdIdeal.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4))
      ∧ r.2.sem = fun _ => 0)

def quiescent_Norm2BwdIdeal_pre_norm2_finite [hNorm2BwdIdeal : Cert.Norm2BwdIdeal.Facts] [hPre_norm2_finite : Cert.Pre_norm2_finite.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg), Pre_Norm2BwdIdeal_norm2_finite m →
    θ_run (Cert.Norm2BwdIdeal.defs (F := Ideal)) (onTc (τ := Cert.Norm2BwdIdeal.τ) (Cert.Norm2BwdIdeal.main (F := Ideal))) ⟨m, fun _ => 0, g⟩ (fun r => (∀ c : Dev Cert.Norm2BwdIdeal.nD,
      r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
      ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
      ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
      ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
      ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4))
      ∧ r.2.sem = fun _ => 0)

def quiescent_Norm2BwdRefIdeal [hNorm2BwdRefIdeal : Cert.Norm2BwdRefIdeal.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4))
      ∧ r.2.sem = fun _ => 0)

def quiescent_Norm2BwdRefIdeal_pre_norm2_finite [hNorm2BwdRefIdeal : Cert.Norm2BwdRefIdeal.Facts] [hPre_norm2_finite : Cert.Pre_norm2_finite.Facts] : Prop :=
  ∀ (m : (ℓ : Loc Cert.Norm2BwdRefIdeal.nD Cert.Norm2BwdRefIdeal.τ Cert.Norm2BwdRefIdeal.sig) → Buf (Elt Ideal) ℓ) (g : Dev Cert.Norm2BwdRefIdeal.nD → PrngReg), Pre_Norm2BwdRefIdeal_norm2_finite m →
    θ_run (Cert.Norm2BwdRefIdeal.defs (F := Ideal)) (onTc (τ := Cert.Norm2BwdRefIdeal.τ) (Cert.Norm2BwdRefIdeal.main (F := Ideal))) ⟨m, fun _ => 0, g⟩ (fun r => (∀ c : Dev Cert.Norm2BwdRefIdeal.nD,
      r.2.mem ((c.tc : Thread Cert.Norm2BwdRefIdeal.nD Cert.Norm2BwdRefIdeal.τ).loc Cert.Norm2BwdRefIdeal.main_arg0) = m ((c.tc : Thread Cert.Norm2BwdRefIdeal.nD Cert.Norm2BwdRefIdeal.τ).loc Cert.Norm2BwdRefIdeal.main_arg0)
      ∧ r.2.mem ((c.tc : Thread Cert.Norm2BwdRefIdeal.nD Cert.Norm2BwdRefIdeal.τ).loc Cert.Norm2BwdRefIdeal.main_arg1) = m ((c.tc : Thread Cert.Norm2BwdRefIdeal.nD Cert.Norm2BwdRefIdeal.τ).loc Cert.Norm2BwdRefIdeal.main_arg1)
      ∧ r.2.mem ((c.tc : Thread Cert.Norm2BwdRefIdeal.nD Cert.Norm2BwdRefIdeal.τ).loc Cert.Norm2BwdRefIdeal.main_arg2) = m ((c.tc : Thread Cert.Norm2BwdRefIdeal.nD Cert.Norm2BwdRefIdeal.τ).loc Cert.Norm2BwdRefIdeal.main_arg2)
      ∧ r.2.mem ((c.tc : Thread Cert.Norm2BwdRefIdeal.nD Cert.Norm2BwdRefIdeal.τ).loc Cert.Norm2BwdRefIdeal.main_arg3) = m ((c.tc : Thread Cert.Norm2BwdRefIdeal.nD Cert.Norm2BwdRefIdeal.τ).loc Cert.Norm2BwdRefIdeal.main_arg3)
      ∧ r.2.mem ((c.tc : Thread Cert.Norm2BwdRefIdeal.nD Cert.Norm2BwdRefIdeal.τ).loc Cert.Norm2BwdRefIdeal.main_arg4) = m ((c.tc : Thread Cert.Norm2BwdRefIdeal.nD Cert.Norm2BwdRefIdeal.τ).loc Cert.Norm2BwdRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Norm1Bwd [hNorm1Bwd : Cert.Norm1Bwd.Facts] : Prop :=
  ∀ (m : (ℓ : Loc Cert.Norm1Bwd.nD Cert.Norm1Bwd.τ Cert.Norm1Bwd.sig) → Buf (Elt Bits) ℓ) (g : Dev Cert.Norm1Bwd.nD → PrngReg), Pre_Norm1Bwd m →
    θ_run (Cert.Norm1Bwd.defs (F := Bits)) (onTc (τ := Cert.Norm1Bwd.τ) (Cert.Norm1Bwd.main (F := Bits))) ⟨m, fun _ => 0, g⟩ (fun r => (∀ c : Dev Cert.Norm1Bwd.nD,
      r.2.mem ((c.tc : Thread Cert.Norm1Bwd.nD Cert.Norm1Bwd.τ).loc Cert.Norm1Bwd.main_arg0) = m ((c.tc : Thread Cert.Norm1Bwd.nD Cert.Norm1Bwd.τ).loc Cert.Norm1Bwd.main_arg0)
      ∧ r.2.mem ((c.tc : Thread Cert.Norm1Bwd.nD Cert.Norm1Bwd.τ).loc Cert.Norm1Bwd.main_arg1) = m ((c.tc : Thread Cert.Norm1Bwd.nD Cert.Norm1Bwd.τ).loc Cert.Norm1Bwd.main_arg1)
      ∧ r.2.mem ((c.tc : Thread Cert.Norm1Bwd.nD Cert.Norm1Bwd.τ).loc Cert.Norm1Bwd.main_arg2) = m ((c.tc : Thread Cert.Norm1Bwd.nD Cert.Norm1Bwd.τ).loc Cert.Norm1Bwd.main_arg2)
      ∧ r.2.mem ((c.tc : Thread Cert.Norm1Bwd.nD Cert.Norm1Bwd.τ).loc Cert.Norm1Bwd.main_arg3) = m ((c.tc : Thread Cert.Norm1Bwd.nD Cert.Norm1Bwd.τ).loc Cert.Norm1Bwd.main_arg3)
      ∧ r.2.mem ((c.tc : Thread Cert.Norm1Bwd.nD Cert.Norm1Bwd.τ).loc Cert.Norm1Bwd.main_arg4) = m ((c.tc : Thread Cert.Norm1Bwd.nD Cert.Norm1Bwd.τ).loc Cert.Norm1Bwd.main_arg4)
      ∧ r.2.mem ((c.tc : Thread Cert.Norm1Bwd.nD Cert.Norm1Bwd.τ).loc Cert.Norm1Bwd.main_arg5) = m ((c.tc : Thread Cert.Norm1Bwd.nD Cert.Norm1Bwd.τ).loc Cert.Norm1Bwd.main_arg5)
      ∧ r.2.mem ((c.tc : Thread Cert.Norm1Bwd.nD Cert.Norm1Bwd.τ).loc Cert.Norm1Bwd.main_arg6) = m ((c.tc : Thread Cert.Norm1Bwd.nD Cert.Norm1Bwd.τ).loc Cert.Norm1Bwd.main_arg6)
      ∧ r.2.mem ((c.tc : Thread Cert.Norm1Bwd.nD Cert.Norm1Bwd.τ).loc Cert.Norm1Bwd.main_arg7) = m ((c.tc : Thread Cert.Norm1Bwd.nD Cert.Norm1Bwd.τ).loc Cert.Norm1Bwd.main_arg7)
      ∧ r.2.mem ((c.tc : Thread Cert.Norm1Bwd.nD Cert.Norm1Bwd.τ).loc Cert.Norm1Bwd.main_arg8) = m ((c.tc : Thread Cert.Norm1Bwd.nD Cert.Norm1Bwd.τ).loc Cert.Norm1Bwd.main_arg8)
      ∧ r.2.mem ((c.tc : Thread Cert.Norm1Bwd.nD Cert.Norm1Bwd.τ).loc Cert.Norm1Bwd.main_arg9) = m ((c.tc : Thread Cert.Norm1Bwd.nD Cert.Norm1Bwd.τ).loc Cert.Norm1Bwd.main_arg9))
      ∧ r.2.sem = fun _ => 0)

def quiescent_Norm1BwdIdeal [hNorm1BwdIdeal : Cert.Norm1BwdIdeal.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5)
      ∧ r.2.mem ((c.tc : Thread Cert.Norm1BwdIdeal.nD Cert.Norm1BwdIdeal.τ).loc Cert.Norm1BwdIdeal.main_arg6) = m ((c.tc : Thread Cert.Norm1BwdIdeal.nD Cert.Norm1BwdIdeal.τ).loc Cert.Norm1BwdIdeal.main_arg6)
      ∧ r.2.mem ((c.tc : Thread Cert.Norm1BwdIdeal.nD Cert.Norm1BwdIdeal.τ).loc Cert.Norm1BwdIdeal.main_arg7) = m ((c.tc : Thread Cert.Norm1BwdIdeal.nD Cert.Norm1BwdIdeal.τ).loc Cert.Norm1BwdIdeal.main_arg7)
      ∧ r.2.mem ((c.tc : Thread Cert.Norm1BwdIdeal.nD Cert.Norm1BwdIdeal.τ).loc Cert.Norm1BwdIdeal.main_arg8) = m ((c.tc : Thread Cert.Norm1BwdIdeal.nD Cert.Norm1BwdIdeal.τ).loc Cert.Norm1BwdIdeal.main_arg8)
      ∧ r.2.mem ((c.tc : Thread Cert.Norm1BwdIdeal.nD Cert.Norm1BwdIdeal.τ).loc Cert.Norm1BwdIdeal.main_arg9) = m ((c.tc : Thread Cert.Norm1BwdIdeal.nD Cert.Norm1BwdIdeal.τ).loc Cert.Norm1BwdIdeal.main_arg9))
      ∧ r.2.sem = fun _ => 0)

def quiescent_Norm1BwdIdeal_pre_norm1_finite [hNorm1BwdIdeal : Cert.Norm1BwdIdeal.Facts] [hPre_norm1_finite : Cert.Pre_norm1_finite.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg), Pre_Norm1BwdIdeal_norm1_finite m →
    θ_run (Cert.Norm1BwdIdeal.defs (F := Ideal)) (onTc (τ := Cert.Norm1BwdIdeal.τ) (Cert.Norm1BwdIdeal.main (F := Ideal))) ⟨m, fun _ => 0, g⟩ (fun r => (∀ c : Dev Cert.Norm1BwdIdeal.nD,
      r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
      ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
      ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
      ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
      ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
      ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5)
      ∧ r.2.mem ((c.tc : Thread Cert.Norm1BwdIdeal.nD Cert.Norm1BwdIdeal.τ).loc Cert.Norm1BwdIdeal.main_arg6) = m ((c.tc : Thread Cert.Norm1BwdIdeal.nD Cert.Norm1BwdIdeal.τ).loc Cert.Norm1BwdIdeal.main_arg6)
      ∧ r.2.mem ((c.tc : Thread Cert.Norm1BwdIdeal.nD Cert.Norm1BwdIdeal.τ).loc Cert.Norm1BwdIdeal.main_arg7) = m ((c.tc : Thread Cert.Norm1BwdIdeal.nD Cert.Norm1BwdIdeal.τ).loc Cert.Norm1BwdIdeal.main_arg7)
      ∧ r.2.mem ((c.tc : Thread Cert.Norm1BwdIdeal.nD Cert.Norm1BwdIdeal.τ).loc Cert.Norm1BwdIdeal.main_arg8) = m ((c.tc : Thread Cert.Norm1BwdIdeal.nD Cert.Norm1BwdIdeal.τ).loc Cert.Norm1BwdIdeal.main_arg8)
      ∧ r.2.mem ((c.tc : Thread Cert.Norm1BwdIdeal.nD Cert.Norm1BwdIdeal.τ).loc Cert.Norm1BwdIdeal.main_arg9) = m ((c.tc : Thread Cert.Norm1BwdIdeal.nD Cert.Norm1BwdIdeal.τ).loc Cert.Norm1BwdIdeal.main_arg9))
      ∧ r.2.sem = fun _ => 0)

def quiescent_Norm1BwdRefIdeal [hNorm1BwdRefIdeal : Cert.Norm1BwdRefIdeal.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5)
      ∧ r.2.mem ((c.tc : Thread Cert.Norm1BwdRefIdeal.nD Cert.Norm1BwdRefIdeal.τ).loc Cert.Norm1BwdRefIdeal.main_arg6) = m ((c.tc : Thread Cert.Norm1BwdRefIdeal.nD Cert.Norm1BwdRefIdeal.τ).loc Cert.Norm1BwdRefIdeal.main_arg6)
      ∧ r.2.mem ((c.tc : Thread Cert.Norm1BwdRefIdeal.nD Cert.Norm1BwdRefIdeal.τ).loc Cert.Norm1BwdRefIdeal.main_arg7) = m ((c.tc : Thread Cert.Norm1BwdRefIdeal.nD Cert.Norm1BwdRefIdeal.τ).loc Cert.Norm1BwdRefIdeal.main_arg7)
      ∧ r.2.mem ((c.tc : Thread Cert.Norm1BwdRefIdeal.nD Cert.Norm1BwdRefIdeal.τ).loc Cert.Norm1BwdRefIdeal.main_arg8) = m ((c.tc : Thread Cert.Norm1BwdRefIdeal.nD Cert.Norm1BwdRefIdeal.τ).loc Cert.Norm1BwdRefIdeal.main_arg8)
      ∧ r.2.mem ((c.tc : Thread Cert.Norm1BwdRefIdeal.nD Cert.Norm1BwdRefIdeal.τ).loc Cert.Norm1BwdRefIdeal.main_arg9) = m ((c.tc : Thread Cert.Norm1BwdRefIdeal.nD Cert.Norm1BwdRefIdeal.τ).loc Cert.Norm1BwdRefIdeal.main_arg9))
      ∧ r.2.sem = fun _ => 0)

def quiescent_Norm1BwdRefIdeal_pre_norm1_finite [hNorm1BwdRefIdeal : Cert.Norm1BwdRefIdeal.Facts] [hPre_norm1_finite : Cert.Pre_norm1_finite.Facts] : Prop :=
  ∀ (m : (ℓ : Loc Cert.Norm1BwdRefIdeal.nD Cert.Norm1BwdRefIdeal.τ Cert.Norm1BwdRefIdeal.sig) → Buf (Elt Ideal) ℓ) (g : Dev Cert.Norm1BwdRefIdeal.nD → PrngReg), Pre_Norm1BwdRefIdeal_norm1_finite m →
    θ_run (Cert.Norm1BwdRefIdeal.defs (F := Ideal)) (onTc (τ := Cert.Norm1BwdRefIdeal.τ) (Cert.Norm1BwdRefIdeal.main (F := Ideal))) ⟨m, fun _ => 0, g⟩ (fun r => (∀ c : Dev Cert.Norm1BwdRefIdeal.nD,
      r.2.mem ((c.tc : Thread Cert.Norm1BwdRefIdeal.nD Cert.Norm1BwdRefIdeal.τ).loc Cert.Norm1BwdRefIdeal.main_arg0) = m ((c.tc : Thread Cert.Norm1BwdRefIdeal.nD Cert.Norm1BwdRefIdeal.τ).loc Cert.Norm1BwdRefIdeal.main_arg0)
      ∧ r.2.mem ((c.tc : Thread Cert.Norm1BwdRefIdeal.nD Cert.Norm1BwdRefIdeal.τ).loc Cert.Norm1BwdRefIdeal.main_arg1) = m ((c.tc : Thread Cert.Norm1BwdRefIdeal.nD Cert.Norm1BwdRefIdeal.τ).loc Cert.Norm1BwdRefIdeal.main_arg1)
      ∧ r.2.mem ((c.tc : Thread Cert.Norm1BwdRefIdeal.nD Cert.Norm1BwdRefIdeal.τ).loc Cert.Norm1BwdRefIdeal.main_arg2) = m ((c.tc : Thread Cert.Norm1BwdRefIdeal.nD Cert.Norm1BwdRefIdeal.τ).loc Cert.Norm1BwdRefIdeal.main_arg2)
      ∧ r.2.mem ((c.tc : Thread Cert.Norm1BwdRefIdeal.nD Cert.Norm1BwdRefIdeal.τ).loc Cert.Norm1BwdRefIdeal.main_arg3) = m ((c.tc : Thread Cert.Norm1BwdRefIdeal.nD Cert.Norm1BwdRefIdeal.τ).loc Cert.Norm1BwdRefIdeal.main_arg3)
      ∧ r.2.mem ((c.tc : Thread Cert.Norm1BwdRefIdeal.nD Cert.Norm1BwdRefIdeal.τ).loc Cert.Norm1BwdRefIdeal.main_arg4) = m ((c.tc : Thread Cert.Norm1BwdRefIdeal.nD Cert.Norm1BwdRefIdeal.τ).loc Cert.Norm1BwdRefIdeal.main_arg4)
      ∧ r.2.mem ((c.tc : Thread Cert.Norm1BwdRefIdeal.nD Cert.Norm1BwdRefIdeal.τ).loc Cert.Norm1BwdRefIdeal.main_arg5) = m ((c.tc : Thread Cert.Norm1BwdRefIdeal.nD Cert.Norm1BwdRefIdeal.τ).loc Cert.Norm1BwdRefIdeal.main_arg5)
      ∧ r.2.mem ((c.tc : Thread Cert.Norm1BwdRefIdeal.nD Cert.Norm1BwdRefIdeal.τ).loc Cert.Norm1BwdRefIdeal.main_arg6) = m ((c.tc : Thread Cert.Norm1BwdRefIdeal.nD Cert.Norm1BwdRefIdeal.τ).loc Cert.Norm1BwdRefIdeal.main_arg6)
      ∧ r.2.mem ((c.tc : Thread Cert.Norm1BwdRefIdeal.nD Cert.Norm1BwdRefIdeal.τ).loc Cert.Norm1BwdRefIdeal.main_arg7) = m ((c.tc : Thread Cert.Norm1BwdRefIdeal.nD Cert.Norm1BwdRefIdeal.τ).loc Cert.Norm1BwdRefIdeal.main_arg7)
      ∧ r.2.mem ((c.tc : Thread Cert.Norm1BwdRefIdeal.nD Cert.Norm1BwdRefIdeal.τ).loc Cert.Norm1BwdRefIdeal.main_arg8) = m ((c.tc : Thread Cert.Norm1BwdRefIdeal.nD Cert.Norm1BwdRefIdeal.τ).loc Cert.Norm1BwdRefIdeal.main_arg8)
      ∧ r.2.mem ((c.tc : Thread Cert.Norm1BwdRefIdeal.nD Cert.Norm1BwdRefIdeal.τ).loc Cert.Norm1BwdRefIdeal.main_arg9) = m ((c.tc : Thread Cert.Norm1BwdRefIdeal.nD Cert.Norm1BwdRefIdeal.τ).loc Cert.Norm1BwdRefIdeal.main_arg9))
      ∧ r.2.sem = fun _ => 0)

def quiescent_Norm1Fwd [hNorm1Fwd : Cert.Norm1Fwd.Facts] : Prop :=
  ∀ (m : (ℓ : Loc Cert.Norm1Fwd.nD Cert.Norm1Fwd.τ Cert.Norm1Fwd.sig) → Buf (Elt Bits) ℓ) (g : Dev Cert.Norm1Fwd.nD → PrngReg), Pre_Norm1Fwd m →
    θ_run (Cert.Norm1Fwd.defs (F := Bits)) (onTc (τ := Cert.Norm1Fwd.τ) (Cert.Norm1Fwd.main (F := Bits))) ⟨m, fun _ => 0, g⟩ (fun r => (∀ c : Dev Cert.Norm1Fwd.nD,
      r.2.mem ((c.tc : Thread Cert.Norm1Fwd.nD Cert.Norm1Fwd.τ).loc Cert.Norm1Fwd.main_arg0) = m ((c.tc : Thread Cert.Norm1Fwd.nD Cert.Norm1Fwd.τ).loc Cert.Norm1Fwd.main_arg0)
      ∧ r.2.mem ((c.tc : Thread Cert.Norm1Fwd.nD Cert.Norm1Fwd.τ).loc Cert.Norm1Fwd.main_arg1) = m ((c.tc : Thread Cert.Norm1Fwd.nD Cert.Norm1Fwd.τ).loc Cert.Norm1Fwd.main_arg1))
      ∧ r.2.sem = fun _ => 0)

def quiescent_Norm1FwdIdeal [hNorm1FwdIdeal : Cert.Norm1FwdIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg), Pre_Norm1FwdIdeal m →
    θ_run (Cert.Norm1FwdIdeal.defs (F := Ideal)) (onTc (τ := Cert.Norm1FwdIdeal.τ) (Cert.Norm1FwdIdeal.main (F := Ideal))) ⟨m, fun _ => 0, g⟩ (fun r => (∀ c : Dev Cert.Norm1FwdIdeal.nD,
      r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
      ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1))
      ∧ r.2.sem = fun _ => 0)

def quiescent_Norm1FwdRefIdeal [hNorm1FwdRefIdeal : Cert.Norm1FwdRefIdeal.Facts] : Prop :=
  ∀ (m : (ℓ : Loc Cert.Norm1FwdRefIdeal.nD Cert.Norm1FwdRefIdeal.τ Cert.Norm1FwdRefIdeal.sig) → Buf (Elt Ideal) ℓ) (g : Dev Cert.Norm1FwdRefIdeal.nD → PrngReg), Pre_Norm1FwdRefIdeal m →
    θ_run (Cert.Norm1FwdRefIdeal.defs (F := Ideal)) (onTc (τ := Cert.Norm1FwdRefIdeal.τ) (Cert.Norm1FwdRefIdeal.main (F := Ideal))) ⟨m, fun _ => 0, g⟩ (fun r => (∀ c : Dev Cert.Norm1FwdRefIdeal.nD,
      r.2.mem ((c.tc : Thread Cert.Norm1FwdRefIdeal.nD Cert.Norm1FwdRefIdeal.τ).loc Cert.Norm1FwdRefIdeal.main_arg0) = m ((c.tc : Thread Cert.Norm1FwdRefIdeal.nD Cert.Norm1FwdRefIdeal.τ).loc Cert.Norm1FwdRefIdeal.main_arg0)
      ∧ r.2.mem ((c.tc : Thread Cert.Norm1FwdRefIdeal.nD Cert.Norm1FwdRefIdeal.τ).loc Cert.Norm1FwdRefIdeal.main_arg1) = m ((c.tc : Thread Cert.Norm1FwdRefIdeal.nD Cert.Norm1FwdRefIdeal.τ).loc Cert.Norm1FwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadIdeal_pre_loss_head_finite [hLossHeadIdeal : Cert.LossHeadIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_head_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_LossHeadRefIdeal_pre_loss_head_finite [hLossHeadRefIdeal : Cert.LossHeadRefIdeal.Facts] [hPre_loss_head_finite : Cert.Pre_loss_head_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_head_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_Relu2Bwd [hRelu2Bwd : Cert.Relu2Bwd.Facts] : Prop :=
  ∀ (m : (ℓ : Loc Cert.Relu2Bwd.nD Cert.Relu2Bwd.τ Cert.Relu2Bwd.sig) → Buf (Elt Bits) ℓ) (g : Dev Cert.Relu2Bwd.nD → PrngReg), Pre_Relu2Bwd m →
    θ_run (Cert.Relu2Bwd.defs (F := Bits)) (onTc (τ := Cert.Relu2Bwd.τ) (Cert.Relu2Bwd.main (F := Bits))) ⟨m, fun _ => 0, g⟩ (fun r => (∀ c : Dev Cert.Relu2Bwd.nD,
      r.2.mem ((c.tc : Thread Cert.Relu2Bwd.nD Cert.Relu2Bwd.τ).loc Cert.Relu2Bwd.main_arg0) = m ((c.tc : Thread Cert.Relu2Bwd.nD Cert.Relu2Bwd.τ).loc Cert.Relu2Bwd.main_arg0)
      ∧ r.2.mem ((c.tc : Thread Cert.Relu2Bwd.nD Cert.Relu2Bwd.τ).loc Cert.Relu2Bwd.main_arg1) = m ((c.tc : Thread Cert.Relu2Bwd.nD Cert.Relu2Bwd.τ).loc Cert.Relu2Bwd.main_arg1)
      ∧ r.2.mem ((c.tc : Thread Cert.Relu2Bwd.nD Cert.Relu2Bwd.τ).loc Cert.Relu2Bwd.main_arg2) = m ((c.tc : Thread Cert.Relu2Bwd.nD Cert.Relu2Bwd.τ).loc Cert.Relu2Bwd.main_arg2))
      ∧ r.2.sem = fun _ => 0)

def quiescent_Relu2BwdIdeal [hRelu2BwdIdeal : Cert.Relu2BwdIdeal.Facts] : Prop :=
  ∀ (m : (ℓ : Loc Cert.Relu2BwdIdeal.nD Cert.Relu2BwdIdeal.τ Cert.Relu2BwdIdeal.sig) → Buf (Elt Ideal) ℓ) (g : Dev Cert.Relu2BwdIdeal.nD → PrngReg), Pre_Relu2BwdIdeal m →
    θ_run (Cert.Relu2BwdIdeal.defs (F := Ideal)) (onTc (τ := Cert.Relu2BwdIdeal.τ) (Cert.Relu2BwdIdeal.main (F := Ideal))) ⟨m, fun _ => 0, g⟩ (fun r => (∀ c : Dev Cert.Relu2BwdIdeal.nD,
      r.2.mem ((c.tc : Thread Cert.Relu2BwdIdeal.nD Cert.Relu2BwdIdeal.τ).loc Cert.Relu2BwdIdeal.main_arg0) = m ((c.tc : Thread Cert.Relu2BwdIdeal.nD Cert.Relu2BwdIdeal.τ).loc Cert.Relu2BwdIdeal.main_arg0)
      ∧ r.2.mem ((c.tc : Thread Cert.Relu2BwdIdeal.nD Cert.Relu2BwdIdeal.τ).loc Cert.Relu2BwdIdeal.main_arg1) = m ((c.tc : Thread Cert.Relu2BwdIdeal.nD Cert.Relu2BwdIdeal.τ).loc Cert.Relu2BwdIdeal.main_arg1)
      ∧ r.2.mem ((c.tc : Thread Cert.Relu2BwdIdeal.nD Cert.Relu2BwdIdeal.τ).loc Cert.Relu2BwdIdeal.main_arg2) = m ((c.tc : Thread Cert.Relu2BwdIdeal.nD Cert.Relu2BwdIdeal.τ).loc Cert.Relu2BwdIdeal.main_arg2))
      ∧ r.2.sem = fun _ => 0)

def quiescent_Relu2BwdRefIdeal [hRelu2BwdRefIdeal : Cert.Relu2BwdRefIdeal.Facts] : Prop :=
  ∀ (m : (ℓ : Loc Cert.Relu2BwdRefIdeal.nD Cert.Relu2BwdRefIdeal.τ Cert.Relu2BwdRefIdeal.sig) → Buf (Elt Ideal) ℓ) (g : Dev Cert.Relu2BwdRefIdeal.nD → PrngReg), Pre_Relu2BwdRefIdeal m →
    θ_run (Cert.Relu2BwdRefIdeal.defs (F := Ideal)) (onTc (τ := Cert.Relu2BwdRefIdeal.τ) (Cert.Relu2BwdRefIdeal.main (F := Ideal))) ⟨m, fun _ => 0, g⟩ (fun r => (∀ c : Dev Cert.Relu2BwdRefIdeal.nD,
      r.2.mem ((c.tc : Thread Cert.Relu2BwdRefIdeal.nD Cert.Relu2BwdRefIdeal.τ).loc Cert.Relu2BwdRefIdeal.main_arg0) = m ((c.tc : Thread Cert.Relu2BwdRefIdeal.nD Cert.Relu2BwdRefIdeal.τ).loc Cert.Relu2BwdRefIdeal.main_arg0)
      ∧ r.2.mem ((c.tc : Thread Cert.Relu2BwdRefIdeal.nD Cert.Relu2BwdRefIdeal.τ).loc Cert.Relu2BwdRefIdeal.main_arg1) = m ((c.tc : Thread Cert.Relu2BwdRefIdeal.nD Cert.Relu2BwdRefIdeal.τ).loc Cert.Relu2BwdRefIdeal.main_arg1)
      ∧ r.2.mem ((c.tc : Thread Cert.Relu2BwdRefIdeal.nD Cert.Relu2BwdRefIdeal.τ).loc Cert.Relu2BwdRefIdeal.main_arg2) = m ((c.tc : Thread Cert.Relu2BwdRefIdeal.nD Cert.Relu2BwdRefIdeal.τ).loc Cert.Relu2BwdRefIdeal.main_arg2))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_AttnMerge [hAttnMerge : Cert.AttnMerge.Facts] : Prop :=
  ∀ (m : (ℓ : Loc Cert.AttnMerge.nD Cert.AttnMerge.τ Cert.AttnMerge.sig) → Buf (Elt Bits) ℓ) (g : Dev Cert.AttnMerge.nD → PrngReg), Pre_AttnMerge m →
    θ_run (Cert.AttnMerge.defs (F := Bits)) (onTc (τ := Cert.AttnMerge.τ) (Cert.AttnMerge.main (F := Bits))) ⟨m, fun _ => 0, g⟩ (fun r => (∀ c : Dev Cert.AttnMerge.nD,
      r.2.mem ((c.tc : Thread Cert.AttnMerge.nD Cert.AttnMerge.τ).loc Cert.AttnMerge.main_arg0) = m ((c.tc : Thread Cert.AttnMerge.nD Cert.AttnMerge.τ).loc Cert.AttnMerge.main_arg0)
      ∧ r.2.mem ((c.tc : Thread Cert.AttnMerge.nD Cert.AttnMerge.τ).loc Cert.AttnMerge.main_arg1) = m ((c.tc : Thread Cert.AttnMerge.nD Cert.AttnMerge.τ).loc Cert.AttnMerge.main_arg1)
      ∧ r.2.mem ((c.tc : Thread Cert.AttnMerge.nD Cert.AttnMerge.τ).loc Cert.AttnMerge.main_arg2) = m ((c.tc : Thread Cert.AttnMerge.nD Cert.AttnMerge.τ).loc Cert.AttnMerge.main_arg2)
      ∧ r.2.mem ((c.tc : Thread Cert.AttnMerge.nD Cert.AttnMerge.τ).loc Cert.AttnMerge.main_arg3) = m ((c.tc : Thread Cert.AttnMerge.nD Cert.AttnMerge.τ).loc Cert.AttnMerge.main_arg3)
      ∧ r.2.mem ((c.tc : Thread Cert.AttnMerge.nD Cert.AttnMerge.τ).loc Cert.AttnMerge.main_arg4) = m ((c.tc : Thread Cert.AttnMerge.nD Cert.AttnMerge.τ).loc Cert.AttnMerge.main_arg4)
      ∧ r.2.mem ((c.tc : Thread Cert.AttnMerge.nD Cert.AttnMerge.τ).loc Cert.AttnMerge.main_arg5) = m ((c.tc : Thread Cert.AttnMerge.nD Cert.AttnMerge.τ).loc Cert.AttnMerge.main_arg5))
      ∧ r.2.sem = fun _ => 0)

def quiescent_AttnMergeIdeal [hAttnMergeIdeal : Cert.AttnMergeIdeal.Facts] : Prop :=
  ∀ (m : (ℓ : Loc Cert.AttnMergeIdeal.nD Cert.AttnMergeIdeal.τ Cert.AttnMergeIdeal.sig) → Buf (Elt Ideal) ℓ) (g : Dev Cert.AttnMergeIdeal.nD → PrngReg), Pre_AttnMergeIdeal m →
    θ_run (Cert.AttnMergeIdeal.defs (F := Ideal)) (onTc (τ := Cert.AttnMergeIdeal.τ) (Cert.AttnMergeIdeal.main (F := Ideal))) ⟨m, fun _ => 0, g⟩ (fun r => (∀ c : Dev Cert.AttnMergeIdeal.nD,
      r.2.mem ((c.tc : Thread Cert.AttnMergeIdeal.nD Cert.AttnMergeIdeal.τ).loc Cert.AttnMergeIdeal.main_arg0) = m ((c.tc : Thread Cert.AttnMergeIdeal.nD Cert.AttnMergeIdeal.τ).loc Cert.AttnMergeIdeal.main_arg0)
      ∧ r.2.mem ((c.tc : Thread Cert.AttnMergeIdeal.nD Cert.AttnMergeIdeal.τ).loc Cert.AttnMergeIdeal.main_arg1) = m ((c.tc : Thread Cert.AttnMergeIdeal.nD Cert.AttnMergeIdeal.τ).loc Cert.AttnMergeIdeal.main_arg1)
      ∧ r.2.mem ((c.tc : Thread Cert.AttnMergeIdeal.nD Cert.AttnMergeIdeal.τ).loc Cert.AttnMergeIdeal.main_arg2) = m ((c.tc : Thread Cert.AttnMergeIdeal.nD Cert.AttnMergeIdeal.τ).loc Cert.AttnMergeIdeal.main_arg2)
      ∧ r.2.mem ((c.tc : Thread Cert.AttnMergeIdeal.nD Cert.AttnMergeIdeal.τ).loc Cert.AttnMergeIdeal.main_arg3) = m ((c.tc : Thread Cert.AttnMergeIdeal.nD Cert.AttnMergeIdeal.τ).loc Cert.AttnMergeIdeal.main_arg3)
      ∧ r.2.mem ((c.tc : Thread Cert.AttnMergeIdeal.nD Cert.AttnMergeIdeal.τ).loc Cert.AttnMergeIdeal.main_arg4) = m ((c.tc : Thread Cert.AttnMergeIdeal.nD Cert.AttnMergeIdeal.τ).loc Cert.AttnMergeIdeal.main_arg4)
      ∧ r.2.mem ((c.tc : Thread Cert.AttnMergeIdeal.nD Cert.AttnMergeIdeal.τ).loc Cert.AttnMergeIdeal.main_arg5) = m ((c.tc : Thread Cert.AttnMergeIdeal.nD Cert.AttnMergeIdeal.τ).loc Cert.AttnMergeIdeal.main_arg5))
      ∧ r.2.sem = fun _ => 0)

def quiescent_AttnMergeRefIdeal [hAttnMergeRefIdeal : Cert.AttnMergeRefIdeal.Facts] : Prop :=
  ∀ (m : (ℓ : Loc Cert.AttnMergeRefIdeal.nD Cert.AttnMergeRefIdeal.τ Cert.AttnMergeRefIdeal.sig) → Buf (Elt Ideal) ℓ) (g : Dev Cert.AttnMergeRefIdeal.nD → PrngReg), Pre_AttnMergeRefIdeal m →
    θ_run (Cert.AttnMergeRefIdeal.defs (F := Ideal)) (onTc (τ := Cert.AttnMergeRefIdeal.τ) (Cert.AttnMergeRefIdeal.main (F := Ideal))) ⟨m, fun _ => 0, g⟩ (fun r => (∀ c : Dev Cert.AttnMergeRefIdeal.nD,
      r.2.mem ((c.tc : Thread Cert.AttnMergeRefIdeal.nD Cert.AttnMergeRefIdeal.τ).loc Cert.AttnMergeRefIdeal.main_arg0) = m ((c.tc : Thread Cert.AttnMergeRefIdeal.nD Cert.AttnMergeRefIdeal.τ).loc Cert.AttnMergeRefIdeal.main_arg0)
      ∧ r.2.mem ((c.tc : Thread Cert.AttnMergeRefIdeal.nD Cert.AttnMergeRefIdeal.τ).loc Cert.AttnMergeRefIdeal.main_arg1) = m ((c.tc : Thread Cert.AttnMergeRefIdeal.nD Cert.AttnMergeRefIdeal.τ).loc Cert.AttnMergeRefIdeal.main_arg1)
      ∧ r.2.mem ((c.tc : Thread Cert.AttnMergeRefIdeal.nD Cert.AttnMergeRefIdeal.τ).loc Cert.AttnMergeRefIdeal.main_arg2) = m ((c.tc : Thread Cert.AttnMergeRefIdeal.nD Cert.AttnMergeRefIdeal.τ).loc Cert.AttnMergeRefIdeal.main_arg2)
      ∧ r.2.mem ((c.tc : Thread Cert.AttnMergeRefIdeal.nD Cert.AttnMergeRefIdeal.τ).loc Cert.AttnMergeRefIdeal.main_arg3) = m ((c.tc : Thread Cert.AttnMergeRefIdeal.nD Cert.AttnMergeRefIdeal.τ).loc Cert.AttnMergeRefIdeal.main_arg3)
      ∧ r.2.mem ((c.tc : Thread Cert.AttnMergeRefIdeal.nD Cert.AttnMergeRefIdeal.τ).loc Cert.AttnMergeRefIdeal.main_arg4) = m ((c.tc : Thread Cert.AttnMergeRefIdeal.nD Cert.AttnMergeRefIdeal.τ).loc Cert.AttnMergeRefIdeal.main_arg4)
      ∧ r.2.mem ((c.tc : Thread Cert.AttnMergeRefIdeal.nD Cert.AttnMergeRefIdeal.τ).loc Cert.AttnMergeRefIdeal.main_arg5) = m ((c.tc : Thread Cert.AttnMergeRefIdeal.nD Cert.AttnMergeRefIdeal.τ).loc Cert.AttnMergeRefIdeal.main_arg5))
      ∧ r.2.sem = fun _ => 0)

def quiescent_AttnFwd1 [hAttnFwd1 : Cert.AttnFwd1.Facts] : Prop :=
  ∀ (m : (ℓ : Loc Cert.AttnFwd1.nD Cert.AttnFwd1.τ Cert.AttnFwd1.sig) → Buf (Elt Bits) ℓ) (g : Dev Cert.AttnFwd1.nD → PrngReg), Pre_AttnFwd1 m →
    θ_run (Cert.AttnFwd1.defs (F := Bits)) (onTc (τ := Cert.AttnFwd1.τ) (Cert.AttnFwd1.main (F := Bits))) ⟨m, fun _ => 0, g⟩ (fun r => (∀ c : Dev Cert.AttnFwd1.nD,
      r.2.mem ((c.tc : Thread Cert.AttnFwd1.nD Cert.AttnFwd1.τ).loc Cert.AttnFwd1.main_arg0) = m ((c.tc : Thread Cert.AttnFwd1.nD Cert.AttnFwd1.τ).loc Cert.AttnFwd1.main_arg0))
      ∧ r.2.sem = fun _ => 0)

def quiescent_AttnFwd1Ideal [hAttnFwd1Ideal : Cert.AttnFwd1Ideal.Facts] : Prop :=
  ∀ (m : (ℓ : Loc Cert.AttnFwd1Ideal.nD Cert.AttnFwd1Ideal.τ Cert.AttnFwd1Ideal.sig) → Buf (Elt Ideal) ℓ) (g : Dev Cert.AttnFwd1Ideal.nD → PrngReg), Pre_AttnFwd1Ideal m →
    θ_run (Cert.AttnFwd1Ideal.defs (F := Ideal)) (onTc (τ := Cert.AttnFwd1Ideal.τ) (Cert.AttnFwd1Ideal.main (F := Ideal))) ⟨m, fun _ => 0, g⟩ (fun r => (∀ c : Dev Cert.AttnFwd1Ideal.nD,
      r.2.mem ((c.tc : Thread Cert.AttnFwd1Ideal.nD Cert.AttnFwd1Ideal.τ).loc Cert.AttnFwd1Ideal.main_arg0) = m ((c.tc : Thread Cert.AttnFwd1Ideal.nD Cert.AttnFwd1Ideal.τ).loc Cert.AttnFwd1Ideal.main_arg0))
      ∧ r.2.sem = fun _ => 0)

def quiescent_AttnFwd1RefIdeal [hAttnFwd1RefIdeal : Cert.AttnFwd1RefIdeal.Facts] : Prop :=
  ∀ (m : (ℓ : Loc Cert.AttnFwd1RefIdeal.nD Cert.AttnFwd1RefIdeal.τ Cert.AttnFwd1RefIdeal.sig) → Buf (Elt Ideal) ℓ) (g : Dev Cert.AttnFwd1RefIdeal.nD → PrngReg), Pre_AttnFwd1RefIdeal m →
    θ_run (Cert.AttnFwd1RefIdeal.defs (F := Ideal)) (onTc (τ := Cert.AttnFwd1RefIdeal.τ) (Cert.AttnFwd1RefIdeal.main (F := Ideal))) ⟨m, fun _ => 0, g⟩ (fun r => (∀ c : Dev Cert.AttnFwd1RefIdeal.nD,
      r.2.mem ((c.tc : Thread Cert.AttnFwd1RefIdeal.nD Cert.AttnFwd1RefIdeal.τ).loc Cert.AttnFwd1RefIdeal.main_arg0) = m ((c.tc : Thread Cert.AttnFwd1RefIdeal.nD Cert.AttnFwd1RefIdeal.τ).loc Cert.AttnFwd1RefIdeal.main_arg0))
      ∧ r.2.sem = fun _ => 0)

def quiescent_AttnFwd4 [hAttnFwd4 : Cert.AttnFwd4.Facts] : Prop :=
  ∀ (m : (ℓ : Loc Cert.AttnFwd4.nD Cert.AttnFwd4.τ Cert.AttnFwd4.sig) → Buf (Elt Bits) ℓ) (g : Dev Cert.AttnFwd4.nD → PrngReg), Pre_AttnFwd4 m →
    θ_run (Cert.AttnFwd4.defs (F := Bits)) (onTc (τ := Cert.AttnFwd4.τ) (Cert.AttnFwd4.main (F := Bits))) ⟨m, fun _ => 0, g⟩ (fun r => (∀ c : Dev Cert.AttnFwd4.nD,
      r.2.mem ((c.tc : Thread Cert.AttnFwd4.nD Cert.AttnFwd4.τ).loc Cert.AttnFwd4.main_arg0) = m ((c.tc : Thread Cert.AttnFwd4.nD Cert.AttnFwd4.τ).loc Cert.AttnFwd4.main_arg0))
      ∧ r.2.sem = fun _ => 0)

def quiescent_AttnFwd4Ideal [hAttnFwd4Ideal : Cert.AttnFwd4Ideal.Facts] : Prop :=
  ∀ (m : (ℓ : Loc Cert.AttnFwd4Ideal.nD Cert.AttnFwd4Ideal.τ Cert.AttnFwd4Ideal.sig) → Buf (Elt Ideal) ℓ) (g : Dev Cert.AttnFwd4Ideal.nD → PrngReg), Pre_AttnFwd4Ideal m →
    θ_run (Cert.AttnFwd4Ideal.defs (F := Ideal)) (onTc (τ := Cert.AttnFwd4Ideal.τ) (Cert.AttnFwd4Ideal.main (F := Ideal))) ⟨m, fun _ => 0, g⟩ (fun r => (∀ c : Dev Cert.AttnFwd4Ideal.nD,
      r.2.mem ((c.tc : Thread Cert.AttnFwd4Ideal.nD Cert.AttnFwd4Ideal.τ).loc Cert.AttnFwd4Ideal.main_arg0) = m ((c.tc : Thread Cert.AttnFwd4Ideal.nD Cert.AttnFwd4Ideal.τ).loc Cert.AttnFwd4Ideal.main_arg0))
      ∧ r.2.sem = fun _ => 0)

def quiescent_AttnFwd4RefIdeal [hAttnFwd4RefIdeal : Cert.AttnFwd4RefIdeal.Facts] : Prop :=
  ∀ (m : (ℓ : Loc Cert.AttnFwd4RefIdeal.nD Cert.AttnFwd4RefIdeal.τ Cert.AttnFwd4RefIdeal.sig) → Buf (Elt Ideal) ℓ) (g : Dev Cert.AttnFwd4RefIdeal.nD → PrngReg), Pre_AttnFwd4RefIdeal m →
    θ_run (Cert.AttnFwd4RefIdeal.defs (F := Ideal)) (onTc (τ := Cert.AttnFwd4RefIdeal.τ) (Cert.AttnFwd4RefIdeal.main (F := Ideal))) ⟨m, fun _ => 0, g⟩ (fun r => (∀ c : Dev Cert.AttnFwd4RefIdeal.nD,
      r.2.mem ((c.tc : Thread Cert.AttnFwd4RefIdeal.nD Cert.AttnFwd4RefIdeal.τ).loc Cert.AttnFwd4RefIdeal.main_arg0) = m ((c.tc : Thread Cert.AttnFwd4RefIdeal.nD Cert.AttnFwd4RefIdeal.τ).loc Cert.AttnFwd4RefIdeal.main_arg0))
      ∧ r.2.sem = fun _ => 0)

def quiescent_AttnFwd16 [hAttnFwd16 : Cert.AttnFwd16.Facts] : Prop :=
  ∀ (m : (ℓ : Loc Cert.AttnFwd16.nD Cert.AttnFwd16.τ Cert.AttnFwd16.sig) → Buf (Elt Bits) ℓ) (g : Dev Cert.AttnFwd16.nD → PrngReg), Pre_AttnFwd16 m →
    θ_run (Cert.AttnFwd16.defs (F := Bits)) (onTc (τ := Cert.AttnFwd16.τ) (Cert.AttnFwd16.main (F := Bits))) ⟨m, fun _ => 0, g⟩ (fun r => (∀ c : Dev Cert.AttnFwd16.nD,
      r.2.mem ((c.tc : Thread Cert.AttnFwd16.nD Cert.AttnFwd16.τ).loc Cert.AttnFwd16.main_arg0) = m ((c.tc : Thread Cert.AttnFwd16.nD Cert.AttnFwd16.τ).loc Cert.AttnFwd16.main_arg0))
      ∧ r.2.sem = fun _ => 0)

def quiescent_AttnFwd16Ideal [hAttnFwd16Ideal : Cert.AttnFwd16Ideal.Facts] : Prop :=
  ∀ (m : (ℓ : Loc Cert.AttnFwd16Ideal.nD Cert.AttnFwd16Ideal.τ Cert.AttnFwd16Ideal.sig) → Buf (Elt Ideal) ℓ) (g : Dev Cert.AttnFwd16Ideal.nD → PrngReg), Pre_AttnFwd16Ideal m →
    θ_run (Cert.AttnFwd16Ideal.defs (F := Ideal)) (onTc (τ := Cert.AttnFwd16Ideal.τ) (Cert.AttnFwd16Ideal.main (F := Ideal))) ⟨m, fun _ => 0, g⟩ (fun r => (∀ c : Dev Cert.AttnFwd16Ideal.nD,
      r.2.mem ((c.tc : Thread Cert.AttnFwd16Ideal.nD Cert.AttnFwd16Ideal.τ).loc Cert.AttnFwd16Ideal.main_arg0) = m ((c.tc : Thread Cert.AttnFwd16Ideal.nD Cert.AttnFwd16Ideal.τ).loc Cert.AttnFwd16Ideal.main_arg0))
      ∧ r.2.sem = fun _ => 0)

def quiescent_AttnFwd16RefIdeal [hAttnFwd16RefIdeal : Cert.AttnFwd16RefIdeal.Facts] : Prop :=
  ∀ (m : (ℓ : Loc Cert.AttnFwd16RefIdeal.nD Cert.AttnFwd16RefIdeal.τ Cert.AttnFwd16RefIdeal.sig) → Buf (Elt Ideal) ℓ) (g : Dev Cert.AttnFwd16RefIdeal.nD → PrngReg), Pre_AttnFwd16RefIdeal m →
    θ_run (Cert.AttnFwd16RefIdeal.defs (F := Ideal)) (onTc (τ := Cert.AttnFwd16RefIdeal.τ) (Cert.AttnFwd16RefIdeal.main (F := Ideal))) ⟨m, fun _ => 0, g⟩ (fun r => (∀ c : Dev Cert.AttnFwd16RefIdeal.nD,
      r.2.mem ((c.tc : Thread Cert.AttnFwd16RefIdeal.nD Cert.AttnFwd16RefIdeal.τ).loc Cert.AttnFwd16RefIdeal.main_arg0) = m ((c.tc : Thread Cert.AttnFwd16RefIdeal.nD Cert.AttnFwd16RefIdeal.τ).loc Cert.AttnFwd16RefIdeal.main_arg0))
      ∧ r.2.sem = fun _ => 0)

def quiescent_SsmBwdEnds [hSsmBwdEnds : Cert.SsmBwdEnds.Facts] : Prop :=
  ∀ (m : (ℓ : Loc Cert.SsmBwdEnds.nD Cert.SsmBwdEnds.τ Cert.SsmBwdEnds.sig) → Buf (Elt Bits) ℓ) (g : Dev Cert.SsmBwdEnds.nD → PrngReg), Pre_SsmBwdEnds m →
    θ_run (Cert.SsmBwdEnds.defs (F := Bits)) (onTc (τ := Cert.SsmBwdEnds.τ) (Cert.SsmBwdEnds.main (F := Bits))) ⟨m, fun _ => 0, g⟩ (fun r => (∀ c : Dev Cert.SsmBwdEnds.nD,
      r.2.mem ((c.tc : Thread Cert.SsmBwdEnds.nD Cert.SsmBwdEnds.τ).loc Cert.SsmBwdEnds.main_arg0) = m ((c.tc : Thread Cert.SsmBwdEnds.nD Cert.SsmBwdEnds.τ).loc Cert.SsmBwdEnds.main_arg0)
      ∧ r.2.mem ((c.tc : Thread Cert.SsmBwdEnds.nD Cert.SsmBwdEnds.τ).loc Cert.SsmBwdEnds.main_arg1) = m ((c.tc : Thread Cert.SsmBwdEnds.nD Cert.SsmBwdEnds.τ).loc Cert.SsmBwdEnds.main_arg1)
      ∧ r.2.mem ((c.tc : Thread Cert.SsmBwdEnds.nD Cert.SsmBwdEnds.τ).loc Cert.SsmBwdEnds.main_arg2) = m ((c.tc : Thread Cert.SsmBwdEnds.nD Cert.SsmBwdEnds.τ).loc Cert.SsmBwdEnds.main_arg2))
      ∧ r.2.sem = fun _ => 0)

def quiescent_SsmBwdEndsIdeal [hSsmBwdEndsIdeal : Cert.SsmBwdEndsIdeal.Facts] : Prop :=
  ∀ (m : (ℓ : Loc Cert.SsmBwdEndsIdeal.nD Cert.SsmBwdEndsIdeal.τ Cert.SsmBwdEndsIdeal.sig) → Buf (Elt Ideal) ℓ) (g : Dev Cert.SsmBwdEndsIdeal.nD → PrngReg), Pre_SsmBwdEndsIdeal m →
    θ_run (Cert.SsmBwdEndsIdeal.defs (F := Ideal)) (onTc (τ := Cert.SsmBwdEndsIdeal.τ) (Cert.SsmBwdEndsIdeal.main (F := Ideal))) ⟨m, fun _ => 0, g⟩ (fun r => (∀ c : Dev Cert.SsmBwdEndsIdeal.nD,
      r.2.mem ((c.tc : Thread Cert.SsmBwdEndsIdeal.nD Cert.SsmBwdEndsIdeal.τ).loc Cert.SsmBwdEndsIdeal.main_arg0) = m ((c.tc : Thread Cert.SsmBwdEndsIdeal.nD Cert.SsmBwdEndsIdeal.τ).loc Cert.SsmBwdEndsIdeal.main_arg0)
      ∧ r.2.mem ((c.tc : Thread Cert.SsmBwdEndsIdeal.nD Cert.SsmBwdEndsIdeal.τ).loc Cert.SsmBwdEndsIdeal.main_arg1) = m ((c.tc : Thread Cert.SsmBwdEndsIdeal.nD Cert.SsmBwdEndsIdeal.τ).loc Cert.SsmBwdEndsIdeal.main_arg1)
      ∧ r.2.mem ((c.tc : Thread Cert.SsmBwdEndsIdeal.nD Cert.SsmBwdEndsIdeal.τ).loc Cert.SsmBwdEndsIdeal.main_arg2) = m ((c.tc : Thread Cert.SsmBwdEndsIdeal.nD Cert.SsmBwdEndsIdeal.τ).loc Cert.SsmBwdEndsIdeal.main_arg2))
      ∧ r.2.sem = fun _ => 0)

def preserves_MemNormBwd_MemNormBwdIdeal : Prop :=
  True

def algebraic_MemNormBwdIdeal_MemNormBwdRefIdeal_pre_mem_norm_finite [hMemNormBwdIdeal : Cert.MemNormBwdIdeal.Facts] [hMemNormBwdRefIdeal : Cert.MemNormBwdRefIdeal.Facts] [hPre_mem_norm_finite : Cert.Pre_mem_norm_finite.Facts] : Prop :=
  ∀ (m : (ℓ : Loc Cert.MemNormBwdIdeal.nD Cert.MemNormBwdIdeal.τ Cert.MemNormBwdIdeal.sig) → Buf (Elt Ideal) ℓ) (g : Dev Cert.MemNormBwdIdeal.nD → PrngReg)
    (m' : (ℓ : Loc Cert.MemNormBwdRefIdeal.nD Cert.MemNormBwdRefIdeal.τ Cert.MemNormBwdRefIdeal.sig) → Buf (Elt Ideal) ℓ) (g' : Dev Cert.MemNormBwdRefIdeal.nD → PrngReg), Pre_MemNormBwdIdeal_mem_norm_finite m →
    (∀ c : Dev Cert.MemNormBwdIdeal.nD,
      m' ((c.tc : Thread Cert.MemNormBwdRefIdeal.nD Cert.MemNormBwdRefIdeal.τ).loc Cert.MemNormBwdRefIdeal.main_arg0) = m ((c.tc : Thread Cert.MemNormBwdIdeal.nD Cert.MemNormBwdIdeal.τ).loc Cert.MemNormBwdIdeal.main_arg0)
      ∧ m' ((c.tc : Thread Cert.MemNormBwdRefIdeal.nD Cert.MemNormBwdRefIdeal.τ).loc Cert.MemNormBwdRefIdeal.main_arg1) = m ((c.tc : Thread Cert.MemNormBwdIdeal.nD Cert.MemNormBwdIdeal.τ).loc Cert.MemNormBwdIdeal.main_arg1)
      ∧ m' ((c.tc : Thread Cert.MemNormBwdRefIdeal.nD Cert.MemNormBwdRefIdeal.τ).loc Cert.MemNormBwdRefIdeal.main_arg2) = m ((c.tc : Thread Cert.MemNormBwdIdeal.nD Cert.MemNormBwdIdeal.τ).loc Cert.MemNormBwdIdeal.main_arg2)) →
    ∃ (v0 : (c : Dev Cert.MemNormBwdIdeal.nD) → Buf (Elt Ideal) ((c.tc : Thread Cert.MemNormBwdIdeal.nD Cert.MemNormBwdIdeal.τ).loc Cert.MemNormBwdIdeal.main_v0_0)) (v1 : (c : Dev Cert.MemNormBwdIdeal.nD) → Buf (Elt Ideal) ((c.tc : Thread Cert.MemNormBwdIdeal.nD Cert.MemNormBwdIdeal.τ).loc Cert.MemNormBwdIdeal.main_v0_1)),
      θ_run (Cert.MemNormBwdIdeal.defs (F := Ideal)) (onTc (τ := Cert.MemNormBwdIdeal.τ) (Cert.MemNormBwdIdeal.main (F := Ideal))) ⟨m, fun _ => 0, g⟩ (fun r => ∀ c : Dev Cert.MemNormBwdIdeal.nD,
          r.2.mem ((c.tc : Thread Cert.MemNormBwdIdeal.nD Cert.MemNormBwdIdeal.τ).loc Cert.MemNormBwdIdeal.main_v0_0) = v0 c
          ∧ r.2.mem ((c.tc : Thread Cert.MemNormBwdIdeal.nD Cert.MemNormBwdIdeal.τ).loc Cert.MemNormBwdIdeal.main_v0_1) = v1 c
          ∧ r.2.mem ((c.tc : Thread Cert.MemNormBwdIdeal.nD Cert.MemNormBwdIdeal.τ).loc Cert.MemNormBwdIdeal.main_arg0) = m ((c.tc : Thread Cert.MemNormBwdIdeal.nD Cert.MemNormBwdIdeal.τ).loc Cert.MemNormBwdIdeal.main_arg0)
          ∧ r.2.mem ((c.tc : Thread Cert.MemNormBwdIdeal.nD Cert.MemNormBwdIdeal.τ).loc Cert.MemNormBwdIdeal.main_arg1) = m ((c.tc : Thread Cert.MemNormBwdIdeal.nD Cert.MemNormBwdIdeal.τ).loc Cert.MemNormBwdIdeal.main_arg1)
          ∧ r.2.mem ((c.tc : Thread Cert.MemNormBwdIdeal.nD Cert.MemNormBwdIdeal.τ).loc Cert.MemNormBwdIdeal.main_arg2) = m ((c.tc : Thread Cert.MemNormBwdIdeal.nD Cert.MemNormBwdIdeal.τ).loc Cert.MemNormBwdIdeal.main_arg2))
      ∧ θ_run (Cert.MemNormBwdRefIdeal.defs (F := Ideal)) (onTc (τ := Cert.MemNormBwdRefIdeal.τ) (Cert.MemNormBwdRefIdeal.main (F := Ideal))) ⟨m', fun _ => 0, g'⟩ (fun r => ∀ c : Dev Cert.MemNormBwdRefIdeal.nD,
          r.2.mem ((c.tc : Thread Cert.MemNormBwdRefIdeal.nD Cert.MemNormBwdRefIdeal.τ).loc Cert.MemNormBwdRefIdeal.main_v36) = v0 c
          ∧ r.2.mem ((c.tc : Thread Cert.MemNormBwdRefIdeal.nD Cert.MemNormBwdRefIdeal.τ).loc Cert.MemNormBwdRefIdeal.main_v37) = v1 c
          ∧ r.2.mem ((c.tc : Thread Cert.MemNormBwdRefIdeal.nD Cert.MemNormBwdRefIdeal.τ).loc Cert.MemNormBwdRefIdeal.main_arg0) = m' ((c.tc : Thread Cert.MemNormBwdRefIdeal.nD Cert.MemNormBwdRefIdeal.τ).loc Cert.MemNormBwdRefIdeal.main_arg0)
          ∧ r.2.mem ((c.tc : Thread Cert.MemNormBwdRefIdeal.nD Cert.MemNormBwdRefIdeal.τ).loc Cert.MemNormBwdRefIdeal.main_arg1) = m' ((c.tc : Thread Cert.MemNormBwdRefIdeal.nD Cert.MemNormBwdRefIdeal.τ).loc Cert.MemNormBwdRefIdeal.main_arg1)
          ∧ r.2.mem ((c.tc : Thread Cert.MemNormBwdRefIdeal.nD Cert.MemNormBwdRefIdeal.τ).loc Cert.MemNormBwdRefIdeal.main_arg2) = m' ((c.tc : Thread Cert.MemNormBwdRefIdeal.nD Cert.MemNormBwdRefIdeal.τ).loc Cert.MemNormBwdRefIdeal.main_arg2))

def preserves_MemNormFwd_MemNormFwdIdeal : Prop :=
  True

def algebraic_MemNormFwdIdeal_MemNormFwdRefIdeal [hMemNormFwdIdeal : Cert.MemNormFwdIdeal.Facts] [hMemNormFwdRefIdeal : Cert.MemNormFwdRefIdeal.Facts] : Prop :=
  ∀ (m : (ℓ : Loc Cert.MemNormFwdIdeal.nD Cert.MemNormFwdIdeal.τ Cert.MemNormFwdIdeal.sig) → Buf (Elt Ideal) ℓ) (g : Dev Cert.MemNormFwdIdeal.nD → PrngReg)
    (m' : (ℓ : Loc Cert.MemNormFwdRefIdeal.nD Cert.MemNormFwdRefIdeal.τ Cert.MemNormFwdRefIdeal.sig) → Buf (Elt Ideal) ℓ) (g' : Dev Cert.MemNormFwdRefIdeal.nD → PrngReg), Pre_MemNormFwdIdeal m →
    (∀ c : Dev Cert.MemNormFwdIdeal.nD,
      m' ((c.tc : Thread Cert.MemNormFwdRefIdeal.nD Cert.MemNormFwdRefIdeal.τ).loc Cert.MemNormFwdRefIdeal.main_arg0) = m ((c.tc : Thread Cert.MemNormFwdIdeal.nD Cert.MemNormFwdIdeal.τ).loc Cert.MemNormFwdIdeal.main_arg0)
      ∧ m' ((c.tc : Thread Cert.MemNormFwdRefIdeal.nD Cert.MemNormFwdRefIdeal.τ).loc Cert.MemNormFwdRefIdeal.main_arg1) = m ((c.tc : Thread Cert.MemNormFwdIdeal.nD Cert.MemNormFwdIdeal.τ).loc Cert.MemNormFwdIdeal.main_arg1)) →
    ∃ (v0 : (c : Dev Cert.MemNormFwdIdeal.nD) → Buf (Elt Ideal) ((c.tc : Thread Cert.MemNormFwdIdeal.nD Cert.MemNormFwdIdeal.τ).loc Cert.MemNormFwdIdeal.main_v0)),
      θ_run (Cert.MemNormFwdIdeal.defs (F := Ideal)) (onTc (τ := Cert.MemNormFwdIdeal.τ) (Cert.MemNormFwdIdeal.main (F := Ideal))) ⟨m, fun _ => 0, g⟩ (fun r => ∀ c : Dev Cert.MemNormFwdIdeal.nD,
          r.2.mem ((c.tc : Thread Cert.MemNormFwdIdeal.nD Cert.MemNormFwdIdeal.τ).loc Cert.MemNormFwdIdeal.main_v0) = v0 c
          ∧ r.2.mem ((c.tc : Thread Cert.MemNormFwdIdeal.nD Cert.MemNormFwdIdeal.τ).loc Cert.MemNormFwdIdeal.main_arg0) = m ((c.tc : Thread Cert.MemNormFwdIdeal.nD Cert.MemNormFwdIdeal.τ).loc Cert.MemNormFwdIdeal.main_arg0)
          ∧ r.2.mem ((c.tc : Thread Cert.MemNormFwdIdeal.nD Cert.MemNormFwdIdeal.τ).loc Cert.MemNormFwdIdeal.main_arg1) = m ((c.tc : Thread Cert.MemNormFwdIdeal.nD Cert.MemNormFwdIdeal.τ).loc Cert.MemNormFwdIdeal.main_arg1))
      ∧ θ_run (Cert.MemNormFwdRefIdeal.defs (F := Ideal)) (onTc (τ := Cert.MemNormFwdRefIdeal.τ) (Cert.MemNormFwdRefIdeal.main (F := Ideal))) ⟨m', fun _ => 0, g'⟩ (fun r => ∀ c : Dev Cert.MemNormFwdRefIdeal.nD,
          r.2.mem ((c.tc : Thread Cert.MemNormFwdRefIdeal.nD Cert.MemNormFwdRefIdeal.τ).loc Cert.MemNormFwdRefIdeal.main_v14) = v0 c
          ∧ r.2.mem ((c.tc : Thread Cert.MemNormFwdRefIdeal.nD Cert.MemNormFwdRefIdeal.τ).loc Cert.MemNormFwdRefIdeal.main_arg0) = m' ((c.tc : Thread Cert.MemNormFwdRefIdeal.nD Cert.MemNormFwdRefIdeal.τ).loc Cert.MemNormFwdRefIdeal.main_arg0)
          ∧ r.2.mem ((c.tc : Thread Cert.MemNormFwdRefIdeal.nD Cert.MemNormFwdRefIdeal.τ).loc Cert.MemNormFwdRefIdeal.main_arg1) = m' ((c.tc : Thread Cert.MemNormFwdRefIdeal.nD Cert.MemNormFwdRefIdeal.τ).loc Cert.MemNormFwdRefIdeal.main_arg1))

def preserves_MemAttnBwd_MemAttnBwdIdeal : Prop :=
  True

def algebraic_MemAttnBwdIdeal_MemAttnBwdRefIdeal_pre_mem_attn_finite [hMemAttnBwdIdeal : Cert.MemAttnBwdIdeal.Facts] [hMemAttnBwdRefIdeal : Cert.MemAttnBwdRefIdeal.Facts] [hPre_mem_attn_finite : Cert.Pre_mem_attn_finite.Facts] : Prop :=
  ∀ (m : (ℓ : Loc Cert.MemAttnBwdIdeal.nD Cert.MemAttnBwdIdeal.τ Cert.MemAttnBwdIdeal.sig) → Buf (Elt Ideal) ℓ) (g : Dev Cert.MemAttnBwdIdeal.nD → PrngReg)
    (m' : (ℓ : Loc Cert.MemAttnBwdRefIdeal.nD Cert.MemAttnBwdRefIdeal.τ Cert.MemAttnBwdRefIdeal.sig) → Buf (Elt Ideal) ℓ) (g' : Dev Cert.MemAttnBwdRefIdeal.nD → PrngReg), Pre_MemAttnBwdIdeal_mem_attn_finite m →
    (∀ c : Dev Cert.MemAttnBwdIdeal.nD,
      m' ((c.tc : Thread Cert.MemAttnBwdRefIdeal.nD Cert.MemAttnBwdRefIdeal.τ).loc Cert.MemAttnBwdRefIdeal.main_arg0) = m ((c.tc : Thread Cert.MemAttnBwdIdeal.nD Cert.MemAttnBwdIdeal.τ).loc Cert.MemAttnBwdIdeal.main_arg0)
      ∧ m' ((c.tc : Thread Cert.MemAttnBwdRefIdeal.nD Cert.MemAttnBwdRefIdeal.τ).loc Cert.MemAttnBwdRefIdeal.main_arg1) = m ((c.tc : Thread Cert.MemAttnBwdIdeal.nD Cert.MemAttnBwdIdeal.τ).loc Cert.MemAttnBwdIdeal.main_arg1)
      ∧ m' ((c.tc : Thread Cert.MemAttnBwdRefIdeal.nD Cert.MemAttnBwdRefIdeal.τ).loc Cert.MemAttnBwdRefIdeal.main_arg2) = m ((c.tc : Thread Cert.MemAttnBwdIdeal.nD Cert.MemAttnBwdIdeal.τ).loc Cert.MemAttnBwdIdeal.main_arg2)) →
    ∃ (v0 : (c : Dev Cert.MemAttnBwdIdeal.nD) → Buf (Elt Ideal) ((c.tc : Thread Cert.MemAttnBwdIdeal.nD Cert.MemAttnBwdIdeal.τ).loc Cert.MemAttnBwdIdeal.main_v0_0)) (v1 : (c : Dev Cert.MemAttnBwdIdeal.nD) → Buf (Elt Ideal) ((c.tc : Thread Cert.MemAttnBwdIdeal.nD Cert.MemAttnBwdIdeal.τ).loc Cert.MemAttnBwdIdeal.main_v0_1)) (v2 : (c : Dev Cert.MemAttnBwdIdeal.nD) → Buf (Elt Ideal) ((c.tc : Thread Cert.MemAttnBwdIdeal.nD Cert.MemAttnBwdIdeal.τ).loc Cert.MemAttnBwdIdeal.main_v0_2)),
      θ_run (Cert.MemAttnBwdIdeal.defs (F := Ideal)) (onTc (τ := Cert.MemAttnBwdIdeal.τ) (Cert.MemAttnBwdIdeal.main (F := Ideal))) ⟨m, fun _ => 0, g⟩ (fun r => ∀ c : Dev Cert.MemAttnBwdIdeal.nD,
          r.2.mem ((c.tc : Thread Cert.MemAttnBwdIdeal.nD Cert.MemAttnBwdIdeal.τ).loc Cert.MemAttnBwdIdeal.main_v0_0) = v0 c
          ∧ r.2.mem ((c.tc : Thread Cert.MemAttnBwdIdeal.nD Cert.MemAttnBwdIdeal.τ).loc Cert.MemAttnBwdIdeal.main_v0_1) = v1 c
          ∧ r.2.mem ((c.tc : Thread Cert.MemAttnBwdIdeal.nD Cert.MemAttnBwdIdeal.τ).loc Cert.MemAttnBwdIdeal.main_v0_2) = v2 c
          ∧ r.2.mem ((c.tc : Thread Cert.MemAttnBwdIdeal.nD Cert.MemAttnBwdIdeal.τ).loc Cert.MemAttnBwdIdeal.main_arg0) = m ((c.tc : Thread Cert.MemAttnBwdIdeal.nD Cert.MemAttnBwdIdeal.τ).loc Cert.MemAttnBwdIdeal.main_arg0)
          ∧ r.2.mem ((c.tc : Thread Cert.MemAttnBwdIdeal.nD Cert.MemAttnBwdIdeal.τ).loc Cert.MemAttnBwdIdeal.main_arg1) = m ((c.tc : Thread Cert.MemAttnBwdIdeal.nD Cert.MemAttnBwdIdeal.τ).loc Cert.MemAttnBwdIdeal.main_arg1)
          ∧ r.2.mem ((c.tc : Thread Cert.MemAttnBwdIdeal.nD Cert.MemAttnBwdIdeal.τ).loc Cert.MemAttnBwdIdeal.main_arg2) = m ((c.tc : Thread Cert.MemAttnBwdIdeal.nD Cert.MemAttnBwdIdeal.τ).loc Cert.MemAttnBwdIdeal.main_arg2))
      ∧ θ_run (Cert.MemAttnBwdRefIdeal.defs (F := Ideal)) (onTc (τ := Cert.MemAttnBwdRefIdeal.τ) (Cert.MemAttnBwdRefIdeal.main (F := Ideal))) ⟨m', fun _ => 0, g'⟩ (fun r => ∀ c : Dev Cert.MemAttnBwdRefIdeal.nD,
          r.2.mem ((c.tc : Thread Cert.MemAttnBwdRefIdeal.nD Cert.MemAttnBwdRefIdeal.τ).loc Cert.MemAttnBwdRefIdeal.main_v68) = v0 c
          ∧ r.2.mem ((c.tc : Thread Cert.MemAttnBwdRefIdeal.nD Cert.MemAttnBwdRefIdeal.τ).loc Cert.MemAttnBwdRefIdeal.main_v66) = v1 c
          ∧ r.2.mem ((c.tc : Thread Cert.MemAttnBwdRefIdeal.nD Cert.MemAttnBwdRefIdeal.τ).loc Cert.MemAttnBwdRefIdeal.main_v65) = v2 c
          ∧ r.2.mem ((c.tc : Thread Cert.MemAttnBwdRefIdeal.nD Cert.MemAttnBwdRefIdeal.τ).loc Cert.MemAttnBwdRefIdeal.main_arg0) = m' ((c.tc : Thread Cert.MemAttnBwdRefIdeal.nD Cert.MemAttnBwdRefIdeal.τ).loc Cert.MemAttnBwdRefIdeal.main_arg0)
          ∧ r.2.mem ((c.tc : Thread Cert.MemAttnBwdRefIdeal.nD Cert.MemAttnBwdRefIdeal.τ).loc Cert.MemAttnBwdRefIdeal.main_arg1) = m' ((c.tc : Thread Cert.MemAttnBwdRefIdeal.nD Cert.MemAttnBwdRefIdeal.τ).loc Cert.MemAttnBwdRefIdeal.main_arg1)
          ∧ r.2.mem ((c.tc : Thread Cert.MemAttnBwdRefIdeal.nD Cert.MemAttnBwdRefIdeal.τ).loc Cert.MemAttnBwdRefIdeal.main_arg2) = m' ((c.tc : Thread Cert.MemAttnBwdRefIdeal.nD Cert.MemAttnBwdRefIdeal.τ).loc Cert.MemAttnBwdRefIdeal.main_arg2))

def preserves_MemAttnFwd_MemAttnFwdIdeal : Prop :=
  True

def algebraic_MemAttnFwdIdeal_MemAttnFwdRefIdeal [hMemAttnFwdIdeal : Cert.MemAttnFwdIdeal.Facts] [hMemAttnFwdRefIdeal : Cert.MemAttnFwdRefIdeal.Facts] : Prop :=
  ∀ (m : (ℓ : Loc Cert.MemAttnFwdIdeal.nD Cert.MemAttnFwdIdeal.τ Cert.MemAttnFwdIdeal.sig) → Buf (Elt Ideal) ℓ) (g : Dev Cert.MemAttnFwdIdeal.nD → PrngReg)
    (m' : (ℓ : Loc Cert.MemAttnFwdRefIdeal.nD Cert.MemAttnFwdRefIdeal.τ Cert.MemAttnFwdRefIdeal.sig) → Buf (Elt Ideal) ℓ) (g' : Dev Cert.MemAttnFwdRefIdeal.nD → PrngReg), Pre_MemAttnFwdIdeal m →
    (∀ c : Dev Cert.MemAttnFwdIdeal.nD,
      m' ((c.tc : Thread Cert.MemAttnFwdRefIdeal.nD Cert.MemAttnFwdRefIdeal.τ).loc Cert.MemAttnFwdRefIdeal.main_arg0) = m ((c.tc : Thread Cert.MemAttnFwdIdeal.nD Cert.MemAttnFwdIdeal.τ).loc Cert.MemAttnFwdIdeal.main_arg0)
      ∧ m' ((c.tc : Thread Cert.MemAttnFwdRefIdeal.nD Cert.MemAttnFwdRefIdeal.τ).loc Cert.MemAttnFwdRefIdeal.main_arg1) = m ((c.tc : Thread Cert.MemAttnFwdIdeal.nD Cert.MemAttnFwdIdeal.τ).loc Cert.MemAttnFwdIdeal.main_arg1)) →
    ∃ (v0 : (c : Dev Cert.MemAttnFwdIdeal.nD) → Buf (Elt Ideal) ((c.tc : Thread Cert.MemAttnFwdIdeal.nD Cert.MemAttnFwdIdeal.τ).loc Cert.MemAttnFwdIdeal.main_v0)),
      θ_run (Cert.MemAttnFwdIdeal.defs (F := Ideal)) (onTc (τ := Cert.MemAttnFwdIdeal.τ) (Cert.MemAttnFwdIdeal.main (F := Ideal))) ⟨m, fun _ => 0, g⟩ (fun r => ∀ c : Dev Cert.MemAttnFwdIdeal.nD,
          r.2.mem ((c.tc : Thread Cert.MemAttnFwdIdeal.nD Cert.MemAttnFwdIdeal.τ).loc Cert.MemAttnFwdIdeal.main_v0) = v0 c
          ∧ r.2.mem ((c.tc : Thread Cert.MemAttnFwdIdeal.nD Cert.MemAttnFwdIdeal.τ).loc Cert.MemAttnFwdIdeal.main_arg0) = m ((c.tc : Thread Cert.MemAttnFwdIdeal.nD Cert.MemAttnFwdIdeal.τ).loc Cert.MemAttnFwdIdeal.main_arg0)
          ∧ r.2.mem ((c.tc : Thread Cert.MemAttnFwdIdeal.nD Cert.MemAttnFwdIdeal.τ).loc Cert.MemAttnFwdIdeal.main_arg1) = m ((c.tc : Thread Cert.MemAttnFwdIdeal.nD Cert.MemAttnFwdIdeal.τ).loc Cert.MemAttnFwdIdeal.main_arg1))
      ∧ θ_run (Cert.MemAttnFwdRefIdeal.defs (F := Ideal)) (onTc (τ := Cert.MemAttnFwdRefIdeal.τ) (Cert.MemAttnFwdRefIdeal.main (F := Ideal))) ⟨m', fun _ => 0, g'⟩ (fun r => ∀ c : Dev Cert.MemAttnFwdRefIdeal.nD,
          r.2.mem ((c.tc : Thread Cert.MemAttnFwdRefIdeal.nD Cert.MemAttnFwdRefIdeal.τ).loc Cert.MemAttnFwdRefIdeal.main_v22) = v0 c
          ∧ r.2.mem ((c.tc : Thread Cert.MemAttnFwdRefIdeal.nD Cert.MemAttnFwdRefIdeal.τ).loc Cert.MemAttnFwdRefIdeal.main_arg0) = m' ((c.tc : Thread Cert.MemAttnFwdRefIdeal.nD Cert.MemAttnFwdRefIdeal.τ).loc Cert.MemAttnFwdRefIdeal.main_arg0)
          ∧ r.2.mem ((c.tc : Thread Cert.MemAttnFwdRefIdeal.nD Cert.MemAttnFwdRefIdeal.τ).loc Cert.MemAttnFwdRefIdeal.main_arg1) = m' ((c.tc : Thread Cert.MemAttnFwdRefIdeal.nD Cert.MemAttnFwdRefIdeal.τ).loc Cert.MemAttnFwdRefIdeal.main_arg1))

def preserves_GluBwd_GluBwdIdeal : Prop :=
  IdealRules.named_const.Statement Cert.GluBwdIdeal.κ "cubic" .f32 0x3D372713#32 ((8943 / 200000 : ℝ) : EReal)
  ∧ IdealRules.named_const.Statement Cert.GluBwdIdeal.κ "three_cubic" .f32 0x3E095D4F#32 ((26829 / 200000 : ℝ) : EReal)

def algebraic_GluBwdIdeal_GluBwdRefIdeal_pre_glu_finite [hGluBwdIdeal : Cert.GluBwdIdeal.Facts] [hGluBwdRefIdeal : Cert.GluBwdRefIdeal.Facts] [hPre_glu_finite : Cert.Pre_glu_finite.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal_glu_finite m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)
      ∧ m' ((c.tc : Thread Cert.GluBwdRefIdeal.nD Cert.GluBwdRefIdeal.τ).loc Cert.GluBwdRefIdeal.main_arg4) = m ((c.tc : Thread Cert.GluBwdIdeal.nD Cert.GluBwdIdeal.τ).loc Cert.GluBwdIdeal.main_arg4)
      ∧ m' ((c.tc : Thread Cert.GluBwdRefIdeal.nD Cert.GluBwdRefIdeal.τ).loc Cert.GluBwdRefIdeal.main_arg5) = m ((c.tc : Thread Cert.GluBwdIdeal.nD Cert.GluBwdIdeal.τ).loc Cert.GluBwdIdeal.main_arg5)) →
    ∃ (v0 : (c : Dev Cert.GluBwdIdeal.nD) → Buf (Elt Ideal) ((c.tc : Thread Cert.GluBwdIdeal.nD Cert.GluBwdIdeal.τ).loc Cert.GluBwdIdeal.main_v1_0)) (v1 : (c : Dev Cert.GluBwdIdeal.nD) → Buf (Elt Ideal) ((c.tc : Thread Cert.GluBwdIdeal.nD Cert.GluBwdIdeal.τ).loc Cert.GluBwdIdeal.main_v1_1)) (v2 : (c : Dev Cert.GluBwdIdeal.nD) → Buf (Elt Ideal) ((c.tc : Thread Cert.GluBwdIdeal.nD Cert.GluBwdIdeal.τ).loc Cert.GluBwdIdeal.main_v1_2)) (v3 : (c : Dev Cert.GluBwdIdeal.nD) → Buf (Elt Ideal) ((c.tc : Thread Cert.GluBwdIdeal.nD Cert.GluBwdIdeal.τ).loc Cert.GluBwdIdeal.main_v1_3)) (v4 : (c : Dev Cert.GluBwdIdeal.nD) → Buf (Elt Ideal) ((c.tc : Thread Cert.GluBwdIdeal.nD Cert.GluBwdIdeal.τ).loc Cert.GluBwdIdeal.main_v1_4)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v1_0) = v0 c
          ∧ r.2.mem ((c.tc : Thread Cert.GluBwdIdeal.nD Cert.GluBwdIdeal.τ).loc Cert.GluBwdIdeal.main_v1_1) = v1 c
          ∧ r.2.mem ((c.tc : Thread Cert.GluBwdIdeal.nD Cert.GluBwdIdeal.τ).loc Cert.GluBwdIdeal.main_v1_2) = v2 c
          ∧ r.2.mem ((c.tc : Thread Cert.GluBwdIdeal.nD Cert.GluBwdIdeal.τ).loc Cert.GluBwdIdeal.main_v1_3) = v3 c
          ∧ r.2.mem ((c.tc : Thread Cert.GluBwdIdeal.nD Cert.GluBwdIdeal.τ).loc Cert.GluBwdIdeal.main_v1_4) = v4 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
          ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v83) = v0 c
          ∧ r.2.mem ((c.tc : Thread Cert.GluBwdRefIdeal.nD Cert.GluBwdRefIdeal.τ).loc Cert.GluBwdRefIdeal.main_v106) = v1 c
          ∧ r.2.mem ((c.tc : Thread Cert.GluBwdRefIdeal.nD Cert.GluBwdRefIdeal.τ).loc Cert.GluBwdRefIdeal.main_v107) = v2 c
          ∧ r.2.mem ((c.tc : Thread Cert.GluBwdRefIdeal.nD Cert.GluBwdRefIdeal.τ).loc Cert.GluBwdRefIdeal.main_v69) = v3 c
          ∧ r.2.mem ((c.tc : Thread Cert.GluBwdRefIdeal.nD Cert.GluBwdRefIdeal.τ).loc Cert.GluBwdRefIdeal.main_v88) = v4 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3)
          ∧ r.2.mem ((c.tc : Thread Cert.GluBwdRefIdeal.nD Cert.GluBwdRefIdeal.τ).loc Cert.GluBwdRefIdeal.main_arg4) = m' ((c.tc : Thread Cert.GluBwdRefIdeal.nD Cert.GluBwdRefIdeal.τ).loc Cert.GluBwdRefIdeal.main_arg4)
          ∧ r.2.mem ((c.tc : Thread Cert.GluBwdRefIdeal.nD Cert.GluBwdRefIdeal.τ).loc Cert.GluBwdRefIdeal.main_arg5) = m' ((c.tc : Thread Cert.GluBwdRefIdeal.nD Cert.GluBwdRefIdeal.τ).loc Cert.GluBwdRefIdeal.main_arg5))

def preserves_GluFwd_GluFwdIdeal : Prop :=
  True

def algebraic_GluFwdIdeal_GluFwdRefIdeal [hGluFwdIdeal : Cert.GluFwdIdeal.Facts] [hGluFwdRefIdeal : Cert.GluFwdRefIdeal.Facts] : Prop :=
  ∀ (m : (ℓ : Loc Cert.GluFwdIdeal.nD Cert.GluFwdIdeal.τ Cert.GluFwdIdeal.sig) → Buf (Elt Ideal) ℓ) (g : Dev Cert.GluFwdIdeal.nD → PrngReg)
    (m' : (ℓ : Loc Cert.GluFwdRefIdeal.nD Cert.GluFwdRefIdeal.τ Cert.GluFwdRefIdeal.sig) → Buf (Elt Ideal) ℓ) (g' : Dev Cert.GluFwdRefIdeal.nD → PrngReg), Pre_GluFwdIdeal m →
    (∀ c : Dev Cert.GluFwdIdeal.nD,
      m' ((c.tc : Thread Cert.GluFwdRefIdeal.nD Cert.GluFwdRefIdeal.τ).loc Cert.GluFwdRefIdeal.main_arg0) = m ((c.tc : Thread Cert.GluFwdIdeal.nD Cert.GluFwdIdeal.τ).loc Cert.GluFwdIdeal.main_arg0)
      ∧ m' ((c.tc : Thread Cert.GluFwdRefIdeal.nD Cert.GluFwdRefIdeal.τ).loc Cert.GluFwdRefIdeal.main_arg1) = m ((c.tc : Thread Cert.GluFwdIdeal.nD Cert.GluFwdIdeal.τ).loc Cert.GluFwdIdeal.main_arg1)
      ∧ m' ((c.tc : Thread Cert.GluFwdRefIdeal.nD Cert.GluFwdRefIdeal.τ).loc Cert.GluFwdRefIdeal.main_arg2) = m ((c.tc : Thread Cert.GluFwdIdeal.nD Cert.GluFwdIdeal.τ).loc Cert.GluFwdIdeal.main_arg2)
      ∧ m' ((c.tc : Thread Cert.GluFwdRefIdeal.nD Cert.GluFwdRefIdeal.τ).loc Cert.GluFwdRefIdeal.main_arg3) = m ((c.tc : Thread Cert.GluFwdIdeal.nD Cert.GluFwdIdeal.τ).loc Cert.GluFwdIdeal.main_arg3)
      ∧ m' ((c.tc : Thread Cert.GluFwdRefIdeal.nD Cert.GluFwdRefIdeal.τ).loc Cert.GluFwdRefIdeal.main_arg4) = m ((c.tc : Thread Cert.GluFwdIdeal.nD Cert.GluFwdIdeal.τ).loc Cert.GluFwdIdeal.main_arg4)) →
    ∃ (v0 : (c : Dev Cert.GluFwdIdeal.nD) → Buf (Elt Ideal) ((c.tc : Thread Cert.GluFwdIdeal.nD Cert.GluFwdIdeal.τ).loc Cert.GluFwdIdeal.main_v1)),
      θ_run (Cert.GluFwdIdeal.defs (F := Ideal)) (onTc (τ := Cert.GluFwdIdeal.τ) (Cert.GluFwdIdeal.main (F := Ideal))) ⟨m, fun _ => 0, g⟩ (fun r => ∀ c : Dev Cert.GluFwdIdeal.nD,
          r.2.mem ((c.tc : Thread Cert.GluFwdIdeal.nD Cert.GluFwdIdeal.τ).loc Cert.GluFwdIdeal.main_v1) = v0 c
          ∧ r.2.mem ((c.tc : Thread Cert.GluFwdIdeal.nD Cert.GluFwdIdeal.τ).loc Cert.GluFwdIdeal.main_arg0) = m ((c.tc : Thread Cert.GluFwdIdeal.nD Cert.GluFwdIdeal.τ).loc Cert.GluFwdIdeal.main_arg0)
          ∧ r.2.mem ((c.tc : Thread Cert.GluFwdIdeal.nD Cert.GluFwdIdeal.τ).loc Cert.GluFwdIdeal.main_arg1) = m ((c.tc : Thread Cert.GluFwdIdeal.nD Cert.GluFwdIdeal.τ).loc Cert.GluFwdIdeal.main_arg1)
          ∧ r.2.mem ((c.tc : Thread Cert.GluFwdIdeal.nD Cert.GluFwdIdeal.τ).loc Cert.GluFwdIdeal.main_arg2) = m ((c.tc : Thread Cert.GluFwdIdeal.nD Cert.GluFwdIdeal.τ).loc Cert.GluFwdIdeal.main_arg2)
          ∧ r.2.mem ((c.tc : Thread Cert.GluFwdIdeal.nD Cert.GluFwdIdeal.τ).loc Cert.GluFwdIdeal.main_arg3) = m ((c.tc : Thread Cert.GluFwdIdeal.nD Cert.GluFwdIdeal.τ).loc Cert.GluFwdIdeal.main_arg3)
          ∧ r.2.mem ((c.tc : Thread Cert.GluFwdIdeal.nD Cert.GluFwdIdeal.τ).loc Cert.GluFwdIdeal.main_arg4) = m ((c.tc : Thread Cert.GluFwdIdeal.nD Cert.GluFwdIdeal.τ).loc Cert.GluFwdIdeal.main_arg4))
      ∧ θ_run (Cert.GluFwdRefIdeal.defs (F := Ideal)) (onTc (τ := Cert.GluFwdRefIdeal.τ) (Cert.GluFwdRefIdeal.main (F := Ideal))) ⟨m', fun _ => 0, g'⟩ (fun r => ∀ c : Dev Cert.GluFwdRefIdeal.nD,
          r.2.mem ((c.tc : Thread Cert.GluFwdRefIdeal.nD Cert.GluFwdRefIdeal.τ).loc Cert.GluFwdRefIdeal.main_v30) = v0 c
          ∧ r.2.mem ((c.tc : Thread Cert.GluFwdRefIdeal.nD Cert.GluFwdRefIdeal.τ).loc Cert.GluFwdRefIdeal.main_arg0) = m' ((c.tc : Thread Cert.GluFwdRefIdeal.nD Cert.GluFwdRefIdeal.τ).loc Cert.GluFwdRefIdeal.main_arg0)
          ∧ r.2.mem ((c.tc : Thread Cert.GluFwdRefIdeal.nD Cert.GluFwdRefIdeal.τ).loc Cert.GluFwdRefIdeal.main_arg1) = m' ((c.tc : Thread Cert.GluFwdRefIdeal.nD Cert.GluFwdRefIdeal.τ).loc Cert.GluFwdRefIdeal.main_arg1)
          ∧ r.2.mem ((c.tc : Thread Cert.GluFwdRefIdeal.nD Cert.GluFwdRefIdeal.τ).loc Cert.GluFwdRefIdeal.main_arg2) = m' ((c.tc : Thread Cert.GluFwdRefIdeal.nD Cert.GluFwdRefIdeal.τ).loc Cert.GluFwdRefIdeal.main_arg2)
          ∧ r.2.mem ((c.tc : Thread Cert.GluFwdRefIdeal.nD Cert.GluFwdRefIdeal.τ).loc Cert.GluFwdRefIdeal.main_arg3) = m' ((c.tc : Thread Cert.GluFwdRefIdeal.nD Cert.GluFwdRefIdeal.τ).loc Cert.GluFwdRefIdeal.main_arg3)
          ∧ r.2.mem ((c.tc : Thread Cert.GluFwdRefIdeal.nD Cert.GluFwdRefIdeal.τ).loc Cert.GluFwdRefIdeal.main_arg4) = m' ((c.tc : Thread Cert.GluFwdRefIdeal.nD Cert.GluFwdRefIdeal.τ).loc Cert.GluFwdRefIdeal.main_arg4))

def preserves_BranchMergeBwd_BranchMergeBwdIdeal : Prop :=
  True

def algebraic_BranchMergeBwdIdeal_BranchMergeBwdRefIdeal [hBranchMergeBwdIdeal : Cert.BranchMergeBwdIdeal.Facts] [hBranchMergeBwdRefIdeal : Cert.BranchMergeBwdRefIdeal.Facts] : Prop :=
  ∀ (m : (ℓ : Loc Cert.BranchMergeBwdIdeal.nD Cert.BranchMergeBwdIdeal.τ Cert.BranchMergeBwdIdeal.sig) → Buf (Elt Ideal) ℓ) (g : Dev Cert.BranchMergeBwdIdeal.nD → PrngReg)
    (m' : (ℓ : Loc Cert.BranchMergeBwdRefIdeal.nD Cert.BranchMergeBwdRefIdeal.τ Cert.BranchMergeBwdRefIdeal.sig) → Buf (Elt Ideal) ℓ) (g' : Dev Cert.BranchMergeBwdRefIdeal.nD → PrngReg), Pre_BranchMergeBwdIdeal m →
    (∀ c : Dev Cert.BranchMergeBwdIdeal.nD,
      m' ((c.tc : Thread Cert.BranchMergeBwdRefIdeal.nD Cert.BranchMergeBwdRefIdeal.τ).loc Cert.BranchMergeBwdRefIdeal.main_arg0) = m ((c.tc : Thread Cert.BranchMergeBwdIdeal.nD Cert.BranchMergeBwdIdeal.τ).loc Cert.BranchMergeBwdIdeal.main_arg0)
      ∧ m' ((c.tc : Thread Cert.BranchMergeBwdRefIdeal.nD Cert.BranchMergeBwdRefIdeal.τ).loc Cert.BranchMergeBwdRefIdeal.main_arg1) = m ((c.tc : Thread Cert.BranchMergeBwdIdeal.nD Cert.BranchMergeBwdIdeal.τ).loc Cert.BranchMergeBwdIdeal.main_arg1)
      ∧ m' ((c.tc : Thread Cert.BranchMergeBwdRefIdeal.nD Cert.BranchMergeBwdRefIdeal.τ).loc Cert.BranchMergeBwdRefIdeal.main_arg2) = m ((c.tc : Thread Cert.BranchMergeBwdIdeal.nD Cert.BranchMergeBwdIdeal.τ).loc Cert.BranchMergeBwdIdeal.main_arg2)
      ∧ m' ((c.tc : Thread Cert.BranchMergeBwdRefIdeal.nD Cert.BranchMergeBwdRefIdeal.τ).loc Cert.BranchMergeBwdRefIdeal.main_arg3) = m ((c.tc : Thread Cert.BranchMergeBwdIdeal.nD Cert.BranchMergeBwdIdeal.τ).loc Cert.BranchMergeBwdIdeal.main_arg3)
      ∧ m' ((c.tc : Thread Cert.BranchMergeBwdRefIdeal.nD Cert.BranchMergeBwdRefIdeal.τ).loc Cert.BranchMergeBwdRefIdeal.main_arg4) = m ((c.tc : Thread Cert.BranchMergeBwdIdeal.nD Cert.BranchMergeBwdIdeal.τ).loc Cert.BranchMergeBwdIdeal.main_arg4)
      ∧ m' ((c.tc : Thread Cert.BranchMergeBwdRefIdeal.nD Cert.BranchMergeBwdRefIdeal.τ).loc Cert.BranchMergeBwdRefIdeal.main_arg5) = m ((c.tc : Thread Cert.BranchMergeBwdIdeal.nD Cert.BranchMergeBwdIdeal.τ).loc Cert.BranchMergeBwdIdeal.main_arg5)
      ∧ m' ((c.tc : Thread Cert.BranchMergeBwdRefIdeal.nD Cert.BranchMergeBwdRefIdeal.τ).loc Cert.BranchMergeBwdRefIdeal.main_arg6) = m ((c.tc : Thread Cert.BranchMergeBwdIdeal.nD Cert.BranchMergeBwdIdeal.τ).loc Cert.BranchMergeBwdIdeal.main_arg6)
      ∧ m' ((c.tc : Thread Cert.BranchMergeBwdRefIdeal.nD Cert.BranchMergeBwdRefIdeal.τ).loc Cert.BranchMergeBwdRefIdeal.main_arg7) = m ((c.tc : Thread Cert.BranchMergeBwdIdeal.nD Cert.BranchMergeBwdIdeal.τ).loc Cert.BranchMergeBwdIdeal.main_arg7)
      ∧ m' ((c.tc : Thread Cert.BranchMergeBwdRefIdeal.nD Cert.BranchMergeBwdRefIdeal.τ).loc Cert.BranchMergeBwdRefIdeal.main_arg8) = m ((c.tc : Thread Cert.BranchMergeBwdIdeal.nD Cert.BranchMergeBwdIdeal.τ).loc Cert.BranchMergeBwdIdeal.main_arg8)) →
    ∃ (v0 : (c : Dev Cert.BranchMergeBwdIdeal.nD) → Buf (Elt Ideal) ((c.tc : Thread Cert.BranchMergeBwdIdeal.nD Cert.BranchMergeBwdIdeal.τ).loc Cert.BranchMergeBwdIdeal.main_v6_0)) (v1 : (c : Dev Cert.BranchMergeBwdIdeal.nD) → Buf (Elt Ideal) ((c.tc : Thread Cert.BranchMergeBwdIdeal.nD Cert.BranchMergeBwdIdeal.τ).loc Cert.BranchMergeBwdIdeal.main_v6_1)) (v2 : (c : Dev Cert.BranchMergeBwdIdeal.nD) → Buf (Elt Ideal) ((c.tc : Thread Cert.BranchMergeBwdIdeal.nD Cert.BranchMergeBwdIdeal.τ).loc Cert.BranchMergeBwdIdeal.main_v6_2)) (v3 : (c : Dev Cert.BranchMergeBwdIdeal.nD) → Buf (Elt Ideal) ((c.tc : Thread Cert.BranchMergeBwdIdeal.nD Cert.BranchMergeBwdIdeal.τ).loc Cert.BranchMergeBwdIdeal.main_v6_3)) (v4 : (c : Dev Cert.BranchMergeBwdIdeal.nD) → Buf (Elt Ideal) ((c.tc : Thread Cert.BranchMergeBwdIdeal.nD Cert.BranchMergeBwdIdeal.τ).loc Cert.BranchMergeBwdIdeal.main_v6_4)) (v5 : (c : Dev Cert.BranchMergeBwdIdeal.nD) → Buf (Elt Ideal) ((c.tc : Thread Cert.BranchMergeBwdIdeal.nD Cert.BranchMergeBwdIdeal.τ).loc Cert.BranchMergeBwdIdeal.main_v6_5)) (v6 : (c : Dev Cert.BranchMergeBwdIdeal.nD) → Buf (Elt Ideal) ((c.tc : Thread Cert.BranchMergeBwdIdeal.nD Cert.BranchMergeBwdIdeal.τ).loc Cert.BranchMergeBwdIdeal.main_v6_6)) (v7 : (c : Dev Cert.BranchMergeBwdIdeal.nD) → Buf (Elt Ideal) ((c.tc : Thread Cert.BranchMergeBwdIdeal.nD Cert.BranchMergeBwdIdeal.τ).loc Cert.BranchMergeBwdIdeal.main_v6_7)),
      θ_run (Cert.BranchMergeBwdIdeal.defs (F := Ideal)) (onTc (τ := Cert.BranchMergeBwdIdeal.τ) (Cert.BranchMergeBwdIdeal.main (F := Ideal))) ⟨m, fun _ => 0, g⟩ (fun r => ∀ c : Dev Cert.BranchMergeBwdIdeal.nD,
          r.2.mem ((c.tc : Thread Cert.BranchMergeBwdIdeal.nD Cert.BranchMergeBwdIdeal.τ).loc Cert.BranchMergeBwdIdeal.main_v6_0) = v0 c
          ∧ r.2.mem ((c.tc : Thread Cert.BranchMergeBwdIdeal.nD Cert.BranchMergeBwdIdeal.τ).loc Cert.BranchMergeBwdIdeal.main_v6_1) = v1 c
          ∧ r.2.mem ((c.tc : Thread Cert.BranchMergeBwdIdeal.nD Cert.BranchMergeBwdIdeal.τ).loc Cert.BranchMergeBwdIdeal.main_v6_2) = v2 c
          ∧ r.2.mem ((c.tc : Thread Cert.BranchMergeBwdIdeal.nD Cert.BranchMergeBwdIdeal.τ).loc Cert.BranchMergeBwdIdeal.main_v6_3) = v3 c
          ∧ r.2.mem ((c.tc : Thread Cert.BranchMergeBwdIdeal.nD Cert.BranchMergeBwdIdeal.τ).loc Cert.BranchMergeBwdIdeal.main_v6_4) = v4 c
          ∧ r.2.mem ((c.tc : Thread Cert.BranchMergeBwdIdeal.nD Cert.BranchMergeBwdIdeal.τ).loc Cert.BranchMergeBwdIdeal.main_v6_5) = v5 c
          ∧ r.2.mem ((c.tc : Thread Cert.BranchMergeBwdIdeal.nD Cert.BranchMergeBwdIdeal.τ).loc Cert.BranchMergeBwdIdeal.main_v6_6) = v6 c
          ∧ r.2.mem ((c.tc : Thread Cert.BranchMergeBwdIdeal.nD Cert.BranchMergeBwdIdeal.τ).loc Cert.BranchMergeBwdIdeal.main_v6_7) = v7 c
          ∧ r.2.mem ((c.tc : Thread Cert.BranchMergeBwdIdeal.nD Cert.BranchMergeBwdIdeal.τ).loc Cert.BranchMergeBwdIdeal.main_arg0) = m ((c.tc : Thread Cert.BranchMergeBwdIdeal.nD Cert.BranchMergeBwdIdeal.τ).loc Cert.BranchMergeBwdIdeal.main_arg0)
          ∧ r.2.mem ((c.tc : Thread Cert.BranchMergeBwdIdeal.nD Cert.BranchMergeBwdIdeal.τ).loc Cert.BranchMergeBwdIdeal.main_arg1) = m ((c.tc : Thread Cert.BranchMergeBwdIdeal.nD Cert.BranchMergeBwdIdeal.τ).loc Cert.BranchMergeBwdIdeal.main_arg1)
          ∧ r.2.mem ((c.tc : Thread Cert.BranchMergeBwdIdeal.nD Cert.BranchMergeBwdIdeal.τ).loc Cert.BranchMergeBwdIdeal.main_arg2) = m ((c.tc : Thread Cert.BranchMergeBwdIdeal.nD Cert.BranchMergeBwdIdeal.τ).loc Cert.BranchMergeBwdIdeal.main_arg2)
          ∧ r.2.mem ((c.tc : Thread Cert.BranchMergeBwdIdeal.nD Cert.BranchMergeBwdIdeal.τ).loc Cert.BranchMergeBwdIdeal.main_arg3) = m ((c.tc : Thread Cert.BranchMergeBwdIdeal.nD Cert.BranchMergeBwdIdeal.τ).loc Cert.BranchMergeBwdIdeal.main_arg3)
          ∧ r.2.mem ((c.tc : Thread Cert.BranchMergeBwdIdeal.nD Cert.BranchMergeBwdIdeal.τ).loc Cert.BranchMergeBwdIdeal.main_arg4) = m ((c.tc : Thread Cert.BranchMergeBwdIdeal.nD Cert.BranchMergeBwdIdeal.τ).loc Cert.BranchMergeBwdIdeal.main_arg4)
          ∧ r.2.mem ((c.tc : Thread Cert.BranchMergeBwdIdeal.nD Cert.BranchMergeBwdIdeal.τ).loc Cert.BranchMergeBwdIdeal.main_arg5) = m ((c.tc : Thread Cert.BranchMergeBwdIdeal.nD Cert.BranchMergeBwdIdeal.τ).loc Cert.BranchMergeBwdIdeal.main_arg5)
          ∧ r.2.mem ((c.tc : Thread Cert.BranchMergeBwdIdeal.nD Cert.BranchMergeBwdIdeal.τ).loc Cert.BranchMergeBwdIdeal.main_arg6) = m ((c.tc : Thread Cert.BranchMergeBwdIdeal.nD Cert.BranchMergeBwdIdeal.τ).loc Cert.BranchMergeBwdIdeal.main_arg6)
          ∧ r.2.mem ((c.tc : Thread Cert.BranchMergeBwdIdeal.nD Cert.BranchMergeBwdIdeal.τ).loc Cert.BranchMergeBwdIdeal.main_arg7) = m ((c.tc : Thread Cert.BranchMergeBwdIdeal.nD Cert.BranchMergeBwdIdeal.τ).loc Cert.BranchMergeBwdIdeal.main_arg7)
          ∧ r.2.mem ((c.tc : Thread Cert.BranchMergeBwdIdeal.nD Cert.BranchMergeBwdIdeal.τ).loc Cert.BranchMergeBwdIdeal.main_arg8) = m ((c.tc : Thread Cert.BranchMergeBwdIdeal.nD Cert.BranchMergeBwdIdeal.τ).loc Cert.BranchMergeBwdIdeal.main_arg8))
      ∧ θ_run (Cert.BranchMergeBwdRefIdeal.defs (F := Ideal)) (onTc (τ := Cert.BranchMergeBwdRefIdeal.τ) (Cert.BranchMergeBwdRefIdeal.main (F := Ideal))) ⟨m', fun _ => 0, g'⟩ (fun r => ∀ c : Dev Cert.BranchMergeBwdRefIdeal.nD,
          r.2.mem ((c.tc : Thread Cert.BranchMergeBwdRefIdeal.nD Cert.BranchMergeBwdRefIdeal.τ).loc Cert.BranchMergeBwdRefIdeal.main_v50) = v0 c
          ∧ r.2.mem ((c.tc : Thread Cert.BranchMergeBwdRefIdeal.nD Cert.BranchMergeBwdRefIdeal.τ).loc Cert.BranchMergeBwdRefIdeal.main_v42) = v1 c
          ∧ r.2.mem ((c.tc : Thread Cert.BranchMergeBwdRefIdeal.nD Cert.BranchMergeBwdRefIdeal.τ).loc Cert.BranchMergeBwdRefIdeal.main_v35) = v2 c
          ∧ r.2.mem ((c.tc : Thread Cert.BranchMergeBwdRefIdeal.nD Cert.BranchMergeBwdRefIdeal.τ).loc Cert.BranchMergeBwdRefIdeal.main_v60) = v3 c
          ∧ r.2.mem ((c.tc : Thread Cert.BranchMergeBwdRefIdeal.nD Cert.BranchMergeBwdRefIdeal.τ).loc Cert.BranchMergeBwdRefIdeal.main_v61) = v4 c
          ∧ r.2.mem ((c.tc : Thread Cert.BranchMergeBwdRefIdeal.nD Cert.BranchMergeBwdRefIdeal.τ).loc Cert.BranchMergeBwdRefIdeal.main_v62) = v5 c
          ∧ r.2.mem ((c.tc : Thread Cert.BranchMergeBwdRefIdeal.nD Cert.BranchMergeBwdRefIdeal.τ).loc Cert.BranchMergeBwdRefIdeal.main_v63) = v6 c
          ∧ r.2.mem ((c.tc : Thread Cert.BranchMergeBwdRefIdeal.nD Cert.BranchMergeBwdRefIdeal.τ).loc Cert.BranchMergeBwdRefIdeal.main_v59) = v7 c
          ∧ r.2.mem ((c.tc : Thread Cert.BranchMergeBwdRefIdeal.nD Cert.BranchMergeBwdRefIdeal.τ).loc Cert.BranchMergeBwdRefIdeal.main_arg0) = m' ((c.tc : Thread Cert.BranchMergeBwdRefIdeal.nD Cert.BranchMergeBwdRefIdeal.τ).loc Cert.BranchMergeBwdRefIdeal.main_arg0)
          ∧ r.2.mem ((c.tc : Thread Cert.BranchMergeBwdRefIdeal.nD Cert.BranchMergeBwdRefIdeal.τ).loc Cert.BranchMergeBwdRefIdeal.main_arg1) = m' ((c.tc : Thread Cert.BranchMergeBwdRefIdeal.nD Cert.BranchMergeBwdRefIdeal.τ).loc Cert.BranchMergeBwdRefIdeal.main_arg1)
          ∧ r.2.mem ((c.tc : Thread Cert.BranchMergeBwdRefIdeal.nD Cert.BranchMergeBwdRefIdeal.τ).loc Cert.BranchMergeBwdRefIdeal.main_arg2) = m' ((c.tc : Thread Cert.BranchMergeBwdRefIdeal.nD Cert.BranchMergeBwdRefIdeal.τ).loc Cert.BranchMergeBwdRefIdeal.main_arg2)
          ∧ r.2.mem ((c.tc : Thread Cert.BranchMergeBwdRefIdeal.nD Cert.BranchMergeBwdRefIdeal.τ).loc Cert.BranchMergeBwdRefIdeal.main_arg3) = m' ((c.tc : Thread Cert.BranchMergeBwdRefIdeal.nD Cert.BranchMergeBwdRefIdeal.τ).loc Cert.BranchMergeBwdRefIdeal.main_arg3)
          ∧ r.2.mem ((c.tc : Thread Cert.BranchMergeBwdRefIdeal.nD Cert.BranchMergeBwdRefIdeal.τ).loc Cert.BranchMergeBwdRefIdeal.main_arg4) = m' ((c.tc : Thread Cert.BranchMergeBwdRefIdeal.nD Cert.BranchMergeBwdRefIdeal.τ).loc Cert.BranchMergeBwdRefIdeal.main_arg4)
          ∧ r.2.mem ((c.tc : Thread Cert.BranchMergeBwdRefIdeal.nD Cert.BranchMergeBwdRefIdeal.τ).loc Cert.BranchMergeBwdRefIdeal.main_arg5) = m' ((c.tc : Thread Cert.BranchMergeBwdRefIdeal.nD Cert.BranchMergeBwdRefIdeal.τ).loc Cert.BranchMergeBwdRefIdeal.main_arg5)
          ∧ r.2.mem ((c.tc : Thread Cert.BranchMergeBwdRefIdeal.nD Cert.BranchMergeBwdRefIdeal.τ).loc Cert.BranchMergeBwdRefIdeal.main_arg6) = m' ((c.tc : Thread Cert.BranchMergeBwdRefIdeal.nD Cert.BranchMergeBwdRefIdeal.τ).loc Cert.BranchMergeBwdRefIdeal.main_arg6)
          ∧ r.2.mem ((c.tc : Thread Cert.BranchMergeBwdRefIdeal.nD Cert.BranchMergeBwdRefIdeal.τ).loc Cert.BranchMergeBwdRefIdeal.main_arg7) = m' ((c.tc : Thread Cert.BranchMergeBwdRefIdeal.nD Cert.BranchMergeBwdRefIdeal.τ).loc Cert.BranchMergeBwdRefIdeal.main_arg7)
          ∧ r.2.mem ((c.tc : Thread Cert.BranchMergeBwdRefIdeal.nD Cert.BranchMergeBwdRefIdeal.τ).loc Cert.BranchMergeBwdRefIdeal.main_arg8) = m' ((c.tc : Thread Cert.BranchMergeBwdRefIdeal.nD Cert.BranchMergeBwdRefIdeal.τ).loc Cert.BranchMergeBwdRefIdeal.main_arg8))

def preserves_BranchMergeFwd_BranchMergeFwdIdeal : Prop :=
  True

def algebraic_BranchMergeFwdIdeal_BranchMergeFwdRefIdeal [hBranchMergeFwdIdeal : Cert.BranchMergeFwdIdeal.Facts] [hBranchMergeFwdRefIdeal : Cert.BranchMergeFwdRefIdeal.Facts] : Prop :=
  ∀ (m : (ℓ : Loc Cert.BranchMergeFwdIdeal.nD Cert.BranchMergeFwdIdeal.τ Cert.BranchMergeFwdIdeal.sig) → Buf (Elt Ideal) ℓ) (g : Dev Cert.BranchMergeFwdIdeal.nD → PrngReg)
    (m' : (ℓ : Loc Cert.BranchMergeFwdRefIdeal.nD Cert.BranchMergeFwdRefIdeal.τ Cert.BranchMergeFwdRefIdeal.sig) → Buf (Elt Ideal) ℓ) (g' : Dev Cert.BranchMergeFwdRefIdeal.nD → PrngReg), Pre_BranchMergeFwdIdeal m →
    (∀ c : Dev Cert.BranchMergeFwdIdeal.nD,
      m' ((c.tc : Thread Cert.BranchMergeFwdRefIdeal.nD Cert.BranchMergeFwdRefIdeal.τ).loc Cert.BranchMergeFwdRefIdeal.main_arg0) = m ((c.tc : Thread Cert.BranchMergeFwdIdeal.nD Cert.BranchMergeFwdIdeal.τ).loc Cert.BranchMergeFwdIdeal.main_arg0)
      ∧ m' ((c.tc : Thread Cert.BranchMergeFwdRefIdeal.nD Cert.BranchMergeFwdRefIdeal.τ).loc Cert.BranchMergeFwdRefIdeal.main_arg1) = m ((c.tc : Thread Cert.BranchMergeFwdIdeal.nD Cert.BranchMergeFwdIdeal.τ).loc Cert.BranchMergeFwdIdeal.main_arg1)
      ∧ m' ((c.tc : Thread Cert.BranchMergeFwdRefIdeal.nD Cert.BranchMergeFwdRefIdeal.τ).loc Cert.BranchMergeFwdRefIdeal.main_arg2) = m ((c.tc : Thread Cert.BranchMergeFwdIdeal.nD Cert.BranchMergeFwdIdeal.τ).loc Cert.BranchMergeFwdIdeal.main_arg2)
      ∧ m' ((c.tc : Thread Cert.BranchMergeFwdRefIdeal.nD Cert.BranchMergeFwdRefIdeal.τ).loc Cert.BranchMergeFwdRefIdeal.main_arg3) = m ((c.tc : Thread Cert.BranchMergeFwdIdeal.nD Cert.BranchMergeFwdIdeal.τ).loc Cert.BranchMergeFwdIdeal.main_arg3)
      ∧ m' ((c.tc : Thread Cert.BranchMergeFwdRefIdeal.nD Cert.BranchMergeFwdRefIdeal.τ).loc Cert.BranchMergeFwdRefIdeal.main_arg4) = m ((c.tc : Thread Cert.BranchMergeFwdIdeal.nD Cert.BranchMergeFwdIdeal.τ).loc Cert.BranchMergeFwdIdeal.main_arg4)
      ∧ m' ((c.tc : Thread Cert.BranchMergeFwdRefIdeal.nD Cert.BranchMergeFwdRefIdeal.τ).loc Cert.BranchMergeFwdRefIdeal.main_arg5) = m ((c.tc : Thread Cert.BranchMergeFwdIdeal.nD Cert.BranchMergeFwdIdeal.τ).loc Cert.BranchMergeFwdIdeal.main_arg5)
      ∧ m' ((c.tc : Thread Cert.BranchMergeFwdRefIdeal.nD Cert.BranchMergeFwdRefIdeal.τ).loc Cert.BranchMergeFwdRefIdeal.main_arg6) = m ((c.tc : Thread Cert.BranchMergeFwdIdeal.nD Cert.BranchMergeFwdIdeal.τ).loc Cert.BranchMergeFwdIdeal.main_arg6)
      ∧ m' ((c.tc : Thread Cert.BranchMergeFwdRefIdeal.nD Cert.BranchMergeFwdRefIdeal.τ).loc Cert.BranchMergeFwdRefIdeal.main_arg7) = m ((c.tc : Thread Cert.BranchMergeFwdIdeal.nD Cert.BranchMergeFwdIdeal.τ).loc Cert.BranchMergeFwdIdeal.main_arg7)) →
    ∃ (v0 : (c : Dev Cert.BranchMergeFwdIdeal.nD) → Buf (Elt Ideal) ((c.tc : Thread Cert.BranchMergeFwdIdeal.nD Cert.BranchMergeFwdIdeal.τ).loc Cert.BranchMergeFwdIdeal.main_v6)),
      θ_run (Cert.BranchMergeFwdIdeal.defs (F := Ideal)) (onTc (τ := Cert.BranchMergeFwdIdeal.τ) (Cert.BranchMergeFwdIdeal.main (F := Ideal))) ⟨m, fun _ => 0, g⟩ (fun r => ∀ c : Dev Cert.BranchMergeFwdIdeal.nD,
          r.2.mem ((c.tc : Thread Cert.BranchMergeFwdIdeal.nD Cert.BranchMergeFwdIdeal.τ).loc Cert.BranchMergeFwdIdeal.main_v6) = v0 c
          ∧ r.2.mem ((c.tc : Thread Cert.BranchMergeFwdIdeal.nD Cert.BranchMergeFwdIdeal.τ).loc Cert.BranchMergeFwdIdeal.main_arg0) = m ((c.tc : Thread Cert.BranchMergeFwdIdeal.nD Cert.BranchMergeFwdIdeal.τ).loc Cert.BranchMergeFwdIdeal.main_arg0)
          ∧ r.2.mem ((c.tc : Thread Cert.BranchMergeFwdIdeal.nD Cert.BranchMergeFwdIdeal.τ).loc Cert.BranchMergeFwdIdeal.main_arg1) = m ((c.tc : Thread Cert.BranchMergeFwdIdeal.nD Cert.BranchMergeFwdIdeal.τ).loc Cert.BranchMergeFwdIdeal.main_arg1)
          ∧ r.2.mem ((c.tc : Thread Cert.BranchMergeFwdIdeal.nD Cert.BranchMergeFwdIdeal.τ).loc Cert.BranchMergeFwdIdeal.main_arg2) = m ((c.tc : Thread Cert.BranchMergeFwdIdeal.nD Cert.BranchMergeFwdIdeal.τ).loc Cert.BranchMergeFwdIdeal.main_arg2)
          ∧ r.2.mem ((c.tc : Thread Cert.BranchMergeFwdIdeal.nD Cert.BranchMergeFwdIdeal.τ).loc Cert.BranchMergeFwdIdeal.main_arg3) = m ((c.tc : Thread Cert.BranchMergeFwdIdeal.nD Cert.BranchMergeFwdIdeal.τ).loc Cert.BranchMergeFwdIdeal.main_arg3)
          ∧ r.2.mem ((c.tc : Thread Cert.BranchMergeFwdIdeal.nD Cert.BranchMergeFwdIdeal.τ).loc Cert.BranchMergeFwdIdeal.main_arg4) = m ((c.tc : Thread Cert.BranchMergeFwdIdeal.nD Cert.BranchMergeFwdIdeal.τ).loc Cert.BranchMergeFwdIdeal.main_arg4)
          ∧ r.2.mem ((c.tc : Thread Cert.BranchMergeFwdIdeal.nD Cert.BranchMergeFwdIdeal.τ).loc Cert.BranchMergeFwdIdeal.main_arg5) = m ((c.tc : Thread Cert.BranchMergeFwdIdeal.nD Cert.BranchMergeFwdIdeal.τ).loc Cert.BranchMergeFwdIdeal.main_arg5)
          ∧ r.2.mem ((c.tc : Thread Cert.BranchMergeFwdIdeal.nD Cert.BranchMergeFwdIdeal.τ).loc Cert.BranchMergeFwdIdeal.main_arg6) = m ((c.tc : Thread Cert.BranchMergeFwdIdeal.nD Cert.BranchMergeFwdIdeal.τ).loc Cert.BranchMergeFwdIdeal.main_arg6)
          ∧ r.2.mem ((c.tc : Thread Cert.BranchMergeFwdIdeal.nD Cert.BranchMergeFwdIdeal.τ).loc Cert.BranchMergeFwdIdeal.main_arg7) = m ((c.tc : Thread Cert.BranchMergeFwdIdeal.nD Cert.BranchMergeFwdIdeal.τ).loc Cert.BranchMergeFwdIdeal.main_arg7))
      ∧ θ_run (Cert.BranchMergeFwdRefIdeal.defs (F := Ideal)) (onTc (τ := Cert.BranchMergeFwdRefIdeal.τ) (Cert.BranchMergeFwdRefIdeal.main (F := Ideal))) ⟨m', fun _ => 0, g'⟩ (fun r => ∀ c : Dev Cert.BranchMergeFwdRefIdeal.nD,
          r.2.mem ((c.tc : Thread Cert.BranchMergeFwdRefIdeal.nD Cert.BranchMergeFwdRefIdeal.τ).loc Cert.BranchMergeFwdRefIdeal.main_v26) = v0 c
          ∧ r.2.mem ((c.tc : Thread Cert.BranchMergeFwdRefIdeal.nD Cert.BranchMergeFwdRefIdeal.τ).loc Cert.BranchMergeFwdRefIdeal.main_arg0) = m' ((c.tc : Thread Cert.BranchMergeFwdRefIdeal.nD Cert.BranchMergeFwdRefIdeal.τ).loc Cert.BranchMergeFwdRefIdeal.main_arg0)
          ∧ r.2.mem ((c.tc : Thread Cert.BranchMergeFwdRefIdeal.nD Cert.BranchMergeFwdRefIdeal.τ).loc Cert.BranchMergeFwdRefIdeal.main_arg1) = m' ((c.tc : Thread Cert.BranchMergeFwdRefIdeal.nD Cert.BranchMergeFwdRefIdeal.τ).loc Cert.BranchMergeFwdRefIdeal.main_arg1)
          ∧ r.2.mem ((c.tc : Thread Cert.BranchMergeFwdRefIdeal.nD Cert.BranchMergeFwdRefIdeal.τ).loc Cert.BranchMergeFwdRefIdeal.main_arg2) = m' ((c.tc : Thread Cert.BranchMergeFwdRefIdeal.nD Cert.BranchMergeFwdRefIdeal.τ).loc Cert.BranchMergeFwdRefIdeal.main_arg2)
          ∧ r.2.mem ((c.tc : Thread Cert.BranchMergeFwdRefIdeal.nD Cert.BranchMergeFwdRefIdeal.τ).loc Cert.BranchMergeFwdRefIdeal.main_arg3) = m' ((c.tc : Thread Cert.BranchMergeFwdRefIdeal.nD Cert.BranchMergeFwdRefIdeal.τ).loc Cert.BranchMergeFwdRefIdeal.main_arg3)
          ∧ r.2.mem ((c.tc : Thread Cert.BranchMergeFwdRefIdeal.nD Cert.BranchMergeFwdRefIdeal.τ).loc Cert.BranchMergeFwdRefIdeal.main_arg4) = m' ((c.tc : Thread Cert.BranchMergeFwdRefIdeal.nD Cert.BranchMergeFwdRefIdeal.τ).loc Cert.BranchMergeFwdRefIdeal.main_arg4)
          ∧ r.2.mem ((c.tc : Thread Cert.BranchMergeFwdRefIdeal.nD Cert.BranchMergeFwdRefIdeal.τ).loc Cert.BranchMergeFwdRefIdeal.main_arg5) = m' ((c.tc : Thread Cert.BranchMergeFwdRefIdeal.nD Cert.BranchMergeFwdRefIdeal.τ).loc Cert.BranchMergeFwdRefIdeal.main_arg5)
          ∧ r.2.mem ((c.tc : Thread Cert.BranchMergeFwdRefIdeal.nD Cert.BranchMergeFwdRefIdeal.τ).loc Cert.BranchMergeFwdRefIdeal.main_arg6) = m' ((c.tc : Thread Cert.BranchMergeFwdRefIdeal.nD Cert.BranchMergeFwdRefIdeal.τ).loc Cert.BranchMergeFwdRefIdeal.main_arg6)
          ∧ r.2.mem ((c.tc : Thread Cert.BranchMergeFwdRefIdeal.nD Cert.BranchMergeFwdRefIdeal.τ).loc Cert.BranchMergeFwdRefIdeal.main_arg7) = m' ((c.tc : Thread Cert.BranchMergeFwdRefIdeal.nD Cert.BranchMergeFwdRefIdeal.τ).loc Cert.BranchMergeFwdRefIdeal.main_arg7))

def preserves_Norm2Bwd_Norm2BwdIdeal : Prop :=
  True

def algebraic_Norm2BwdIdeal_Norm2BwdRefIdeal_pre_norm2_finite [hNorm2BwdIdeal : Cert.Norm2BwdIdeal.Facts] [hNorm2BwdRefIdeal : Cert.Norm2BwdRefIdeal.Facts] [hPre_norm2_finite : Cert.Pre_norm2_finite.Facts] : Prop :=
  ∀ (m : (ℓ : Loc Cert.Norm2BwdIdeal.nD Cert.Norm2BwdIdeal.τ Cert.Norm2BwdIdeal.sig) → Buf (Elt Ideal) ℓ) (g : Dev Cert.Norm2BwdIdeal.nD → PrngReg)
    (m' : (ℓ : Loc Cert.Norm2BwdRefIdeal.nD Cert.Norm2BwdRefIdeal.τ Cert.Norm2BwdRefIdeal.sig) → Buf (Elt Ideal) ℓ) (g' : Dev Cert.Norm2BwdRefIdeal.nD → PrngReg), Pre_Norm2BwdIdeal_norm2_finite m →
    (∀ c : Dev Cert.Norm2BwdIdeal.nD,
      m' ((c.tc : Thread Cert.Norm2BwdRefIdeal.nD Cert.Norm2BwdRefIdeal.τ).loc Cert.Norm2BwdRefIdeal.main_arg0) = m ((c.tc : Thread Cert.Norm2BwdIdeal.nD Cert.Norm2BwdIdeal.τ).loc Cert.Norm2BwdIdeal.main_arg0)
      ∧ m' ((c.tc : Thread Cert.Norm2BwdRefIdeal.nD Cert.Norm2BwdRefIdeal.τ).loc Cert.Norm2BwdRefIdeal.main_arg1) = m ((c.tc : Thread Cert.Norm2BwdIdeal.nD Cert.Norm2BwdIdeal.τ).loc Cert.Norm2BwdIdeal.main_arg1)
      ∧ m' ((c.tc : Thread Cert.Norm2BwdRefIdeal.nD Cert.Norm2BwdRefIdeal.τ).loc Cert.Norm2BwdRefIdeal.main_arg2) = m ((c.tc : Thread Cert.Norm2BwdIdeal.nD Cert.Norm2BwdIdeal.τ).loc Cert.Norm2BwdIdeal.main_arg2)
      ∧ m' ((c.tc : Thread Cert.Norm2BwdRefIdeal.nD Cert.Norm2BwdRefIdeal.τ).loc Cert.Norm2BwdRefIdeal.main_arg3) = m ((c.tc : Thread Cert.Norm2BwdIdeal.nD Cert.Norm2BwdIdeal.τ).loc Cert.Norm2BwdIdeal.main_arg3)
      ∧ m' ((c.tc : Thread Cert.Norm2BwdRefIdeal.nD Cert.Norm2BwdRefIdeal.τ).loc Cert.Norm2BwdRefIdeal.main_arg4) = m ((c.tc : Thread Cert.Norm2BwdIdeal.nD Cert.Norm2BwdIdeal.τ).loc Cert.Norm2BwdIdeal.main_arg4)) →
    ∃ (v0 : (c : Dev Cert.Norm2BwdIdeal.nD) → Buf (Elt Ideal) ((c.tc : Thread Cert.Norm2BwdIdeal.nD Cert.Norm2BwdIdeal.τ).loc Cert.Norm2BwdIdeal.main_v2_0)) (v1 : (c : Dev Cert.Norm2BwdIdeal.nD) → Buf (Elt Ideal) ((c.tc : Thread Cert.Norm2BwdIdeal.nD Cert.Norm2BwdIdeal.τ).loc Cert.Norm2BwdIdeal.main_v2_1)),
      θ_run (Cert.Norm2BwdIdeal.defs (F := Ideal)) (onTc (τ := Cert.Norm2BwdIdeal.τ) (Cert.Norm2BwdIdeal.main (F := Ideal))) ⟨m, fun _ => 0, g⟩ (fun r => ∀ c : Dev Cert.Norm2BwdIdeal.nD,
          r.2.mem ((c.tc : Thread Cert.Norm2BwdIdeal.nD Cert.Norm2BwdIdeal.τ).loc Cert.Norm2BwdIdeal.main_v2_0) = v0 c
          ∧ r.2.mem ((c.tc : Thread Cert.Norm2BwdIdeal.nD Cert.Norm2BwdIdeal.τ).loc Cert.Norm2BwdIdeal.main_v2_1) = v1 c
          ∧ r.2.mem ((c.tc : Thread Cert.Norm2BwdIdeal.nD Cert.Norm2BwdIdeal.τ).loc Cert.Norm2BwdIdeal.main_arg0) = m ((c.tc : Thread Cert.Norm2BwdIdeal.nD Cert.Norm2BwdIdeal.τ).loc Cert.Norm2BwdIdeal.main_arg0)
          ∧ r.2.mem ((c.tc : Thread Cert.Norm2BwdIdeal.nD Cert.Norm2BwdIdeal.τ).loc Cert.Norm2BwdIdeal.main_arg1) = m ((c.tc : Thread Cert.Norm2BwdIdeal.nD Cert.Norm2BwdIdeal.τ).loc Cert.Norm2BwdIdeal.main_arg1)
          ∧ r.2.mem ((c.tc : Thread Cert.Norm2BwdIdeal.nD Cert.Norm2BwdIdeal.τ).loc Cert.Norm2BwdIdeal.main_arg2) = m ((c.tc : Thread Cert.Norm2BwdIdeal.nD Cert.Norm2BwdIdeal.τ).loc Cert.Norm2BwdIdeal.main_arg2)
          ∧ r.2.mem ((c.tc : Thread Cert.Norm2BwdIdeal.nD Cert.Norm2BwdIdeal.τ).loc Cert.Norm2BwdIdeal.main_arg3) = m ((c.tc : Thread Cert.Norm2BwdIdeal.nD Cert.Norm2BwdIdeal.τ).loc Cert.Norm2BwdIdeal.main_arg3)
          ∧ r.2.mem ((c.tc : Thread Cert.Norm2BwdIdeal.nD Cert.Norm2BwdIdeal.τ).loc Cert.Norm2BwdIdeal.main_arg4) = m ((c.tc : Thread Cert.Norm2BwdIdeal.nD Cert.Norm2BwdIdeal.τ).loc Cert.Norm2BwdIdeal.main_arg4))
      ∧ θ_run (Cert.Norm2BwdRefIdeal.defs (F := Ideal)) (onTc (τ := Cert.Norm2BwdRefIdeal.τ) (Cert.Norm2BwdRefIdeal.main (F := Ideal))) ⟨m', fun _ => 0, g'⟩ (fun r => ∀ c : Dev Cert.Norm2BwdRefIdeal.nD,
          r.2.mem ((c.tc : Thread Cert.Norm2BwdRefIdeal.nD Cert.Norm2BwdRefIdeal.τ).loc Cert.Norm2BwdRefIdeal.main_v40) = v0 c
          ∧ r.2.mem ((c.tc : Thread Cert.Norm2BwdRefIdeal.nD Cert.Norm2BwdRefIdeal.τ).loc Cert.Norm2BwdRefIdeal.main_v41) = v1 c
          ∧ r.2.mem ((c.tc : Thread Cert.Norm2BwdRefIdeal.nD Cert.Norm2BwdRefIdeal.τ).loc Cert.Norm2BwdRefIdeal.main_arg0) = m' ((c.tc : Thread Cert.Norm2BwdRefIdeal.nD Cert.Norm2BwdRefIdeal.τ).loc Cert.Norm2BwdRefIdeal.main_arg0)
          ∧ r.2.mem ((c.tc : Thread Cert.Norm2BwdRefIdeal.nD Cert.Norm2BwdRefIdeal.τ).loc Cert.Norm2BwdRefIdeal.main_arg1) = m' ((c.tc : Thread Cert.Norm2BwdRefIdeal.nD Cert.Norm2BwdRefIdeal.τ).loc Cert.Norm2BwdRefIdeal.main_arg1)
          ∧ r.2.mem ((c.tc : Thread Cert.Norm2BwdRefIdeal.nD Cert.Norm2BwdRefIdeal.τ).loc Cert.Norm2BwdRefIdeal.main_arg2) = m' ((c.tc : Thread Cert.Norm2BwdRefIdeal.nD Cert.Norm2BwdRefIdeal.τ).loc Cert.Norm2BwdRefIdeal.main_arg2)
          ∧ r.2.mem ((c.tc : Thread Cert.Norm2BwdRefIdeal.nD Cert.Norm2BwdRefIdeal.τ).loc Cert.Norm2BwdRefIdeal.main_arg3) = m' ((c.tc : Thread Cert.Norm2BwdRefIdeal.nD Cert.Norm2BwdRefIdeal.τ).loc Cert.Norm2BwdRefIdeal.main_arg3)
          ∧ r.2.mem ((c.tc : Thread Cert.Norm2BwdRefIdeal.nD Cert.Norm2BwdRefIdeal.τ).loc Cert.Norm2BwdRefIdeal.main_arg4) = m' ((c.tc : Thread Cert.Norm2BwdRefIdeal.nD Cert.Norm2BwdRefIdeal.τ).loc Cert.Norm2BwdRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1_0)) (v1 : (c : Dev Cert.OutProjIdeal.nD) → Buf (Elt Ideal) ((c.tc : Thread Cert.OutProjIdeal.nD Cert.OutProjIdeal.τ).loc Cert.OutProjIdeal.main_v1_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1_0) = v0 c
          ∧ r.2.mem ((c.tc : Thread Cert.OutProjIdeal.nD Cert.OutProjIdeal.τ).loc Cert.OutProjIdeal.main_v1_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v17) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Norm1Bwd_Norm1BwdIdeal : Prop :=
  True

def algebraic_Norm1BwdIdeal_Norm1BwdRefIdeal_pre_norm1_finite [hNorm1BwdIdeal : Cert.Norm1BwdIdeal.Facts] [hNorm1BwdRefIdeal : Cert.Norm1BwdRefIdeal.Facts] [hPre_norm1_finite : Cert.Pre_norm1_finite.Facts] : Prop :=
  ∀ (m : (ℓ : Loc Cert.Norm1BwdIdeal.nD Cert.Norm1BwdIdeal.τ Cert.Norm1BwdIdeal.sig) → Buf (Elt Ideal) ℓ) (g : Dev Cert.Norm1BwdIdeal.nD → PrngReg)
    (m' : (ℓ : Loc Cert.Norm1BwdRefIdeal.nD Cert.Norm1BwdRefIdeal.τ Cert.Norm1BwdRefIdeal.sig) → Buf (Elt Ideal) ℓ) (g' : Dev Cert.Norm1BwdRefIdeal.nD → PrngReg), Pre_Norm1BwdIdeal_norm1_finite m →
    (∀ c : Dev Cert.Norm1BwdIdeal.nD,
      m' ((c.tc : Thread Cert.Norm1BwdRefIdeal.nD Cert.Norm1BwdRefIdeal.τ).loc Cert.Norm1BwdRefIdeal.main_arg0) = m ((c.tc : Thread Cert.Norm1BwdIdeal.nD Cert.Norm1BwdIdeal.τ).loc Cert.Norm1BwdIdeal.main_arg0)
      ∧ m' ((c.tc : Thread Cert.Norm1BwdRefIdeal.nD Cert.Norm1BwdRefIdeal.τ).loc Cert.Norm1BwdRefIdeal.main_arg1) = m ((c.tc : Thread Cert.Norm1BwdIdeal.nD Cert.Norm1BwdIdeal.τ).loc Cert.Norm1BwdIdeal.main_arg1)
      ∧ m' ((c.tc : Thread Cert.Norm1BwdRefIdeal.nD Cert.Norm1BwdRefIdeal.τ).loc Cert.Norm1BwdRefIdeal.main_arg2) = m ((c.tc : Thread Cert.Norm1BwdIdeal.nD Cert.Norm1BwdIdeal.τ).loc Cert.Norm1BwdIdeal.main_arg2)
      ∧ m' ((c.tc : Thread Cert.Norm1BwdRefIdeal.nD Cert.Norm1BwdRefIdeal.τ).loc Cert.Norm1BwdRefIdeal.main_arg3) = m ((c.tc : Thread Cert.Norm1BwdIdeal.nD Cert.Norm1BwdIdeal.τ).loc Cert.Norm1BwdIdeal.main_arg3)
      ∧ m' ((c.tc : Thread Cert.Norm1BwdRefIdeal.nD Cert.Norm1BwdRefIdeal.τ).loc Cert.Norm1BwdRefIdeal.main_arg4) = m ((c.tc : Thread Cert.Norm1BwdIdeal.nD Cert.Norm1BwdIdeal.τ).loc Cert.Norm1BwdIdeal.main_arg4)
      ∧ m' ((c.tc : Thread Cert.Norm1BwdRefIdeal.nD Cert.Norm1BwdRefIdeal.τ).loc Cert.Norm1BwdRefIdeal.main_arg5) = m ((c.tc : Thread Cert.Norm1BwdIdeal.nD Cert.Norm1BwdIdeal.τ).loc Cert.Norm1BwdIdeal.main_arg5)
      ∧ m' ((c.tc : Thread Cert.Norm1BwdRefIdeal.nD Cert.Norm1BwdRefIdeal.τ).loc Cert.Norm1BwdRefIdeal.main_arg6) = m ((c.tc : Thread Cert.Norm1BwdIdeal.nD Cert.Norm1BwdIdeal.τ).loc Cert.Norm1BwdIdeal.main_arg6)
      ∧ m' ((c.tc : Thread Cert.Norm1BwdRefIdeal.nD Cert.Norm1BwdRefIdeal.τ).loc Cert.Norm1BwdRefIdeal.main_arg7) = m ((c.tc : Thread Cert.Norm1BwdIdeal.nD Cert.Norm1BwdIdeal.τ).loc Cert.Norm1BwdIdeal.main_arg7)
      ∧ m' ((c.tc : Thread Cert.Norm1BwdRefIdeal.nD Cert.Norm1BwdRefIdeal.τ).loc Cert.Norm1BwdRefIdeal.main_arg8) = m ((c.tc : Thread Cert.Norm1BwdIdeal.nD Cert.Norm1BwdIdeal.τ).loc Cert.Norm1BwdIdeal.main_arg8)
      ∧ m' ((c.tc : Thread Cert.Norm1BwdRefIdeal.nD Cert.Norm1BwdRefIdeal.τ).loc Cert.Norm1BwdRefIdeal.main_arg9) = m ((c.tc : Thread Cert.Norm1BwdIdeal.nD Cert.Norm1BwdIdeal.τ).loc Cert.Norm1BwdIdeal.main_arg9)) →
    ∃ (v0 : (c : Dev Cert.Norm1BwdIdeal.nD) → Buf (Elt Ideal) ((c.tc : Thread Cert.Norm1BwdIdeal.nD Cert.Norm1BwdIdeal.τ).loc Cert.Norm1BwdIdeal.main_v2_0)) (v1 : (c : Dev Cert.Norm1BwdIdeal.nD) → Buf (Elt Ideal) ((c.tc : Thread Cert.Norm1BwdIdeal.nD Cert.Norm1BwdIdeal.τ).loc Cert.Norm1BwdIdeal.main_v2_1)),
      θ_run (Cert.Norm1BwdIdeal.defs (F := Ideal)) (onTc (τ := Cert.Norm1BwdIdeal.τ) (Cert.Norm1BwdIdeal.main (F := Ideal))) ⟨m, fun _ => 0, g⟩ (fun r => ∀ c : Dev Cert.Norm1BwdIdeal.nD,
          r.2.mem ((c.tc : Thread Cert.Norm1BwdIdeal.nD Cert.Norm1BwdIdeal.τ).loc Cert.Norm1BwdIdeal.main_v2_0) = v0 c
          ∧ r.2.mem ((c.tc : Thread Cert.Norm1BwdIdeal.nD Cert.Norm1BwdIdeal.τ).loc Cert.Norm1BwdIdeal.main_v2_1) = v1 c
          ∧ r.2.mem ((c.tc : Thread Cert.Norm1BwdIdeal.nD Cert.Norm1BwdIdeal.τ).loc Cert.Norm1BwdIdeal.main_arg0) = m ((c.tc : Thread Cert.Norm1BwdIdeal.nD Cert.Norm1BwdIdeal.τ).loc Cert.Norm1BwdIdeal.main_arg0)
          ∧ r.2.mem ((c.tc : Thread Cert.Norm1BwdIdeal.nD Cert.Norm1BwdIdeal.τ).loc Cert.Norm1BwdIdeal.main_arg1) = m ((c.tc : Thread Cert.Norm1BwdIdeal.nD Cert.Norm1BwdIdeal.τ).loc Cert.Norm1BwdIdeal.main_arg1)
          ∧ r.2.mem ((c.tc : Thread Cert.Norm1BwdIdeal.nD Cert.Norm1BwdIdeal.τ).loc Cert.Norm1BwdIdeal.main_arg2) = m ((c.tc : Thread Cert.Norm1BwdIdeal.nD Cert.Norm1BwdIdeal.τ).loc Cert.Norm1BwdIdeal.main_arg2)
          ∧ r.2.mem ((c.tc : Thread Cert.Norm1BwdIdeal.nD Cert.Norm1BwdIdeal.τ).loc Cert.Norm1BwdIdeal.main_arg3) = m ((c.tc : Thread Cert.Norm1BwdIdeal.nD Cert.Norm1BwdIdeal.τ).loc Cert.Norm1BwdIdeal.main_arg3)
          ∧ r.2.mem ((c.tc : Thread Cert.Norm1BwdIdeal.nD Cert.Norm1BwdIdeal.τ).loc Cert.Norm1BwdIdeal.main_arg4) = m ((c.tc : Thread Cert.Norm1BwdIdeal.nD Cert.Norm1BwdIdeal.τ).loc Cert.Norm1BwdIdeal.main_arg4)
          ∧ r.2.mem ((c.tc : Thread Cert.Norm1BwdIdeal.nD Cert.Norm1BwdIdeal.τ).loc Cert.Norm1BwdIdeal.main_arg5) = m ((c.tc : Thread Cert.Norm1BwdIdeal.nD Cert.Norm1BwdIdeal.τ).loc Cert.Norm1BwdIdeal.main_arg5)
          ∧ r.2.mem ((c.tc : Thread Cert.Norm1BwdIdeal.nD Cert.Norm1BwdIdeal.τ).loc Cert.Norm1BwdIdeal.main_arg6) = m ((c.tc : Thread Cert.Norm1BwdIdeal.nD Cert.Norm1BwdIdeal.τ).loc Cert.Norm1BwdIdeal.main_arg6)
          ∧ r.2.mem ((c.tc : Thread Cert.Norm1BwdIdeal.nD Cert.Norm1BwdIdeal.τ).loc Cert.Norm1BwdIdeal.main_arg7) = m ((c.tc : Thread Cert.Norm1BwdIdeal.nD Cert.Norm1BwdIdeal.τ).loc Cert.Norm1BwdIdeal.main_arg7)
          ∧ r.2.mem ((c.tc : Thread Cert.Norm1BwdIdeal.nD Cert.Norm1BwdIdeal.τ).loc Cert.Norm1BwdIdeal.main_arg8) = m ((c.tc : Thread Cert.Norm1BwdIdeal.nD Cert.Norm1BwdIdeal.τ).loc Cert.Norm1BwdIdeal.main_arg8)
          ∧ r.2.mem ((c.tc : Thread Cert.Norm1BwdIdeal.nD Cert.Norm1BwdIdeal.τ).loc Cert.Norm1BwdIdeal.main_arg9) = m ((c.tc : Thread Cert.Norm1BwdIdeal.nD Cert.Norm1BwdIdeal.τ).loc Cert.Norm1BwdIdeal.main_arg9))
      ∧ θ_run (Cert.Norm1BwdRefIdeal.defs (F := Ideal)) (onTc (τ := Cert.Norm1BwdRefIdeal.τ) (Cert.Norm1BwdRefIdeal.main (F := Ideal))) ⟨m', fun _ => 0, g'⟩ (fun r => ∀ c : Dev Cert.Norm1BwdRefIdeal.nD,
          r.2.mem ((c.tc : Thread Cert.Norm1BwdRefIdeal.nD Cert.Norm1BwdRefIdeal.τ).loc Cert.Norm1BwdRefIdeal.main_v48) = v0 c
          ∧ r.2.mem ((c.tc : Thread Cert.Norm1BwdRefIdeal.nD Cert.Norm1BwdRefIdeal.τ).loc Cert.Norm1BwdRefIdeal.main_v49) = v1 c
          ∧ r.2.mem ((c.tc : Thread Cert.Norm1BwdRefIdeal.nD Cert.Norm1BwdRefIdeal.τ).loc Cert.Norm1BwdRefIdeal.main_arg0) = m' ((c.tc : Thread Cert.Norm1BwdRefIdeal.nD Cert.Norm1BwdRefIdeal.τ).loc Cert.Norm1BwdRefIdeal.main_arg0)
          ∧ r.2.mem ((c.tc : Thread Cert.Norm1BwdRefIdeal.nD Cert.Norm1BwdRefIdeal.τ).loc Cert.Norm1BwdRefIdeal.main_arg1) = m' ((c.tc : Thread Cert.Norm1BwdRefIdeal.nD Cert.Norm1BwdRefIdeal.τ).loc Cert.Norm1BwdRefIdeal.main_arg1)
          ∧ r.2.mem ((c.tc : Thread Cert.Norm1BwdRefIdeal.nD Cert.Norm1BwdRefIdeal.τ).loc Cert.Norm1BwdRefIdeal.main_arg2) = m' ((c.tc : Thread Cert.Norm1BwdRefIdeal.nD Cert.Norm1BwdRefIdeal.τ).loc Cert.Norm1BwdRefIdeal.main_arg2)
          ∧ r.2.mem ((c.tc : Thread Cert.Norm1BwdRefIdeal.nD Cert.Norm1BwdRefIdeal.τ).loc Cert.Norm1BwdRefIdeal.main_arg3) = m' ((c.tc : Thread Cert.Norm1BwdRefIdeal.nD Cert.Norm1BwdRefIdeal.τ).loc Cert.Norm1BwdRefIdeal.main_arg3)
          ∧ r.2.mem ((c.tc : Thread Cert.Norm1BwdRefIdeal.nD Cert.Norm1BwdRefIdeal.τ).loc Cert.Norm1BwdRefIdeal.main_arg4) = m' ((c.tc : Thread Cert.Norm1BwdRefIdeal.nD Cert.Norm1BwdRefIdeal.τ).loc Cert.Norm1BwdRefIdeal.main_arg4)
          ∧ r.2.mem ((c.tc : Thread Cert.Norm1BwdRefIdeal.nD Cert.Norm1BwdRefIdeal.τ).loc Cert.Norm1BwdRefIdeal.main_arg5) = m' ((c.tc : Thread Cert.Norm1BwdRefIdeal.nD Cert.Norm1BwdRefIdeal.τ).loc Cert.Norm1BwdRefIdeal.main_arg5)
          ∧ r.2.mem ((c.tc : Thread Cert.Norm1BwdRefIdeal.nD Cert.Norm1BwdRefIdeal.τ).loc Cert.Norm1BwdRefIdeal.main_arg6) = m' ((c.tc : Thread Cert.Norm1BwdRefIdeal.nD Cert.Norm1BwdRefIdeal.τ).loc Cert.Norm1BwdRefIdeal.main_arg6)
          ∧ r.2.mem ((c.tc : Thread Cert.Norm1BwdRefIdeal.nD Cert.Norm1BwdRefIdeal.τ).loc Cert.Norm1BwdRefIdeal.main_arg7) = m' ((c.tc : Thread Cert.Norm1BwdRefIdeal.nD Cert.Norm1BwdRefIdeal.τ).loc Cert.Norm1BwdRefIdeal.main_arg7)
          ∧ r.2.mem ((c.tc : Thread Cert.Norm1BwdRefIdeal.nD Cert.Norm1BwdRefIdeal.τ).loc Cert.Norm1BwdRefIdeal.main_arg8) = m' ((c.tc : Thread Cert.Norm1BwdRefIdeal.nD Cert.Norm1BwdRefIdeal.τ).loc Cert.Norm1BwdRefIdeal.main_arg8)
          ∧ r.2.mem ((c.tc : Thread Cert.Norm1BwdRefIdeal.nD Cert.Norm1BwdRefIdeal.τ).loc Cert.Norm1BwdRefIdeal.main_arg9) = m' ((c.tc : Thread Cert.Norm1BwdRefIdeal.nD Cert.Norm1BwdRefIdeal.τ).loc Cert.Norm1BwdRefIdeal.main_arg9))

def preserves_Norm1Fwd_Norm1FwdIdeal : Prop :=
  True

def algebraic_Norm1FwdIdeal_Norm1FwdRefIdeal [hNorm1FwdIdeal : Cert.Norm1FwdIdeal.Facts] [hNorm1FwdRefIdeal : Cert.Norm1FwdRefIdeal.Facts] : Prop :=
  ∀ (m : (ℓ : Loc Cert.Norm1FwdIdeal.nD Cert.Norm1FwdIdeal.τ Cert.Norm1FwdIdeal.sig) → Buf (Elt Ideal) ℓ) (g : Dev Cert.Norm1FwdIdeal.nD → PrngReg)
    (m' : (ℓ : Loc Cert.Norm1FwdRefIdeal.nD Cert.Norm1FwdRefIdeal.τ Cert.Norm1FwdRefIdeal.sig) → Buf (Elt Ideal) ℓ) (g' : Dev Cert.Norm1FwdRefIdeal.nD → PrngReg), Pre_Norm1FwdIdeal m →
    (∀ c : Dev Cert.Norm1FwdIdeal.nD,
      m' ((c.tc : Thread Cert.Norm1FwdRefIdeal.nD Cert.Norm1FwdRefIdeal.τ).loc Cert.Norm1FwdRefIdeal.main_arg0) = m ((c.tc : Thread Cert.Norm1FwdIdeal.nD Cert.Norm1FwdIdeal.τ).loc Cert.Norm1FwdIdeal.main_arg0)
      ∧ m' ((c.tc : Thread Cert.Norm1FwdRefIdeal.nD Cert.Norm1FwdRefIdeal.τ).loc Cert.Norm1FwdRefIdeal.main_arg1) = m ((c.tc : Thread Cert.Norm1FwdIdeal.nD Cert.Norm1FwdIdeal.τ).loc Cert.Norm1FwdIdeal.main_arg1)) →
    ∃ (v0 : (c : Dev Cert.Norm1FwdIdeal.nD) → Buf (Elt Ideal) ((c.tc : Thread Cert.Norm1FwdIdeal.nD Cert.Norm1FwdIdeal.τ).loc Cert.Norm1FwdIdeal.main_v0)),
      θ_run (Cert.Norm1FwdIdeal.defs (F := Ideal)) (onTc (τ := Cert.Norm1FwdIdeal.τ) (Cert.Norm1FwdIdeal.main (F := Ideal))) ⟨m, fun _ => 0, g⟩ (fun r => ∀ c : Dev Cert.Norm1FwdIdeal.nD,
          r.2.mem ((c.tc : Thread Cert.Norm1FwdIdeal.nD Cert.Norm1FwdIdeal.τ).loc Cert.Norm1FwdIdeal.main_v0) = v0 c
          ∧ r.2.mem ((c.tc : Thread Cert.Norm1FwdIdeal.nD Cert.Norm1FwdIdeal.τ).loc Cert.Norm1FwdIdeal.main_arg0) = m ((c.tc : Thread Cert.Norm1FwdIdeal.nD Cert.Norm1FwdIdeal.τ).loc Cert.Norm1FwdIdeal.main_arg0)
          ∧ r.2.mem ((c.tc : Thread Cert.Norm1FwdIdeal.nD Cert.Norm1FwdIdeal.τ).loc Cert.Norm1FwdIdeal.main_arg1) = m ((c.tc : Thread Cert.Norm1FwdIdeal.nD Cert.Norm1FwdIdeal.τ).loc Cert.Norm1FwdIdeal.main_arg1))
      ∧ θ_run (Cert.Norm1FwdRefIdeal.defs (F := Ideal)) (onTc (τ := Cert.Norm1FwdRefIdeal.τ) (Cert.Norm1FwdRefIdeal.main (F := Ideal))) ⟨m', fun _ => 0, g'⟩ (fun r => ∀ c : Dev Cert.Norm1FwdRefIdeal.nD,
          r.2.mem ((c.tc : Thread Cert.Norm1FwdRefIdeal.nD Cert.Norm1FwdRefIdeal.τ).loc Cert.Norm1FwdRefIdeal.main_v14) = v0 c
          ∧ r.2.mem ((c.tc : Thread Cert.Norm1FwdRefIdeal.nD Cert.Norm1FwdRefIdeal.τ).loc Cert.Norm1FwdRefIdeal.main_arg0) = m' ((c.tc : Thread Cert.Norm1FwdRefIdeal.nD Cert.Norm1FwdRefIdeal.τ).loc Cert.Norm1FwdRefIdeal.main_arg0)
          ∧ r.2.mem ((c.tc : Thread Cert.Norm1FwdRefIdeal.nD Cert.Norm1FwdRefIdeal.τ).loc Cert.Norm1FwdRefIdeal.main_arg1) = m' ((c.tc : Thread Cert.Norm1FwdRefIdeal.nD Cert.Norm1FwdRefIdeal.τ).loc Cert.Norm1FwdRefIdeal.main_arg1))

def preserves_LossHead_LossHeadIdeal : Prop :=
  True

def algebraic_LossHeadIdeal_LossHeadRefIdeal_pre_loss_head_finite [hLossHeadIdeal : Cert.LossHeadIdeal.Facts] [hLossHeadRefIdeal : Cert.LossHeadRefIdeal.Facts] [hPre_loss_head_finite : Cert.Pre_loss_head_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_head_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v3)) (v1 : (c : Dev Cert.LossHeadIdeal.nD) → Buf (Elt Ideal) ((c.tc : Thread Cert.LossHeadIdeal.nD Cert.LossHeadIdeal.τ).loc Cert.LossHeadIdeal.main_v1_0)) (v2 : (c : Dev Cert.LossHeadIdeal.nD) → Buf (Elt Ideal) ((c.tc : Thread Cert.LossHeadIdeal.nD Cert.LossHeadIdeal.τ).loc Cert.LossHeadIdeal.main_v1_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3) = v0 c
          ∧ r.2.mem ((c.tc : Thread Cert.LossHeadIdeal.nD Cert.LossHeadIdeal.τ).loc Cert.LossHeadIdeal.main_v1_0) = v1 c
          ∧ r.2.mem ((c.tc : Thread Cert.LossHeadIdeal.nD Cert.LossHeadIdeal.τ).loc Cert.LossHeadIdeal.main_v1_1) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v28) = v0 c
          ∧ r.2.mem ((c.tc : Thread Cert.LossHeadRefIdeal.nD Cert.LossHeadRefIdeal.τ).loc Cert.LossHeadRefIdeal.main_v54) = v1 c
          ∧ r.2.mem ((c.tc : Thread Cert.LossHeadRefIdeal.nD Cert.LossHeadRefIdeal.τ).loc Cert.LossHeadRefIdeal.main_v55) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_Relu2Bwd_Relu2BwdIdeal : Prop :=
  True

def algebraic_Relu2BwdIdeal_Relu2BwdRefIdeal [hRelu2BwdIdeal : Cert.Relu2BwdIdeal.Facts] [hRelu2BwdRefIdeal : Cert.Relu2BwdRefIdeal.Facts] : Prop :=
  ∀ (m : (ℓ : Loc Cert.Relu2BwdIdeal.nD Cert.Relu2BwdIdeal.τ Cert.Relu2BwdIdeal.sig) → Buf (Elt Ideal) ℓ) (g : Dev Cert.Relu2BwdIdeal.nD → PrngReg)
    (m' : (ℓ : Loc Cert.Relu2BwdRefIdeal.nD Cert.Relu2BwdRefIdeal.τ Cert.Relu2BwdRefIdeal.sig) → Buf (Elt Ideal) ℓ) (g' : Dev Cert.Relu2BwdRefIdeal.nD → PrngReg), Pre_Relu2BwdIdeal m →
    (∀ c : Dev Cert.Relu2BwdIdeal.nD,
      m' ((c.tc : Thread Cert.Relu2BwdRefIdeal.nD Cert.Relu2BwdRefIdeal.τ).loc Cert.Relu2BwdRefIdeal.main_arg0) = m ((c.tc : Thread Cert.Relu2BwdIdeal.nD Cert.Relu2BwdIdeal.τ).loc Cert.Relu2BwdIdeal.main_arg0)
      ∧ m' ((c.tc : Thread Cert.Relu2BwdRefIdeal.nD Cert.Relu2BwdRefIdeal.τ).loc Cert.Relu2BwdRefIdeal.main_arg1) = m ((c.tc : Thread Cert.Relu2BwdIdeal.nD Cert.Relu2BwdIdeal.τ).loc Cert.Relu2BwdIdeal.main_arg1)
      ∧ m' ((c.tc : Thread Cert.Relu2BwdRefIdeal.nD Cert.Relu2BwdRefIdeal.τ).loc Cert.Relu2BwdRefIdeal.main_arg2) = m ((c.tc : Thread Cert.Relu2BwdIdeal.nD Cert.Relu2BwdIdeal.τ).loc Cert.Relu2BwdIdeal.main_arg2)) →
    ∃ (v0 : (c : Dev Cert.Relu2BwdIdeal.nD) → Buf (Elt Ideal) ((c.tc : Thread Cert.Relu2BwdIdeal.nD Cert.Relu2BwdIdeal.τ).loc Cert.Relu2BwdIdeal.main_v5)),
      θ_run (Cert.Relu2BwdIdeal.defs (F := Ideal)) (onTc (τ := Cert.Relu2BwdIdeal.τ) (Cert.Relu2BwdIdeal.main (F := Ideal))) ⟨m, fun _ => 0, g⟩ (fun r => ∀ c : Dev Cert.Relu2BwdIdeal.nD,
          r.2.mem ((c.tc : Thread Cert.Relu2BwdIdeal.nD Cert.Relu2BwdIdeal.τ).loc Cert.Relu2BwdIdeal.main_v5) = v0 c
          ∧ r.2.mem ((c.tc : Thread Cert.Relu2BwdIdeal.nD Cert.Relu2BwdIdeal.τ).loc Cert.Relu2BwdIdeal.main_arg0) = m ((c.tc : Thread Cert.Relu2BwdIdeal.nD Cert.Relu2BwdIdeal.τ).loc Cert.Relu2BwdIdeal.main_arg0)
          ∧ r.2.mem ((c.tc : Thread Cert.Relu2BwdIdeal.nD Cert.Relu2BwdIdeal.τ).loc Cert.Relu2BwdIdeal.main_arg1) = m ((c.tc : Thread Cert.Relu2BwdIdeal.nD Cert.Relu2BwdIdeal.τ).loc Cert.Relu2BwdIdeal.main_arg1)
          ∧ r.2.mem ((c.tc : Thread Cert.Relu2BwdIdeal.nD Cert.Relu2BwdIdeal.τ).loc Cert.Relu2BwdIdeal.main_arg2) = m ((c.tc : Thread Cert.Relu2BwdIdeal.nD Cert.Relu2BwdIdeal.τ).loc Cert.Relu2BwdIdeal.main_arg2))
      ∧ θ_run (Cert.Relu2BwdRefIdeal.defs (F := Ideal)) (onTc (τ := Cert.Relu2BwdRefIdeal.τ) (Cert.Relu2BwdRefIdeal.main (F := Ideal))) ⟨m', fun _ => 0, g'⟩ (fun r => ∀ c : Dev Cert.Relu2BwdRefIdeal.nD,
          r.2.mem ((c.tc : Thread Cert.Relu2BwdRefIdeal.nD Cert.Relu2BwdRefIdeal.τ).loc Cert.Relu2BwdRefIdeal.main_v12) = v0 c
          ∧ r.2.mem ((c.tc : Thread Cert.Relu2BwdRefIdeal.nD Cert.Relu2BwdRefIdeal.τ).loc Cert.Relu2BwdRefIdeal.main_arg0) = m' ((c.tc : Thread Cert.Relu2BwdRefIdeal.nD Cert.Relu2BwdRefIdeal.τ).loc Cert.Relu2BwdRefIdeal.main_arg0)
          ∧ r.2.mem ((c.tc : Thread Cert.Relu2BwdRefIdeal.nD Cert.Relu2BwdRefIdeal.τ).loc Cert.Relu2BwdRefIdeal.main_arg1) = m' ((c.tc : Thread Cert.Relu2BwdRefIdeal.nD Cert.Relu2BwdRefIdeal.τ).loc Cert.Relu2BwdRefIdeal.main_arg1)
          ∧ r.2.mem ((c.tc : Thread Cert.Relu2BwdRefIdeal.nD Cert.Relu2BwdRefIdeal.τ).loc Cert.Relu2BwdRefIdeal.main_arg2) = m' ((c.tc : Thread Cert.Relu2BwdRefIdeal.nD Cert.Relu2BwdRefIdeal.τ).loc Cert.Relu2BwdRefIdeal.main_arg2))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v4) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_AttnMerge_AttnMergeIdeal : Prop :=
  True

def algebraic_AttnMergeIdeal_AttnMergeRefIdeal [hAttnMergeIdeal : Cert.AttnMergeIdeal.Facts] [hAttnMergeRefIdeal : Cert.AttnMergeRefIdeal.Facts] : Prop :=
  ∀ (m : (ℓ : Loc Cert.AttnMergeIdeal.nD Cert.AttnMergeIdeal.τ Cert.AttnMergeIdeal.sig) → Buf (Elt Ideal) ℓ) (g : Dev Cert.AttnMergeIdeal.nD → PrngReg)
    (m' : (ℓ : Loc Cert.AttnMergeRefIdeal.nD Cert.AttnMergeRefIdeal.τ Cert.AttnMergeRefIdeal.sig) → Buf (Elt Ideal) ℓ) (g' : Dev Cert.AttnMergeRefIdeal.nD → PrngReg), Pre_AttnMergeIdeal m →
    (∀ c : Dev Cert.AttnMergeIdeal.nD,
      m' ((c.tc : Thread Cert.AttnMergeRefIdeal.nD Cert.AttnMergeRefIdeal.τ).loc Cert.AttnMergeRefIdeal.main_arg0) = m ((c.tc : Thread Cert.AttnMergeIdeal.nD Cert.AttnMergeIdeal.τ).loc Cert.AttnMergeIdeal.main_arg0)
      ∧ m' ((c.tc : Thread Cert.AttnMergeRefIdeal.nD Cert.AttnMergeRefIdeal.τ).loc Cert.AttnMergeRefIdeal.main_arg1) = m ((c.tc : Thread Cert.AttnMergeIdeal.nD Cert.AttnMergeIdeal.τ).loc Cert.AttnMergeIdeal.main_arg1)
      ∧ m' ((c.tc : Thread Cert.AttnMergeRefIdeal.nD Cert.AttnMergeRefIdeal.τ).loc Cert.AttnMergeRefIdeal.main_arg2) = m ((c.tc : Thread Cert.AttnMergeIdeal.nD Cert.AttnMergeIdeal.τ).loc Cert.AttnMergeIdeal.main_arg2)
      ∧ m' ((c.tc : Thread Cert.AttnMergeRefIdeal.nD Cert.AttnMergeRefIdeal.τ).loc Cert.AttnMergeRefIdeal.main_arg3) = m ((c.tc : Thread Cert.AttnMergeIdeal.nD Cert.AttnMergeIdeal.τ).loc Cert.AttnMergeIdeal.main_arg3)
      ∧ m' ((c.tc : Thread Cert.AttnMergeRefIdeal.nD Cert.AttnMergeRefIdeal.τ).loc Cert.AttnMergeRefIdeal.main_arg4) = m ((c.tc : Thread Cert.AttnMergeIdeal.nD Cert.AttnMergeIdeal.τ).loc Cert.AttnMergeIdeal.main_arg4)
      ∧ m' ((c.tc : Thread Cert.AttnMergeRefIdeal.nD Cert.AttnMergeRefIdeal.τ).loc Cert.AttnMergeRefIdeal.main_arg5) = m ((c.tc : Thread Cert.AttnMergeIdeal.nD Cert.AttnMergeIdeal.τ).loc Cert.AttnMergeIdeal.main_arg5)) →
    ∃ (v0 : (c : Dev Cert.AttnMergeIdeal.nD) → Buf (Elt Ideal) ((c.tc : Thread Cert.AttnMergeIdeal.nD Cert.AttnMergeIdeal.τ).loc Cert.AttnMergeIdeal.main_v6_0)) (v1 : (c : Dev Cert.AttnMergeIdeal.nD) → Buf (Elt Ideal) ((c.tc : Thread Cert.AttnMergeIdeal.nD Cert.AttnMergeIdeal.τ).loc Cert.AttnMergeIdeal.main_v6_1)),
      θ_run (Cert.AttnMergeIdeal.defs (F := Ideal)) (onTc (τ := Cert.AttnMergeIdeal.τ) (Cert.AttnMergeIdeal.main (F := Ideal))) ⟨m, fun _ => 0, g⟩ (fun r => ∀ c : Dev Cert.AttnMergeIdeal.nD,
          r.2.mem ((c.tc : Thread Cert.AttnMergeIdeal.nD Cert.AttnMergeIdeal.τ).loc Cert.AttnMergeIdeal.main_v6_0) = v0 c
          ∧ r.2.mem ((c.tc : Thread Cert.AttnMergeIdeal.nD Cert.AttnMergeIdeal.τ).loc Cert.AttnMergeIdeal.main_v6_1) = v1 c
          ∧ r.2.mem ((c.tc : Thread Cert.AttnMergeIdeal.nD Cert.AttnMergeIdeal.τ).loc Cert.AttnMergeIdeal.main_arg0) = m ((c.tc : Thread Cert.AttnMergeIdeal.nD Cert.AttnMergeIdeal.τ).loc Cert.AttnMergeIdeal.main_arg0)
          ∧ r.2.mem ((c.tc : Thread Cert.AttnMergeIdeal.nD Cert.AttnMergeIdeal.τ).loc Cert.AttnMergeIdeal.main_arg1) = m ((c.tc : Thread Cert.AttnMergeIdeal.nD Cert.AttnMergeIdeal.τ).loc Cert.AttnMergeIdeal.main_arg1)
          ∧ r.2.mem ((c.tc : Thread Cert.AttnMergeIdeal.nD Cert.AttnMergeIdeal.τ).loc Cert.AttnMergeIdeal.main_arg2) = m ((c.tc : Thread Cert.AttnMergeIdeal.nD Cert.AttnMergeIdeal.τ).loc Cert.AttnMergeIdeal.main_arg2)
          ∧ r.2.mem ((c.tc : Thread Cert.AttnMergeIdeal.nD Cert.AttnMergeIdeal.τ).loc Cert.AttnMergeIdeal.main_arg3) = m ((c.tc : Thread Cert.AttnMergeIdeal.nD Cert.AttnMergeIdeal.τ).loc Cert.AttnMergeIdeal.main_arg3)
          ∧ r.2.mem ((c.tc : Thread Cert.AttnMergeIdeal.nD Cert.AttnMergeIdeal.τ).loc Cert.AttnMergeIdeal.main_arg4) = m ((c.tc : Thread Cert.AttnMergeIdeal.nD Cert.AttnMergeIdeal.τ).loc Cert.AttnMergeIdeal.main_arg4)
          ∧ r.2.mem ((c.tc : Thread Cert.AttnMergeIdeal.nD Cert.AttnMergeIdeal.τ).loc Cert.AttnMergeIdeal.main_arg5) = m ((c.tc : Thread Cert.AttnMergeIdeal.nD Cert.AttnMergeIdeal.τ).loc Cert.AttnMergeIdeal.main_arg5))
      ∧ θ_run (Cert.AttnMergeRefIdeal.defs (F := Ideal)) (onTc (τ := Cert.AttnMergeRefIdeal.τ) (Cert.AttnMergeRefIdeal.main (F := Ideal))) ⟨m', fun _ => 0, g'⟩ (fun r => ∀ c : Dev Cert.AttnMergeRefIdeal.nD,
          r.2.mem ((c.tc : Thread Cert.AttnMergeRefIdeal.nD Cert.AttnMergeRefIdeal.τ).loc Cert.AttnMergeRefIdeal.main_v26) = v0 c
          ∧ r.2.mem ((c.tc : Thread Cert.AttnMergeRefIdeal.nD Cert.AttnMergeRefIdeal.τ).loc Cert.AttnMergeRefIdeal.main_v36) = v1 c
          ∧ r.2.mem ((c.tc : Thread Cert.AttnMergeRefIdeal.nD Cert.AttnMergeRefIdeal.τ).loc Cert.AttnMergeRefIdeal.main_arg0) = m' ((c.tc : Thread Cert.AttnMergeRefIdeal.nD Cert.AttnMergeRefIdeal.τ).loc Cert.AttnMergeRefIdeal.main_arg0)
          ∧ r.2.mem ((c.tc : Thread Cert.AttnMergeRefIdeal.nD Cert.AttnMergeRefIdeal.τ).loc Cert.AttnMergeRefIdeal.main_arg1) = m' ((c.tc : Thread Cert.AttnMergeRefIdeal.nD Cert.AttnMergeRefIdeal.τ).loc Cert.AttnMergeRefIdeal.main_arg1)
          ∧ r.2.mem ((c.tc : Thread Cert.AttnMergeRefIdeal.nD Cert.AttnMergeRefIdeal.τ).loc Cert.AttnMergeRefIdeal.main_arg2) = m' ((c.tc : Thread Cert.AttnMergeRefIdeal.nD Cert.AttnMergeRefIdeal.τ).loc Cert.AttnMergeRefIdeal.main_arg2)
          ∧ r.2.mem ((c.tc : Thread Cert.AttnMergeRefIdeal.nD Cert.AttnMergeRefIdeal.τ).loc Cert.AttnMergeRefIdeal.main_arg3) = m' ((c.tc : Thread Cert.AttnMergeRefIdeal.nD Cert.AttnMergeRefIdeal.τ).loc Cert.AttnMergeRefIdeal.main_arg3)
          ∧ r.2.mem ((c.tc : Thread Cert.AttnMergeRefIdeal.nD Cert.AttnMergeRefIdeal.τ).loc Cert.AttnMergeRefIdeal.main_arg4) = m' ((c.tc : Thread Cert.AttnMergeRefIdeal.nD Cert.AttnMergeRefIdeal.τ).loc Cert.AttnMergeRefIdeal.main_arg4)
          ∧ r.2.mem ((c.tc : Thread Cert.AttnMergeRefIdeal.nD Cert.AttnMergeRefIdeal.τ).loc Cert.AttnMergeRefIdeal.main_arg5) = m' ((c.tc : Thread Cert.AttnMergeRefIdeal.nD Cert.AttnMergeRefIdeal.τ).loc Cert.AttnMergeRefIdeal.main_arg5))

def preserves_AttnFwd1_AttnFwd1Ideal : Prop :=
  IdealRules.named_const.Statement Cert.AttnFwd1Ideal.κ "mask" .f32 0xF149F2CA#32 ⊥

def algebraic_AttnFwd1Ideal_AttnFwd1RefIdeal [hAttnFwd1Ideal : Cert.AttnFwd1Ideal.Facts] [hAttnFwd1RefIdeal : Cert.AttnFwd1RefIdeal.Facts] : Prop :=
  ∀ (m : (ℓ : Loc Cert.AttnFwd1Ideal.nD Cert.AttnFwd1Ideal.τ Cert.AttnFwd1Ideal.sig) → Buf (Elt Ideal) ℓ) (g : Dev Cert.AttnFwd1Ideal.nD → PrngReg)
    (m' : (ℓ : Loc Cert.AttnFwd1RefIdeal.nD Cert.AttnFwd1RefIdeal.τ Cert.AttnFwd1RefIdeal.sig) → Buf (Elt Ideal) ℓ) (g' : Dev Cert.AttnFwd1RefIdeal.nD → PrngReg), Pre_AttnFwd1Ideal m →
    (∀ c : Dev Cert.AttnFwd1Ideal.nD,
      m' ((c.tc : Thread Cert.AttnFwd1RefIdeal.nD Cert.AttnFwd1RefIdeal.τ).loc Cert.AttnFwd1RefIdeal.main_arg0) = m ((c.tc : Thread Cert.AttnFwd1Ideal.nD Cert.AttnFwd1Ideal.τ).loc Cert.AttnFwd1Ideal.main_arg0)) →
    ∃ (v0 : (c : Dev Cert.AttnFwd1Ideal.nD) → Buf (Elt Ideal) ((c.tc : Thread Cert.AttnFwd1Ideal.nD Cert.AttnFwd1Ideal.τ).loc Cert.AttnFwd1Ideal.main_v0_0)) (v1 : (c : Dev Cert.AttnFwd1Ideal.nD) → Buf (Elt Ideal) ((c.tc : Thread Cert.AttnFwd1Ideal.nD Cert.AttnFwd1Ideal.τ).loc Cert.AttnFwd1Ideal.main_v0_1)),
      θ_run (Cert.AttnFwd1Ideal.defs (F := Ideal)) (onTc (τ := Cert.AttnFwd1Ideal.τ) (Cert.AttnFwd1Ideal.main (F := Ideal))) ⟨m, fun _ => 0, g⟩ (fun r => ∀ c : Dev Cert.AttnFwd1Ideal.nD,
          r.2.mem ((c.tc : Thread Cert.AttnFwd1Ideal.nD Cert.AttnFwd1Ideal.τ).loc Cert.AttnFwd1Ideal.main_v0_0) = v0 c
          ∧ r.2.mem ((c.tc : Thread Cert.AttnFwd1Ideal.nD Cert.AttnFwd1Ideal.τ).loc Cert.AttnFwd1Ideal.main_v0_1) = v1 c
          ∧ r.2.mem ((c.tc : Thread Cert.AttnFwd1Ideal.nD Cert.AttnFwd1Ideal.τ).loc Cert.AttnFwd1Ideal.main_arg0) = m ((c.tc : Thread Cert.AttnFwd1Ideal.nD Cert.AttnFwd1Ideal.τ).loc Cert.AttnFwd1Ideal.main_arg0))
      ∧ θ_run (Cert.AttnFwd1RefIdeal.defs (F := Ideal)) (onTc (τ := Cert.AttnFwd1RefIdeal.τ) (Cert.AttnFwd1RefIdeal.main (F := Ideal))) ⟨m', fun _ => 0, g'⟩ (fun r => ∀ c : Dev Cert.AttnFwd1RefIdeal.nD,
          r.2.mem ((c.tc : Thread Cert.AttnFwd1RefIdeal.nD Cert.AttnFwd1RefIdeal.τ).loc Cert.AttnFwd1RefIdeal.main_v78) = v0 c
          ∧ r.2.mem ((c.tc : Thread Cert.AttnFwd1RefIdeal.nD Cert.AttnFwd1RefIdeal.τ).loc Cert.AttnFwd1RefIdeal.main_v81) = v1 c
          ∧ r.2.mem ((c.tc : Thread Cert.AttnFwd1RefIdeal.nD Cert.AttnFwd1RefIdeal.τ).loc Cert.AttnFwd1RefIdeal.main_arg0) = m' ((c.tc : Thread Cert.AttnFwd1RefIdeal.nD Cert.AttnFwd1RefIdeal.τ).loc Cert.AttnFwd1RefIdeal.main_arg0))

def preserves_AttnFwd4_AttnFwd4Ideal : Prop :=
  IdealRules.named_const.Statement Cert.AttnFwd4Ideal.κ "mask" .f32 0xF149F2CA#32 ⊥

def algebraic_AttnFwd4Ideal_AttnFwd4RefIdeal [hAttnFwd4Ideal : Cert.AttnFwd4Ideal.Facts] [hAttnFwd4RefIdeal : Cert.AttnFwd4RefIdeal.Facts] : Prop :=
  ∀ (m : (ℓ : Loc Cert.AttnFwd4Ideal.nD Cert.AttnFwd4Ideal.τ Cert.AttnFwd4Ideal.sig) → Buf (Elt Ideal) ℓ) (g : Dev Cert.AttnFwd4Ideal.nD → PrngReg)
    (m' : (ℓ : Loc Cert.AttnFwd4RefIdeal.nD Cert.AttnFwd4RefIdeal.τ Cert.AttnFwd4RefIdeal.sig) → Buf (Elt Ideal) ℓ) (g' : Dev Cert.AttnFwd4RefIdeal.nD → PrngReg), Pre_AttnFwd4Ideal m →
    (∀ c : Dev Cert.AttnFwd4Ideal.nD,
      m' ((c.tc : Thread Cert.AttnFwd4RefIdeal.nD Cert.AttnFwd4RefIdeal.τ).loc Cert.AttnFwd4RefIdeal.main_arg0) = m ((c.tc : Thread Cert.AttnFwd4Ideal.nD Cert.AttnFwd4Ideal.τ).loc Cert.AttnFwd4Ideal.main_arg0)) →
    ∃ (v0 : (c : Dev Cert.AttnFwd4Ideal.nD) → Buf (Elt Ideal) ((c.tc : Thread Cert.AttnFwd4Ideal.nD Cert.AttnFwd4Ideal.τ).loc Cert.AttnFwd4Ideal.main_v0_0)) (v1 : (c : Dev Cert.AttnFwd4Ideal.nD) → Buf (Elt Ideal) ((c.tc : Thread Cert.AttnFwd4Ideal.nD Cert.AttnFwd4Ideal.τ).loc Cert.AttnFwd4Ideal.main_v0_1)),
      θ_run (Cert.AttnFwd4Ideal.defs (F := Ideal)) (onTc (τ := Cert.AttnFwd4Ideal.τ) (Cert.AttnFwd4Ideal.main (F := Ideal))) ⟨m, fun _ => 0, g⟩ (fun r => ∀ c : Dev Cert.AttnFwd4Ideal.nD,
          r.2.mem ((c.tc : Thread Cert.AttnFwd4Ideal.nD Cert.AttnFwd4Ideal.τ).loc Cert.AttnFwd4Ideal.main_v0_0) = v0 c
          ∧ r.2.mem ((c.tc : Thread Cert.AttnFwd4Ideal.nD Cert.AttnFwd4Ideal.τ).loc Cert.AttnFwd4Ideal.main_v0_1) = v1 c
          ∧ r.2.mem ((c.tc : Thread Cert.AttnFwd4Ideal.nD Cert.AttnFwd4Ideal.τ).loc Cert.AttnFwd4Ideal.main_arg0) = m ((c.tc : Thread Cert.AttnFwd4Ideal.nD Cert.AttnFwd4Ideal.τ).loc Cert.AttnFwd4Ideal.main_arg0))
      ∧ θ_run (Cert.AttnFwd4RefIdeal.defs (F := Ideal)) (onTc (τ := Cert.AttnFwd4RefIdeal.τ) (Cert.AttnFwd4RefIdeal.main (F := Ideal))) ⟨m', fun _ => 0, g'⟩ (fun r => ∀ c : Dev Cert.AttnFwd4RefIdeal.nD,
          r.2.mem ((c.tc : Thread Cert.AttnFwd4RefIdeal.nD Cert.AttnFwd4RefIdeal.τ).loc Cert.AttnFwd4RefIdeal.main_v78) = v0 c
          ∧ r.2.mem ((c.tc : Thread Cert.AttnFwd4RefIdeal.nD Cert.AttnFwd4RefIdeal.τ).loc Cert.AttnFwd4RefIdeal.main_v81) = v1 c
          ∧ r.2.mem ((c.tc : Thread Cert.AttnFwd4RefIdeal.nD Cert.AttnFwd4RefIdeal.τ).loc Cert.AttnFwd4RefIdeal.main_arg0) = m' ((c.tc : Thread Cert.AttnFwd4RefIdeal.nD Cert.AttnFwd4RefIdeal.τ).loc Cert.AttnFwd4RefIdeal.main_arg0))

def preserves_AttnFwd16_AttnFwd16Ideal : Prop :=
  IdealRules.named_const.Statement Cert.AttnFwd16Ideal.κ "mask" .f32 0xF149F2CA#32 ⊥

def algebraic_AttnFwd16Ideal_AttnFwd16RefIdeal [hAttnFwd16Ideal : Cert.AttnFwd16Ideal.Facts] [hAttnFwd16RefIdeal : Cert.AttnFwd16RefIdeal.Facts] : Prop :=
  ∀ (m : (ℓ : Loc Cert.AttnFwd16Ideal.nD Cert.AttnFwd16Ideal.τ Cert.AttnFwd16Ideal.sig) → Buf (Elt Ideal) ℓ) (g : Dev Cert.AttnFwd16Ideal.nD → PrngReg)
    (m' : (ℓ : Loc Cert.AttnFwd16RefIdeal.nD Cert.AttnFwd16RefIdeal.τ Cert.AttnFwd16RefIdeal.sig) → Buf (Elt Ideal) ℓ) (g' : Dev Cert.AttnFwd16RefIdeal.nD → PrngReg), Pre_AttnFwd16Ideal m →
    (∀ c : Dev Cert.AttnFwd16Ideal.nD,
      m' ((c.tc : Thread Cert.AttnFwd16RefIdeal.nD Cert.AttnFwd16RefIdeal.τ).loc Cert.AttnFwd16RefIdeal.main_arg0) = m ((c.tc : Thread Cert.AttnFwd16Ideal.nD Cert.AttnFwd16Ideal.τ).loc Cert.AttnFwd16Ideal.main_arg0)) →
    ∃ (v0 : (c : Dev Cert.AttnFwd16Ideal.nD) → Buf (Elt Ideal) ((c.tc : Thread Cert.AttnFwd16Ideal.nD Cert.AttnFwd16Ideal.τ).loc Cert.AttnFwd16Ideal.main_v0_0)) (v1 : (c : Dev Cert.AttnFwd16Ideal.nD) → Buf (Elt Ideal) ((c.tc : Thread Cert.AttnFwd16Ideal.nD Cert.AttnFwd16Ideal.τ).loc Cert.AttnFwd16Ideal.main_v0_1)),
      θ_run (Cert.AttnFwd16Ideal.defs (F := Ideal)) (onTc (τ := Cert.AttnFwd16Ideal.τ) (Cert.AttnFwd16Ideal.main (F := Ideal))) ⟨m, fun _ => 0, g⟩ (fun r => ∀ c : Dev Cert.AttnFwd16Ideal.nD,
          r.2.mem ((c.tc : Thread Cert.AttnFwd16Ideal.nD Cert.AttnFwd16Ideal.τ).loc Cert.AttnFwd16Ideal.main_v0_0) = v0 c
          ∧ r.2.mem ((c.tc : Thread Cert.AttnFwd16Ideal.nD Cert.AttnFwd16Ideal.τ).loc Cert.AttnFwd16Ideal.main_v0_1) = v1 c
          ∧ r.2.mem ((c.tc : Thread Cert.AttnFwd16Ideal.nD Cert.AttnFwd16Ideal.τ).loc Cert.AttnFwd16Ideal.main_arg0) = m ((c.tc : Thread Cert.AttnFwd16Ideal.nD Cert.AttnFwd16Ideal.τ).loc Cert.AttnFwd16Ideal.main_arg0))
      ∧ θ_run (Cert.AttnFwd16RefIdeal.defs (F := Ideal)) (onTc (τ := Cert.AttnFwd16RefIdeal.τ) (Cert.AttnFwd16RefIdeal.main (F := Ideal))) ⟨m', fun _ => 0, g'⟩ (fun r => ∀ c : Dev Cert.AttnFwd16RefIdeal.nD,
          r.2.mem ((c.tc : Thread Cert.AttnFwd16RefIdeal.nD Cert.AttnFwd16RefIdeal.τ).loc Cert.AttnFwd16RefIdeal.main_v78) = v0 c
          ∧ r.2.mem ((c.tc : Thread Cert.AttnFwd16RefIdeal.nD Cert.AttnFwd16RefIdeal.τ).loc Cert.AttnFwd16RefIdeal.main_v81) = v1 c
          ∧ r.2.mem ((c.tc : Thread Cert.AttnFwd16RefIdeal.nD Cert.AttnFwd16RefIdeal.τ).loc Cert.AttnFwd16RefIdeal.main_arg0) = m' ((c.tc : Thread Cert.AttnFwd16RefIdeal.nD Cert.AttnFwd16RefIdeal.τ).loc Cert.AttnFwd16RefIdeal.main_arg0))

def preserves_SsmBwdEnds_SsmBwdEndsIdeal : Prop :=
  True

def Claim : Prop :=
  ∃ (hMemNormBwd : Cert.MemNormBwd.Facts) (hMemNormBwdIdeal : Cert.MemNormBwdIdeal.Facts) (hMemNormBwdRefIdeal : Cert.MemNormBwdRefIdeal.Facts) (hMemNormFwd : Cert.MemNormFwd.Facts) (hMemNormFwdIdeal : Cert.MemNormFwdIdeal.Facts) (hMemNormFwdRefIdeal : Cert.MemNormFwdRefIdeal.Facts) (hMemAttnBwd : Cert.MemAttnBwd.Facts) (hMemAttnBwdIdeal : Cert.MemAttnBwdIdeal.Facts) (hMemAttnBwdRefIdeal : Cert.MemAttnBwdRefIdeal.Facts) (hMemAttnFwd : Cert.MemAttnFwd.Facts) (hMemAttnFwdIdeal : Cert.MemAttnFwdIdeal.Facts) (hMemAttnFwdRefIdeal : Cert.MemAttnFwdRefIdeal.Facts) (hGluBwd : Cert.GluBwd.Facts) (hGluBwdIdeal : Cert.GluBwdIdeal.Facts) (hGluBwdRefIdeal : Cert.GluBwdRefIdeal.Facts) (hGluFwd : Cert.GluFwd.Facts) (hGluFwdIdeal : Cert.GluFwdIdeal.Facts) (hGluFwdRefIdeal : Cert.GluFwdRefIdeal.Facts) (hBranchMergeBwd : Cert.BranchMergeBwd.Facts) (hBranchMergeBwdIdeal : Cert.BranchMergeBwdIdeal.Facts) (hBranchMergeBwdRefIdeal : Cert.BranchMergeBwdRefIdeal.Facts) (hBranchMergeFwd : Cert.BranchMergeFwd.Facts) (hBranchMergeFwdIdeal : Cert.BranchMergeFwdIdeal.Facts) (hBranchMergeFwdRefIdeal : Cert.BranchMergeFwdRefIdeal.Facts) (hNorm2Bwd : Cert.Norm2Bwd.Facts) (hNorm2BwdIdeal : Cert.Norm2BwdIdeal.Facts) (hNorm2BwdRefIdeal : Cert.Norm2BwdRefIdeal.Facts) (hOutProj : Cert.OutProj.Facts) (hOutProjIdeal : Cert.OutProjIdeal.Facts) (hOutProjRefIdeal : Cert.OutProjRefIdeal.Facts) (hNorm1Bwd : Cert.Norm1Bwd.Facts) (hNorm1BwdIdeal : Cert.Norm1BwdIdeal.Facts) (hNorm1BwdRefIdeal : Cert.Norm1BwdRefIdeal.Facts) (hNorm1Fwd : Cert.Norm1Fwd.Facts) (hNorm1FwdIdeal : Cert.Norm1FwdIdeal.Facts) (hNorm1FwdRefIdeal : Cert.Norm1FwdRefIdeal.Facts) (hLossHead : Cert.LossHead.Facts) (hLossHeadIdeal : Cert.LossHeadIdeal.Facts) (hLossHeadRefIdeal : Cert.LossHeadRefIdeal.Facts) (hRelu2Bwd : Cert.Relu2Bwd.Facts) (hRelu2BwdIdeal : Cert.Relu2BwdIdeal.Facts) (hRelu2BwdRefIdeal : Cert.Relu2BwdRefIdeal.Facts) (hMlpUp : Cert.MlpUp.Facts) (hMlpUpIdeal : Cert.MlpUpIdeal.Facts) (hMlpUpRefIdeal : Cert.MlpUpRefIdeal.Facts) (hAttnMerge : Cert.AttnMerge.Facts) (hAttnMergeIdeal : Cert.AttnMergeIdeal.Facts) (hAttnMergeRefIdeal : Cert.AttnMergeRefIdeal.Facts) (hAttnFwd1 : Cert.AttnFwd1.Facts) (hAttnFwd1Ideal : Cert.AttnFwd1Ideal.Facts) (hAttnFwd1RefIdeal : Cert.AttnFwd1RefIdeal.Facts) (hAttnFwd4 : Cert.AttnFwd4.Facts) (hAttnFwd4Ideal : Cert.AttnFwd4Ideal.Facts) (hAttnFwd4RefIdeal : Cert.AttnFwd4RefIdeal.Facts) (hAttnFwd16 : Cert.AttnFwd16.Facts) (hAttnFwd16Ideal : Cert.AttnFwd16Ideal.Facts) (hAttnFwd16RefIdeal : Cert.AttnFwd16RefIdeal.Facts) (hSsmBwdEnds : Cert.SsmBwdEnds.Facts) (hSsmBwdEndsIdeal : Cert.SsmBwdEndsIdeal.Facts) (hPre_mem_norm_finite : Cert.Pre_mem_norm_finite.Facts) (hPre_mem_attn_finite : Cert.Pre_mem_attn_finite.Facts) (hPre_glu_finite : Cert.Pre_glu_finite.Facts) (hPre_norm2_finite : Cert.Pre_norm2_finite.Facts) (hPre_norm1_finite : Cert.Pre_norm1_finite.Facts) (hPre_loss_head_finite : Cert.Pre_loss_head_finite.Facts),
    quiescent_MemNormBwd (hMemNormBwd := hMemNormBwd)
    ∧ quiescent_MemNormBwdIdeal (hMemNormBwdIdeal := hMemNormBwdIdeal)
    ∧ quiescent_MemNormBwdIdeal_pre_mem_norm_finite (hMemNormBwdIdeal := hMemNormBwdIdeal) (hPre_mem_norm_finite := hPre_mem_norm_finite)
    ∧ quiescent_MemNormBwdRefIdeal (hMemNormBwdRefIdeal := hMemNormBwdRefIdeal)
    ∧ quiescent_MemNormBwdRefIdeal_pre_mem_norm_finite (hMemNormBwdRefIdeal := hMemNormBwdRefIdeal) (hPre_mem_norm_finite := hPre_mem_norm_finite)
    ∧ quiescent_MemNormFwd (hMemNormFwd := hMemNormFwd)
    ∧ quiescent_MemNormFwdIdeal (hMemNormFwdIdeal := hMemNormFwdIdeal)
    ∧ quiescent_MemNormFwdRefIdeal (hMemNormFwdRefIdeal := hMemNormFwdRefIdeal)
    ∧ quiescent_MemAttnBwd (hMemAttnBwd := hMemAttnBwd)
    ∧ quiescent_MemAttnBwdIdeal (hMemAttnBwdIdeal := hMemAttnBwdIdeal)
    ∧ quiescent_MemAttnBwdIdeal_pre_mem_attn_finite (hMemAttnBwdIdeal := hMemAttnBwdIdeal) (hPre_mem_attn_finite := hPre_mem_attn_finite)
    ∧ quiescent_MemAttnBwdRefIdeal (hMemAttnBwdRefIdeal := hMemAttnBwdRefIdeal)
    ∧ quiescent_MemAttnBwdRefIdeal_pre_mem_attn_finite (hMemAttnBwdRefIdeal := hMemAttnBwdRefIdeal) (hPre_mem_attn_finite := hPre_mem_attn_finite)
    ∧ quiescent_MemAttnFwd (hMemAttnFwd := hMemAttnFwd)
    ∧ quiescent_MemAttnFwdIdeal (hMemAttnFwdIdeal := hMemAttnFwdIdeal)
    ∧ quiescent_MemAttnFwdRefIdeal (hMemAttnFwdRefIdeal := hMemAttnFwdRefIdeal)
    ∧ quiescent_GluBwd (hGluBwd := hGluBwd)
    ∧ quiescent_GluBwdIdeal (hGluBwdIdeal := hGluBwdIdeal)
    ∧ quiescent_GluBwdIdeal_pre_glu_finite (hGluBwdIdeal := hGluBwdIdeal) (hPre_glu_finite := hPre_glu_finite)
    ∧ quiescent_GluBwdRefIdeal (hGluBwdRefIdeal := hGluBwdRefIdeal)
    ∧ quiescent_GluBwdRefIdeal_pre_glu_finite (hGluBwdRefIdeal := hGluBwdRefIdeal) (hPre_glu_finite := hPre_glu_finite)
    ∧ quiescent_GluFwd (hGluFwd := hGluFwd)
    ∧ quiescent_GluFwdIdeal (hGluFwdIdeal := hGluFwdIdeal)
    ∧ quiescent_GluFwdRefIdeal (hGluFwdRefIdeal := hGluFwdRefIdeal)
    ∧ quiescent_BranchMergeBwd (hBranchMergeBwd := hBranchMergeBwd)
    ∧ quiescent_BranchMergeBwdIdeal (hBranchMergeBwdIdeal := hBranchMergeBwdIdeal)
    ∧ quiescent_BranchMergeBwdRefIdeal (hBranchMergeBwdRefIdeal := hBranchMergeBwdRefIdeal)
    ∧ quiescent_BranchMergeFwd (hBranchMergeFwd := hBranchMergeFwd)
    ∧ quiescent_BranchMergeFwdIdeal (hBranchMergeFwdIdeal := hBranchMergeFwdIdeal)
    ∧ quiescent_BranchMergeFwdRefIdeal (hBranchMergeFwdRefIdeal := hBranchMergeFwdRefIdeal)
    ∧ quiescent_Norm2Bwd (hNorm2Bwd := hNorm2Bwd)
    ∧ quiescent_Norm2BwdIdeal (hNorm2BwdIdeal := hNorm2BwdIdeal)
    ∧ quiescent_Norm2BwdIdeal_pre_norm2_finite (hNorm2BwdIdeal := hNorm2BwdIdeal) (hPre_norm2_finite := hPre_norm2_finite)
    ∧ quiescent_Norm2BwdRefIdeal (hNorm2BwdRefIdeal := hNorm2BwdRefIdeal)
    ∧ quiescent_Norm2BwdRefIdeal_pre_norm2_finite (hNorm2BwdRefIdeal := hNorm2BwdRefIdeal) (hPre_norm2_finite := hPre_norm2_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Norm1Bwd (hNorm1Bwd := hNorm1Bwd)
    ∧ quiescent_Norm1BwdIdeal (hNorm1BwdIdeal := hNorm1BwdIdeal)
    ∧ quiescent_Norm1BwdIdeal_pre_norm1_finite (hNorm1BwdIdeal := hNorm1BwdIdeal) (hPre_norm1_finite := hPre_norm1_finite)
    ∧ quiescent_Norm1BwdRefIdeal (hNorm1BwdRefIdeal := hNorm1BwdRefIdeal)
    ∧ quiescent_Norm1BwdRefIdeal_pre_norm1_finite (hNorm1BwdRefIdeal := hNorm1BwdRefIdeal) (hPre_norm1_finite := hPre_norm1_finite)
    ∧ quiescent_Norm1Fwd (hNorm1Fwd := hNorm1Fwd)
    ∧ quiescent_Norm1FwdIdeal (hNorm1FwdIdeal := hNorm1FwdIdeal)
    ∧ quiescent_Norm1FwdRefIdeal (hNorm1FwdRefIdeal := hNorm1FwdRefIdeal)
    ∧ quiescent_LossHead (hLossHead := hLossHead)
    ∧ quiescent_LossHeadIdeal (hLossHeadIdeal := hLossHeadIdeal)
    ∧ quiescent_LossHeadIdeal_pre_loss_head_finite (hLossHeadIdeal := hLossHeadIdeal) (hPre_loss_head_finite := hPre_loss_head_finite)
    ∧ quiescent_LossHeadRefIdeal (hLossHeadRefIdeal := hLossHeadRefIdeal)
    ∧ quiescent_LossHeadRefIdeal_pre_loss_head_finite (hLossHeadRefIdeal := hLossHeadRefIdeal) (hPre_loss_head_finite := hPre_loss_head_finite)
    ∧ quiescent_Relu2Bwd (hRelu2Bwd := hRelu2Bwd)
    ∧ quiescent_Relu2BwdIdeal (hRelu2BwdIdeal := hRelu2BwdIdeal)
    ∧ quiescent_Relu2BwdRefIdeal (hRelu2BwdRefIdeal := hRelu2BwdRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_AttnMerge (hAttnMerge := hAttnMerge)
    ∧ quiescent_AttnMergeIdeal (hAttnMergeIdeal := hAttnMergeIdeal)
    ∧ quiescent_AttnMergeRefIdeal (hAttnMergeRefIdeal := hAttnMergeRefIdeal)
    ∧ quiescent_AttnFwd1 (hAttnFwd1 := hAttnFwd1)
    ∧ quiescent_AttnFwd1Ideal (hAttnFwd1Ideal := hAttnFwd1Ideal)
    ∧ quiescent_AttnFwd1RefIdeal (hAttnFwd1RefIdeal := hAttnFwd1RefIdeal)
    ∧ quiescent_AttnFwd4 (hAttnFwd4 := hAttnFwd4)
    ∧ quiescent_AttnFwd4Ideal (hAttnFwd4Ideal := hAttnFwd4Ideal)
    ∧ quiescent_AttnFwd4RefIdeal (hAttnFwd4RefIdeal := hAttnFwd4RefIdeal)
    ∧ quiescent_AttnFwd16 (hAttnFwd16 := hAttnFwd16)
    ∧ quiescent_AttnFwd16Ideal (hAttnFwd16Ideal := hAttnFwd16Ideal)
    ∧ quiescent_AttnFwd16RefIdeal (hAttnFwd16RefIdeal := hAttnFwd16RefIdeal)
    ∧ quiescent_SsmBwdEnds (hSsmBwdEnds := hSsmBwdEnds)
    ∧ quiescent_SsmBwdEndsIdeal (hSsmBwdEndsIdeal := hSsmBwdEndsIdeal)
    ∧ preserves_MemNormBwd_MemNormBwdIdeal
    ∧ algebraic_MemNormBwdIdeal_MemNormBwdRefIdeal_pre_mem_norm_finite (hMemNormBwdIdeal := hMemNormBwdIdeal) (hMemNormBwdRefIdeal := hMemNormBwdRefIdeal) (hPre_mem_norm_finite := hPre_mem_norm_finite)
    ∧ preserves_MemNormFwd_MemNormFwdIdeal
    ∧ algebraic_MemNormFwdIdeal_MemNormFwdRefIdeal (hMemNormFwdIdeal := hMemNormFwdIdeal) (hMemNormFwdRefIdeal := hMemNormFwdRefIdeal)
    ∧ preserves_MemAttnBwd_MemAttnBwdIdeal
    ∧ algebraic_MemAttnBwdIdeal_MemAttnBwdRefIdeal_pre_mem_attn_finite (hMemAttnBwdIdeal := hMemAttnBwdIdeal) (hMemAttnBwdRefIdeal := hMemAttnBwdRefIdeal) (hPre_mem_attn_finite := hPre_mem_attn_finite)
    ∧ preserves_MemAttnFwd_MemAttnFwdIdeal
    ∧ algebraic_MemAttnFwdIdeal_MemAttnFwdRefIdeal (hMemAttnFwdIdeal := hMemAttnFwdIdeal) (hMemAttnFwdRefIdeal := hMemAttnFwdRefIdeal)
    ∧ preserves_GluBwd_GluBwdIdeal
    ∧ algebraic_GluBwdIdeal_GluBwdRefIdeal_pre_glu_finite (hGluBwdIdeal := hGluBwdIdeal) (hGluBwdRefIdeal := hGluBwdRefIdeal) (hPre_glu_finite := hPre_glu_finite)
    ∧ preserves_GluFwd_GluFwdIdeal
    ∧ algebraic_GluFwdIdeal_GluFwdRefIdeal (hGluFwdIdeal := hGluFwdIdeal) (hGluFwdRefIdeal := hGluFwdRefIdeal)
    ∧ preserves_BranchMergeBwd_BranchMergeBwdIdeal
    ∧ algebraic_BranchMergeBwdIdeal_BranchMergeBwdRefIdeal (hBranchMergeBwdIdeal := hBranchMergeBwdIdeal) (hBranchMergeBwdRefIdeal := hBranchMergeBwdRefIdeal)
    ∧ preserves_BranchMergeFwd_BranchMergeFwdIdeal
    ∧ algebraic_BranchMergeFwdIdeal_BranchMergeFwdRefIdeal (hBranchMergeFwdIdeal := hBranchMergeFwdIdeal) (hBranchMergeFwdRefIdeal := hBranchMergeFwdRefIdeal)
    ∧ preserves_Norm2Bwd_Norm2BwdIdeal
    ∧ algebraic_Norm2BwdIdeal_Norm2BwdRefIdeal_pre_norm2_finite (hNorm2BwdIdeal := hNorm2BwdIdeal) (hNorm2BwdRefIdeal := hNorm2BwdRefIdeal) (hPre_norm2_finite := hPre_norm2_finite)
    ∧ preserves_OutProj_OutProjIdeal
    ∧ algebraic_OutProjIdeal_OutProjRefIdeal (hOutProjIdeal := hOutProjIdeal) (hOutProjRefIdeal := hOutProjRefIdeal)
    ∧ preserves_Norm1Bwd_Norm1BwdIdeal
    ∧ algebraic_Norm1BwdIdeal_Norm1BwdRefIdeal_pre_norm1_finite (hNorm1BwdIdeal := hNorm1BwdIdeal) (hNorm1BwdRefIdeal := hNorm1BwdRefIdeal) (hPre_norm1_finite := hPre_norm1_finite)
    ∧ preserves_Norm1Fwd_Norm1FwdIdeal
    ∧ algebraic_Norm1FwdIdeal_Norm1FwdRefIdeal (hNorm1FwdIdeal := hNorm1FwdIdeal) (hNorm1FwdRefIdeal := hNorm1FwdRefIdeal)
    ∧ preserves_LossHead_LossHeadIdeal
    ∧ algebraic_LossHeadIdeal_LossHeadRefIdeal_pre_loss_head_finite (hLossHeadIdeal := hLossHeadIdeal) (hLossHeadRefIdeal := hLossHeadRefIdeal) (hPre_loss_head_finite := hPre_loss_head_finite)
    ∧ preserves_Relu2Bwd_Relu2BwdIdeal
    ∧ algebraic_Relu2BwdIdeal_Relu2BwdRefIdeal (hRelu2BwdIdeal := hRelu2BwdIdeal) (hRelu2BwdRefIdeal := hRelu2BwdRefIdeal)
    ∧ preserves_MlpUp_MlpUpIdeal
    ∧ algebraic_MlpUpIdeal_MlpUpRefIdeal (hMlpUpIdeal := hMlpUpIdeal) (hMlpUpRefIdeal := hMlpUpRefIdeal)
    ∧ preserves_AttnMerge_AttnMergeIdeal
    ∧ algebraic_AttnMergeIdeal_AttnMergeRefIdeal (hAttnMergeIdeal := hAttnMergeIdeal) (hAttnMergeRefIdeal := hAttnMergeRefIdeal)
    ∧ preserves_AttnFwd1_AttnFwd1Ideal
    ∧ algebraic_AttnFwd1Ideal_AttnFwd1RefIdeal (hAttnFwd1Ideal := hAttnFwd1Ideal) (hAttnFwd1RefIdeal := hAttnFwd1RefIdeal)
    ∧ preserves_AttnFwd4_AttnFwd4Ideal
    ∧ algebraic_AttnFwd4Ideal_AttnFwd4RefIdeal (hAttnFwd4Ideal := hAttnFwd4Ideal) (hAttnFwd4RefIdeal := hAttnFwd4RefIdeal)
    ∧ preserves_AttnFwd16_AttnFwd16Ideal
    ∧ algebraic_AttnFwd16Ideal_AttnFwd16RefIdeal (hAttnFwd16Ideal := hAttnFwd16Ideal) (hAttnFwd16RefIdeal := hAttnFwd16RefIdeal)
    ∧ preserves_SsmBwdEnds_SsmBwdEndsIdeal
-- ==== Pre_glu_finite.lean ====
abbrev S8192x512 : Shape := ⟨2, ![8192, 512]⟩
abbrev S1x512 : Shape := ⟨2, ![1, 512]⟩
abbrev S512x512 : Shape := ⟨2, ![512, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x512 .f32) (main_arg5 : FVec F S1x512 .f32) (main_v3 : IVec S_ 1) (main_v7 : IVec S_ 1) (main_v11 : IVec S_ 1) (main_v15 : IVec S_ 1) : IVec S_ 1 :=
  let main_v16 : FVec F S512x512 .f32 := Host.absf main_arg4
  let main_cst_6 : FVec F S_ .f32 := constant S_ .f32 0x7F800000#32
  let main_v17 : FVec F S512x512 .f32 := broadcastInDim S512x512 ![] bcast_S_S512x512 main_cst_6
  let main_v18 : IVec S512x512 1 := cmpf .olt main_v16 main_v17
  let main_c_7 : IVec S_ 1 := constantI S_ 1 1#1
  let main_v19 : IVec S_ 1 := (fun x v => Host.reduce IntOp.andi x v reducesTo_S512x512_S_d0_1 h_S_) main_v18 main_c_7
  let main_v20 : FVec F S1x512 .f32 := Host.absf main_arg5
  let main_cst_8 : FVec F S_ .f32 := constant S_ .f32 0x7F800000#32
  let main_v21 : FVec F S1x512 .f32 := broadcastInDim S1x512 ![] bcast_S_S1x512 main_cst_8
  let main_v22 : IVec S1x512 1 := cmpf .olt main_v20 main_v21
  let main_c_9 : IVec S_ 1 := constantI S_ 1 1#1
  let main_v23 : IVec S_ 1 := (fun x v => Host.reduce IntOp.andi x v reducesTo_S1x512_S_d0_1 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S8192x512 .f32) (main_arg1 : FVec F S8192x512 .f32) (main_arg2 : FVec F S8192x512 .f32) (main_arg3 : FVec F S1x512 .f32) (main_arg4 : FVec F S512x512 .f32) (main_arg5 : FVec F S1x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_v3 main_v7 main_v11 main_v15
-- ==== Pre_loss_head_finite.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v8 : IVec S_ 1) (main_v12 : IVec S_ 1) (main_v15 : IVec S8192x1024 1) (main_c_5 : IVec S_ 1) : IVec S_ 1 :=
  let main_v16 : IVec S_ 1 := (fun x v => Host.reduce IntOp.andi x v reducesTo_S8192x1024_S_d0_1 h_S_) main_v15 main_c_5
  let main_v17 : FVec F S1x1024 .f32 := Host.absf main_arg4
  let main_cst_6 : FVec F S_ .f32 := constant S_ .f32 0x7F800000#32
  let main_v18 : FVec F S1x1024 .f32 := broadcastInDim S1x1024 ![] bcast_S_S1x1024 main_cst_6
  let main_v19 : IVec S1x1024 1 := cmpf .olt main_v17 main_v18
  let main_c_7 : IVec S_ 1 := constantI S_ 1 1#1
  let main_v20 : IVec S_ 1 := (fun x v => Host.reduce IntOp.andi x v reducesTo_S1x1024_S_d0_1 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S8192x4096 .bf16) (main_arg1 : FVec F S4096x1024 .f32) (main_arg2 : FVec F S8192x1024 .f32) (main_arg3 : FVec F S8192x1024 .f32) (main_arg4 : FVec F S1x1024 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : FVec F S8192x1024 .f32 := Host.absf main_arg3
  let main_cst_4 : FVec F S_ .f32 := constant S_ .f32 0x7F800000#32
  let main_v14 : FVec F S8192x1024 .f32 := broadcastInDim S8192x1024 ![] bcast_S_S8192x1024 main_cst_4
  let main_v15 : IVec S8192x1024 1 := cmpf .olt main_v13 main_v14
  let main_c_5 : IVec S_ 1 := constantI S_ 1 1#1
  fn_part1 (F := F) main_arg4 main_v4 main_v8 main_v12 main_v15 main_c_5
-- ==== Pre_mem_attn_finite.lean ====
abbrev S8192x512 : Shape := ⟨2, ![8192, 512]⟩
abbrev S256x1024 : Shape := ⟨2, ![256, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S8192x512 .f32) (main_arg1 : FVec F S256x1024 .f32) (main_arg2 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : FVec F S8192x512 .f32 := Host.absf main_arg2
  let main_cst_2 : FVec F S_ .f32 := constant S_ .f32 0x7F800000#32
  let main_v9 : FVec F S8192x512 .f32 := broadcastInDim S8192x512 ![] bcast_S_S8192x512 main_cst_2
  let main_v10 : IVec S8192x512 1 := cmpf .olt main_v8 main_v9
  let main_c_3 : IVec S_ 1 := constantI S_ 1 1#1
  let main_v11 : IVec S_ 1 := (fun x v => Host.reduce IntOp.andi x v reducesTo_S8192x512_S_d0_1 h_S_) main_v10 main_c_3
  let main_v12 : IVec S_ 1 := andi main_v3 main_v7
  let main_v13 : IVec S_ 1 := andi main_v12 main_v11
  main_v13
-- ==== Pre_mem_norm_finite.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S256x1024 .f32) (main_arg1 : FVec F S1x1024 .f32) (main_arg2 : FVec F S256x1024 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S256x1024 .f32 := Host.absf main_arg2
  let main_cst_2 : FVec F S_ .f32 := constant S_ .f32 0x7F800000#32
  let main_v9 : FVec F S256x1024 .f32 := broadcastInDim S256x1024 ![] bcast_S_S256x1024 main_cst_2
  let main_v10 : IVec S256x1024 1 := cmpf .olt main_v8 main_v9
  let main_c_3 : IVec S_ 1 := constantI S_ 1 1#1
  let main_v11 : IVec S_ 1 := (fun x v => Host.reduce IntOp.andi x v reducesTo_S256x1024_S_d0_1 h_S_) main_v10 main_c_3
  let main_v12 : IVec S_ 1 := andi main_v3 main_v7
  let main_v13 : IVec S_ 1 := andi main_v12 main_v11
  main_v13
-- ==== Pre_norm1_finite.lean ====
abbrev S8192x512 : Shape := ⟨2, ![8192, 512]⟩
abbrev S8192x768 : Shape := ⟨2, ![8192, 768]⟩
abbrev S8192x3072 : Shape := ⟨2, ![8192, 3072]⟩
abbrev S1024x6400 : Shape := ⟨2, ![1024, 6400]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S8192x3072 : S_.BroadcastsInDim S8192x3072 (![] : Fin 0 → Fin S8192x3072.rank)
  reducesTo_S8192x3072_S_d0_1 : S8192x3072.ReducesTo [0, 1] S_
  bcast_S_S1024x6400 : S_.BroadcastsInDim S1024x6400 (![] : Fin 0 → Fin S1024x6400.rank)
  reducesTo_S1024x6400_S_d0_1 : S1024x6400.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg9 : FVec F S1x1024 .f32) (main_v5 : IVec S_ 1) (main_v9 : IVec S_ 1) (main_v13 : IVec S_ 1) (main_v17 : IVec S_ 1) (main_v21 : IVec S_ 1) (main_v25 : IVec S_ 1) (main_v29 : IVec S_ 1) (main_v32 : IVec S8192x1024 1) : IVec S_ 1 :=
  let main_c_13 : IVec S_ 1 := constantI S_ 1 1#1
  let main_v33 : IVec S_ 1 := (fun x v => Host.reduce IntOp.andi x v reducesTo_S8192x1024_S_d0_1 h_S_) main_v32 main_c_13
  let main_v34 : FVec F S1x1024 .f32 := Host.absf main_arg9
  let main_cst_14 : FVec F S_ .f32 := constant S_ .f32 0x7F800000#32
  let main_v35 : FVec F S1x1024 .f32 := broadcastInDim S1x1024 ![] bcast_S_S1x1024 main_cst_14
  let main_v36 : IVec S1x1024 1 := cmpf .olt main_v34 main_v35
  let main_c_15 : IVec S_ 1 := constantI S_ 1 1#1
  let main_v37 : IVec S_ 1 := (fun x v => Host.reduce IntOp.andi x v reducesTo_S1x1024_S_d0_1 h_S_) main_v36 main_c_15
  let main_v38 : IVec S_ 1 := andi main_v5 main_v9
  let main_v39 : IVec S_ 1 := andi main_v38 main_v13
  let main_v40 : IVec S_ 1 := andi main_v39 main_v17
  let main_v41 : IVec S_ 1 := andi main_v40 main_v21
  let main_v42 : IVec S_ 1 := andi main_v41 main_v25
  let main_v43 : IVec S_ 1 := andi main_v42 main_v29
  let main_v44 : IVec S_ 1 := andi main_v43 main_v33
  let main_v45 : IVec S_ 1 := andi main_v44 main_v37
  main_v45

def fn_part1 {F : FTy → Type} [FloatOps F] (main_arg6 : FVec F S1024x6400 .f32) (main_arg7 : FVec F S8192x1024 .f32) (main_arg9 : FVec F S1x1024 .f32) (main_v0 : FVec F S8192x512 .f32) (main_v1 : FVec F S8192x3072 .f32) (main_v5 : IVec S_ 1) (main_v9 : IVec S_ 1) (main_v13 : IVec S_ 1) (main_v16 : IVec S8192x768 1) : IVec S_ 1 :=
  let main_c_5 : IVec S_ 1 := constantI S_ 1 1#1
  let main_v17 : IVec S_ 1 := (fun x v => Host.reduce IntOp.andi x v reducesTo_S8192x768_S_d0_1 h_S_) main_v16 main_c_5
  let main_v18 : FVec F S8192x512 .f32 := Host.absf main_v0
  let main_cst_6 : FVec F S_ .f32 := constant S_ .f32 0x7F800000#32
  let main_v19 : FVec F S8192x512 .f32 := broadcastInDim S8192x512 ![] bcast_S_S8192x512 main_cst_6
  let main_v20 : IVec S8192x512 1 := cmpf .olt main_v18 main_v19
  let main_c_7 : IVec S_ 1 := constantI S_ 1 1#1
  let main_v21 : IVec S_ 1 := (fun x v => Host.reduce IntOp.andi x v reducesTo_S8192x512_S_d0_1 h_S_) main_v20 main_c_7
  let main_v22 : FVec F S8192x3072 .f32 := Host.absf main_v1
  let main_cst_8 : FVec F S_ .f32 := constant S_ .f32 0x7F800000#32
  let main_v23 : FVec F S8192x3072 .f32 := broadcastInDim S8192x3072 ![] bcast_S_S8192x3072 main_cst_8
  let main_v24 : IVec S8192x3072 1 := cmpf .olt main_v22 main_v23
  let main_c_9 : IVec S_ 1 := constantI S_ 1 1#1
  let main_v25 : IVec S_ 1 := (fun x v => Host.reduce IntOp.andi x v reducesTo_S8192x3072_S_d0_1 h_S_) main_v24 main_c_9
  let main_v26 : FVec F S1024x6400 .f32 := Host.absf main_arg6
  let main_cst_10 : FVec F S_ .f32 := constant S_ .f32 0x7F800000#32
  let main_v27 : FVec F S1024x6400 .f32 := broadcastInDim S1024x6400 ![] bcast_S_S1024x6400 main_cst_10
  let main_v28 : IVec S1024x6400 1 := cmpf .olt main_v26 main_v27
  let main_c_11 : IVec S_ 1 := constantI S_ 1 1#1
  let main_v29 : IVec S_ 1 := (fun x v => Host.reduce IntOp.andi x v reducesTo_S1024x6400_S_d0_1 h_S_) main_v28 main_c_11
  let main_v30 : FVec F S8192x1024 .f32 := Host.absf main_arg7
  let main_cst_12 : FVec F S_ .f32 := constant S_ .f32 0x7F800000#32
  let main_v31 : FVec F S8192x1024 .f32 := broadcastInDim S8192x1024 ![] bcast_S_S8192x1024 main_cst_12
  let main_v32 : IVec S8192x1024 1 := cmpf .olt main_v30 main_v31
  fn_part2 (F := F) main_arg9 main_v5 main_v9 main_v13 main_v17 main_v21 main_v25 main_v29 main_v32

def fn {F : FTy → Type} [FloatOps F] (main_arg0 : FVec F S8192x512 .f32) (main_arg1 : FVec F S8192x768 .f32) (main_arg2 : FVec F S8192x768 .f32) (main_arg3 : FVec F S8192x768 .f32) (main_arg4 : FVec F S8192x512 .bf16) (main_arg5 : FVec F S8192x3072 .bf16) (main_arg6 : FVec F S1024x6400 .f32) (main_arg7 : FVec F S8192x1024 .f32) (main_arg8 : FVec F S8192x1024 .f32) (main_arg9 : FVec F S1x1024 .f32) : IVec S_ 1 :=
  let main_v0 : FVec F S8192x512 .f32 := (extf .f32 · bitsLt_bf16_f32) main_arg4
  let main_v1 : FVec F S8192x3072 .f32 := (extf .f32 · bitsLt_bf16_f32) main_arg5
  let main_v2 : FVec F S8192x512 .f32 := Host.absf main_arg0
  let main_cst : FVec F S_ .f32 := constant S_ .f32 0x7F800000#32
  let main_v3 : FVec F S8192x512 .f32 := broadcastInDim S8192x512 ![] bcast_S_S8192x512 main_cst
  let main_v4 : IVec S8192x512 1 := cmpf .olt main_v2 main_v3
  let main_c : IVec S_ 1 := constantI S_ 1 1#1
  let main_v5 : IVec S_ 1 := (fun x v => Host.reduce IntOp.andi x v reducesTo_S8192x512_S_d0_1 h_S_) main_v4 main_c
  let main_v6 : FVec F S8192x768 .f32 := Host.absf main_arg1
  let main_cst_0 : FVec F S_ .f32 := constant S_ .f32 0x7F800000#32
  let main_v7 : FVec F S8192x768 .f32 := broadcastInDim S8192x768 ![] bcast_S_S8192x768 main_cst_0
  let main_v8 : IVec S8192x768 1 := cmpf .olt main_v6 main_v7
  let main_c_1 : IVec S_ 1 := constantI S_ 1 1#1
  let main_v9 : IVec S_ 1 := (fun x v => Host.reduce IntOp.andi x v reducesTo_S8192x768_S_d0_1 h_S_) main_v8 main_c_1
  let main_v10 : FVec F S8192x768 .f32 := Host.absf main_arg2
  let main_cst_2 : FVec F S_ .f32 := constant S_ .f32 0x7F800000#32
  let main_v11 : FVec F S8192x768 .f32 := broadcastInDim S8192x768 ![] bcast_S_S8192x768 main_cst_2
  let main_v12 : IVec S8192x768 1 := cmpf .olt main_v10 main_v11
  let main_c_3 : IVec S_ 1 := constantI S_ 1 1#1
  let main_v13 : IVec S_ 1 := (fun x v => Host.reduce IntOp.andi x v reducesTo_S8192x768_S_d0_1 h_S_) main_v12 main_c_3
  let main_v14 : FVec F S8192x768 .f32 := Host.absf main_arg3
  let main_cst_4 : FVec F S_ .f32 := constant S_ .f32 0x7F800000#32
  let main_v15 : FVec F S8192x768 .f32 := broadcastInDim S8192x768 ![] bcast_S_S8192x768 main_cst_4
  let main_v16 : IVec S8192x768 1 := cmpf .olt main_v14 main_v15
  fn_part1 (F := F) main_arg6 main_arg7 main_arg9 main_v0 main_v1 main_v5 main_v9 main_v13 main_v16
-- ==== Pre_norm2_finite.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v4 : IVec S_ 1) (main_v8 : IVec S_ 1) (main_v12 : IVec S_ 1) (main_v15 : IVec S1x1024 1) (main_c_5 : IVec S_ 1) : IVec S_ 1 :=
  let main_v16 : IVec S_ 1 := (fun x v => Host.reduce IntOp.andi x v reducesTo_S1x1024_S_d0_1 h_S_) main_v15 main_c_5
  let main_v17 : IVec S_ 1 := andi main_v4 main_v8
  let main_v18 : IVec S_ 1 := andi main_v17 main_v12
  let main_v19 : IVec S_ 1 := andi main_v18 main_v16
  main_v19

def fn {F : FTy → Type} [FloatOps F] (main_arg0 : FVec F S8192x4096 .bf16) (main_arg1 : FVec F S1024x4096 .f32) (main_arg2 : FVec F S8192x1024 .f32) (main_arg3 : FVec F S8192x1024 .f32) (main_arg4 : FVec F S1x1024 .f32) : IVec S_ 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_c : IVec S_ 1 := constantI S_ 1 1#1
  let main_v4 : IVec S_ 1 := (fun x v => Host.reduce IntOp.andi x v reducesTo_S8192x4096_S_d0_1 h_S_) main_v3 main_c
  let main_v5 : FVec F S1024x4096 .f32 := Host.absf main_arg1
  let main_cst_0 : FVec F S_ .f32 := constant S_ .f32 0x7F800000#32
  let main_v6 : FVec F S1024x4096 .f32 := broadcastInDim S1024x4096 ![] bcast_S_S1024x4096 main_cst_0
  let main_v7 : IVec S1024x4096 1 := cmpf .olt main_v5 main_v6
  let main_c_1 : IVec S_ 1 := constantI S_ 1 1#1
  let main_v8 : IVec S_ 1 := (fun x v => Host.reduce IntOp.andi x v reducesTo_S1024x4096_S_d0_1 h_S_) main_v7 main_c_1
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : FVec F S1x1024 .f32 := Host.absf main_arg4
  let main_cst_4 : FVec F S_ .f32 := constant S_ .f32 0x7F800000#32
  let main_v14 : FVec F S1x1024 .f32 := broadcastInDim S1x1024 ![] bcast_S_S1x1024 main_cst_4
  let main_v15 : IVec S1x1024 1 := cmpf .olt main_v13 main_v14
  let main_c_5 : IVec S_ 1 := constantI S_ 1 1#1
  fn_part1 (F := F) main_v4 main_v8 main_v12 main_v15 main_c_5
-- ==== MemNormBwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 5
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== MemNormBwdRefIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 50
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1024, .f32⟩
  | .hbm, ⟨20, _⟩ => ⟨S256x1024, .f32⟩
  | .hbm, ⟨21, _⟩ => ⟨S1x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S1024, .f32⟩
  | .hbm, ⟨32, _⟩ => ⟨S256x1024, .f32⟩
  | .hbm, ⟨33, _⟩ => ⟨S_, .f32⟩
  | .hbm, ⟨34, _⟩ => ⟨S256, .f32⟩
  | .hbm, ⟨35, _⟩ => ⟨S256x1, .f32⟩
  | .hbm, ⟨36, _⟩ => ⟨S256x1024, .f32⟩
  | .hbm, ⟨37, _⟩ => ⟨S256x1024, .f32⟩
  | .hbm, ⟨38, _⟩ => ⟨S256x1, .f32⟩
  | .hbm, ⟨39, _⟩ => ⟨S_, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S256x1024, .f32⟩
  | .hbm, ⟨49, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== MemNormFwd.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNormFwdRefIdeal.lean ====
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MemAttnBwd.lean ====
abbrev S8192x512 : Shape := ⟨2, ![8192, 512]⟩
abbrev S256x1024 : Shape := ⟨2, ![256, 1024]⟩
abbrev S256x512 : Shape := ⟨2, ![256, 512]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S8192x512, .bf16⟩
  | .hbm, ⟨4, _⟩ => ⟨S256x512, .f32⟩
  | .hbm, ⟨5, _⟩ => ⟨S256x512, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x128, .f32⟩
  | .local _ .vmem, ⟨7, _⟩ => ⟨S1024x128, .f32⟩
  | .local _ .vmem, ⟨8, _⟩ => ⟨S1024x128, .bf16⟩
  | .local _ .vmem, ⟨9, _⟩ => ⟨S1024x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MemAttnBwdRefIdeal.lean ====
abbrev S8192x512 : Shape := ⟨2, ![8192, 512]⟩
abbrev S256x1024 : Shape := ⟨2, ![256, 1024]⟩
abbrev S256x512 : Shape := ⟨2, ![256, 512]⟩
abbrev S1x8192x4x128 : Shape := ⟨4, ![1, 8192, 4, 128]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x512 : Shape := ⟨3, ![1, 8192, 512]⟩
abbrev S1x4x128x256 : Shape := ⟨4, ![1, 4, 128, 256]⟩
abbrev S4x8192 : Shape := ⟨2, ![4, 8192]⟩
abbrev S1x4x256x128 : Shape := ⟨4, ![1, 4, 256, 128]⟩
abbrev S1x4x8192x128 : Shape := ⟨4, ![1, 4, 8192, 128]⟩

abbrev nBuf : Space → Nat
  | .hbm => 86
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .hbm, ⟨3, _⟩ => ⟨S256x512, .f32⟩
  | .hbm, ⟨4, _⟩ => ⟨S256x512, .f32⟩
  | .hbm, ⟨5, _⟩ => ⟨S1x8192x4x128, .f32⟩
  | .hbm, ⟨6, _⟩ => ⟨S1x256x4x128, .f32⟩
  | .hbm, ⟨7, _⟩ => ⟨S1x256x4x128, .f32⟩
  | .hbm, ⟨8, _⟩ => ⟨S1x4x8192x256, .f32⟩
  | .hbm, ⟨9, _⟩ => ⟨S_, .f32⟩
  | .hbm, ⟨10, _⟩ => ⟨S1x4x8192x256, .f32⟩
  | .hbm, ⟨11, _⟩ => ⟨S1x4x8192x256, .f32⟩
  | .hbm, ⟨12, _⟩ => ⟨S_, .f32⟩
  | .hbm, ⟨13, _⟩ => ⟨S1x4x8192, .f32⟩
  | .hbm, ⟨14, _⟩ => ⟨S1x4x8192x1, .f32⟩
  | .hbm, ⟨15, _⟩ => ⟨S1x4x8192x256, .f32⟩
  | .hbm, ⟨16, _⟩ => ⟨S1x4x8192x256, .i1⟩
  | .hbm, ⟨17, _⟩ => ⟨S1x4x8192x256, .f32⟩
  | .hbm, ⟨18, _⟩ => ⟨S_, .f32⟩
  | .hbm, ⟨19, _⟩ => ⟨S1x4x8192, .f32⟩
  | .hbm, ⟨20, _⟩ => ⟨S_, .f32⟩
  | .hbm, ⟨21, _⟩ => ⟨S1x4x8192, .f32⟩
  | .hbm, ⟨22, _⟩ => ⟨S1x4x8192, .f32⟩
  | .hbm, ⟨23, _⟩ => ⟨S_, .f32⟩
  | .hbm, ⟨24, _⟩ => ⟨S1x4x8192, .f32⟩
  | .hbm, ⟨25, _⟩ => ⟨S1x4x8192, .i1⟩
  | .hbm, ⟨26, _⟩ => ⟨S_, .f32⟩
  | .hbm, ⟨27, _⟩ => ⟨S1x4x8192, .f32⟩
  | .hbm, ⟨28, _⟩ => ⟨S1x4x8192, .i1⟩
  | .hbm, ⟨29, _⟩ => ⟨S_, .f32⟩
  | .hbm, ⟨30, _⟩ => ⟨S1x4x8192, .f32⟩
  | .hbm, ⟨31, _⟩ => ⟨S_, .f32⟩
  | .hbm, ⟨32, _⟩ => ⟨S1x4x8192, .f32⟩
  | .hbm, ⟨33, _⟩ => ⟨S_, .f32⟩
  | .hbm, ⟨34, _⟩ => ⟨S1x4x8192, .f32⟩
  | .hbm, ⟨35, _⟩ => ⟨S1x4x8192, .f32⟩
  | .hbm, ⟨36, _⟩ => ⟨S1x4x8192, .f32⟩
  | .hbm, ⟨37, _⟩ => ⟨S1x4x8192x1, .f32⟩
  | .hbm, ⟨38, _⟩ => ⟨S1x4x8192x256, .f32⟩
  | .hbm, ⟨39, _⟩ => ⟨S1x4x8192x256, .f32⟩
  | .hbm, ⟨40, _⟩ => ⟨S1x4x8192x256, .f32⟩
  | .hbm, ⟨41, _⟩ => ⟨S_, .f32⟩
  | .hbm, ⟨42, _⟩ => ⟨S1x4x8192, .f32⟩
  | .hbm, ⟨43, _⟩ => ⟨S1x4x8192x1, .f32⟩
  | .hbm, ⟨44, _⟩ => ⟨S1x4x8192x256, .f32⟩
  | .hbm, ⟨45, _⟩ => ⟨S1x4x8192x256, .f32⟩
  | .hbm, ⟨46, _⟩ => ⟨S1x4x8192x1, .f32⟩
  | .hbm, ⟨47, _⟩ => ⟨S_, .f32⟩
  | .hbm, ⟨48, _⟩ => ⟨S1x4x8192x1, .f32⟩
  | .hbm, ⟨49, _⟩ => ⟨S1x4x8192x1, .f32⟩
  | .hbm, ⟨50, _⟩ => ⟨S1x4x128x8192, .f32⟩
  | .hbm, ⟨51, _⟩ => ⟨S1x8192x4x128, .f32⟩
  | .hbm, ⟨52, _⟩ => ⟨S1x8192x512, .f32⟩
  | .hbm, ⟨53, _⟩ => ⟨S8192x512, .f32⟩
  | .hbm, ⟨54, _⟩ => ⟨S1x8192x512, .f32⟩
  | .hbm, ⟨55, _⟩ => ⟨S1x8192x4x128, .f32⟩
  | .hbm, ⟨56, _⟩ => ⟨S1x4x128x8192, .f32⟩
  | .hbm, ⟨57, _⟩ => ⟨S1x4x8192x256, .f32⟩
  | .hbm, ⟨58, _⟩ => ⟨S1x4x128x256, .f32⟩
  | .hbm, ⟨59, _⟩ => ⟨S1x256x4x128, .f32⟩
  | .hbm, ⟨60, _⟩ => ⟨S1x4x8192x256, .f32⟩
  | .hbm, ⟨61, _⟩ => ⟨S1x4x8192x256, .f32⟩
  | .hbm, ⟨62, _⟩ => ⟨S1x4x8192x256, .f32⟩
  | .hbm, ⟨63, _⟩ => ⟨S_, .f32⟩
  | .hbm, ⟨64, _⟩ => ⟨S1x4x8192, .f32⟩
  | .hbm, ⟨65, _⟩ => ⟨S1x4x8192x1, .f32⟩
  | .hbm, ⟨66, _⟩ => ⟨S1x4x8192x1, .f32⟩
  | .hbm, ⟨67, _⟩ => ⟨S1x4x8192x256, .f32⟩
  | .hbm, ⟨68, _⟩ => ⟨S1x4x8192x256, .f32⟩
  | .hbm, ⟨69, _⟩ => ⟨S_, .f32⟩
  | .hbm, ⟨70, _⟩ => ⟨S4x8192, .f32⟩
  | .hbm, ⟨71, _⟩ => ⟨S1x4x8192, .f32⟩
  | .hbm, ⟨72, _⟩ => ⟨S1x4x8192x256, .f32⟩
  | .hbm, ⟨73, _⟩ => ⟨S1x4x8192x256, .f32⟩
  | .hbm, ⟨74, _⟩ => ⟨S1x4x8192x256, .f32⟩
  | .hbm, ⟨75, _⟩ => ⟨S_, .f32⟩
  | .hbm, ⟨76, _⟩ => ⟨S1x4x8192x256, .f32⟩
  | .hbm, ⟨77, _⟩ => ⟨S1x4x8192x256, .f32⟩
  | .hbm, ⟨78, _⟩ => ⟨S1x4x256x128, .f32⟩
  | .hbm, ⟨79, _⟩ => ⟨S1x256x4x128, .f32⟩
  | .hbm, ⟨80, _⟩ => ⟨S1x4x8192x128, .f32⟩
  | .hbm, ⟨81, _⟩ => ⟨S1x8192x4x128, .f32⟩
  | .hbm, ⟨82, _⟩ => ⟨S256x512, .f32⟩
  | .hbm, ⟨83, _⟩ => ⟨S256x512, .f32⟩
  | .hbm, ⟨84, _⟩ => ⟨S8192x512, .f32⟩
  | .hbm, ⟨85, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== MemAttnFwd.lean ====
abbrev S8192x512 : Shape := ⟨2, ![8192, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S8192x512, .f32⟩
  | .local _ .vmem, ⟨0, _⟩ => ⟨S1024x128, .f32⟩
  | .local _ .vmem, ⟨1, _⟩ => ⟨S1024x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1024x128, .f32⟩
  | .local _ .vmem, ⟨7, _⟩ => ⟨S1024x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemAttnFwdRefIdeal.lean ====
abbrev S8192x512 : Shape := ⟨2, ![8192, 512]⟩
abbrev S256x1024 : Shape := ⟨2, ![256, 1024]⟩
abbrev S256x512 : Shape := ⟨2, ![256, 512]⟩
abbrev S1x8192x4x128 : Shape := ⟨4, ![1, 8192, 4, 128]⟩
abbrev S1x256x4x128 : Shape := ⟨4, ![1, 256, 4, 128]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x128x8192 : Shape := ⟨4, ![1, 4, 128, 8192]⟩
abbrev S1x8192x512 : Shape := ⟨3, ![1, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S256x1024, .f32⟩
  | .hbm, ⟨2, _⟩ => ⟨S256x512, .f32⟩
  | .hbm, ⟨3, _⟩ => ⟨S256x512, .f32⟩
  | .hbm, ⟨4, _⟩ => ⟨S1x8192x4x128, .f32⟩
  | .hbm, ⟨5, _⟩ => ⟨S1x256x4x128, .f32⟩
  | .hbm, ⟨6, _⟩ => ⟨S1x256x4x128, .f32⟩
  | .hbm, ⟨7, _⟩ => ⟨S1x4x8192x256, .f32⟩
  | .hbm, ⟨8, _⟩ => ⟨S_, .f32⟩
  | .hbm, ⟨9, _⟩ => ⟨S1x4x8192x256, .f32⟩
  | .hbm, ⟨10, _⟩ => ⟨S1x4x8192x256, .f32⟩
  | .hbm, ⟨11, _⟩ => ⟨S_, .f32⟩
  | .hbm, ⟨12, _⟩ => ⟨S1x4x8192, .f32⟩
  | .hbm, ⟨13, _⟩ => ⟨S_, .f32⟩
  | .hbm, ⟨14, _⟩ => ⟨S1x4x8192, .f32⟩
  | .hbm, ⟨15, _⟩ => ⟨S1x4x8192, .f32⟩
  | .hbm, ⟨16, _⟩ => ⟨S1x4x8192x1, .f32⟩
  | .hbm, ⟨17, _⟩ => ⟨S1x4x8192x256, .f32⟩
  | .hbm, ⟨18, _⟩ => ⟨S1x4x8192x256, .f32⟩
  | .hbm, ⟨19, _⟩ => ⟨S1x4x8192x256, .f32⟩
  | .hbm, ⟨20, _⟩ => ⟨S_, .f32⟩
  | .hbm, ⟨21, _⟩ => ⟨S1x4x8192, .f32⟩
  | .hbm, ⟨22, _⟩ => ⟨S1x4x8192x1, .f32⟩
  | .hbm, ⟨23, _⟩ => ⟨S1x4x8192x256, .f32⟩
  | .hbm, ⟨24, _⟩ => ⟨S1x4x8192x256, .f32⟩
  | .hbm, ⟨25, _⟩ => ⟨S1x4x128x8192, .f32⟩
  | .hbm, ⟨26, _⟩ => ⟨S1x8192x4x128, .f32⟩
  | .hbm, ⟨27, _⟩ => ⟨S1x8192x512, .f32⟩
  | .hbm, ⟨28, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== GluBwd.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩

abbrev nBuf : Space → Nat
  | .hbm => 12
  | .vmem => 17
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S1x512, .f32⟩
  | .hbm, ⟨4, _⟩ => ⟨S512x512, .f32⟩
  | .hbm, ⟨5, _⟩ => ⟨S1x512, .f32⟩
  | .hbm, ⟨6, _⟩ => ⟨S512x512, .bf16⟩
  | .hbm, ⟨7, _⟩ => ⟨S8192x512, .f32⟩
  | .hbm, ⟨8, _⟩ => ⟨S8192x512, .bf16⟩
  | .hbm, ⟨9, _⟩ => ⟨S8192x512, .bf16⟩
  | .hbm, ⟨10, _⟩ => ⟨S1x512, .f32⟩
  | .hbm, ⟨11, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S1x512, .f32⟩
  | .local _ .vmem, ⟨16, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GluBwdIdeal.lean ====
variable {F : FTy → Type} [FloatOps F] [Named F]
def κ : String → Option EReal := fun
  | "cubic" => some ((8943 / 200000 : ℝ) : EReal)
  | "three_cubic" => some ((26829 / 200000 : ℝ) : EReal)
  | _ => none
-- ==== GluBwdRefIdeal.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩
abbrev S_ : Shape := ⟨0, ![]⟩

abbrev nBuf : Space → Nat
  | .hbm => 139
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S1x512, .f32⟩
  | 4 => ⟨S512x512, .f32⟩
  | 5 => ⟨S1x512, .f32⟩
  | 6 => ⟨S512, .f32⟩
  | 7 => ⟨S1x512, .f32⟩
  | 8 => ⟨S8192x512, .f32⟩
  | 9 => ⟨S8192x512, .f32⟩
  | 10 => ⟨S8192x512, .f32⟩
  | 11 => ⟨S_, .f32⟩
  | 12 => ⟨S_, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S512, .f32⟩
  | 32 => ⟨S1x512, .f32⟩
  | 33 => ⟨S8192x512, .f32⟩
  | 34 => ⟨S8192x512, .f32⟩
  | 35 => ⟨S8192x512, .f32⟩
  | 36 => ⟨S_, .f32⟩
  | 37 => ⟨S_, .f32⟩
  | 38 => ⟨S_, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S8192x512, .f32⟩
  | 49 => ⟨S_, .f32⟩
  | 50 => ⟨S8192x512, .f32⟩
  | 51 => ⟨S8192x512, .f32⟩
  | 52 => ⟨S8192x512, .f32⟩
  | 53 => ⟨S_, .f32⟩
  | 54 => ⟨S8192x512, .f32⟩
  | 55 => ⟨S8192x512, .f32⟩
  | 56 => ⟨S_, .f32⟩
  | 57 => ⟨S8192x512, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S_, .f32⟩
  | 64 => ⟨S8192x512, .f32⟩
  | 65 => ⟨S8192x512, .f32⟩
  | 66 => ⟨S8192x512, .f32⟩
  | 67 => ⟨S8192x512, .f32⟩
  | 68 => ⟨S512, .f32⟩
  | 69 => ⟨S1x512, .f32⟩
  | 70 => ⟨S8192x512, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S8192x512, .f32⟩
  | 87 => ⟨S8192x512, .f32⟩
  | 88 => ⟨S_, .f32⟩
  | 89 => ⟨S512, .f32⟩
  | 90 => ⟨S1x512, .f32⟩
  | 91 => ⟨S_, .f32⟩
  | 92 => ⟨S512, .f32⟩
  | 93 => ⟨S1x512, .f32⟩
  | 94 => ⟨S8192x512, .f32⟩
  | 95 => ⟨S8192x512, .f32⟩
  | 96 => ⟨S8192x512, .f32⟩
  | 97 => ⟨S8192x512, .f32⟩
  | 98 => ⟨S_, .f32⟩
  | 99 => ⟨S8192x512, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S512, .f32⟩
  | 113 => ⟨S1x512, .f32⟩
  | 114 => ⟨S_, .f32⟩
  | 115 => ⟨S512, .f32⟩
  | 116 => ⟨S1x512, .f32⟩
  | 117 => ⟨S8192x512, .f32⟩
  | 118 => ⟨S512, .f32⟩
  | 119 => ⟨S1x512, .f32⟩
  | 120 => ⟨S8192x512, .f32⟩
  | 121 => ⟨S8192x512, .f32⟩
  | 122 => ⟨S8192x512, .f32⟩
  | 123 => ⟨S8192x512, .f32⟩
  | 124 => ⟨S_, .f32⟩
  | 125 => ⟨S8192x512, .f32⟩
  | 126 => ⟨S8192x512, .f32⟩
  | 127 => ⟨S_, .f32⟩
  | _ => ⟨S8192x512, .f32⟩

abbrev hbmTy0_1 (i : Nat) : BufTy := match i % 128 with
  | 0 => ⟨S8192x512, .f32⟩
  | 1 => ⟨S8192x512, .f32⟩
  | 2 => ⟨S_, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .bf16⟩
  | 10 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_15 : Ref sig .tc := ⟨.hbm, 88, rfl⟩
abbrev main_v66 : Ref sig .tc := ⟨.hbm, 89, rfl⟩
abbrev main_v67 : Ref sig .tc := ⟨.hbm, 90, rfl⟩
abbrev main_cst_16 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_17 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_18 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_cst_20 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_cst_21 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_cst_23 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩

abbrev nD : Nat := 1
abbrev τ : Topo := Topo.v7x

variable {F : FTy → Type} [FloatOps F]
-- ==== GluFwd.lean ====
abbrev S8192x512 : Shape := ⟨2, ![8192, 512]⟩
abbrev S1x512 : Shape := ⟨2, ![1, 512]⟩
abbrev S512x512 : Shape := ⟨2, ![512, 512]⟩

abbrev nBuf : Space → Nat
  | .hbm => 7
  | .vmem => 9
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x512, .bf16⟩
  | .hbm, ⟨6, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S512x512, .bf16⟩
  | .local _ .vmem, ⟨6, _⟩ => ⟨S1x512, .f32⟩
  | .local _ .vmem, ⟨7, _⟩ => ⟨S512x512, .bf16⟩
  | .local _ .vmem, ⟨8, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluFwdRefIdeal.lean ====
abbrev S8192x512 : Shape := ⟨2, ![8192, 512]⟩
abbrev S1x512 : Shape := ⟨2, ![1, 512]⟩
abbrev S512x512 : Shape := ⟨2, ![512, 512]⟩
abbrev S512 : Shape := ⟨1, ![512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512, .f32⟩
  | .hbm, ⟨6, _⟩ => ⟨S1x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S_, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S_, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== BranchMergeBwd.lean ====
abbrev S8192x1024 : Shape := ⟨2, ![8192, 1024]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S1024x512 : Shape := ⟨2, ![1024, 512]⟩
abbrev S1024x256 : Shape := ⟨2, ![1024, 256]⟩
abbrev S256x512 : Shape := ⟨2, ![256, 512]⟩
abbrev S256x256 : Shape := ⟨2, ![256, 256]⟩
abbrev S256x3072 : Shape := ⟨2, ![256, 3072]⟩
abbrev S1x1024 : Shape := ⟨2, ![1, 1024]⟩
abbrev S1024 : Shape := ⟨1, ![1024]⟩

abbrev nBuf : Space → Nat
  | .hbm => 23
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .f32⟩
  | .hbm, ⟨3, _⟩ => ⟨S8192x512, .f32⟩
  | .hbm, ⟨4, _⟩ => ⟨S512x1024, .f32⟩
  | .hbm, ⟨5, _⟩ => ⟨S256x1024, .f32⟩
  | .hbm, ⟨6, _⟩ => ⟨S512x1024, .f32⟩
  | .hbm, ⟨7, _⟩ => ⟨S8192x3072, .f32⟩
  | .hbm, ⟨8, _⟩ => ⟨S1x3072, .f32⟩
  | .hbm, ⟨9, _⟩ => ⟨S512x1024, .bf16⟩
  | .hbm, ⟨10, _⟩ => ⟨S1024x512, .bf16⟩
  | .hbm, ⟨11, _⟩ => ⟨S256x1024, .bf16⟩
  | .hbm, ⟨12, _⟩ => ⟨S1024x256, .bf16⟩
  | .hbm, ⟨13, _⟩ => ⟨S512x1024, .bf16⟩
  | .hbm, ⟨14, _⟩ => ⟨S1024x512, .bf16⟩
  | .hbm, ⟨15, _⟩ => ⟨S8192x512, .f32⟩
  | .hbm, ⟨16, _⟩ => ⟨S8192x256, .f32⟩
  | .hbm, ⟨17, _⟩ => ⟨S8192x512, .f32⟩
  | .hbm, ⟨18, _⟩ => ⟨S1024x512, .f32⟩
  | .hbm, ⟨19, _⟩ => ⟨S1024x256, .f32⟩
  | .hbm, ⟨20, _⟩ => ⟨S1024x512, .f32⟩
  | .hbm, ⟨21, _⟩ => ⟨S8192x3072, .bf16⟩
  | .hbm, ⟨22, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .f32⟩
  | .local _ .vmem, ⟨5, _⟩ => ⟨S256x256, .f32⟩
  | .local _ .vmem, ⟨6, _⟩ => ⟨S256x512, .f32⟩
  | .local _ .vmem, ⟨7, _⟩ => ⟨S256x512, .f32⟩
  | .local _ .vmem, ⟨8, _⟩ => ⟨S1024x512, .bf16⟩
  | .local _ .vmem, ⟨9, _⟩ => ⟨S1024x256, .bf16⟩
  | .local _ .vmem, ⟨10, _⟩ => ⟨S1024x512, .bf16⟩
  | .local _ .vmem, ⟨11, _⟩ => ⟨S256x3072, .f32⟩
  | .local _ .vmem, ⟨12, _⟩ => ⟨S256x3072, .f32⟩
  | .local _ .vmem, ⟨13, _⟩ => ⟨S1x3072, .f32⟩
  | .local _ .vmem, ⟨14, _⟩ => ⟨S256x512, .f32⟩
  | .local _ .vmem, ⟨15, _⟩ => ⟨S256x512, .f32⟩
  | .local _ .vmem, ⟨16, _⟩ => ⟨S256x256, .f32⟩
  | .local _ .vmem, ⟨17, _⟩ => ⟨S256x256, .f32⟩
  | .local _ .vmem, ⟨18, _⟩ => ⟨S256x512, .f32⟩
  | .local _ .vmem, ⟨19, _⟩ => ⟨S256x512, .f32⟩
  | .local _ .vmem, ⟨20, _⟩ => ⟨S1024x512, .f32⟩
  | .local _ .vmem, ⟨21, _⟩ => ⟨S1024x256, .f32⟩
  | .local _ .vmem, ⟨22, _⟩ => ⟨S1024x512, .f32⟩
  | .local _ .vmem, ⟨23, _⟩ => ⟨S256x3072, .bf16⟩
  | .local _ .vmem, ⟨24, _⟩ => ⟨S256x3072, .bf16⟩
  | .local _ .vmem, ⟨25, _⟩ => ⟨S1x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x3072 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== BranchMergeBwdRefIdeal.lean ====
abbrev S8192x1024 : Shape := ⟨2, ![8192, 1024]⟩
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S3072 : Shape := ⟨1, ![3072]⟩
abbrev S_ : Shape := ⟨0, ![]⟩
abbrev S8192x3x1024 : Shape := ⟨3, ![8192, 3, 1024]⟩
abbrev S8192x1x1024 : Shape := ⟨3, ![8192, 1, 1024]⟩
abbrev S1024x512 : Shape := ⟨2, ![1024, 512]⟩
abbrev S1024x256 : Shape := ⟨2, ![1024, 256]⟩

abbrev nBuf : Space → Nat
  | .hbm => 81
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .bf16⟩
  | .hbm, ⟨2, _⟩ => ⟨S8192x256, .f32⟩
  | .hbm, ⟨3, _⟩ => ⟨S8192x512, .f32⟩
  | .hbm, ⟨4, _⟩ => ⟨S512x1024, .f32⟩
  | .hbm, ⟨5, _⟩ => ⟨S256x1024, .f32⟩
  | .hbm, ⟨6, _⟩ => ⟨S512x1024, .f32⟩
  | .hbm, ⟨7, _⟩ => ⟨S8192x3072, .f32⟩
  | .hbm, ⟨8, _⟩ => ⟨S1x3072, .f32⟩
  | .hbm, ⟨9, _⟩ => ⟨S8192x512, .f32⟩
  | .hbm, ⟨10, _⟩ => ⟨S3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3x1024, .f32⟩
  | .hbm, ⟨27, _⟩ => ⟨S8192x1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S1024x512, .f32⟩
  | .hbm, ⟨46, _⟩ => ⟨S512x1024, .f32⟩
  | .hbm, ⟨47, _⟩ => ⟨S8192x512, .f32⟩
  | .hbm, ⟨48, _⟩ => ⟨S8192x1x1024, .f32⟩
  | .hbm, ⟨49, _⟩ => ⟨S_, .f32⟩
  | .hbm, ⟨50, _⟩ => ⟨S8192x3x1024, .f32⟩
  | .hbm, ⟨51, _⟩ => ⟨S8192x1024, .f32⟩
  | .hbm, ⟨52, _⟩ => ⟨S8192x1024, .f32⟩
  | .hbm, ⟨53, _⟩ => ⟨S1024x256, .f32⟩
  | .hbm, ⟨54, _⟩ => ⟨S256x1024, .f32⟩
  | .hbm, ⟨55, _⟩ => ⟨S8192x256, .f32⟩
  | .hbm, ⟨56, _⟩ => ⟨S8192x1x1024, .f32⟩
  | .hbm, ⟨57, _⟩ => ⟨S_, .f32⟩
  | .hbm, ⟨58, _⟩ => ⟨S8192x3x1024, .f32⟩
  | .hbm, ⟨59, _⟩ => ⟨S8192x3x1024, .f32⟩
  | .hbm, ⟨60, _⟩ => ⟨S8192x1024, .f32⟩
  | .hbm, ⟨61, _⟩ => ⟨S8192x1024, .f32⟩
  | .hbm, ⟨62, _⟩ => ⟨S1024x512, .f32⟩
  | .hbm, ⟨63, _⟩ => ⟨S512x1024, .f32⟩
  | .hbm, ⟨64, _⟩ => ⟨S8192x512, .f32⟩
  | .hbm, ⟨65, _⟩ => ⟨S8192x1x1024, .f32⟩
  | .hbm, ⟨66, _⟩ => ⟨S_, .f32⟩
  | .hbm, ⟨67, _⟩ => ⟨S8192x3x1024, .f32⟩
  | .hbm, ⟨68, _⟩ => ⟨S8192x3x1024, .f32⟩
  | .hbm, ⟨69, _⟩ => ⟨S8192x3072, .f32⟩
  | .hbm, ⟨70, _⟩ => ⟨S8192x3072, .f32⟩
  | .hbm, ⟨71, _⟩ => ⟨S_, .f32⟩
  | .hbm, ⟨72, _⟩ => ⟨S3072, .f32⟩
  | .hbm, ⟨73, _⟩ => ⟨S1x3072, .f32⟩
  | .hbm, ⟨74, _⟩ => ⟨S_, .f32⟩
  | .hbm, ⟨75, _⟩ => ⟨S3072, .f32⟩
  | .hbm, ⟨76, _⟩ => ⟨S1x3072, .f32⟩
  | .hbm, ⟨77, _⟩ => ⟨S1024x512, .f32⟩
  | .hbm, ⟨78, _⟩ => ⟨S1024x256, .f32⟩
  | .hbm, ⟨79, _⟩ => ⟨S1024x512, .f32⟩
  | .hbm, ⟨80, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_2 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_3 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_4 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_5 : Ref sig .tc := ⟨.hbm, 71, rfl⟩
abbrev main_v56 : Ref sig .tc := ⟨.hbm, 72, rfl⟩
abbrev main_v57 : Ref sig .tc := ⟨.hbm, 73, rfl⟩
abbrev main_cst_6 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩

abbrev nD : Nat := 1
abbrev τ : Topo := Topo.v7x

variable {F : FTy → Type} [FloatOps F]
-- ==== BranchMergeFwd.lean ====
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S1024x512 : Shape := ⟨2, ![1024, 512]⟩
abbrev S1024x256 : Shape := ⟨2, ![1024, 256]⟩
abbrev S8192x1024 : Shape := ⟨2, ![8192, 1024]⟩
abbrev S256x512 : Shape := ⟨2, ![256, 512]⟩
abbrev S256x256 : Shape := ⟨2, ![256, 256]⟩
abbrev S256x3072 : Shape := ⟨2, ![256, 3072]⟩

abbrev nBuf : Space → Nat
  | .hbm => 15
  | .vmem => 14
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x512, .f32⟩
  | .hbm, ⟨3, _⟩ => ⟨S512x1024, .f32⟩
  | .hbm, ⟨4, _⟩ => ⟨S256x1024, .f32⟩
  | .hbm, ⟨5, _⟩ => ⟨S512x1024, .f32⟩
  | .hbm, ⟨6, _⟩ => ⟨S8192x3072, .f32⟩
  | .hbm, ⟨7, _⟩ => ⟨S1x3072, .f32⟩
  | .hbm, ⟨8, _⟩ => ⟨S512x1024, .bf16⟩
  | .hbm, ⟨9, _⟩ => ⟨S1024x512, .bf16⟩
  | .hbm, ⟨10, _⟩ => ⟨S256x1024, .bf16⟩
  | .hbm, ⟨11, _⟩ => ⟨S1024x256, .bf16⟩
  | .hbm, ⟨12, _⟩ => ⟨S512x1024, .bf16⟩
  | .hbm, ⟨13, _⟩ => ⟨S1024x512, .bf16⟩
  | .hbm, ⟨14, _⟩ => ⟨S8192x1024, .bf16⟩
  | .local _ .vmem, ⟨0, _⟩ => ⟨S256x512, .bf16⟩
  | .local _ .vmem, ⟨1, _⟩ => ⟨S256x512, .bf16⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S1024x512, .bf16⟩
  | .local _ .vmem, ⟨7, _⟩ => ⟨S1024x256, .bf16⟩
  | .local _ .vmem, ⟨8, _⟩ => ⟨S1024x512, .bf16⟩
  | .local _ .vmem, ⟨9, _⟩ => ⟨S256x3072, .f32⟩
  | .local _ .vmem, ⟨10, _⟩ => ⟨S256x3072, .f32⟩
  | .local _ .vmem, ⟨11, _⟩ => ⟨S1x3072, .f32⟩
  | .local _ .vmem, ⟨12, _⟩ => ⟨S256x1024, .bf16⟩
  | .local _ .vmem, ⟨13, _⟩ => ⟨S256x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== BranchMergeFwdRefIdeal.lean ====
abbrev S8192x512 : Shape := ⟨2, ![8192, 512]⟩
abbrev S8192x256 : Shape := ⟨2, ![8192, 256]⟩
abbrev S512x1024 : Shape := ⟨2, ![512, 1024]⟩
abbrev S256x1024 : Shape := ⟨2, ![256, 1024]⟩
abbrev S8192x3072 : Shape := ⟨2, ![8192, 3072]⟩
abbrev S1x3072 : Shape := ⟨2, ![1, 3072]⟩
abbrev S3072 : Shape := ⟨1, ![3072]⟩
abbrev S_ : Shape := ⟨0, ![]⟩
abbrev S8192x3x1024 : Shape := ⟨3, ![8192, 3, 1024]⟩
abbrev S8192x1024 : Shape := ⟨2, ![8192, 1024]⟩
abbrev S8192x1x1024 : Shape := ⟨3, ![8192, 1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .f32⟩
  | .hbm, ⟨2, _⟩ => ⟨S8192x512, .f32⟩
  | .hbm, ⟨3, _⟩ => ⟨S512x1024, .f32⟩
  | .hbm, ⟨4, _⟩ => ⟨S256x1024, .f32⟩
  | .hbm, ⟨5, _⟩ => ⟨S512x1024, .f32⟩
  | .hbm, ⟨6, _⟩ => ⟨S8192x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S8192x3x1024, .f32⟩
  | .hbm, ⟨21, _⟩ => ⟨S8192x512, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1x1024, .f32⟩
  | .hbm, ⟨26, _⟩ => ⟨S8192x1024, .f32⟩
  | .hbm, ⟨27, _⟩ => ⟨S8192x1024, .f32⟩
  | .hbm, ⟨28, _⟩ => ⟨S8192x1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Norm2Bwd.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S4096x1024 : Shape := ⟨2, ![4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x4096, .bf16⟩
  | .hbm, ⟨6, _⟩ => ⟨S4096x1024, .bf16⟩
  | .hbm, ⟨7, _⟩ => ⟨S8192x1024, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32_18 : BitVec 32 := 0#32
  let v37 : BitVec 1 := Scalar.cmpi .sgt arg0 c0_i32_18
  let v38 : BitVec 32 := Scalar.extui v37
  let c0_i32_19 : BitVec 32 := 0#32
  let v39 : BitVec 1 := Scalar.cmpi .ne v38 c0_i32_19
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Norm2BwdRefIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1024x1024, .bf16⟩
  | .hbm, ⟨5, _⟩ => ⟨S8192x1024, .f32⟩
  | .hbm, ⟨6, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Norm1Bwd.lean ====
abbrev S8192x512 : Shape := ⟨2, ![8192, 512]⟩
abbrev S8192x768 : Shape := ⟨2, ![8192, 768]⟩
abbrev S8192x3072 : Shape := ⟨2, ![8192, 3072]⟩
abbrev S1024x6400 : Shape := ⟨2, ![1024, 6400]⟩
abbrev S8192x1024 : Shape := ⟨2, ![8192, 1024]⟩
abbrev S1x1024 : Shape := ⟨2, ![1, 1024]⟩
abbrev S6400x1024 : Shape := ⟨2, ![6400, 1024]⟩
abbrev S512x512 : Shape := ⟨2, ![512, 512]⟩
abbrev S512x768 : Shape := ⟨2, ![512, 768]⟩
abbrev S512x3072 : Shape := ⟨2, ![512, 3072]⟩
abbrev S512x1024 : Shape := ⟨2, ![512, 1024]⟩
abbrev S768x1024 : Shape := ⟨2, ![768, 1024]⟩
abbrev S3072x1024 : Shape := ⟨2, ![3072, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 21
  | .smem => 0
  | _ => 0

abbrev bufTy : (tb : Table) → Fin (tcTables nBuf tb) → BufTy
  | .hbm, ⟨0, _⟩ => ⟨S8192x512, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S8192x512, .bf16⟩
  | .hbm, ⟨5, _⟩ => ⟨S8192x3072, .bf16⟩
  | .hbm, ⟨6, _⟩ => ⟨S1024x6400, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1024x6400, .bf16⟩
  | .hbm, ⟨11, _⟩ => ⟨S6400x1024, .bf16⟩
  | .hbm, ⟨12, _⟩ => ⟨S8192x1024, .f32⟩
  | .hbm, ⟨13, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x512, .bf16⟩
  | .local _ .vmem, ⟨9, _⟩ => ⟨S512x512, .bf16⟩
  | .local _ .vmem, ⟨10, _⟩ => ⟨S512x3072, .bf16⟩
  | .local _ .vmem, ⟨11, _⟩ => ⟨S512x3072, .bf16⟩
  | .local _ .vmem, ⟨12, _⟩ => ⟨S6400x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v63 : BitVec 1 := Scalar.cmpi .eq arg0 c0_i32
  let v64 : BitVec 32 := Scalar.extui v63
  let c0_i32_37 : BitVec 32 := 0#32
  let v65 : BitVec 1 := Scalar.cmpi .ne v64 c0_i32_37
  v65

def k0_cond2 (i : grid0.Coords) : BitVec 1 :=
  let arg0 : BitVec 32 := BitVec.ofNat 32 (i 0).val
  let c0_i32_38 : BitVec 32 := 0#32
  let v66 : BitVec 1 := Scalar.cmpi .sgt arg0 c0_i32_38
  let v67 : BitVec 32 := Scalar.extui v66
  let c0_i32_39 : BitVec 32 := 0#32
  let v68 : BitVec 1 := Scalar.cmpi .ne v67 c0_i32_39
  v68

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6400x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Norm1BwdRefIdeal.lean ====
abbrev S8192x512 : Shape := ⟨2, ![8192, 512]⟩
abbrev S8192x768 : Shape := ⟨2, ![8192, 768]⟩
abbrev S8192x3072 : Shape := ⟨2, ![8192, 3072]⟩
abbrev S1024x6400 : Shape := ⟨2, ![1024, 6400]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x6400 : Shape := ⟨2, ![8192, 6400]⟩

abbrev nBuf : Space → Nat
  | .hbm => 69
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S8192x512, .bf16⟩
  | .hbm, ⟨5, _⟩ => ⟨S8192x3072, .bf16⟩
  | .hbm, ⟨6, _⟩ => ⟨S1024x6400, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x6400, .f32⟩
  | .hbm, ⟨32, _⟩ => ⟨S8192x512, .f32⟩
  | .hbm, ⟨33, _⟩ => ⟨S8192x768, .f32⟩
  | .hbm, ⟨34, _⟩ => ⟨S8192x768, .f32⟩
  | .hbm, ⟨35, _⟩ => ⟨S8192x768, .f32⟩
  | .hbm, ⟨36, _⟩ => ⟨S8192x512, .f32⟩
  | .hbm, ⟨37, _⟩ => ⟨S8192x3072, .f32⟩
  | .hbm, ⟨38, _⟩ => ⟨S8192x512, .f32⟩
  | .hbm, ⟨39, _⟩ => ⟨S8192x3072, .f32⟩
  | .hbm, ⟨40, _⟩ => ⟨S8192x6400, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S1x1024, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Norm1Fwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Norm1FwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== LossHead.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S4096x1024, .bf16⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_19 : BitVec 32 := 0#32
  let v44 : BitVec 1 := Scalar.cmpi .ne v43 c0_i32_19
  v44

def k0_cond2 (i : grid0.Coords) : BitVec 1 :=
  let arg0 : BitVec 32 := BitVec.ofNat 32 (i 0).val
  let c0_i32_20 : BitVec 32 := 0#32
  let v45 : BitVec 1 := Scalar.cmpi .sgt arg0 c0_i32_20
  let v46 : BitVec 32 := Scalar.extui v45
  let c0_i32_21 : BitVec 32 := 0#32
  let v47 : BitVec 1 := Scalar.cmpi .ne v46 c0_i32_21
  v47

def k0_cond3 (i : grid0.Coords) : BitVec 1 :=
  let arg0 : BitVec 32 := BitVec.ofNat 32 (i 0).val
  let c0_i32_22 : BitVec 32 := 0#32
  let v48 : BitVec 1 := Scalar.cmpi .eq arg0 c0_i32_22
  let v49 : BitVec 32 := Scalar.extui v48
  let c0_i32_23 : BitVec 32 := 0#32
  let v50 : BitVec 1 := Scalar.cmpi .ne v49 c0_i32_23
  v50

def k0_cond4 (i : grid0.Coords) : BitVec 1 :=
  let arg0 : BitVec 32 := BitVec.ofNat 32 (i 0).val
  let c0_i32_24 : BitVec 32 := 0#32
  let v51 : BitVec 1 := Scalar.cmpi .sgt arg0 c0_i32_24
  let v52 : BitVec 32 := Scalar.extui v51
  let c0_i32_25 : BitVec 32 := 0#32
  let v53 : BitVec 1 := Scalar.cmpi .ne v52 c0_i32_25
  v53

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Relu2Bwd.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 10
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S4096x1024, .bf16⟩
  | .hbm, ⟨9, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Relu2BwdRefIdeal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S1024x4096, .bf16⟩
  | .hbm, ⟨3, _⟩ => ⟨S4096x1024, .bf16⟩
  | .hbm, ⟨4, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .f32⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AttnMerge.lean ====
abbrev S8192x256 : Shape := ⟨2, ![8192, 256]⟩
abbrev S8192x4 : Shape := ⟨2, ![8192, 4]⟩
abbrev S8192x4x64 : Shape := ⟨3, ![8192, 4, 64]⟩
abbrev S1024x256 : Shape := ⟨2, ![1024, 256]⟩

abbrev nBuf : Space → Nat
  | .hbm => 14
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S8192x4x64, .f32⟩
  | .hbm, ⟨7, _⟩ => ⟨S8192x256, .f32⟩
  | .hbm, ⟨8, _⟩ => ⟨S8192x4x64, .f32⟩
  | .hbm, ⟨9, _⟩ => ⟨S8192x256, .f32⟩
  | .hbm, ⟨10, _⟩ => ⟨S8192x4x64, .f32⟩
  | .hbm, ⟨11, _⟩ => ⟨S8192x256, .f32⟩
  | .hbm, ⟨12, _⟩ => ⟨S8192x256, .f32⟩
  | .hbm, ⟨13, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnMergeRefIdeal.lean ====
abbrev S8192x256 : Shape := ⟨2, ![8192, 256]⟩
abbrev S8192x4 : Shape := ⟨2, ![8192, 4]⟩
abbrev S8192x4x64 : Shape := ⟨3, ![8192, 4, 64]⟩
abbrev S1x8192x4x64 : Shape := ⟨4, ![1, 8192, 4, 64]⟩
abbrev S3x8192x4x64 : Shape := ⟨4, ![3, 8192, 4, 64]⟩
abbrev S1x8192x4 : Shape := ⟨3, ![1, 8192, 4]⟩
abbrev S3x8192x4 : Shape := ⟨3, ![3, 8192, 4]⟩
abbrev S_ : Shape := ⟨0, ![]⟩
abbrev S3x8192x4x1 : Shape := ⟨4, ![3, 8192, 4, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x4, .f32⟩
  | .hbm, ⟨5, _⟩ => ⟨S8192x4, .f32⟩
  | .hbm, ⟨6, _⟩ => ⟨S8192x4x64, .f32⟩
  | .hbm, ⟨7, _⟩ => ⟨S8192x4x64, .f32⟩
  | .hbm, ⟨8, _⟩ => ⟨S8192x4x64, .f32⟩
  | .hbm, ⟨9, _⟩ => ⟨S1x8192x4x64, .f32⟩
  | .hbm, ⟨10, _⟩ => ⟨S1x8192x4x64, .f32⟩
  | .hbm, ⟨11, _⟩ => ⟨S1x8192x4x64, .f32⟩
  | .hbm, ⟨12, _⟩ => ⟨S3x8192x4x64, .f32⟩
  | .hbm, ⟨13, _⟩ => ⟨S1x8192x4, .f32⟩
  | .hbm, ⟨14, _⟩ => ⟨S1x8192x4, .f32⟩
  | .hbm, ⟨15, _⟩ => ⟨S1x8192x4, .f32⟩
  | .hbm, ⟨16, _⟩ => ⟨S3x8192x4, .f32⟩
  | .hbm, ⟨17, _⟩ => ⟨S_, .f32⟩
  | .hbm, ⟨18, _⟩ => ⟨S8192x4, .f32⟩
  | .hbm, ⟨19, _⟩ => ⟨S_, .f32⟩
  | .hbm, ⟨20, _⟩ => ⟨S8192x4, .f32⟩
  | .hbm, ⟨21, _⟩ => ⟨S8192x4, .f32⟩
  | .hbm, ⟨22, _⟩ => ⟨S1x8192x4, .f32⟩
  | .hbm, ⟨23, _⟩ => ⟨S3x8192x4, .f32⟩
  | .hbm, ⟨24, _⟩ => ⟨S3x8192x4, .f32⟩
  | .hbm, ⟨25, _⟩ => ⟨S3x8192x4, .f32⟩
  | .hbm, ⟨26, _⟩ => ⟨S_, .f32⟩
  | .hbm, ⟨27, _⟩ => ⟨S8192x4, .f32⟩
  | .hbm, ⟨28, _⟩ => ⟨S1x8192x4, .f32⟩
  | .hbm, ⟨29, _⟩ => ⟨S3x8192x4, .f32⟩
  | .hbm, ⟨30, _⟩ => ⟨S3x8192x4, .f32⟩
  | .hbm, ⟨31, _⟩ => ⟨S3x8192x4x1, .f32⟩
  | .hbm, ⟨32, _⟩ => ⟨S3x8192x4x64, .f32⟩
  | .hbm, ⟨33, _⟩ => ⟨S3x8192x4x64, .f32⟩
  | .hbm, ⟨34, _⟩ => ⟨S_, .f32⟩
  | .hbm, ⟨35, _⟩ => ⟨S8192x4x64, .f32⟩
  | .hbm, ⟨36, _⟩ => ⟨S8192x256, .f32⟩
  | .hbm, ⟨37, _⟩ => ⟨S_, .f32⟩
  | .hbm, ⟨38, _⟩ => ⟨S8192x4, .f32⟩
  | .hbm, ⟨39, _⟩ => ⟨S1x8192x4, .f32⟩
  | .hbm, ⟨40, _⟩ => ⟨S3x8192x4, .f32⟩
  | .hbm, ⟨41, _⟩ => ⟨S3x8192x4, .f32⟩
  | .hbm, ⟨42, _⟩ => ⟨S3x8192x4, .f32⟩
  | .hbm, ⟨43, _⟩ => ⟨S_, .f32⟩
  | .hbm, ⟨44, _⟩ => ⟨S8192x4, .f32⟩
  | .hbm, ⟨45, _⟩ => ⟨S8192x4, .f32⟩
  | .hbm, ⟨46, _⟩ => ⟨S8192x4, .f32⟩
  | .hbm, ⟨47, _⟩ => ⟨S8192x4x64, .f32⟩
  | .hbm, ⟨48, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== AttnFwd1.lean ====
abbrev S8192x2304 : Shape := ⟨2, ![8192, 2304]⟩
abbrev S8192x256 : Shape := ⟨2, ![8192, 256]⟩
abbrev S2048x128 : Shape := ⟨2, ![2048, 128]⟩
abbrev S128x128 : Shape := ⟨2, ![128, 128]⟩
abbrev S2176x128 : Shape := ⟨2, ![2176, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 16
  | .smem => 0
  | _ => 0

abbrev bufTy : (tb : Table) → Fin (tcTables nBuf tb) → BufTy
  | .hbm, ⟨0, _⟩ => ⟨S8192x2304, .f32⟩
  | .hbm, ⟨1, _⟩ => ⟨S8192x256, .f32⟩
  | .hbm, ⟨2, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S128x128, .f32⟩
  | .local _ .vmem, ⟨9, _⟩ => ⟨S128x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2176x128, .f32⟩
  | .local _ .vmem, ⟨15, _⟩ => ⟨S2176x128, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def k0_mult1 : BitVec 32 :=
  let c0_i32_24 : BitVec 32 := 0#32
  c0_i32_24
def k0_mult2 : BitVec 32 :=
  let c0_i32_25 : BitVec 32 := 0#32
  c0_i32_25
def k0_mult3 : BitVec 32 :=
  let c128_i32_39 : BitVec 32 := 128#32
  c128_i32_39
def k0_mult4 : BitVec 32 :=
  let c128_i32_40 : BitVec 32 := 128#32
  c128_i32_40
def k0_mult5 : BitVec 32 :=
  let c256_i32 : BitVec 32 := 256#32
  c256_i32
def k0_mult6 : BitVec 32 :=
  let c256_i32_55 : BitVec 32 := 256#32
  c256_i32_55
def k0_mult7 : BitVec 32 :=
  let c384_i32 : BitVec 32 := 384#32
  c384_i32
def k0_mult8 : BitVec 32 :=
  let c384_i32_70 : BitVec 32 := 384#32
  c384_i32_70
def k0_mult9 : BitVec 32 :=
  let c512_i32 : BitVec 32 := 512#32
  c512_i32
def k0_mult10 : BitVec 32 :=
  let c512_i32_85 : BitVec 32 := 512#32
  c512_i32_85
def k0_mult11 : BitVec 32 :=
  let c640_i32 : BitVec 32 := 640#32
  c640_i32
def k0_mult12 : BitVec 32 :=
  let c640_i32_100 : BitVec 32 := 640#32
  c640_i32_100
def k0_mult13 : BitVec 32 :=
  let c768_i32 : BitVec 32 := 768#32
  c768_i32
def k0_mult14 : BitVec 32 :=
  let c768_i32_115 : BitVec 32 := 768#32
  c768_i32_115
def k0_mult15 : BitVec 32 :=
  let c896_i32 : BitVec 32 := 896#32
  c896_i32
def k0_mult16 : BitVec 32 :=
  let c896_i32_130 : BitVec 32 := 896#32
  c896_i32_130
def k0_mult17 : BitVec 32 :=
  let c1024_i32 : BitVec 32 := 1024#32
  c1024_i32
def k0_mult18 : BitVec 32 :=
  let c1024_i32_145 : BitVec 32 := 1024#32
  c1024_i32_145
def k0_mult19 : BitVec 32 :=
  let c1152_i32 : BitVec 32 := 1152#32
  c1152_i32
def k0_mult20 : BitVec 32 :=
  let c1152_i32_160 : BitVec 32 := 1152#32
  c1152_i32_160
def k0_mult21 : BitVec 32 :=
  let c1280_i32 : BitVec 32 := 1280#32
  c1280_i32
def k0_mult22 : BitVec 32 :=
  let c1280_i32_175 : BitVec 32 := 1280#32
  c1280_i32_175
def k0_mult23 : BitVec 32 :=
  let c1408_i32 : BitVec 32 := 1408#32
  c1408_i32
def k0_mult24 : BitVec 32 :=
  let c1408_i32_190 : BitVec 32 := 1408#32
  c1408_i32_190
def k0_mult25 : BitVec 32 :=
  let c1536_i32 : BitVec 32 := 1536#32
  c1536_i32
def k0_mult26 : BitVec 32 :=
  let c1536_i32_205 : BitVec 32 := 1536#32
  c1536_i32_205
def k0_mult27 : BitVec 32 :=
  let c1664_i32 : BitVec 32 := 1664#32
  c1664_i32
def k0_mult28 : BitVec 32 :=
  let c1664_i32_220 : BitVec 32 := 1664#32
  c1664_i32_220
def k0_mult29 : BitVec 32 :=
  let c1792_i32 : BitVec 32 := 1792#32
  c1792_i32
def k0_mult30 : BitVec 32 :=
  let c1792_i32_235 : BitVec 32 := 1792#32
  c1792_i32_235
def k0_mult31 : BitVec 32 :=
  let c1920_i32 : BitVec 32 := 1920#32
  c1920_i32
def k0_mult32 : BitVec 32 :=
  let c1920_i32_250 : BitVec 32 := 1920#32
  c1920_i32_250
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwd1Ideal.lean ====
variable {F : FTy → Type} [FloatOps F] [Named F]
def κ : String → Option EReal := fun
  | "mask" => some ⊥
  | _ => none
-- ==== AttnFwd1RefIdeal.lean ====
abbrev S8192x2304 : Shape := ⟨2, ![8192, 2304]⟩
abbrev S8192x768 : Shape := ⟨2, ![8192, 768]⟩
abbrev S1x8192x12x64 : Shape := ⟨4, ![1, 8192, 12, 64]⟩
abbrev S1x8192x4x64 : Shape := ⟨4, ![1, 8192, 4, 64]⟩
abbrev S1x8192x1x4x64 : Shape := ⟨5, ![1, 8192, 1, 4, 64]⟩
abbrev S1x1x4x8192x64 : Shape := ⟨5, ![1, 1, 4, 8192, 64]⟩
abbrev S_ : Shape := ⟨0, ![]⟩
abbrev S1x1x4x64x128x64 : Shape := ⟨6, ![1, 1, 4, 64, 128, 64]⟩
abbrev S1x1x4x65x128x64 : Shape := ⟨6, ![1, 1, 4, 65, 128, 64]⟩
abbrev S1x1x4x64x256x64 : Shape := ⟨6, ![1, 1, 4, 64, 256, 64]⟩
abbrev S1x1x4x64x128x256 : Shape := ⟨6, ![1, 1, 4, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x1x4x64x128 : Shape := ⟨5, ![1, 1, 4, 64, 128]⟩
abbrev S1x1x4x64x128x1 : Shape := ⟨6, ![1, 1, 4, 64, 128, 1]⟩
abbrev S1x1x4x8192 : Shape := ⟨4, ![1, 1, 4, 8192]⟩
abbrev S1x8192x1x4 : Shape := ⟨4, ![1, 8192, 1, 4]⟩
abbrev S1x8192x4 : Shape := ⟨3, ![1, 8192, 4]⟩
abbrev S8192x256 : Shape := ⟨2, ![8192, 256]⟩
abbrev S8192x4 : Shape := ⟨2, ![8192, 4]⟩
abbrev S8192x4x64 : Shape := ⟨3, ![8192, 4, 64]⟩

abbrev nBuf : Space → Nat
  | .hbm => 105
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S1x8192x12x64, .f32⟩
  | .hbm, ⟨5, _⟩ => ⟨S1x8192x4x64, .f32⟩
  | .hbm, ⟨6, _⟩ => ⟨S1x8192x12x64, .f32⟩
  | .hbm, ⟨7, _⟩ => ⟨S1x8192x4x64, .f32⟩
  | .hbm, ⟨8, _⟩ => ⟨S1x8192x12x64, .f32⟩
  | .hbm, ⟨9, _⟩ => ⟨S1x8192x4x64, .f32⟩
  | .hbm, ⟨10, _⟩ => ⟨S1x8192x1x4x64, .f32⟩
  | .hbm, ⟨11, _⟩ => ⟨S1x1x4x8192x64, .f32⟩
  | .hbm, ⟨12, _⟩ => ⟨S_, .i32⟩
  | .hbm, ⟨13, _⟩ => ⟨S_, .f32⟩
  | .hbm, ⟨14, _⟩ => ⟨S1x1x4x8192x64, .f32⟩
  | .hbm, ⟨15, _⟩ => ⟨S1x1x4x64x128x64, .f32⟩
  | .hbm, ⟨16, _⟩ => ⟨S1x8192x1x4x64, .f32⟩
  | .hbm, ⟨17, _⟩ => ⟨S1x1x4x8192x64, .f32⟩
  | .hbm, ⟨18, _⟩ => ⟨S_, .i32⟩
  | .hbm, ⟨19, _⟩ => ⟨S_, .f32⟩
  | .hbm, ⟨20, _⟩ => ⟨S1x1x4x8192x64, .f32⟩
  | .hbm, ⟨21, _⟩ => ⟨S1x1x4x64x128x64, .f32⟩
  | .hbm, ⟨22, _⟩ => ⟨S1x8192x1x4x64, .f32⟩
  | .hbm, ⟨23, _⟩ => ⟨S1x1x4x8192x64, .f32⟩
  | .hbm, ⟨24, _⟩ => ⟨S_, .i32⟩
  | .hbm, ⟨25, _⟩ => ⟨S_, .f32⟩
  | .hbm, ⟨26, _⟩ => ⟨S1x1x4x8192x64, .f32⟩
  | .hbm, ⟨27, _⟩ => ⟨S1x1x4x64x128x64, .f32⟩
  | .hbm, ⟨28, _⟩ => ⟨S_, .i32⟩
  | .hbm, ⟨29, _⟩ => ⟨S_, .f32⟩
  | .hbm, ⟨30, _⟩ => ⟨S1x1x4x65x128x64, .f32⟩
  | .hbm, ⟨31, _⟩ => ⟨S1x1x4x64x128x64, .f32⟩
  | .hbm, ⟨32, _⟩ => ⟨S1x1x4x64x256x64, .f32⟩
  | .hbm, ⟨33, _⟩ => ⟨S_, .i32⟩
  | .hbm, ⟨34, _⟩ => ⟨S_, .f32⟩
  | .hbm, ⟨35, _⟩ => ⟨S1x1x4x65x128x64, .f32⟩
  | .hbm, ⟨36, _⟩ => ⟨S1x1x4x64x128x64, .f32⟩
  | .hbm, ⟨37, _⟩ => ⟨S1x1x4x64x256x64, .f32⟩
  | .hbm, ⟨38, _⟩ => ⟨S1x1x4x64x128x256, .f32⟩
  | .hbm, ⟨39, _⟩ => ⟨S_, .f32⟩
  | .hbm, ⟨40, _⟩ => ⟨S1x1x4x64x128x256, .f32⟩
  | .hbm, ⟨41, _⟩ => ⟨S1x1x4x64x128x256, .f32⟩
  | .hbm, ⟨42, _⟩ => ⟨S128, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S64, .i32⟩
  | .hbm, ⟨53, _⟩ => ⟨S64x1x1, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S_, .i32⟩
  | .hbm, ⟨62, _⟩ => ⟨S64x1x1, .i32⟩
  | .hbm, ⟨63, _⟩ => ⟨S64x1x1, .i1⟩
  | .hbm, ⟨64, _⟩ => ⟨S_, .i32⟩
  | .hbm, ⟨65, _⟩ => ⟨S1x256, .i32⟩
  | .hbm, ⟨66, _⟩ => ⟨S1x256, .i1⟩
  | .hbm, ⟨67, _⟩ => ⟨S1x1x256, .i1⟩
  | .hbm, ⟨68, _⟩ => ⟨S64x1x256, .i1⟩
  | .hbm, ⟨69, _⟩ => ⟨S64x1x256, .i1⟩
  | .hbm, ⟨70, _⟩ => ⟨S64x1x256, .i1⟩
  | .hbm, ⟨71, _⟩ => ⟨S1x128x256, .i1⟩
  | .hbm, ⟨72, _⟩ => ⟨S64x128x256, .i1⟩
  | .hbm, ⟨73, _⟩ => ⟨S64x128x256, .i1⟩
  | .hbm, ⟨74, _⟩ => ⟨S64x128x256, .i1⟩
  | .hbm, ⟨75, _⟩ => ⟨S_, .f32⟩
  | .hbm, ⟨76, _⟩ => ⟨S_, .f32⟩
  | .hbm, ⟨77, _⟩ => ⟨S1x1x4x64x128x256, .i1⟩
  | .hbm, ⟨78, _⟩ => ⟨S1x1x4x64x128x256, .f32⟩
  | .hbm, ⟨79, _⟩ => ⟨S1x1x4x64x128x256, .f32⟩
  | .hbm, ⟨80, _⟩ => ⟨S_, .f32⟩
  | .hbm, ⟨81, _⟩ => ⟨S1x1x4x64x128, .f32⟩
  | .hbm, ⟨82, _⟩ => ⟨S1x1x4x64x128x1, .f32⟩
  | .hbm, ⟨83, _⟩ => ⟨S1x1x4x64x128x256, .f32⟩
  | .hbm, ⟨84, _⟩ => ⟨S1x1x4x64x128x256, .f32⟩
  | .hbm, ⟨85, _⟩ => ⟨S1x1x4x64x128x256, .f32⟩
  | .hbm, ⟨86, _⟩ => ⟨S_, .f32⟩
  | .hbm, ⟨87, _⟩ => ⟨S1x1x4x64x128, .f32⟩
  | .hbm, ⟨88, _⟩ => ⟨S1x1x4x64x128x64, .f32⟩
  | .hbm, ⟨89, _⟩ => ⟨S1x1x4x64x128x1, .f32⟩
  | .hbm, ⟨90, _⟩ => ⟨S1x1x4x64x128x64, .f32⟩
  | .hbm, ⟨91, _⟩ => ⟨S1x1x4x64x128x64, .f32⟩
  | .hbm, ⟨92, _⟩ => ⟨S1x1x4x64x128, .f32⟩
  | .hbm, ⟨93, _⟩ => ⟨S1x1x4x64x128, .f32⟩
  | .hbm, ⟨94, _⟩ => ⟨S1x1x4x64x128, .f32⟩
  | .hbm, ⟨95, _⟩ => ⟨S1x1x4x8192x64, .f32⟩
  | .hbm, ⟨96, _⟩ => ⟨S1x8192x1x4x64, .f32⟩
  | .hbm, ⟨97, _⟩ => ⟨S1x8192x4x64, .f32⟩
  | .hbm, ⟨98, _⟩ => ⟨S1x1x4x8192, .f32⟩
  | .hbm, ⟨99, _⟩ => ⟨S1x8192x1x4, .f32⟩
  | .hbm, ⟨100, _⟩ => ⟨S1x8192x4, .f32⟩
  | .hbm, ⟨101, _⟩ => ⟨S8192x256, .f32⟩
  | .hbm, ⟨102, _⟩ => ⟨S8192x4, .f32⟩
  | .hbm, ⟨103, _⟩ => ⟨S8192x4x64, .f32⟩
  | .hbm, ⟨104, _⟩ => ⟨S8192x256, .f32⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_call1_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_call2_v0 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_call3_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call4_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== AttnFwd4.lean ====
abbrev S8192x2304 : Shape := ⟨2, ![8192, 2304]⟩
abbrev S8192x256 : Shape := ⟨2, ![8192, 256]⟩
abbrev S2048x128 : Shape := ⟨2, ![2048, 128]⟩
abbrev S512x128 : Shape := ⟨2, ![512, 128]⟩
abbrev S2560x128 : Shape := ⟨2, ![2560, 128]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 16
  | .smem => 0
  | _ => 0

abbrev bufTy : (tb : Table) → Fin (tcTables nBuf tb) → BufTy
  | .hbm, ⟨0, _⟩ => ⟨S8192x2304, .f32⟩
  | .hbm, ⟨1, _⟩ => ⟨S8192x256, .f32⟩
  | .hbm, ⟨2, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S512x128, .f32⟩
  | .local _ .vmem, ⟨5, _⟩ => ⟨S512x128, .f32⟩
  | .local _ .vmem, ⟨6, _⟩ => ⟨S2048x128, .f32⟩
  | .local _ .vmem, ⟨7, _⟩ => ⟨S2048x128, .f32⟩
  | .local _ .vmem, ⟨8, _⟩ => ⟨S512x128, .f32⟩
  | .local _ .vmem, ⟨9, _⟩ => ⟨S512x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2560x128, .f32⟩
  | .local _ .vmem, ⟨15, _⟩ => ⟨S2560x128, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c14_i32 : BitVec 32 := 14#32
  let v3 : BitVec 32 := Scalar.addi c14_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwd4Ideal.lean ====
variable {F : FTy → Type} [FloatOps F] [Named F]
def κ : String → Option EReal := fun
  | "mask" => some ⊥
  | _ => none
-- ==== AttnFwd4RefIdeal.lean ====
abbrev S8192x2304 : Shape := ⟨2, ![8192, 2304]⟩
abbrev S8192x768 : Shape := ⟨2, ![8192, 768]⟩
abbrev S1x8192x12x64 : Shape := ⟨4, ![1, 8192, 12, 64]⟩
abbrev S1x8192x4x64 : Shape := ⟨4, ![1, 8192, 4, 64]⟩
abbrev S1x2048x4x4x64 : Shape := ⟨5, ![1, 2048, 4, 4, 64]⟩
abbrev S1x4x4x2048x64 : Shape := ⟨5, ![1, 4, 4, 2048, 64]⟩
abbrev S_ : Shape := ⟨0, ![]⟩
abbrev S1x4x4x16x128x64 : Shape := ⟨6, ![1, 4, 4, 16, 128, 64]⟩
abbrev S1x4x4x17x128x64 : Shape := ⟨6, ![1, 4, 4, 17, 128, 64]⟩
abbrev S1x4x4x16x256x64 : Shape := ⟨6, ![1, 4, 4, 16, 256, 64]⟩
abbrev S1x4x4x16x128x256 : Shape := ⟨6, ![1, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S1x4x4x16x128 : Shape := ⟨5, ![1, 4, 4, 16, 128]⟩
abbrev S1x4x4x16x128x1 : Shape := ⟨6, ![1, 4, 4, 16, 128, 1]⟩
abbrev S1x4x4x2048 : Shape := ⟨4, ![1, 4, 4, 2048]⟩
abbrev S1x2048x4x4 : Shape := ⟨4, ![1, 2048, 4, 4]⟩
abbrev S1x8192x4 : Shape := ⟨3, ![1, 8192, 4]⟩
abbrev S8192x256 : Shape := ⟨2, ![8192, 256]⟩
abbrev S8192x4 : Shape := ⟨2, ![8192, 4]⟩
abbrev S8192x4x64 : Shape := ⟨3, ![8192, 4, 64]⟩

abbrev nBuf : Space → Nat
  | .hbm => 105
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S1x8192x12x64, .f32⟩
  | .hbm, ⟨5, _⟩ => ⟨S1x8192x4x64, .f32⟩
  | .hbm, ⟨6, _⟩ => ⟨S1x8192x12x64, .f32⟩
  | .hbm, ⟨7, _⟩ => ⟨S1x8192x4x64, .f32⟩
  | .hbm, ⟨8, _⟩ => ⟨S1x8192x12x64, .f32⟩
  | .hbm, ⟨9, _⟩ => ⟨S1x8192x4x64, .f32⟩
  | .hbm, ⟨10, _⟩ => ⟨S1x2048x4x4x64, .f32⟩
  | .hbm, ⟨11, _⟩ => ⟨S1x4x4x2048x64, .f32⟩
  | .hbm, ⟨12, _⟩ => ⟨S_, .i32⟩
  | .hbm, ⟨13, _⟩ => ⟨S_, .f32⟩
  | .hbm, ⟨14, _⟩ => ⟨S1x4x4x2048x64, .f32⟩
  | .hbm, ⟨15, _⟩ => ⟨S1x4x4x16x128x64, .f32⟩
  | .hbm, ⟨16, _⟩ => ⟨S1x2048x4x4x64, .f32⟩
  | .hbm, ⟨17, _⟩ => ⟨S1x4x4x2048x64, .f32⟩
  | .hbm, ⟨18, _⟩ => ⟨S_, .i32⟩
  | .hbm, ⟨19, _⟩ => ⟨S_, .f32⟩
  | .hbm, ⟨20, _⟩ => ⟨S1x4x4x2048x64, .f32⟩
  | .hbm, ⟨21, _⟩ => ⟨S1x4x4x16x128x64, .f32⟩
  | .hbm, ⟨22, _⟩ => ⟨S1x2048x4x4x64, .f32⟩
  | .hbm, ⟨23, _⟩ => ⟨S1x4x4x2048x64, .f32⟩
  | .hbm, ⟨24, _⟩ => ⟨S_, .i32⟩
  | .hbm, ⟨25, _⟩ => ⟨S_, .f32⟩
  | .hbm, ⟨26, _⟩ => ⟨S1x4x4x2048x64, .f32⟩
  | .hbm, ⟨27, _⟩ => ⟨S1x4x4x16x128x64, .f32⟩
  | .hbm, ⟨28, _⟩ => ⟨S_, .i32⟩
  | .hbm, ⟨29, _⟩ => ⟨S_, .f32⟩
  | .hbm, ⟨30, _⟩ => ⟨S1x4x4x17x128x64, .f32⟩
  | .hbm, ⟨31, _⟩ => ⟨S1x4x4x16x128x64, .f32⟩
  | .hbm, ⟨32, _⟩ => ⟨S1x4x4x16x256x64, .f32⟩
  | .hbm, ⟨33, _⟩ => ⟨S_, .i32⟩
  | .hbm, ⟨34, _⟩ => ⟨S_, .f32⟩
  | .hbm, ⟨35, _⟩ => ⟨S1x4x4x17x128x64, .f32⟩
  | .hbm, ⟨36, _⟩ => ⟨S1x4x4x16x128x64, .f32⟩
  | .hbm, ⟨37, _⟩ => ⟨S1x4x4x16x256x64, .f32⟩
  | .hbm, ⟨38, _⟩ => ⟨S1x4x4x16x128x256, .f32⟩
  | .hbm, ⟨39, _⟩ => ⟨S_, .f32⟩
  | .hbm, ⟨40, _⟩ => ⟨S1x4x4x16x128x256, .f32⟩
  | .hbm, ⟨41, _⟩ => ⟨S1x4x4x16x128x256, .f32⟩
  | .hbm, ⟨42, _⟩ => ⟨S128, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S16, .i32⟩
  | .hbm, ⟨53, _⟩ => ⟨S16x1x1, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S_, .i32⟩
  | .hbm, ⟨62, _⟩ => ⟨S16x1x1, .i32⟩
  | .hbm, ⟨63, _⟩ => ⟨S16x1x1, .i1⟩
  | .hbm, ⟨64, _⟩ => ⟨S_, .i32⟩
  | .hbm, ⟨65, _⟩ => ⟨S1x256, .i32⟩
  | .hbm, ⟨66, _⟩ => ⟨S1x256, .i1⟩
  | .hbm, ⟨67, _⟩ => ⟨S1x1x256, .i1⟩
  | .hbm, ⟨68, _⟩ => ⟨S16x1x256, .i1⟩
  | .hbm, ⟨69, _⟩ => ⟨S16x1x256, .i1⟩
  | .hbm, ⟨70, _⟩ => ⟨S16x1x256, .i1⟩
  | .hbm, ⟨71, _⟩ => ⟨S1x128x256, .i1⟩
  | .hbm, ⟨72, _⟩ => ⟨S16x128x256, .i1⟩
  | .hbm, ⟨73, _⟩ => ⟨S16x128x256, .i1⟩
  | .hbm, ⟨74, _⟩ => ⟨S16x128x256, .i1⟩
  | .hbm, ⟨75, _⟩ => ⟨S_, .f32⟩
  | .hbm, ⟨76, _⟩ => ⟨S_, .f32⟩
  | .hbm, ⟨77, _⟩ => ⟨S1x4x4x16x128x256, .i1⟩
  | .hbm, ⟨78, _⟩ => ⟨S1x4x4x16x128x256, .f32⟩
  | .hbm, ⟨79, _⟩ => ⟨S1x4x4x16x128x256, .f32⟩
  | .hbm, ⟨80, _⟩ => ⟨S_, .f32⟩
  | .hbm, ⟨81, _⟩ => ⟨S1x4x4x16x128, .f32⟩
  | .hbm, ⟨82, _⟩ => ⟨S1x4x4x16x128x1, .f32⟩
  | .hbm, ⟨83, _⟩ => ⟨S1x4x4x16x128x256, .f32⟩
  | .hbm, ⟨84, _⟩ => ⟨S1x4x4x16x128x256, .f32⟩
  | .hbm, ⟨85, _⟩ => ⟨S1x4x4x16x128x256, .f32⟩
  | .hbm, ⟨86, _⟩ => ⟨S_, .f32⟩
  | .hbm, ⟨87, _⟩ => ⟨S1x4x4x16x128, .f32⟩
  | .hbm, ⟨88, _⟩ => ⟨S1x4x4x16x128x64, .f32⟩
  | .hbm, ⟨89, _⟩ => ⟨S1x4x4x16x128x1, .f32⟩
  | .hbm, ⟨90, _⟩ => ⟨S1x4x4x16x128x64, .f32⟩
  | .hbm, ⟨91, _⟩ => ⟨S1x4x4x16x128x64, .f32⟩
  | .hbm, ⟨92, _⟩ => ⟨S1x4x4x16x128, .f32⟩
  | .hbm, ⟨93, _⟩ => ⟨S1x4x4x16x128, .f32⟩
  | .hbm, ⟨94, _⟩ => ⟨S1x4x4x16x128, .f32⟩
  | .hbm, ⟨95, _⟩ => ⟨S1x4x4x2048x64, .f32⟩
  | .hbm, ⟨96, _⟩ => ⟨S1x2048x4x4x64, .f32⟩
  | .hbm, ⟨97, _⟩ => ⟨S1x8192x4x64, .f32⟩
  | .hbm, ⟨98, _⟩ => ⟨S1x4x4x2048, .f32⟩
  | .hbm, ⟨99, _⟩ => ⟨S1x2048x4x4, .f32⟩
  | .hbm, ⟨100, _⟩ => ⟨S1x8192x4, .f32⟩
  | .hbm, ⟨101, _⟩ => ⟨S8192x256, .f32⟩
  | .hbm, ⟨102, _⟩ => ⟨S8192x4, .f32⟩
  | .hbm, ⟨103, _⟩ => ⟨S8192x4x64, .f32⟩
  | .hbm, ⟨104, _⟩ => ⟨S8192x256, .f32⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_call1_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_call2_v0 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_call3_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call4_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== AttnFwd16.lean ====
abbrev S8192x2304 : Shape := ⟨2, ![8192, 2304]⟩
abbrev S8192x256 : Shape := ⟨2, ![8192, 256]⟩
abbrev S2048x128 : Shape := ⟨2, ![2048, 128]⟩
abbrev S4096x128 : Shape := ⟨2, ![4096, 128]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩

abbrev nBuf : Space → Nat
  | .hbm => 3
  | .vmem => 16
  | .smem => 0
  | _ => 0

abbrev bufTy : (tb : Table) → Fin (tcTables nBuf tb) → BufTy
  | .hbm, ⟨0, _⟩ => ⟨S8192x2304, .f32⟩
  | .hbm, ⟨1, _⟩ => ⟨S8192x256, .f32⟩
  | .hbm, ⟨2, _⟩ => ⟨S8192x256, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S4096x128, .f32⟩
  | .local _ .vmem, ⟨15, _⟩ => ⟨S4096x128, .f32⟩
  | _, _ => ⟨S8192x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.subi v0 c1_i32_0
  let c0_i32 : BitVec 32 := 0#32
  let v2 : BitVec 32 := Scalar.maxsi v1 c0_i32
  let c10_i32 : BitVec 32 := 10#32
  let v3 : BitVec 32 := Scalar.addi c10_i32 arg1
  let c0_i32_1 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c1_i32_0 : BitVec 32 := 1#32
  let v1 : BitVec 32 := Scalar.subi v0 c1_i32_0
  let c0_i32 : BitVec 32 := 0#32
  let v2 : BitVec 32 := Scalar.maxsi v1 c0_i32
  let c16_i32 : BitVec 32 := 16#32
  let v3 : BitVec 32 := Scalar.addi c16_i32 arg1
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnFwd16Ideal.lean ====
variable {F : FTy → Type} [FloatOps F] [Named F]
def κ : String → Option EReal := fun
  | "mask" => some ⊥
  | _ => none
-- ==== AttnFwd16RefIdeal.lean ====
abbrev S8192x2304 : Shape := ⟨2, ![8192, 2304]⟩
abbrev S8192x768 : Shape := ⟨2, ![8192, 768]⟩
abbrev S1x8192x12x64 : Shape := ⟨4, ![1, 8192, 12, 64]⟩
abbrev S1x8192x4x64 : Shape := ⟨4, ![1, 8192, 4, 64]⟩
abbrev S1x512x16x4x64 : Shape := ⟨5, ![1, 512, 16, 4, 64]⟩
abbrev S1x16x4x512x64 : Shape := ⟨5, ![1, 16, 4, 512, 64]⟩
abbrev S_ : Shape := ⟨0, ![]⟩
abbrev S1x16x4x4x128x64 : Shape := ⟨6, ![1, 16, 4, 4, 128, 64]⟩
abbrev S1x16x4x5x128x64 : Shape := ⟨6, ![1, 16, 4, 5, 128, 64]⟩
abbrev S1x16x4x4x256x64 : Shape := ⟨6, ![1, 16, 4, 4, 256, 64]⟩
abbrev S1x16x4x4x128x256 : Shape := ⟨6, ![1, 16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S1x16x4x4x128 : Shape := ⟨5, ![1, 16, 4, 4, 128]⟩
abbrev S1x16x4x4x128x1 : Shape := ⟨6, ![1, 16, 4, 4, 128, 1]⟩
abbrev S1x16x4x512 : Shape := ⟨4, ![1, 16, 4, 512]⟩
abbrev S1x512x16x4 : Shape := ⟨4, ![1, 512, 16, 4]⟩
abbrev S1x8192x4 : Shape := ⟨3, ![1, 8192, 4]⟩
abbrev S8192x256 : Shape := ⟨2, ![8192, 256]⟩
abbrev S8192x4 : Shape := ⟨2, ![8192, 4]⟩
abbrev S8192x4x64 : Shape := ⟨3, ![8192, 4, 64]⟩

abbrev nBuf : Space → Nat
  | .hbm => 105
  | .vmem => 0
  | .smem => 0
  | _ => 0

abbrev bufTy : (tb : Table) → Fin (tcTables nBuf tb) → BufTy
  | .hbm, ⟨0, _⟩ => ⟨S8192x2304, .f32⟩
  | .hbm, ⟨1, _⟩ => ⟨S8192x768, .f32⟩
  | .hbm, ⟨2, _⟩ => ⟨S8192x768, .f32⟩
  | .hbm, ⟨3, _⟩ => ⟨S8192x768, .f32⟩
  | .hbm, ⟨4, _⟩ => ⟨S1x8192x12x64, .f32⟩
  | .hbm, ⟨5, _⟩ => ⟨S1x8192x4x64, .f32⟩
  | .hbm, ⟨6, _⟩ => ⟨S1x8192x12x64, .f32⟩
  | .hbm, ⟨7, _⟩ => ⟨S1x8192x4x64, .f32⟩
  | .hbm, ⟨8, _⟩ => ⟨S1x8192x12x64, .f32⟩
  | .hbm, ⟨9, _⟩ => ⟨S1x8192x4x64, .f32⟩
  | .hbm, ⟨10, _⟩ => ⟨S1x512x16x4x64, .f32⟩
  | .hbm, ⟨11, _⟩ => ⟨S1x16x4x512x64, .f32⟩
  | .hbm, ⟨12, _⟩ => ⟨S_, .i32⟩
  | .hbm, ⟨13, _⟩ => ⟨S_, .f32⟩
  | .hbm, ⟨14, _⟩ => ⟨S1x16x4x512x64, .f32⟩
  | .hbm, ⟨15, _⟩ => ⟨S1x16x4x4x128x64, .f32⟩
  | .hbm, ⟨16, _⟩ => ⟨S1x512x16x4x64, .f32⟩
  | .hbm, ⟨17, _⟩ => ⟨S1x16x4x512x64, .f32⟩
  | .hbm, ⟨18, _⟩ => ⟨S_, .i32⟩
  | .hbm, ⟨19, _⟩ => ⟨S_, .f32⟩
  | .hbm, ⟨20, _⟩ => ⟨S1x16x4x512x64, .f32⟩
  | .hbm, ⟨21, _⟩ => ⟨S1x16x4x4x128x64, .f32⟩
  | .hbm, ⟨22, _⟩ => ⟨S1x512x16x4x64, .f32⟩
  | .hbm, ⟨23, _⟩ => ⟨S1x16x4x512x64, .f32⟩
  | .hbm, ⟨24, _⟩ => ⟨S_, .i32⟩
  | .hbm, ⟨25, _⟩ => ⟨S_, .f32⟩
  | .hbm, ⟨26, _⟩ => ⟨S1x16x4x512x64, .f32⟩
  | .hbm, ⟨27, _⟩ => ⟨S1x16x4x4x128x64, .f32⟩
  | .hbm, ⟨28, _⟩ => ⟨S_, .i32⟩
  | .hbm, ⟨29, _⟩ => ⟨S_, .f32⟩
  | .hbm, ⟨30, _⟩ => ⟨S1x16x4x5x128x64, .f32⟩
  | .hbm, ⟨31, _⟩ => ⟨S1x16x4x4x128x64, .f32⟩
  | .hbm, ⟨32, _⟩ => ⟨S1x16x4x4x256x64, .f32⟩
  | .hbm, ⟨33, _⟩ => ⟨S_, .i32⟩
  | .hbm, ⟨34, _⟩ => ⟨S_, .f32⟩
  | .hbm, ⟨35, _⟩ => ⟨S1x16x4x5x128x64, .f32⟩
  | .hbm, ⟨36, _⟩ => ⟨S1x16x4x4x128x64, .f32⟩
  | .hbm, ⟨37, _⟩ => ⟨S1x16x4x4x256x64, .f32⟩
  | .hbm, ⟨38, _⟩ => ⟨S1x16x4x4x128x256, .f32⟩
  | .hbm, ⟨39, _⟩ => ⟨S_, .f32⟩
  | .hbm, ⟨40, _⟩ => ⟨S1x16x4x4x128x256, .f32⟩
  | .hbm, ⟨41, _⟩ => ⟨S1x16x4x4x128x256, .f32⟩
  | .hbm, ⟨42, _⟩ => ⟨S128, .i32⟩
  | .hbm, ⟨43, _⟩ => ⟨S128x1, .i32⟩
  | .hbm, ⟨44, _⟩ => ⟨S256, .i32⟩
  | .hbm, ⟨45, _⟩ => ⟨S1x256, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x256, .i32⟩
  | .hbm, ⟨50, _⟩ => ⟨S128x256, .i32⟩
  | .hbm, ⟨51, _⟩ => ⟨S128x256, .i32⟩
  | .hbm, ⟨52, _⟩ => ⟨S4, .i32⟩
  | .hbm, ⟨53, _⟩ => ⟨S4x1x1, .i32⟩
  | .hbm, ⟨54, _⟩ => ⟨S_, .i32⟩
  | .hbm, ⟨55, _⟩ => ⟨S128x256, .i32⟩
  | .hbm, ⟨56, _⟩ => ⟨S128x256, .i1⟩
  | .hbm, ⟨57, _⟩ => ⟨S_, .i32⟩
  | .hbm, ⟨58, _⟩ => ⟨S128x256, .i32⟩
  | .hbm, ⟨59, _⟩ => ⟨S128x256, .i1⟩
  | .hbm, ⟨60, _⟩ => ⟨S128x256, .i1⟩
  | .hbm, ⟨61, _⟩ => ⟨S_, .i32⟩
  | .hbm, ⟨62, _⟩ => ⟨S4x1x1, .i32⟩
  | .hbm, ⟨63, _⟩ => ⟨S4x1x1, .i1⟩
  | .hbm, ⟨64, _⟩ => ⟨S_, .i32⟩
  | .hbm, ⟨65, _⟩ => ⟨S1x256, .i32⟩
  | .hbm, ⟨66, _⟩ => ⟨S1x256, .i1⟩
  | .hbm, ⟨67, _⟩ => ⟨S1x1x256, .i1⟩
  | .hbm, ⟨68, _⟩ => ⟨S4x1x256, .i1⟩
  | .hbm, ⟨69, _⟩ => ⟨S4x1x256, .i1⟩
  | .hbm, ⟨70, _⟩ => ⟨S4x1x256, .i1⟩
  | .hbm, ⟨71, _⟩ => ⟨S1x128x256, .i1⟩
  | .hbm, ⟨72, _⟩ => ⟨S4x128x256, .i1⟩
  | .hbm, ⟨73, _⟩ => ⟨S4x128x256, .i1⟩
  | .hbm, ⟨74, _⟩ => ⟨S4x128x256, .i1⟩
  | .hbm, ⟨75, _⟩ => ⟨S_, .f32⟩
  | .hbm, ⟨76, _⟩ => ⟨S_, .f32⟩
  | .hbm, ⟨77, _⟩ => ⟨S1x16x4x4x128x256, .i1⟩
  | .hbm, ⟨78, _⟩ => ⟨S1x16x4x4x128x256, .f32⟩
  | .hbm, ⟨79, _⟩ => ⟨S1x16x4x4x128x256, .f32⟩
  | .hbm, ⟨80, _⟩ => ⟨S_, .f32⟩
  | .hbm, ⟨81, _⟩ => ⟨S1x16x4x4x128, .f32⟩
  | .hbm, ⟨82, _⟩ => ⟨S1x16x4x4x128x1, .f32⟩
  | .hbm, ⟨83, _⟩ => ⟨S1x16x4x4x128x256, .f32⟩
  | .hbm, ⟨84, _⟩ => ⟨S1x16x4x4x128x256, .f32⟩
  | .hbm, ⟨85, _⟩ => ⟨S1x16x4x4x128x256, .f32⟩
  | .hbm, ⟨86, _⟩ => ⟨S_, .f32⟩
  | .hbm, ⟨87, _⟩ => ⟨S1x16x4x4x128, .f32⟩
  | .hbm, ⟨88, _⟩ => ⟨S1x16x4x4x128x64, .f32⟩
  | .hbm, ⟨89, _⟩ => ⟨S1x16x4x4x128x1, .f32⟩
  | .hbm, ⟨90, _⟩ => ⟨S1x16x4x4x128x64, .f32⟩
  | .hbm, ⟨91, _⟩ => ⟨S1x16x4x4x128x64, .f32⟩
  | .hbm, ⟨92, _⟩ => ⟨S1x16x4x4x128, .f32⟩
  | .hbm, ⟨93, _⟩ => ⟨S1x16x4x4x128, .f32⟩
  | .hbm, ⟨94, _⟩ => ⟨S1x16x4x4x128, .f32⟩
  | .hbm, ⟨95, _⟩ => ⟨S1x16x4x512x64, .f32⟩
  | .hbm, ⟨96, _⟩ => ⟨S1x512x16x4x64, .f32⟩
  | .hbm, ⟨97, _⟩ => ⟨S1x8192x4x64, .f32⟩
  | .hbm, ⟨98, _⟩ => ⟨S1x16x4x512, .f32⟩
  | .hbm, ⟨99, _⟩ => ⟨S1x512x16x4, .f32⟩
  | .hbm, ⟨100, _⟩ => ⟨S1x8192x4, .f32⟩
  | .hbm, ⟨101, _⟩ => ⟨S8192x256, .f32⟩
  | .hbm, ⟨102, _⟩ => ⟨S8192x4, .f32⟩
  | .hbm, ⟨103, _⟩ => ⟨S8192x4x64, .f32⟩
  | .hbm, ⟨104, _⟩ => ⟨S8192x256, .f32⟩
  | _, _ => ⟨S8192x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_c : Ref sig .tc := ⟨.hbm, 12, rfl⟩
abbrev main_call0_v0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c_0 : Ref sig .tc := ⟨.hbm, 18, rfl⟩
abbrev main_call1_v0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_1 : Ref sig .tc := ⟨.hbm, 24, rfl⟩
abbrev main_call2_v0 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_call3_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_call4_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_c_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== SsmBwdEnds.lean ====
abbrev S1x4096 : Shape := ⟨2, ![1, 4096]⟩
abbrev S8192x512 : Shape := ⟨2, ![8192, 512]⟩
abbrev S2x2048x256 : Shape := ⟨3, ![2, 2048, 256]⟩
abbrev S8x1024x512 : Shape := ⟨3, ![8, 1024, 512]⟩
abbrev S1024x8x512 : Shape := ⟨3, ![1024, 8, 512]⟩
abbrev S8x4096 : Shape := ⟨2, ![8, 4096]⟩
abbrev S1x2048 : Shape := ⟨2, ![1, 2048]⟩
abbrev S512x256 : Shape := ⟨2, ![512, 256]⟩
abbrev S1x2048x256 : Shape := ⟨3, ![1, 2048, 256]⟩
abbrev S8x2048 : Shape := ⟨2, ![8, 2048]⟩
abbrev S512x2048 : Shape := ⟨2, ![512, 2048]⟩
abbrev S2048x256 : Shape := ⟨2, ![2048, 256]⟩
abbrev S8x1024 : Shape := ⟨2, ![8, 1024]⟩
abbrev S1x1024 : Shape := ⟨2, ![1, 1024]⟩

abbrev nBuf : Space → Nat
  | .hbm => 7
  | .vmem => 12
  | .smem => 0
  | _ => 0

abbrev bufTy : (tb : Table) → Fin (tcTables nBuf tb) → BufTy
  | .hbm, ⟨0, _⟩ => ⟨S1x4096, .f32⟩
  | .hbm, ⟨1, _⟩ => ⟨S8192x512, .f32⟩
  | .hbm, ⟨2, _⟩ => ⟨S2x2048x256, .f32⟩
  | .hbm, ⟨3, _⟩ => ⟨S8x1024x512, .f32⟩
  | .hbm, ⟨4, _⟩ => ⟨S1024x8x512, .f32⟩
  | .hbm, ⟨5, _⟩ => ⟨S8192x512, .f32⟩
  | .hbm, ⟨6, _⟩ => ⟨S8x4096, .f32⟩
  | .local _ .vmem, ⟨0, _⟩ => ⟨S1x2048, .f32⟩
  | .local _ .vmem, ⟨1, _⟩ => ⟨S1x2048, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x2048x256, .f32⟩
  | .local _ .vmem, ⟨7, _⟩ => ⟨S1x2048x256, .f32⟩
  | .local _ .vmem, ⟨8, _⟩ => ⟨S8x2048, .f32⟩
  | .local _ .vmem, ⟨9, _⟩ => ⟨S8x2048, .f32⟩
  | .local _ .vmem, ⟨10, _⟩ => ⟨S512x2048, .f32⟩
  | .local _ .vmem, ⟨11, _⟩ => ⟨S512x2048, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg1 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_mult1 : BitVec 32 :=
  let c63_i32 : BitVec 32 := 63#32
  let c0_i32_28 : BitVec 32 := 0#32
  let v49 : BitVec 32 := Scalar.subi c63_i32 c0_i32_28
  let c8_i32 : BitVec 32 := 8#32
  let v50 : BitVec 32 := Scalar.muli v49 c8_i32
  v50
def k0_off1 (c0_i32_28 : BitVec 32) : Fin 2 → Nat :=
  let c63_i32 : BitVec 32 := 63#32
  let v49 : BitVec 32 := Scalar.subi c63_i32 c0_i32_28
  let c8_i32 : BitVec 32 := 8#32
  let v50 : BitVec 32 := Scalar.muli v49 c8_i32
  let v51 : BitVec 32 := v50
  let v52 : Index := Scalar.indexCast v51
  let c0_29 : Index := 0#32
  ![v52.toNat, 0]
def k0_mult2 : BitVec 32 :=
  let c63_i32_31 : BitVec 32 := 63#32
  let c1_i32_30 : BitVec 32 := 1#32
  let v64 : BitVec 32 := Scalar.subi c63_i32_31 c1_i32_30
  let c8_i32_32 : BitVec 32 := 8#32
  let v65 : BitVec 32 := Scalar.muli v64 c8_i32_32
  v65
def k0_mult3 : BitVec 32 :=
  let c63_i32_35 : BitVec 32 := 63#32
  let c2_i32_34 : BitVec 32 := 2#32
  let v79 : BitVec 32 := Scalar.subi c63_i32_35 c2_i32_34
  let c8_i32_36 : BitVec 32 := 8#32
  let v80 : BitVec 32 := Scalar.muli v79 c8_i32_36
  v80
def k0_mult4 : BitVec 32 :=
  let c63_i32_38 : BitVec 32 := 63#32
  let c3_i32 : BitVec 32 := 3#32
  let v94 : BitVec 32 := Scalar.subi c63_i32_38 c3_i32
  let c8_i32_39 : BitVec 32 := 8#32
  let v95 : BitVec 32 := Scalar.muli v94 c8_i32_39
  v95
def k0_mult5 : BitVec 32 :=
  let c63_i32_41 : BitVec 32 := 63#32
  let c4_i32 : BitVec 32 := 4#32
  let v109 : BitVec 32 := Scalar.subi c63_i32_41 c4_i32
  let c8_i32_42 : BitVec 32 := 8#32
  let v110 : BitVec 32 := Scalar.muli v109 c8_i32_42
  v110
def k0_mult6 : BitVec 32 :=
  let c63_i32_44 : BitVec 32 := 63#32
  let c5_i32 : BitVec 32 := 5#32
  let v124 : BitVec 32 := Scalar.subi c63_i32_44 c5_i32
  let c8_i32_45 : BitVec 32 := 8#32
  let v125 : BitVec 32 := Scalar.muli v124 c8_i32_45
  v125
def k0_mult7 : BitVec 32 :=
  let c63_i32_47 : BitVec 32 := 63#32
  let c6_i32 : BitVec 32 := 6#32
  let v139 : BitVec 32 := Scalar.subi c63_i32_47 c6_i32
  let c8_i32_48 : BitVec 32 := 8#32
  let v140 : BitVec 32 := Scalar.muli v139 c8_i32_48
  v140
def k0_mult8 : BitVec 32 :=
  let c63_i32_50 : BitVec 32 := 63#32
  let c7_i32 : BitVec 32 := 7#32
  let v154 : BitVec 32 := Scalar.subi c63_i32_50 c7_i32
  let c8_i32_51 : BitVec 32 := 8#32
  let v155 : BitVec 32 := Scalar.muli v154 c8_i32_51
  v155
def k0_mult9 : BitVec 32 :=
  let c63_i32_54 : BitVec 32 := 63#32
  let c8_i32_53 : BitVec 32 := 8#32
  let v169 : BitVec 32 := Scalar.subi c63_i32_54 c8_i32_53
  let c8_i32_55 : BitVec 32 := 8#32
  let v170 : BitVec 32 := Scalar.muli v169 c8_i32_55
  v170
def k0_mult10 : BitVec 32 :=
  let c63_i32_57 : BitVec 32 := 63#32
  let c9_i32 : BitVec 32 := 9#32
  let v184 : BitVec 32 := Scalar.subi c63_i32_57 c9_i32
  let c8_i32_58 : BitVec 32 := 8#32
  let v185 : BitVec 32 := Scalar.muli v184 c8_i32_58
  v185
def k0_mult11 : BitVec 32 :=
  let c63_i32_60 : BitVec 32 := 63#32
  let c10_i32 : BitVec 32 := 10#32
  let v199 : BitVec 32 := Scalar.subi c63_i32_60 c10_i32
  let c8_i32_61 : BitVec 32 := 8#32
  let v200 : BitVec 32 := Scalar.muli v199 c8_i32_61
  v200
def k0_mult12 : BitVec 32 :=
  let c63_i32_63 : BitVec 32 := 63#32
  let c11_i32 : BitVec 32 := 11#32
  let v214 : BitVec 32 := Scalar.subi c63_i32_63 c11_i32
  let c8_i32_64 : BitVec 32 := 8#32
  let v215 : BitVec 32 := Scalar.muli v214 c8_i32_64
  v215
def k0_mult13 : BitVec 32 :=
  let c63_i32_66 : BitVec 32 := 63#32
  let c12_i32 : BitVec 32 := 12#32
  let v229 : BitVec 32 := Scalar.subi c63_i32_66 c12_i32
  let c8_i32_67 : BitVec 32 := 8#32
  let v230 : BitVec 32 := Scalar.muli v229 c8_i32_67
  v230
def k0_mult14 : BitVec 32 :=
  let c63_i32_69 : BitVec 32 := 63#32
  let c13_i32 : BitVec 32 := 13#32
  let v244 : BitVec 32 := Scalar.subi c63_i32_69 c13_i32
  let c8_i32_70 : BitVec 32 := 8#32
  let v245 : BitVec 32 := Scalar.muli v244 c8_i32_70
  v245
def k0_mult15 : BitVec 32 :=
  let c63_i32_72 : BitVec 32 := 63#32
  let c14_i32 : BitVec 32 := 14#32
  let v259 : BitVec 32 := Scalar.subi c63_i32_72 c14_i32
  let c8_i32_73 : BitVec 32 := 8#32
  let v260 : BitVec 32 := Scalar.muli v259 c8_i32_73
  v260
def k0_mult16 : BitVec 32 :=
  let c63_i32_75 : BitVec 32 := 63#32
  let c15_i32 : BitVec 32 := 15#32
  let v274 : BitVec 32 := Scalar.subi c63_i32_75 c15_i32
  let c8_i32_76 : BitVec 32 := 8#32
  let v275 : BitVec 32 := Scalar.muli v274 c8_i32_76
  v275
def k0_mult17 : BitVec 32 :=
  let c63_i32_78 : BitVec 32 := 63#32
  let c16_i32 : BitVec 32 := 16#32
  let v289 : BitVec 32 := Scalar.subi c63_i32_78 c16_i32
  let c8_i32_79 : BitVec 32 := 8#32
  let v290 : BitVec 32 := Scalar.muli v289 c8_i32_79
  v290
def k0_mult18 : BitVec 32 :=
  let c63_i32_81 : BitVec 32 := 63#32
  let c17_i32 : BitVec 32 := 17#32
  let v304 : BitVec 32 := Scalar.subi c63_i32_81 c17_i32
  let c8_i32_82 : BitVec 32 := 8#32
  let v305 : BitVec 32 := Scalar.muli v304 c8_i32_82
  v305
def k0_mult19 : BitVec 32 :=
  let c63_i32_84 : BitVec 32 := 63#32
  let c18_i32 : BitVec 32 := 18#32
  let v319 : BitVec 32 := Scalar.subi c63_i32_84 c18_i32
  let c8_i32_85 : BitVec 32 := 8#32
  let v320 : BitVec 32 := Scalar.muli v319 c8_i32_85
  v320
def k0_mult20 : BitVec 32 :=
  let c63_i32_87 : BitVec 32 := 63#32
  let c19_i32 : BitVec 32 := 19#32
  let v334 : BitVec 32 := Scalar.subi c63_i32_87 c19_i32
  let c8_i32_88 : BitVec 32 := 8#32
  let v335 : BitVec 32 := Scalar.muli v334 c8_i32_88
  v335
def k0_mult21 : BitVec 32 :=
  let c63_i32_90 : BitVec 32 := 63#32
  let c20_i32 : BitVec 32 := 20#32
  let v349 : BitVec 32 := Scalar.subi c63_i32_90 c20_i32
  let c8_i32_91 : BitVec 32 := 8#32
  let v350 : BitVec 32 := Scalar.muli v349 c8_i32_91
  v350
def k0_mult22 : BitVec 32 :=
  let c63_i32_93 : BitVec 32 := 63#32
  let c21_i32 : BitVec 32 := 21#32
  let v364 : BitVec 32 := Scalar.subi c63_i32_93 c21_i32
  let c8_i32_94 : BitVec 32 := 8#32
  let v365 : BitVec 32 := Scalar.muli v364 c8_i32_94
  v365
def k0_mult23 : BitVec 32 :=
  let c63_i32_96 : BitVec 32 := 63#32
  let c22_i32 : BitVec 32 := 22#32
  let v379 : BitVec 32 := Scalar.subi c63_i32_96 c22_i32
  let c8_i32_97 : BitVec 32 := 8#32
  let v380 : BitVec 32 := Scalar.muli v379 c8_i32_97
  v380
def k0_mult24 : BitVec 32 :=
  let c63_i32_99 : BitVec 32 := 63#32
  let c23_i32 : BitVec 32 := 23#32
  let v394 : BitVec 32 := Scalar.subi c63_i32_99 c23_i32
  let c8_i32_100 : BitVec 32 := 8#32
  let v395 : BitVec 32 := Scalar.muli v394 c8_i32_100
  v395
def k0_mult25 : BitVec 32 :=
  let c63_i32_102 : BitVec 32 := 63#32
  let c24_i32 : BitVec 32 := 24#32
  let v409 : BitVec 32 := Scalar.subi c63_i32_102 c24_i32
  let c8_i32_103 : BitVec 32 := 8#32
  let v410 : BitVec 32 := Scalar.muli v409 c8_i32_103
  v410
def k0_mult26 : BitVec 32 :=
  let c63_i32_105 : BitVec 32 := 63#32
  let c25_i32 : BitVec 32 := 25#32
  let v424 : BitVec 32 := Scalar.subi c63_i32_105 c25_i32
  let c8_i32_106 : BitVec 32 := 8#32
  let v425 : BitVec 32 := Scalar.muli v424 c8_i32_106
  v425
def k0_mult27 : BitVec 32 :=
  let c63_i32_108 : BitVec 32 := 63#32
  let c26_i32 : BitVec 32 := 26#32
  let v439 : BitVec 32 := Scalar.subi c63_i32_108 c26_i32
  let c8_i32_109 : BitVec 32 := 8#32
  let v440 : BitVec 32 := Scalar.muli v439 c8_i32_109
  v440
def k0_mult28 : BitVec 32 :=
  let c63_i32_111 : BitVec 32 := 63#32
  let c27_i32 : BitVec 32 := 27#32
  let v454 : BitVec 32 := Scalar.subi c63_i32_111 c27_i32
  let c8_i32_112 : BitVec 32 := 8#32
  let v455 : BitVec 32 := Scalar.muli v454 c8_i32_112
  v455
def k0_mult29 : BitVec 32 :=
  let c63_i32_114 : BitVec 32 := 63#32
  let c28_i32 : BitVec 32 := 28#32
  let v469 : BitVec 32 := Scalar.subi c63_i32_114 c28_i32
  let c8_i32_115 : BitVec 32 := 8#32
  let v470 : BitVec 32 := Scalar.muli v469 c8_i32_115
  v470
def k0_mult30 : BitVec 32 :=
  let c63_i32_117 : BitVec 32 := 63#32
  let c29_i32 : BitVec 32 := 29#32
  let v484 : BitVec 32 := Scalar.subi c63_i32_117 c29_i32
  let c8_i32_118 : BitVec 32 := 8#32
  let v485 : BitVec 32 := Scalar.muli v484 c8_i32_118
  v485
def k0_mult31 : BitVec 32 :=
  let c63_i32_120 : BitVec 32 := 63#32
  let c30_i32 : BitVec 32 := 30#32
  let v499 : BitVec 32 := Scalar.subi c63_i32_120 c30_i32
  let c8_i32_121 : BitVec 32 := 8#32
  let v500 : BitVec 32 := Scalar.muli v499 c8_i32_121
  v500
def k0_mult32 : BitVec 32 :=
  let c63_i32_123 : BitVec 32 := 63#32
  let c31_i32 : BitVec 32 := 31#32
  let v514 : BitVec 32 := Scalar.subi c63_i32_123 c31_i32
  let c8_i32_124 : BitVec 32 := 8#32
  let v515 : BitVec 32 := Scalar.muli v514 c8_i32_124
  v515
def k0_mult33 : BitVec 32 :=
  let c63_i32_126 : BitVec 32 := 63#32
  let c32_i32 : BitVec 32 := 32#32
  let v529 : BitVec 32 := Scalar.subi c63_i32_126 c32_i32
  let c8_i32_127 : BitVec 32 := 8#32
  let v530 : BitVec 32 := Scalar.muli v529 c8_i32_127
  v530
def k0_mult34 : BitVec 32 :=
  let c63_i32_129 : BitVec 32 := 63#32
  let c33_i32 : BitVec 32 := 33#32
  let v544 : BitVec 32 := Scalar.subi c63_i32_129 c33_i32
  let c8_i32_130 : BitVec 32 := 8#32
  let v545 : BitVec 32 := Scalar.muli v544 c8_i32_130
  v545
def k0_mult35 : BitVec 32 :=
  let c63_i32_132 : BitVec 32 := 63#32
  let c34_i32 : BitVec 32 := 34#32
  let v559 : BitVec 32 := Scalar.subi c63_i32_132 c34_i32
  let c8_i32_133 : BitVec 32 := 8#32
  let v560 : BitVec 32 := Scalar.muli v559 c8_i32_133
  v560
def k0_mult36 : BitVec 32 :=
  let c63_i32_135 : BitVec 32 := 63#32
  let c35_i32 : BitVec 32 := 35#32
  let v574 : BitVec 32 := Scalar.subi c63_i32_135 c35_i32
  let c8_i32_136 : BitVec 32 := 8#32
  let v575 : BitVec 32 := Scalar.muli v574 c8_i32_136
  v575
def k0_mult37 : BitVec 32 :=
  let c63_i32_138 : BitVec 32 := 63#32
  let c36_i32 : BitVec 32 := 36#32
  let v589 : BitVec 32 := Scalar.subi c63_i32_138 c36_i32
  let c8_i32_139 : BitVec 32 := 8#32
  let v590 : BitVec 32 := Scalar.muli v589 c8_i32_139
  v590
def k0_mult38 : BitVec 32 :=
  let c63_i32_141 : BitVec 32 := 63#32
  let c37_i32 : BitVec 32 := 37#32
  let v604 : BitVec 32 := Scalar.subi c63_i32_141 c37_i32
  let c8_i32_142 : BitVec 32 := 8#32
  let v605 : BitVec 32 := Scalar.muli v604 c8_i32_142
  v605
def k0_mult39 : BitVec 32 :=
  let c63_i32_144 : BitVec 32 := 63#32
  let c38_i32 : BitVec 32 := 38#32
  let v619 : BitVec 32 := Scalar.subi c63_i32_144 c38_i32
  let c8_i32_145 : BitVec 32 := 8#32
  let v620 : BitVec 32 := Scalar.muli v619 c8_i32_145
  v620
def k0_mult40 : BitVec 32 :=
  let c63_i32_147 : BitVec 32 := 63#32
  let c39_i32 : BitVec 32 := 39#32
  let v634 : BitVec 32 := Scalar.subi c63_i32_147 c39_i32
  let c8_i32_148 : BitVec 32 := 8#32
  let v635 : BitVec 32 := Scalar.muli v634 c8_i32_148
  v635
def k0_mult41 : BitVec 32 :=
  let c63_i32_150 : BitVec 32 := 63#32
  let c40_i32 : BitVec 32 := 40#32
  let v649 : BitVec 32 := Scalar.subi c63_i32_150 c40_i32
  let c8_i32_151 : BitVec 32 := 8#32
  let v650 : BitVec 32 := Scalar.muli v649 c8_i32_151
  v650
def k0_mult42 : BitVec 32 :=
  let c63_i32_153 : BitVec 32 := 63#32
  let c41_i32 : BitVec 32 := 41#32
  let v664 : BitVec 32 := Scalar.subi c63_i32_153 c41_i32
  let c8_i32_154 : BitVec 32 := 8#32
  let v665 : BitVec 32 := Scalar.muli v664 c8_i32_154
  v665
def k0_mult43 : BitVec 32 :=
  let c63_i32_156 : BitVec 32 := 63#32
  let c42_i32 : BitVec 32 := 42#32
  let v679 : BitVec 32 := Scalar.subi c63_i32_156 c42_i32
  let c8_i32_157 : BitVec 32 := 8#32
  let v680 : BitVec 32 := Scalar.muli v679 c8_i32_157
  v680
def k0_mult44 : BitVec 32 :=
  let c63_i32_159 : BitVec 32 := 63#32
  let c43_i32 : BitVec 32 := 43#32
  let v694 : BitVec 32 := Scalar.subi c63_i32_159 c43_i32
  let c8_i32_160 : BitVec 32 := 8#32
  let v695 : BitVec 32 := Scalar.muli v694 c8_i32_160
  v695
def k0_mult45 : BitVec 32 :=
  let c63_i32_162 : BitVec 32 := 63#32
  let c44_i32 : BitVec 32 := 44#32
  let v709 : BitVec 32 := Scalar.subi c63_i32_162 c44_i32
  let c8_i32_163 : BitVec 32 := 8#32
  let v710 : BitVec 32 := Scalar.muli v709 c8_i32_163
  v710
def k0_mult46 : BitVec 32 :=
  let c63_i32_165 : BitVec 32 := 63#32
  let c45_i32 : BitVec 32 := 45#32
  let v724 : BitVec 32 := Scalar.subi c63_i32_165 c45_i32
  let c8_i32_166 : BitVec 32 := 8#32
  let v725 : BitVec 32 := Scalar.muli v724 c8_i32_166
  v725
def k0_mult47 : BitVec 32 :=
  let c63_i32_168 : BitVec 32 := 63#32
  let c46_i32 : BitVec 32 := 46#32
  let v739 : BitVec 32 := Scalar.subi c63_i32_168 c46_i32
  let c8_i32_169 : BitVec 32 := 8#32
  let v740 : BitVec 32 := Scalar.muli v739 c8_i32_169
  v740
def k0_mult48 : BitVec 32 :=
  let c63_i32_171 : BitVec 32 := 63#32
  let c47_i32 : BitVec 32 := 47#32
  let v754 : BitVec 32 := Scalar.subi c63_i32_171 c47_i32
  let c8_i32_172 : BitVec 32 := 8#32
  let v755 : BitVec 32 := Scalar.muli v754 c8_i32_172
  v755
def k0_mult49 : BitVec 32 :=
  let c63_i32_174 : BitVec 32 := 63#32
  let c48_i32 : BitVec 32 := 48#32
  let v769 : BitVec 32 := Scalar.subi c63_i32_174 c48_i32
  let c8_i32_175 : BitVec 32 := 8#32
  let v770 : BitVec 32 := Scalar.muli v769 c8_i32_175
  v770
def k0_mult50 : BitVec 32 :=
  let c63_i32_177 : BitVec 32 := 63#32
  let c49_i32 : BitVec 32 := 49#32
  let v784 : BitVec 32 := Scalar.subi c63_i32_177 c49_i32
  let c8_i32_178 : BitVec 32 := 8#32
  let v785 : BitVec 32 := Scalar.muli v784 c8_i32_178
  v785
def k0_mult51 : BitVec 32 :=
  let c63_i32_180 : BitVec 32 := 63#32
  let c50_i32 : BitVec 32 := 50#32
  let v799 : BitVec 32 := Scalar.subi c63_i32_180 c50_i32
  let c8_i32_181 : BitVec 32 := 8#32
  let v800 : BitVec 32 := Scalar.muli v799 c8_i32_181
  v800
def k0_mult52 : BitVec 32 :=
  let c63_i32_183 : BitVec 32 := 63#32
  let c51_i32 : BitVec 32 := 51#32
  let v814 : BitVec 32 := Scalar.subi c63_i32_183 c51_i32
  let c8_i32_184 : BitVec 32 := 8#32
  let v815 : BitVec 32 := Scalar.muli v814 c8_i32_184
  v815
def k0_mult53 : BitVec 32 :=
  let c63_i32_186 : BitVec 32 := 63#32
  let c52_i32 : BitVec 32 := 52#32
  let v829 : BitVec 32 := Scalar.subi c63_i32_186 c52_i32
  let c8_i32_187 : BitVec 32 := 8#32
  let v830 : BitVec 32 := Scalar.muli v829 c8_i32_187
  v830
def k0_mult54 : BitVec 32 :=
  let c63_i32_189 : BitVec 32 := 63#32
  let c53_i32 : BitVec 32 := 53#32
  let v844 : BitVec 32 := Scalar.subi c63_i32_189 c53_i32
  let c8_i32_190 : BitVec 32 := 8#32
  let v845 : BitVec 32 := Scalar.muli v844 c8_i32_190
  v845
def k0_mult55 : BitVec 32 :=
  let c63_i32_192 : BitVec 32 := 63#32
  let c54_i32 : BitVec 32 := 54#32
  let v859 : BitVec 32 := Scalar.subi c63_i32_192 c54_i32
  let c8_i32_193 : BitVec 32 := 8#32
  let v860 : BitVec 32 := Scalar.muli v859 c8_i32_193
  v860
def k0_mult56 : BitVec 32 :=
  let c63_i32_195 : BitVec 32 := 63#32
  let c55_i32 : BitVec 32 := 55#32
  let v874 : BitVec 32 := Scalar.subi c63_i32_195 c55_i32
  let c8_i32_196 : BitVec 32 := 8#32
  let v875 : BitVec 32 := Scalar.muli v874 c8_i32_196
  v875
def k0_mult57 : BitVec 32 :=
  let c63_i32_198 : BitVec 32 := 63#32
  let c56_i32 : BitVec 32 := 56#32
  let v889 : BitVec 32 := Scalar.subi c63_i32_198 c56_i32
  let c8_i32_199 : BitVec 32 := 8#32
  let v890 : BitVec 32 := Scalar.muli v889 c8_i32_199
  v890
def k0_mult58 : BitVec 32 :=
  let c63_i32_201 : BitVec 32 := 63#32
  let c57_i32 : BitVec 32 := 57#32
  let v904 : BitVec 32 := Scalar.subi c63_i32_201 c57_i32
  let c8_i32_202 : BitVec 32 := 8#32
  let v905 : BitVec 32 := Scalar.muli v904 c8_i32_202
  v905
def k0_mult59 : BitVec 32 :=
  let c63_i32_204 : BitVec 32 := 63#32
  let c58_i32 : BitVec 32 := 58#32
  let v919 : BitVec 32 := Scalar.subi c63_i32_204 c58_i32
  let c8_i32_205 : BitVec 32 := 8#32
  let v920 : BitVec 32 := Scalar.muli v919 c8_i32_205
  v920
def k0_mult60 : BitVec 32 :=
  let c63_i32_207 : BitVec 32 := 63#32
  let c59_i32 : BitVec 32 := 59#32
  let v934 : BitVec 32 := Scalar.subi c63_i32_207 c59_i32
  let c8_i32_208 : BitVec 32 := 8#32
  let v935 : BitVec 32 := Scalar.muli v934 c8_i32_208
  v935
def k0_mult61 : BitVec 32 :=
  let c63_i32_210 : BitVec 32 := 63#32
  let c60_i32 : BitVec 32 := 60#32
  let v949 : BitVec 32 := Scalar.subi c63_i32_210 c60_i32
  let c8_i32_211 : BitVec 32 := 8#32
  let v950 : BitVec 32 := Scalar.muli v949 c8_i32_211
  v950
def k0_mult62 : BitVec 32 :=
  let c63_i32_213 : BitVec 32 := 63#32
  let c61_i32 : BitVec 32 := 61#32
  let v964 : BitVec 32 := Scalar.subi c63_i32_213 c61_i32
  let c8_i32_214 : BitVec 32 := 8#32
  let v965 : BitVec 32 := Scalar.muli v964 c8_i32_214
  v965
def k0_mult63 : BitVec 32 :=
  let c63_i32_216 : BitVec 32 := 63#32
  let c62_i32 : BitVec 32 := 62#32
  let v979 : BitVec 32 := Scalar.subi c63_i32_216 c62_i32
  let c8_i32_217 : BitVec 32 := 8#32
  let v980 : BitVec 32 := Scalar.muli v979 c8_i32_217
  v980
def k0_mult64 : BitVec 32 :=
  let c63_i32_220 : BitVec 32 := 63#32
  let c63_i32_219 : BitVec 32 := 63#32
  let v994 : BitVec 32 := Scalar.subi c63_i32_220 c63_i32_219
  let c8_i32_221 : BitVec 32 := 8#32
  let v995 : BitVec 32 := Scalar.muli v994 c8_i32_221
  v995
def k0_cond3 (i : grid0.Coords) : BitVec 1 :=
  let arg1 : BitVec 32 := BitVec.ofNat 32 (i 1).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg1 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def k0_mult65 : BitVec 32 :=
  let c63_i32 : BitVec 32 := 63#32
  let c0_i32_28 : BitVec 32 := 0#32
  let v49 : BitVec 32 := Scalar.subi c63_i32 c0_i32_28
  let c8_i32 : BitVec 32 := 8#32
  let v50 : BitVec 32 := Scalar.muli v49 c8_i32
  v50
def k0_off2 (c0_i32_28 : BitVec 32) : Fin 2 → Nat :=
  let c63_i32 : BitVec 32 := 63#32
  let v49 : BitVec 32 := Scalar.subi c63_i32 c0_i32_28
  let c8_i32 : BitVec 32 := 8#32
  let v50 : BitVec 32 := Scalar.muli v49 c8_i32
  let v51 : BitVec 32 := v50
  let v52 : Index := Scalar.indexCast v51
  let c0_29 : Index := 0#32
  ![v52.toNat, 0]
def k0_mult66 : BitVec 32 :=
  let c63_i32_31 : BitVec 32 := 63#32
  let c1_i32_30 : BitVec 32 := 1#32
  let v64 : BitVec 32 := Scalar.subi c63_i32_31 c1_i32_30
  let c8_i32_32 : BitVec 32 := 8#32
  let v65 : BitVec 32 := Scalar.muli v64 c8_i32_32
  v65
def k0_mult67 : BitVec 32 :=
  let c63_i32_35 : BitVec 32 := 63#32
  let c2_i32_34 : BitVec 32 := 2#32
  let v79 : BitVec 32 := Scalar.subi c63_i32_35 c2_i32_34
  let c8_i32_36 : BitVec 32 := 8#32
  let v80 : BitVec 32 := Scalar.muli v79 c8_i32_36
  v80
def k0_mult68 : BitVec 32 :=
  let c63_i32_38 : BitVec 32 := 63#32
  let c3_i32 : BitVec 32 := 3#32
  let v94 : BitVec 32 := Scalar.subi c63_i32_38 c3_i32
  let c8_i32_39 : BitVec 32 := 8#32
  let v95 : BitVec 32 := Scalar.muli v94 c8_i32_39
  v95
def k0_mult69 : BitVec 32 :=
  let c63_i32_41 : BitVec 32 := 63#32
  let c4_i32 : BitVec 32 := 4#32
  let v109 : BitVec 32 := Scalar.subi c63_i32_41 c4_i32
  let c8_i32_42 : BitVec 32 := 8#32
  let v110 : BitVec 32 := Scalar.muli v109 c8_i32_42
  v110
def k0_mult70 : BitVec 32 :=
  let c63_i32_44 : BitVec 32 := 63#32
  let c5_i32 : BitVec 32 := 5#32
  let v124 : BitVec 32 := Scalar.subi c63_i32_44 c5_i32
  let c8_i32_45 : BitVec 32 := 8#32
  let v125 : BitVec 32 := Scalar.muli v124 c8_i32_45
  v125
def k0_mult71 : BitVec 32 :=
  let c63_i32_47 : BitVec 32 := 63#32
  let c6_i32 : BitVec 32 := 6#32
  let v139 : BitVec 32 := Scalar.subi c63_i32_47 c6_i32
  let c8_i32_48 : BitVec 32 := 8#32
  let v140 : BitVec 32 := Scalar.muli v139 c8_i32_48
  v140
def k0_mult72 : BitVec 32 :=
  let c63_i32_50 : BitVec 32 := 63#32
  let c7_i32 : BitVec 32 := 7#32
  let v154 : BitVec 32 := Scalar.subi c63_i32_50 c7_i32
  let c8_i32_51 : BitVec 32 := 8#32
  let v155 : BitVec 32 := Scalar.muli v154 c8_i32_51
  v155
def k0_mult73 : BitVec 32 :=
  let c63_i32_54 : BitVec 32 := 63#32
  let c8_i32_53 : BitVec 32 := 8#32
  let v169 : BitVec 32 := Scalar.subi c63_i32_54 c8_i32_53
  let c8_i32_55 : BitVec 32 := 8#32
  let v170 : BitVec 32 := Scalar.muli v169 c8_i32_55
  v170
def k0_mult74 : BitVec 32 :=
  let c63_i32_57 : BitVec 32 := 63#32
  let c9_i32 : BitVec 32 := 9#32
  let v184 : BitVec 32 := Scalar.subi c63_i32_57 c9_i32
  let c8_i32_58 : BitVec 32 := 8#32
  let v185 : BitVec 32 := Scalar.muli v184 c8_i32_58
  v185
def k0_mult75 : BitVec 32 :=
  let c63_i32_60 : BitVec 32 := 63#32
  let c10_i32 : BitVec 32 := 10#32
  let v199 : BitVec 32 := Scalar.subi c63_i32_60 c10_i32
  let c8_i32_61 : BitVec 32 := 8#32
  let v200 : BitVec 32 := Scalar.muli v199 c8_i32_61
  v200
def k0_mult76 : BitVec 32 :=
  let c63_i32_63 : BitVec 32 := 63#32
  let c11_i32 : BitVec 32 := 11#32
  let v214 : BitVec 32 := Scalar.subi c63_i32_63 c11_i32
  let c8_i32_64 : BitVec 32 := 8#32
  let v215 : BitVec 32 := Scalar.muli v214 c8_i32_64
  v215
def k0_mult77 : BitVec 32 :=
  let c63_i32_66 : BitVec 32 := 63#32
  let c12_i32 : BitVec 32 := 12#32
  let v229 : BitVec 32 := Scalar.subi c63_i32_66 c12_i32
  let c8_i32_67 : BitVec 32 := 8#32
  let v230 : BitVec 32 := Scalar.muli v229 c8_i32_67
  v230
def k0_mult78 : BitVec 32 :=
  let c63_i32_69 : BitVec 32 := 63#32
  let c13_i32 : BitVec 32 := 13#32
  let v244 : BitVec 32 := Scalar.subi c63_i32_69 c13_i32
  let c8_i32_70 : BitVec 32 := 8#32
  let v245 : BitVec 32 := Scalar.muli v244 c8_i32_70
  v245
def k0_mult79 : BitVec 32 :=
  let c63_i32_72 : BitVec 32 := 63#32
  let c14_i32 : BitVec 32 := 14#32
  let v259 : BitVec 32 := Scalar.subi c63_i32_72 c14_i32
  let c8_i32_73 : BitVec 32 := 8#32
  let v260 : BitVec 32 := Scalar.muli v259 c8_i32_73
  v260
def k0_mult80 : BitVec 32 :=
  let c63_i32_75 : BitVec 32 := 63#32
  let c15_i32 : BitVec 32 := 15#32
  let v274 : BitVec 32 := Scalar.subi c63_i32_75 c15_i32
  let c8_i32_76 : BitVec 32 := 8#32
  let v275 : BitVec 32 := Scalar.muli v274 c8_i32_76
  v275
def k0_mult81 : BitVec 32 :=
  let c63_i32_78 : BitVec 32 := 63#32
  let c16_i32 : BitVec 32 := 16#32
  let v289 : BitVec 32 := Scalar.subi c63_i32_78 c16_i32
  let c8_i32_79 : BitVec 32 := 8#32
  let v290 : BitVec 32 := Scalar.muli v289 c8_i32_79
  v290
def k0_mult82 : BitVec 32 :=
  let c63_i32_81 : BitVec 32 := 63#32
  let c17_i32 : BitVec 32 := 17#32
  let v304 : BitVec 32 := Scalar.subi c63_i32_81 c17_i32
  let c8_i32_82 : BitVec 32 := 8#32
  let v305 : BitVec 32 := Scalar.muli v304 c8_i32_82
  v305
def k0_mult83 : BitVec 32 :=
  let c63_i32_84 : BitVec 32 := 63#32
  let c18_i32 : BitVec 32 := 18#32
  let v319 : BitVec 32 := Scalar.subi c63_i32_84 c18_i32
  let c8_i32_85 : BitVec 32 := 8#32
  let v320 : BitVec 32 := Scalar.muli v319 c8_i32_85
  v320
def k0_mult84 : BitVec 32 :=
  let c63_i32_87 : BitVec 32 := 63#32
  let c19_i32 : BitVec 32 := 19#32
  let v334 : BitVec 32 := Scalar.subi c63_i32_87 c19_i32
  let c8_i32_88 : BitVec 32 := 8#32
  let v335 : BitVec 32 := Scalar.muli v334 c8_i32_88
  v335
def k0_mult85 : BitVec 32 :=
  let c63_i32_90 : BitVec 32 := 63#32
  let c20_i32 : BitVec 32 := 20#32
  let v349 : BitVec 32 := Scalar.subi c63_i32_90 c20_i32
  let c8_i32_91 : BitVec 32 := 8#32
  let v350 : BitVec 32 := Scalar.muli v349 c8_i32_91
  v350
def k0_mult86 : BitVec 32 :=
  let c63_i32_93 : BitVec 32 := 63#32
  let c21_i32 : BitVec 32 := 21#32
  let v364 : BitVec 32 := Scalar.subi c63_i32_93 c21_i32
  let c8_i32_94 : BitVec 32 := 8#32
  let v365 : BitVec 32 := Scalar.muli v364 c8_i32_94
  v365
def k0_mult87 : BitVec 32 :=
  let c63_i32_96 : BitVec 32 := 63#32
  let c22_i32 : BitVec 32 := 22#32
  let v379 : BitVec 32 := Scalar.subi c63_i32_96 c22_i32
  let c8_i32_97 : BitVec 32 := 8#32
  let v380 : BitVec 32 := Scalar.muli v379 c8_i32_97
  v380
def k0_mult88 : BitVec 32 :=
  let c63_i32_99 : BitVec 32 := 63#32
  let c23_i32 : BitVec 32 := 23#32
  let v394 : BitVec 32 := Scalar.subi c63_i32_99 c23_i32
  let c8_i32_100 : BitVec 32 := 8#32
  let v395 : BitVec 32 := Scalar.muli v394 c8_i32_100
  v395
def k0_mult89 : BitVec 32 :=
  let c63_i32_102 : BitVec 32 := 63#32
  let c24_i32 : BitVec 32 := 24#32
  let v409 : BitVec 32 := Scalar.subi c63_i32_102 c24_i32
  let c8_i32_103 : BitVec 32 := 8#32
  let v410 : BitVec 32 := Scalar.muli v409 c8_i32_103
  v410
def k0_mult90 : BitVec 32 :=
  let c63_i32_105 : BitVec 32 := 63#32
  let c25_i32 : BitVec 32 := 25#32
  let v424 : BitVec 32 := Scalar.subi c63_i32_105 c25_i32
  let c8_i32_106 : BitVec 32 := 8#32
  let v425 : BitVec 32 := Scalar.muli v424 c8_i32_106
  v425
def k0_mult91 : BitVec 32 :=
  let c63_i32_108 : BitVec 32 := 63#32
  let c26_i32 : BitVec 32 := 26#32
  let v439 : BitVec 32 := Scalar.subi c63_i32_108 c26_i32
  let c8_i32_109 : BitVec 32 := 8#32
  let v440 : BitVec 32 := Scalar.muli v439 c8_i32_109
  v440
def k0_mult92 : BitVec 32 :=
  let c63_i32_111 : BitVec 32 := 63#32
  let c27_i32 : BitVec 32 := 27#32
  let v454 : BitVec 32 := Scalar.subi c63_i32_111 c27_i32
  let c8_i32_112 : BitVec 32 := 8#32
  let v455 : BitVec 32 := Scalar.muli v454 c8_i32_112
  v455
def k0_mult93 : BitVec 32 :=
  let c63_i32_114 : BitVec 32 := 63#32
  let c28_i32 : BitVec 32 := 28#32
  let v469 : BitVec 32 := Scalar.subi c63_i32_114 c28_i32
  let c8_i32_115 : BitVec 32 := 8#32
  let v470 : BitVec 32 := Scalar.muli v469 c8_i32_115
  v470
def k0_mult94 : BitVec 32 :=
  let c63_i32_117 : BitVec 32 := 63#32
  let c29_i32 : BitVec 32 := 29#32
  let v484 : BitVec 32 := Scalar.subi c63_i32_117 c29_i32
  let c8_i32_118 : BitVec 32 := 8#32
  let v485 : BitVec 32 := Scalar.muli v484 c8_i32_118
  v485
def k0_mult95 : BitVec 32 :=
  let c63_i32_120 : BitVec 32 := 63#32
  let c30_i32 : BitVec 32 := 30#32
  let v499 : BitVec 32 := Scalar.subi c63_i32_120 c30_i32
  let c8_i32_121 : BitVec 32 := 8#32
  let v500 : BitVec 32 := Scalar.muli v499 c8_i32_121
  v500
def k0_mult96 : BitVec 32 :=
  let c63_i32_123 : BitVec 32 := 63#32
  let c31_i32 : BitVec 32 := 31#32
  let v514 : BitVec 32 := Scalar.subi c63_i32_123 c31_i32
  let c8_i32_124 : BitVec 32 := 8#32
  let v515 : BitVec 32 := Scalar.muli v514 c8_i32_124
  v515
def k0_mult97 : BitVec 32 :=
  let c63_i32_126 : BitVec 32 := 63#32
  let c32_i32 : BitVec 32 := 32#32
  let v529 : BitVec 32 := Scalar.subi c63_i32_126 c32_i32
  let c8_i32_127 : BitVec 32 := 8#32
  let v530 : BitVec 32 := Scalar.muli v529 c8_i32_127
  v530
def k0_mult98 : BitVec 32 :=
  let c63_i32_129 : BitVec 32 := 63#32
  let c33_i32 : BitVec 32 := 33#32
  let v544 : BitVec 32 := Scalar.subi c63_i32_129 c33_i32
  let c8_i32_130 : BitVec 32 := 8#32
  let v545 : BitVec 32 := Scalar.muli v544 c8_i32_130
  v545
def k0_mult99 : BitVec 32 :=
  let c63_i32_132 : BitVec 32 := 63#32
  let c34_i32 : BitVec 32 := 34#32
  let v559 : BitVec 32 := Scalar.subi c63_i32_132 c34_i32
  let c8_i32_133 : BitVec 32 := 8#32
  let v560 : BitVec 32 := Scalar.muli v559 c8_i32_133
  v560
def k0_mult100 : BitVec 32 :=
  let c63_i32_135 : BitVec 32 := 63#32
  let c35_i32 : BitVec 32 := 35#32
  let v574 : BitVec 32 := Scalar.subi c63_i32_135 c35_i32
  let c8_i32_136 : BitVec 32 := 8#32
  let v575 : BitVec 32 := Scalar.muli v574 c8_i32_136
  v575
def k0_mult101 : BitVec 32 :=
  let c63_i32_138 : BitVec 32 := 63#32
  let c36_i32 : BitVec 32 := 36#32
  let v589 : BitVec 32 := Scalar.subi c63_i32_138 c36_i32
  let c8_i32_139 : BitVec 32 := 8#32
  let v590 : BitVec 32 := Scalar.muli v589 c8_i32_139
  v590
def k0_mult102 : BitVec 32 :=
  let c63_i32_141 : BitVec 32 := 63#32
  let c37_i32 : BitVec 32 := 37#32
  let v604 : BitVec 32 := Scalar.subi c63_i32_141 c37_i32
  let c8_i32_142 : BitVec 32 := 8#32
  let v605 : BitVec 32 := Scalar.muli v604 c8_i32_142
  v605
def k0_mult103 : BitVec 32 :=
  let c63_i32_144 : BitVec 32 := 63#32
  let c38_i32 : BitVec 32 := 38#32
  let v619 : BitVec 32 := Scalar.subi c63_i32_144 c38_i32
  let c8_i32_145 : BitVec 32 := 8#32
  let v620 : BitVec 32 := Scalar.muli v619 c8_i32_145
  v620
def k0_mult104 : BitVec 32 :=
  let c63_i32_147 : BitVec 32 := 63#32
  let c39_i32 : BitVec 32 := 39#32
  let v634 : BitVec 32 := Scalar.subi c63_i32_147 c39_i32
  let c8_i32_148 : BitVec 32 := 8#32
  let v635 : BitVec 32 := Scalar.muli v634 c8_i32_148
  v635
def k0_mult105 : BitVec 32 :=
  let c63_i32_150 : BitVec 32 := 63#32
  let c40_i32 : BitVec 32 := 40#32
  let v649 : BitVec 32 := Scalar.subi c63_i32_150 c40_i32
  let c8_i32_151 : BitVec 32 := 8#32
  let v650 : BitVec 32 := Scalar.muli v649 c8_i32_151
  v650
def k0_mult106 : BitVec 32 :=
  let c63_i32_153 : BitVec 32 := 63#32
  let c41_i32 : BitVec 32 := 41#32
  let v664 : BitVec 32 := Scalar.subi c63_i32_153 c41_i32
  let c8_i32_154 : BitVec 32 := 8#32
  let v665 : BitVec 32 := Scalar.muli v664 c8_i32_154
  v665
def k0_mult107 : BitVec 32 :=
  let c63_i32_156 : BitVec 32 := 63#32
  let c42_i32 : BitVec 32 := 42#32
  let v679 : BitVec 32 := Scalar.subi c63_i32_156 c42_i32
  let c8_i32_157 : BitVec 32 := 8#32
  let v680 : BitVec 32 := Scalar.muli v679 c8_i32_157
  v680
def k0_mult108 : BitVec 32 :=
  let c63_i32_159 : BitVec 32 := 63#32
  let c43_i32 : BitVec 32 := 43#32
  let v694 : BitVec 32 := Scalar.subi c63_i32_159 c43_i32
  let c8_i32_160 : BitVec 32 := 8#32
  let v695 : BitVec 32 := Scalar.muli v694 c8_i32_160
  v695
def k0_mult109 : BitVec 32 :=
  let c63_i32_162 : BitVec 32 := 63#32
  let c44_i32 : BitVec 32 := 44#32
  let v709 : BitVec 32 := Scalar.subi c63_i32_162 c44_i32
  let c8_i32_163 : BitVec 32 := 8#32
  let v710 : BitVec 32 := Scalar.muli v709 c8_i32_163
  v710
def k0_mult110 : BitVec 32 :=
  let c63_i32_165 : BitVec 32 := 63#32
  let c45_i32 : BitVec 32 := 45#32
  let v724 : BitVec 32 := Scalar.subi c63_i32_165 c45_i32
  let c8_i32_166 : BitVec 32 := 8#32
  let v725 : BitVec 32 := Scalar.muli v724 c8_i32_166
  v725
def k0_mult111 : BitVec 32 :=
  let c63_i32_168 : BitVec 32 := 63#32
  let c46_i32 : BitVec 32 := 46#32
  let v739 : BitVec 32 := Scalar.subi c63_i32_168 c46_i32
  let c8_i32_169 : BitVec 32 := 8#32
  let v740 : BitVec 32 := Scalar.muli v739 c8_i32_169
  v740
def k0_mult112 : BitVec 32 :=
  let c63_i32_171 : BitVec 32 := 63#32
  let c47_i32 : BitVec 32 := 47#32
  let v754 : BitVec 32 := Scalar.subi c63_i32_171 c47_i32
  let c8_i32_172 : BitVec 32 := 8#32
  let v755 : BitVec 32 := Scalar.muli v754 c8_i32_172
  v755
def k0_mult113 : BitVec 32 :=
  let c63_i32_174 : BitVec 32 := 63#32
  let c48_i32 : BitVec 32 := 48#32
  let v769 : BitVec 32 := Scalar.subi c63_i32_174 c48_i32
  let c8_i32_175 : BitVec 32 := 8#32
  let v770 : BitVec 32 := Scalar.muli v769 c8_i32_175
  v770
def k0_mult114 : BitVec 32 :=
  let c63_i32_177 : BitVec 32 := 63#32
  let c49_i32 : BitVec 32 := 49#32
  let v784 : BitVec 32 := Scalar.subi c63_i32_177 c49_i32
  let c8_i32_178 : BitVec 32 := 8#32
  let v785 : BitVec 32 := Scalar.muli v784 c8_i32_178
  v785
def k0_mult115 : BitVec 32 :=
  let c63_i32_180 : BitVec 32 := 63#32
  let c50_i32 : BitVec 32 := 50#32
  let v799 : BitVec 32 := Scalar.subi c63_i32_180 c50_i32
  let c8_i32_181 : BitVec 32 := 8#32
  let v800 : BitVec 32 := Scalar.muli v799 c8_i32_181
  v800
def k0_mult116 : BitVec 32 :=
  let c63_i32_183 : BitVec 32 := 63#32
  let c51_i32 : BitVec 32 := 51#32
  let v814 : BitVec 32 := Scalar.subi c63_i32_183 c51_i32
  let c8_i32_184 : BitVec 32 := 8#32
  let v815 : BitVec 32 := Scalar.muli v814 c8_i32_184
  v815
def k0_mult117 : BitVec 32 :=
  let c63_i32_186 : BitVec 32 := 63#32
  let c52_i32 : BitVec 32 := 52#32
  let v829 : BitVec 32 := Scalar.subi c63_i32_186 c52_i32
  let c8_i32_187 : BitVec 32 := 8#32
  let v830 : BitVec 32 := Scalar.muli v829 c8_i32_187
  v830
def k0_mult118 : BitVec 32 :=
  let c63_i32_189 : BitVec 32 := 63#32
  let c53_i32 : BitVec 32 := 53#32
  let v844 : BitVec 32 := Scalar.subi c63_i32_189 c53_i32
  let c8_i32_190 : BitVec 32 := 8#32
  let v845 : BitVec 32 := Scalar.muli v844 c8_i32_190
  v845
def k0_mult119 : BitVec 32 :=
  let c63_i32_192 : BitVec 32 := 63#32
  let c54_i32 : BitVec 32 := 54#32
  let v859 : BitVec 32 := Scalar.subi c63_i32_192 c54_i32
  let c8_i32_193 : BitVec 32 := 8#32
  let v860 : BitVec 32 := Scalar.muli v859 c8_i32_193
  v860
def k0_mult120 : BitVec 32 :=
  let c63_i32_195 : BitVec 32 := 63#32
  let c55_i32 : BitVec 32 := 55#32
  let v874 : BitVec 32 := Scalar.subi c63_i32_195 c55_i32
  let c8_i32_196 : BitVec 32 := 8#32
  let v875 : BitVec 32 := Scalar.muli v874 c8_i32_196
  v875
def k0_mult121 : BitVec 32 :=
  let c63_i32_198 : BitVec 32 := 63#32
  let c56_i32 : BitVec 32 := 56#32
  let v889 : BitVec 32 := Scalar.subi c63_i32_198 c56_i32
  let c8_i32_199 : BitVec 32 := 8#32
  let v890 : BitVec 32 := Scalar.muli v889 c8_i32_199
  v890
def k0_mult122 : BitVec 32 :=
  let c63_i32_201 : BitVec 32 := 63#32
  let c57_i32 : BitVec 32 := 57#32
  let v904 : BitVec 32 := Scalar.subi c63_i32_201 c57_i32
  let c8_i32_202 : BitVec 32 := 8#32
  let v905 : BitVec 32 := Scalar.muli v904 c8_i32_202
  v905
def k0_mult123 : BitVec 32 :=
  let c63_i32_204 : BitVec 32 := 63#32
  let c58_i32 : BitVec 32 := 58#32
  let v919 : BitVec 32 := Scalar.subi c63_i32_204 c58_i32
  let c8_i32_205 : BitVec 32 := 8#32
  let v920 : BitVec 32 := Scalar.muli v919 c8_i32_205
  v920
def k0_mult124 : BitVec 32 :=
  let c63_i32_207 : BitVec 32 := 63#32
  let c59_i32 : BitVec 32 := 59#32
  let v934 : BitVec 32 := Scalar.subi c63_i32_207 c59_i32
  let c8_i32_208 : BitVec 32 := 8#32
  let v935 : BitVec 32 := Scalar.muli v934 c8_i32_208
  v935
def k0_mult125 : BitVec 32 :=
  let c63_i32_210 : BitVec 32 := 63#32
  let c60_i32 : BitVec 32 := 60#32
  let v949 : BitVec 32 := Scalar.subi c63_i32_210 c60_i32
  let c8_i32_211 : BitVec 32 := 8#32
  let v950 : BitVec 32 := Scalar.muli v949 c8_i32_211
  v950
def k0_mult126 : BitVec 32 :=
  let c63_i32_213 : BitVec 32 := 63#32
  let c61_i32 : BitVec 32 := 61#32
  let v964 : BitVec 32 := Scalar.subi c63_i32_213 c61_i32
  let c8_i32_214 : BitVec 32 := 8#32
  let v965 : BitVec 32 := Scalar.muli v964 c8_i32_214
  v965
def k0_mult127 : BitVec 32 :=
  let c63_i32_216 : BitVec 32 := 63#32
  let c62_i32 : BitVec 32 := 62#32
  let v979 : BitVec 32 := Scalar.subi c63_i32_216 c62_i32
  let c8_i32_217 : BitVec 32 := 8#32
  let v980 : BitVec 32 := Scalar.muli v979 c8_i32_217
  v980
def k0_mult128 : BitVec 32 :=
  let c63_i32_220 : BitVec 32 := 63#32
  let c63_i32_219 : BitVec 32 := 63#32
  let v994 : BitVec 32 := Scalar.subi c63_i32_220 c63_i32_219
  let c8_i32_221 : BitVec 32 := 8#32
  let v995 : BitVec 32 := Scalar.muli v994 c8_i32_221
  v995
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c0_i32_0 : BitVec 32 := 0#32
  ![v1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Proof.FiniteFacts.lean ====
module

public import proofs.«01_k».proof.Pre_norm2_finite
public import proofs.«01_k».proof.Pre_norm1_finite
public import proofs.«01_k».proof.Pre_loss_head_finite
public import Idealize.ShloMosaic.Lib.Decide

/-! The side conditions of the three preconditions of the norms and of the loss: every one is closed by evaluation. -/

@[expose] public section

namespace Cert.Pre_norm2_finite.Gen

/-- The side conditions, proved. -/
instance facts : Cert.Pre_norm2_finite.Facts where
  bitsLt_bf16_f32 := by decide
  bcast_S_S8192x4096 := by decide
  reducesTo_S8192x4096_S_d0_1 := by decide
  h_S_ := by decide
  bcast_S_S1024x4096 := by decide
  reducesTo_S1024x4096_S_d0_1 := by decide
  bcast_S_S8192x1024 := by decide
  reducesTo_S8192x1024_S_d0_1 := by decide
  bcast_S_S1x1024 := by decide
  reducesTo_S1x1024_S_d0_1 := by decide

end Cert.Pre_norm2_finite.Gen

namespace Cert.Pre_norm1_finite.Gen

/-- The side conditions, proved. -/
instance facts : Cert.Pre_norm1_finite.Facts where
  bitsLt_bf16_f32 := by decide
  bcast_S_S8192x512 := by decide
  reducesTo_S8192x512_S_d0_1 := by decide
  h_S_ := by decide
  bcast_S_S8192x768 := by decide
  reducesTo_S8192x768_S_d0_1 := by decide
  bcast_S_S8192x3072 := by decide
  reducesTo_S8192x3072_S_d0_1 := by decide
  bcast_S_S1024x6400 := by decide
  reducesTo_S1024x6400_S_d0_1 := by decide
  bcast_S_S8192x1024 := by decide
  reducesTo_S8192x1024_S_d0_1 := by decide
  bcast_S_S1x1024 := by decide
  reducesTo_S1x1024_S_d0_1 := by decide

end Cert.Pre_norm1_finite.Gen

namespace Cert.Pre_loss_head_finite.Gen

/-- The side conditions, proved. -/
instance facts : Cert.Pre_loss_head_finite.Facts where
  bitsLt_bf16_f32 := by decide
  bcast_S_S8192x4096 := by decide
  reducesTo_S8192x4096_S_d0_1 := by decide
  h_S_ := by decide
  bcast_S_S4096x1024 := by decide
  reducesTo_S4096x1024_S_d0_1 := by decide
  bcast_S_S8192x1024 := by decide
  reducesTo_S8192x1024_S_d0_1 := by decide
  bcast_S_S1x1024 := by decide
  reducesTo_S1x1024_S_d0_1 := by decide

end Cert.Pre_loss_head_finite.Gen

end
-- ==== Proof.AttnStrided.lean ====
module

public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.Pointwise

/-! Sixteen stores of 128 rows each, at a stride, cover a tile of 2048 rows. -/

@[expose] public section

noncomputable section

open Idealize.ShloMosaic

namespace Cert.AttnStrided

/-- The tile's shape. -/
abbrev Tile : Shape := ⟨2, ![2048, 128]⟩

/-- Where a store's rectangle begins, its extent and its stride, on both axes. -/
def place {Val : EltTy → Type} (p : View.Piece Val Tile .f32) : List ℕ :=
  [p.1.off 0, p.1.size 0, p.1.stride 0, p.1.off 1, p.1.size 1, p.1.stride 1]

/-- The places of the sixteen stores at stride `d`, the last first: block `k` begins at row `k % d` of the `k / d`-th part. -/
def places (d : ℕ) : List (List ℕ) := (List.range 16).reverse.map fun k => [k / d * (128 * d) + k % d, 128, d, 0, 128, 1]

/-- Stores at these places cover the tile. -/
theorem covered {Val : EltTy → Type} (d : ℕ) (hd : d = 4 ∨ d = 16) (L : List (View.Piece Val Tile .f32)) (h : L.map place = places d) (y : Tile.Idx) :
    ∃ p ∈ L, y ∈ p.1.set := by
  have l0 : (y 0).val < 2048 := (y 0).isLt
  have l1 : (y 1).val < 128 := (y 1).isLt
  have hk : (y 0).val / (128 * d) * d + (y 0).val % d < 16 := by
    rcases hd with rfl | rfl <;> omega
  generalize ek : (y 0).val / (128 * d) * d + (y 0).val % d = k at hk
  have hm : [k / d * (128 * d) + k % d, 128, d, 0, 128, 1] ∈ L.map place := by
    rw [h]
    exact List.mem_map.mpr ⟨k, List.mem_reverse.mpr (List.mem_range.mpr hk), rfl⟩
  obtain ⟨p, hp, e⟩ := List.mem_map.mp hm
  refine ⟨p, hp, (LoadRect.mem_set _).mpr fun a => ?_⟩
  simp only [place, List.cons.injEq, and_true] at e
  obtain ⟨e0, e1, e2, e3, e4, e5⟩ := e
  match a with
  | ⟨0, _⟩ =>
    refine ⟨(y 0).val % (128 * d) / d, ?_, ?_⟩
    · rw [show p.1.size ⟨0, _⟩ = 128 from e1]
      rcases hd with rfl | rfl <;> omega
    · rw [show p.1.off ⟨0, _⟩ = _ from e0, show p.1.stride ⟨0, _⟩ = d from e2]
      show (y 0).val = _
      rcases hd with rfl | rfl <;> omega
  | ⟨1, _⟩ =>
    refine ⟨(y 1).val, ?_, ?_⟩
    · rw [show p.1.size ⟨1, _⟩ = 128 from e4]
      exact l1
    · rw [show p.1.off ⟨1, _⟩ = 0 from e3, show p.1.stride ⟨1, _⟩ = 1 from e5]
      show (y 1).val = _
      omega

end Cert.AttnStrided
end
-- ==== Proof.AttnFrame4.lean ====
module

public import proofs.«01_k».proof.Proof.AttnStrided
public import proofs.«01_k».proof.Proof.Gen.AttnFwd4Ideal.Frame
public import proofs.«01_k».proof.Proof.Gen.AttnFwd4Ideal.Skeleton

/-! The window attention of dilation 4 runs: its sixteen strided stores fill both results' tiles at every grid point. -/

@[expose] public section

set_option maxRecDepth 16384

noncomputable section

namespace Cert.AttnFwd4Ideal.Strided

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFwd4Ideal Cert.AttnFwd4Ideal.Gen Cert.AttnStrided

variable {F : FTy → Type} [FloatOps F] [Named F]

local notation "𝕄" => MT nD τ sig Unit (Elt F) ℕ (UR sig nD τ) ℕ

/-- A memref held whole at contents `x`. -/
abbrev holds (c : Dev nD) {s : Shape} (a : Memref sig .tc .vmem s .f32) (x : Vec F s .f32) : sProp 𝕄 := owns (c : Thread nD τ) a fullShare x

/-- A memref held at what the stores `L` leave over some contents. -/
abbrev written (c : Dev nD) {s : Shape} (a : Memref sig .tc .vmem s .f32) (L : List (View.Piece (Elt F) s .f32)) : sProp 𝕄 :=
  iprop(∃ f, a.view.loc (c : Thread nD τ) ↦[a.view.set]{fullShare} a.view.writes (Elt F) f L)

set_option maxHeartbeats 2000000 in
/-- The stores into both results and both scratch arrays, found by running the body, with the run itself. -/
def run (c : Dev nD) (i : grid0.Coords) (q : Memref sig .tc .vmem S2048x128 .f32) (wq : q.IsWhole) (k : Memref sig .tc .vmem S2048x128 .f32) (wk : k.IsWhole)
    (kp : Memref sig .tc .vmem S512x128 .f32) (wkp : kp.IsWhole) (v : Memref sig .tc .vmem S2048x128 .f32) (wv : v.IsWhole)
    (vp : Memref sig .tc .vmem S512x128 .f32) (wvp : vp.IsWhole) (o : Memref sig .tc .vmem S2048x128 .f32) (wo : o.IsWhole)
    (l : Memref sig .tc .vmem S2048x128 .f32) (wl : l.IsWhole) (ks : Memref sig .tc .vmem S2560x128 .f32) (wks : ks.IsWhole)
    (vs : Memref sig .tc .vmem S2560x128 .f32) (wvs : vs.IsWhole)
    (xq xk : Vec F S2048x128 .f32) (xkp : Vec F S512x128 .f32) (xv : Vec F S2048x128 .f32) (xvp : Vec F S512x128 .f32) :
    Σ' (Lo Ll : List (View.Piece (Elt F) S2048x128 .f32)) (Lk : List (View.Piece (Elt F) S2560x128 .f32)), { Lv : List (View.Piece (Elt F) S2560x128 .f32) //
      ∀ (E : Set ℕ) (K : PUnit → sProp 𝕄),
        iprop(holds c q xq ∗ holds c k xk ∗ holds c kp xkp ∗ holds c v xv ∗ holds c vp xvp ∗ (∃ d, holds c o d) ∗ (∃ d, holds c l d) ∗ (∃ d, holds c ks d) ∗ (∃ d, holds c vs d)
          ∗ (iprop(holds c q xq ∗ holds c k xk ∗ holds c kp xkp ∗ holds c v xv ∗ holds c vp xvp ∗ written c o Lo ∗ written c l Ll ∗ written c ks Lk ∗ written c vs Lv) -∗ K ⟨⟩))
        ⊢ wp frame (wpE (defs₀ (F := F)) Variants.none c none) E (cc0_attn_fwd_1 i q wq k wk kp wkp v wv vp wvp o wo l wl ks wks vs wvs) K } := by
  refine ⟨?_, ?_, ?_, ?_, fun E K => ?body⟩
  case body =>
    simp only [cc0_attn_fwd_1_eq_skeleton]
    unfold cc0_attn_fwd_1_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold holds written owns
    iintro ⟨⟨%fq, %eq, Hq⟩, ⟨%fk, %ek, Hk⟩, ⟨%fkp, %ekp, Hkp⟩, ⟨%fv, %ev, Hv⟩, ⟨%fvp, %evp, Hvp⟩, ⟨%d₀, %f₀, -, Ho⟩, ⟨%d₁, %f₁, -, Hl⟩, ⟨%d₂, %f₂, -, Hks⟩, ⟨%d₃, %f₃, -, Hvs⟩, Hc⟩
    obtain rfl := wq.eq_unread eq
    obtain rfl := wk.eq_unread ek
    obtain rfl := wkp.eq_unread ekp
    obtain rfl := wv.eq_unread ev
    obtain rfl := wvp.eq_unread evp
    sl_exec
    sl_step
    iapply Hc
    isplitl [Hq]; · iexists _; isplitr; · ipureintro; exact wq.read_unread _
                    iexact Hq
    isplitl [Hk]; · iexists _; isplitr; · ipureintro; exact wk.read_unread _
                    iexact Hk
    isplitl [Hkp]; · iexists _; isplitr; · ipureintro; exact wkp.read_unread _
                     iexact Hkp
    isplitl [Hv]; · iexists _; isplitr; · ipureintro; exact wv.read_unread _
                    iexact Hv
    isplitl [Hvp]; · iexists _; isplitr; · ipureintro; exact wvp.read_unread _
                     iexact Hvp
    isplitl [Ho]; · iexists _; iexact Ho
    isplitl [Hl]; · iexists _; iexact Hl
    isplitl [Hks]; · iexists _; iexact Hks
    iexists _; iexact Hvs

section Point

variable (m : (ℓ : Loc nD τ sig) → Buf (Elt F) ℓ) (c : Dev nD) (t : Fin cfg0.N)

/-- The run at a grid point, on the point's staging buffers and blocks. -/
def runAt := run c (grid0.coords t) (win0_0.stage (cfg0.slots t 0)) (hstage0_0 ((cfg0.slots t 0).cast nbuf0_0))
  (win0_1.stage (cfg0.slots t 1)) (hstage0_1 ((cfg0.slots t 1).cast nbuf0_1)) (win0_2.stage (cfg0.slots t 2)) (hstage0_2 ((cfg0.slots t 2).cast nbuf0_2))
  (win0_3.stage (cfg0.slots t 3)) (hstage0_3 ((cfg0.slots t 3).cast nbuf0_3)) (win0_4.stage (cfg0.slots t 4)) (hstage0_4 ((cfg0.slots t 4).cast nbuf0_4))
  (win0_5.stage (cfg0.slots t 5)) (hstage0_5 ((cfg0.slots t 5).cast nbuf0_5)) (win0_6.stage (cfg0.slots t 6)) (hstage0_6 ((cfg0.slots t 6).cast nbuf0_6))
  (Memref.whole cc0_scratch0) (Memref.isWhole_whole _) (Memref.whole cc0_scratch1) (Memref.isWhole_whole _)
  (iblk m c 0 t) (iblk m c 1 t) (iblk m c 2 t) (iblk m c 3 t) (iblk m c 4 t)

/-- The stores into the first result fill its tile. -/
theorem coverO (y : S2048x128.Idx) : ∃ p ∈ (runAt m c t).1, y ∈ p.1.set := covered 4 (.inl rfl) _ (by sl_kernel_rfl) y

/-- The stores into the second result fill its tile. -/
theorem coverL (y : S2048x128.Idx) : ∃ p ∈ (runAt m c t).2.1, y ∈ p.1.set := covered 4 (.inl rfl) _ (by sl_kernel_rfl) y

end Point

variable (m : (ℓ : Loc nD τ sig) → Buf (Elt F) ℓ) (ρ : Dev nD → PrngReg)

/-- The pipeline's data on a core: after the body an input's buffer holds its block, a result's what the stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (runAt m c t).1
    | ⟨6, _⟩ => View.canon (runAt m c t).2.1
  Φ _ := Pipeline.ΦA spec0 c
  q w := Pipeline.shareOf spec0 w
  owed _ := 0

/-- The arrays are those the launch finds. -/
theorem arrays (c : Dev nD) (w : Fin cfg0.W) : (dats m 0 c).A w = V m c (Pipeline.arrRef spec0 w) := by
  dsimp only [dats]

/-- After the body the inputs' buffers hold their blocks, the results' what the stores leave. -/
theorem after (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = View.canon (runAt m c t).1 ∧ (dats m 0 c).after 6 t = View.canon (runAt m c t).2.1 := by
  dsimp only [dats]
  exact ⟨rfl, rfl, rfl, rfl, rfl, rfl, rfl⟩

/-- The invariant: both scratch arrays at some contents, and the generator's register. -/
theorem invariant (c : Dev nD) : (Pipeline.ΦA spec0 c : sProp 𝕄)
    = iprop(iprop((∃ d, holds c (Memref.whole cc0_scratch0) d) ∗ (∃ d, holds c (Memref.whole cc0_scratch1) d)) ∗ (∃ r, prngReg c r)) := by
  unfold Pipeline.ΦA
  rw [scopedRest0_eq]
  simp only [holds, owns_whole]
  try rfl

set_option maxHeartbeats 1600000 in
/-- The body at every grid point. -/
theorem body (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := iprop((dats m 0 c).Φ t.castSucc ∗ (dats m 0 c).owesAt () t.castSucc
      ∗ (∃ d, holds c (win0_0.stage (cfg0.slots t 0)) ((dats m 0 c).before 0 t d)) ∗ (∃ d, holds c (win0_1.stage (cfg0.slots t 1)) ((dats m 0 c).before 1 t d))
      ∗ (∃ d, holds c (win0_2.stage (cfg0.slots t 2)) ((dats m 0 c).before 2 t d)) ∗ (∃ d, holds c (win0_3.stage (cfg0.slots t 3)) ((dats m 0 c).before 3 t d))
      ∗ (∃ d, holds c (win0_4.stage (cfg0.slots t 4)) ((dats m 0 c).before 4 t d)) ∗ (∃ d, holds c (win0_5.stage (cfg0.slots t 5)) ((dats m 0 c).before 5 t d))
      ∗ (∃ d, holds c (win0_6.stage (cfg0.slots t 6)) ((dats m 0 c).before 6 t d))))
    (Q := fun _ => iprop((dats m 0 c).Φ t.succ ∗ (dats m 0 c).owesAt () t.succ
      ∗ holds c (win0_0.stage (cfg0.slots t 0)) ((dats m 0 c).after 0 t) ∗ holds c (win0_1.stage (cfg0.slots t 1)) ((dats m 0 c).after 1 t)
      ∗ holds c (win0_2.stage (cfg0.slots t 2)) ((dats m 0 c).after 2 t) ∗ holds c (win0_3.stage (cfg0.slots t 3)) ((dats m 0 c).after 3 t)
      ∗ holds c (win0_4.stage (cfg0.slots t 4)) ((dats m 0 c).after 4 t) ∗ holds c (win0_5.stage (cfg0.slots t 5)) ((dats m 0 c).after 5 t)
      ∗ holds c (win0_6.stage (cfg0.slots t 6)) ((dats m 0 c).after 6 t)))
    (W := wp frame (wpE (defs₀ (F := F)) Variants.none c none) Set.univ (bodyAt0 t)) ?_ rfl .rfl fun _ => .rfl
  have b0 := before0_0_of m (dats m 0 c) (arrays m c 0) (fun t => (after m c t).1)
  have b1 := before0_1_of m (dats m 0 c) (arrays m c 1) (fun t => (after m c t).2.1)
  have b2 := before0_2_of m (dats m 0 c) (arrays m c 2) (fun t => (after m c t).2.2.1)
  have b3 := before0_3_of m (dats m 0 c) (arrays m c 3) (fun t => (after m c t).2.2.2.1)
  have b4 := before0_4_of m (dats m 0 c) (arrays m c 4) (fun t => (after m c t).2.2.2.2.1)
  obtain ⟨a0, a1, a2, a3, a4, a5, a6⟩ := after m c t
  simp only [b0, b1, b2, b3, b4, a0, a1, a2, a3, a4, a5, a6]
  rw [show (dats m 0 c).owesAt () t.succ = (dats m 0 c).owesAt () t.castSucc from rfl, show (dats m 0 c).Φ t.succ = Pipeline.ΦA spec0 c from rfl,
    show (dats m 0 c).Φ t.castSucc = Pipeline.ΦA spec0 c from rfl, invariant]
  unfold bodyAt0
  iintro ⟨⟨⟨Hs, Hu⟩, Hg⟩, Hw, ⟨%d0, H0⟩, ⟨%d1, H1⟩, ⟨%d2, H2⟩, ⟨%d3, H3⟩, ⟨%d4, H4⟩, ⟨%d5, H5⟩, ⟨%d6, H6⟩⟩
  iapply ((runAt m c t).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [Hs]; · iexact Hs
  isplitl [Hu]; · iexact Hu
  iintro ⟨H0, H1, H2, H3, H4, ⟨%e5, H5⟩, ⟨%e6, H6⟩, ⟨%e7, Hs⟩, ⟨%e8, Hu⟩⟩
  isplitl [Hs Hu Hg]
  · isplitl [Hs Hu]
    · isplitl [Hs]
      · iexists _; unfold holds owns; iexists _; isplitr
        swap; · iexact Hs
        ipureintro; rfl
      iexists _; unfold holds owns; iexists _; isplitr
      swap; · iexact Hu
      ipureintro; rfl
    iexact Hg
  isplitl [Hw]; · iexact Hw
  isplitl [H0]; · iexact H0
  isplitl [H1]; · iexact H1
  isplitl [H2]; · iexact H2
  isplitl [H3]; · iexact H3
  isplitl [H4]; · iexact H4
  isplitl [H5]
  · unfold holds owns; iexists _; isplitr
    swap; · iexact H5
    ipureintro; exact View.read_writes_eq_canon _ _ _ (coverO m c t)
  unfold holds owns; iexists _; isplitr
  swap; · iexact H6
  ipureintro; exact View.read_writes_eq_canon _ _ _ (coverL m c t)

set_option backward.isDefEq.respectTransparency.types false in
/-- The launch: every array at what the data give, every counter at zero. -/
theorem launched : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body m c).loose) (hq := fun _ _ _ => rfl)
    (howed := fun _ _ => rfl) (V := V m) (hmain := hmain m Variants.none) (hA := arrays m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (launched m ρ)

/-- The frame: the program runs, its argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (arrays m) (run_main m ρ)) ((θ_run defs _ _).mono (fun _ h => h.2) (launched m ρ))

end Cert.AttnFwd4Ideal.Strided
end
-- ==== Proof.AttnFrame16.lean ====
module

public import proofs.«01_k».proof.Proof.AttnStrided
public import proofs.«01_k».proof.Proof.Gen.AttnFwd16Ideal.Frame
public import proofs.«01_k».proof.Proof.Gen.AttnFwd16Ideal.Skeleton

/-! The window attention of dilation 16 runs: its sixteen strided stores fill both results' tiles at every grid point. -/

@[expose] public section

set_option maxRecDepth 16384

noncomputable section

namespace Cert.AttnFwd16Ideal.Strided

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnFwd16Ideal Cert.AttnFwd16Ideal.Gen Cert.AttnStrided

variable {F : FTy → Type} [FloatOps F] [Named F]

local notation "𝕄" => MT nD τ sig Unit (Elt F) ℕ (UR sig nD τ) ℕ

/-- A memref held whole at contents `x`. -/
abbrev holds (c : Dev nD) {s : Shape} (a : Memref sig .tc .vmem s .f32) (x : Vec F s .f32) : sProp 𝕄 := owns (c : Thread nD τ) a fullShare x

/-- A memref held at what the stores `L` leave over some contents. -/
abbrev written (c : Dev nD) {s : Shape} (a : Memref sig .tc .vmem s .f32) (L : List (View.Piece (Elt F) s .f32)) : sProp 𝕄 :=
  iprop(∃ f, a.view.loc (c : Thread nD τ) ↦[a.view.set]{fullShare} a.view.writes (Elt F) f L)

set_option maxHeartbeats 2000000 in
/-- The stores into both results and both scratch arrays, found by running the body, with the run itself. -/
def run (c : Dev nD) (i : grid0.Coords) (q : Memref sig .tc .vmem S2048x128 .f32) (wq : q.IsWhole) (k : Memref sig .tc .vmem S2048x128 .f32) (wk : k.IsWhole)
    (kp : Memref sig .tc .vmem S2048x128 .f32) (wkp : kp.IsWhole) (v : Memref sig .tc .vmem S2048x128 .f32) (wv : v.IsWhole)
    (vp : Memref sig .tc .vmem S2048x128 .f32) (wvp : vp.IsWhole) (o : Memref sig .tc .vmem S2048x128 .f32) (wo : o.IsWhole)
    (l : Memref sig .tc .vmem S2048x128 .f32) (wl : l.IsWhole) (ks : Memref sig .tc .vmem S4096x128 .f32) (wks : ks.IsWhole)
    (vs : Memref sig .tc .vmem S4096x128 .f32) (wvs : vs.IsWhole)
    (xq xk : Vec F S2048x128 .f32) (xkp : Vec F S2048x128 .f32) (xv : Vec F S2048x128 .f32) (xvp : Vec F S2048x128 .f32) :
    Σ' (Lo Ll : List (View.Piece (Elt F) S2048x128 .f32)) (Lk : List (View.Piece (Elt F) S4096x128 .f32)), { Lv : List (View.Piece (Elt F) S4096x128 .f32) //
      ∀ (E : Set ℕ) (K : PUnit → sProp 𝕄),
        iprop(holds c q xq ∗ holds c k xk ∗ holds c kp xkp ∗ holds c v xv ∗ holds c vp xvp ∗ (∃ d, holds c o d) ∗ (∃ d, holds c l d) ∗ (∃ d, holds c ks d) ∗ (∃ d, holds c vs d)
          ∗ (iprop(holds c q xq ∗ holds c k xk ∗ holds c kp xkp ∗ holds c v xv ∗ holds c vp xvp ∗ written c o Lo ∗ written c l Ll ∗ written c ks Lk ∗ written c vs Lv) -∗ K ⟨⟩))
        ⊢ wp frame (wpE (defs₀ (F := F)) Variants.none c none) E (cc0_attn_fwd_2 i q wq k wk kp wkp v wv vp wvp o wo l wl ks wks vs wvs) K } := by
  refine ⟨?_, ?_, ?_, ?_, fun E K => ?body⟩
  case body =>
    simp only [cc0_attn_fwd_2_eq_skeleton]
    unfold cc0_attn_fwd_2_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold holds written owns
    iintro ⟨⟨%fq, %eq, Hq⟩, ⟨%fk, %ek, Hk⟩, ⟨%fkp, %ekp, Hkp⟩, ⟨%fv, %ev, Hv⟩, ⟨%fvp, %evp, Hvp⟩, ⟨%d₀, %f₀, -, Ho⟩, ⟨%d₁, %f₁, -, Hl⟩, ⟨%d₂, %f₂, -, Hks⟩, ⟨%d₃, %f₃, -, Hvs⟩, Hc⟩
    obtain rfl := wq.eq_unread eq
    obtain rfl := wk.eq_unread ek
    obtain rfl := wkp.eq_unread ekp
    obtain rfl := wv.eq_unread ev
    obtain rfl := wvp.eq_unread evp
    sl_exec
    sl_step
    iapply Hc
    isplitl [Hq]; · iexists _; isplitr; · ipureintro; exact wq.read_unread _
                    iexact Hq
    isplitl [Hk]; · iexists _; isplitr; · ipureintro; exact wk.read_unread _
                    iexact Hk
    isplitl [Hkp]; · iexists _; isplitr; · ipureintro; exact wkp.read_unread _
                     iexact Hkp
    isplitl [Hv]; · iexists _; isplitr; · ipureintro; exact wv.read_unread _
                    iexact Hv
    isplitl [Hvp]; · iexists _; isplitr; · ipureintro; exact wvp.read_unread _
                     iexact Hvp
    isplitl [Ho]; · iexists _; iexact Ho
    isplitl [Hl]; · iexists _; iexact Hl
    isplitl [Hks]; · iexists _; iexact Hks
    iexists _; iexact Hvs

section Point

variable (m : (ℓ : Loc nD τ sig) → Buf (Elt F) ℓ) (c : Dev nD) (t : Fin cfg0.N)

/-- The run at a grid point, on the point's staging buffers and blocks. -/
def runAt := run c (grid0.coords t) (win0_0.stage (cfg0.slots t 0)) (hstage0_0 ((cfg0.slots t 0).cast nbuf0_0))
  (win0_1.stage (cfg0.slots t 1)) (hstage0_1 ((cfg0.slots t 1).cast nbuf0_1)) (win0_2.stage (cfg0.slots t 2)) (hstage0_2 ((cfg0.slots t 2).cast nbuf0_2))
  (win0_3.stage (cfg0.slots t 3)) (hstage0_3 ((cfg0.slots t 3).cast nbuf0_3)) (win0_4.stage (cfg0.slots t 4)) (hstage0_4 ((cfg0.slots t 4).cast nbuf0_4))
  (win0_5.stage (cfg0.slots t 5)) (hstage0_5 ((cfg0.slots t 5).cast nbuf0_5)) (win0_6.stage (cfg0.slots t 6)) (hstage0_6 ((cfg0.slots t 6).cast nbuf0_6))
  (Memref.whole cc0_scratch0) (Memref.isWhole_whole _) (Memref.whole cc0_scratch1) (Memref.isWhole_whole _)
  (iblk m c 0 t) (iblk m c 1 t) (iblk m c 2 t) (iblk m c 3 t) (iblk m c 4 t)

/-- The stores into the first result fill its tile. -/
theorem coverO (y : S2048x128.Idx) : ∃ p ∈ (runAt m c t).1, y ∈ p.1.set := covered 16 (.inr rfl) _ (by sl_kernel_rfl) y

/-- The stores into the second result fill its tile. -/
theorem coverL (y : S2048x128.Idx) : ∃ p ∈ (runAt m c t).2.1, y ∈ p.1.set := covered 16 (.inr rfl) _ (by sl_kernel_rfl) y

end Point

variable (m : (ℓ : Loc nD τ sig) → Buf (Elt F) ℓ) (ρ : Dev nD → PrngReg)

/-- The pipeline's data on a core: after the body an input's buffer holds its block, a result's what the stores leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => View.canon (runAt m c t).1
    | ⟨6, _⟩ => View.canon (runAt m c t).2.1
  Φ _ := Pipeline.ΦA spec0 c
  q w := Pipeline.shareOf spec0 w
  owed _ := 0

/-- The arrays are those the launch finds. -/
theorem arrays (c : Dev nD) (w : Fin cfg0.W) : (dats m 0 c).A w = V m c (Pipeline.arrRef spec0 w) := by
  dsimp only [dats]

/-- After the body the inputs' buffers hold their blocks, the results' what the stores leave. -/
theorem after (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = View.canon (runAt m c t).1 ∧ (dats m 0 c).after 6 t = View.canon (runAt m c t).2.1 := by
  dsimp only [dats]
  exact ⟨rfl, rfl, rfl, rfl, rfl, rfl, rfl⟩

/-- The invariant: both scratch arrays at some contents, and the generator's register. -/
theorem invariant (c : Dev nD) : (Pipeline.ΦA spec0 c : sProp 𝕄)
    = iprop(iprop((∃ d, holds c (Memref.whole cc0_scratch0) d) ∗ (∃ d, holds c (Memref.whole cc0_scratch1) d)) ∗ (∃ r, prngReg c r)) := by
  unfold Pipeline.ΦA
  rw [scopedRest0_eq]
  simp only [holds, owns_whole]
  try rfl

set_option maxHeartbeats 1600000 in
/-- The body at every grid point. -/
theorem body (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  refine triple_restated (P := iprop((dats m 0 c).Φ t.castSucc ∗ (dats m 0 c).owesAt () t.castSucc
      ∗ (∃ d, holds c (win0_0.stage (cfg0.slots t 0)) ((dats m 0 c).before 0 t d)) ∗ (∃ d, holds c (win0_1.stage (cfg0.slots t 1)) ((dats m 0 c).before 1 t d))
      ∗ (∃ d, holds c (win0_2.stage (cfg0.slots t 2)) ((dats m 0 c).before 2 t d)) ∗ (∃ d, holds c (win0_3.stage (cfg0.slots t 3)) ((dats m 0 c).before 3 t d))
      ∗ (∃ d, holds c (win0_4.stage (cfg0.slots t 4)) ((dats m 0 c).before 4 t d)) ∗ (∃ d, holds c (win0_5.stage (cfg0.slots t 5)) ((dats m 0 c).before 5 t d))
      ∗ (∃ d, holds c (win0_6.stage (cfg0.slots t 6)) ((dats m 0 c).before 6 t d))))
    (Q := fun _ => iprop((dats m 0 c).Φ t.succ ∗ (dats m 0 c).owesAt () t.succ
      ∗ holds c (win0_0.stage (cfg0.slots t 0)) ((dats m 0 c).after 0 t) ∗ holds c (win0_1.stage (cfg0.slots t 1)) ((dats m 0 c).after 1 t)
      ∗ holds c (win0_2.stage (cfg0.slots t 2)) ((dats m 0 c).after 2 t) ∗ holds c (win0_3.stage (cfg0.slots t 3)) ((dats m 0 c).after 3 t)
      ∗ holds c (win0_4.stage (cfg0.slots t 4)) ((dats m 0 c).after 4 t) ∗ holds c (win0_5.stage (cfg0.slots t 5)) ((dats m 0 c).after 5 t)
      ∗ holds c (win0_6.stage (cfg0.slots t 6)) ((dats m 0 c).after 6 t)))
    (W := wp frame (wpE (defs₀ (F := F)) Variants.none c none) Set.univ (bodyAt0 t)) ?_ rfl .rfl fun _ => .rfl
  have b0 := before0_0_of m (dats m 0 c) (arrays m c 0) (fun t => (after m c t).1)
  have b1 := before0_1_of m (dats m 0 c) (arrays m c 1) (fun t => (after m c t).2.1)
  have b2 := before0_2_of m (dats m 0 c) (arrays m c 2) (fun t => (after m c t).2.2.1)
  have b3 := before0_3_of m (dats m 0 c) (arrays m c 3) (fun t => (after m c t).2.2.2.1)
  have b4 := before0_4_of m (dats m 0 c) (arrays m c 4) (fun t => (after m c t).2.2.2.2.1)
  obtain ⟨a0, a1, a2, a3, a4, a5, a6⟩ := after m c t
  simp only [b0, b1, b2, b3, b4, a0, a1, a2, a3, a4, a5, a6]
  rw [show (dats m 0 c).owesAt () t.succ = (dats m 0 c).owesAt () t.castSucc from rfl, show (dats m 0 c).Φ t.succ = Pipeline.ΦA spec0 c from rfl,
    show (dats m 0 c).Φ t.castSucc = Pipeline.ΦA spec0 c from rfl, invariant]
  unfold bodyAt0
  iintro ⟨⟨⟨Hs, Hu⟩, Hg⟩, Hw, ⟨%d0, H0⟩, ⟨%d1, H1⟩, ⟨%d2, H2⟩, ⟨%d3, H3⟩, ⟨%d4, H4⟩, ⟨%d5, H5⟩, ⟨%d6, H6⟩⟩
  iapply ((runAt m c t).2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [Hs]; · iexact Hs
  isplitl [Hu]; · iexact Hu
  iintro ⟨H0, H1, H2, H3, H4, ⟨%e5, H5⟩, ⟨%e6, H6⟩, ⟨%e7, Hs⟩, ⟨%e8, Hu⟩⟩
  isplitl [Hs Hu Hg]
  · isplitl [Hs Hu]
    · isplitl [Hs]
      · iexists _; unfold holds owns; iexists _; isplitr
        swap; · iexact Hs
        ipureintro; rfl
      iexists _; unfold holds owns; iexists _; isplitr
      swap; · iexact Hu
      ipureintro; rfl
    iexact Hg
  isplitl [Hw]; · iexact Hw
  isplitl [H0]; · iexact H0
  isplitl [H1]; · iexact H1
  isplitl [H2]; · iexact H2
  isplitl [H3]; · iexact H3
  isplitl [H4]; · iexact H4
  isplitl [H5]
  · unfold holds owns; iexists _; isplitr
    swap; · iexact H5
    ipureintro; exact View.read_writes_eq_canon _ _ _ (coverO m c t)
  unfold holds owns; iexists _; isplitr
  swap; · iexact H6
  ipureintro; exact View.read_writes_eq_canon _ _ _ (coverL m c t)

set_option backward.isDefEq.respectTransparency.types false in
/-- The launch: every array at what the data give, every counter at zero. -/
theorem launched : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body m c).loose) (hq := fun _ _ _ => rfl)
    (howed := fun _ _ => rfl) (V := V m) (hmain := hmain m Variants.none) (hA := arrays m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (launched m ρ)

/-- The frame: the program runs, its argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (arrays m) (run_main m ρ)) ((θ_run defs _ _).mono (fun _ h => h.2) (launched m ρ))

end Cert.AttnFwd16Ideal.Strided
end
-- ==== Proof.AttnPrinted.lean ====
module

public import proofs.«01_k».proof.Defs
public import proofs.«01_k».proof.Proof.AttnFrame4
public import proofs.«01_k».proof.Proof.AttnFrame16
public import proofs.«01_k».proof.Proof.Gen.AttnFwd4.Frame
public import proofs.«01_k».proof.Proof.Gen.AttnFwd16.Frame

/-! The frames of the printed window attentions of dilations 4 and 16: with the mask read as its printed word, the
idealized program is the printed one, so the idealized program's frame is the printed program's. -/

@[expose] public section

set_option maxRecDepth 16384

namespace Cert.AttnPrinted

open Idealize.ShloMosaic

/-- A named constant read as its printed word. -/
noncomputable local instance asPrinted : Named Bits := ⟨fun _ _ {φ} w => Scalar.ofBits φ w⟩

/-- At dilation 4 the body tables are the same. -/
theorem bodies4 : AttnFwd4Ideal.defs₀ (F := Bits) = AttnFwd4.defs₀ (F := Bits) := by
  refine congrArg Defs.onTc (funext fun l => funext fun a => ?_)
  match l, a with
  | 0, (t, s) => rfl

/-- At dilation 4 the tables with the pipelines' regions are the same. -/
theorem tables4 : AttnFwd4Ideal.defs (F := Bits) = AttnFwd4.defs (F := Bits) := congrArg (Pipeline.defs AttnFwd4.pcfgs) bodies4

/-- The printed program of dilation 4 runs, its argument ends unchanged and every counter at zero. -/
theorem frame4 : quiescent_AttnFwd4 (hAttnFwd4 := Cert.AttnFwd4.Gen.facts) := fun m g _ => by
  have h := AttnFwd4Ideal.Strided.frame (F := Bits) m g
  rw [tables4] at h
  exact h

/-- At dilation 16 the body tables are the same. -/
theorem bodies16 : AttnFwd16Ideal.defs₀ (F := Bits) = AttnFwd16.defs₀ (F := Bits) := by
  refine congrArg Defs.onTc (funext fun l => funext fun a => ?_)
  match l, a with
  | 0, (t, s) => rfl

/-- At dilation 16 the tables with the pipelines' regions are the same. -/
theorem tables16 : AttnFwd16Ideal.defs (F := Bits) = AttnFwd16.defs (F := Bits) := congrArg (Pipeline.defs AttnFwd16.pcfgs) bodies16

/-- The printed program of dilation 16 runs, its argument ends unchanged and every counter at zero. -/
theorem frame16 : quiescent_AttnFwd16 (hAttnFwd16 := Cert.AttnFwd16.Gen.facts) := fun m g _ => by
  have h := AttnFwd16Ideal.Strided.frame (F := Bits) m g
  rw [tables16] at h
  exact h

end Cert.AttnPrinted

end
-- ==== Proof.Reals.lean ====
module

public import Idealize.ShloMosaic.Lib.StableHlo
public import Idealize.ShloMosaic.PureOps
public import Idealize.ShloMosaic.Lib.ReduceAll
public import Idealize.ShloMosaic.Lib.Pointwise

/-! Real arithmetic inside the extended reals: when every entry of an array is finite, the exact operations of the
ideal instance are those of `ℝ`, and "every entry is finite" is what a precondition `all(|x| < ∞)` says. -/

@[expose] public section

set_option maxRecDepth 16384

noncomputable section

open Idealize.ShloMosaic

namespace Cert.Reals

/-- A sum of finite extended reals is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The ideal quotient of two reals, off zero, is the real quotient. -/
theorem div_coe_coe (a : ℝ) {b : ℝ} (hb : b ≠ 0) : Ideal.div (a : EReal) (b : EReal) = ((a / b : ℝ) : EReal) := by
  rw [Ideal.div_coe hb, ← EReal.coe_mul]; congr 1; ring

/-- The ideal inverse root of a positive real is the real one. -/
theorem rsqrt_pos {a : ℝ} (ha : 0 < a) : Ideal.rsqrt (a : EReal) = (((Real.sqrt a)⁻¹ : ℝ) : EReal) := by
  rw [Ideal.rsqrt_coe, if_neg (not_lt.2 ha.le), if_neg ha.ne']

/-- An extended real whose absolute value is below `⊤` is a real. -/
theorem exists_coe {x : EReal} (h : max x (-x) < ⊤) : ∃ r : ℝ, x = (r : EReal) := by
  induction x with
  | bot => simp at h
  | top => simp at h
  | coe r => exact ⟨r, rfl⟩

/-- The word of 1024 denotes 1024. -/
theorem ofBits_1024 : Ideal.ofBits .f32 0x44800000#32 = ((1024 : ℝ) : EReal) := by
  simp [Ideal.ofBits, Ideal.ieee]; rw [← EReal.coe_mul]; norm_num

/-- What the word of the norms' `ε` denotes. -/
def eps : ℝ := 8796093 * 2 ^ (-43 : ℤ)

theorem eps_pos : 0 < eps := by unfold eps; positivity

theorem ofBits_eps : Ideal.ofBits .f32 0x358637BD#32 = (eps : EReal) := by
  simp [Ideal.ofBits, Ideal.ieee, eps]

theorem ofBits_neg_half : Ideal.ofBits .f32 0xBF000000#32 = ((-(1 / 2) : ℝ) : EReal) := by
  simp [Ideal.ofBits, Ideal.ieee]; rw [← EReal.coe_mul]; norm_num

theorem ofBits_inf : Ideal.ofBits .f32 0x7F800000#32 = (⊤ : EReal) := by
  simp [Ideal.ofBits, Ideal.ieee]

/-- Two `i1` words whose conjunction is one are both one. -/
theorem andi_one {a b : BitVec 1} (h : IntOp.andi a b = 1#1) : a = 1#1 ∧ b = 1#1 := by
  revert a b; decide

/-- The printed test `all(|x| < ∞)`, read: `x` is an array of reals. -/
theorem finite_of_all {s t u z : Shape} {axes : List (Fin s.rank)} [Subsingleton t.Idx] (x : FVec Ideal s .f32) (d : Fin z.rank → Fin s.rank)
    (hb : z.BroadcastsInDim s d) (init : IVec u 1) (h : s.ReducesTo axes t) (hu : 0 < u.numel) (j : t.Idx)
    (e : Host.reduce IntOp.andi (cmpf .olt (Host.absf x) (broadcastInDim s d hb (constant z .f32 0x7F800000#32))) init h hu j = 1#1) :
    ∃ r : s.Idx → ℝ, x = fun i => (r i : EReal) := by
  have key : ∀ i, ∃ r : ℝ, x i = (r : EReal) := fun i => by
    have hi := Host.reduce_andi_all _ _ h hu j e i
    refine exists_coe ?_
    have h2 : Ideal.cmp .olt (max (x i) (-(x i))) (Ideal.ofBits .f32 0x7F800000#32) = 1#1 := hi
    rw [ofBits_inf] at h2
    by_contra hn
    simp only [Ideal.cmp, hn, decide_false] at h2
    exact absurd h2 (by decide)
  exact ⟨fun i => (key i).choose, funext fun i => (key i).choose_spec⟩

end Cert.Reals

end
-- ==== Proof.Rms.lean ====
module

public import proofs.«01_k».proof.Proof.Reals

/-! The gradient of a root-mean-square norm with respect to its row, as an equation of real numbers read inside the
extended reals. -/

@[expose] public section

noncomputable section

open Idealize.ShloMosaic

namespace Cert.Reals

/-- The mean square of a row plus `ε`. -/
def msq (x : Fin 1024 → ℝ) : ℝ := (∑ k, x k * x k) / 1024 + eps

theorem msq_pos (x : Fin 1024 → ℝ) : 0 < msq x :=
  add_pos_of_nonneg_of_pos (div_nonneg (Finset.sum_nonneg fun _ _ => mul_self_nonneg _) (by norm_num)) eps_pos

/-- The printed mean square of a row of reals. -/
theorem msq_coe (x : Fin 1024 → ℝ) :
    Ideal.div (∑ k, (x k : EReal) * (x k : EReal)) (Ideal.ofBits .f32 0x44800000#32) + Ideal.ofBits .f32 0x358637BD#32
      = ((msq x : ℝ) : EReal) := by
  simp only [← EReal.coe_mul, coe_sum, ofBits_1024, ofBits_eps, div_coe_coe _ (show (1024 : ℝ) ≠ 0 by norm_num), ← EReal.coe_add, msq]

/-- The inverse root of the printed mean square of a row of reals. -/
theorem rms_coe (x : Fin 1024 → ℝ) :
    Ideal.rsqrt (Ideal.div (∑ k, (x k : EReal) * (x k : EReal)) (Ideal.ofBits .f32 0x44800000#32) + Ideal.ofBits .f32 0x358637BD#32)
      = (((Real.sqrt (msq x))⁻¹ : ℝ) : EReal) := by
  rw [msq_coe, rsqrt_pos (msq_pos x)]

/-- The row's gradient written by hand, `r (dy·g − x̂ mean(dy·g·x̂))`, is the one that differentiating `x (mean(x²) + ε)^(-1/2)`
operation by operation gives: `r·r = 1 / (mean(x²) + ε)`. -/
theorem rms_dx (x g d : Fin 1024 → ℝ) (j : Fin 1024) :
    (Real.sqrt (msq x))⁻¹ * (d j * g j - x j * (Real.sqrt (msq x))⁻¹ * ((∑ k, d k * g k * (x k * (Real.sqrt (msq x))⁻¹)) / 1024))
      = d j * g j * (Real.sqrt (msq x))⁻¹
        + x j * ((∑ k, x k * (d k * g k)) * (-(1 / 2) * ((Real.sqrt (msq x))⁻¹ / msq x)) / 1024)
        + (∑ k, x k * (d k * g k)) * (-(1 / 2) * ((Real.sqrt (msq x))⁻¹ / msq x)) / 1024 * x j := by
  have hp := msq_pos x
  have hs : (Real.sqrt (msq x))⁻¹ / msq x = (Real.sqrt (msq x))⁻¹ * ((Real.sqrt (msq x))⁻¹ * (Real.sqrt (msq x))⁻¹) := by
    rw [← mul_inv, Real.mul_self_sqrt hp.le, div_eq_mul_inv]
  have hsum : (∑ k, d k * g k * (x k * (Real.sqrt (msq x))⁻¹)) = (∑ k, x k * (d k * g k)) * (Real.sqrt (msq x))⁻¹ := by
    rw [Finset.sum_mul]; exact Finset.sum_congr rfl fun k _ => by ring
  rw [hs, hsum]; ring

end Cert.Reals

end
-- ==== Proof.MemNorm.lean ====
module

public import proofs.«01_k».proof.Defs
public import proofs.«01_k».proof.Proof.Rms
public import proofs.«01_k».proof.Proof.Gen.Pre_mem_norm_finite
public import proofs.«01_k».proof.Proof.Gen.MemNormBwdIdeal.Value
public import proofs.«01_k».proof.Proof.Gen.MemNormBwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemNormBwdIdeal.Equation

open Cert.MemNormBwdIdeal Cert.MemNormBwdIdeal.Gen Cert.Reals

variable (m : (ℓ : Loc nD τ sig) → Buf (Elt Ideal) ℓ)

/-- Every window's one block is its whole array. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The first result after the run: the stored row gradient over the argument arrays. -/
theorem final3 (c : Dev nD) : (dats m 0 c).arrAt 3 cfg0.N
    = k0_pay3 (m ((c : Thread nD τ).loc main_arg0)) (m ((c : Thread nD τ).loc main_arg2)) (m ((c : Thread nD τ).loc main_arg1)) := by
  refine (dats m 0 c).arrAt_eq_of_after_last 3 t0_0 (by decide +kernel) _ fun j => ?_
  blk_simp
  rw [after0_3]; unfold outsAt0; frame_out
  all_goals blk_point [iblk, V, idx t0_0]

/-- The second result after the run: the stored column sum over the argument arrays. -/
theorem final4 (c : Dev nD) : (dats m 0 c).arrAt 4 cfg0.N
    = k0_pay5 (m ((c : Thread nD τ).loc main_arg0)) (m ((c : Thread nD τ).loc main_arg2)) (k0_pay4 (F := Ideal)) := by
  refine (dats m 0 c).arrAt_eq_of_after_last 4 t0_0 (by decide +kernel) _ fun j => ?_
  blk_simp
  rw [after0_4]; unfold outsAt0; frame_out
  all_goals blk_point [iblk, V, idx t0_0]

/-- The stored row gradient is the reference's, where every argument is finite. -/
theorem pay3_eq (x : FVec Ideal S256x1024 .f32) (g : FVec Ideal S1x1024 .f32) (dy : FVec Ideal S256x1024 .f32)
    (hx : ∃ r : S256x1024.Idx → ℝ, x = fun i => (r i : EReal)) (hg : ∃ r : S1x1024.Idx → ℝ, g = fun i => (r i : EReal))
    (hd : ∃ r : S256x1024.Idx → ℝ, dy = fun i => (r i : EReal)) (i : Fin 256) (j : Fin 1024) :
    k0_pay3 (F := Ideal) x dy g (ix2 i j) = Cert.MemNormBwdRefIdeal.Read.val_main_v36 (F := Ideal) x g dy (ix2 i j) := by
  obtain ⟨xr, rfl⟩ := hx
  obtain ⟨gr, rfl⟩ := hg
  obtain ⟨dr, rfl⟩ := hd
  open Cert.MemNormBwdRefIdeal.Read in
  pointwise [k0_pay3, k0_pay1, k0_pay2, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37]
  rw [rms_coe fun k => xr (ix2 i k), msq_coe fun k => xr (ix2 i k)]
  simp only [ofBits_1024, ofBits_neg_half, ← EReal.coe_mul, coe_sum, div_coe_coe _ (show (1024 : ℝ) ≠ 0 by norm_num),
    div_coe_coe _ (msq_pos _).ne', ← EReal.coe_add, ← EReal.coe_sub, Finset.univ_unique, Finset.sum_singleton]
  exact congrArg _ (rms_dx (fun k => xr (ix2 i k)) (fun k => gr (ix2 0 k)) (fun k => dr (ix2 i k)) j)

/-- The stored gradient of the gain is the reference's. -/
theorem pay5_eq (x : FVec Ideal S256x1024 .f32) (dy : FVec Ideal S256x1024 .f32) (i : Fin 1) (j : Fin 1024) :
    k0_pay5 (F := Ideal) x dy (k0_pay4 (F := Ideal)) (ix2 i j) = Cert.MemNormBwdRefIdeal.Read.val_main_v37 (F := Ideal) x dy (ix2 i j) := by
  open Cert.MemNormBwdRefIdeal.Read in
  pointwise [k0_pay5, k0_pay4, k0_pay1, k0_pay2, val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37]
  simp only [Finset.univ_unique, Finset.sum_singleton]
  exact Finset.sum_congr rfl fun k _ => mul_comm _ _

/-- The precondition, read: the memory tokens, the gain and the cotangent are arrays of reals. -/
theorem finite (hpre : Cert.Pre_MemNormBwdIdeal_mem_norm_finite m) (c : Dev nD) :
    (∃ r : S256x1024.Idx → ℝ, m ((c : Thread nD τ).loc main_arg0) = fun i => (r i : EReal))
    ∧ (∃ r : S1x1024.Idx → ℝ, m ((c : Thread nD τ).loc main_arg1) = fun i => (r i : EReal))
    ∧ (∃ r : S256x1024.Idx → ℝ, m ((c : Thread nD τ).loc main_arg2) = fun i => (r i : EReal)) := by
  have h := congrFun (hpre c) ix0
  dsimp only [Cert.Pre_mem_norm_finite.fn] at h
  obtain ⟨h, h2⟩ := andi_one h
  obtain ⟨h0, h1⟩ := andi_one h
  exact ⟨finite_of_all _ _ _ _ _ _ _ h0, finite_of_all _ _ _ _ _ _ _ h1, finite_of_all _ _ _ _ _ _ _ h2⟩

/-- The kernel's two results are the reference's two gradients of the norm. -/
theorem algebraic : Cert.algebraic_MemNormBwdIdeal_MemNormBwdRefIdeal_pre_mem_norm_finite := by
  pair_intro
  · run_from Cert.MemNormBwdIdeal.Gen.run_main m g
  · run_from Cert.MemNormBwdRefIdeal.Value.run m' g'
    · rw [final3]
      funext i
      idx_vars i
      obtain ⟨hx, hg, hd⟩ := finite m hpre c
      exact (pay3_eq _ _ _ hx hg hd _ _).symm
    · rw [final4]
      funext i
      idx_vars i
      exact (pay5_eq _ _ _ _).symm

end Cert.MemNormBwdIdeal.Equation
-- ==== Proof.NormFwd.lean ====
module

public import proofs.«01_k».proof.Defs
public import proofs.«01_k».proof.Proof.Gen.MemNormFwdIdeal.Frame
public import proofs.«01_k».proof.Proof.Gen.MemNormFwdRefIdeal.Read
public import proofs.«01_k».proof.Proof.Gen.Norm1FwdIdeal.Frame
public import proofs.«01_k».proof.Proof.Gen.Norm1FwdRefIdeal.Read
public import Idealize.ShloMosaic.Lib.Pipeline.ValueKit
public import Idealize.ShloMosaic.Lib.Pointwise

/-! The two norms of the forward pass, of the memory tokens and of the sequence: on every row the kernel's block and the reference do the same
operations, for all extended reals. -/

@[expose] public section

set_option maxRecDepth 16384

noncomputable section

open Idealize.ShloMosaic Idealize.ShloMosaic.TcCoe Idealize.SL.Sem
open Idealize.ShloMosaic.Pipeline (Dat)

namespace Cert.NormFwd

/-- A row over the root of its mean square, times the gain. -/
def row (x g : Fin 1024 → EReal) (j : Fin 1024) : EReal :=
  x j * Ideal.rsqrt (Ideal.div (∑ k, x k * x k) (Ideal.ofBits .f32 0x44800000#32) + Ideal.ofBits .f32 0x358637BD#32) * g j

end Cert.NormFwd

namespace Cert.MemNormFwdIdeal.Equation

open Cert.MemNormFwdIdeal Cert.MemNormFwdIdeal.Gen Cert.NormFwd
open Cert.MemNormFwdRefIdeal.Read

theorem pay1_eq (X : FVec Ideal S256x1024 .f32) (G : FVec Ideal S1x1024 .f32) (a : Fin 256) (j : Fin 1024) :
    k0_pay1 (F := Ideal) X G (ix2 a j) = row (fun k => X (ix2 a k)) (fun k => G (ix2 0 k)) j := by
  unfold row
  pointwise [k0_pay1]

theorem v14_eq (X : FVec Ideal S256x1024 .f32) (G : FVec Ideal S1x1024 .f32) (a : Fin 256) (j : Fin 1024) :
    val_main_v14 (F := Ideal) X G (ix2 a j) = row (fun k => X (ix2 a k)) (fun k => G (ix2 0 k)) j := by
  unfold row
  pointwise [val_main_v14, val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The call's result is the reference's norm. -/
theorem final2 (c : Dev nD) : (dats m 0 c).arrAt 2 cfg0.N
    = val_main_v14 (F := Ideal) (m ((c : Thread nD τ).loc main_arg0)) (m ((c : Thread nD τ).loc main_arg1)) := by
  refine (dats m 0 c).arrAt_eq_of_covers 2 _ (by decide +kernel) fun t _ y => ?_
  have ht : t.val < 1 := lt_of_lt_of_eq t.isLt N_0
  blk_simp
  rw [after0_2]
  frame_out
  idx_vars y
  have e : ((View.whole main_v0).slice (win0_2.rect t)).emb (ix2 y0 y1) = ix2 (⟨t.val * 256 + y0.val, by omega⟩ : Fin 256) y1 := by
    blk_ext [idx t]
  rw [e, pay1_eq, v14_eq]
  congr 1 <;> funext k <;> blk_point [iblk, V, idx t]

/-- The kernel's result is the reference's norm. -/
theorem algebraic : Cert.algebraic_MemNormFwdIdeal_MemNormFwdRefIdeal := by
  pair_intro
  · run_from Cert.MemNormFwdIdeal.Gen.run_main m g
  · run_from Cert.MemNormFwdRefIdeal.Value.run m' g'
    obtain ⟨a0, a1⟩ := hagree c
    rw [final2, ← a0, ← a1]
    exact Cert.MemNormFwdRefIdeal.Read.val_main_v14_eq _ _

end Cert.MemNormFwdIdeal.Equation

namespace Cert.Norm1FwdIdeal.Equation

open Cert.Norm1FwdIdeal Cert.Norm1FwdIdeal.Gen Cert.NormFwd
open Cert.Norm1FwdRefIdeal.Read

theorem pay1_eq (X : FVec Ideal S512x1024 .f32) (G : FVec Ideal S1x1024 .f32) (a : Fin 512) (j : Fin 1024) :
    k0_pay1 (F := Ideal) X G (ix2 a j) = row (fun k => X (ix2 a k)) (fun k => G (ix2 0 k)) j := by
  unfold row
  pointwise [k0_pay1]

theorem v14_eq (X : FVec Ideal S8192x1024 .f32) (G : FVec Ideal S1x1024 .f32) (a : Fin 8192) (j : Fin 1024) :
    val_main_v14 (F := Ideal) X G (ix2 a j) = row (fun k => X (ix2 a k)) (fun k => G (ix2 0 k)) j := by
  unfold row
  pointwise [val_main_v14, val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The call's result is the reference's norm. -/
theorem final2 (c : Dev nD) : (dats m 0 c).arrAt 2 cfg0.N
    = val_main_v14 (F := Ideal) (m ((c : Thread nD τ).loc main_arg0)) (m ((c : Thread nD τ).loc main_arg1)) := by
  refine (dats m 0 c).arrAt_eq_of_covers 2 _ (by decide +kernel) fun t _ y => ?_
  have ht : t.val < 16 := lt_of_lt_of_eq t.isLt N_0
  blk_simp
  rw [after0_2]
  frame_out
  idx_vars y
  have e : ((View.whole main_v0).slice (win0_2.rect t)).emb (ix2 y0 y1) = ix2 (⟨t.val * 512 + y0.val, by omega⟩ : Fin 8192) y1 := by
    blk_ext [idx t]
  rw [e, pay1_eq, v14_eq]
  congr 1 <;> funext k <;> blk_point [iblk, V, idx t]

/-- The kernel's result is the reference's norm. -/
theorem algebraic : Cert.algebraic_Norm1FwdIdeal_Norm1FwdRefIdeal := by
  pair_intro
  · run_from Cert.Norm1FwdIdeal.Gen.run_main m g
  · run_from Cert.Norm1FwdRefIdeal.Value.run m' g'
    obtain ⟨a0, a1⟩ := hagree c
    rw [final2, ← a0, ← a1]
    exact Cert.Norm1FwdRefIdeal.Read.val_main_v14_eq _ _

end Cert.Norm1FwdIdeal.Equation
end
-- ==== Proof.Softmax.lean ====
module

public import proofs.«01_k».proof.Proof.Reals
public import Idealize.ShloMosaic.PureOps

/-! A row's softmax and the gradient through it, as equations of real numbers read inside the extended reals. -/

@[expose] public section

noncomputable section

open Idealize.ShloMosaic

namespace Cert.Reals

/-- The word of −∞ denotes `⊥`. -/
theorem ofBits_neg_inf : Ideal.ofBits .f32 0xFF800000#32 = (⊥ : EReal) := by
  simp [Ideal.ofBits, Ideal.ieee]

/-- The word of 1 denotes 1. -/
theorem ofBits_one : Ideal.ofBits .f32 0x3F800000#32 = ((1 : ℝ) : EReal) := by
  simp [Ideal.ofBits, Ideal.ieee]; rw [← EReal.coe_mul]; norm_num

/-- The largest of finitely many reals, folded from −∞, is one of them: a real. -/
theorem fold_max_coe {ι : Type} [Fintype ι] [Nonempty ι] (f : ι → EReal) (hf : ∀ i, ∃ r : ℝ, f i = (r : EReal)) :
    ∃ r : ℝ, Finset.univ.fold max (Ideal.ofBits .f32 0xFF800000#32) f = (r : EReal) := by
  classical
  have key : ∀ s : Finset ι, s.Nonempty → ∃ r : ℝ, s.fold max (⊥ : EReal) f = (r : EReal) := by
    intro s hs
    induction hs using Finset.Nonempty.cons_induction with
    | singleton a => obtain ⟨r, hr⟩ := hf a; exact ⟨r, by simp [hr]⟩
    | cons a s ha hs ih =>
      obtain ⟨r, hr⟩ := hf a
      obtain ⟨q, hq⟩ := ih
      exact ⟨max r q, by rw [Finset.fold_cons, hq, hr]; exact (EReal.coe_strictMono.monotone.map_max).symm⟩
  rw [ofBits_neg_inf]
  exact key _ Finset.univ_nonempty

variable {n : ℕ}

/-- The softmax of a row of scores. -/
def soft (s : Fin n → ℝ) (x : Fin n) : ℝ := Real.exp (s x) / ∑ y, Real.exp (s y)

theorem sum_exp_pos [NeZero n] (s : Fin n → ℝ) : 0 < ∑ y, Real.exp (s y) :=
  Finset.sum_pos (fun _ _ => Real.exp_pos _) Finset.univ_nonempty

/-- Taking one number off every score changes no softmax. -/
theorem soft_shift (s : Fin n → ℝ) (M : ℝ) (x : Fin n) :
    Real.exp (s x - M) / ∑ y, Real.exp (s y - M) = soft s x := by
  simp only [soft, Real.exp_sub, ← Finset.sum_div]
  exact div_div_div_cancel_right₀ (Real.exp_pos M).ne' _ _

/-- The printed softmax of a row of reals, whatever real was taken off every score. -/
theorem soft_coe [NeZero n] (s : Fin n → ℝ) (M : ℝ) (x : Fin n) :
    Ideal.div (Ideal.exp ((s x : EReal) - (M : EReal))) (∑ y, Ideal.exp ((s y : EReal) - (M : EReal))) = (soft s x : EReal) := by
  simp only [← EReal.coe_sub, Ideal.exp_coe, coe_sum]
  rw [div_coe_coe _ (sum_exp_pos fun y => s y - M).ne', soft_shift]

/-- The gradient of a row's scores through the softmax, for the gradient `g` of its probabilities. -/
def dsoft (s g : Fin n → ℝ) (x : Fin n) : ℝ := soft s x * (g x - ∑ y, soft s y * g y)

/-- The gradient that differentiating `e / Σ e` operation by operation gives, `e` the shifted exponentials. -/
theorem dsoft_quotient [NeZero n] (s g : Fin n → ℝ) (M : ℝ) (x : Fin n) :
    (g x / (∑ y, Real.exp (s y - M))
        + -∑ y, g y * (1 / ((∑ y, Real.exp (s y - M)) * (∑ y, Real.exp (s y - M)))) * Real.exp (s y - M)) * Real.exp (s x - M)
      = dsoft s g x := by
  have hp := (sum_exp_pos fun y => s y - M).ne'
  simp only [dsoft, ← soft_shift s M]
  generalize hD : (∑ y, Real.exp (s y - M)) = D at hp ⊢
  have e : ∑ y, g y * (1 / (D * D)) * Real.exp (s y - M) = (∑ y, Real.exp (s y - M) / D * g y) / D := by
    rw [Finset.sum_div]; exact Finset.sum_congr rfl fun y _ => by field_simp
  rw [e]; ring

end Cert.Reals

end
-- ==== Proof.MemAttnRow.lean ====
module

public import proofs.«01_k».proof.Proof.Softmax
public import proofs.«01_k».proof.Proof.Gen.MemAttnBwdIdeal.Skeleton
public import proofs.«01_k».proof.Proof.Gen.MemAttnBwdRefIdeal.Read
public import Idealize.ShloMosaic.Lib.Pipeline.ValueKit
public import Idealize.ShloMosaic.Lib.Pointwise

/-! One row of the memory cross-attention's gradient: for one query row of one head the kernel's stored values and the
reference's intermediate arrays are the same real numbers. -/

@[expose] public section

set_option maxRecDepth 16384

noncomputable section

open Idealize.ShloMosaic Idealize.ShloMosaic.TcCoe

namespace Cert.MemAttn

open Cert.Reals

/-- What the word of both programs' scale denotes. -/
def scale : ℝ := 11863283 * 2 ^ (-27 : ℤ)

theorem ofBits_scale : Ideal.ofBits .f32 0x3DB504F3#32 = (scale : EReal) := by
  simp [Ideal.ofBits, Ideal.ieee, scale]

/-- A query row's scores against the 256 memory tokens of its head. -/
def score (q : Fin 128 → ℝ) (k : Fin 256 → Fin 128 → ℝ) (x : Fin 256) : ℝ := (∑ e, q e * k x e) * scale

/-- The gradient of a row's unscaled scores. -/
def ds (q : Fin 128 → ℝ) (k v : Fin 256 → Fin 128 → ℝ) (d : Fin 128 → ℝ) (x : Fin 256) : ℝ :=
  dsoft (score q k) (fun y => ∑ e, d e * v y e) x * scale

section Kernel

open Cert.MemAttnBwdIdeal Cert.MemAttnBwdIdeal.Gen

variable {Q D : FVec Ideal S1024x128 .f32} {K V : FVec Ideal S256x128 .f32} {q d : Fin 128 → ℝ} {k v : Fin 256 → Fin 128 → ℝ}
  {r : Fin 1024}

/-- The kernel's probabilities of a row are its softmax. -/
theorem pay7_eq (hq : ∀ e, Q (ix2 r e) = (q e : EReal)) (hk : ∀ x e, K (ix2 x e) = (k x e : EReal)) (x : Fin 256) :
    k0_pay7 (F := Ideal) Q K (ix2 r x) = (soft (score q k) x : EReal) := by
  pointwise [k0_pay7]
  simp only [hq, hk, ofBits_scale, ← EReal.coe_mul, coe_sum]
  obtain ⟨M, hM⟩ := fold_max_coe (fun x => (((∑ e, q e * k x e) * scale : ℝ) : EReal)) fun _ => ⟨_, rfl⟩
  rw [hM]
  exact soft_coe (score q k) M x

/-- The kernel's gradient of a row's scores. -/
theorem pay8_eq (hq : ∀ e, Q (ix2 r e) = (q e : EReal)) (hk : ∀ x e, K (ix2 x e) = (k x e : EReal))
    (hv : ∀ x e, V (ix2 x e) = (v x e : EReal)) (hd : ∀ e, D (ix2 r e) = (d e : EReal)) (x : Fin 256) :
    k0_pay8 (F := Ideal) V D Q K (ix2 r x) = (ds q k v d x : EReal) := by
  pointwise [k0_pay8, k0_pay6]
  simp only [pay7_eq hq hk, hv, hd, ofBits_scale, ← EReal.coe_mul, coe_sum, ← EReal.coe_sub]
  rfl

/-- The gradient of the queries a point stores. -/
theorem pay9_eq (x : Fin 128) :
    k0_pay9 (F := Ideal) K V D Q K (ix2 r x) = ∑ y, k0_pay8 (F := Ideal) V D Q K (ix2 r y) * K (ix2 y x) := by
  pointwise [k0_pay9]

/-- What a point adds into the gradient of the keys. -/
theorem pay3_eq (P : FVec Ideal S1024x256 .bf16) (A : FVec Ideal S256x128 .f32) (x : Fin 256) (e : Fin 128) :
    k0_pay3 (F := Ideal) (k0_pay5 (F := Ideal) Q) P A (ix2 x e) = A (ix2 x e) + ∑ r, P (ix2 r x) * Q (ix2 r e) := by
  pointwise [k0_pay3, k0_pay5]

/-- What a point adds into the gradient of the values. -/
theorem pay4_eq (P : FVec Ideal S1024x256 .f32) (A : FVec Ideal S256x128 .f32) (x : Fin 256) (e : Fin 128) :
    k0_pay4 (F := Ideal) (k0_pay6 (F := Ideal) D) P A (ix2 x e) = A (ix2 x e) + ∑ r, P (ix2 r x) * D (ix2 r e) := by
  pointwise [k0_pay4, k0_pay6]

/-- The sums start at zero. -/
theorem pay1_eq (i : S256x128.Idx) : k0_pay1 (F := Ideal) i = 0 := by pointwise [k0_pay1]

theorem pay2_eq (i : S256x128.Idx) : k0_pay2 (F := Ideal) i = 0 := by pointwise [k0_pay2]

end Kernel

section Reference

open Cert.MemAttnBwdRefIdeal Cert.MemAttnBwdRefIdeal.Gen Cert.MemAttnBwdRefIdeal.Read

variable {Q D : FVec Ideal S8192x512 .f32} {K : FVec Ideal S256x1024 .f32} {q d : Fin 128 → ℝ} {k v : Fin 256 → Fin 128 → ℝ}
  {h : Fin 4} {r : Fin 8192}

/-- The lane of head `h` at its channel `e`. -/
def lane (h : Fin 4) (e : Fin 128) : Fin 512 := ⟨h.val * 128 + e.val, by omega⟩

/-- The same lane of the keys' half of the packed keys and values. -/
def klane (h : Fin 4) (e : Fin 128) : Fin 1024 := ⟨h.val * 128 + e.val, by omega⟩

/-- The same lane of the values' half. -/
def vlane (h : Fin 4) (e : Fin 128) : Fin 1024 := ⟨512 + (h.val * 128 + e.val), by omega⟩

theorem v7_eq (hq : ∀ e, Q (ix2 r (lane h e)) = (q e : EReal)) (hk : ∀ x e, K (ix2 x (klane h e)) = (k x e : EReal)) (x : Fin 256) :
    val_main_v7 (F := Ideal) Q K (ix4 0 h r x) = (score q k x : EReal) := by
  pointwise [val_main_v7, val_main_v6, val_main_cst, val_main_v5, val_main_v2, val_main_v3, val_main_v0]
  rw [ofBits_scale]
  refine (congrArg (· * (scale : EReal)) ((Finset.sum_congr rfl fun e _ => congrArg₂ (· * ·) (hq e) (hk x e)).trans ?_)).trans
    (EReal.coe_mul _ _).symm
  simp only [← EReal.coe_mul, coe_sum]

/-- What the reference takes off a row's scores is a real. -/
theorem v15_real (hq : ∀ e, Q (ix2 r (lane h e)) = (q e : EReal)) (hk : ∀ x e, K (ix2 x (klane h e)) = (k x e : EReal)) :
    ∃ M : ℝ, val_main_v15 (F := Ideal) Q K (ix3 0 h r) = (M : EReal) := by
  have e8 : ∃ M : ℝ, val_main_v8 (F := Ideal) Q K (ix3 0 h r) = (M : EReal) := by
    unfold val_main_v8
    have hs : S1x4x8192x256.Reduces [3] S1x4x8192 := by decide
    have e := Host.reduce_eq_fold_single (FloatOps.maximumf (F := Ideal) (φ := .f32)) (val_main_v7 (F := Ideal) Q K)
      (val_main_cst_0 (F := Ideal)) reducesTo_S1x4x8192x256_S1x4x8192_d3 hs h_S_ (ix3 0 h r)
    rw [e]
    haveI : Nonempty (Fin (S1x4x8192x256.size 3)) := ⟨(0 : Fin 256)⟩
    refine fold_max_coe _ fun x => ⟨score q k x, ?_⟩
    exact (congrArg (val_main_v7 (F := Ideal) Q K) (funext fun a => Fin.ext (by
      match a with
      | ⟨0, _⟩ => rfl
      | ⟨1, _⟩ => rfl
      | ⟨2, _⟩ => rfl
      | ⟨3, _⟩ => rfl))).trans (v7_eq hq hk x)
  obtain ⟨M, hM⟩ := e8
  exact ⟨M, by rw [val_main_v15_apply, hM, val_main_v14_apply, val_main_cst_2_apply]; exact
    (congrArg (max · (M : EReal)) ofBits_neg_inf).trans (max_eq_right bot_le)⟩

/-- The reference's exponentials of a row: those of its scores, one real taken off each. -/
theorem v28_eq (hq : ∀ e, Q (ix2 r (lane h e)) = (q e : EReal)) (hk : ∀ x e, K (ix2 x (klane h e)) = (k x e : EReal)) {M : ℝ}
    (hM : val_main_v15 (F := Ideal) Q K (ix3 0 h r) = (M : EReal)) (x : Fin 256) :
    val_main_v28 (F := Ideal) Q K (ix4 0 h r x) = ((Real.exp (score q k x - M) : ℝ) : EReal) := by
  pointwise [val_main_v28, val_main_v27, val_main_v26, val_main_v25]
  rw [v7_eq hq hk, hM, ← EReal.coe_sub, Ideal.exp_coe]

/-- Their sum. -/
theorem v29_eq (hq : ∀ e, Q (ix2 r (lane h e)) = (q e : EReal)) (hk : ∀ x e, K (ix2 x (klane h e)) = (k x e : EReal)) {M : ℝ}
    (hM : val_main_v15 (F := Ideal) Q K (ix3 0 h r) = (M : EReal)) :
    val_main_v29 (F := Ideal) Q K (ix3 0 h r) = ((∑ x, Real.exp (score q k x - M) : ℝ) : EReal) := by
  pointwise [val_main_v29, val_main_cst_8]
  simp only [v28_eq hq hk hM, coe_sum]

/-- The reference's probabilities of a row are its softmax. -/
theorem v32_eq (hq : ∀ e, Q (ix2 r (lane h e)) = (q e : EReal)) (hk : ∀ x e, K (ix2 x (klane h e)) = (k x e : EReal)) (x : Fin 256) :
    val_main_v32 (F := Ideal) Q K (ix4 0 h r x) = (soft (score q k) x : EReal) := by
  obtain ⟨M, hM⟩ := v15_real hq hk
  pointwise [val_main_v32, val_main_v31, val_main_v30]
  rw [v28_eq hq hk hM, v29_eq hq hk hM, div_coe_coe _ (sum_exp_pos fun x => score q k x - M).ne', soft_shift]

/-- The gradient of a row's probabilities. -/
theorem v43_eq (hd : ∀ e, D (ix2 r (lane h e)) = (d e : EReal)) (hv : ∀ x e, K (ix2 x (vlane h e)) = (v x e : EReal)) (x : Fin 256) :
    val_main_v43 (F := Ideal) K D (ix4 0 h r x) = ((∑ e, d e * v x e : ℝ) : EReal) := by
  pointwise [val_main_v43, val_main_v42, val_main_v41, val_main_v40, val_main_v4, val_main_v1]
  refine (Finset.sum_congr rfl fun e _ => congrArg₂ (· * ·) (hd e) (hv x e)).trans ?_
  simp only [← EReal.coe_mul, coe_sum]

/-- The sum over the two axes of size one leaves each entry as it is. -/
theorem v54_eq : val_main_v54 (F := Ideal) Q K D (ix2 h r) = val_main_v51 (F := Ideal) Q K D (ix4 0 h r 0) := by
  unfold val_main_v54
  generalize val_main_v51 (F := Ideal) Q K D = y
  have e0 : val_main_cst_11 (F := Ideal) (Shape.Idx.first h_S_) = 0 := by pointwise [val_main_cst_11]
  show val_main_cst_11 (F := Ideal) (Shape.Idx.first h_S_) + ∑ i ∈ Finset.univ.filter (fun i => reducesTo_S1x4x8192x1_S4x8192_d0_3.drop i = ix2 h r), y i = _
  rw [e0, zero_add]
  refine Finset.sum_eq_single_of_mem (ix4 0 h r 0) (Finset.mem_filter.2 ⟨Finset.mem_univ _, ?_⟩) fun b hb hne => absurd ?_ hne
  · funext a
    exact Fin.ext (by match a with | ⟨0, _⟩ => rfl | ⟨1, _⟩ => rfl)
  · have hb := (Finset.mem_filter.1 hb).2
    have h0 : (b 1).val = h.val := congrArg Fin.val (congrFun hb 0)
    have h1 : (b 2).val = r.val := congrArg Fin.val (congrFun hb 1)
    have b0 : (b 0).val < 1 := (b 0).isLt
    have b3 : (b 3).val < 1 := (b 3).isLt
    funext a
    exact Fin.ext (by match a with | ⟨0, _⟩ => exact Nat.lt_one_iff.1 b0 | ⟨1, _⟩ => exact h0 | ⟨2, _⟩ => exact h1 | ⟨3, _⟩ => exact Nat.lt_one_iff.1 b3)

/-- The reference's gradient of a row's scores is the kernel's. -/
theorem v60_eq (hq : ∀ e, Q (ix2 r (lane h e)) = (q e : EReal)) (hk : ∀ x e, K (ix2 x (klane h e)) = (k x e : EReal))
    (hd : ∀ e, D (ix2 r (lane h e)) = (d e : EReal)) (hv : ∀ x e, K (ix2 x (vlane h e)) = (v x e : EReal)) (x : Fin 256) :
    val_main_v60 (F := Ideal) Q K D (ix4 0 h r x) = (ds q k v d x : EReal) := by
  obtain ⟨M, hM⟩ := v15_real hq hk
  have hp := sum_exp_pos fun x => score q k x - M
  have e48 : val_main_v49 (F := Ideal) Q K D (ix3 0 h r) = ((∑ y, (∑ e, d e * v y e) * (1 / ((∑ x, Real.exp (score q k x - M)) * (∑ x, Real.exp (score q k x - M)))) * Real.exp (score q k y - M) : ℝ) : EReal) := by
    pointwise [val_main_v49, val_main_cst_10, val_main_v48, val_main_v47, val_main_v46, val_main_v35, val_main_v34, val_main_cst_9, val_main_v33, val_main_v30]
    simp only [v28_eq hq hk hM, v29_eq hq hk hM, v43_eq hd hv, ← EReal.coe_one, ← EReal.coe_mul, div_coe_coe _ (mul_pos hp hp).ne', coe_sum]
  have e51 : val_main_v51 (F := Ideal) Q K D (ix4 0 h r 0) = -val_main_v49 (F := Ideal) Q K D (ix3 0 h r) := by
    unfold val_main_v51 val_main_v50
    show -(shapeCast S1x4x8192x1 (val_main_v49 (F := Ideal) Q K D) shapeCasts_S1x4x8192_S1x4x8192x1 (ix4 0 h r 0)) = _
    generalize val_main_v49 (F := Ideal) Q K D = y
    pointwise []
  pointwise [val_main_v60, val_main_v59, val_main_cst_12, val_main_v58, val_main_v57, val_main_v56, val_main_v55, val_main_v53, val_main_v52, val_main_v30]
  rw [v54_eq, e51, e48, v28_eq hq hk hM, v29_eq hq hk hM, v43_eq hd hv, ofBits_scale, div_coe_coe _ hp.ne', ← EReal.coe_neg,
    ← EReal.coe_add, ← EReal.coe_mul, ← EReal.coe_mul]
  exact congrArg (fun z : ℝ => ((z * scale : ℝ) : EReal)) (dsoft_quotient (score q k) (fun y => ∑ e, d e * v y e) M x)

/-- The three gradients over the row quantities: of the queries … -/
theorem v68_eq (R : Fin 8192) (c : Fin 512) :
    val_main_v68 (F := Ideal) Q K D (ix2 R c)
      = ∑ y, val_main_v60 (F := Ideal) Q K D (ix4 0 ⟨c.val / 128, by omega⟩ R y) * K (ix2 y ⟨c.val, by omega⟩) := by
  pointwise [val_main_v68, val_main_v67, val_main_v64, val_main_v63, val_main_v3, val_main_v0]

/-- … of the keys … -/
theorem v66_eq (x : Fin 256) (c : Fin 512) :
    val_main_v66 (F := Ideal) Q K D (ix2 x c)
      = ∑ R, val_main_v60 (F := Ideal) Q K D (ix4 0 ⟨c.val / 128, by omega⟩ R x) * Q (ix2 R c) := by
  pointwise [val_main_v66, val_main_v62, val_main_v61, val_main_v2]

/-- … and of the values. -/
theorem v65_eq (x : Fin 256) (c : Fin 512) :
    val_main_v65 (F := Ideal) Q K D (ix2 x c)
      = ∑ R, D (ix2 R c) * val_main_v32 (F := Ideal) Q K (ix4 0 ⟨c.val / 128, by omega⟩ R x) := by
  pointwise [val_main_v65, val_main_v45, val_main_v44, val_main_v42, val_main_v41, val_main_v40]

end Reference

end Cert.MemAttn

end
-- ==== Proof.MemAttn.lean ====
module

public import proofs.«01_k».proof.Defs
public import proofs.«01_k».proof.Proof.MemAttnRow
public import proofs.«01_k».proof.Proof.Gen.Pre_mem_attn_finite
public import proofs.«01_k».proof.Proof.Gen.MemAttnBwdIdeal.Frame
public import proofs.«01_k».proof.Proof.Gen.MemAttnBwdRefIdeal.Run
public import Idealize.ShloMosaic.Lib.Claim

/-! The gradient of the memory cross-attention: the kernel's three results over the whole grid are the reference's. -/

@[expose] public section

set_option maxRecDepth 16384

noncomputable section

open Idealize.ShloMosaic Idealize.ShloMosaic.TcCoe Idealize.SL.Sem
open Idealize.ShloMosaic.Pipeline (Dat)

namespace Cert.MemAttnBwdIdeal.Equation

open Cert.MemAttnBwdIdeal Cert.MemAttnBwdIdeal.Gen Cert.Reals Cert.MemAttn

variable (m : (ℓ : Loc nD τ sig) → Buf (Elt Ideal) ℓ)

/-- At point `t` the head is `t / 8` and the tile of query rows `t % 8`; the values lie four blocks after the keys. -/
theorem idx : ∀ t : Fin cfg0.N, win0_0.index t = ![t.val % 8, t.val / 8] ∧ win0_1.index t = ![0, t.val / 8]
    ∧ win0_2.index t = ![0, 4 + t.val / 8] ∧ win0_3.index t = ![t.val % 8, t.val / 8] ∧ win0_4.index t = ![t.val % 8, t.val / 8]
    ∧ win0_5.index t = ![0, t.val / 8] ∧ win0_6.index t = ![0, t.val / 8] :=
  (by decide +kernel : ∀ t : Fin grid0.N, _)

/-- The precondition, read: queries, packed keys and values, and the cotangent are arrays of reals. -/
theorem finite (hpre : Cert.Pre_MemAttnBwdIdeal_mem_attn_finite m) (c : Dev nD) :
    (∃ r : S8192x512.Idx → ℝ, m ((c : Thread nD τ).loc main_arg0) = fun i => (r i : EReal))
    ∧ (∃ r : S256x1024.Idx → ℝ, m ((c : Thread nD τ).loc main_arg1) = fun i => (r i : EReal))
    ∧ (∃ r : S8192x512.Idx → ℝ, m ((c : Thread nD τ).loc main_arg2) = fun i => (r i : EReal)) := by
  have h := congrFun (hpre c) ix0
  dsimp only [Cert.Pre_mem_attn_finite.fn] at h
  obtain ⟨h, h2⟩ := andi_one h
  obtain ⟨h0, h1⟩ := andi_one h
  exact ⟨finite_of_all _ _ _ _ _ _ _ h0, finite_of_all _ _ _ _ _ _ _ h1, finite_of_all _ _ _ _ _ _ _ h2⟩

section

variable {m} {c : Dev nD} {Q D : S8192x512.Idx → ℝ} {K : S256x1024.Idx → ℝ}
  (hQ : m ((c : Thread nD τ).loc main_arg0) = fun i => (Q i : EReal))
  (hK : m ((c : Thread nD τ).loc main_arg1) = fun i => (K i : EReal))
  (hD : m ((c : Thread nD τ).loc main_arg2) = fun i => (D i : EReal))

include hQ hK hD

/-- The point's probabilities are the reference's, at the point's head and rows. -/
theorem p_point (t : Fin cfg0.N) (a : Fin 1024) (x : Fin 256) (h : Fin 4) (R : Fin 8192) (hh : h.val = t.val / 8)
    (hR : R.val = t.val % 8 * 1024 + a.val) :
    k0_pay7 (F := Ideal) (iblk m c 0 t) (iblk m c 1 t) (ix2 a x)
      = Cert.MemAttnBwdRefIdeal.Read.val_main_v32 (F := Ideal) (m ((c : Thread nD τ).loc main_arg0)) (m ((c : Thread nD τ).loc main_arg1)) (ix4 0 h R x) := by
  rw [v32_eq (q := fun e => Q (ix2 R (lane h e))) (k := fun x e => K (ix2 x (klane h e))) (fun e => by rw [hQ]) (fun x e => by rw [hK])]
  refine pay7_eq (fun e => ?_) (fun x e => ?_) x
  · rw [← congrFun hQ]; unfold lane; blk_point [iblk, V, idx t]
  · rw [← congrFun hK]; unfold klane; blk_point [iblk, V, idx t]

/-- So is its gradient of the scores. -/
theorem ds_point (t : Fin cfg0.N) (a : Fin 1024) (x : Fin 256) (h : Fin 4) (R : Fin 8192) (hh : h.val = t.val / 8)
    (hR : R.val = t.val % 8 * 1024 + a.val) :
    k0_pay8 (F := Ideal) (iblk m c 2 t) (iblk m c 3 t) (iblk m c 0 t) (iblk m c 1 t) (ix2 a x)
      = Cert.MemAttnBwdRefIdeal.Read.val_main_v60 (F := Ideal) (m ((c : Thread nD τ).loc main_arg0)) (m ((c : Thread nD τ).loc main_arg1))
          (m ((c : Thread nD τ).loc main_arg2)) (ix4 0 h R x) := by
  rw [v60_eq (q := fun e => Q (ix2 R (lane h e))) (k := fun x e => K (ix2 x (klane h e))) (d := fun e => D (ix2 R (lane h e)))
    (v := fun x e => K (ix2 x (vlane h e))) (fun e => by rw [hQ]) (fun x e => by rw [hK]) (fun e => by rw [hD]) (fun x e => by rw [hK])]
  refine pay8_eq (fun e => ?_) (fun x e => ?_) (fun x e => ?_) (fun e => ?_) x
  · rw [← congrFun hQ]; unfold lane; blk_point [iblk, V, idx t]
  · rw [← congrFun hK]; unfold klane; blk_point [iblk, V, idx t]
  · rw [← congrFun hK]; unfold vlane; blk_point [iblk, V, idx t]
  · rw [← congrFun hD]; unfold lane; blk_point [iblk, V, idx t]

/-- The block of query gradients a point stores is the reference's. -/
theorem dq_point (t : Fin cfg0.N) (a : Fin 1024) (b : Fin 128) (R : Fin 8192) (C : Fin 512)
    (hR : R.val = t.val % 8 * 1024 + a.val) (hC : C.val = t.val / 8 * 128 + b.val) :
    k0_pay9 (F := Ideal) (iblk m c 1 t) (iblk m c 2 t) (iblk m c 3 t) (iblk m c 0 t) (iblk m c 1 t) (ix2 a b)
      = Cert.MemAttnBwdRefIdeal.Read.val_main_v68 (F := Ideal) (m ((c : Thread nD τ).loc main_arg0)) (m ((c : Thread nD τ).loc main_arg1))
          (m ((c : Thread nD τ).loc main_arg2)) (ix2 R C) := by
  have ht : t.val < 32 := lt_of_lt_of_eq t.isLt N_0
  rw [v68_eq]
  refine (pay9_eq (r := a) (Q := iblk m c 0 t) (K := iblk m c 1 t) (V := iblk m c 2 t) (D := iblk m c 3 t) b).trans
    (Finset.sum_congr rfl fun x _ => congrArg₂ (· * ·)
      (ds_point hQ hK hD t a x ⟨C.val / 128, by omega⟩ R (by show C.val / 128 = _; omega) hR) ?_)
  blk_point [iblk, V, idx t]

/-- The first result: the gradient of the queries. -/
theorem final4 : (dats m 0 c).arrAt 4 cfg0.N
    = Cert.MemAttnBwdRefIdeal.Read.val_main_v68 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  have ht : t.val < 32 := lt_of_lt_of_eq t.isLt N_0
  blk_simp
  rw [after0_4]
  idx_vars y
  have e : ((View.whole main_v0_0).slice (win0_4.rect t)).emb (ix2 y0 y1)
      = ix2 (⟨t.val % 8 * 1024 + y0.val, by omega⟩ : Fin 8192) (⟨t.val / 8 * 128 + y1.val, by omega⟩ : Fin 512) := by
    blk_ext [idx t]
  have p := dq_point hQ hK hD t y0 y1 ⟨t.val % 8 * 1024 + y0.val, by omega⟩ ⟨t.val / 8 * 128 + y1.val, by omega⟩ rfl rfl
  rw [← e] at p
  by_cases h0 : t.val % 8 = 0
  · rw [outsAt0_A m c t h0]; frame_out; exact p
  · rw [outsAt0_B m c t h0]; frame_out; exact p

/-- The second result: the gradient of the keys, the eight tiles of query rows summed. -/
theorem final5 : (dats m 0 c).arrAt 5 cfg0.N
    = Cert.MemAttnBwdRefIdeal.Read.val_main_v66 (F := Ideal) (m ((c : Thread nD τ).loc main_arg0)) (m ((c : Thread nD τ).loc main_arg1))
        (m ((c : Thread nD τ).loc main_arg2)) := by
  refine (dats m 0 c).arrAt_eq_of_covers 5 _ (by decide +kernel) fun t hf y => ?_
  have ht : t.val < 32 := lt_of_lt_of_eq t.isLt N_0
  blk_simp
  have hz : ∀ i, k0_pay1 (F := Ideal) i = 0 := pay1_eq
  have hpay : ∀ (Q' : FVec Ideal S1024x128 .f32) (P : FVec Ideal S1024x256 .bf16) (A : FVec Ideal S256x128 .f32) (j : S256x128.Idx),
      k0_pay3 (F := Ideal) (k0_pay5 (F := Ideal) Q') P A j = A j + ∑ r : Fin 1024, P (ix2 r (j 0)) * Q' (ix2 r (j 1)) := by
    intro Q' P A j; idx_vars j; exact pay3_eq P A j0 j1
  rw [after0_5, Pipeline.eq_sum_fin_of_reset_step_apply_of_flush (fun n h => (outsAt0 m c n h).2.1) 8 (fun _ => 0) _
    (fun t h j => by rw [outsAt0_A m c t h]; frame_out; rw [hpay, hz])
    (fun t h j => by rw [outsAt0_B m c t h]; frame_out; rw [hpay])
    t ((flush0_5 t).mp hf) _, zero_add]
  idx_vars y
  have e : ((View.whole main_v0_1).slice (win0_5.rect t)).emb (ix2 y0 y1) = ix2 y0 (⟨t.val / 8 * 128 + y1.val, by omega⟩ : Fin 512) := by
    blk_ext [idx t]
  rw [e, v66_eq]
  refine Fin.sum_mul_add_congr fun s a hl => ?_
  have hs := Pipeline.run_point_lt_of_flush t ((flush0_5 t).mp hf) s
  refine congrArg₂ (· * ·) (ds_point hQ hK hD ⟨_, hs⟩ a y0 _ _ ?_ ?_) ?_
  · show (t.val / 8 * 128 + y1.val) / 128 = (8 * (t.val / 8) + s.val) / 8; omega
  · show s.val * 1024 + a.val = (8 * (t.val / 8) + s.val) % 8 * 1024 + a.val; omega
  · blk_point [iblk, V, idx t, idx ⟨_, hs⟩]

/-- The third result: the gradient of the values. -/
theorem final6 : (dats m 0 c).arrAt 6 cfg0.N
    = Cert.MemAttnBwdRefIdeal.Read.val_main_v65 (F := Ideal) (m ((c : Thread nD τ).loc main_arg0)) (m ((c : Thread nD τ).loc main_arg1))
        (m ((c : Thread nD τ).loc main_arg2)) := by
  refine (dats m 0 c).arrAt_eq_of_covers 6 _ (by decide +kernel) fun t hf y => ?_
  have ht : t.val < 32 := lt_of_lt_of_eq t.isLt N_0
  blk_simp
  have hz : ∀ i, k0_pay2 (F := Ideal) i = 0 := pay2_eq
  have hpay : ∀ (D' : FVec Ideal S1024x128 .f32) (P : FVec Ideal S1024x256 .f32) (A : FVec Ideal S256x128 .f32) (j : S256x128.Idx),
      k0_pay4 (F := Ideal) (k0_pay6 (F := Ideal) D') P A j = A j + ∑ r : Fin 1024, P (ix2 r (j 0)) * D' (ix2 r (j 1)) := by
    intro D' P A j; idx_vars j; exact pay4_eq P A j0 j1
  rw [after0_6, Pipeline.eq_sum_fin_of_reset_step_apply_of_flush (fun n h => (outsAt0 m c n h).2.2) 8 (fun _ => 0) _
    (fun t h j => by rw [outsAt0_A m c t h]; frame_out; rw [hpay, hz])
    (fun t h j => by rw [outsAt0_B m c t h]; frame_out; rw [hpay])
    t ((flush0_6 t).mp hf) _, zero_add]
  idx_vars y
  have e : ((View.whole main_v0_2).slice (win0_6.rect t)).emb (ix2 y0 y1) = ix2 y0 (⟨t.val / 8 * 128 + y1.val, by omega⟩ : Fin 512) := by
    blk_ext [idx t]
  rw [e, v65_eq]
  refine Fin.sum_mul_add_congr fun s a hl => ?_
  have hs := Pipeline.run_point_lt_of_flush t ((flush0_6 t).mp hf) s
  rw [mul_comm]
  refine congrArg₂ (· * ·) ?_ (p_point hQ hK hD ⟨_, hs⟩ a y0 _ _ ?_ ?_)
  · blk_point [iblk, V, idx t, idx ⟨_, hs⟩]
  · show (t.val / 8 * 128 + y1.val) / 128 = (8 * (t.val / 8) + s.val) / 8; omega
  · show s.val * 1024 + a.val = (8 * (t.val / 8) + s.val) % 8 * 1024 + a.val; omega

end

/-- The kernel's three results are the three gradients of the reference's cross-attention. -/
theorem algebraic : Cert.algebraic_MemAttnBwdIdeal_MemAttnBwdRefIdeal_pre_mem_attn_finite := by
  pair_intro
  · run_from Cert.MemAttnBwdIdeal.Gen.run_main m g
  · run_from Cert.MemAttnBwdRefIdeal.Value.run m' g'
    · obtain ⟨⟨Q, hQ⟩, ⟨K, hK⟩, ⟨D, hD⟩⟩ := finite m hpre c
      rw [final4 hQ hK hD]
      refine (Cert.MemAttnBwdRefIdeal.Read.val_main_v68_eq m' c).trans ?_
      rw [(hagree c).1, (hagree c).2.1, (hagree c).2.2]
    · obtain ⟨⟨Q, hQ⟩, ⟨K, hK⟩, ⟨D, hD⟩⟩ := finite m hpre c
      rw [final5 hQ hK hD]
      refine (Cert.MemAttnBwdRefIdeal.Read.val_main_v66_eq m' c).trans ?_
      rw [(hagree c).1, (hagree c).2.1, (hagree c).2.2]
    · obtain ⟨⟨Q, hQ⟩, ⟨K, hK⟩, ⟨D, hD⟩⟩ := finite m hpre c
      rw [final6 hQ hK hD]
      exact Cert.MemAttnBwdRefIdeal.Read.val_main_v65_eq _ _ _

end Cert.MemAttnBwdIdeal.Equation
-- ==== Proof.MemAttnFwd.lean ====
module

public import proofs.«01_k».proof.Defs
public import proofs.«01_k».proof.Proof.Softmax
public import proofs.«01_k».proof.Proof.Gen.MemAttnFwdIdeal.Frame
public import proofs.«01_k».proof.Proof.Gen.MemAttnFwdRefIdeal.Read
public import Idealize.ShloMosaic.Lib.Pipeline.ValueKit
public import Idealize.ShloMosaic.Lib.Pointwise

/-! The memory cross-attention, for all extended reals: both sides take the row's largest score off the scores, exponentiate, divide by the sum
and weigh the values. -/

@[expose] public section

set_option maxRecDepth 16384

noncomputable section

open Idealize.ShloMosaic Idealize.ShloMosaic.TcCoe Idealize.SL.Sem
open Idealize.ShloMosaic.Pipeline (Dat)

namespace Cert.MemAttnFwdIdeal.Equation

open Cert.MemAttnFwdIdeal Cert.MemAttnFwdIdeal.Gen Cert.Reals

/-- The largest of a row's scores. -/
def top (s : Fin 256 → EReal) : EReal := Finset.univ.fold max (Ideal.ofBits .f32 0xFF800000#32) s

/-- A query row's scores. -/
def score (q : Fin 128 → EReal) (k : Fin 256 → Fin 128 → EReal) (x : Fin 256) : EReal := (∑ e, q e * k x e) * Ideal.ofBits .f32 0x3DB504F3#32

/-- A row's weights over the memory tokens. -/
def weight (s : Fin 256 → EReal) (x : Fin 256) : EReal := Ideal.div (Ideal.exp (s x - top s)) (∑ y, Ideal.exp (s y - top s))

/-- A row of one head's output. -/
def row (q : Fin 128 → EReal) (k v : Fin 256 → Fin 128 → EReal) (e : Fin 128) : EReal := ∑ x, weight (score q k) x * v x e

theorem pay1_eq (Q : FVec Ideal S1024x128 .f32) (K V : FVec Ideal S256x128 .f32) (a : Fin 1024) (e : Fin 128) :
    k0_pay1 (F := Ideal) Q K V (ix2 a e) = row (fun e => Q (ix2 a e)) (fun x e => K (ix2 x e)) (fun x e => V (ix2 x e)) e := by
  unfold row weight top score
  pointwise [k0_pay1]

section Reference

open Cert.MemAttnFwdRefIdeal Cert.MemAttnFwdRefIdeal.Gen Cert.MemAttnFwdRefIdeal.Read

variable (Q : FVec Ideal S8192x512 .f32) (K : FVec Ideal S256x1024 .f32) (h : Fin 4) (r : Fin 8192)

/-- The lane of head `h` at its channel `e`. -/
def lane (h : Fin 4) (e : Fin 128) : Fin 512 := ⟨h.val * 128 + e.val, by omega⟩

/-- The same lane of the keys' half of the packed keys and values. -/
def klane (h : Fin 4) (e : Fin 128) : Fin 1024 := ⟨h.val * 128 + e.val, by omega⟩

/-- The same lane of the values' half. -/
def vlane (h : Fin 4) (e : Fin 128) : Fin 1024 := ⟨512 + (h.val * 128 + e.val), by omega⟩

/-- A row's scores. -/
abbrev sc : Fin 256 → EReal := score (fun e => Q (ix2 r (lane h e))) (fun x e => K (ix2 x (klane h e)))

theorem v7_eq (x : Fin 256) : val_main_v7 (F := Ideal) Q K (ix4 0 h r x) = sc Q K h r x := by
  unfold sc score lane klane
  pointwise [val_main_v7, val_main_v6, val_main_cst, val_main_v5, val_main_v2, val_main_v3, val_main_v0]

theorem v10_eq : val_main_v10 (F := Ideal) Q K (ix3 0 h r) = top (sc Q K h r) := by
  have e8 : val_main_v8 (F := Ideal) Q K (ix3 0 h r) = top (sc Q K h r) := by
    unfold val_main_v8
    have hs : S1x4x8192x256.Reduces [3] S1x4x8192 := by decide
    have e := Host.reduce_eq_fold_single (FloatOps.maximumf (F := Ideal) (φ := .f32)) (val_main_v7 (F := Ideal) Q K)
      (val_main_cst_0 (F := Ideal)) reducesTo_S1x4x8192x256_S1x4x8192_d3 hs h_S_ (ix3 0 h r)
    rw [e]
    refine Finset.fold_congr (op := max) fun x _ => ?_
    exact (congrArg (val_main_v7 (F := Ideal) Q K) (funext fun a => Fin.ext (by
      match a with
      | ⟨0, _⟩ => rfl
      | ⟨1, _⟩ => rfl
      | ⟨2, _⟩ => rfl
      | ⟨3, _⟩ => rfl))).trans (v7_eq Q K h r x)
  rw [val_main_v10_apply, e8, val_main_v9_apply, val_main_cst_1_apply]
  exact (congrArg (max · _) ofBits_neg_inf).trans (max_eq_right bot_le)

theorem v14_eq (x : Fin 256) : val_main_v14 (F := Ideal) Q K (ix4 0 h r x) = Ideal.exp (sc Q K h r x - top (sc Q K h r)) := by
  pointwise [val_main_v14, val_main_v13, val_main_v12, val_main_v11]
  rw [v7_eq, v10_eq]

theorem v18_eq (x : Fin 256) : val_main_v18 (F := Ideal) Q K (ix4 0 h r x) = weight (sc Q K h r) x := by
  unfold weight
  pointwise [val_main_v18, val_main_v17, val_main_v16, val_main_v15, val_main_cst_2]
  simp only [v14_eq]

theorem v22_eq (C : Fin 512) : val_main_v22 (F := Ideal) Q K (ix2 r C)
    = ∑ x, val_main_v18 (F := Ideal) Q K (ix4 0 ⟨C.val / 128, by omega⟩ r x) * K (ix2 x ⟨512 + C.val, by omega⟩) := by
  pointwise [val_main_v22, val_main_v21, val_main_v20, val_main_v19, val_main_v4, val_main_v1]
  exact Finset.sum_congr rfl fun x _ => mul_comm _ _

end Reference

variable (m : (ℓ : Loc nD τ sig) → Buf (Elt Ideal) ℓ)

/-- At point `t` the tile of query rows is `t / 4` and the head `t % 4`; the values lie four blocks after the keys. -/
theorem idx : ∀ t : Fin cfg0.N, win0_0.index t = ![t.val / 4, t.val % 4] ∧ win0_1.index t = ![0, t.val % 4]
    ∧ win0_2.index t = ![0, 4 + t.val % 4] ∧ win0_3.index t = ![t.val / 4, t.val % 4] :=
  (by decide +kernel : ∀ t : Fin grid0.N, _)

/-- The call's result is the reference's cross-attention. -/
theorem final3 (c : Dev nD) : (dats m 0 c).arrAt 3 cfg0.N
    = Cert.MemAttnFwdRefIdeal.Read.val_main_v22 (F := Ideal) (m ((c : Thread nD τ).loc main_arg0)) (m ((c : Thread nD τ).loc main_arg1)) := by
  refine (dats m 0 c).arrAt_eq_of_covers 3 _ (by decide +kernel) fun t _ y => ?_
  have ht : t.val < 32 := lt_of_lt_of_eq t.isLt N_0
  blk_simp
  rw [after0_3]
  frame_out
  idx_vars y
  have e : ((View.whole main_v0).slice (win0_3.rect t)).emb (ix2 y0 y1)
      = ix2 (⟨t.val / 4 * 1024 + y0.val, by omega⟩ : Fin 8192) (⟨t.val % 4 * 128 + y1.val, by omega⟩ : Fin 512) := by
    blk_ext [idx t]
  have hd : (t.val % 4 * 128 + y1.val) / 128 = t.val % 4 := by omega
  have hh : (⟨(t.val % 4 * 128 + y1.val) / 128, by omega⟩ : Fin 4) = ⟨t.val % 4, by omega⟩ := Fin.ext hd
  have b0 : ∀ k : Fin 128, iblk m c 0 t (ix2 y0 k)
      = m ((c : Thread nD τ).loc main_arg0) (ix2 (⟨t.val / 4 * 1024 + y0.val, by omega⟩ : Fin 8192) (lane ⟨t.val % 4, by omega⟩ k)) :=
    fun k => by unfold lane; blk_point [iblk, V, idx t]
  have b1 : ∀ (x : Fin 256) (k : Fin 128), iblk m c 1 t (ix2 x k) = m ((c : Thread nD τ).loc main_arg1) (ix2 x (klane ⟨t.val % 4, by omega⟩ k)) :=
    fun x k => by unfold klane; blk_point [iblk, V, idx t]
  have b2 : ∀ (x : Fin 256), iblk m c 2 t (ix2 x y1) = m ((c : Thread nD τ).loc main_arg1) (ix2 x (⟨512 + (t.val % 4 * 128 + y1.val), by omega⟩ : Fin 1024)) :=
    fun x => by blk_point [iblk, V, idx t]
  rw [e, pay1_eq, v22_eq]
  unfold row
  simp only [v18_eq, hh, b0, b1, b2]

/-- The kernel's result is the reference's cross-attention. -/
theorem algebraic : Cert.algebraic_MemAttnFwdIdeal_MemAttnFwdRefIdeal := by
  pair_intro
  · run_from Cert.MemAttnFwdIdeal.Gen.run_main m g
  · run_from Cert.MemAttnFwdRefIdeal.Value.run m' g'
    obtain ⟨a0, a1⟩ := hagree c
    rw [final3, ← a0, ← a1]
    exact Cert.MemAttnFwdRefIdeal.Read.val_main_v22_eq _ _

end Cert.MemAttnFwdIdeal.Equation
end
-- ==== Proof.GluRow.lean ====
module

public import proofs.«01_k».proof.Proof.Reals
public import proofs.«01_k».proof.Proof.Gen.GluBwdIdeal.Skeleton
public import proofs.«01_k».proof.Proof.Gen.GluBwdRefIdeal.Read
public import Idealize.ShloMosaic.Lib.Pipeline.ValueKit
public import Idealize.ShloMosaic.Lib.Pointwise

/-! One row of the gated linear unit's gradient: the kernel's stored values and the reference's intermediate arrays are
the same real numbers. -/

@[expose] public section

set_option maxRecDepth 16384

noncomputable section

open Idealize.ShloMosaic Idealize.ShloMosaic.TcCoe

namespace Cert.Glu

open Cert.Reals

/-- What the word of `√(2/π)` denotes. -/
def root : ℝ := 13386282 * 2 ^ (-24 : ℤ)

/-- The activation's cubic coefficient. -/
def cubic : ℝ := 8943 / 200000

/-- The hyperbolic tangent inside the activation. -/
def bend (y : ℝ) : ℝ := Real.tanh (root * (y + cubic * (y * y * y)))

/-- The activation. -/
def gelu (y : ℝ) : ℝ := y * (1 / 2 * (1 + bend y))

/-- Its derivative. -/
def dgelu (y : ℝ) : ℝ :=
  1 / 2 * (1 + bend y) + root * (1 / 2 * y * ((1 + bend y) * (1 - bend y))) * (1 + 3 * cubic * (y * y))

/-- The logistic function. -/
def sig (z : ℝ) : ℝ := 1 / (1 + Real.exp (-z))

/-- A row's gate, of its activations `y`. -/
def gate (w : Fin 512 → Fin 512 → ℝ) (b y : Fin 512 → ℝ) (j : Fin 512) : ℝ := sig (∑ k, y k * w k j + b j)

/-- The gradient of a row's gate logits. -/
def dlogit (w : Fin 512 → Fin 512 → ℝ) (b y g : Fin 512 → ℝ) (j : Fin 512) : ℝ :=
  y j * g j * (gate w b y j * (1 - gate w b y j))

/-- The gradient of a row's activations. -/
def dact (w : Fin 512 → Fin 512 → ℝ) (b y g : Fin 512 → ℝ) (j : Fin 512) : ℝ :=
  g j * gate w b y j + ∑ k, dlogit w b y g k * w j k

theorem one_add_exp_ne (z : ℝ) : 1 + Real.exp z ≠ 0 := by positivity

/-- The kernel's form of the logistic function. -/
theorem half_tanh (z : ℝ) : 1 / 2 * Real.tanh (1 / 2 * z) + 1 / 2 = sig z := by
  unfold sig
  have e : Real.exp (-z) = Real.exp (-(1 / 2 * z)) * Real.exp (-(1 / 2 * z)) := by rw [← Real.exp_add]; congr 1; ring
  have h := Real.exp_pos (1 / 2 * z)
  rw [Real.tanh_eq_sinh_div_cosh, Real.sinh_eq, Real.cosh_eq, e, Real.exp_neg]
  field_simp
  ring

theorem ofBits_half : Ideal.ofBits .f32 0x3F000000#32 = ((1 / 2 : ℝ) : EReal) := by
  simp [Ideal.ofBits, Ideal.ieee]; rw [← EReal.coe_mul]; norm_num

theorem ofBits_three : Ideal.ofBits .f32 0x40400000#32 = ((3 : ℝ) : EReal) := by
  simp [Ideal.ofBits, Ideal.ieee]; rw [← EReal.coe_mul]; norm_num

theorem ofBits_44715 : Ideal.ofBits .f32 0x472EAB00#32 = ((44715 : ℝ) : EReal) := by
  simp [Ideal.ofBits, Ideal.ieee]; rw [← EReal.coe_mul]; norm_num

theorem ofBits_million : Ideal.ofBits .f32 0x49742400#32 = ((1000000 : ℝ) : EReal) := by
  simp [Ideal.ofBits, Ideal.ieee]; rw [← EReal.coe_mul]; norm_num

theorem ofBits_root : Ideal.ofBits .f32 0x3F4C422A#32 = (root : EReal) := by
  simp [Ideal.ofBits, Ideal.ieee, root]

/-- The reference's quotient is the coefficient. -/
theorem quotient_cubic : Ideal.div (Ideal.ofBits .f32 0x472EAB00#32) (Ideal.ofBits .f32 0x49742400#32) = (cubic : EReal) := by
  rw [ofBits_44715, ofBits_million, div_coe_coe _ (by norm_num)]; unfold cubic; norm_num

section Kernel

open Cert.GluBwdIdeal Cert.GluBwdIdeal.Gen

theorem named_cubic (w : BitVec 32) : Named.named (F := Ideal) κ "cubic" (φ := .f32) w = (cubic : EReal) :=
  IdealRules.named_const.ideal_named_scalar _ _ _ _ rfl

theorem named_three_cubic (w : BitVec 32) : Named.named (F := Ideal) κ "three_cubic" (φ := .f32) w = ((3 * cubic : ℝ) : EReal) := by
  refine (IdealRules.named_const.ideal_named_scalar _ _ _ ((26829 / 200000 : ℝ) : EReal) rfl).trans ?_
  unfold cubic; norm_num

variable {G S U : FVec Ideal S512x512 .f32} {D B : FVec Ideal S1x512 .f32} {W : FVec Ideal S512x512 .bf16}
  {g s u d b : Fin 512 → ℝ} {w : Fin 512 → Fin 512 → ℝ} {r : Fin 512}

theorem pay5_eq (hs : ∀ e, S (ix2 r e) = (s e : EReal)) (hd : ∀ e, D (ix2 0 e) = (d e : EReal)) (hu : ∀ e, U (ix2 r e) = (u e : EReal))
    (e : Fin 512) : k0_pay5 (F := Ideal) S D U (ix2 r e) = ((s e + d e * u e : ℝ) : EReal) := by
  pointwise [k0_pay5]
  rw [hs, hd, hu, ← EReal.coe_mul, ← EReal.coe_add]

theorem pay6_eq {p : Fin 512 → ℝ} (hp : ∀ e, k0_pay5 (F := Ideal) S D U (ix2 r e) = (p e : EReal)) (e : Fin 512) :
    k0_pay6 (F := Ideal) S D U (ix2 r e) = (gelu (p e) : EReal) := by
  pointwise [k0_pay6]
  simp only [hp, named_cubic, ofBits_half, ofBits_root, ← EReal.coe_mul, ← EReal.coe_add, ← EReal.coe_one, Ideal.tanh_coe]
  congr 1
  unfold gelu bend
  ring_nf

theorem pay7_eq {y : Fin 512 → ℝ} (hy : ∀ e, k0_pay6 (F := Ideal) S D U (ix2 r e) = (y e : EReal))
    (hw : ∀ k e, W (ix2 k e) = (w k e : EReal)) (hb : ∀ e, B (ix2 0 e) = (b e : EReal)) (e : Fin 512) :
    k0_pay7 (F := Ideal) S D U W B (ix2 r e) = (gate w b y e : EReal) := by
  pointwise [k0_pay7]
  simp only [hy, hw, hb, ofBits_half, ← EReal.coe_mul, coe_sum, ← EReal.coe_add, Ideal.tanh_coe]
  rw [half_tanh]
  rfl

theorem pay10_eq {y : Fin 512 → ℝ} (hy : ∀ e, k0_pay6 (F := Ideal) S D U (ix2 r e) = (y e : EReal))
    (hw : ∀ k e, W (ix2 k e) = (w k e : EReal)) (hb : ∀ e, B (ix2 0 e) = (b e : EReal)) (hg : ∀ e, G (ix2 r e) = (g e : EReal)) (e : Fin 512) :
    k0_pay10 (F := Ideal) (k0_pay8 (F := Ideal) S D U W B G) (k0_pay9 (F := Ideal) S D U W B) (ix2 r e) = (dlogit w b y g e : EReal) := by
  pointwise [k0_pay10, k0_pay9, k0_pay8]
  simp only [pay7_eq hy hw hb, hy, hg, ← EReal.coe_mul, ← EReal.coe_one, ← EReal.coe_sub]
  congr 1
  unfold dlogit
  ring

theorem pay11_eq {p y : Fin 512 → ℝ} (hp : ∀ e, k0_pay5 (F := Ideal) S D U (ix2 r e) = (p e : EReal))
    (hy : ∀ e, k0_pay6 (F := Ideal) S D U (ix2 r e) = (y e : EReal))
    (hw : ∀ k e, W (ix2 k e) = (w k e : EReal)) (hb : ∀ e, B (ix2 0 e) = (b e : EReal)) (hg : ∀ e, G (ix2 r e) = (g e : EReal)) (e : Fin 512) :
    k0_pay11 (F := Ideal) (k0_pay5 (F := Ideal) S D U) (k0_pay7 (F := Ideal) S D U W B) G (k0_pay8 (F := Ideal) S D U W B G)
      (k0_pay9 (F := Ideal) S D U W B) W (ix2 r e) = ((dact w b y g e * dgelu (p e) : ℝ) : EReal) := by
  pointwise [k0_pay11]
  simp only [pay10_eq hy hw hb hg, pay7_eq hy hw hb, hp, hg, hw, named_cubic, named_three_cubic, ofBits_half, ofBits_root,
    ← EReal.coe_mul, coe_sum, ← EReal.coe_add, ← EReal.coe_one, ← EReal.coe_sub, Ideal.tanh_coe]
  congr 1
  unfold dact dgelu bend
  ring_nf

/-- The bias gradient's accumulator gains the tile's column sums. -/
theorem pay3_eq (T : FVec Ideal S512x512 .f32) (A : FVec Ideal S1x512 .f32) (z : Fin 1) (e : Fin 512) :
    k0_pay3 (F := Ideal) T A (ix2 z e) = A (ix2 z e) + ∑ r : Fin 512, T (ix2 r e) := by
  pointwise [k0_pay3]

/-- The skip gain's accumulator gains the tile's column sums of gradient times input. -/
theorem pay4_eq (T U : FVec Ideal S512x512 .f32) (A : FVec Ideal S1x512 .f32) (z : Fin 1) (e : Fin 512) :
    k0_pay4 (F := Ideal) T A U (ix2 z e) = A (ix2 z e) + ∑ r : Fin 512, T (ix2 r e) * U (ix2 r e) := by
  pointwise [k0_pay4]

theorem pay1_eq (i : S1x512.Idx) : k0_pay1 (F := Ideal) i = 0 := by
  idx_vars i; pointwise [k0_pay1]

theorem pay2_eq (i : S1x512.Idx) : k0_pay2 (F := Ideal) i = 0 := by
  idx_vars i; pointwise [k0_pay2]

end Kernel

section Reference

open Cert.GluBwdRefIdeal Cert.GluBwdRefIdeal.Read

variable {G S U : FVec Ideal S8192x512 .f32} {D B : FVec Ideal S1x512 .f32} {W : FVec Ideal S512x512 .f32}
  {g s u d b : Fin 512 → ℝ} {w : Fin 512 → Fin 512 → ℝ} {r : Fin 8192}

theorem v4_eq (hs : ∀ e, S (ix2 r e) = (s e : EReal)) (hd : ∀ e, D (ix2 0 e) = (d e : EReal)) (hu : ∀ e, U (ix2 r e) = (u e : EReal))
    (e : Fin 512) : val_main_v4 (F := Ideal) S U D (ix2 r e) = ((s e + d e * u e : ℝ) : EReal) := by
  pointwise [val_main_v4, val_main_v3, val_main_v2, val_main_v1, val_main_v0]
  rw [hs, hd, hu, ← EReal.coe_mul, ← EReal.coe_add]

theorem v24_eq (hs : ∀ e, S (ix2 r e) = (s e : EReal)) (hd : ∀ e, D (ix2 0 e) = (d e : EReal)) (hu : ∀ e, U (ix2 r e) = (u e : EReal))
    (e : Fin 512) : val_main_v24 (F := Ideal) S U D (ix2 r e) = ((s e + d e * u e : ℝ) : EReal) := by
  pointwise [val_main_v24, val_main_v23, val_main_v22, val_main_v21, val_main_v20]
  rw [hs, hd, hu, ← EReal.coe_mul, ← EReal.coe_add]

theorem v8_eq (i : S_.Idx) : val_main_v8 (F := Ideal) i = (cubic : EReal) := quotient_cubic

theorem v31_eq (i : S_.Idx) : val_main_v31 (F := Ideal) i = (cubic : EReal) := quotient_cubic

theorem v19_eq {p : Fin 512 → ℝ} (hp : ∀ e, val_main_v4 (F := Ideal) S U D (ix2 r e) = (p e : EReal)) (e : Fin 512) :
    val_main_v19 (F := Ideal) S U D (ix2 r e) = (gelu (p e) : EReal) := by
  pointwise [val_main_v19, val_main_v18, val_main_v17, val_main_v16, val_main_v15, val_main_v14, val_main_v13, val_main_v12, val_main_v11,
    val_main_v10, val_main_v9, val_main_v7, val_main_v6, val_main_cst_1, val_main_cst_2, val_main_cst_3]
  simp only [hp, v8_eq, ofBits_half, ofBits_root, ← EReal.coe_mul, ← EReal.coe_add, ← EReal.coe_one, Ideal.tanh_coe]
  rfl

theorem v37_eq {p : Fin 512 → ℝ} (hp : ∀ e, val_main_v24 (F := Ideal) S U D (ix2 r e) = (p e : EReal)) (e : Fin 512) :
    val_main_v37 (F := Ideal) S U D (ix2 r e) = (bend (p e) : EReal) := by
  pointwise [val_main_v37, val_main_v36, val_main_v35, val_main_v34, val_main_v33, val_main_v32, val_main_v27, val_main_v26, val_main_cst_7]
  simp only [hp, v31_eq, ofBits_root, ← EReal.coe_mul, ← EReal.coe_add, Ideal.tanh_coe]
  rfl

theorem v46_eq {p : Fin 512 → ℝ} (hp : ∀ e, val_main_v24 (F := Ideal) S U D (ix2 r e) = (p e : EReal)) (e : Fin 512) :
    val_main_v46 (F := Ideal) S U D (ix2 r e) = ((1 / 2 * (1 + bend (p e)) : ℝ) : EReal) := by
  pointwise [val_main_v46, val_main_v45, val_main_v44, val_main_v43, val_main_cst_10, val_main_cst_11]
  simp only [v37_eq hp, ofBits_half, ← EReal.coe_mul, ← EReal.coe_add, ← EReal.coe_one]

theorem v47_eq {p : Fin 512 → ℝ} (hp : ∀ e, val_main_v24 (F := Ideal) S U D (ix2 r e) = (p e : EReal)) (e : Fin 512) :
    val_main_v47 (F := Ideal) S U D (ix2 r e) = (gelu (p e) : EReal) := by
  pointwise [val_main_v47]
  rw [v46_eq hp, hp, ← EReal.coe_mul]; rfl

theorem v58_eq {y : Fin 512 → ℝ} (hy : ∀ e, val_main_v47 (F := Ideal) S U D (ix2 r e) = (y e : EReal))
    (hw : ∀ k e, W (ix2 k e) = (w k e : EReal)) (hb : ∀ e, B (ix2 0 e) = (b e : EReal)) (e : Fin 512) :
    val_main_v58 (F := Ideal) S U D W B (ix2 r e) = (gate w b y e : EReal) := by
  pointwise [val_main_v58, val_main_v57, val_main_v56, val_main_v55, val_main_v54, val_main_v53, val_main_v52, val_main_v51, val_main_v50, val_main_v49,
    val_main_v48, val_main_cst_12, val_main_cst_13]
  simp only [hy, hw, hb, ← EReal.coe_mul, coe_sum, ← EReal.coe_add, ← EReal.coe_neg, Ideal.exp_coe, ← EReal.coe_one]
  exact div_coe_coe _ (one_add_exp_ne _)

theorem v99_eq {y : Fin 512 → ℝ} (hy : ∀ e, val_main_v19 (F := Ideal) S U D (ix2 r e) = (y e : EReal))
    (hw : ∀ k e, W (ix2 k e) = (w k e : EReal)) (hb : ∀ e, B (ix2 0 e) = (b e : EReal)) (e : Fin 512) :
    val_main_v99 (F := Ideal) S U D W B (ix2 r e) = (gate w b y e : EReal) := by
  pointwise [val_main_v99, val_main_v98, val_main_v97, val_main_v96, val_main_v95, val_main_v94, val_main_v93, val_main_v92, val_main_v91, val_main_v90,
    val_main_v89, val_main_cst_21, val_main_cst_22]
  simp only [hy, hw, hb, ← EReal.coe_mul, coe_sum, ← EReal.coe_add, ← EReal.coe_neg, Ideal.exp_coe, ← EReal.coe_one]
  exact div_coe_coe _ (one_add_exp_ne _)

theorem v65_eq {y : Fin 512 → ℝ} (hy : ∀ e, val_main_v47 (F := Ideal) S U D (ix2 r e) = (y e : EReal))
    (hw : ∀ k e, W (ix2 k e) = (w k e : EReal)) (hb : ∀ e, B (ix2 0 e) = (b e : EReal)) (hg : ∀ e, G (ix2 r e) = (g e : EReal)) (e : Fin 512) :
    val_main_v65 (F := Ideal) G S U D W B (ix2 r e) = (dlogit w b y g e : EReal) := by
  pointwise [val_main_v65, val_main_v63, val_main_v61, val_main_v60, val_main_v59, val_main_cst_14]
  simp only [v58_eq hy hw hb, hy, hg, ← EReal.coe_mul, ← EReal.coe_one, ← EReal.coe_sub]
  rfl

theorem v106_eq {y : Fin 512 → ℝ} (hy : ∀ e, val_main_v19 (F := Ideal) S U D (ix2 r e) = (y e : EReal))
    (hw : ∀ k e, W (ix2 k e) = (w k e : EReal)) (hb : ∀ e, B (ix2 0 e) = (b e : EReal)) (hg : ∀ e, G (ix2 r e) = (g e : EReal)) (e : Fin 512) :
    val_main_v106 (F := Ideal) G S U D W B (ix2 r e) = (dlogit w b y g e : EReal) := by
  pointwise [val_main_v106, val_main_v105, val_main_v104, val_main_v102, val_main_v101, val_main_v100, val_main_cst_23]
  simp only [v99_eq hy hw hb, hy, hg, ← EReal.coe_mul, ← EReal.coe_one, ← EReal.coe_sub]
  rfl

theorem v107_eq (e : Fin 512) : val_main_v107 (F := Ideal) S U D (ix2 r e) = val_main_v19 (F := Ideal) S U D (ix2 r e) := by
  pointwise [val_main_v107]

theorem v71_eq {y : Fin 512 → ℝ} (hy : ∀ e, val_main_v47 (F := Ideal) S U D (ix2 r e) = (y e : EReal))
    (hw : ∀ k e, W (ix2 k e) = (w k e : EReal)) (hb : ∀ e, B (ix2 0 e) = (b e : EReal)) (hg : ∀ e, G (ix2 r e) = (g e : EReal)) (e : Fin 512) :
    val_main_v71 (F := Ideal) G S U D W B (ix2 r e) = (dact w b y g e : EReal) := by
  pointwise [val_main_v71, val_main_v70, val_main_v64]
  simp only [v58_eq hy hw hb, v65_eq hy hw hb hg, hg, hw, ← EReal.coe_mul, coe_sum, ← EReal.coe_add]
  rfl

theorem v83_eq {p y : Fin 512 → ℝ} (hp : ∀ e, val_main_v24 (F := Ideal) S U D (ix2 r e) = (p e : EReal))
    (hy : ∀ e, val_main_v47 (F := Ideal) S U D (ix2 r e) = (y e : EReal))
    (hw : ∀ k e, W (ix2 k e) = (w k e : EReal)) (hb : ∀ e, B (ix2 0 e) = (b e : EReal)) (hg : ∀ e, G (ix2 r e) = (g e : EReal)) (e : Fin 512) :
    val_main_v83 (F := Ideal) G S U D W B (ix2 r e) = ((dact w b y g e * dgelu (p e) : ℝ) : EReal) := by
  pointwise [val_main_v83, val_main_v82, val_main_v81, val_main_v80, val_main_v79, val_main_v78, val_main_v77, val_main_v76, val_main_v75, val_main_v74,
    val_main_v73, val_main_v72, val_main_v42, val_main_v41, val_main_v40, val_main_v39, val_main_v38, val_main_v30, val_main_v29, val_main_v28,
    val_main_cst_6, val_main_cst_8, val_main_cst_9, val_main_cst_17, val_main_cst_18]
  simp only [v71_eq hy hw hb hg, v37_eq hp, v46_eq hp, hp, v31_eq, ofBits_half, ofBits_root, ofBits_three,
    ← EReal.coe_mul, ← EReal.coe_add, ← EReal.coe_one, ← EReal.coe_sub]
  congr 1
  unfold dgelu
  ring

/-- The reference's bias gradient sums the rows. -/
theorem v69_eq (z : Fin 1) (e : Fin 512) : val_main_v69 (F := Ideal) G S U D W B (ix2 z e) = ∑ r : Fin 8192, val_main_v65 (F := Ideal) G S U D W B (ix2 r e) := by
  pointwise [val_main_v69, val_main_v68, val_main_v67, val_main_v66, val_main_cst_15, val_main_cst_16]
  simp

/-- The reference's skip gain gradient sums the rows. -/
theorem v88_eq (z : Fin 1) (e : Fin 512) : val_main_v88 (F := Ideal) G S U D W B (ix2 z e)
    = ∑ r : Fin 8192, val_main_v83 (F := Ideal) G S U D W B (ix2 r e) * U (ix2 r e) := by
  pointwise [val_main_v88, val_main_v87, val_main_v86, val_main_v85, val_main_v84, val_main_cst_19, val_main_cst_20]
  simp

end Reference

end Cert.Glu
end
-- ==== Proof.Glu.lean ====
module

public import proofs.«01_k».proof.Defs
public import proofs.«01_k».proof.Proof.GluRow
public import proofs.«01_k».proof.Proof.Gen.Pre_glu_finite
public import proofs.«01_k».proof.Proof.Gen.GluBwdIdeal.Frame
public import proofs.«01_k».proof.Proof.Gen.GluBwdRefIdeal.Run
public import Idealize.ShloMosaic.Lib.Claim

/-! The gradient of the gated linear unit: the kernel's five results over the whole grid are the reference's. -/

@[expose] public section

set_option maxRecDepth 16384

noncomputable section

open Idealize.ShloMosaic Idealize.ShloMosaic.TcCoe Idealize.SL.Sem
open Idealize.ShloMosaic.Pipeline (Dat)

namespace Cert.GluBwdIdeal.Equation

open Cert.GluBwdIdeal Cert.GluBwdIdeal.Gen Cert.Reals Cert.Glu
open Cert.GluBwdRefIdeal.Read (val_main_v83 val_main_v106 val_main_v107 val_main_v69 val_main_v88)

variable (m : (ℓ : Loc nD τ sig) → Buf (Elt Ideal) ℓ)

/-- At point `t` the tiles are the `t`-th of the rows; gain, weight and bias are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- The precondition, read: all six arguments are arrays of reals. -/
theorem finite (hpre : Cert.Pre_GluBwdIdeal_glu_finite m) (c : Dev nD) :
    (∃ r : S8192x512.Idx → ℝ, m ((c : Thread nD τ).loc main_arg0) = fun i => (r i : EReal))
    ∧ (∃ r : S8192x512.Idx → ℝ, m ((c : Thread nD τ).loc main_arg1) = fun i => (r i : EReal))
    ∧ (∃ r : S8192x512.Idx → ℝ, m ((c : Thread nD τ).loc main_arg2) = fun i => (r i : EReal))
    ∧ (∃ r : S1x512.Idx → ℝ, m ((c : Thread nD τ).loc main_arg3) = fun i => (r i : EReal))
    ∧ (∃ r : S512x512.Idx → ℝ, m ((c : Thread nD τ).loc main_arg4) = fun i => (r i : EReal))
    ∧ (∃ r : S1x512.Idx → ℝ, m ((c : Thread nD τ).loc main_arg5) = fun i => (r i : EReal)) := by
  have h := congrFun (hpre c) ix0
  dsimp only [Cert.Pre_glu_finite.fn] at h
  obtain ⟨h, h5⟩ := andi_one h
  obtain ⟨h, h4⟩ := andi_one h
  obtain ⟨h, h3⟩ := andi_one h
  obtain ⟨h, h2⟩ := andi_one h
  obtain ⟨h0, h1⟩ := andi_one h
  exact ⟨finite_of_all _ _ _ _ _ _ _ h0, finite_of_all _ _ _ _ _ _ _ h1, finite_of_all _ _ _ _ _ _ _ h2,
    finite_of_all _ _ _ _ _ _ _ h3, finite_of_all _ _ _ _ _ _ _ h4, finite_of_all _ _ _ _ _ _ _ h5⟩

section

variable {m} {c : Dev nD} {G S U : S8192x512.Idx → ℝ} {D B : S1x512.Idx → ℝ} {W : S512x512.Idx → ℝ}
  (hG : m ((c : Thread nD τ).loc main_arg0) = fun i => (G i : EReal))
  (hS : m ((c : Thread nD τ).loc main_arg1) = fun i => (S i : EReal))
  (hU : m ((c : Thread nD τ).loc main_arg2) = fun i => (U i : EReal))
  (hD : m ((c : Thread nD τ).loc main_arg3) = fun i => (D i : EReal))
  (hW : m ((c : Thread nD τ).loc main_arg4) = fun i => (W i : EReal))
  (hB : m ((c : Thread nD τ).loc main_arg5) = fun i => (B i : EReal))

section Blocks

variable (t : Fin cfg0.N) (a : Fin 512) (R : Fin 8192) (hR : R.val = t.val * 512 + a.val)

include hR

include hG in
theorem blk0 (e : Fin 512) : iblk m c 0 t (ix2 a e) = (G (ix2 R e) : EReal) := by
  rw [← congrFun hG]; blk_point [iblk, V, idx t]

include hS in
theorem blk1 (e : Fin 512) : iblk m c 1 t (ix2 a e) = (S (ix2 R e) : EReal) := by
  rw [← congrFun hS]; blk_point [iblk, V, idx t]

include hU in
theorem blk2 (e : Fin 512) : iblk m c 2 t (ix2 a e) = (U (ix2 R e) : EReal) := by
  rw [← congrFun hU]; blk_point [iblk, V, idx t]

omit hR

include hD in
theorem blk3 (e : Fin 512) : iblk m c 3 t (ix2 0 e) = (D (ix2 0 e) : EReal) := by
  rw [← congrFun hD]; blk_point [iblk, V, idx t]

include hW in
theorem blk4 (k e : Fin 512) : iblk m c 4 t (ix2 k e) = (W (ix2 k e) : EReal) := by
  rw [← congrFun hW]
  blk_simp [iblk, idx t]
  entry_read
  pointwise []
  exact congrArg _ (by blk_ext [idx t])

include hB in
theorem blk5 (e : Fin 512) : iblk m c 5 t (ix2 0 e) = (B (ix2 0 e) : EReal) := by
  rw [← congrFun hB]; blk_point [iblk, V, idx t]

end Blocks

include hG hS hU hD hW hB

/-- A point's activations are the reference's. -/
theorem y_point (t : Fin cfg0.N) (a e : Fin 512) (R : Fin 8192) (hR : R.val = t.val * 512 + a.val) :
    k0_pay6 (F := Ideal) (iblk m c 1 t) (iblk m c 3 t) (iblk m c 2 t) (ix2 a e)
      = val_main_v107 (F := Ideal) (m ((c : Thread nD τ).loc main_arg1)) (m ((c : Thread nD τ).loc main_arg2)) (m ((c : Thread nD τ).loc main_arg3)) (ix2 R e) := by
  rw [v107_eq, pay6_eq (pay5_eq (blk1 hS t a R hR) (blk3 hD t) (blk2 hU t a R hR)),
    v19_eq (v4_eq (s := fun e => S (ix2 R e)) (d := fun e => D (ix2 0 e)) (u := fun e => U (ix2 R e))
      (fun e => by rw [hS]) (fun e => by rw [hD]) (fun e => by rw [hU]))]

/-- A point's gradient of the gate logits is the reference's, which computes it twice. -/
theorem dt_point (t : Fin cfg0.N) (a e : Fin 512) (R : Fin 8192) (hR : R.val = t.val * 512 + a.val) :
    k0_pay10 (F := Ideal) (k0_pay8 (F := Ideal) (iblk m c 1 t) (iblk m c 3 t) (iblk m c 2 t) (iblk m c 4 t) (iblk m c 5 t) (iblk m c 0 t))
        (k0_pay9 (F := Ideal) (iblk m c 1 t) (iblk m c 3 t) (iblk m c 2 t) (iblk m c 4 t) (iblk m c 5 t)) (ix2 a e)
      = val_main_v106 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 R e)
    ∧ val_main_v106 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 R e)
      = Cert.GluBwdRefIdeal.Read.val_main_v65 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 R e) := by
  rw [pay10_eq (pay6_eq (pay5_eq (blk1 hS t a R hR) (blk3 hD t) (blk2 hU t a R hR))) (blk4 hW t) (blk5 hB t) (blk0 hG t a R hR),
    v106_eq (v19_eq (v4_eq (s := fun e => S (ix2 R e)) (d := fun e => D (ix2 0 e)) (u := fun e => U (ix2 R e))
      (fun e => by rw [hS]) (fun e => by rw [hD]) (fun e => by rw [hU])))
      (w := fun k e => W (ix2 k e)) (b := fun e => B (ix2 0 e)) (g := fun e => G (ix2 R e))
      (fun k e => by rw [hW]) (fun e => by rw [hB]) (fun e => by rw [hG]),
    v65_eq (v47_eq (v24_eq (s := fun e => S (ix2 R e)) (d := fun e => D (ix2 0 e)) (u := fun e => U (ix2 R e))
      (fun e => by rw [hS]) (fun e => by rw [hD]) (fun e => by rw [hU])))
      (w := fun k e => W (ix2 k e)) (b := fun e => B (ix2 0 e)) (g := fun e => G (ix2 R e))
      (fun k e => by rw [hW]) (fun e => by rw [hB]) (fun e => by rw [hG])]
  exact ⟨rfl, rfl⟩

/-- A point's gradient of the scan output is the reference's. -/
theorem dys_point (t : Fin cfg0.N) (a e : Fin 512) (R : Fin 8192) (hR : R.val = t.val * 512 + a.val) :
    k0_pay11 (F := Ideal) (k0_pay5 (F := Ideal) (iblk m c 1 t) (iblk m c 3 t) (iblk m c 2 t))
        (k0_pay7 (F := Ideal) (iblk m c 1 t) (iblk m c 3 t) (iblk m c 2 t) (iblk m c 4 t) (iblk m c 5 t)) (iblk m c 0 t)
        (k0_pay8 (F := Ideal) (iblk m c 1 t) (iblk m c 3 t) (iblk m c 2 t) (iblk m c 4 t) (iblk m c 5 t) (iblk m c 0 t))
        (k0_pay9 (F := Ideal) (iblk m c 1 t) (iblk m c 3 t) (iblk m c 2 t) (iblk m c 4 t) (iblk m c 5 t)) (iblk m c 4 t) (ix2 a e)
      = val_main_v83 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 R e) := by
  have hp := pay5_eq (blk1 hS t a R hR) (blk3 hD t) (blk2 hU t a R hR)
  have hq := v24_eq (s := fun e => S (ix2 R e)) (d := fun e => D (ix2 0 e)) (u := fun e => U (ix2 R e)) (r := R)
      (fun e => congrFun hS _) (fun e => congrFun hD _) (fun e => congrFun hU _)
  rw [pay11_eq hp (pay6_eq hp) (blk4 hW t) (blk5 hB t) (blk0 hG t a R hR),
    v83_eq hq (v47_eq hq)
      (w := fun k e => W (ix2 k e)) (b := fun e => B (ix2 0 e)) (g := fun e => G (ix2 R e))
      (fun k e => by rw [hW]) (fun e => by rw [hB]) (fun e => by rw [hG])]

/-- The first result: the gradient of the scan output. -/
theorem final6 : (dats m 0 c).arrAt 6 cfg0.N
    = val_main_v83 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 16 := lt_of_lt_of_eq t.isLt N_0
  blk_simp
  rw [after0_6]
  idx_vars y
  have e : ((View.whole main_v1_0).slice (win0_6.rect t)).emb (ix2 y0 y1) = ix2 (⟨t.val * 512 + y0.val, by omega⟩ : Fin 8192) y1 := by
    blk_ext [idx t]
  have p := dys_point hG hS hU hD hW hB t y0 y1 ⟨t.val * 512 + y0.val, by omega⟩ rfl
  rw [← e] at p
  by_cases h0 : t.val % 16 = 0
  · rw [outsAt0_A m c t h0]; frame_out; exact p
  · rw [outsAt0_B m c t h0]; frame_out; exact p

/-- The second result: the gradient of the gate logits. -/
theorem final7 : (dats m 0 c).arrAt 7 cfg0.N
    = val_main_v106 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  have ht : t.val < 16 := lt_of_lt_of_eq t.isLt N_0
  blk_simp
  rw [after0_7]
  idx_vars y
  have e : ((View.whole main_v1_1).slice (win0_7.rect t)).emb (ix2 y0 y1) = ix2 (⟨t.val * 512 + y0.val, by omega⟩ : Fin 8192) y1 := by
    blk_ext [idx t]
  have p := (dt_point hG hS hU hD hW hB t y0 y1 ⟨t.val * 512 + y0.val, by omega⟩ rfl).1
  rw [← e] at p
  by_cases h0 : t.val % 16 = 0
  · rw [outsAt0_A m c t h0]; frame_out; exact p
  · rw [outsAt0_B m c t h0]; frame_out; exact p

/-- The third result: the activations. -/
theorem final8 : (dats m 0 c).arrAt 8 cfg0.N
    = val_main_v107 (F := Ideal) (m ((c : Thread nD τ).loc main_arg1)) (m ((c : Thread nD τ).loc main_arg2)) (m ((c : Thread nD τ).loc main_arg3)) := by
  refine (dats m 0 c).arrAt_eq_of_covers 8 _ (by decide +kernel) fun t _ y => ?_
  have ht : t.val < 16 := lt_of_lt_of_eq t.isLt N_0
  blk_simp
  rw [after0_8]
  idx_vars y
  have e : ((View.whole main_v1_2).slice (win0_8.rect t)).emb (ix2 y0 y1) = ix2 (⟨t.val * 512 + y0.val, by omega⟩ : Fin 8192) y1 := by
    blk_ext [idx t]
  have p := y_point hG hS hU hD hW hB t y0 y1 ⟨t.val * 512 + y0.val, by omega⟩ rfl
  rw [← e] at p
  by_cases h0 : t.val % 16 = 0
  · rw [outsAt0_A m c t h0]; frame_out; exact p
  · rw [outsAt0_B m c t h0]; frame_out; exact p

/-- The fourth result: the bias gradient, the sixteen tiles' column sums added up. -/
theorem final9 : (dats m 0 c).arrAt 9 cfg0.N
    = val_main_v69 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 9 _ (by decide +kernel) fun t hf y => ?_
  have ht : t.val < 16 := lt_of_lt_of_eq t.isLt N_0
  blk_simp
  have hpay : ∀ (T : FVec Ideal S512x512 .f32) (A : FVec Ideal S1x512 .f32) (j : S1x512.Idx),
      k0_pay3 (F := Ideal) T A j = A j + ∑ r : Fin 512, T (ix2 r (j 1)) := by
    intro T A j; idx_vars j; exact pay3_eq T A j0 j1
  rw [after0_9, Pipeline.eq_sum_fin_of_reset_step_apply_of_flush (fun n h => (outsAt0 m c n h).2.2.2.1) 16 (fun _ => 0) _
    (fun t h j => by rw [outsAt0_A m c t h]; frame_out; rw [hpay, pay1_eq])
    (fun t h j => by rw [outsAt0_B m c t h]; frame_out; rw [hpay])
    t ((flush0_9 t).mp hf) _, zero_add]
  idx_vars y
  have e : ((View.whole main_v1_3).slice (win0_9.rect t)).emb (ix2 y0 y1) = ix2 y0 y1 := by
    blk_ext [idx t]
  rw [e, v69_eq]
  refine Fin.sum_mul_add_congr fun s a hl => ?_
  have hs := Pipeline.run_point_lt_of_flush t ((flush0_9 t).mp hf) s
  have p := dt_point hG hS hU hD hW hB ⟨_, hs⟩ a y1 ⟨s.val * 512 + a.val, hl⟩ (by show s.val * 512 + a.val = (16 * (t.val / 16) + s.val) * 512 + a.val; omega)
  exact p.1.trans p.2

/-- The fifth result: the skip gain's gradient. -/
theorem final10 : (dats m 0 c).arrAt 10 cfg0.N
    = val_main_v88 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 10 _ (by decide +kernel) fun t hf y => ?_
  have ht : t.val < 16 := lt_of_lt_of_eq t.isLt N_0
  blk_simp
  have hpay : ∀ (T X : FVec Ideal S512x512 .f32) (A : FVec Ideal S1x512 .f32) (j : S1x512.Idx),
      k0_pay4 (F := Ideal) T A X j = A j + ∑ r : Fin 512, T (ix2 r (j 1)) * X (ix2 r (j 1)) := by
    intro T X A j; idx_vars j; exact pay4_eq T X A j0 j1
  rw [after0_10, Pipeline.eq_sum_fin_of_reset_step_apply_of_flush (fun n h => (outsAt0 m c n h).2.2.2.2) 16 (fun _ => 0) _
    (fun t h j => by rw [outsAt0_A m c t h]; frame_out; rw [hpay, pay2_eq])
    (fun t h j => by rw [outsAt0_B m c t h]; frame_out; rw [hpay])
    t ((flush0_10 t).mp hf) _, zero_add]
  idx_vars y
  have e : ((View.whole main_v1_4).slice (win0_10.rect t)).emb (ix2 y0 y1) = ix2 y0 y1 := by
    blk_ext [idx t]
  rw [e, v88_eq]
  refine Fin.sum_mul_add_congr fun s a hl => ?_
  have hs := Pipeline.run_point_lt_of_flush t ((flush0_10 t).mp hf) s
  have hr : s.val * 512 + a.val = (16 * (t.val / 16) + s.val) * 512 + a.val := by omega
  exact congrArg₂ (· * ·) (dys_point hG hS hU hD hW hB ⟨_, hs⟩ a y1 ⟨s.val * 512 + a.val, hl⟩ hr)
    ((blk2 hU ⟨_, hs⟩ a ⟨s.val * 512 + a.val, hl⟩ hr y1).trans (congrFun hU _).symm)

end

/-- The kernel's five results are the five gradients and saved values of the reference's gated unit. -/
theorem algebraic : Cert.algebraic_GluBwdIdeal_GluBwdRefIdeal_pre_glu_finite := by
  pair_intro
  · run_from Cert.GluBwdIdeal.Gen.run_main m g
  · run_from Cert.GluBwdRefIdeal.Value.run m' g'
    all_goals
      obtain ⟨⟨G, hG⟩, ⟨S, hS⟩, ⟨U, hU⟩, ⟨D, hD⟩, ⟨W, hW⟩, ⟨B, hB⟩⟩ := finite m hpre c
      obtain ⟨a0, a1, a2, a3, a4, a5⟩ := hagree c
    · rw [final6 hG hS hU hD hW hB]
      refine (Cert.GluBwdRefIdeal.Read.val_main_v83_eq m' c).trans ?_
      rw [a0, a1, a2, a3, a4, a5]
    · rw [final7 hG hS hU hD hW hB]
      refine (Cert.GluBwdRefIdeal.Read.val_main_v106_eq m' c).trans ?_
      rw [a0, a1, a2, a3, a4, a5]
    · rw [final8 hG hS hU hD hW hB]
      exact Cert.GluBwdRefIdeal.Read.val_main_v107_eq _ _ _
    · rw [final9 hG hS hU hD hW hB]
      refine (Cert.GluBwdRefIdeal.Read.val_main_v69_eq m' c).trans ?_
      rw [a0, a1, a2, a3, a4, a5]
    · rw [final10 hG hS hU hD hW hB]
      refine (Cert.GluBwdRefIdeal.Read.val_main_v88_eq m' c).trans ?_
      rw [a0, a1, a2, a3, a4, a5]

end Cert.GluBwdIdeal.Equation
end
-- ==== Proof.BranchMergeRow.lean ====
module

public import proofs.«01_k».proof.Proof.GluRow
public import proofs.«01_k».proof.Proof.Gen.BranchMergeBwdIdeal.Skeleton
public import proofs.«01_k».proof.Proof.Gen.BranchMergeBwdRefIdeal.Read
public import Idealize.ShloMosaic.Lib.Pipeline.ValueKit
public import Idealize.ShloMosaic.Lib.Pointwise

/-! The gradient of the gated sum of three branches, entry by entry: the kernel's stored values and the reference's
intermediate arrays as the same expressions in the cotangent, the gates, the branches' outputs and their weights.
Nothing is assumed of the entries: the two forms of the logistic function agree on all extended reals. -/

@[expose] public section

set_option maxRecDepth 16384

noncomputable section

open Idealize.ShloMosaic Idealize.ShloMosaic.TcCoe

namespace Cert.Merge

open Cert.Glu (ofBits_half half_tanh one_add_exp_ne sig)
open Cert.Reals

/-- The logistic function on the extended reals. -/
def sigE (z : EReal) : EReal := Ideal.div 1 (1 + Ideal.exp (-z))

theorem sigE_coe (z : ℝ) : sigE (z : EReal) = (sig z : EReal) := by
  unfold sigE
  rw [← EReal.coe_neg, Ideal.exp_coe, ← EReal.coe_one, ← EReal.coe_add]
  exact div_coe_coe _ (one_add_exp_ne _)

/-- The kernel's form of it, by the hyperbolic tangent, at every extended real. -/
theorem half_tanhE (z : EReal) :
    ((1 / 2 : ℝ) : EReal) * Ideal.tanh (((1 / 2 : ℝ) : EReal) * z) + ((1 / 2 : ℝ) : EReal) = sigE z := by
  induction z with
  | bot =>
    rw [EReal.coe_mul_bot_of_pos (by norm_num), Ideal.tanh_bot]
    unfold sigE
    have e : (1 : EReal) + ⊤ = ⊤ := EReal.coe_add_top 1
    simp [Ideal.div, e]
    rw [← EReal.coe_neg, ← EReal.coe_add]; norm_num
  | top =>
    rw [EReal.coe_mul_top_of_pos (by norm_num), Ideal.tanh_top]
    unfold sigE
    simp [Ideal.div]
    rw [← EReal.coe_add]; norm_num
  | coe r =>
    rw [sigE_coe, ← EReal.coe_mul, Ideal.tanh_coe, ← EReal.coe_mul, ← EReal.coe_add, half_tanh]

section Kernel

open Cert.BranchMergeBwdIdeal Cert.BranchMergeBwdIdeal.Gen

variable (M : FVec Ideal S256x1024 .f32) (Z : FVec Ideal S256x3072 .f32) (B : FVec Ideal S1x3072 .f32)

/-- A tile's gates. -/
theorem pay8_eq (r : Fin 256) (e : Fin 3072) : k0_pay8 (F := Ideal) Z B (ix2 r e) = sigE (Z (ix2 r e) + B (ix2 0 e)) := by
  pointwise [k0_pay8]
  rw [ofBits_half, half_tanhE]

/-- The first branch's gates. -/
theorem pay9_eq (r : Fin 256) (e : Fin 1024) : k0_pay9 (F := Ideal) Z B (ix2 r e) = k0_pay8 (F := Ideal) Z B (ix2 r ⟨e.val, by omega⟩) := by
  pointwise [k0_pay9]

/-- The second branch's gates. -/
theorem pay17_eq (T : FVec Ideal S256x3072 .f32) (r : Fin 256) (e : Fin 1024) : k0_pay17 (F := Ideal) T (ix2 r e) = T (ix2 r ⟨1024 + e.val, by omega⟩) := by
  pointwise [k0_pay17]

/-- The third branch's gates. -/
theorem pay26_eq (T : FVec Ideal S256x3072 .f32) (r : Fin 256) (e : Fin 1024) : k0_pay26 (F := Ideal) T (ix2 r e) = T (ix2 r ⟨2048 + e.val, by omega⟩) := by
  pointwise [k0_pay26]

/-- The entry of the gate logits' gradient that a column of a branch contributes. -/
theorem pay14_eq (G R : FVec Ideal S256x1024 .f32) (r : Fin 256) (e : Fin 1024) : k0_pay14 (F := Ideal) M G R (ix2 r e)
    = M (ix2 r e) * R (ix2 r e) * (G (ix2 r e) * (1 - G (ix2 r e))) := by
  pointwise [k0_pay14]
  rw [mul_assoc]

theorem pay23_eq (V : FVec Ideal S256x3072 .f32) (X : FVec Ideal S256x256 .f32) (W : FVec Ideal S1024x256 .bf16) (r : Fin 256) (e : Fin 1024) :
    k0_pay23 (F := Ideal) (k0_pay17 (F := Ideal) V) (k0_pay22 (F := Ideal) V M X W) (ix2 r e)
    = M (ix2 r e) * (∑ k : Fin 256, X (ix2 r k) * W (ix2 e k)) * (V (ix2 r ⟨1024 + e.val, by omega⟩) * (1 - V (ix2 r ⟨1024 + e.val, by omega⟩))) := by
  pointwise [k0_pay23, k0_pay22, k0_pay18]
  simp only [pay17_eq]
  rw [mul_assoc]

theorem pay1_eq (V : FVec Ideal S256x3072 .f32) (X : FVec Ideal S256x512 .f32) (W : FVec Ideal S1024x512 .bf16) (r : Fin 256) (e : Fin 1024) :
    k0_pay1 (F := Ideal) (k0_pay31 (F := Ideal) V M X W) (k0_pay32 (F := Ideal) V) (ix2 r e)
    = M (ix2 r e) * (∑ k : Fin 512, X (ix2 r k) * W (ix2 e k)) * (V (ix2 r ⟨2048 + e.val, by omega⟩) * (1 - V (ix2 r ⟨2048 + e.val, by omega⟩))) := by
  pointwise [k0_pay1, k0_pay31, k0_pay32, k0_pay27]
  simp only [pay26_eq]
  rw [mul_assoc]

theorem pay10_eq (X : FVec Ideal S256x512 .bf16) (W : FVec Ideal S1024x512 .bf16) (r : Fin 256) (e : Fin 1024) :
    k0_pay10 (F := Ideal) X W (ix2 r e) = ∑ k : Fin 512, X (ix2 r k) * W (ix2 e k) := by
  pointwise [k0_pay10]

/-- The gradients of the branches' outputs: gated cotangent times weight. -/
theorem pay12_eq (W : FVec Ideal S1024x512 .bf16) (r : Fin 256) (e : Fin 512) : k0_pay12 (F := Ideal) Z B M W (ix2 r e)
    = ∑ k : Fin 1024, M (ix2 r k) * k0_pay8 (F := Ideal) Z B (ix2 r ⟨k.val, by omega⟩) * W (ix2 k e) := by
  pointwise [k0_pay12, k0_pay11]
  simp only [pay9_eq]

theorem pay20_eq (V : FVec Ideal S256x3072 .f32) (W : FVec Ideal S1024x256 .bf16) (r : Fin 256) (e : Fin 256) : k0_pay20 (F := Ideal) V M W (ix2 r e)
    = ∑ k : Fin 1024, M (ix2 r k) * V (ix2 r ⟨1024 + k.val, by omega⟩) * W (ix2 k e) := by
  pointwise [k0_pay20, k0_pay19]
  simp only [pay17_eq]

theorem pay29_eq (V : FVec Ideal S256x3072 .f32) (W : FVec Ideal S1024x512 .bf16) (r : Fin 256) (e : Fin 512) : k0_pay29 (F := Ideal) V M W (ix2 r e)
    = ∑ k : Fin 1024, M (ix2 r k) * V (ix2 r ⟨2048 + k.val, by omega⟩) * W (ix2 k e) := by
  pointwise [k0_pay29, k0_pay28]
  simp only [pay26_eq]

/-- The weight gradients' accumulators gain a tile's outer products. -/
theorem pay13_eq (X : FVec Ideal S256x512 .bf16) (A : FVec Ideal S1024x512 .f32) (k : Fin 1024) (e : Fin 512) : k0_pay13 (F := Ideal) Z B M X A (ix2 k e)
    = A (ix2 k e) + ∑ r : Fin 256, M (ix2 r k) * k0_pay8 (F := Ideal) Z B (ix2 r ⟨k.val, by omega⟩) * X (ix2 r e) := by
  pointwise [k0_pay13, k0_pay11]
  simp only [pay9_eq]

theorem pay21_eq (V : FVec Ideal S256x3072 .f32) (X : FVec Ideal S256x256 .f32) (A : FVec Ideal S1024x256 .f32) (k : Fin 1024) (e : Fin 256) : k0_pay21 (F := Ideal) V M X A (ix2 k e)
    = A (ix2 k e) + ∑ r : Fin 256, M (ix2 r k) * V (ix2 r ⟨1024 + k.val, by omega⟩) * X (ix2 r e) := by
  pointwise [k0_pay21, k0_pay19, k0_pay18]
  simp only [pay17_eq]

theorem pay30_eq (V : FVec Ideal S256x3072 .f32) (X : FVec Ideal S256x512 .f32) (A : FVec Ideal S1024x512 .f32) (k : Fin 1024) (e : Fin 512) : k0_pay30 (F := Ideal) V M X A (ix2 k e)
    = A (ix2 k e) + ∑ r : Fin 256, M (ix2 r k) * V (ix2 r ⟨2048 + k.val, by omega⟩) * X (ix2 r e) := by
  pointwise [k0_pay30, k0_pay28, k0_pay27]
  simp only [pay26_eq]

/-- The bias gradient's accumulators gain a tile's column sums. -/
theorem pay16_eq (G R : FVec Ideal S256x1024 .f32) (A : FVec Ideal S1x1024 .f32) (z : Fin 1) (e : Fin 1024) : k0_pay16 (F := Ideal) M G R A (ix2 z e)
    = A (ix2 z e) + ∑ r : Fin 256, k0_pay14 (F := Ideal) M G R (ix2 r e) := by
  pointwise [k0_pay16]

theorem pay25_eq (P Q : FVec Ideal S256x1024 .f32) (A : FVec Ideal S1x1024 .f32) (z : Fin 1) (e : Fin 1024) : k0_pay25 (F := Ideal) P Q A (ix2 z e)
    = A (ix2 z e) + ∑ r : Fin 256, k0_pay23 (F := Ideal) P Q (ix2 r e) := by
  pointwise [k0_pay25]

theorem pay3_eq (P Q : FVec Ideal S256x1024 .f32) (A : FVec Ideal S1x1024 .f32) (z : Fin 1) (e : Fin 1024) : k0_pay3 (F := Ideal) P Q A (ix2 z e)
    = A (ix2 z e) + ∑ r : Fin 256, k0_pay1 (F := Ideal) P Q (ix2 r e) := by
  pointwise [k0_pay3]

/-- Narrowing the stored gradient of the gate logits changes nothing over the extended reals. -/
theorem pay15_eq (G R : FVec Ideal S256x1024 .f32) (r : Fin 256) (e : Fin 1024) : k0_pay15 (F := Ideal) M G R (ix2 r e) = k0_pay14 (F := Ideal) M G R (ix2 r e) := by
  pointwise [k0_pay15]

theorem pay24_eq (P Q : FVec Ideal S256x1024 .f32) (r : Fin 256) (e : Fin 1024) : k0_pay24 (F := Ideal) P Q (ix2 r e) = k0_pay23 (F := Ideal) P Q (ix2 r e) := by
  pointwise [k0_pay24]

theorem pay2_eq (P Q : FVec Ideal S256x1024 .f32) (r : Fin 256) (e : Fin 1024) : k0_pay2 (F := Ideal) P Q (ix2 r e) = k0_pay1 (F := Ideal) P Q (ix2 r e) := by
  pointwise [k0_pay2]

theorem pay4_eq (i : S1024x512.Idx) : k0_pay4 (F := Ideal) i = 0 := by idx_vars i; pointwise [k0_pay4]
theorem pay5_eq (i : S1024x256.Idx) : k0_pay5 (F := Ideal) i = 0 := by idx_vars i; pointwise [k0_pay5]
theorem pay6_eq (i : S1024x512.Idx) : k0_pay6 (F := Ideal) i = 0 := by idx_vars i; pointwise [k0_pay6]
theorem pay7_eq (i : S1x3072.Idx) : k0_pay7 (F := Ideal) i = 0 := by idx_vars i; pointwise [k0_pay7]

end Kernel

section Reference

open Cert.BranchMergeBwdRefIdeal Cert.BranchMergeBwdRefIdeal.Read

variable (M : FVec Ideal S8192x1024 .f32) (X1 : FVec Ideal S8192x512 .bf16) (X2 : FVec Ideal S8192x256 .f32) (X3 : FVec Ideal S8192x512 .f32)
  (W1 : FVec Ideal S512x1024 .f32) (W2 : FVec Ideal S256x1024 .f32) (W3 : FVec Ideal S512x1024 .f32) (Z : FVec Ideal S8192x3072 .f32) (B : FVec Ideal S1x3072 .f32)

/-- The reference's gates. -/
theorem v10_eq (r : Fin 8192) (e : Fin 3072) : val_main_v10 (F := Ideal) Z B (ix2 r e) = sigE (Z (ix2 r e) + B (ix2 0 e)) := by
  pointwise [val_main_v10, val_main_v9, val_main_v8, val_main_v7, val_main_v6, val_main_v5, val_main_v4, val_main_v3, val_main_v2, val_main_v1,
    val_main_cst, val_main_cst_0]
  rfl

theorem v16_eq (r : Fin 8192) (e : Fin 1024) : val_main_v16 (F := Ideal) Z B (ix2 r e) = sigE (Z (ix2 r ⟨e.val, by omega⟩) + B (ix2 0 ⟨e.val, by omega⟩)) := by
  rw [← v10_eq]; pointwise [val_main_v16, val_main_v15, val_main_v14]

theorem v20_eq (r : Fin 8192) (e : Fin 1024) : val_main_v20 (F := Ideal) Z B (ix2 r e) = sigE (Z (ix2 r ⟨1024 + e.val, by omega⟩) + B (ix2 0 ⟨1024 + e.val, by omega⟩)) := by
  rw [← v10_eq]; pointwise [val_main_v20, val_main_v19, val_main_v14]

theorem v25_eq (r : Fin 8192) (e : Fin 1024) : val_main_v25 (F := Ideal) Z B (ix2 r e) = sigE (Z (ix2 r ⟨2048 + e.val, by omega⟩) + B (ix2 0 ⟨2048 + e.val, by omega⟩)) := by
  rw [← v10_eq]; pointwise [val_main_v25, val_main_v24, val_main_v14]

theorem v29_eq (r : Fin 8192) (e : Fin 1024) : val_main_v29 (F := Ideal) M (ix2 r e) = M (ix2 r e) := by
  pointwise [val_main_v29]

theorem v30_eq (r : Fin 8192) (e : Fin 1024) : val_main_v30 (F := Ideal) M (ix2 r e) = M (ix2 r e) := by
  pointwise [val_main_v30]

/-- The reference's gradients of the branches' outputs. -/
theorem v50_eq (r : Fin 8192) (e : Fin 512) : val_main_v50 (F := Ideal) M W1 Z B (ix2 r e)
    = ∑ k : Fin 1024, M (ix2 r k) * sigE (Z (ix2 r ⟨k.val, by omega⟩) + B (ix2 0 ⟨k.val, by omega⟩)) * W1 (ix2 e k) := by
  pointwise [val_main_v50, val_main_v46]
  simp only [v16_eq, v29_eq, mul_comm (sigE _)]

theorem v42_eq (r : Fin 8192) (e : Fin 256) : val_main_v42 (F := Ideal) M W2 Z B (ix2 r e)
    = ∑ k : Fin 1024, M (ix2 r k) * sigE (Z (ix2 r ⟨1024 + k.val, by omega⟩) + B (ix2 0 ⟨1024 + k.val, by omega⟩)) * W2 (ix2 e k) := by
  pointwise [val_main_v42, val_main_v38]
  simp only [v20_eq, v29_eq, mul_comm (sigE _)]

theorem v35_eq (r : Fin 8192) (e : Fin 512) : val_main_v35 (F := Ideal) M W3 Z B (ix2 r e)
    = ∑ k : Fin 1024, M (ix2 r k) * sigE (Z (ix2 r ⟨2048 + k.val, by omega⟩) + B (ix2 0 ⟨2048 + k.val, by omega⟩)) * W3 (ix2 e k) := by
  pointwise [val_main_v35, val_main_v31]
  simp only [v25_eq, v30_eq, mul_comm (sigE _)]

/-- The reference's gradients of the branches' weights. -/
theorem v60_eq (k : Fin 1024) (e : Fin 512) : val_main_v60 (F := Ideal) M X1 Z B (ix2 k e)
    = ∑ r : Fin 8192, M (ix2 r k) * sigE (Z (ix2 r ⟨k.val, by omega⟩) + B (ix2 0 ⟨k.val, by omega⟩)) * X1 (ix2 r e) := by
  pointwise [val_main_v60, val_main_v49, val_main_v48, val_main_v46, val_main_v0]
  simp only [v16_eq, v29_eq, mul_comm (sigE _)]

theorem v61_eq (k : Fin 1024) (e : Fin 256) : val_main_v61 (F := Ideal) M X2 Z B (ix2 k e)
    = ∑ r : Fin 8192, M (ix2 r k) * sigE (Z (ix2 r ⟨1024 + k.val, by omega⟩) + B (ix2 0 ⟨1024 + k.val, by omega⟩)) * X2 (ix2 r e) := by
  pointwise [val_main_v61, val_main_v41, val_main_v40, val_main_v38]
  simp only [v20_eq, v29_eq, mul_comm (sigE _)]

theorem v62_eq (k : Fin 1024) (e : Fin 512) : val_main_v62 (F := Ideal) M X3 Z B (ix2 k e)
    = ∑ r : Fin 8192, M (ix2 r k) * sigE (Z (ix2 r ⟨2048 + k.val, by omega⟩) + B (ix2 0 ⟨2048 + k.val, by omega⟩)) * X3 (ix2 r e) := by
  pointwise [val_main_v62, val_main_v34, val_main_v33, val_main_v31]
  simp only [v25_eq, v30_eq, mul_comm (sigE _)]

theorem v47_eq (r : Fin 8192) (e : Fin 1024) : val_main_v47 (F := Ideal) M X1 W1 (ix2 r e) = M (ix2 r e) * ∑ k : Fin 512, X1 (ix2 r k) * W1 (ix2 k e) := by
  pointwise [val_main_v47, val_main_v17, val_main_v0]
  rw [v29_eq]

theorem v39_eq (r : Fin 8192) (e : Fin 1024) : val_main_v39 (F := Ideal) M X2 W2 (ix2 r e) = M (ix2 r e) * ∑ k : Fin 256, X2 (ix2 r k) * W2 (ix2 k e) := by
  pointwise [val_main_v39, val_main_v21]
  rw [v29_eq]

theorem v32_eq (r : Fin 8192) (e : Fin 1024) : val_main_v32 (F := Ideal) M X3 W3 (ix2 r e) = M (ix2 r e) * ∑ k : Fin 512, X3 (ix2 r k) * W3 (ix2 k e) := by
  pointwise [val_main_v32, val_main_v26]
  rw [v30_eq]

/-- The reference's gradient of the gate logits, in the first branch's columns. -/
theorem v55_first (r : Fin 8192) (e : Fin 1024) : val_main_v55 (F := Ideal) M X1 X2 X3 W1 W2 W3 Z B (ix2 r ⟨e.val, by omega⟩)
    = M (ix2 r e) * (∑ k : Fin 512, X1 (ix2 r k) * W1 (ix2 k e))
      * (sigE (Z (ix2 r ⟨e.val, by omega⟩) + B (ix2 0 ⟨e.val, by omega⟩)) * (1 - sigE (Z (ix2 r ⟨e.val, by omega⟩) + B (ix2 0 ⟨e.val, by omega⟩)))) := by
  pointwise [val_main_v55, val_main_v54, val_main_v53, val_main_v52, val_main_v51, val_main_v45, val_main_v44, val_main_v43, val_main_v37, val_main_v36,
    val_main_v13, val_main_v12, val_main_v11, val_main_cst_1, val_main_cst_2, val_main_cst_3, val_main_cst_4]
  have h0 : e.val / 1024 = 0 := by omega
  simp only [h0, Nat.mod_eq_of_lt e.isLt, e.isLt, Nat.reduceLeDiff, false_and, Nat.zero_lt_one, and_self, dite_true, dite_false, zero_add]
  rw [v10_eq, v47_eq]

/-- The reference's gradient of the gate logits, in the second branch's columns. -/
theorem v55_second (r : Fin 8192) (e : Fin 1024) : val_main_v55 (F := Ideal) M X1 X2 X3 W1 W2 W3 Z B (ix2 r ⟨1024 + e.val, by omega⟩)
    = M (ix2 r e) * (∑ k : Fin 256, X2 (ix2 r k) * W2 (ix2 k e))
      * (sigE (Z (ix2 r ⟨1024 + e.val, by omega⟩) + B (ix2 0 ⟨1024 + e.val, by omega⟩)) * (1 - sigE (Z (ix2 r ⟨1024 + e.val, by omega⟩) + B (ix2 0 ⟨1024 + e.val, by omega⟩)))) := by
  pointwise [val_main_v55, val_main_v54, val_main_v53, val_main_v52, val_main_v51, val_main_v45, val_main_v44, val_main_v43, val_main_v37, val_main_v36,
    val_main_v13, val_main_v12, val_main_v11, val_main_cst_1, val_main_cst_2, val_main_cst_3, val_main_cst_4]
  rw [dif_neg (by omega), dif_pos (by omega), dif_neg (by omega), zero_add, add_zero, v10_eq, v39_eq]

/-- The reference's gradient of the gate logits, in the third branch's columns. -/
theorem v55_third (r : Fin 8192) (e : Fin 1024) : val_main_v55 (F := Ideal) M X1 X2 X3 W1 W2 W3 Z B (ix2 r ⟨2048 + e.val, by omega⟩)
    = M (ix2 r e) * (∑ k : Fin 512, X3 (ix2 r k) * W3 (ix2 k e))
      * (sigE (Z (ix2 r ⟨2048 + e.val, by omega⟩) + B (ix2 0 ⟨2048 + e.val, by omega⟩)) * (1 - sigE (Z (ix2 r ⟨2048 + e.val, by omega⟩) + B (ix2 0 ⟨2048 + e.val, by omega⟩)))) := by
  pointwise [val_main_v55, val_main_v54, val_main_v53, val_main_v52, val_main_v51, val_main_v45, val_main_v44, val_main_v43, val_main_v37, val_main_v36,
    val_main_v13, val_main_v12, val_main_v11, val_main_cst_1, val_main_cst_2, val_main_cst_3, val_main_cst_4]
  rw [dif_pos (by omega), dif_neg (by omega), dif_neg (by omega), add_zero, add_zero, v10_eq, v32_eq]

/-- The reference's bias gradient sums the rows. -/
theorem v59_eq (z : Fin 1) (e : Fin 3072) : val_main_v59 (F := Ideal) M X1 X2 X3 W1 W2 W3 Z B (ix2 z e)
    = ∑ r : Fin 8192, val_main_v55 (F := Ideal) M X1 X2 X3 W1 W2 W3 Z B (ix2 r e) := by
  pointwise [val_main_v59, val_main_v58, val_main_v57, val_main_v56, val_main_cst_5, val_main_cst_6]
  simp

theorem v63_eq (r : Fin 8192) (e : Fin 3072) : val_main_v63 (F := Ideal) M X1 X2 X3 W1 W2 W3 Z B (ix2 r e)
    = val_main_v55 (F := Ideal) M X1 X2 X3 W1 W2 W3 Z B (ix2 r e) := by
  pointwise [val_main_v63]

end Reference

end Cert.Merge
end
-- ==== Proof.GluFwd.lean ====
module

public import proofs.«01_k».proof.Defs
public import proofs.«01_k».proof.Proof.BranchMergeRow
public import proofs.«01_k».proof.Proof.Gen.GluFwdIdeal.Frame
public import proofs.«01_k».proof.Proof.Gen.GluFwdRefIdeal.Read

/-! The gated linear unit, for all extended reals: the two forms of the logistic function agree everywhere and the activation differs only in how
its product is grouped. -/

@[expose] public section

set_option maxRecDepth 16384

noncomputable section

open Idealize.ShloMosaic Idealize.ShloMosaic.TcCoe Idealize.SL.Sem
open Idealize.ShloMosaic.Pipeline (Dat)

namespace Cert.GluFwdIdeal.Equation

open Cert.GluFwdIdeal Cert.GluFwdIdeal.Gen Cert.Merge
open Cert.Glu (ofBits_half)
open Cert.GluFwdRefIdeal.Read

/-- The activation as the reference groups it. -/
def act (y : EReal) : EReal :=
  y * (Ideal.ofBits .f32 0x3F000000#32 * (1 + Ideal.tanh (Ideal.ofBits .f32 0x3F4C422A#32 * (y + Ideal.ofBits .f32 0x3D372713#32 * (y * y * y)))))

/-- The kernel's grouping. -/
theorem act_eq (y : EReal) : Ideal.ofBits .f32 0x3F000000#32 * y
    * (1 + Ideal.tanh (Ideal.ofBits .f32 0x3F4C422A#32 * (y + Ideal.ofBits .f32 0x3D372713#32 * y * y * y))) = act y := by
  unfold act
  rw [mul_comm (Ideal.ofBits .f32 0x3F000000#32) y, mul_assoc, mul_assoc (Ideal.ofBits .f32 0x3D372713#32 * y), mul_assoc (Ideal.ofBits .f32 0x3D372713#32), ← mul_assoc y y y]

/-- A row's gated activations. -/
def row (y b : Fin 512 → EReal) (w : Fin 512 → Fin 512 → EReal) (j : Fin 512) : EReal :=
  act (y j) * sigE ((∑ k, act (y k) * w k j) + b j)

theorem pay1_eq (Y : FVec Ideal S512x512 .f32) (D : FVec Ideal S1x512 .f32) (U : FVec Ideal S512x512 .f32) (W : FVec Ideal S512x512 .bf16)
    (B : FVec Ideal S1x512 .f32) (a j : Fin 512) : k0_pay1 (F := Ideal) Y D U W B (ix2 a j)
      = row (fun k => Y (ix2 a k) + D (ix2 0 k) * U (ix2 a k)) (fun k => B (ix2 0 k)) (fun k j => W (ix2 k j)) j := by
  unfold row
  rw [← half_tanhE, ← ofBits_half]
  simp only [← act_eq]
  pointwise [k0_pay1]

theorem v30_eq (Y U : FVec Ideal S8192x512 .f32) (D : FVec Ideal S1x512 .f32) (W : FVec Ideal S512x512 .f32)
    (B : FVec Ideal S1x512 .f32) (a : Fin 8192) (j : Fin 512) : val_main_v30 (F := Ideal) Y U D W B (ix2 a j)
      = row (fun k => Y (ix2 a k) + D (ix2 0 k) * U (ix2 a k)) (fun k => B (ix2 0 k)) (fun k j => W (ix2 k j)) j := by
  unfold row sigE act
  pointwise [val_main_v30, val_main_v29, val_main_v28, val_main_v27, val_main_cst_4, val_main_v26, val_main_v25, val_main_cst_3, val_main_v24, val_main_v23,
    val_main_v22, val_main_v21, val_main_v20, val_main_v19, val_main_v18, val_main_v17, val_main_v16, val_main_v15, val_main_cst_2, val_main_v14,
    val_main_v13, val_main_cst_1, val_main_v12, val_main_v11, val_main_v10, val_main_cst_0, val_main_v9, val_main_v8, val_main_v7, val_main_cst,
    val_main_v6, val_main_v5, val_main_v4, val_main_v3, val_main_v2, val_main_v1, val_main_v0]

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] :=
  (by decide +kernel : ∀ t : Fin grid0.N, _)

/-- The call's result is the reference's gated unit. -/
theorem final5 (c : Dev nD) : (dats m 0 c).arrAt 5 cfg0.N
    = val_main_v30 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have ht : t.val < 16 := lt_of_lt_of_eq t.isLt N_0
  blk_simp
  rw [after0_5]
  frame_out
  idx_vars y
  have e : ((View.whole main_v1).slice (win0_5.rect t)).emb (ix2 y0 y1) = ix2 (⟨t.val * 512 + y0.val, by omega⟩ : Fin 8192) y1 := by
    blk_ext [idx t]
  have b0 : ∀ k : Fin 512, iblk m c 0 t (ix2 y0 k) = m ((c : Thread nD τ).loc main_arg0) (ix2 (⟨t.val * 512 + y0.val, by omega⟩ : Fin 8192) k) :=
    fun k => by blk_point [iblk, V, idx t]
  have b1 : ∀ k : Fin 512, iblk m c 1 t (ix2 y0 k) = m ((c : Thread nD τ).loc main_arg1) (ix2 (⟨t.val * 512 + y0.val, by omega⟩ : Fin 8192) k) :=
    fun k => by blk_point [iblk, V, idx t]
  have b2 : ∀ k : Fin 512, iblk m c 2 t (ix2 0 k) = m ((c : Thread nD τ).loc main_arg2) (ix2 0 k) :=
    fun k => by blk_point [iblk, V, idx t]
  have b3 : ∀ k j : Fin 512, iblk m c 3 t (ix2 k j) = m ((c : Thread nD τ).loc main_arg3) (ix2 k j) := fun k j => by
    blk_simp [iblk, idx t]
    entry_read
    pointwise []
    exact congrArg _ (by blk_ext [idx t])
  have b4 : ∀ k : Fin 512, iblk m c 4 t (ix2 0 k) = m ((c : Thread nD τ).loc main_arg4) (ix2 0 k) :=
    fun k => by blk_point [iblk, V, idx t]
  rw [e, pay1_eq, v30_eq]
  simp only [b0, b1, b2, b3, b4]

/-- The kernel's result is the reference's gated unit. -/
theorem algebraic : Cert.algebraic_GluFwdIdeal_GluFwdRefIdeal := by
  pair_intro
  · run_from Cert.GluFwdIdeal.Gen.run_main m g
  · run_from Cert.GluFwdRefIdeal.Value.run m' g'
    obtain ⟨a0, a1, a2, a3, a4⟩ := hagree c
    rw [final5, ← a0, ← a1, ← a2, ← a3, ← a4]
    exact Cert.GluFwdRefIdeal.Read.val_main_v30_eq _ _

end Cert.GluFwdIdeal.Equation
end
-- ==== Proof.BranchMerge.lean ====
module

public import proofs.«01_k».proof.Defs
public import proofs.«01_k».proof.Proof.BranchMergeRow
public import proofs.«01_k».proof.Proof.Gen.BranchMergeBwdIdeal.Frame
public import proofs.«01_k».proof.Proof.Gen.BranchMergeBwdRefIdeal.Run
public import Idealize.ShloMosaic.Lib.Claim
public import Idealize.ShloMosaic.Lib.Pipeline.ReadBack

/-! The gradient of the gated sum of the three branches: the kernel's eight results over the whole grid are the
reference's. -/

@[expose] public section

set_option maxRecDepth 16384

noncomputable section

open Idealize.ShloMosaic Idealize.ShloMosaic.TcCoe Idealize.SL.Sem
open Idealize.ShloMosaic.Pipeline (Dat)

namespace Cert.BranchMergeBwdIdeal.Equation

open Cert.BranchMergeBwdIdeal Cert.BranchMergeBwdIdeal.Gen Cert.Merge
open Cert.BranchMergeBwdRefIdeal.Read (val_main_v10 val_main_v50 val_main_v42 val_main_v35 val_main_v60 val_main_v61 val_main_v62 val_main_v63 val_main_v59 val_main_v55)

variable (m : (ℓ : Loc nD τ sig) → Buf (Elt Ideal) ℓ)

/-- At point `t` the row tiles are the `t`-th; weights, bias and the accumulated results are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![t.val, 0] ∧ win0_8.index t = ![0, 0] ∧ win0_9.index t = ![t.val, 0] ∧ win0_10.index t = ![t.val, 0]
    ∧ win0_11.index t = ![t.val, 0] ∧ win0_12.index t = ![0, 0] ∧ win0_13.index t = ![0, 0] ∧ win0_14.index t = ![0, 0]
    ∧ win0_15.index t = ![t.val, 0] ∧ win0_16.index t = ![0, 0] :=
  (by decide +kernel : ∀ t : Fin grid0.N, _)

section Blocks

variable (c : Dev nD) (t : Fin cfg0.N) (a : Fin 256) (R : Fin 8192) (hR : R.val = t.val * 256 + a.val)

include hR

theorem blk0 (e : Fin 1024) : iblk m c 0 t (ix2 a e) = m ((c : Thread nD τ).loc main_arg0) (ix2 R e) := by
  blk_point [iblk, V, idx t]

theorem blk1 (e : Fin 512) : iblk m c 1 t (ix2 a e) = m ((c : Thread nD τ).loc main_arg1) (ix2 R e) := by
  blk_point [iblk, V, idx t]

theorem blk2 (e : Fin 256) : iblk m c 2 t (ix2 a e) = m ((c : Thread nD τ).loc main_arg2) (ix2 R e) := by
  blk_point [iblk, V, idx t]

theorem blk3 (e : Fin 512) : iblk m c 3 t (ix2 a e) = m ((c : Thread nD τ).loc main_arg3) (ix2 R e) := by
  blk_point [iblk, V, idx t]

theorem blk7 (e : Fin 3072) : iblk m c 7 t (ix2 a e) = m ((c : Thread nD τ).loc main_arg7) (ix2 R e) := by
  blk_point [iblk, V, idx t]

omit hR

theorem blk8 (e : Fin 3072) : iblk m c 8 t (ix2 0 e) = m ((c : Thread nD τ).loc main_arg8) (ix2 0 e) := by
  blk_point [iblk, V, idx t]

theorem blk4 (k : Fin 1024) (e : Fin 512) : iblk m c 4 t (ix2 k e) = m ((c : Thread nD τ).loc main_arg4) (ix2 e k) := by
  blk_simp [iblk, idx t]
  entry_read
  pointwise []
  exact congrArg _ (by blk_ext [idx t])

theorem blk5 (k : Fin 1024) (e : Fin 256) : iblk m c 5 t (ix2 k e) = m ((c : Thread nD τ).loc main_arg5) (ix2 e k) := by
  blk_simp [iblk, idx t]
  entry_read
  pointwise []
  exact congrArg _ (by blk_ext [idx t])

theorem blk6 (k : Fin 1024) (e : Fin 512) : iblk m c 6 t (ix2 k e) = m ((c : Thread nD τ).loc main_arg6) (ix2 e k) := by
  blk_simp [iblk, idx t]
  entry_read
  pointwise []
  exact congrArg _ (by blk_ext [idx t])

end Blocks

/-- A point's gates are the reference's. -/
theorem gate_point (c : Dev nD) (t : Fin cfg0.N) (a : Fin 256) (R : Fin 8192) (hR : R.val = t.val * 256 + a.val) (e : Fin 3072) :
    k0_pay8 (F := Ideal) (iblk m c 7 t) (iblk m c 8 t) (ix2 a e)
      = val_main_v10 (F := Ideal) (m ((c : Thread nD τ).loc main_arg7)) (m ((c : Thread nD τ).loc main_arg8)) (ix2 R e) := by
  rw [pay8_eq, v10_eq, blk7 m c t a R hR, blk8]

section Points

variable (c : Dev nD) (t : Fin cfg0.N) (a : Fin 256) (R : Fin 8192) (hR : R.val = t.val * 256 + a.val)

include hR

/-- A point's gradients of the three branches' outputs are the reference's. -/
theorem ds_point (e : Fin 512) : k0_pay12 (F := Ideal) (iblk m c 7 t) (iblk m c 8 t) (iblk m c 0 t) (iblk m c 4 t) (ix2 a e)
    = val_main_v50 (F := Ideal) (m ((c : Thread nD τ).loc main_arg0)) (m ((c : Thread nD τ).loc main_arg4)) (m ((c : Thread nD τ).loc main_arg7))
        (m ((c : Thread nD τ).loc main_arg8)) (ix2 R e) := by
  rw [pay12_eq, v50_eq]
  exact Finset.sum_congr rfl fun k _ => by rw [gate_point m c t a R hR, v10_eq, blk0 m c t a R hR, blk4]

theorem da_point (e : Fin 256) : k0_pay20 (F := Ideal) (k0_pay8 (F := Ideal) (iblk m c 7 t) (iblk m c 8 t)) (iblk m c 0 t) (iblk m c 5 t) (ix2 a e)
    = val_main_v42 (F := Ideal) (m ((c : Thread nD τ).loc main_arg0)) (m ((c : Thread nD τ).loc main_arg5)) (m ((c : Thread nD τ).loc main_arg7))
        (m ((c : Thread nD τ).loc main_arg8)) (ix2 R e) := by
  rw [pay20_eq, v42_eq]
  exact Finset.sum_congr rfl fun k _ => by rw [gate_point m c t a R hR, v10_eq, blk0 m c t a R hR, blk5]

theorem dm_point (e : Fin 512) : k0_pay29 (F := Ideal) (k0_pay8 (F := Ideal) (iblk m c 7 t) (iblk m c 8 t)) (iblk m c 0 t) (iblk m c 6 t) (ix2 a e)
    = val_main_v35 (F := Ideal) (m ((c : Thread nD τ).loc main_arg0)) (m ((c : Thread nD τ).loc main_arg6)) (m ((c : Thread nD τ).loc main_arg7))
        (m ((c : Thread nD τ).loc main_arg8)) (ix2 R e) := by
  rw [pay29_eq, v35_eq]
  exact Finset.sum_congr rfl fun k _ => by rw [gate_point m c t a R hR, v10_eq, blk0 m c t a R hR, blk6]

end Points

/-- The reference's gradient of the gate logits over the argument arrays. -/
abbrev dz (c : Dev nD) : S8192x3072.Idx → EReal :=
  val_main_v55 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

section Logits

variable (c : Dev nD) (t : Fin cfg0.N) (a : Fin 256) (R : Fin 8192) (hR : R.val = t.val * 256 + a.val)

include hR

/-- A point's gradient of the gate logits, branch by branch, is the reference's. -/
theorem dz_first (e : Fin 1024) : k0_pay14 (F := Ideal) (iblk m c 0 t) (k0_pay9 (F := Ideal) (iblk m c 7 t) (iblk m c 8 t))
    (k0_pay10 (F := Ideal) (iblk m c 1 t) (iblk m c 4 t)) (ix2 a e) = dz m c (ix2 R ⟨e.val, by omega⟩) := by
  rw [pay14_eq, pay9_eq, pay10_eq, gate_point m c t a R hR, v10_eq, blk0 m c t a R hR]
  refine Eq.trans ?_ (v55_first _ _ _ _ _ _ _ _ _ R e).symm
  simp only [blk1 m c t a R hR, blk4]

theorem dz_second (e : Fin 1024) : k0_pay23 (F := Ideal) (k0_pay17 (F := Ideal) (k0_pay8 (F := Ideal) (iblk m c 7 t) (iblk m c 8 t)))
    (k0_pay22 (F := Ideal) (k0_pay8 (F := Ideal) (iblk m c 7 t) (iblk m c 8 t)) (iblk m c 0 t) (iblk m c 2 t) (iblk m c 5 t)) (ix2 a e)
    = dz m c (ix2 R ⟨1024 + e.val, by omega⟩) := by
  rw [pay23_eq, gate_point m c t a R hR, v10_eq, blk0 m c t a R hR]
  refine Eq.trans ?_ (v55_second _ _ _ _ _ _ _ _ _ R e).symm
  simp only [blk2 m c t a R hR, blk5]

theorem dz_third (e : Fin 1024) : k0_pay1 (F := Ideal)
    (k0_pay31 (F := Ideal) (k0_pay8 (F := Ideal) (iblk m c 7 t) (iblk m c 8 t)) (iblk m c 0 t) (iblk m c 3 t) (iblk m c 6 t))
    (k0_pay32 (F := Ideal) (k0_pay8 (F := Ideal) (iblk m c 7 t) (iblk m c 8 t))) (ix2 a e)
    = dz m c (ix2 R ⟨2048 + e.val, by omega⟩) := by
  rw [pay1_eq, gate_point m c t a R hR, v10_eq, blk0 m c t a R hR]
  refine Eq.trans ?_ (v55_third _ _ _ _ _ _ _ _ _ R e).symm
  simp only [blk3 m c t a R hR, blk6]

end Logits

/-- The gradient of the first branch's outputs. -/
theorem final9 (c : Dev nD) : (dats m 0 c).arrAt 9 cfg0.N
    = val_main_v50 (F := Ideal) (m ((c : Thread nD τ).loc main_arg0)) (m ((c : Thread nD τ).loc main_arg4)) (m ((c : Thread nD τ).loc main_arg7)) (m ((c : Thread nD τ).loc main_arg8)) := by
  refine (dats m 0 c).arrAt_eq_of_covers 9 _ (by decide +kernel) fun t _ y => ?_
  have ht : t.val < 32 := lt_of_lt_of_eq t.isLt N_0
  blk_simp
  rw [after0_9]
  idx_vars y
  have p := ds_point m c t y0 ⟨t.val * 256 + y0.val, by omega⟩ rfl y1
  have e : ((View.whole main_v6_0).slice (win0_9.rect t)).emb (ix2 y0 y1) = ix2 (⟨t.val * 256 + y0.val, by omega⟩ : Fin 8192) y1 := by
    blk_ext [idx t]
  rw [← e] at p
  by_cases h0 : t.val % 32 = 0
  · rw [outsAt0_A m c t h0]; frame_out; exact p
  · rw [outsAt0_B m c t h0]; frame_out; exact p

/-- The gradient of the second branch's outputs. -/
theorem final10 (c : Dev nD) : (dats m 0 c).arrAt 10 cfg0.N
    = val_main_v42 (F := Ideal) (m ((c : Thread nD τ).loc main_arg0)) (m ((c : Thread nD τ).loc main_arg5)) (m ((c : Thread nD τ).loc main_arg7)) (m ((c : Thread nD τ).loc main_arg8)) := by
  refine (dats m 0 c).arrAt_eq_of_covers 10 _ (by decide +kernel) fun t _ y => ?_
  have ht : t.val < 32 := lt_of_lt_of_eq t.isLt N_0
  blk_simp
  rw [after0_10]
  idx_vars y
  have p := da_point m c t y0 ⟨t.val * 256 + y0.val, by omega⟩ rfl y1
  have e : ((View.whole main_v6_1).slice (win0_10.rect t)).emb (ix2 y0 y1) = ix2 (⟨t.val * 256 + y0.val, by omega⟩ : Fin 8192) y1 := by
    blk_ext [idx t]
  rw [← e] at p
  by_cases h0 : t.val % 32 = 0
  · rw [outsAt0_A m c t h0]; frame_out; exact p
  · rw [outsAt0_B m c t h0]; frame_out; exact p

/-- The gradient of the third branch's outputs. -/
theorem final11 (c : Dev nD) : (dats m 0 c).arrAt 11 cfg0.N
    = val_main_v35 (F := Ideal) (m ((c : Thread nD τ).loc main_arg0)) (m ((c : Thread nD τ).loc main_arg6)) (m ((c : Thread nD τ).loc main_arg7)) (m ((c : Thread nD τ).loc main_arg8)) := by
  refine (dats m 0 c).arrAt_eq_of_covers 11 _ (by decide +kernel) fun t _ y => ?_
  have ht : t.val < 32 := lt_of_lt_of_eq t.isLt N_0
  blk_simp
  rw [after0_11]
  idx_vars y
  have p := dm_point m c t y0 ⟨t.val * 256 + y0.val, by omega⟩ rfl y1
  have e : ((View.whole main_v6_2).slice (win0_11.rect t)).emb (ix2 y0 y1) = ix2 (⟨t.val * 256 + y0.val, by omega⟩ : Fin 8192) y1 := by
    blk_ext [idx t]
  rw [← e] at p
  by_cases h0 : t.val % 32 = 0
  · rw [outsAt0_A m c t h0]; frame_out; exact p
  · rw [outsAt0_B m c t h0]; frame_out; exact p

/-- The gradient of the first branch's weight, the thirty-two tiles' outer products added up. -/
theorem final12 (c : Dev nD) : (dats m 0 c).arrAt 12 cfg0.N
    = val_main_v60 (F := Ideal) (m ((c : Thread nD τ).loc main_arg0)) (m ((c : Thread nD τ).loc main_arg1)) (m ((c : Thread nD τ).loc main_arg7)) (m ((c : Thread nD τ).loc main_arg8)) := by
  refine (dats m 0 c).arrAt_eq_of_covers 12 _ (by decide +kernel) fun t hf y => ?_
  have ht : t.val < 32 := lt_of_lt_of_eq t.isLt N_0
  blk_simp
  have hpay : ∀ (Z : FVec Ideal S256x3072 .f32) (B : FVec Ideal S1x3072 .f32) (M : FVec Ideal S256x1024 .f32) (X : FVec Ideal S256x512 .bf16) (A : FVec Ideal S1024x512 .f32) (j : S1024x512.Idx),
      k0_pay13 (F := Ideal) Z B M X A j
        = A j + ∑ r : Fin 256, M (ix2 r (j 0)) * k0_pay8 (F := Ideal) Z B (ix2 r ⟨(j 0).val, lt_of_lt_of_le (j 0).isLt (by decide)⟩) * X (ix2 r (j 1)) := by
    intro Z B M X A j; idx_vars j; exact pay13_eq M Z B X A j0 j1
  rw [after0_12, Pipeline.eq_sum_fin_of_reset_step_apply_of_flush (fun n h => (outsAt0 m c n h).2.2.2.1) 32 (fun _ => 0) _
    (fun t h j => by rw [outsAt0_A m c t h]; frame_out; rw [hpay, pay4_eq])
    (fun t h j => by rw [outsAt0_B m c t h]; frame_out; rw [hpay])
    t ((flush0_12 t).mp hf) _, zero_add]
  idx_vars y
  have e : ((View.whole main_v6_3).slice (win0_12.rect t)).emb (ix2 y0 y1) = ix2 y0 y1 := by
    blk_ext [idx t]
  rw [e, v60_eq]
  refine Fin.sum_mul_add_congr fun s a hl => ?_
  have hs := Pipeline.run_point_lt_of_flush t ((flush0_12 t).mp hf) s
  have hr : s.val * 256 + a.val = (32 * (t.val / 32) + s.val) * 256 + a.val := by omega
  have hg := gate_point m c ⟨_, hs⟩ a ⟨s.val * 256 + a.val, hl⟩ hr ⟨y0.val, by omega⟩
  rw [v10_eq] at hg
  exact congrArg₂ (· * ·) (congrArg₂ (· * ·) (blk0 m c ⟨_, hs⟩ a ⟨s.val * 256 + a.val, hl⟩ hr y0) hg)
    (blk1 m c ⟨_, hs⟩ a ⟨s.val * 256 + a.val, hl⟩ hr y1)

/-- The gradient of the second branch's weight. -/
theorem final13 (c : Dev nD) : (dats m 0 c).arrAt 13 cfg0.N
    = val_main_v61 (F := Ideal) (m ((c : Thread nD τ).loc main_arg0)) (m ((c : Thread nD τ).loc main_arg2)) (m ((c : Thread nD τ).loc main_arg7)) (m ((c : Thread nD τ).loc main_arg8)) := by
  refine (dats m 0 c).arrAt_eq_of_covers 13 _ (by decide +kernel) fun t hf y => ?_
  have ht : t.val < 32 := lt_of_lt_of_eq t.isLt N_0
  blk_simp
  have hpay : ∀ (V : FVec Ideal S256x3072 .f32) (M : FVec Ideal S256x1024 .f32) (X : FVec Ideal S256x256 .f32) (A : FVec Ideal S1024x256 .f32) (j : S1024x256.Idx),
      k0_pay21 (F := Ideal) V M X A j
        = A j + ∑ r : Fin 256, M (ix2 r (j 0)) * V (ix2 r ⟨1024 + (j 0).val, by have : (j 0).val < 1024 := (j 0).isLt; omega⟩) * X (ix2 r (j 1)) := by
    intro V M X A j; idx_vars j; exact pay21_eq M V X A j0 j1
  rw [after0_13, Pipeline.eq_sum_fin_of_reset_step_apply_of_flush (fun n h => (outsAt0 m c n h).2.2.2.2.1) 32 (fun _ => 0) _
    (fun t h j => by rw [outsAt0_A m c t h]; frame_out; rw [hpay, pay5_eq])
    (fun t h j => by rw [outsAt0_B m c t h]; frame_out; rw [hpay])
    t ((flush0_13 t).mp hf) _, zero_add]
  idx_vars y
  have e : ((View.whole main_v6_4).slice (win0_13.rect t)).emb (ix2 y0 y1) = ix2 y0 y1 := by
    blk_ext [idx t]
  rw [e, v61_eq]
  refine Fin.sum_mul_add_congr fun s a hl => ?_
  have hs := Pipeline.run_point_lt_of_flush t ((flush0_13 t).mp hf) s
  have hr : s.val * 256 + a.val = (32 * (t.val / 32) + s.val) * 256 + a.val := by omega
  have hg := gate_point m c ⟨_, hs⟩ a ⟨s.val * 256 + a.val, hl⟩ hr ⟨1024 + y0.val, by omega⟩
  rw [v10_eq] at hg
  exact congrArg₂ (· * ·) (congrArg₂ (· * ·) (blk0 m c ⟨_, hs⟩ a ⟨s.val * 256 + a.val, hl⟩ hr y0) hg)
    (blk2 m c ⟨_, hs⟩ a ⟨s.val * 256 + a.val, hl⟩ hr y1)

/-- The gradient of the third branch's weight. -/
theorem final14 (c : Dev nD) : (dats m 0 c).arrAt 14 cfg0.N
    = val_main_v62 (F := Ideal) (m ((c : Thread nD τ).loc main_arg0)) (m ((c : Thread nD τ).loc main_arg3)) (m ((c : Thread nD τ).loc main_arg7)) (m ((c : Thread nD τ).loc main_arg8)) := by
  refine (dats m 0 c).arrAt_eq_of_covers 14 _ (by decide +kernel) fun t hf y => ?_
  have ht : t.val < 32 := lt_of_lt_of_eq t.isLt N_0
  blk_simp
  have hpay : ∀ (V : FVec Ideal S256x3072 .f32) (M : FVec Ideal S256x1024 .f32) (X : FVec Ideal S256x512 .f32) (A : FVec Ideal S1024x512 .f32) (j : S1024x512.Idx),
      k0_pay30 (F := Ideal) V M X A j
        = A j + ∑ r : Fin 256, M (ix2 r (j 0)) * V (ix2 r ⟨2048 + (j 0).val, by have : (j 0).val < 1024 := (j 0).isLt; omega⟩) * X (ix2 r (j 1)) := by
    intro V M X A j; idx_vars j; exact pay30_eq M V X A j0 j1
  rw [after0_14, Pipeline.eq_sum_fin_of_reset_step_apply_of_flush (fun n h => (outsAt0 m c n h).2.2.2.2.2.1) 32 (fun _ => 0) _
    (fun t h j => by rw [outsAt0_A m c t h]; frame_out; rw [hpay, pay6_eq])
    (fun t h j => by rw [outsAt0_B m c t h]; frame_out; rw [hpay])
    t ((flush0_14 t).mp hf) _, zero_add]
  idx_vars y
  have e : ((View.whole main_v6_5).slice (win0_14.rect t)).emb (ix2 y0 y1) = ix2 y0 y1 := by
    blk_ext [idx t]
  rw [e, v62_eq]
  refine Fin.sum_mul_add_congr fun s a hl => ?_
  have hs := Pipeline.run_point_lt_of_flush t ((flush0_14 t).mp hf) s
  have hr : s.val * 256 + a.val = (32 * (t.val / 32) + s.val) * 256 + a.val := by omega
  have hg := gate_point m c ⟨_, hs⟩ a ⟨s.val * 256 + a.val, hl⟩ hr ⟨2048 + y0.val, by omega⟩
  rw [v10_eq] at hg
  exact congrArg₂ (· * ·) (congrArg₂ (· * ·) (blk0 m c ⟨_, hs⟩ a ⟨s.val * 256 + a.val, hl⟩ hr y0) hg)
    (blk3 m c ⟨_, hs⟩ a ⟨s.val * 256 + a.val, hl⟩ hr y1)

set_option maxHeartbeats 1600000 in
/-- The gradient of the gate logits. -/
theorem final15 (c : Dev nD) : (dats m 0 c).arrAt 15 cfg0.N = dz m c := by
  refine (dats m 0 c).arrAt_eq_of_covers 15 _ (by decide +kernel) fun t _ y => ?_
  have ht : t.val < 32 := lt_of_lt_of_eq t.isLt N_0
  blk_simp
  rw [after0_15]
  idx_vars y
  by_cases q : t.val % 32 = 0
  on_goal 1 => rw [outsAt0_A m c t q]
  on_goal 2 => rw [outsAt0_B m c t q]
  all_goals
    frame_out
    canon_tiles x h
    case piece0 =>
      idx_vars x
      have e : ((View.whole main_v6_6).slice (win0_15.rect t)).emb (ix2 y0 y1) = ix2 (⟨t.val * 256 + x0.val, by omega⟩ : Fin 8192) (⟨2048 + x1.val, by omega⟩ : Fin 3072) := by
        blk_ext [idx t]
      rw [e, pay2_eq]; exact dz_third m c t x0 _ rfl x1
    case piece1 =>
      idx_vars x
      have e : ((View.whole main_v6_6).slice (win0_15.rect t)).emb (ix2 y0 y1) = ix2 (⟨t.val * 256 + x0.val, by omega⟩ : Fin 8192) (⟨1024 + x1.val, by omega⟩ : Fin 3072) := by
        blk_ext [idx t]
      rw [e, pay24_eq]; exact dz_second m c t x0 _ rfl x1
    case piece2 =>
      idx_vars x
      have e : ((View.whole main_v6_6).slice (win0_15.rect t)).emb (ix2 y0 y1) = ix2 (⟨t.val * 256 + x0.val, by omega⟩ : Fin 8192) (⟨x1.val, by omega⟩ : Fin 3072) := by
        blk_ext [idx t]
      rw [e, pay15_eq]; exact dz_first m c t x0 _ rfl x1

/-- What a run of stores leaves at a place the later ones cover does not depend on the earlier ones. -/
theorem canon_prefix {Val : EltTy → Type} [∀ e, Nonempty (Val e)] {S : Shape} {e : EltTy} (L' : List (View.Piece Val S e)) :
    ∀ (L : List (View.Piece Val S e)) (y : S.Idx), (∃ p ∈ L, y ∈ p.1.set) → View.canon (L ++ L') y = View.canon L y
  | [], _, h => by obtain ⟨p, hp, _⟩ := h; exact absurd hp List.not_mem_nil
  | p :: L, y, h => by
    rw [List.cons_append]
    by_cases hm : y ∈ p.1.set
    · obtain ⟨x, rfl⟩ := p.1.exists_idx_of_mem hm
      exact (View.canon_cons_emb p.1 p.2 (L ++ L') x).trans (View.canon_cons_emb p.1 p.2 L x).symm
    · rw [View.canon_cons_of_not_mem _ _ hm, View.canon_cons_of_not_mem _ _ hm]
      obtain ⟨q, hq, hy⟩ := h
      rcases List.mem_cons.mp hq with rfl | hq
      · exact absurd hy hm
      · exact canon_prefix L' L y ⟨q, hq, hy⟩

section Bias

variable (c : Dev nD) (t : Fin cfg0.N) (j : S1x3072.Idx) (A : FVec Ideal S1x1024 .f32) (b : EReal) (z : Fin 1) (e : Fin 1024)

/-- A point adds to each column piece of the bias gradient the tile's column sums. -/
theorem db_first (h : (j 1).val = e.val) (hA : A (ix2 z e) = b) :
    k0_pay16 (F := Ideal) (iblk m c 0 t) (k0_pay9 (F := Ideal) (iblk m c 7 t) (iblk m c 8 t)) (k0_pay10 (F := Ideal) (iblk m c 1 t) (iblk m c 4 t)) A (ix2 z e)
      = b + ∑ r : Fin 256, dz m c (ix2 ⟨t.val * 256 + r.val, by have := lt_of_lt_of_eq t.isLt N_0; omega⟩ (j 1)) := by
  rw [pay16_eq, hA]
  exact congrArg (b + ·) (Finset.sum_congr rfl fun r _ => (dz_first m c t r ⟨t.val * 256 + r.val, _⟩ rfl e).trans (congrArg (fun k => dz m c (ix2 _ k)) (Fin.ext h.symm)))

theorem db_second (h : (j 1).val = 1024 + e.val) (hA : A (ix2 z e) = b) :
    k0_pay25 (F := Ideal) (k0_pay17 (F := Ideal) (k0_pay8 (F := Ideal) (iblk m c 7 t) (iblk m c 8 t))) (k0_pay22 (F := Ideal) (k0_pay8 (F := Ideal) (iblk m c 7 t) (iblk m c 8 t)) (iblk m c 0 t) (iblk m c 2 t) (iblk m c 5 t)) A (ix2 z e)
      = b + ∑ r : Fin 256, dz m c (ix2 ⟨t.val * 256 + r.val, by have := lt_of_lt_of_eq t.isLt N_0; omega⟩ (j 1)) := by
  rw [pay25_eq, hA]
  exact congrArg (b + ·) (Finset.sum_congr rfl fun r _ => (dz_second m c t r ⟨t.val * 256 + r.val, _⟩ rfl e).trans (congrArg (fun k => dz m c (ix2 _ k)) (Fin.ext h.symm)))

theorem db_third (h : (j 1).val = 2048 + e.val) (hA : A (ix2 z e) = b) :
    k0_pay3 (F := Ideal) (k0_pay31 (F := Ideal) (k0_pay8 (F := Ideal) (iblk m c 7 t) (iblk m c 8 t)) (iblk m c 0 t) (iblk m c 3 t) (iblk m c 6 t)) (k0_pay32 (F := Ideal) (k0_pay8 (F := Ideal) (iblk m c 7 t) (iblk m c 8 t))) A (ix2 z e)
      = b + ∑ r : Fin 256, dz m c (ix2 ⟨t.val * 256 + r.val, by have := lt_of_lt_of_eq t.isLt N_0; omega⟩ (j 1)) := by
  rw [pay3_eq, hA]
  exact congrArg (b + ·) (Finset.sum_congr rfl fun r _ => (dz_third m c t r ⟨t.val * 256 + r.val, _⟩ rfl e).trans (congrArg (fun k => dz m c (ix2 _ k)) (Fin.ext h.symm)))

end Bias

set_option maxHeartbeats 1600000 in
/-- The gate's bias gradient: the thirty-two tiles' column sums added up. -/
theorem final16 (c : Dev nD) : (dats m 0 c).arrAt 16 cfg0.N
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 16 _ (by decide +kernel) fun t hf y => ?_
  have ht : t.val < 32 := lt_of_lt_of_eq t.isLt N_0
  blk_simp
  rw [after0_16, Pipeline.eq_sum_fin_of_reset_step_apply_of_flush (fun n h => (outsAt0 m c n h).2.2.2.2.2.2.2) 32 (fun _ => 0)
    (fun p j => ∑ r : Fin 256, dz m c (ix2 ⟨p.val * 256 + r.val, by have := lt_of_lt_of_eq p.isLt N_0; omega⟩ (j 1)))
    (fun t h j => by
      rw [outsAt0_A m c t h]; frame_out
      simp (disch := decide) only [View.readCov_skip, View.readCov_fill]
      have b0 : (j 0).val < 1 := (j 0).isLt
      have b1 : (j 1).val < 3072 := (j 1).isLt
      refine (canon_prefix [_] [_, _, _] j ?_).trans ?_
      · simp [Rect.mem_set_unit, Fin.forall_fin_two]; omega
      canon_tiles x h
      case piece0 => idx_vars x; exact db_third m c t j _ _ x0 x1 h1 (pay7_eq _)
      case piece1 => idx_vars x; exact db_second m c t j _ _ x0 x1 h1 (pay7_eq _)
      case piece2 => idx_vars x; exact db_first m c t j _ _ x0 x1 h1 (pay7_eq _))
    (fun t h j => by
      rw [outsAt0_B m c t h]; frame_out
      canon_tiles x h
      case piece0 => idx_vars x; exact db_third m c t j _ _ x0 x1 h1 (congrArg (outsAt0 m c (t.val - 1) _).2.2.2.2.2.2.2 (show _ = j by blk_ext; show 2048 + 1 * x1.val = (j 1).val; omega))
      case piece1 => idx_vars x; exact db_second m c t j _ _ x0 x1 h1 (congrArg (outsAt0 m c (t.val - 1) _).2.2.2.2.2.2.2 (show _ = j by blk_ext; show 1024 + 1 * x1.val = (j 1).val; omega))
      case piece2 => idx_vars x; exact db_first m c t j _ _ x0 x1 h1 (congrArg (outsAt0 m c (t.val - 1) _).2.2.2.2.2.2.2 (show _ = j by blk_ext; show 0 + 1 * x1.val = (j 1).val; omega)))
    t ((flush0_16 t).mp hf) _, zero_add]
  idx_vars y
  have e : ((View.whole main_v6_7).slice (win0_16.rect t)).emb (ix2 y0 y1) = ix2 y0 y1 := by
    blk_ext [idx t]
  rw [e, v59_eq]
  refine Fin.sum_mul_add_congr fun s a hl => ?_
  exact congrArg (fun r => dz m c (ix2 r y1)) (Fin.ext (by show (32 * (t.val / 32) + s.val) * 256 + a.val = s.val * 256 + a.val; omega))

/-- The reference's gradient of the gate logits, in the same form. -/
theorem dz_eq (c : Dev nD) : Cert.BranchMergeBwdRefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = dz m c := by
  funext i
  idx_vars i
  exact v63_eq _ _ _ _ _ _ _ _ _ i0 i1

set_option maxHeartbeats 1600000 in
/-- The kernel's eight results are the eight gradients of the reference's gated sum. -/
theorem algebraic : Cert.algebraic_BranchMergeBwdIdeal_BranchMergeBwdRefIdeal := by
  pair_intro
  · run_from Cert.BranchMergeBwdIdeal.Gen.run_main m g
    exact hc.1 16
  · run_from Cert.BranchMergeBwdRefIdeal.Value.run m' g'
    all_goals obtain ⟨a0, a1, a2, a3, a4, a5, a6, a7, a8⟩ := hagree c
    · rw [final9, ← a0, ← a4, ← a7, ← a8]
      have e := Cert.BranchMergeBwdRefIdeal.Read.val_main_v50_eq (F := Ideal) (m' ((c : Thread nD τ).loc Cert.BranchMergeBwdRefIdeal.main_arg0)) (m' ((c : Thread nD τ).loc Cert.BranchMergeBwdRefIdeal.main_arg4)) (m' ((c : Thread nD τ).loc Cert.BranchMergeBwdRefIdeal.main_arg7)) (m' ((c : Thread nD τ).loc Cert.BranchMergeBwdRefIdeal.main_arg8))
      simp only [Ideal.dotGeneral_def] at e
      exact e
    · rw [final10, ← a0, ← a5, ← a7, ← a8]
      have e := Cert.BranchMergeBwdRefIdeal.Read.val_main_v42_eq (F := Ideal) (m' ((c : Thread nD τ).loc Cert.BranchMergeBwdRefIdeal.main_arg0)) (m' ((c : Thread nD τ).loc Cert.BranchMergeBwdRefIdeal.main_arg5)) (m' ((c : Thread nD τ).loc Cert.BranchMergeBwdRefIdeal.main_arg7)) (m' ((c : Thread nD τ).loc Cert.BranchMergeBwdRefIdeal.main_arg8))
      simp only [Ideal.dotGeneral_def] at e
      exact e
    · rw [final11, ← a0, ← a6, ← a7, ← a8]
      have e := Cert.BranchMergeBwdRefIdeal.Read.val_main_v35_eq (F := Ideal) (m' ((c : Thread nD τ).loc Cert.BranchMergeBwdRefIdeal.main_arg0)) (m' ((c : Thread nD τ).loc Cert.BranchMergeBwdRefIdeal.main_arg6)) (m' ((c : Thread nD τ).loc Cert.BranchMergeBwdRefIdeal.main_arg7)) (m' ((c : Thread nD τ).loc Cert.BranchMergeBwdRefIdeal.main_arg8))
      simp only [Ideal.dotGeneral_def] at e
      exact e
    · rw [final12, ← a0, ← a1, ← a7, ← a8]
      have e := Cert.BranchMergeBwdRefIdeal.Read.val_main_v60_eq (F := Ideal) (m' ((c : Thread nD τ).loc Cert.BranchMergeBwdRefIdeal.main_arg0)) (m' ((c : Thread nD τ).loc Cert.BranchMergeBwdRefIdeal.main_arg1)) (m' ((c : Thread nD τ).loc Cert.BranchMergeBwdRefIdeal.main_arg7)) (m' ((c : Thread nD τ).loc Cert.BranchMergeBwdRefIdeal.main_arg8))
      simp only [Ideal.dotGeneral_def] at e
      exact e
    · rw [final13, ← a0, ← a2, ← a7, ← a8]
      have e := Cert.BranchMergeBwdRefIdeal.Read.val_main_v61_eq (F := Ideal) (m' ((c : Thread nD τ).loc Cert.BranchMergeBwdRefIdeal.main_arg0)) (m' ((c : Thread nD τ).loc Cert.BranchMergeBwdRefIdeal.main_arg2)) (m' ((c : Thread nD τ).loc Cert.BranchMergeBwdRefIdeal.main_arg7)) (m' ((c : Thread nD τ).loc Cert.BranchMergeBwdRefIdeal.main_arg8))
      simp only [Ideal.dotGeneral_def] at e
      exact e
    · rw [final14, ← a0, ← a3, ← a7, ← a8]
      have e := Cert.BranchMergeBwdRefIdeal.Read.val_main_v62_eq (F := Ideal) (m' ((c : Thread nD τ).loc Cert.BranchMergeBwdRefIdeal.main_arg0)) (m' ((c : Thread nD τ).loc Cert.BranchMergeBwdRefIdeal.main_arg3)) (m' ((c : Thread nD τ).loc Cert.BranchMergeBwdRefIdeal.main_arg7)) (m' ((c : Thread nD τ).loc Cert.BranchMergeBwdRefIdeal.main_arg8))
      simp only [Ideal.dotGeneral_def] at e
      exact e
    · rw [final15, ← dz_eq, ← a0, ← a1, ← a2, ← a3, ← a4, ← a5, ← a6, ← a7, ← a8]
      have e := Cert.BranchMergeBwdRefIdeal.Read.val_main_v63_eq (F := Ideal) (m' ((c : Thread nD τ).loc Cert.BranchMergeBwdRefIdeal.main_arg0)) (m' ((c : Thread nD τ).loc Cert.BranchMergeBwdRefIdeal.main_arg1)) (m' ((c : Thread nD τ).loc Cert.BranchMergeBwdRefIdeal.main_arg2)) (m' ((c : Thread nD τ).loc Cert.BranchMergeBwdRefIdeal.main_arg3)) (m' ((c : Thread nD τ).loc Cert.BranchMergeBwdRefIdeal.main_arg4)) (m' ((c : Thread nD τ).loc Cert.BranchMergeBwdRefIdeal.main_arg5)) (m' ((c : Thread nD τ).loc Cert.BranchMergeBwdRefIdeal.main_arg6)) (m' ((c : Thread nD τ).loc Cert.BranchMergeBwdRefIdeal.main_arg7)) (m' ((c : Thread nD τ).loc Cert.BranchMergeBwdRefIdeal.main_arg8))
      simp only [Ideal.dotGeneral_def] at e
      exact e
    · rw [final16, ← a0, ← a1, ← a2, ← a3, ← a4, ← a5, ← a6, ← a7, ← a8]
      have e := Cert.BranchMergeBwdRefIdeal.Read.val_main_v59_eq (F := Ideal) (m' ((c : Thread nD τ).loc Cert.BranchMergeBwdRefIdeal.main_arg0)) (m' ((c : Thread nD τ).loc Cert.BranchMergeBwdRefIdeal.main_arg1)) (m' ((c : Thread nD τ).loc Cert.BranchMergeBwdRefIdeal.main_arg2)) (m' ((c : Thread nD τ).loc Cert.BranchMergeBwdRefIdeal.main_arg3)) (m' ((c : Thread nD τ).loc Cert.BranchMergeBwdRefIdeal.main_arg4)) (m' ((c : Thread nD τ).loc Cert.BranchMergeBwdRefIdeal.main_arg5)) (m' ((c : Thread nD τ).loc Cert.BranchMergeBwdRefIdeal.main_arg6)) (m' ((c : Thread nD τ).loc Cert.BranchMergeBwdRefIdeal.main_arg7)) (m' ((c : Thread nD τ).loc Cert.BranchMergeBwdRefIdeal.main_arg8))
      simp only [Ideal.dotGeneral_def] at e
      exact e

end Cert.BranchMergeBwdIdeal.Equation
end
-- ==== Proof.BranchMergeFwd.lean ====
module

public import proofs.«01_k».proof.Defs
public import proofs.«01_k».proof.Proof.BranchMergeRow
public import proofs.«01_k».proof.Proof.Gen.BranchMergeFwdIdeal.Frame
public import proofs.«01_k».proof.Proof.Gen.BranchMergeFwdRefIdeal.Read

/-! The gated sum of the three branches, for all extended reals. -/

@[expose] public section

set_option maxRecDepth 16384

noncomputable section

open Idealize.ShloMosaic Idealize.ShloMosaic.TcCoe Idealize.SL.Sem
open Idealize.ShloMosaic.Pipeline (Dat)

namespace Cert.BranchMergeFwdIdeal.Equation

open Cert.BranchMergeFwdIdeal Cert.BranchMergeFwdIdeal.Gen Cert.Merge
open Cert.Glu (ofBits_half)
open Cert.BranchMergeFwdRefIdeal.Read

/-- Three branches' entries, each behind its gate. -/
def entry (z b : Fin 3072 → EReal) (s a m : EReal) (j : Fin 1024) : EReal :=
  sigE (z ⟨j.val, by omega⟩ + b ⟨j.val, by omega⟩) * s + sigE (z ⟨1024 + j.val, by omega⟩ + b ⟨1024 + j.val, by omega⟩) * a
    + sigE (z ⟨2048 + j.val, by omega⟩ + b ⟨2048 + j.val, by omega⟩) * m

theorem pay1_eq (Z : FVec Ideal S256x3072 .f32) (B : FVec Ideal S1x3072 .f32) (S : FVec Ideal S256x512 .bf16) (WS : FVec Ideal S1024x512 .bf16)
    (A : FVec Ideal S256x256 .f32) (WA : FVec Ideal S1024x256 .bf16) (M : FVec Ideal S256x512 .f32) (WM : FVec Ideal S1024x512 .bf16)
    (a : Fin 256) (j : Fin 1024) : k0_pay1 (F := Ideal) Z B S WS A WA M WM (ix2 a j)
      = entry (fun k => Z (ix2 a k)) (fun k => B (ix2 0 k)) (∑ k : Fin 512, S (ix2 a k) * WS (ix2 j k)) (∑ k : Fin 256, A (ix2 a k) * WA (ix2 j k))
          (∑ k : Fin 512, M (ix2 a k) * WM (ix2 j k)) j := by
  unfold entry
  simp only [← half_tanhE, ← ofBits_half]
  pointwise [k0_pay1]

theorem v26_eq (S : FVec Ideal S8192x512 .bf16) (A : FVec Ideal S8192x256 .f32) (M : FVec Ideal S8192x512 .f32) (WS : FVec Ideal S512x1024 .f32)
    (WA : FVec Ideal S256x1024 .f32) (WM : FVec Ideal S512x1024 .f32) (Z : FVec Ideal S8192x3072 .f32) (B : FVec Ideal S1x3072 .f32)
    (a : Fin 8192) (j : Fin 1024) : val_main_v26 (F := Ideal) S A M WS WA WM Z B (ix2 a j)
      = entry (fun k => Z (ix2 a k)) (fun k => B (ix2 0 k)) (∑ k : Fin 512, S (ix2 a k) * WS (ix2 k j)) (∑ k : Fin 256, A (ix2 a k) * WA (ix2 k j))
          (∑ k : Fin 512, M (ix2 a k) * WM (ix2 k j)) j := by
  unfold entry sigE
  pointwise [val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_cst_0,
    val_main_v7, val_main_v6, val_main_cst, val_main_v5, val_main_v4, val_main_v3, val_main_v2, val_main_v1, val_main_v0]

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![0, 0] ∧ win0_8.index t = ![t.val, 0] :=
  (by decide +kernel : ∀ t : Fin grid0.N, _)

section Blocks

variable (c : Dev nD) (t : Fin cfg0.N) (a : Fin 256) (R : Fin 8192) (hR : R.val = t.val * 256 + a.val)

include hR

theorem blk0 (e : Fin 512) : iblk m c 0 t (ix2 a e) = m ((c : Thread nD τ).loc main_arg0) (ix2 R e) := by
  blk_point [iblk, V, idx t]

theorem blk1 (e : Fin 256) : iblk m c 1 t (ix2 a e) = m ((c : Thread nD τ).loc main_arg1) (ix2 R e) := by
  blk_point [iblk, V, idx t]

theorem blk2 (e : Fin 512) : iblk m c 2 t (ix2 a e) = m ((c : Thread nD τ).loc main_arg2) (ix2 R e) := by
  blk_point [iblk, V, idx t]

theorem blk6 (e : Fin 3072) : iblk m c 6 t (ix2 a e) = m ((c : Thread nD τ).loc main_arg6) (ix2 R e) := by
  blk_point [iblk, V, idx t]

omit hR

theorem blk7 (e : Fin 3072) : iblk m c 7 t (ix2 0 e) = m ((c : Thread nD τ).loc main_arg7) (ix2 0 e) := by
  blk_point [iblk, V, idx t]

theorem blk3 (k : Fin 1024) (e : Fin 512) : iblk m c 3 t (ix2 k e) = m ((c : Thread nD τ).loc main_arg3) (ix2 e k) := by
  blk_simp [iblk, idx t]
  entry_read
  pointwise []
  exact congrArg _ (by blk_ext [idx t])

theorem blk4 (k : Fin 1024) (e : Fin 256) : iblk m c 4 t (ix2 k e) = m ((c : Thread nD τ).loc main_arg4) (ix2 e k) := by
  blk_simp [iblk, idx t]
  entry_read
  pointwise []
  exact congrArg _ (by blk_ext [idx t])

theorem blk5 (k : Fin 1024) (e : Fin 512) : iblk m c 5 t (ix2 k e) = m ((c : Thread nD τ).loc main_arg5) (ix2 e k) := by
  blk_simp [iblk, idx t]
  entry_read
  pointwise []
  exact congrArg _ (by blk_ext [idx t])

end Blocks

/-- The call's result is the reference's gated sum. -/
theorem final8 (c : Dev nD) : (dats m 0 c).arrAt 8 cfg0.N
    = val_main_v26 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  have ht : t.val < 32 := lt_of_lt_of_eq t.isLt N_0
  blk_simp
  rw [after0_8]
  frame_out
  idx_vars y
  have e : ((View.whole main_v6).slice (win0_8.rect t)).emb (ix2 y0 y1) = ix2 (⟨t.val * 256 + y0.val, by omega⟩ : Fin 8192) y1 := by
    blk_ext [idx t]
  rw [e, pay1_eq, v26_eq]
  simp only [blk0 m c t y0 ⟨t.val * 256 + y0.val, by omega⟩ rfl, blk1 m c t y0 ⟨t.val * 256 + y0.val, by omega⟩ rfl,
    blk2 m c t y0 ⟨t.val * 256 + y0.val, by omega⟩ rfl, blk6 m c t y0 ⟨t.val * 256 + y0.val, by omega⟩ rfl, blk3, blk4, blk5, blk7]

set_option maxHeartbeats 1600000 in
/-- The kernel's result is the reference's gated sum. -/
theorem algebraic : Cert.algebraic_BranchMergeFwdIdeal_BranchMergeFwdRefIdeal := by
  pair_intro
  · run_from Cert.BranchMergeFwdIdeal.Gen.run_main m g
  · run_from Cert.BranchMergeFwdRefIdeal.Value.run m' g'
    obtain ⟨a0, a1, a2, a3, a4, a5, a6, a7⟩ := hagree c
    rw [final8, ← a0, ← a1, ← a2, ← a3, ← a4, ← a5, ← a6, ← a7]
    exact Cert.BranchMergeFwdRefIdeal.Read.val_main_v26_eq _ _ _ _ _ _ _ _

end Cert.BranchMergeFwdIdeal.Equation
end
-- ==== Proof.NormRow.lean ====
module

public import proofs.«01_k».proof.Proof.Rms
public import proofs.«01_k».proof.Proof.Gen.Norm2BwdIdeal.Skeleton
public import proofs.«01_k».proof.Proof.Gen.Norm2BwdRefIdeal.Read
public import proofs.«01_k».proof.Proof.Gen.Norm1BwdIdeal.Skeleton
public import proofs.«01_k».proof.Proof.Gen.Norm1BwdRefIdeal.Read
public import proofs.«01_k».proof.Proof.Gen.LossHeadIdeal.Skeleton
public import proofs.«01_k».proof.Proof.Gen.LossHeadRefIdeal.Read
public import Idealize.ShloMosaic.Lib.Pipeline.ValueKit
public import Idealize.ShloMosaic.Lib.Pointwise

/-! The gradients of the two norms and of the loss through the last norm, row by row: the kernels' stored values and the
references' intermediate arrays as the same functions of a row of real numbers. -/

@[expose] public section

set_option maxRecDepth 16384

noncomputable section

open Idealize.ShloMosaic Idealize.ShloMosaic.TcCoe

namespace Cert.NormRow

open Cert.Reals

/-- The gradient of a normalised row, written by hand. -/
def dx (x g d : Fin 1024 → ℝ) (j : Fin 1024) : ℝ :=
  (Real.sqrt (msq x))⁻¹ * (d j * g j - x j * (Real.sqrt (msq x))⁻¹ * ((∑ k, d k * g k * (x k * (Real.sqrt (msq x))⁻¹)) / 1024))

/-- A normalised row. -/
def xhat (x : Fin 1024 → ℝ) (j : Fin 1024) : ℝ := x j * (Real.sqrt (msq x))⁻¹

/-- A sum over two runs of positions. -/
theorem sum_split {n : ℕ} (a b : ℕ) (h : a + b = n) (f : Fin n → EReal) :
    ∑ i, f i = (∑ i : Fin a, f ⟨i.val, by omega⟩) + ∑ i : Fin b, f ⟨a + i.val, by omega⟩ := by
  subst h
  exact Fin.sum_univ_add f

variable {x g d : Fin 1024 → ℝ} {res : EReal}

section Norm2Kernel

open Cert.Norm2BwdIdeal Cert.Norm2BwdIdeal.Gen

variable {U : FVec Ideal S512x4096 .bf16} {W : FVec Ideal S4096x1024 .bf16} {H R : FVec Ideal S512x1024 .f32} {G : FVec Ideal S1x1024 .f32} {a : Fin 512}

theorem n2_pay2_eq (a : Fin 512) (j : Fin 1024) : k0_pay2 (F := Ideal) U W (ix2 a j) = ∑ k : Fin 4096, U (ix2 a k) * W (ix2 k j) := by
  pointwise [k0_pay2]

theorem n2_pay3_eq (hx : ∀ e, H (ix2 a e) = (x e : EReal)) (z : Fin 1) : k0_pay3 (F := Ideal) H (ix2 a z) = (((Real.sqrt (msq x))⁻¹ : ℝ) : EReal) := by
  pointwise [k0_pay3]
  simp only [hx]
  exact rms_coe x

theorem n2_pay4_eq (hx : ∀ e, H (ix2 a e) = (x e : EReal)) (j : Fin 1024) : k0_pay4 (F := Ideal) H (ix2 a j) = ((xhat x j : ℝ) : EReal) := by
  pointwise [k0_pay4]
  rw [hx, n2_pay3_eq hx, ← EReal.coe_mul]; rfl

theorem n2_pay5_eq (hx : ∀ e, H (ix2 a e) = (x e : EReal)) (hg : ∀ e, G (ix2 0 e) = (g e : EReal))
    (hd : ∀ e, k0_pay2 (F := Ideal) U W (ix2 a e) = (d e : EReal)) (j : Fin 1024) :
    k0_pay5 (F := Ideal) U W H R G (ix2 a j) = ((dx x g d j : ℝ) : EReal) + R (ix2 a j) := by
  pointwise [k0_pay5]
  simp only [hd, hg, n2_pay3_eq hx, n2_pay4_eq hx, ofBits_1024, ← EReal.coe_mul, coe_sum, div_coe_coe _ (show (1024 : ℝ) ≠ 0 by norm_num), ← EReal.coe_sub]
  rfl

/-- A tile's share of the gain's gradient. -/
theorem n2_pay6_eq (z : Fin 1) (j : Fin 1024) : k0_pay6 (F := Ideal) U W H (ix2 z j)
    = ∑ a : Fin 512, k0_pay2 (F := Ideal) U W (ix2 a j) * k0_pay4 (F := Ideal) H (ix2 a j) := by
  pointwise [k0_pay6]

theorem n2_pay1_eq (A B : FVec Ideal S1x1024 .f32) (j : S1x1024.Idx) : k0_pay1 (F := Ideal) A B j = B j + A j := by
  idx_vars j
  pointwise [k0_pay1]

end Norm2Kernel

section Norm2Reference

open Cert.Norm2BwdRefIdeal Cert.Norm2BwdRefIdeal.Read

variable {U : FVec Ideal S8192x4096 .bf16} {W : FVec Ideal S1024x4096 .f32} {H R : FVec Ideal S8192x1024 .f32} {G : FVec Ideal S1x1024 .f32} {a : Fin 8192}

theorem n2_v19_eq (a : Fin 8192) (j : Fin 1024) : val_main_v19 (F := Ideal) U W (ix2 a j) = ∑ k : Fin 4096, U (ix2 a k) * W (ix2 j k) := by
  pointwise [val_main_v19, val_main_v18]

theorem n2_v7_eq (hx : ∀ e, H (ix2 a e) = (x e : EReal)) (z : Fin 1) : val_main_v7 (F := Ideal) H (ix2 a z) = ((msq x : ℝ) : EReal) := by
  pointwise [val_main_v7, val_main_v6, val_main_cst_1, val_main_v5, val_main_v4, val_main_cst_0, val_main_v3, val_main_v2, val_main_cst, val_main_v1]
  simp only [hx]
  exact msq_coe x

theorem n2_v8_eq (hx : ∀ e, H (ix2 a e) = (x e : EReal)) (z : Fin 1) : val_main_v8 (F := Ideal) H (ix2 a z) = (((Real.sqrt (msq x))⁻¹ : ℝ) : EReal) := by
  pointwise [val_main_v8]
  rw [n2_v7_eq hx, rsqrt_pos (msq_pos x)]

theorem n2_v13_eq (hx : ∀ e, H (ix2 a e) = (x e : EReal)) (j : Fin 1024) : val_main_v13 (F := Ideal) H (ix2 a j) = ((xhat x j : ℝ) : EReal) := by
  pointwise [val_main_v13, val_main_v12]
  rw [hx, n2_v8_eq hx, ← EReal.coe_mul]; rfl

theorem n2_v24_eq (hg : ∀ e, G (ix2 0 e) = (g e : EReal)) (hd : ∀ e, val_main_v19 (F := Ideal) U W (ix2 a e) = (d e : EReal)) (j : Fin 1024) :
    val_main_v24 (F := Ideal) U W G (ix2 a j) = ((d j * g j : ℝ) : EReal) := by
  pointwise [val_main_v24, val_main_v23, val_main_v14, val_main_v0]
  rw [hd, hg, ← EReal.coe_mul]

theorem n2_v35_eq (hx : ∀ e, H (ix2 a e) = (x e : EReal)) (hg : ∀ e, G (ix2 0 e) = (g e : EReal))
    (hd : ∀ e, val_main_v19 (F := Ideal) U W (ix2 a e) = (d e : EReal)) :
    val_main_v35 (F := Ideal) U W H G (ix1 a)
      = (((∑ k, x k * (d k * g k)) * (-(1 / 2) * ((Real.sqrt (msq x))⁻¹ / msq x)) / 1024 : ℝ) : EReal) := by
  pointwise [val_main_v35, val_main_cst_7, val_main_v34, val_main_v33, val_main_cst_6, val_main_v32, val_main_v11, val_main_v10, val_main_cst_2, val_main_v9,
    val_main_v28, val_main_v27, val_main_cst_5, val_main_v26]
  simp only [hx, n2_v24_eq hg hd, n2_v8_eq hx, n2_v7_eq hx, ofBits_1024, ofBits_neg_half, ← EReal.coe_mul, coe_sum,
    div_coe_coe _ (show (1024 : ℝ) ≠ 0 by norm_num), div_coe_coe _ (msq_pos _).ne', Finset.univ_unique, Finset.sum_singleton]

/-- Differentiating the norm operation by operation gives the same gradient. -/
theorem n2_v40_eq (hx : ∀ e, H (ix2 a e) = (x e : EReal)) (hg : ∀ e, G (ix2 0 e) = (g e : EReal))
    (hd : ∀ e, val_main_v19 (F := Ideal) U W (ix2 a e) = (d e : EReal)) (j : Fin 1024) :
    val_main_v40 (F := Ideal) U W H R G (ix2 a j) = ((dx x g d j : ℝ) : EReal) + R (ix2 a j) := by
  pointwise [val_main_v40, val_main_v39, val_main_v38, val_main_v37, val_main_v36, val_main_v31, val_main_v30, val_main_v29]
  simp only [hx, n2_v24_eq hg hd, n2_v8_eq hx, n2_v35_eq hx hg hd, ← EReal.coe_mul]
  rw [add_assoc, add_assoc, ← EReal.coe_add, ← EReal.coe_add, add_comm, dx, rms_dx]
  rw [add_assoc]

theorem n2_v41_eq (z : Fin 1) (j : Fin 1024) : val_main_v41 (F := Ideal) U W H (ix2 z j)
    = ∑ a : Fin 8192, val_main_v19 (F := Ideal) U W (ix2 a j) * val_main_v13 (F := Ideal) H (ix2 a j) := by
  pointwise [val_main_v41, val_main_v25, val_main_cst_4, val_main_v22, val_main_v21, val_main_cst_3, val_main_v20]
  simp only [Finset.univ_unique, Finset.sum_singleton]
  exact Finset.sum_congr rfl fun _ _ => mul_comm _ _

end Norm2Reference

section Norm1Kernel

open Cert.Norm1BwdIdeal Cert.Norm1BwdIdeal.Gen

variable {P : FVec Ideal S512x1024 .f32} {U : FVec Ideal S512x3072 .bf16} {W : FVec Ideal S3072x1024 .bf16} {H R : FVec Ideal S512x1024 .f32}
  {G : FVec Ideal S1x1024 .f32} {a : Fin 512}

/-- The first five pieces' products, added up. -/
theorem n1_pay2_eq (X0 : FVec Ideal S512x512 .f32) (W0 : FVec Ideal S512x1024 .bf16) (X1 : FVec Ideal S512x768 .f32) (W1 : FVec Ideal S768x1024 .bf16)
    (X2 : FVec Ideal S512x768 .f32) (W2 : FVec Ideal S768x1024 .bf16) (X3 : FVec Ideal S512x768 .f32) (W3 : FVec Ideal S768x1024 .bf16)
    (X4 : FVec Ideal S512x512 .bf16) (W4 : FVec Ideal S512x1024 .bf16) (a : Fin 512) (j : Fin 1024) :
    k0_pay2 (F := Ideal) X0 W0 X1 W1 X2 W2 X3 W3 X4 W4 (ix2 a j)
      = (∑ k : Fin 512, X0 (ix2 a k) * W0 (ix2 k j)) + (∑ k : Fin 768, X1 (ix2 a k) * W1 (ix2 k j)) + (∑ k : Fin 768, X2 (ix2 a k) * W2 (ix2 k j))
        + (∑ k : Fin 768, X3 (ix2 a k) * W3 (ix2 k j)) + (∑ k : Fin 512, X4 (ix2 a k) * W4 (ix2 k j)) := by
  pointwise [k0_pay2]

theorem n1_pay3_eq (a : Fin 512) (j : Fin 1024) : k0_pay3 (F := Ideal) P U W (ix2 a j) = P (ix2 a j) + ∑ k : Fin 3072, U (ix2 a k) * W (ix2 k j) := by
  pointwise [k0_pay3]

theorem n1_pay4_eq (hx : ∀ e, H (ix2 a e) = (x e : EReal)) (z : Fin 1) : k0_pay4 (F := Ideal) H (ix2 a z) = (((Real.sqrt (msq x))⁻¹ : ℝ) : EReal) := by
  pointwise [k0_pay4]
  simp only [hx]
  exact rms_coe x

theorem n1_pay5_eq (hx : ∀ e, H (ix2 a e) = (x e : EReal)) (j : Fin 1024) : k0_pay5 (F := Ideal) H (ix2 a j) = ((xhat x j : ℝ) : EReal) := by
  pointwise [k0_pay5]
  rw [hx, n1_pay4_eq hx, ← EReal.coe_mul]; rfl

theorem n1_pay6_eq (hx : ∀ e, H (ix2 a e) = (x e : EReal)) (hg : ∀ e, G (ix2 0 e) = (g e : EReal))
    (hd : ∀ e, k0_pay3 (F := Ideal) P U W (ix2 a e) = (d e : EReal)) (j : Fin 1024) :
    k0_pay6 (F := Ideal) P U W H R G (ix2 a j) = ((dx x g d j : ℝ) : EReal) + R (ix2 a j) := by
  pointwise [k0_pay6]
  simp only [hd, hg, n1_pay4_eq hx, n1_pay5_eq hx, ofBits_1024, ← EReal.coe_mul, coe_sum, div_coe_coe _ (show (1024 : ℝ) ≠ 0 by norm_num), ← EReal.coe_sub]
  rfl

theorem n1_pay7_eq (z : Fin 1) (j : Fin 1024) : k0_pay7 (F := Ideal) P U W H (ix2 z j)
    = ∑ a : Fin 512, k0_pay3 (F := Ideal) P U W (ix2 a j) * k0_pay5 (F := Ideal) H (ix2 a j) := by
  pointwise [k0_pay7]

theorem n1_pay1_eq (A B : FVec Ideal S1x1024 .f32) (j : S1x1024.Idx) : k0_pay1 (F := Ideal) A B j = B j + A j := by
  idx_vars j
  pointwise [k0_pay1]

end Norm1Kernel

section Norm1Reference

open Cert.Norm1BwdRefIdeal Cert.Norm1BwdRefIdeal.Read

variable {X0 : FVec Ideal S8192x512 .f32} {X1 X2 X3 : FVec Ideal S8192x768 .f32} {X4 : FVec Ideal S8192x512 .bf16} {X5 : FVec Ideal S8192x3072 .bf16}
  {W : FVec Ideal S1024x6400 .f32} {H R : FVec Ideal S8192x1024 .f32} {G : FVec Ideal S1x1024 .f32} {a : Fin 8192}

theorem n1_v7_eq (hx : ∀ e, H (ix2 a e) = (x e : EReal)) (z : Fin 1) : val_main_v7 (F := Ideal) H (ix2 a z) = ((msq x : ℝ) : EReal) := by
  pointwise [val_main_v7, val_main_v6, val_main_cst_1, val_main_v5, val_main_v4, val_main_cst_0, val_main_v3, val_main_v2, val_main_cst, val_main_v1]
  simp only [hx]
  exact msq_coe x

theorem n1_v8_eq (hx : ∀ e, H (ix2 a e) = (x e : EReal)) (z : Fin 1) : val_main_v8 (F := Ideal) H (ix2 a z) = (((Real.sqrt (msq x))⁻¹ : ℝ) : EReal) := by
  pointwise [val_main_v8]
  rw [n1_v7_eq hx, rsqrt_pos (msq_pos x)]

theorem n1_v13_eq (hx : ∀ e, H (ix2 a e) = (x e : EReal)) (j : Fin 1024) : val_main_v13 (F := Ideal) H (ix2 a j) = ((xhat x j : ℝ) : EReal) := by
  pointwise [val_main_v13, val_main_v12]
  rw [hx, n1_v8_eq hx, ← EReal.coe_mul]; rfl

theorem n1_v32_eq (hg : ∀ e, G (ix2 0 e) = (g e : EReal)) (hd : ∀ e, val_main_v27 (F := Ideal) X0 X1 X2 X3 X4 X5 W (ix2 a e) = (d e : EReal)) (j : Fin 1024) :
    val_main_v32 (F := Ideal) X0 X1 X2 X3 X4 X5 W G (ix2 a j) = ((d j * g j : ℝ) : EReal) := by
  pointwise [val_main_v32, val_main_v31, val_main_v14, val_main_v0]
  rw [hd, hg, ← EReal.coe_mul]

theorem n1_v43_eq (hx : ∀ e, H (ix2 a e) = (x e : EReal)) (hg : ∀ e, G (ix2 0 e) = (g e : EReal))
    (hd : ∀ e, val_main_v27 (F := Ideal) X0 X1 X2 X3 X4 X5 W (ix2 a e) = (d e : EReal)) :
    val_main_v43 (F := Ideal) X0 X1 X2 X3 X4 X5 W H G (ix1 a)
      = (((∑ k, x k * (d k * g k)) * (-(1 / 2) * ((Real.sqrt (msq x))⁻¹ / msq x)) / 1024 : ℝ) : EReal) := by
  pointwise [val_main_v43, val_main_cst_7, val_main_v42, val_main_v41, val_main_cst_6, val_main_v40, val_main_v11, val_main_v10, val_main_cst_2, val_main_v9,
    val_main_v36, val_main_v35, val_main_cst_5, val_main_v34]
  simp only [hx, n1_v32_eq hg hd, n1_v8_eq hx, n1_v7_eq hx, ofBits_1024, ofBits_neg_half, ← EReal.coe_mul, coe_sum,
    div_coe_coe _ (show (1024 : ℝ) ≠ 0 by norm_num), div_coe_coe _ (msq_pos _).ne', Finset.univ_unique, Finset.sum_singleton]

theorem n1_v48_eq (hx : ∀ e, H (ix2 a e) = (x e : EReal)) (hg : ∀ e, G (ix2 0 e) = (g e : EReal))
    (hd : ∀ e, val_main_v27 (F := Ideal) X0 X1 X2 X3 X4 X5 W (ix2 a e) = (d e : EReal)) (j : Fin 1024) :
    val_main_v48 (F := Ideal) X0 X1 X2 X3 X4 X5 W H R G (ix2 a j) = ((dx x g d j : ℝ) : EReal) + R (ix2 a j) := by
  pointwise [val_main_v48, val_main_v47, val_main_v46, val_main_v45, val_main_v44, val_main_v39, val_main_v38, val_main_v37]
  simp only [hx, n1_v32_eq hg hd, n1_v8_eq hx, n1_v43_eq hx hg hd, ← EReal.coe_mul]
  rw [add_assoc, add_assoc, ← EReal.coe_add, ← EReal.coe_add, add_comm, dx, rms_dx]
  rw [add_assoc]

theorem n1_v49_eq (z : Fin 1) (j : Fin 1024) : val_main_v49 (F := Ideal) X0 X1 X2 X3 X4 X5 W H (ix2 z j)
    = ∑ a : Fin 8192, val_main_v27 (F := Ideal) X0 X1 X2 X3 X4 X5 W (ix2 a j) * val_main_v13 (F := Ideal) H (ix2 a j) := by
  pointwise [val_main_v49, val_main_v33, val_main_cst_4, val_main_v30, val_main_v29, val_main_cst_3, val_main_v28]
  simp only [Finset.univ_unique, Finset.sum_singleton]
  exact Finset.sum_congr rfl fun _ _ => mul_comm _ _

/-- A product along the six concatenated pieces is the six pieces' products added up. -/
theorem n1_v27_eq (a : Fin 8192) (j : Fin 1024) : val_main_v27 (F := Ideal) X0 X1 X2 X3 X4 X5 W (ix2 a j)
    = (∑ k : Fin 512, X0 (ix2 a k) * W (ix2 j ⟨k.val, by omega⟩)) + (∑ k : Fin 768, X1 (ix2 a k) * W (ix2 j ⟨512 + k.val, by omega⟩))
      + (∑ k : Fin 768, X2 (ix2 a k) * W (ix2 j ⟨1280 + k.val, by omega⟩)) + (∑ k : Fin 768, X3 (ix2 a k) * W (ix2 j ⟨2048 + k.val, by omega⟩))
      + (∑ k : Fin 512, X4 (ix2 a k) * W (ix2 j ⟨2816 + k.val, by omega⟩)) + (∑ k : Fin 3072, X5 (ix2 a k) * W (ix2 j ⟨3328 + k.val, by omega⟩)) := by
  have v26 : ∀ (k : Fin 6400), val_main_v26 (F := Ideal) X0 X1 X2 X3 X4 X5 (ix2 a k)
      = if h : k.val < 512 then X0 (ix2 a ⟨k.val, h⟩) else if h : k.val - 512 < 768 then X1 (ix2 a ⟨k.val - 512, h⟩)
        else if h : k.val - 512 - 768 < 768 then X2 (ix2 a ⟨k.val - 512 - 768, h⟩)
        else if h : k.val - 512 - 768 - 768 < 768 then X3 (ix2 a ⟨k.val - 512 - 768 - 768, h⟩)
        else if h : k.val - 512 - 768 - 768 - 768 < 512 then X4 (ix2 a ⟨k.val - 512 - 768 - 768 - 768, h⟩)
        else X5 (ix2 a ⟨k.val - 512 - 768 - 768 - 768 - 512, by omega⟩) := by
    intro k
    pointwise [val_main_v26, val_main_v25, val_main_v24]
  pointwise [val_main_v27]
  rw [sum_split 3328 3072 rfl, sum_split 2816 512 rfl, sum_split 2048 768 rfl, sum_split 1280 768 rfl, sum_split 512 768 rfl]
  simp only [v26]
  refine congrArg₂ (· + ·) (congrArg₂ (· + ·) (congrArg₂ (· + ·) (congrArg₂ (· + ·) (congrArg₂ (· + ·) ?_ ?_) ?_) ?_) ?_) ?_
  all_goals
    refine Finset.sum_congr rfl fun x _ => congrArg (· * _) ?_
    have := x.isLt
    split_ifs <;> first | (exfalso; omega) | rfl | (congr 3; omega)

end Norm1Reference

end Cert.NormRow

end
-- ==== Proof.Norm2.lean ====
module

public import proofs.«01_k».proof.Defs
public import proofs.«01_k».proof.Proof.NormRow
public import proofs.«01_k».proof.Proof.FiniteFacts
public import proofs.«01_k».proof.Proof.Gen.Norm2BwdIdeal.Frame
public import Idealize.ShloMosaic.Lib.Pipeline.ValueKit

/-! The gradient of the second norm over the whole grid of sixteen tiles of 512 rows. -/

@[expose] public section

set_option maxRecDepth 16384

noncomputable section

open Idealize.ShloMosaic Idealize.ShloMosaic.TcCoe Idealize.SL.Sem
open Idealize.ShloMosaic.Pipeline (Dat)

namespace Cert.Norm2BwdIdeal.Equation

open Cert.Norm2BwdIdeal Cert.Norm2BwdIdeal.Gen Cert.Reals Cert.NormRow
open Cert.Norm2BwdRefIdeal.Read (val_main_v13 val_main_v19 val_main_v40 val_main_v41)

variable (m : (ℓ : Loc nD τ sig) → Buf (Elt Ideal) ℓ)

/-- The row tile each window is on at a point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0] :=
  (by decide +kernel : ∀ t : Fin grid0.N, _)

/-- The precondition, read: the cotangent's factors, the rows and the gain are arrays of reals. -/
theorem finite (hpre : Cert.Pre_Norm2BwdIdeal_norm2_finite m) (c : Dev nD) :
    (∃ r : S8192x4096.Idx → ℝ, m ((c : Thread nD τ).loc main_arg0) = fun i => (r i : EReal))
    ∧ (∃ r : S1024x4096.Idx → ℝ, m ((c : Thread nD τ).loc main_arg1) = fun i => (r i : EReal))
    ∧ (∃ r : S8192x1024.Idx → ℝ, m ((c : Thread nD τ).loc main_arg2) = fun i => (r i : EReal))
    ∧ (∃ r : S1x1024.Idx → ℝ, m ((c : Thread nD τ).loc main_arg4) = fun i => (r i : EReal)) := by
  have h := congrFun (hpre c) ix0
  dsimp only [Cert.Pre_norm2_finite.fn, Cert.Pre_norm2_finite.fn_part1] at h
  obtain ⟨h, h3⟩ := andi_one h
  obtain ⟨h, h2⟩ := andi_one h
  obtain ⟨h0, h1⟩ := andi_one h
  exact ⟨finite_of_all _ _ _ _ _ _ _ h0, finite_of_all _ _ _ _ _ _ _ h1, finite_of_all _ _ _ _ _ _ _ h2, finite_of_all _ _ _ _ _ _ _ h3⟩

section

variable {m} {c : Dev nD} {U : S8192x4096.Idx → ℝ} {W : S1024x4096.Idx → ℝ} {H : S8192x1024.Idx → ℝ} {G : S1x1024.Idx → ℝ}
  (hU : m ((c : Thread nD τ).loc main_arg0) = fun i => (U i : EReal)) (hW : m ((c : Thread nD τ).loc main_arg1) = fun i => (W i : EReal))
  (hH : m ((c : Thread nD τ).loc main_arg2) = fun i => (H i : EReal)) (hG : m ((c : Thread nD τ).loc main_arg4) = fun i => (G i : EReal))
  (t : Fin cfg0.N) (a : Fin 512) (R : Fin 8192) (hR : R.val = t.val * 512 + a.val)

include hU hW hH hG hR

omit hW hH hG in
theorem blk0 (k : Fin 4096) : iblk m c 0 t (ix2 a k) = (U (ix2 R k) : EReal) := by
  have ht : t.val < 16 := lt_of_lt_of_eq t.isLt N_0
  rw [← congrFun hU]
  blk_point [iblk, V, idx t]

omit hU hH hG hR in
theorem blk1 (k : Fin 4096) (e : Fin 1024) : iblk m c 1 t (ix2 k e) = (W (ix2 e k) : EReal) := by
  rw [← congrFun hW]
  blk_simp [iblk, idx t]
  entry_read
  pointwise []
  exact congrArg _ (by blk_ext [idx t])

omit hU hW hG in
theorem blk2 (e : Fin 1024) : iblk m c 2 t (ix2 a e) = (H (ix2 R e) : EReal) := by
  have ht : t.val < 16 := lt_of_lt_of_eq t.isLt N_0
  rw [← congrFun hH]
  blk_point [iblk, V, idx t]

omit hU hW hH hG in
theorem blk3 (e : Fin 1024) : iblk m c 3 t (ix2 a e) = m ((c : Thread nD τ).loc main_arg3) (ix2 R e) := by
  have ht : t.val < 16 := lt_of_lt_of_eq t.isLt N_0
  blk_point [iblk, V, idx t]

omit hU hW hH hR in
theorem blk4 (e : Fin 1024) : iblk m c 4 t (ix2 0 e) = (G (ix2 0 e) : EReal) := by
  rw [← congrFun hG]
  blk_point [iblk, V, idx t]

omit hH hG in
/-- A tile of the norm's cotangent, and the reference's. -/
theorem dy_point (e : Fin 1024) :
    k0_pay2 (F := Ideal) (iblk m c 0 t) (iblk m c 1 t) (ix2 a e) = ((∑ k : Fin 4096, U (ix2 R k) * W (ix2 e k) : ℝ) : EReal)
    ∧ val_main_v19 (F := Ideal) (m ((c : Thread nD τ).loc main_arg0)) (m ((c : Thread nD τ).loc main_arg1)) (ix2 R e)
      = ((∑ k : Fin 4096, U (ix2 R k) * W (ix2 e k) : ℝ) : EReal) := by
  rw [n2_pay2_eq, n2_v19_eq]
  simp only [blk0 hU t a R hR, blk1 hW t, hU, hW, ← EReal.coe_mul, coe_sum, and_self]

/-- A row of the norm's gradient. -/
theorem dx_point (e : Fin 1024) :
    k0_pay5 (F := Ideal) (iblk m c 0 t) (iblk m c 1 t) (iblk m c 2 t) (iblk m c 3 t) (iblk m c 4 t) (ix2 a e)
      = val_main_v40 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 R e) := by
  rw [n2_pay5_eq (blk2 hH t a R hR) (blk4 hG t) (fun e => (dy_point hU hW t a R hR e).1),
    n2_v40_eq (x := fun e => H (ix2 R e)) (g := fun e => G (ix2 0 e)) (fun e => congrFun hH _) (fun e => congrFun hG _)
      (fun e => (dy_point hU hW t a R hR e).2), blk3 t a R hR]

omit hG in
/-- A row's share of the gain's gradient. -/
theorem dg_point (e : Fin 1024) :
    k0_pay2 (F := Ideal) (iblk m c 0 t) (iblk m c 1 t) (ix2 a e) * k0_pay4 (F := Ideal) (iblk m c 2 t) (ix2 a e)
      = val_main_v19 (F := Ideal) (m ((c : Thread nD τ).loc main_arg0)) (m ((c : Thread nD τ).loc main_arg1)) (ix2 R e)
        * val_main_v13 (F := Ideal) (m ((c : Thread nD τ).loc main_arg2)) (ix2 R e) := by
  rw [(dy_point hU hW t a R hR e).1, (dy_point hU hW t a R hR e).2, n2_pay4_eq (blk2 hH t a R hR),
    n2_v13_eq (x := fun e => H (ix2 R e)) (fun e => congrFun hH _)]

omit hR

/-- The first result: the gradient of the norm's rows, the residual's added. -/
theorem final5 : (dats m 0 c).arrAt 5 cfg0.N
    = val_main_v40 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have ht : t.val < 16 := lt_of_lt_of_eq t.isLt N_0
  blk_simp
  rw [after0_5]
  idx_vars y
  have e : ((View.whole main_v2_0).slice (win0_5.rect t)).emb (ix2 y0 y1) = ix2 (⟨t.val * 512 + y0.val, by omega⟩ : Fin 8192) y1 := by
    blk_ext [idx t]
  have p := dx_point hU hW hH hG t y0 ⟨t.val * 512 + y0.val, by omega⟩ rfl y1
  rw [← e] at p
  by_cases h0 : t.val % 16 = 0
  · rw [outsAt0_A m c t h0 (by omega)]; frame_out; exact p
  · rw [outsAt0_B m c t h0 (by omega)]; frame_out; exact p

/-- The second result: the gain's gradient, the sixteen tiles' column sums added up. -/
theorem final6 : (dats m 0 c).arrAt 6 cfg0.N
    = val_main_v41 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  have ht : t.val < 16 := lt_of_lt_of_eq t.isLt N_0
  blk_simp
  have hpay : ∀ (P : FVec Ideal S512x4096 .bf16) (Q : FVec Ideal S4096x1024 .bf16) (X : FVec Ideal S512x1024 .f32) (j : S1x1024.Idx),
      k0_pay6 (F := Ideal) P Q X j = ∑ r : Fin 512, k0_pay2 (F := Ideal) P Q (ix2 r (j 1)) * k0_pay4 (F := Ideal) X (ix2 r (j 1)) := by
    intro P Q X j; idx_vars j; exact n2_pay6_eq j0 j1
  rw [after0_6, Pipeline.eq_sum_fin_of_reset_step_apply_of_flush (fun n h => (outsAt0 m c n h).2) 16 (fun _ => 0) _
    (fun t h j => by have : t.val < 16 := lt_of_lt_of_eq t.isLt N_0; rw [outsAt0_A m c t h (by omega)]; frame_out; rw [hpay, zero_add])
    (fun t h j => by have : t.val < 16 := lt_of_lt_of_eq t.isLt N_0; rw [outsAt0_B m c t h (by omega)]; frame_out; rw [n2_pay1_eq, hpay])
    t ((flush0_6 t).mp hf) _, zero_add]
  idx_vars y
  have e : ((View.whole main_v2_1).slice (win0_6.rect t)).emb (ix2 y0 y1) = ix2 y0 y1 := by
    blk_ext [idx t]
  rw [e, n2_v41_eq]
  refine Fin.sum_mul_add_congr fun s a hl => ?_
  have hs := Pipeline.run_point_lt_of_flush t ((flush0_6 t).mp hf) s
  exact dg_point hU hW hH ⟨_, hs⟩ a ⟨s.val * 512 + a.val, hl⟩ (by show s.val * 512 + a.val = (16 * (t.val / 16) + s.val) * 512 + a.val; omega) y1

end

/-- The kernel's two results are the two gradients of the reference's norm. -/
theorem algebraic : Cert.algebraic_Norm2BwdIdeal_Norm2BwdRefIdeal_pre_norm2_finite := by
  pair_intro
  · run_from Cert.Norm2BwdIdeal.Gen.run_main m g
  · run_from Cert.Norm2BwdRefIdeal.Value.run m' g'
    all_goals
      obtain ⟨⟨U, hU⟩, ⟨W, hW⟩, ⟨H, hH⟩, ⟨G, hG⟩⟩ := finite m hpre c
      obtain ⟨a0, a1, a2, a3, a4⟩ := hagree c
    · rw [final5 hU hW hH hG]
      refine (Cert.Norm2BwdRefIdeal.Read.val_main_v40_eq m' c).trans ?_
      rw [a0, a1, a2, a3, a4]
    · rw [final6 hU hW hH hG, ← a0, ← a1, ← a2]
      exact Cert.Norm2BwdRefIdeal.Read.val_main_v41_eq _ _ _

end Cert.Norm2BwdIdeal.Equation
end
-- ==== Proof.OutProj.lean ====
module

public import proofs.«01_k».proof.Defs
public import proofs.«01_k».proof.Proof.NormFwd
public import proofs.«01_k».proof.Proof.Gen.OutProjIdeal.Frame
public import proofs.«01_k».proof.Proof.Gen.OutProjRefIdeal.Read

/-! The output projection with the residual and the second norm, for all extended reals. -/

@[expose] public section

set_option maxRecDepth 16384

noncomputable section

open Idealize.ShloMosaic Idealize.ShloMosaic.TcCoe Idealize.SL.Sem
open Idealize.ShloMosaic.Pipeline (Dat)

namespace Cert.OutProjIdeal.Equation

open Cert.OutProjIdeal Cert.OutProjIdeal.Gen Cert.NormFwd
open Cert.OutProjRefIdeal.Read

section

variable (A W : FVec Ideal S1024x1024 .bf16) (X : FVec Ideal S1024x1024 .f32) (G : FVec Ideal S1x1024 .f32) (a j : Fin 1024)

theorem pay1_eq : k0_pay1 (F := Ideal) A W X (ix2 a j) = (∑ k : Fin 1024, A (ix2 a k) * W (ix2 k j)) + X (ix2 a j) := by
  pointwise [k0_pay1]

theorem pay2_eq : k0_pay2 (F := Ideal) A W X G (ix2 a j) = row (fun k => k0_pay1 (F := Ideal) A W X (ix2 a k)) (fun k => G (ix2 0 k)) j := by
  unfold row
  pointwise [k0_pay2]

end

section

variable (A : FVec Ideal S8192x1024 .bf16) (W : FVec Ideal S1024x1024 .f32) (X : FVec Ideal S8192x1024 .f32) (G : FVec Ideal S1x1024 .f32)
  (a : Fin 8192) (j : Fin 1024)

theorem v2_eq : val_main_v2 (F := Ideal) A W X (ix2 a j) = (∑ k : Fin 1024, A (ix2 a k) * W (ix2 k j)) + X (ix2 a j) := by
  pointwise [val_main_v2, val_main_v1, val_main_v0]
  exact add_comm _ _

theorem v17_eq : val_main_v17 (F := Ideal) A W X G (ix2 a j) = row (fun k => val_main_v2 (F := Ideal) A W X (ix2 a k)) (fun k => G (ix2 0 k)) j := by
  unfold row
  pointwise [val_main_v17, val_main_v16, val_main_v15, val_main_v14, val_main_v13, val_main_v12, val_main_v11, val_main_v10, val_main_v9, val_main_cst_1,
    val_main_v8, val_main_v7, val_main_cst_0, val_main_v6, val_main_v5, val_main_cst, val_main_v4, val_main_v3]

end

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- A row of the hidden state. -/
theorem h_point (c : Dev nD) (t : Fin cfg0.N) (a j : Fin 1024) (R : Fin 8192) (hR : R.val = t.val * 1024 + a.val) :
    k0_pay1 (F := Ideal) (iblk m c 0 t) (iblk m c 1 t) (iblk m c 2 t) (ix2 a j)
      = val_main_v2 (F := Ideal) (m ((c : Thread nD τ).loc main_arg0)) (m ((c : Thread nD τ).loc main_arg1)) (m ((c : Thread nD τ).loc main_arg2)) (ix2 R j) := by
  have ht : t.val < 8 := lt_of_lt_of_eq t.isLt N_0
  rw [pay1_eq, v2_eq]
  refine congrArg₂ (· + ·) (Finset.sum_congr rfl fun k _ => congrArg₂ (· * ·) ?_ ?_) ?_
  · blk_point [iblk, V, idx t]
  · blk_simp [iblk, idx t]
    entry_read
    pointwise []
    exact congrArg _ (by blk_ext [idx t])
  · blk_point [iblk, V, idx t]

/-- The first result: the hidden state. -/
theorem final4 (c : Dev nD) : (dats m 0 c).arrAt 4 cfg0.N
    = val_main_v2 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht : t.val < 8 := lt_of_lt_of_eq t.isLt N_0
  blk_simp
  rw [after0_4]
  frame_out
  idx_vars y
  have e : ((View.whole main_v1_0).slice (win0_4.rect t)).emb (ix2 y0 y1) = ix2 (⟨t.val * 1024 + y0.val, by omega⟩ : Fin 8192) y1 := by
    blk_ext [idx t]
  rw [e]
  exact h_point m c t y0 y1 _ rfl

/-- The second result: its norm. -/
theorem final5 (c : Dev nD) : (dats m 0 c).arrAt 5 cfg0.N
    = val_main_v17 (F := Ideal) (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  have ht : t.val < 8 := lt_of_lt_of_eq t.isLt N_0
  blk_simp
  rw [after0_5]
  frame_out
  idx_vars y
  have e : ((View.whole main_v1_1).slice (win0_5.rect t)).emb (ix2 y0 y1) = ix2 (⟨t.val * 1024 + y0.val, by omega⟩ : Fin 8192) y1 := by
    blk_ext [idx t]
  rw [e, pay2_eq, v17_eq]
  refine congrArg₂ (row · · y1) (funext fun k => h_point m c t y0 k _ rfl) (funext fun k => ?_)
  blk_point [iblk, V, idx t]

/-- The kernel's two results are the hidden state and its norm. -/
theorem algebraic : Cert.algebraic_OutProjIdeal_OutProjRefIdeal := by
  pair_intro
  · run_from Cert.OutProjIdeal.Gen.run_main m g
  · run_from Cert.OutProjRefIdeal.Value.run m' g'
    all_goals obtain ⟨a0, a1, a2, a3⟩ := hagree c
    · rw [final4, ← a0, ← a1, ← a2]
      exact Cert.OutProjRefIdeal.Read.val_main_v2_eq _ _ _
    · rw [final5, ← a0, ← a1, ← a2, ← a3]
      exact Cert.OutProjRefIdeal.Read.val_main_v17_eq _ _ _ _

end Cert.OutProjIdeal.Equation
end
-- ==== Proof.Norm1.lean ====
module

public import proofs.«01_k».proof.Defs
public import proofs.«01_k».proof.Proof.NormRow
public import proofs.«01_k».proof.Proof.FiniteFacts
public import proofs.«01_k».proof.Proof.Gen.Norm1BwdIdeal.Frame
public import Idealize.ShloMosaic.Lib.Pipeline.ValueKit

/-! The gradient of the first norm over the whole grid of sixteen tiles of 512 rows. -/

@[expose] public section

set_option maxRecDepth 16384

noncomputable section

open Idealize.ShloMosaic Idealize.ShloMosaic.TcCoe Idealize.SL.Sem
open Idealize.ShloMosaic.Pipeline (Dat)

namespace Cert.Norm1BwdIdeal.Equation

open Cert.Norm1BwdIdeal Cert.Norm1BwdIdeal.Gen Cert.Reals Cert.NormRow
open Cert.Norm1BwdRefIdeal.Read (val_main_v13 val_main_v27 val_main_v48 val_main_v49)

variable (m : (ℓ : Loc nD τ sig) → Buf (Elt Ideal) ℓ)

/-- The row tile each window is on at a point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![t.val, 0]
    ∧ win0_11.index t = ![0, 0] :=
  (by decide +kernel : ∀ t : Fin grid0.N, _)

/-- The precondition, read: the six pieces of the cotangent, the weight, the rows and the gain are arrays of reals. -/
theorem finite (hpre : Cert.Pre_Norm1BwdIdeal_norm1_finite m) (c : Dev nD) :
    (∃ r : S8192x512.Idx → ℝ, m ((c : Thread nD τ).loc main_arg0) = fun i => (r i : EReal))
    ∧ (∃ r : S8192x768.Idx → ℝ, m ((c : Thread nD τ).loc main_arg1) = fun i => (r i : EReal))
    ∧ (∃ r : S8192x768.Idx → ℝ, m ((c : Thread nD τ).loc main_arg2) = fun i => (r i : EReal))
    ∧ (∃ r : S8192x768.Idx → ℝ, m ((c : Thread nD τ).loc main_arg3) = fun i => (r i : EReal))
    ∧ (∃ r : S8192x512.Idx → ℝ, m ((c : Thread nD τ).loc main_arg4) = fun i => (r i : EReal))
    ∧ (∃ r : S8192x3072.Idx → ℝ, m ((c : Thread nD τ).loc main_arg5) = fun i => (r i : EReal))
    ∧ (∃ r : S1024x6400.Idx → ℝ, m ((c : Thread nD τ).loc main_arg6) = fun i => (r i : EReal))
    ∧ (∃ r : S8192x1024.Idx → ℝ, m ((c : Thread nD τ).loc main_arg7) = fun i => (r i : EReal))
    ∧ (∃ r : S1x1024.Idx → ℝ, m ((c : Thread nD τ).loc main_arg9) = fun i => (r i : EReal)) := by
  have h := congrFun (hpre c) ix0
  dsimp only [Cert.Pre_norm1_finite.fn, Cert.Pre_norm1_finite.fn_part1, Cert.Pre_norm1_finite.fn_part2] at h
  obtain ⟨h, h8⟩ := andi_one h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h, h1⟩ := andi_one h
  exact ⟨finite_of_all _ _ _ _ _ _ _ h, finite_of_all _ _ _ _ _ _ _ h1, finite_of_all _ _ _ _ _ _ _ h2, finite_of_all _ _ _ _ _ _ _ h3, finite_of_all _ _ _ _ _ _ _ h4, finite_of_all _ _ _ _ _ _ _ h5, finite_of_all _ _ _ _ _ _ _ h6, finite_of_all _ _ _ _ _ _ _ h7, finite_of_all _ _ _ _ _ _ _ h8⟩

/-- A row of the norm's cotangent: the six pieces' products added up. -/
abbrev dy (X : S8192x512.Idx → ℝ) (Q : S8192x768.Idx → ℝ) (K : S8192x768.Idx → ℝ) (Y : S8192x768.Idx → ℝ) (M : S8192x512.Idx → ℝ) (Z : S8192x3072.Idx → ℝ) (W : S1024x6400.Idx → ℝ)
    (R : Fin 8192) (e : Fin 1024) : ℝ :=
  (∑ k : Fin 512, X (ix2 R k) * W (ix2 e ⟨k.val, by omega⟩))
    + (∑ k : Fin 768, Q (ix2 R k) * W (ix2 e ⟨512 + k.val, by omega⟩))
    + (∑ k : Fin 768, K (ix2 R k) * W (ix2 e ⟨1280 + k.val, by omega⟩))
    + (∑ k : Fin 768, Y (ix2 R k) * W (ix2 e ⟨2048 + k.val, by omega⟩))
    + (∑ k : Fin 512, M (ix2 R k) * W (ix2 e ⟨2816 + k.val, by omega⟩))
    + (∑ k : Fin 3072, Z (ix2 R k) * W (ix2 e ⟨3328 + k.val, by omega⟩))

section

variable {m} {c : Dev nD} {X : S8192x512.Idx → ℝ} {Q : S8192x768.Idx → ℝ} {K : S8192x768.Idx → ℝ} {Y : S8192x768.Idx → ℝ} {M : S8192x512.Idx → ℝ} {Z : S8192x3072.Idx → ℝ}
  {W : S1024x6400.Idx → ℝ} {H : S8192x1024.Idx → ℝ} {G : S1x1024.Idx → ℝ}
  (hX : m ((c : Thread nD τ).loc main_arg0) = fun i => (X i : EReal))
  (hQ : m ((c : Thread nD τ).loc main_arg1) = fun i => (Q i : EReal))
  (hK : m ((c : Thread nD τ).loc main_arg2) = fun i => (K i : EReal))
  (hV : m ((c : Thread nD τ).loc main_arg3) = fun i => (Y i : EReal))
  (hM : m ((c : Thread nD τ).loc main_arg4) = fun i => (M i : EReal))
  (hZ : m ((c : Thread nD τ).loc main_arg5) = fun i => (Z i : EReal))
  (hW : m ((c : Thread nD τ).loc main_arg6) = fun i => (W i : EReal))
  (hH : m ((c : Thread nD τ).loc main_arg7) = fun i => (H i : EReal))
  (hG : m ((c : Thread nD τ).loc main_arg9) = fun i => (G i : EReal))
  (t : Fin cfg0.N) (a : Fin 512) (R : Fin 8192) (hR : R.val = t.val * 512 + a.val)

include hX hR in
theorem blk0 (k : Fin 512) : iblk m c 0 t (ix2 a k) = (X (ix2 R k) : EReal) := by
  have ht : t.val < 16 := lt_of_lt_of_eq t.isLt N_0
  rw [← congrFun hX]
  blk_point [iblk, V, idx t]

include hQ hR in
theorem blk1 (k : Fin 768) : iblk m c 1 t (ix2 a k) = (Q (ix2 R k) : EReal) := by
  have ht : t.val < 16 := lt_of_lt_of_eq t.isLt N_0
  rw [← congrFun hQ]
  blk_point [iblk, V, idx t]

include hK hR in
theorem blk2 (k : Fin 768) : iblk m c 2 t (ix2 a k) = (K (ix2 R k) : EReal) := by
  have ht : t.val < 16 := lt_of_lt_of_eq t.isLt N_0
  rw [← congrFun hK]
  blk_point [iblk, V, idx t]

include hV hR in
theorem blk3 (k : Fin 768) : iblk m c 3 t (ix2 a k) = (Y (ix2 R k) : EReal) := by
  have ht : t.val < 16 := lt_of_lt_of_eq t.isLt N_0
  rw [← congrFun hV]
  blk_point [iblk, V, idx t]

include hM hR in
theorem blk4 (k : Fin 512) : iblk m c 4 t (ix2 a k) = (M (ix2 R k) : EReal) := by
  have ht : t.val < 16 := lt_of_lt_of_eq t.isLt N_0
  rw [← congrFun hM]
  blk_point [iblk, V, idx t]

include hZ hR in
theorem blk5 (k : Fin 3072) : iblk m c 5 t (ix2 a k) = (Z (ix2 R k) : EReal) := by
  have ht : t.val < 16 := lt_of_lt_of_eq t.isLt N_0
  rw [← congrFun hZ]
  blk_point [iblk, V, idx t]

include hW in
theorem blk6 (k : Fin 6400) (e : Fin 1024) : iblk m c 6 t (ix2 k e) = (W (ix2 e k) : EReal) := by
  rw [← congrFun hW]
  blk_simp [iblk, idx t]
  entry_read
  pointwise []
  exact congrArg _ (by blk_ext [idx t])

include hH hR in
theorem blk7 (e : Fin 1024) : iblk m c 7 t (ix2 a e) = (H (ix2 R e) : EReal) := by
  have ht : t.val < 16 := lt_of_lt_of_eq t.isLt N_0
  rw [← congrFun hH]
  blk_point [iblk, V, idx t]

include hR in
theorem blk8 (e : Fin 1024) : iblk m c 8 t (ix2 a e) = m ((c : Thread nD τ).loc main_arg8) (ix2 R e) := by
  have ht : t.val < 16 := lt_of_lt_of_eq t.isLt N_0
  blk_point [iblk, V, idx t]

include hG in
theorem blk9 (e : Fin 1024) : iblk m c 9 t (ix2 0 e) = (G (ix2 0 e) : EReal) := by
  rw [← congrFun hG]
  blk_point [iblk, V, idx t]

variable {w0 : FVec Ideal S512x1024 .bf16} {w1 : FVec Ideal S768x1024 .bf16} {w2 : FVec Ideal S768x1024 .bf16} {w3 : FVec Ideal S768x1024 .bf16} {w4 : FVec Ideal S512x1024 .bf16} {w5 : FVec Ideal S3072x1024 .bf16}
  (e0 : ∀ k e, w0 (ix2 k e) = (W (ix2 e ⟨k.val, by omega⟩) : EReal))
  (e1 : ∀ k e, w1 (ix2 k e) = (W (ix2 e ⟨512 + k.val, by omega⟩) : EReal))
  (e2 : ∀ k e, w2 (ix2 k e) = (W (ix2 e ⟨1280 + k.val, by omega⟩) : EReal))
  (e3 : ∀ k e, w3 (ix2 k e) = (W (ix2 e ⟨2048 + k.val, by omega⟩) : EReal))
  (e4 : ∀ k e, w4 (ix2 k e) = (W (ix2 e ⟨2816 + k.val, by omega⟩) : EReal))
  (e5 : ∀ k e, w5 (ix2 k e) = (W (ix2 e ⟨3328 + k.val, by omega⟩) : EReal))

include hX hQ hK hV hM hZ hR e0 e1 e2 e3 e4 e5 in
/-- A tile of the norm's cotangent. -/
theorem dy_point (e : Fin 1024) : k0_pay3 (F := Ideal) (k0_pay2 (F := Ideal) (iblk m c 0 t) w0 (iblk m c 1 t) w1 (iblk m c 2 t) w2 (iblk m c 3 t) w3 (iblk m c 4 t) w4) (iblk m c 5 t) w5 (ix2 a e)
    = ((dy X Q K Y M Z W R e : ℝ) : EReal) := by
  rw [n1_pay3_eq, n1_pay2_eq]
  simp only [blk0 hX t a R hR, e0, blk1 hQ t a R hR, e1, blk2 hK t a R hR, e2, blk3 hV t a R hR, e3, blk4 hM t a R hR, e4, blk5 hZ t a R hR, e5, ← EReal.coe_mul, coe_sum, ← EReal.coe_add]
  try rfl

include hX hQ hK hV hM hZ hW in
/-- The reference's. -/
theorem dy_ref (R : Fin 8192) (e : Fin 1024) : val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R e)
    = ((dy X Q K Y M Z W R e : ℝ) : EReal) := by
  rw [n1_v27_eq]
  simp only [hX, hQ, hK, hV, hM, hZ, hW, ← EReal.coe_mul, coe_sum, ← EReal.coe_add]
  try rfl

include hX hQ hK hV hM hZ hW hH hG hR e0 e1 e2 e3 e4 e5 in
/-- A row of the norm's gradient. -/
theorem dx_point (e : Fin 1024) : k0_pay6 (F := Ideal) (k0_pay2 (F := Ideal) (iblk m c 0 t) w0 (iblk m c 1 t) w1 (iblk m c 2 t) w2 (iblk m c 3 t) w3 (iblk m c 4 t) w4) (iblk m c 5 t) w5 (iblk m c 7 t) (iblk m c 8 t) (iblk m c 9 t) (ix2 a e)
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 R e) := by
  rw [n1_pay6_eq (blk7 hH t a R hR) (blk9 hG t) (fun e => dy_point hX hQ hK hV hM hZ t a R hR e0 e1 e2 e3 e4 e5 e),
    n1_v48_eq (x := fun e => H (ix2 R e)) (g := fun e => G (ix2 0 e)) (fun e => congrFun hH _) (fun e => congrFun hG _)
      (fun e => dy_ref hX hQ hK hV hM hZ hW R e), blk8 t a R hR]

include hX hQ hK hV hM hZ hW hH hR e0 e1 e2 e3 e4 e5 in
/-- A row's share of the gain's gradient. -/
theorem dg_point (e : Fin 1024) :
    k0_pay3 (F := Ideal) (k0_pay2 (F := Ideal) (iblk m c 0 t) w0 (iblk m c 1 t) w1 (iblk m c 2 t) w2 (iblk m c 3 t) w3 (iblk m c 4 t) w4) (iblk m c 5 t) w5 (ix2 a e) * k0_pay5 (F := Ideal) (iblk m c 7 t) (ix2 a e)
    = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 R e) * val_main_v13 (F := Ideal) (m ((c : Thread nD τ).loc main_arg7)) (ix2 R e) := by
  rw [dy_point hX hQ hK hV hM hZ t a R hR e0 e1 e2 e3 e4 e5 e, dy_ref hX hQ hK hV hM hZ hW R e, n1_pay5_eq (blk7 hH t a R hR),
    n1_v13_eq (x := fun e => H (ix2 R e)) (fun e => congrFun hH _)]

include hX hQ hK hV hM hZ hW hH hG in
/-- The first result: the gradient of the norm's rows, the residual's added. -/
theorem final10 : (dats m 0 c).arrAt 10 cfg0.N
    = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 10 _ (by decide +kernel) fun t _ y => ?_
  have ht : t.val < 16 := lt_of_lt_of_eq t.isLt N_0
  blk_simp
  rw [after0_10]
  idx_vars y
  have e : ((View.whole main_v2_0).slice (win0_10.rect t)).emb (ix2 y0 y1) = ix2 (⟨t.val * 512 + y0.val, by omega⟩ : Fin 8192) y1 := by
    blk_ext [idx t]
  rw [e]
  by_cases h0 : t.val % 16 = 0
  on_goal 1 => rw [outsAt0_A m c t h0 (by omega)]
  on_goal 2 => rw [outsAt0_B m c t h0 (by omega)]
  all_goals
    frame_out
    refine dx_point hX hQ hK hV hM hZ hW hH hG t y0 ⟨t.val * 512 + y0.val, by omega⟩ rfl ?_ ?_ ?_ ?_ ?_ ?_ y1
    all_goals
      intro k e
      rw [← blk6 hW t]
      exact congrArg (iblk m c 6 t) (by blk_ext <;> first | exact (Nat.zero_add _).trans (Nat.one_mul _) | exact congrArg (_ + ·) (Nat.one_mul _))

include hX hQ hK hV hM hZ hW hH in
/-- The second result: the gain's gradient, the sixteen tiles' column sums added up. -/
theorem final11 : (dats m 0 c).arrAt 11 cfg0.N
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t hf y => ?_
  have ht : t.val < 16 := lt_of_lt_of_eq t.isLt N_0
  blk_simp
  have hpay : ∀ (P : FVec Ideal S512x1024 .f32) (U : FVec Ideal S512x3072 .bf16) (W : FVec Ideal S3072x1024 .bf16) (X : FVec Ideal S512x1024 .f32)
      (j : S1x1024.Idx),
      k0_pay7 (F := Ideal) P U W X j = ∑ r : Fin 512, k0_pay3 (F := Ideal) P U W (ix2 r (j 1)) * k0_pay5 (F := Ideal) X (ix2 r (j 1)) := by
    intro P U W X j; idx_vars j; exact n1_pay7_eq j0 j1
  rw [after0_11, Pipeline.eq_sum_fin_of_reset_step_apply_of_flush (fun n h => (outsAt0 m c n h).2) 16 (fun _ => 0) _
    (fun t h j => by have : t.val < 16 := lt_of_lt_of_eq t.isLt N_0; rw [outsAt0_A m c t h (by omega)]; frame_out; rw [hpay, zero_add])
    (fun t h j => by have : t.val < 16 := lt_of_lt_of_eq t.isLt N_0; rw [outsAt0_B m c t h (by omega)]; frame_out; rw [n1_pay1_eq, hpay])
    t ((flush0_11 t).mp hf) _, zero_add]
  idx_vars y
  have e : ((View.whole main_v2_1).slice (win0_11.rect t)).emb (ix2 y0 y1) = ix2 y0 y1 := by
    blk_ext [idx t]
  rw [e, n1_v49_eq]
  refine Fin.sum_mul_add_congr fun s a hl => ?_
  have hs := Pipeline.run_point_lt_of_flush t ((flush0_11 t).mp hf) s
  refine dg_point hX hQ hK hV hM hZ hW hH ⟨_, hs⟩ a ⟨s.val * 512 + a.val, hl⟩
    (by show s.val * 512 + a.val = (16 * (t.val / 16) + s.val) * 512 + a.val; omega) ?_ ?_ ?_ ?_ ?_ ?_ y1
  all_goals
    intro k e
    rw [← blk6 hW ⟨_, hs⟩]
    exact congrArg (iblk m c 6 ⟨_, hs⟩) (by blk_ext <;> first | exact (Nat.zero_add _).trans (Nat.one_mul _) | exact congrArg (_ + ·) (Nat.one_mul _))

end

set_option maxHeartbeats 1600000 in
/-- The kernel's two results are the two gradients of the reference's norm. -/
theorem algebraic : Cert.algebraic_Norm1BwdIdeal_Norm1BwdRefIdeal_pre_norm1_finite := by
  pair_intro
  · run_from Cert.Norm1BwdIdeal.Gen.run_main m g
  · run_from Cert.Norm1BwdRefIdeal.Value.run m' g'
    all_goals
      obtain ⟨⟨X, hX⟩, ⟨Q, hQ⟩, ⟨K, hK⟩, ⟨Y, hV⟩, ⟨M, hM⟩, ⟨Z, hZ⟩, ⟨W, hW⟩, ⟨H, hH⟩, ⟨G, hG⟩⟩ := finite m hpre c
      obtain ⟨a0, a1, a2, a3, a4, a5, a6, a7, a8, a9⟩ := hagree c
    · rw [final10 hX hQ hK hV hM hZ hW hH hG]
      refine (Cert.Norm1BwdRefIdeal.Read.val_main_v48_eq m' c).trans ?_
      rw [a0, a1, a2, a3, a4, a5, a6, a7, a8, a9]
    · rw [final11 hX hQ hK hV hM hZ hW hH, ← a0, ← a1, ← a2, ← a3, ← a4, ← a5, ← a6, ← a7]
      exact Cert.Norm1BwdRefIdeal.Read.val_main_v49_eq _ _ _ _ _ _ _ _

end Cert.Norm1BwdIdeal.Equation
end
-- ==== Proof.LossRow.lean ====
module

public import proofs.«01_k».proof.Proof.NormRow
public import proofs.«01_k».proof.LossHeadIdeal
public import proofs.«01_k».proof.Proof.Gen.LossHeadIdeal
public import proofs.«01_k».proof.Proof.Gen.LossHeadIdeal.Skeleton
public import proofs.«01_k».proof.Proof.Gen.LossHeadRefIdeal.Read

/-! One row of the loss head: its error against the target, its share of the loss, and the gradient it sends back through the final norm, in the
kernel's form and in the reference's. -/

@[expose] public section

set_option maxRecDepth 16384

noncomputable section

open Idealize.ShloMosaic Idealize.ShloMosaic.TcCoe Idealize.SL.Sem

namespace Cert.LossRow

open Cert.Reals Cert.NormRow

/-- A row's error: the normed row times the gain, less the target. -/
abbrev err (x g y : Fin 1024 → ℝ) (j : Fin 1024) : ℝ := xhat x j * g j - y j

/-- The cotangent a row sends into the norm. -/
abbrev cot (x g y : Fin 1024 → ℝ) (j : Fin 1024) : ℝ := err x g y j * (1 / 1024)

theorem ofBits_inv1024 : Ideal.ofBits .f32 0x3A800000#32 = ((1 / 1024 : ℝ) : EReal) := by
  simp [Ideal.ofBits, Ideal.ieee]; rw [← EReal.coe_mul]; norm_num

theorem ofBits_inv2048 : Ideal.ofBits .f32 0x3A000000#32 = ((1 / 2048 : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

variable {x g y : Fin 1024 → ℝ}

section Kernel

open Cert.LossHeadIdeal Cert.LossHeadIdeal.Gen

variable {U : FVec Ideal S512x4096 .bf16} {W : FVec Ideal S4096x1024 .bf16} {H T : FVec Ideal S512x1024 .f32} {G : FVec Ideal S1x1024 .f32} {a : Fin 512}

theorem pay4_eq (a : Fin 512) (j : Fin 1024) :
    k0_pay4 (F := Ideal) U W H (ix2 a j) = (∑ k : Fin 4096, U (ix2 a k) * W (ix2 k j)) + H (ix2 a j) := by
  pointwise [k0_pay4]

variable (hx : ∀ e, k0_pay4 (F := Ideal) U W H (ix2 a e) = (x e : EReal)) (hg : ∀ e, G (ix2 0 e) = (g e : EReal))
  (hy : ∀ e, T (ix2 a e) = (y e : EReal))

include hx in
theorem pay5_eq (z : Fin 1) : k0_pay5 (F := Ideal) U W H (ix2 a z) = (((Real.sqrt (msq x))⁻¹ : ℝ) : EReal) := by
  pointwise [k0_pay5]
  simp only [hx]
  exact rms_coe x

include hx in
theorem pay6_eq (j : Fin 1024) : k0_pay6 (F := Ideal) U W H (ix2 a j) = ((xhat x j : ℝ) : EReal) := by
  pointwise [k0_pay6]
  rw [hx, pay5_eq hx, ← EReal.coe_mul]; rfl

include hx hg hy

theorem pay7_eq (j : Fin 1024) : k0_pay7 (F := Ideal) U W H T G (ix2 a j) = ((err x g y j : ℝ) : EReal) := by
  pointwise [k0_pay7]
  rw [pay6_eq hx, hg, hy, ← EReal.coe_mul, ← EReal.coe_sub]

theorem pay8_eq (j : Fin 1024) : k0_pay8 (F := Ideal) U W H T G (ix2 a j) = ((cot x g y j : ℝ) : EReal) := by
  pointwise [k0_pay8]
  rw [pay7_eq hx hg hy, ofBits_inv1024, ← EReal.coe_mul]

theorem pay9_eq (j : Fin 1024) : k0_pay9 (F := Ideal) U W H T G (ix2 a j) = ((dx x g (cot x g y) j : ℝ) : EReal) := by
  pointwise [k0_pay9]
  simp only [pay8_eq hx hg hy, hg, pay5_eq hx, pay6_eq hx, ofBits_1024, ← EReal.coe_mul, coe_sum, div_coe_coe _ (show (1024 : ℝ) ≠ 0 by norm_num),
    ← EReal.coe_sub]
  rfl

omit hx hg hy

theorem pay10_eq (j : S1x1024.Idx) : k0_pay10 (F := Ideal) U W H T G j
    = ∑ a : Fin 512, k0_pay8 (F := Ideal) U W H T G (ix2 a (j 1)) * k0_pay6 (F := Ideal) U W H (ix2 a (j 1)) := by
  idx_vars j
  pointwise [k0_pay10]

theorem pay11_eq (j : S1x1024.Idx) : k0_pay1 (F := Ideal) (k0_pay11 (F := Ideal) U W H T G) j
    = ∑ a : Fin 512, k0_pay7 (F := Ideal) U W H T G (ix2 a (j 1)) * k0_pay7 (F := Ideal) U W H T G (ix2 a (j 1)) := by
  idx_vars j
  pointwise [k0_pay1, k0_pay11]

theorem pay2_eq (A B : FVec Ideal S1x1024 .f32) (j : S1x1024.Idx) : k0_pay2 (F := Ideal) A B j = B j + A j := by
  idx_vars j
  pointwise [k0_pay2]

theorem pay3_eq (A : FVec Ideal S1024 .f32) (B : FVec Ideal S1x1024 .f32) (j : S1x1024.Idx) :
    k0_pay3 (F := Ideal) A B j = B j + k0_pay1 (F := Ideal) A j := by
  idx_vars j
  pointwise [k0_pay3]

end Kernel

section Reference

open Cert.LossHeadRefIdeal Cert.LossHeadRefIdeal.Gen Cert.LossHeadRefIdeal.Read

variable {U : FVec Ideal S8192x4096 .bf16} {W : FVec Ideal S4096x1024 .f32} {H T : FVec Ideal S8192x1024 .f32} {G : FVec Ideal S1x1024 .f32} {a : Fin 8192}

theorem v2_eq (a : Fin 8192) (j : Fin 1024) :
    val_main_v2 (F := Ideal) U W H (ix2 a j) = H (ix2 a j) + ∑ k : Fin 4096, U (ix2 a k) * W (ix2 k j) := by
  pointwise [val_main_v2, val_main_v1, val_main_v0]

variable (hx : ∀ e, val_main_v2 (F := Ideal) U W H (ix2 a e) = (x e : EReal)) (hg : ∀ e, G (ix2 0 e) = (g e : EReal))
  (hy : ∀ e, T (ix2 a e) = (y e : EReal))

include hx in
theorem v10_eq (z : Fin 1) : val_main_v10 (F := Ideal) U W H (ix2 a z) = ((msq x : ℝ) : EReal) := by
  pointwise [val_main_v10, val_main_v9, val_main_cst_1, val_main_v8, val_main_v7, val_main_cst_0, val_main_v6, val_main_v5, val_main_cst, val_main_v4]
  simp only [hx]
  exact msq_coe x

include hx in
theorem v11_eq (z : Fin 1) : val_main_v11 (F := Ideal) U W H (ix2 a z) = (((Real.sqrt (msq x))⁻¹ : ℝ) : EReal) := by
  pointwise [val_main_v11]
  rw [v10_eq hx, rsqrt_pos (msq_pos x)]

include hx in
theorem v16_eq (j : Fin 1024) : val_main_v16 (F := Ideal) U W H (ix2 a j) = ((xhat x j : ℝ) : EReal) := by
  pointwise [val_main_v16, val_main_v15]
  rw [hx, v11_eq hx, ← EReal.coe_mul]; rfl

include hx hg hy

theorem v20_eq (j : Fin 1024) : val_main_v20 (F := Ideal) U W H T G (ix2 a j) = ((err x g y j : ℝ) : EReal) := by
  pointwise [val_main_v20, val_main_v19, val_main_v18, val_main_v17, val_main_v3]
  rw [v16_eq hx, hg, hy, ← EReal.coe_mul, ← EReal.coe_sub]

theorem v34_eq (j : Fin 1024) : val_main_v34 (F := Ideal) U W H T G (ix2 a j) = ((cot x g y j : ℝ) : EReal) := by
  pointwise [val_main_v34, val_main_v33, val_main_v32, val_main_v31, val_main_cst_10, val_main_v30, val_main_v29, val_main_cst_8, val_main_cst_9,
    val_main_v23, val_main_v22, val_main_cst_3]
  rw [v20_eq hx hg hy, ofBits_half, ofBits_two, ofBits_1024, div_coe_coe _ (show (1024 : ℝ) ≠ 0 by norm_num),
    ← EReal.coe_mul, ← EReal.coe_mul]
  congr 1
  unfold cot
  ring

theorem v39_eq (j : Fin 1024) : val_main_v39 (F := Ideal) U W H T G (ix2 a j) = ((cot x g y j * g j : ℝ) : EReal) := by
  pointwise [val_main_v39, val_main_v38, val_main_v17, val_main_v3]
  rw [v34_eq hx hg hy, hg, ← EReal.coe_mul]

theorem v49_eq : val_main_v49 (F := Ideal) U W H T G (ix1 a)
    = (((∑ k, x k * (cot x g y k * g k)) * (-(1 / 2) * ((Real.sqrt (msq x))⁻¹ / msq x)) / 1024 : ℝ) : EReal) := by
  pointwise [val_main_v49, val_main_cst_15, val_main_v48, val_main_v47, val_main_cst_14, val_main_v46, val_main_v43, val_main_v42, val_main_cst_13,
    val_main_v41, val_main_v14, val_main_v13, val_main_cst_2, val_main_v12]
  simp only [hx, v39_eq hx hg hy, v11_eq hx, v10_eq hx, ofBits_1024, ofBits_neg_half, ← EReal.coe_mul, coe_sum,
    div_coe_coe _ (show (1024 : ℝ) ≠ 0 by norm_num), div_coe_coe _ (msq_pos _).ne', Finset.univ_unique, Finset.sum_singleton]

/-- Differentiating the norm operation by operation gives the same gradient. -/
theorem v54_eq (j : Fin 1024) : val_main_v54 (F := Ideal) U W H T G (ix2 a j) = ((dx x g (cot x g y) j : ℝ) : EReal) := by
  pointwise [val_main_v54, val_main_v53, val_main_v52, val_main_v51, val_main_v50, val_main_v45, val_main_v44]
  simp only [hx, v39_eq hx hg hy, v11_eq hx, v49_eq hx hg hy, ← EReal.coe_mul]
  rw [← EReal.coe_add, ← EReal.coe_add, dx, rms_dx, mul_comm (_ / 1024) (x j)]

omit hx hg hy

theorem v55_eq (z : Fin 1) (j : Fin 1024) : val_main_v55 (F := Ideal) U W H T G (ix2 z j)
    = ∑ a : Fin 8192, val_main_v34 (F := Ideal) U W H T G (ix2 a j) * val_main_v16 (F := Ideal) U W H (ix2 a j) := by
  pointwise [val_main_v55, val_main_v40, val_main_cst_12, val_main_v37, val_main_v36, val_main_cst_11, val_main_v35]
  simp only [Finset.univ_unique, Finset.sum_singleton]
  exact Finset.sum_congr rfl fun _ _ => mul_comm _ _

theorem v28_eq : val_main_v28 (F := Ideal) U W H T G ix0
    = ((1 / 2 : ℝ) : EReal) * ∑ a : Fin 8192, Ideal.div (∑ j : Fin 1024, val_main_v20 (F := Ideal) U W H T G (ix2 a j) * val_main_v20 (F := Ideal) U W H T G (ix2 a j))
        ((1024 : ℝ) : EReal) := by
  pointwise [val_main_v28, val_main_cst_7, val_main_v27, val_main_cst_6, val_main_v26, val_main_v25, val_main_cst_5, val_main_v24, val_main_cst_4, val_main_v21]
  rw [ofBits_half, ofBits_1024]

end Reference

end Cert.LossRow
end
-- ==== Proof.Loss.lean ====
module

public import proofs.«01_k».proof.Defs
public import proofs.«01_k».proof.Proof.LossRow
public import proofs.«01_k».proof.Proof.FiniteFacts
public import proofs.«01_k».proof.Proof.Gen.LossHeadIdeal.Frame
public import Idealize.ShloMosaic.Lib.Pipeline.ValueKit

/-! The loss and its gradient over the whole grid of sixteen tiles of 512 rows. -/

@[expose] public section

set_option maxRecDepth 16384

noncomputable section

open Idealize.ShloMosaic Idealize.ShloMosaic.TcCoe Idealize.SL.Sem
open Idealize.ShloMosaic.Pipeline (Dat)

namespace Cert.LossHeadIdeal.Equation

open Cert.LossHeadIdeal Cert.LossHeadIdeal.Gen Cert.Reals Cert.NormRow Cert.LossRow
open Cert.LossHeadRefIdeal.Read (val_main_v2 val_main_v16 val_main_v20 val_main_v28 val_main_v34 val_main_v54 val_main_v55)

variable (m : (ℓ : Loc nD τ sig) → Buf (Elt Ideal) ℓ)

/-- The row tile each window is on at a point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] :=
  (by decide +kernel : ∀ t : Fin grid0.N, _)

/-- The precondition, read: the activations, the weight, the residual, the target and the gain are arrays of reals. -/
theorem finite (hpre : Cert.Pre_LossHeadIdeal_loss_head_finite m) (c : Dev nD) :
    (∃ r : S8192x4096.Idx → ℝ, m ((c : Thread nD τ).loc main_arg0) = fun i => (r i : EReal))
    ∧ (∃ r : S4096x1024.Idx → ℝ, m ((c : Thread nD τ).loc main_arg1) = fun i => (r i : EReal))
    ∧ (∃ r : S8192x1024.Idx → ℝ, m ((c : Thread nD τ).loc main_arg2) = fun i => (r i : EReal))
    ∧ (∃ r : S8192x1024.Idx → ℝ, m ((c : Thread nD τ).loc main_arg3) = fun i => (r i : EReal))
    ∧ (∃ r : S1x1024.Idx → ℝ, m ((c : Thread nD τ).loc main_arg4) = fun i => (r i : EReal)) := by
  have h := congrFun (hpre c) ix0
  dsimp only [Cert.Pre_loss_head_finite.fn, Cert.Pre_loss_head_finite.fn_part1] at h
  obtain ⟨h, h4⟩ := andi_one h
  obtain ⟨h, h3⟩ := andi_one h
  obtain ⟨h, h2⟩ := andi_one h
  obtain ⟨h0, h1⟩ := andi_one h
  exact ⟨finite_of_all _ _ _ _ _ _ _ h0, finite_of_all _ _ _ _ _ _ _ h1, finite_of_all _ _ _ _ _ _ _ h2, finite_of_all _ _ _ _ _ _ _ h3,
    finite_of_all _ _ _ _ _ _ _ h4⟩

/-- A row of the last hidden state: the activations' product with the weight, the residual added. -/
abbrev row (U : S8192x4096.Idx → ℝ) (W : S4096x1024.Idx → ℝ) (H : S8192x1024.Idx → ℝ) (R : Fin 8192) (e : Fin 1024) : ℝ :=
  (∑ k : Fin 4096, U (ix2 R k) * W (ix2 k e)) + H (ix2 R e)

/-- The error of an entry. -/
abbrev er (U : S8192x4096.Idx → ℝ) (W : S4096x1024.Idx → ℝ) (H Y : S8192x1024.Idx → ℝ) (G : S1x1024.Idx → ℝ) (R : Fin 8192) (e : Fin 1024) : ℝ :=
  err (row U W H R) (fun e => G (ix2 0 e)) (fun e => Y (ix2 R e)) e

section

variable {m} {c : Dev nD} {U : S8192x4096.Idx → ℝ} {W : S4096x1024.Idx → ℝ} {H Y : S8192x1024.Idx → ℝ} {G : S1x1024.Idx → ℝ}
  (hU : m ((c : Thread nD τ).loc main_arg0) = fun i => (U i : EReal)) (hW : m ((c : Thread nD τ).loc main_arg1) = fun i => (W i : EReal))
  (hH : m ((c : Thread nD τ).loc main_arg2) = fun i => (H i : EReal)) (hY : m ((c : Thread nD τ).loc main_arg3) = fun i => (Y i : EReal))
  (hG : m ((c : Thread nD τ).loc main_arg4) = fun i => (G i : EReal))
  (t : Fin cfg0.N) (a : Fin 512) (R : Fin 8192) (hR : R.val = t.val * 512 + a.val)

include hU hR in
theorem blk0 (k : Fin 4096) : iblk m c 0 t (ix2 a k) = (U (ix2 R k) : EReal) := by
  have ht : t.val < 16 := lt_of_lt_of_eq t.isLt N_0
  rw [← congrFun hU]
  blk_point [iblk, V, idx t]

include hW in
theorem blk1 (k : Fin 4096) (e : Fin 1024) : iblk m c 1 t (ix2 k e) = (W (ix2 k e) : EReal) := by
  rw [← congrFun hW]
  blk_simp [iblk, idx t]
  entry_read
  pointwise []
  exact congrArg _ (by blk_ext [idx t])

include hH hR in
theorem blk2 (e : Fin 1024) : iblk m c 2 t (ix2 a e) = (H (ix2 R e) : EReal) := by
  have ht : t.val < 16 := lt_of_lt_of_eq t.isLt N_0
  rw [← congrFun hH]
  blk_point [iblk, V, idx t]

include hY hR in
theorem blk3 (e : Fin 1024) : iblk m c 3 t (ix2 a e) = (Y (ix2 R e) : EReal) := by
  have ht : t.val < 16 := lt_of_lt_of_eq t.isLt N_0
  rw [← congrFun hY]
  blk_point [iblk, V, idx t]

include hG in
theorem blk4 (e : Fin 1024) : iblk m c 4 t (ix2 0 e) = (G (ix2 0 e) : EReal) := by
  rw [← congrFun hG]
  blk_point [iblk, V, idx t]

include hU hW hH hR in
/-- A tile's rows of the last hidden state. -/
theorem row_point (e : Fin 1024) :
    k0_pay4 (F := Ideal) (iblk m c 0 t) (iblk m c 1 t) (iblk m c 2 t) (ix2 a e) = ((row U W H R e : ℝ) : EReal) := by
  rw [pay4_eq]
  simp only [blk0 hU t a R hR, blk1 hW t, blk2 hH t a R hR, ← EReal.coe_mul, coe_sum, ← EReal.coe_add]

include hU hW hH in
/-- The reference's. -/
theorem row_ref (R : Fin 8192) (e : Fin 1024) :
    val_main_v2 (F := Ideal) (m ((c : Thread nD τ).loc main_arg0)) (m ((c : Thread nD τ).loc main_arg1)) (m ((c : Thread nD τ).loc main_arg2)) (ix2 R e)
      = ((row U W H R e : ℝ) : EReal) := by
  rw [v2_eq]
  simp only [hU, hW, hH, ← EReal.coe_mul, coe_sum, ← EReal.coe_add]
  rw [add_comm]

include hU hW hH hY hG in
/-- The reference's error of an entry. -/
theorem er_ref (R : Fin 8192) (e : Fin 1024) :
    val_main_v20 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (ix2 R e) = ((er U W H Y G R e : ℝ) : EReal) :=
  v20_eq (g := fun e => G (ix2 0 e)) (y := fun e => Y (ix2 R e)) (row_ref hU hW hH R) (fun e => congrFun hG _) (fun e => congrFun hY _) e

include hU hW hH hY hG hR in
/-- A row of the hidden state's gradient. -/
theorem dx_point (e : Fin 1024) :
    k0_pay9 (F := Ideal) (iblk m c 0 t) (iblk m c 1 t) (iblk m c 2 t) (iblk m c 3 t) (iblk m c 4 t) (ix2 a e)
      = val_main_v54 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 R e) := by
  rw [pay9_eq (row_point hU hW hH t a R hR) (blk4 hG t) (blk3 hY t a R hR),
    v54_eq (g := fun e => G (ix2 0 e)) (y := fun e => Y (ix2 R e)) (row_ref hU hW hH R) (fun e => congrFun hG _) (fun e => congrFun hY _)]

include hU hW hH hY hG hR in
/-- A row's share of the gain's gradient. -/
theorem dg_point (e : Fin 1024) :
    k0_pay8 (F := Ideal) (iblk m c 0 t) (iblk m c 1 t) (iblk m c 2 t) (iblk m c 3 t) (iblk m c 4 t) (ix2 a e)
      * k0_pay6 (F := Ideal) (iblk m c 0 t) (iblk m c 1 t) (iblk m c 2 t) (ix2 a e)
      = val_main_v34 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix2 R e)
        * val_main_v16 (F := Ideal) (m ((c : Thread nD τ).loc main_arg0)) (m ((c : Thread nD τ).loc main_arg1)) (m ((c : Thread nD τ).loc main_arg2)) (ix2 R e) := by
  rw [pay8_eq (row_point hU hW hH t a R hR) (blk4 hG t) (blk3 hY t a R hR), pay6_eq (row_point hU hW hH t a R hR),
    v34_eq (g := fun e => G (ix2 0 e)) (y := fun e => Y (ix2 R e)) (row_ref hU hW hH R) (fun e => congrFun hG _) (fun e => congrFun hY _),
    v16_eq (row_ref hU hW hH R)]

include hU hW hH hY hG hR in
/-- An entry's square error. -/
theorem sq_point (e : Fin 1024) :
    k0_pay7 (F := Ideal) (iblk m c 0 t) (iblk m c 1 t) (iblk m c 2 t) (iblk m c 3 t) (iblk m c 4 t) (ix2 a e)
      * k0_pay7 (F := Ideal) (iblk m c 0 t) (iblk m c 1 t) (iblk m c 2 t) (iblk m c 3 t) (iblk m c 4 t) (ix2 a e)
      = ((er U W H Y G R e * er U W H Y G R e : ℝ) : EReal) := by
  rw [pay7_eq (row_point hU hW hH t a R hR) (blk4 hG t) (blk3 hY t a R hR), ← EReal.coe_mul]

include hU hW hH hY hG

/-- The hidden state's gradient. -/
theorem final5 : (dats m 0 c).arrAt 5 cfg0.N
    = val_main_v54 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have ht : t.val < 16 := lt_of_lt_of_eq t.isLt N_0
  blk_simp
  rw [after0_5]
  idx_vars y
  have e : ((View.whole main_v1_0).slice (win0_5.rect t)).emb (ix2 y0 y1) = ix2 (⟨t.val * 512 + y0.val, by omega⟩ : Fin 8192) y1 := by
    blk_ext [idx t]
  have p := dx_point hU hW hH hY hG t y0 ⟨t.val * 512 + y0.val, by omega⟩ rfl y1
  rw [← e] at p
  by_cases h0 : t.val % 16 = 0
  · rw [outsAt0_A m c t h0 (by omega) h0 (by omega)]; frame_out; exact p
  · rw [outsAt0_B m c t h0 (by omega) h0 (by omega)]; frame_out; exact p

/-- The gain's gradient, the sixteen tiles' column sums added up. -/
theorem final6 : (dats m 0 c).arrAt 6 cfg0.N
    = val_main_v55 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  have ht : t.val < 16 := lt_of_lt_of_eq t.isLt N_0
  blk_simp
  rw [after0_6, Pipeline.eq_sum_fin_of_reset_step_apply_of_flush (fun n h => (outsAt0 m c n h).2.1) 16 (fun _ => 0) _
    (fun t h j => by
      have : t.val < 16 := lt_of_lt_of_eq t.isLt N_0
      rw [outsAt0_A m c t h (by omega) h (by omega)]; frame_out; rw [pay10_eq, zero_add])
    (fun t h j => by
      have : t.val < 16 := lt_of_lt_of_eq t.isLt N_0
      rw [outsAt0_B m c t h (by omega) h (by omega)]; frame_out; rw [pay2_eq, pay10_eq])
    t ((flush0_6 t).mp hf) _, zero_add]
  idx_vars y
  have e : ((View.whole main_v1_1).slice (win0_6.rect t)).emb (ix2 y0 y1) = ix2 y0 y1 := by
    blk_ext [idx t]
  rw [e, v55_eq]
  refine Fin.sum_mul_add_congr fun s a hl => ?_
  have hs := Pipeline.run_point_lt_of_flush t ((flush0_6 t).mp hf) s
  exact dg_point hU hW hH hY hG ⟨_, hs⟩ a ⟨s.val * 512 + a.val, hl⟩ (by show s.val * 512 + a.val = (16 * (t.val / 16) + s.val) * 512 + a.val; omega) y1

/-- The square errors of every column, the sixteen tiles' sums added up. -/
theorem final7 : (dats m 0 c).arrAt 7 cfg0.N
    = fun i => ((∑ R : Fin 8192, er U W H Y G R (i 1) * er U W H Y G R (i 1) : ℝ) : EReal) := by
  refine (dats m 0 c).arrAt_eq_of_covers 7 _ (by decide +kernel) fun t hf y => ?_
  have ht : t.val < 16 := lt_of_lt_of_eq t.isLt N_0
  blk_simp
  rw [after0_7, Pipeline.eq_sum_fin_of_reset_step_apply_of_flush (fun n h => (outsAt0 m c n h).2.2) 16 (fun _ => 0) _
    (fun t h j => by
      have : t.val < 16 := lt_of_lt_of_eq t.isLt N_0
      rw [outsAt0_A m c t h (by omega) h (by omega)]; frame_out; rw [pay11_eq, zero_add])
    (fun t h j => by
      have : t.val < 16 := lt_of_lt_of_eq t.isLt N_0
      rw [outsAt0_B m c t h (by omega) h (by omega)]; frame_out; rw [pay3_eq, pay11_eq])
    t ((flush0_7 t).mp hf) _, zero_add]
  idx_vars y
  have e : ((View.whole main_v1_2).slice (win0_7.rect t)).emb (ix2 y0 y1) = ix2 y0 y1 := by
    blk_ext [idx t]
  rw [e, ← coe_sum]
  refine Fin.sum_mul_add_congr fun s a hl => ?_
  have hs := Pipeline.run_point_lt_of_flush t ((flush0_7 t).mp hf) s
  exact sq_point hU hW hH hY hG ⟨_, hs⟩ a ⟨s.val * 512 + a.val, hl⟩ (by show s.val * 512 + a.val = (16 * (t.val / 16) + s.val) * 512 + a.val; omega) y1

/-- The reference's loss, over the reals. -/
theorem loss_ref : val_main_v28 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) ix0
    = ((1 / 2048 * ∑ e : Fin 1024, ∑ R : Fin 8192, er U W H Y G R e * er U W H Y G R e : ℝ) : EReal) := by
  rw [v28_eq]
  simp only [er_ref hU hW hH hY hG, ← EReal.coe_mul, coe_sum, div_coe_coe _ (show (1024 : ℝ) ≠ 0 by norm_num)]
  rw [Finset.sum_comm, ← Finset.sum_div]
  congr 1
  ring

end

/-- The loss after the call: the columns' square errors added up and scaled. -/
theorem tail (c : Dev nD) : (Pipeline.afterTail₀ cfgs (dats m) 0 (V0 m) [hostOps1] c main_v3 : FVec Ideal S_ .f32)
    = mulf (F := Ideal) (constant (F := Ideal) S_ .f32 0x3A000000#32)
        (Host.reduceAdd ((dats m 0 c).arrAt 7 cfg0.N : FVec Ideal S1x1024 .f32) (constant (F := Ideal) S_ .f32 0x00000000#32)
          reducesTo_S1x1024_S_d0_1 h_S_) := by
  have e := Pipeline.withArrays_arr spec0 (by decide) c (V0 m c) (fun w => (dats m 0 c).arrAt w cfg0.N) 7
  show StableHlo.after hostOps1 _ (Proc.devRef .tc main_v3) = _
  after_results
  exact congrArg (fun z : FVec Ideal S1x1024 .f32 => mulf (F := Ideal) (constant (F := Ideal) S_ .f32 0x3A000000#32)
    (Host.reduceAdd z (constant (F := Ideal) S_ .f32 0x00000000#32) reducesTo_S1x1024_S_d0_1 h_S_)) e

/-- That scaled sum, over an array of reals. -/
theorem tail_sum (f : Fin 1024 → ℝ) : mulf (F := Ideal) (constant (F := Ideal) S_ .f32 0x3A000000#32)
        (Host.reduceAdd ((fun i => ((f (i 1) : ℝ) : EReal)) : FVec Ideal S1x1024 .f32) (constant (F := Ideal) S_ .f32 0x00000000#32)
          reducesTo_S1x1024_S_d0_1 h_S_) ix0 = ((1 / 2048 * ∑ e : Fin 1024, f e : ℝ) : EReal) := by
  pointwise []
  simp only [Finset.univ_unique, Finset.sum_singleton, ofBits_inv2048, coe_sum, ← EReal.coe_mul]
  try rfl

/-- The kernel's three results are the reference's loss and its two gradients. -/
theorem algebraic : Cert.algebraic_LossHeadIdeal_LossHeadRefIdeal_pre_loss_head_finite := by
  pair_intro
  · run_from Cert.LossHeadIdeal.Gen.run_main m g
    show StableHlo.after hostOps1 _ (Proc.devRef .tc main_arg1) = _
    after_results
    rw [Pipeline.withArrays_of_ne _ _ _ _ _ (by decide)]
    exact V_main_arg1 m c
  · run_from Cert.LossHeadRefIdeal.Value.run m' g'
    all_goals
      obtain ⟨⟨U, hU⟩, ⟨W, hW⟩, ⟨H, hH⟩, ⟨Y, hY⟩, ⟨G, hG⟩⟩ := finite m hpre c
      obtain ⟨a0, a1, a2, a3, a4⟩ := hagree c
    · refine (Cert.LossHeadRefIdeal.Read.val_main_v28_eq _ _ _ _ _).trans (Eq.trans ?_ (tail m c).symm)
      rw [final7 hU hW hH hY hG]
      funext i
      obtain rfl : i = ix0 := funext fun d => d.elim0
      rw [loss_ref hU hW hH hY hG]
      exact (tail_sum _).symm
    · rw [final5 hU hW hH hY hG]
      refine (Cert.LossHeadRefIdeal.Read.val_main_v54_eq m' c).trans ?_
      rw [a0, a1, a2, a3, a4]
    · rw [final6 hU hW hH hY hG, ← a0, ← a1, ← a2, ← a3, ← a4]
      exact Cert.LossHeadRefIdeal.Read.val_main_v55_eq _ _ _ _ _

end Cert.LossHeadIdeal.Equation
end
-- ==== Proof.Relu2.lean ====
module

public import proofs.«01_k».proof.Defs
public import proofs.«01_k».proof.Proof.Reals
public import proofs.«01_k».proof.Proof.Gen.Relu2BwdIdeal.Frame
public import proofs.«01_k».proof.Proof.Gen.Relu2BwdRefIdeal.Read
public import Idealize.ShloMosaic.Lib.Pipeline.ValueKit

/-! The gradient through the squared rectifier, fused with the product that carries its cotangent back: the kernel recovers the rectifier's slope
from the square's root. -/

@[expose] public section

set_option maxRecDepth 16384

noncomputable section

open Idealize.ShloMosaic Idealize.ShloMosaic.TcCoe Idealize.SL.Sem
open Idealize.ShloMosaic.Pipeline (Dat)

namespace Cert.Relu2BwdIdeal.Equation

open Cert.Relu2BwdIdeal Cert.Relu2BwdIdeal.Gen Cert.Reals
open Cert.Relu2BwdRefIdeal.Read

variable (m : (ℓ : Loc nD τ sig) → Buf (Elt Ideal) ℓ)

/-- The root of a rectified value's square is the rectified value, infinities included. -/
theorem sqrt_sq {x : EReal} (h : 0 ≤ x) : Ideal.sqrt (x * x) = x := by
  induction x with
  | bot => simp at h
  | top => rw [EReal.top_mul_top, Ideal.sqrt_top]
  | coe r =>
    have hr : 0 ≤ r := EReal.coe_nonneg.1 h
    rw [← EReal.coe_mul, Ideal.sqrt_coe, if_neg (not_lt.2 (mul_self_nonneg r)), Real.sqrt_mul_self hr]

/-- The slope as the kernel has it, and as the reference selects it. -/
theorem slope (s w x : EReal) : s * (w * Ideal.sqrt (max x 0 * max x 0)) = if 0 < x then s * (w * max x 0) else 0 := by
  rw [sqrt_sq (le_max_right _ _)]
  split_ifs with h
  · rfl
  · rw [max_eq_right (not_lt.1 h), mul_zero, mul_zero]

theorem pay1_eq (U : FVec Ideal S1024x1024 .f32) (W : FVec Ideal S2048x1024 .bf16) (A : FVec Ideal S1024x2048 .bf16) (a : Fin 1024) (j : Fin 2048) :
    k0_pay1 (F := Ideal) U W A (ix2 a j)
      = (∑ k : Fin 1024, U (ix2 a k) * W (ix2 j k)) * (Ideal.ofBits .f32 0x40000000#32 * Ideal.sqrt (A (ix2 a j))) := by
  pointwise [k0_pay1]

theorem v12_eq (U : FVec Ideal S8192x1024 .f32) (W : FVec Ideal S4096x1024 .f32) (X : FVec Ideal S8192x4096 .f32) (a : Fin 8192) (j : Fin 4096) :
    val_main_v12 (F := Ideal) U W X (ix2 a j)
      = if 0 < X (ix2 a j) then (∑ k : Fin 1024, U (ix2 a k) * W (ix2 j k)) * (Ideal.ofBits .f32 0x40000000#32 * max (X (ix2 a j)) 0) else 0 := by
  pointwise [val_main_v12, val_main_v11, val_main_v10, val_main_cst_2, val_main_v9, val_main_v8, val_main_v6, val_main_v5, val_main_cst_1, val_main_v2,
    val_main_v1, val_main_cst, val_main_v0, val_main_call0_v0, val_main_call0_cst]

/-- The tile each window is on at a point. -/
theorem idx : ∀ t : Fin cfg0.N, win0_0.index t = ![t.val / 2, 0] ∧ win0_1.index t = ![t.val % 2, 0] ∧ win0_2.index t = ![t.val / 2, t.val % 2]
    ∧ win0_3.index t = ![t.val / 2, t.val % 2] :=
  (by decide +kernel : ∀ t : Fin grid0.N, _)

section

variable {m} {c : Dev nD} (t : Fin cfg0.N) (a : Fin 1024) (j : Fin 2048) (R : Fin 8192) (C : Fin 4096)
  (hR : R.val = t.val / 2 * 1024 + a.val) (hC : C.val = t.val % 2 * 2048 + j.val)

include hR in
theorem blk0 (k : Fin 1024) : iblk m c 0 t (ix2 a k) = m ((c : Thread nD τ).loc main_arg0) (ix2 R k) := by
  have ht : t.val < 16 := lt_of_lt_of_eq t.isLt N_0
  blk_point [iblk, V, idx t]

include hC in
theorem blk1 (k : Fin 1024) : iblk m c 1 t (ix2 j k) = m ((c : Thread nD τ).loc main_arg1) (ix2 C k) := by
  have ht : t.val < 16 := lt_of_lt_of_eq t.isLt N_0
  blk_simp [iblk, idx t]
  entry_read
  pointwise []
  exact congrArg _ (by blk_ext [idx t])

include hR hC in
theorem blk2 (X : FVec Ideal S8192x4096 .f32) (hX : m ((c : Thread nD τ).loc main_arg2) = X) :
    iblk m c 2 t (ix2 a j) = max (X (ix2 R C)) 0 * max (X (ix2 R C)) 0 := by
  have ht : t.val < 16 := lt_of_lt_of_eq t.isLt N_0
  subst hX
  have e : ((View.whole main_v3).slice (win0_2.rect t)).emb (ix2 a j) = ix2 R C := by blk_ext [idx t]
  blk_simp [iblk, idx t]
  entry_read
  rw [e]
  pointwise []

end

/-- The call's result is the reference's gradient. -/
theorem final3 (c : Dev nD) : (dats m 0 c).arrAt 3 cfg0.N
    = val_main_v12 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 16 := lt_of_lt_of_eq t.isLt N_0
  blk_simp
  rw [after0_3]
  frame_out
  idx_vars y
  have e : ((View.whole main_v5).slice (win0_3.rect t)).emb (ix2 y0 y1)
      = ix2 (⟨t.val / 2 * 1024 + y0.val, by omega⟩ : Fin 8192) (⟨t.val % 2 * 2048 + y1.val, by omega⟩ : Fin 4096) := by
    blk_ext [idx t]
  rw [e, pay1_eq, v12_eq, blk2 t y0 y1 ⟨t.val / 2 * 1024 + y0.val, by omega⟩ ⟨t.val % 2 * 2048 + y1.val, by omega⟩ rfl rfl _ rfl, slope]
  simp only [blk0 t y0 ⟨t.val / 2 * 1024 + y0.val, by omega⟩ rfl, blk1 t y1 ⟨t.val % 2 * 2048 + y1.val, by omega⟩ rfl]

/-- The kernel's result is the reference's gradient through the squared rectifier. -/
theorem algebraic : Cert.algebraic_Relu2BwdIdeal_Relu2BwdRefIdeal := by
  pair_intro
  · run_from Cert.Relu2BwdIdeal.Gen.run_main m g
  · run_from Cert.Relu2BwdRefIdeal.Value.run m' g'
    obtain ⟨a0, a1, a2⟩ := hagree c
    rw [final3, ← a0, ← a1, ← a2]
    exact Cert.Relu2BwdRefIdeal.Read.val_main_v12_eq _ _ _

end Cert.Relu2BwdIdeal.Equation
end
-- ==== Proof.MlpUp.lean ====
module

public import proofs.«01_k».proof.Defs
public import proofs.«01_k».proof.Proof.Gen.MlpUpIdeal.Frame
public import proofs.«01_k».proof.Proof.Gen.MlpUpRefIdeal.Read
public import Idealize.ShloMosaic.Lib.Pipeline.ValueKit
public import Idealize.ShloMosaic.Lib.Pointwise

/-! The squared rectifier of the second layer's first product, for all extended reals. -/

@[expose] public section

set_option maxRecDepth 16384

noncomputable section

open Idealize.ShloMosaic Idealize.ShloMosaic.TcCoe Idealize.SL.Sem
open Idealize.ShloMosaic.Pipeline (Dat)

namespace Cert.MlpUpIdeal.Equation

open Cert.MlpUpIdeal Cert.MlpUpIdeal.Gen
open Cert.MlpUpRefIdeal.Read

theorem pay1_eq (X : FVec Ideal S512x1024 .bf16) (W : FVec Ideal S4096x1024 .bf16) (a : Fin 512) (j : Fin 4096) :
    k0_pay1 (F := Ideal) X W (ix2 a j)
      = max (∑ k : Fin 1024, X (ix2 a k) * W (ix2 j k)) 0 * max (∑ k : Fin 1024, X (ix2 a k) * W (ix2 j k)) 0 := by
  pointwise [k0_pay1]

theorem v4_eq (X : FVec Ideal S8192x1024 .bf16) (W : FVec Ideal S1024x4096 .f32) (a : Fin 8192) (j : Fin 4096) :
    val_main_v4 (F := Ideal) X W (ix2 a j)
      = max (∑ k : Fin 1024, X (ix2 a k) * W (ix2 k j)) 0 * max (∑ k : Fin 1024, X (ix2 a k) * W (ix2 k j)) 0 := by
  pointwise [val_main_v4, val_main_v3, val_main_v2, val_main_v1, val_main_v0, val_main_call0_v0, val_main_call0_cst]

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The weights arrive transposed. -/
theorem blk1 (c : Dev nD) (t : Fin cfg0.N) (j : Fin 4096) (k : Fin 1024) :
    iblk m c 1 t (ix2 j k) = m ((c : Thread nD τ).loc main_arg1) (ix2 k j) := by
  blk_simp [iblk, idx t]
  entry_read
  pointwise []
  exact congrArg _ (by blk_ext [idx t])

/-- The call's result is the reference's squared rectifier. -/
theorem final2 (c : Dev nD) : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  have ht : t.val < 16 := lt_of_lt_of_eq t.isLt N_0
  blk_simp
  rw [after0_2]
  frame_out
  idx_vars y
  have e : ((View.whole main_v2).slice (win0_2.rect t)).emb (ix2 y0 y1) = ix2 (⟨t.val * 512 + y0.val, by omega⟩ : Fin 8192) y1 := by
    blk_ext [idx t]
  have b0 : ∀ k : Fin 1024, iblk m c 0 t (ix2 y0 k) = m ((c : Thread nD τ).loc main_arg0) (ix2 (⟨t.val * 512 + y0.val, by omega⟩ : Fin 8192) k) :=
    fun k => by blk_point [iblk, V, idx t]
  rw [e, pay1_eq, v4_eq]
  simp only [b0, blk1]

/-- The kernel's result is the reference's squared rectifier. -/
theorem algebraic : Cert.algebraic_MlpUpIdeal_MlpUpRefIdeal := by
  pair_intro
  · run_from Cert.MlpUpIdeal.Gen.run_main m g
  · run_from Cert.MlpUpRefIdeal.Value.run m' g'
    obtain ⟨a0, a1⟩ := hagree c
    rw [final2, ← a0, ← a1]
    exact Cert.MlpUpRefIdeal.Read.val_main_v4_eq _ _

end Cert.MlpUpIdeal.Equation
end
-- ==== Proof.AttnMerge.lean ====
module

public import proofs.«01_k».proof.Defs
public import proofs.«01_k».proof.Proof.Softmax
public import proofs.«01_k».proof.Proof.Gen.AttnMergeIdeal.Frame
public import proofs.«01_k».proof.Proof.Gen.AttnMergeRefIdeal.Read
public import Idealize.ShloMosaic.Lib.Pipeline.ValueKit
public import Idealize.ShloMosaic.Lib.Pointwise

/-! The merge of three attention outputs by their log-sums of exponentials, for all extended reals: both sides take off the largest of the three
log-sums; the kernel holds every head's log-sum once per channel. -/

@[expose] public section

set_option maxRecDepth 16384

noncomputable section

open Idealize.ShloMosaic Idealize.ShloMosaic.TcCoe Idealize.SL.Sem
open Idealize.ShloMosaic.Pipeline (Dat)

namespace Cert.AttnMergeIdeal.Equation

open Cert.AttnMergeIdeal Cert.AttnMergeIdeal.Gen Cert.Reals

/-- The largest of three log-sums. -/
def top (a b c : EReal) : EReal := max (max a b) c

/-- The sum of the three exponentials. -/
def total (a b c : EReal) : EReal := Ideal.exp (a - top a b c) + Ideal.exp (b - top a b c) + Ideal.exp (c - top a b c)

/-- The merged output of three outputs `x y z`. -/
def out (a b c x y z : EReal) : EReal :=
  Ideal.div (Ideal.exp (a - top a b c)) (total a b c) * x + Ideal.div (Ideal.exp (b - top a b c)) (total a b c) * y
    + Ideal.div (Ideal.exp (c - top a b c)) (total a b c) * z

/-- The merged log-sum. -/
def lse (a b c : EReal) : EReal := top a b c + Ideal.log (total a b c)

section Kernel

variable (A B C X Y Z : FVec Ideal S1024x256 .f32) (a : Fin 1024) (j : Fin 256)

theorem pay9_eq : k0_pay9 (F := Ideal) A B C X Y Z (ix2 a j)
    = out (A (ix2 a j)) (B (ix2 a j)) (C (ix2 a j)) (X (ix2 a j)) (Y (ix2 a j)) (Z (ix2 a j)) := by
  unfold out total top
  pointwise [k0_pay9, k0_pay8, k0_pay7, k0_pay6, k0_pay5, k0_pay4, k0_pay3, k0_pay2, k0_pay1]

theorem pay10_eq : k0_pay10 (F := Ideal) A B C (ix2 a j) = lse (A (ix2 a j)) (B (ix2 a j)) (C (ix2 a j)) := by
  unfold lse total top
  pointwise [k0_pay10, k0_pay8, k0_pay7, k0_pay6, k0_pay5, k0_pay4, k0_pay3, k0_pay2, k0_pay1]

end Kernel

section Reference

open Cert.AttnMergeRefIdeal Cert.AttnMergeRefIdeal.Gen Cert.AttnMergeRefIdeal.Read

variable (X Y Z : FVec Ideal S8192x256 .f32) (A B C : FVec Ideal S8192x4 .f32) (r : Fin 8192) (h : Fin 4)

/-- The largest of three numbers, folded from −∞. -/
theorem fold_three (f : Fin 3 → EReal) (z : EReal) (hz : z = ⊥) : Finset.univ.fold max z f = top (f 0) (f 1) (f 2) := by
  subst hz
  show max (f 0) (max (f 1) (max (f 2) ⊥)) = _
  rw [max_bot_right, ← max_assoc]; rfl

theorem v10_eq (p : Fin 3) : val_main_v10 (F := Ideal) A B C (ix3 p r h) = (![A (ix2 r h), B (ix2 r h), C (ix2 r h)]) p := by
  match p with
  | ⟨0, _⟩ => pointwise [val_main_v10, val_main_v9, val_main_v8, val_main_v7]
  | ⟨1, _⟩ => pointwise [val_main_v10, val_main_v9, val_main_v8, val_main_v7]
  | ⟨2, _⟩ => pointwise [val_main_v10, val_main_v9, val_main_v8, val_main_v7]

/-- Reducing over the three patterns by the largest. -/
theorem max_eq (z : FVec Ideal S_ .f32) (hz : z (fun a => a.elim0) = ⊥) :
    Host.reduce (FloatOps.maximumf (F := Ideal) (φ := .f32)) (val_main_v10 (F := Ideal) A B C) z reducesTo_S3x8192x4_S8192x4_d0 h_S_ (ix2 r h)
      = top (A (ix2 r h)) (B (ix2 r h)) (C (ix2 r h)) := by
  have hs : S3x8192x4.Reduces [0] S8192x4 := by decide
  rw [Host.reduce_eq_fold_single (FloatOps.maximumf (F := Ideal) (φ := .f32)) (val_main_v10 (F := Ideal) A B C) z
    reducesTo_S3x8192x4_S8192x4_d0 hs h_S_ (ix2 r h)]
  refine (Finset.fold_congr (op := max) (g := ![A (ix2 r h), B (ix2 r h), C (ix2 r h)]) fun p _ => ?_).trans (fold_three _ _ ?_)
  · exact (congrArg (val_main_v10 (F := Ideal) A B C) (funext fun a => Fin.ext (by
      match a with
      | ⟨0, _⟩ => rfl
      | ⟨1, _⟩ => rfl
      | ⟨2, _⟩ => rfl))).trans (v10_eq A B C r h p)
  · exact (congrArg z (funext fun a => a.elim0)).trans hz

theorem v13_eq : val_main_v13 (F := Ideal) A B C (ix2 r h) = top (A (ix2 r h)) (B (ix2 r h)) (C (ix2 r h)) := by
  rw [val_main_v13_apply, val_main_v12_apply, val_main_cst_0_apply]
  exact (congrArg₂ max ofBits_neg_inf (max_eq A B C r h _ ofBits_neg_inf)).trans (max_eq_right bot_le)

theorem v27_eq : val_main_v27 (F := Ideal) A B C (ix2 r h) = top (A (ix2 r h)) (B (ix2 r h)) (C (ix2 r h)) :=
  max_eq A B C r h _ ofBits_neg_inf

theorem v17_eq (p : Fin 3) : val_main_v17 (F := Ideal) A B C (ix3 p r h)
    = Ideal.exp ((![A (ix2 r h), B (ix2 r h), C (ix2 r h)]) p - top (A (ix2 r h)) (B (ix2 r h)) (C (ix2 r h))) := by
  pointwise [val_main_v17, val_main_v16, val_main_v15, val_main_v14]
  rw [v10_eq, v13_eq]

theorem v18_eq : val_main_v18 (F := Ideal) A B C (ix2 r h) = total (A (ix2 r h)) (B (ix2 r h)) (C (ix2 r h)) := by
  pointwise [val_main_v18, val_main_cst_1]
  simp only [v17_eq, Fin.sum_univ_three]
  rfl

theorem v32_eq : val_main_v32 (F := Ideal) A B C (ix2 r h) = total (A (ix2 r h)) (B (ix2 r h)) (C (ix2 r h)) := by
  pointwise [val_main_v32, val_main_cst_4, val_main_v31, val_main_v30, val_main_v29, val_main_v28]
  simp only [v10_eq, v27_eq, Fin.sum_univ_three]
  rfl

theorem v36_eq (j : Fin 256) : val_main_v36 (F := Ideal) A B C (ix2 r j)
    = lse (A (ix2 r (⟨j.val / 64, by omega⟩ : Fin 4))) (B (ix2 r (⟨j.val / 64, by omega⟩ : Fin 4))) (C (ix2 r (⟨j.val / 64, by omega⟩ : Fin 4))) := by
  pointwise [val_main_v36, val_main_v35, val_main_v34, val_main_v33]
  rw [v27_eq, v32_eq]
  rfl

theorem v6_eq (p : Fin 3) (e : Fin 64) : val_main_v6 (F := Ideal) X Y Z (ix4 p r h e)
    = (![X (ix2 r (⟨h.val * 64 + e.val, by omega⟩ : Fin 256)), Y (ix2 r (⟨h.val * 64 + e.val, by omega⟩ : Fin 256)),
        Z (ix2 r (⟨h.val * 64 + e.val, by omega⟩ : Fin 256))]) p := by
  match p with
  | ⟨0, _⟩ => pointwise [val_main_v6, val_main_v5, val_main_v4, val_main_v3, val_main_v2, val_main_v1, val_main_v0]
  | ⟨1, _⟩ => pointwise [val_main_v6, val_main_v5, val_main_v4, val_main_v3, val_main_v2, val_main_v1, val_main_v0]
  | ⟨2, _⟩ => pointwise [val_main_v6, val_main_v5, val_main_v4, val_main_v3, val_main_v2, val_main_v1, val_main_v0]

theorem v26_eq (j : Fin 256) : val_main_v26 (F := Ideal) X Y Z A B C (ix2 r j)
    = out (A (ix2 r (⟨j.val / 64, by omega⟩ : Fin 4))) (B (ix2 r (⟨j.val / 64, by omega⟩ : Fin 4))) (C (ix2 r (⟨j.val / 64, by omega⟩ : Fin 4)))
        (X (ix2 r j)) (Y (ix2 r j)) (Z (ix2 r j)) := by
  have hj : (⟨j.val / 64 * 64 + j.val % 64, by omega⟩ : Fin 256) = j := Fin.ext (by show j.val / 64 * 64 + j.val % 64 = j.val; omega)
  pointwise [val_main_v26, val_main_v25, val_main_cst_2, val_main_v24, val_main_v23, val_main_v22, val_main_v21, val_main_v20, val_main_v19]
  simp only [v6_eq, v17_eq, v18_eq, Fin.sum_univ_three, hj]
  rfl

end Reference

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

section Blocks

variable (c : Dev nD) (t : Fin cfg0.N) (a : Fin 1024) (e : Fin 256) (R : Fin 8192) (hR : R.val = t.val * 1024 + a.val)

include hR

theorem blk0 : iblk m c 0 t (ix2 a e) = m ((c : Thread nD τ).loc main_arg0) (ix2 R e) := by
  blk_point [iblk, V, idx t]

theorem blk1 : iblk m c 1 t (ix2 a e) = m ((c : Thread nD τ).loc main_arg1) (ix2 R e) := by
  blk_point [iblk, V, idx t]

theorem blk2 : iblk m c 2 t (ix2 a e) = m ((c : Thread nD τ).loc main_arg2) (ix2 R e) := by
  blk_point [iblk, V, idx t]

theorem blk3 : iblk m c 3 t (ix2 a e) = m ((c : Thread nD τ).loc main_arg3) (ix2 R (⟨e.val / 64, by omega⟩ : Fin 4)) := by
  blk_simp [iblk, idx t]
  entry_read
  pointwise []
  exact congrArg _ (by blk_ext [idx t])

theorem blk4 : iblk m c 4 t (ix2 a e) = m ((c : Thread nD τ).loc main_arg4) (ix2 R (⟨e.val / 64, by omega⟩ : Fin 4)) := by
  blk_simp [iblk, idx t]
  entry_read
  pointwise []
  exact congrArg _ (by blk_ext [idx t])

theorem blk5 : iblk m c 5 t (ix2 a e) = m ((c : Thread nD τ).loc main_arg5) (ix2 R (⟨e.val / 64, by omega⟩ : Fin 4)) := by
  blk_simp [iblk, idx t]
  entry_read
  pointwise []
  exact congrArg _ (by blk_ext [idx t])

end Blocks

/-- The merged output is the reference's. -/
theorem final6 (c : Dev nD) : (dats m 0 c).arrAt 6 cfg0.N
    = Cert.AttnMergeRefIdeal.Read.val_main_v26 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t _ y => ?_
  have ht : t.val < 8 := lt_of_lt_of_eq t.isLt N_0
  blk_simp
  rw [after0_6]
  frame_out
  idx_vars y
  have e : ((View.whole main_v6_0).slice (win0_6.rect t)).emb (ix2 y0 y1) = ix2 (⟨t.val * 1024 + y0.val, by omega⟩ : Fin 8192) y1 := by
    blk_ext [idx t]
  rw [e, pay9_eq, v26_eq, blk0 m c t y0 y1 ⟨t.val * 1024 + y0.val, by omega⟩ rfl, blk1 m c t y0 y1 ⟨t.val * 1024 + y0.val, by omega⟩ rfl,
    blk2 m c t y0 y1 ⟨t.val * 1024 + y0.val, by omega⟩ rfl, blk3 m c t y0 y1 ⟨t.val * 1024 + y0.val, by omega⟩ rfl,
    blk4 m c t y0 y1 ⟨t.val * 1024 + y0.val, by omega⟩ rfl, blk5 m c t y0 y1 ⟨t.val * 1024 + y0.val, by omega⟩ rfl]

/-- The merged log-sums are the reference's. -/
theorem final7 (c : Dev nD) : (dats m 0 c).arrAt 7 cfg0.N
    = Cert.AttnMergeRefIdeal.Read.val_main_v36 (F := Ideal) (m ((c : Thread nD τ).loc main_arg3)) (m ((c : Thread nD τ).loc main_arg4))
        (m ((c : Thread nD τ).loc main_arg5)) := by
  refine (dats m 0 c).arrAt_eq_of_covers 7 _ (by decide +kernel) fun t _ y => ?_
  have ht : t.val < 8 := lt_of_lt_of_eq t.isLt N_0
  blk_simp
  rw [after0_7]
  frame_out
  idx_vars y
  have e : ((View.whole main_v6_1).slice (win0_7.rect t)).emb (ix2 y0 y1) = ix2 (⟨t.val * 1024 + y0.val, by omega⟩ : Fin 8192) y1 := by
    blk_ext [idx t]
  rw [e, pay10_eq, v36_eq, blk3 m c t y0 y1 ⟨t.val * 1024 + y0.val, by omega⟩ rfl,
    blk4 m c t y0 y1 ⟨t.val * 1024 + y0.val, by omega⟩ rfl, blk5 m c t y0 y1 ⟨t.val * 1024 + y0.val, by omega⟩ rfl]

set_option maxRecDepth 100000 in
set_option maxHeartbeats 1600000 in
/-- The kernel's two results are the reference's. -/
theorem algebraic : Cert.algebraic_AttnMergeIdeal_AttnMergeRefIdeal := by
  pair_intro
  · run_from Cert.AttnMergeIdeal.Gen.run_main m g
  · run_from Cert.AttnMergeRefIdeal.Value.run m' g'
    · obtain ⟨a0, a1, a2, a3, a4, a5⟩ := hagree c
      rw [final6, ← a0, ← a1, ← a2, ← a3, ← a4, ← a5]
      exact (Cert.AttnMergeRefIdeal.Read.val_main_v26_eq _ _)
    · obtain ⟨a0, a1, a2, a3, a4, a5⟩ := hagree c
      rw [final7, ← a3, ← a4, ← a5]
      exact (Cert.AttnMergeRefIdeal.Read.val_main_v36_eq _ _ _)

end Cert.AttnMergeIdeal.Equation
end
-- ==== Proof.DilatedRow.lean ====
module

public import proofs.«01_k».proof.Proof.Softmax
public import Idealize.ShloMosaic.Lib.WordCmp
public import Idealize.ShloMosaic.Lib.Tactic.WordOmega

/-! One row of a windowed attention: 64 channels of one query against 256 keys, those outside the window at minus infinity. -/

@[expose] public section

noncomputable section

open Idealize.ShloMosaic

namespace Cert.DilatedRow

open Cert.Reals

/-- The scale of the scores, an eighth. -/
def scale : EReal := Ideal.ofBits .f32 0x3E000000#32

/-- The scale is an eighth. -/
theorem scale_eq : scale = (((1 : ℝ) / 8 : ℝ) : EReal) := by
  unfold scale
  simp [Ideal.ofBits, Ideal.ieee]; rw [← EReal.coe_mul]; norm_num

/-- Query `a` of a block sees key `x` of the block before and its own: the last 128 keys and itself, in block `0` no key of the block before. -/
def sees (first : Prop) (a x : ℕ) : Prop := a ≤ x ∧ x ≤ a + 128 ∧ (first → 128 ≤ x)

open Classical in
/-- The scores of a row, minus infinity at the keys it does not see. -/
def score (first : Prop) (a : ℕ) (q : Fin 64 → EReal) (k : Fin 256 → Fin 64 → EReal) (x : Fin 256) : EReal :=
  if sees first a x.val then (∑ e, q e * k x e) * scale else ⊥

/-- The largest of a row's scores. -/
def top (s : Fin 256 → EReal) : EReal := Finset.univ.fold max (Ideal.ofBits .f32 0xFF800000#32) s

/-- The sum of a row's exponentials. -/
def den (s : Fin 256 → EReal) : EReal := ∑ x, Ideal.exp (s x - top s)

/-- A row's output at one channel of the values. -/
def out (s v : Fin 256 → EReal) : EReal := Ideal.div (∑ x, Ideal.exp (s x - top s) * v x) (den s)

/-- The logarithm of the sum of a row's exponentials. -/
def lse (s : Fin 256 → EReal) : EReal := top s + Ideal.log (den s)

/-- The scale may be taken out of a sum. -/
theorem sum_scale {ι : Type} (s : Finset ι) (f : ι → EReal) : ∑ i ∈ s, f i * scale = (∑ i ∈ s, f i) * scale := by
  classical
  induction s using Finset.induction_on with
  | empty => simp
  | insert a s ha ih =>
    rw [Finset.sum_insert ha, Finset.sum_insert ha, ih, EReal.right_distrib_of_nonneg_of_ne_top]
    · rw [scale_eq]; exact_mod_cast (by norm_num : (0 : ℝ) ≤ 1 / 8)
    · rw [scale_eq]; exact EReal.coe_ne_top _

/-- The first head's half of a row of two heads. -/
theorem half0 (q k : Fin 128 → EReal) : (∑ x : Fin 128, (if x.val < 64 then q x else 0) * scale * k x)
    = (∑ e : Fin 64, q ⟨e.val, by omega⟩ * k ⟨e.val, by omega⟩) * scale := by
  have e := Fin.sum_univ_add (a := 64) (b := 64) fun x : Fin 128 => (if x.val < 64 then q x else 0) * scale * k x
  refine e.trans ?_
  rw [← sum_scale, Finset.sum_eq_zero (s := Finset.univ) (f := fun i : Fin 64 => (if (Fin.natAdd 64 i).val < 64 then q (Fin.natAdd 64 i) else 0) * scale * k (Fin.natAdd 64 i)) fun x _ => ?_, add_zero]
  · refine Finset.sum_congr rfl fun x _ => ?_
    rw [if_pos (show (Fin.castAdd 64 x).val < 64 from x.isLt), mul_right_comm]
    rfl
  · rw [if_neg (show ¬ (Fin.natAdd 64 x).val < 64 by simp), zero_mul, zero_mul]

/-- The second head's half. -/
theorem half1 (q k : Fin 128 → EReal) : (∑ x : Fin 128, (if x.val < 64 then 0 else q x) * scale * k x)
    = (∑ e : Fin 64, q ⟨64 + e.val, by omega⟩ * k ⟨64 + e.val, by omega⟩) * scale := by
  have e := Fin.sum_univ_add (a := 64) (b := 64) fun x : Fin 128 => (if x.val < 64 then 0 else q x) * scale * k x
  refine e.trans ?_
  rw [← sum_scale, Finset.sum_eq_zero (s := Finset.univ) (f := fun i : Fin 64 => (if (Fin.castAdd 64 i).val < 64 then 0 else q (Fin.castAdd 64 i)) * scale * k (Fin.castAdd 64 i)) fun x _ => ?_, zero_add]
  · refine Finset.sum_congr rfl fun x _ => ?_
    rw [if_neg (show ¬ (Fin.natAdd 64 x).val < 64 by simp), mul_right_comm]
    rfl
  · rw [if_pos (show (Fin.castAdd 64 x).val < 64 from x.isLt), zero_mul, zero_mul]

/-- A select by a truth word is a case distinction. -/
theorem sel {α : Type} (c : BitVec 1) (x y : α) : Scalar.select c x y = if c = 1#1 then x else y := by
  rcases BitVec.eq_zero_or_eq_one c with h | h <;> subst h <;> rfl

/-- A case distinction depends only on whether its condition holds. -/
theorem if_congr_prop {p q : Prop} {hp : Decidable p} {hq : Decidable q} (h : p ↔ q) (x y : EReal) : (if p then x else y) = if q then x else y := by
  by_cases hx : p
  · rw [if_pos hx, if_pos (h.mp hx)]
  · rw [if_neg hx, if_neg fun e => hx (h.mpr e)]

/-- The words of the window: the distance of query and key is from 0 to 128, and block 0 has no block before it. -/
theorem window_word (J a x : ℕ) (hJ : J < 1000) (ha : a < 128) (hx : x < 256) :
    IntOp.andi (IntOp.andi (IntOp.cmpi .sge (IntOp.subi (IntOp.addi 128#32 (BitVec.ofNat 32 a)) (BitVec.ofNat 32 x)) 0#32)
        (IntOp.cmpi .sle (IntOp.subi (IntOp.addi 128#32 (BitVec.ofNat 32 a)) (BitVec.ofNat 32 x)) 128#32))
      (IntOp.ori (IntOp.cmpi .sgt (BitVec.ofNat 32 J) 0#32) (IntOp.cmpi .sge (BitVec.ofNat 32 x) 128#32)) = 1#1 ↔ sees (J = 0) a x := by
  have e : (IntOp.subi (IntOp.addi 128#32 (BitVec.ofNat 32 a)) (BitVec.ofNat 32 x)).toNat = (128 + a + (2 ^ 32 - x)) % 2 ^ 32 := by
    show ((128#32 + BitVec.ofNat 32 a) - BitVec.ofNat 32 x).toNat = _
    rw [BitVec.toNat_sub, BitVec.toNat_add, BitVec.toNat_ofNat, BitVec.toNat_ofNat, BitVec.toNat_ofNat]
    omega
  generalize IntOp.subi (IntOp.addi 128#32 (BitVec.ofNat 32 a)) (BitVec.ofNat 32 x) = w at e ⊢
  unfold sees
  word_omega

/-- A key that is not seen weighs nothing. -/
theorem exp_bot_sub (x : EReal) : Ideal.exp (⊥ - x) = 0 := by
  rw [sub_eq_add_neg, EReal.bot_add]; rfl

/-- The scores depend on the keys that are seen alone. -/
theorem score_congr {first first' : Prop} {a : ℕ} {q q' : Fin 64 → EReal} {k k' : Fin 256 → Fin 64 → EReal} (hf : first ↔ first') (hq : ∀ e, q e = q' e)
    (hk : ∀ x : Fin 256, (first → 128 ≤ x.val) → ∀ e, k x e = k' x e) : score first a q k = score first' a q' k' := by
  obtain rfl : q = q' := funext hq
  obtain rfl : first = first' := propext hf
  funext x
  unfold score
  split
  · next h => rw [Finset.sum_congr rfl fun e _ => congrArg (q e * ·) (hk x h.2.2 e)]
  · rfl

/-- The output depends on the values that are seen alone. -/
theorem out_congr {first : Prop} {a : ℕ} {q : Fin 64 → EReal} {k : Fin 256 → Fin 64 → EReal} {v v' : Fin 256 → EReal}
    (hv : ∀ x : Fin 256, (first → 128 ≤ x.val) → v x = v' x) : out (score first a q k) v = out (score first a q k) v' := by
  unfold out
  refine congrArg (Ideal.div · _) (Finset.sum_congr rfl fun x _ => ?_)
  by_cases h : sees first a x.val
  · rw [hv x h.2.2]
  · rw [show score first a q k x = ⊥ from if_neg h, exp_bot_sub, zero_mul, zero_mul]

end Cert.DilatedRow
end
-- ==== Proof.AttnBlock.lean ====
module

public import proofs.«01_k».proof.Defs
public import proofs.«01_k».proof.Proof.DilatedRow
public import proofs.«01_k».proof.Proof.Gen.AttnFwd1Ideal.Frame
public import Idealize.ShloMosaic.Lib.Pipeline.ValueKit
public import Idealize.ShloMosaic.Lib.Pointwise

/-! One block of the windowed attention's kernel: 128 queries of two heads against 256 keys. -/

@[expose] public section

set_option maxRecDepth 16384

noncomputable section

open Idealize.ShloMosaic Idealize.ShloMosaic.TcCoe Idealize.SL.Sem
open Idealize.ShloMosaic.Pipeline (Dat)

namespace Cert.AttnBlock

open Cert.AttnFwd1Ideal Cert.AttnFwd1Ideal.Gen Cert.DilatedRow

/-- What is added to the scores: zero where a query sees a key, else minus infinity; `one` says the block is a tile's first, `n` the tile. -/
def bias (n : BitVec 32) (one : BitVec 1) : FVec Ideal S256x256 .f32 :=
  Scalar.select (Scalar.andi (Scalar.cmpi .eq n 0#32) one) (k0_pay11 (F := Ideal) k0_pay6 k0_pay7 k0_pay8) (k0_pay12 (F := Ideal) k0_pay6 k0_pay7 k0_pay8)

/-- The query's place in its block, of a row of the two heads one above the other. -/
theorem place (a : Fin 256) : k0_pay9 k0_pay6 k0_pay7 k0_pay8 (ix2 a (0 : Fin 256) : S256x256.Idx) = BitVec.ofNat 32 (a.val % 128) := by
  pointwise [k0_pay9, k0_pay8, k0_pay7, k0_pay6]
  revert a
  decide +kernel

/-- The same at every column. -/
theorem place' (a b : Fin 256) : k0_pay9 k0_pay6 k0_pay7 k0_pay8 (ix2 a b : S256x256.Idx) = BitVec.ofNat 32 (a.val % 128) := by
  rw [← place]
  pointwise [k0_pay9, k0_pay8, k0_pay7, k0_pay6]

/-- The named mask is minus infinity. -/
theorem mask_eq : Named.named (F := Ideal) κ "mask" (φ := .f32) 0xF149F2CA#32 = (⊥ : EReal) :=
  (IdealRules.named_const.statement Cert.AttnFwd1Ideal.κ "mask" .f32 0xF149F2CA#32 (⊥ : EReal) rfl).2.2

/-- The words' test that a key of the block itself is not after the query. -/
theorem own (r b : ℕ) (hr : r < 128) (hb : b < 256) :
    IntOp.andi (IntOp.cmpi .sge (BitVec.ofNat 32 b) 128#32) (IntOp.cmpi .sle (IntOp.subi (BitVec.ofNat 32 b) 128#32) (BitVec.ofNat 32 r)) = 1#1
      ↔ 128 ≤ b ∧ b ≤ 128 + r := by
  have e : (IntOp.subi (BitVec.ofNat 32 b) 128#32).toNat = (b + (2 ^ 32 - 128)) % 2 ^ 32 := by
    show ((BitVec.ofNat 32 b) - 128#32).toNat = _
    rw [BitVec.toNat_sub, BitVec.toNat_ofNat, BitVec.toNat_ofNat]
    omega
  generalize IntOp.subi (BitVec.ofNat 32 b) 128#32 = w at e ⊢
  word_omega

/-- The words' test that a key of the block before is within the window. -/
theorem before (r b : ℕ) (hr : r < 128) (hb : b < 256) :
    IntOp.andi (IntOp.cmpi .slt (BitVec.ofNat 32 b) 128#32) (IntOp.cmpi .sge (BitVec.ofNat 32 b) (BitVec.ofNat 32 r)) = 1#1
      ↔ b < 128 ∧ r ≤ b := by
  word_omega

/-- A disjunction of truth words. -/
theorem ori_one (a b : BitVec 1) : IntOp.ori a b = 1#1 ↔ a = 1#1 ∨ b = 1#1 := by
  revert a b; decide

/-- The mask of a sequence's first block: only keys of the block itself, up to the query. -/
theorem bias_first (a b : Fin 256) : k0_pay11 (F := Ideal) k0_pay6 k0_pay7 k0_pay8 (ix2 a b : S256x256.Idx)
    = if 128 ≤ b.val ∧ b.val ≤ 128 + a.val % 128 then 0 else ⊥ := by
  have e := place' a b
  generalize k0_pay6 = p6, k0_pay7 = p7, k0_pay8 = p8 at e ⊢
  pointwise [k0_pay11, k0_pay10]
  rw [e, sel, mask_eq]
  simp only [own _ _ (Nat.mod_lt a.val (by decide : 0 < 128)) b.isLt]

/-- The mask of the other blocks: also the keys of the block before from the query's place on. -/
theorem bias_next (a b : Fin 256) : k0_pay12 (F := Ideal) k0_pay6 k0_pay7 k0_pay8 (ix2 a b : S256x256.Idx)
    = if (128 ≤ b.val ∧ b.val ≤ 128 + a.val % 128) ∨ (b.val < 128 ∧ a.val % 128 ≤ b.val) then 0 else ⊥ := by
  have e := place' a b
  generalize k0_pay6 = p6, k0_pay7 = p7, k0_pay8 = p8 at e ⊢
  pointwise [k0_pay12, k0_pay10]
  rw [e, sel, mask_eq]
  simp only [ori_one, own _ _ (Nat.mod_lt a.val (by decide : 0 < 128)) b.isLt, before _ _ (Nat.mod_lt a.val (by decide : 0 < 128)) b.isLt]

open Classical in
/-- What is added to the scores is zero exactly where the query sees the key. -/
theorem bias_eq (n : ℕ) (hn : n < 1000) (one : BitVec 1) (a b : Fin 256) : bias (BitVec.ofNat 32 n) one (ix2 a b : S256x256.Idx)
    = if sees (n = 0 ∧ one = 1#1) (a.val % 128) b.val then 0 else ⊥ := by
  have ha := Nat.mod_lt a.val (by decide : 0 < 128)
  have hc : Scalar.andi (Scalar.cmpi .eq (BitVec.ofNat 32 n) 0#32) one = 1#1 ↔ n = 0 ∧ one = 1#1 := by
    have h0 : Scalar.cmpi .eq (BitVec.ofNat 32 n) 0#32 = 1#1 ↔ n = 0 := by
      show IntOp.cmpi .eq (BitVec.ofNat 32 n) 0#32 = 1#1 ↔ n = 0
      word_omega
    rw [← h0]
    generalize Scalar.cmpi .eq (BitVec.ofNat 32 n) 0#32 = x
    revert x one; decide
  unfold bias
  rw [sel]
  unfold sees
  by_cases h : n = 0 ∧ one = 1#1
  · rw [if_pos (hc.mpr h), bias_first]
    exact if_congr_prop ⟨fun ⟨x, y⟩ => ⟨by omega, by omega, fun _ => x⟩, fun ⟨x, y, z⟩ => ⟨z h, by omega⟩⟩ _ _
  · rw [if_neg (fun e => h (hc.mp e)), bias_next]
    exact if_congr_prop ⟨fun x => ⟨by omega, by omega, fun e => absurd e h⟩, fun ⟨x, y, z⟩ => by omega⟩ _ _

/-- The block's scores. -/
def scores (b : FVec Ideal S256x256 .f32) (q : FVec Ideal S128x128 .f32) (k : FVec Ideal S256x128 .f32) : FVec Ideal S256x256 .f32 :=
  k0_pay22 b (k0_pay21 k0_pay13 q) k

/-- Adding the mask keeps a score or makes it minus infinity. -/
theorem add_mask (p : Prop) [Decidable p] (x : EReal) : x + (if p then 0 else ⊥) = if p then x else ⊥ := by
  split <;> simp

/-- The words' test for the first head's lanes. -/
theorem lane_lt (x : ℕ) (hx : x < 128) : IntOp.cmpi .slt (BitVec.ofNat 32 x) 64#32 = 1#1 ↔ x < 64 := by
  word_omega

/-- The scores of the first head's row. -/
theorem scores0 (n : ℕ) (hn : n < 1000) (one : BitVec 1) (q : FVec Ideal S128x128 .f32) (k : FVec Ideal S256x128 .f32) (a : Fin 128) (x : Fin 256) :
    scores (bias (BitVec.ofNat 32 n) one) q k (ix2 (⟨a.val, by omega⟩ : Fin 256) x)
      = score (n = 0 ∧ one = 1#1) a.val (fun e => q (ix2 a (⟨e.val, by omega⟩ : Fin 128))) (fun x e => k (ix2 x (⟨e.val, by omega⟩ : Fin 128))) x := by
  have e := bias_eq n hn one (⟨a.val, by omega⟩ : Fin 256) x
  generalize bias (BitVec.ofNat 32 n) one = b at e ⊢
  generalize hR : score _ _ _ _ _ = R
  pointwise [scores, k0_pay22, k0_pay21, k0_pay13]
  subst hR
  unfold score
  rw [← half0 (fun e => q (ix2 a e)) (fun e => k (ix2 x e)), ← add_mask, e, show (⟨a.val, by omega⟩ : Fin 256).val % 128 = a.val from Nat.mod_eq_of_lt a.isLt]
  refine congrArg (· + _) (Finset.sum_congr rfl fun y _ => ?_)
  rw [sel]
  simp only [lane_lt _ y.isLt]
  split <;> simp [scale]

/-- The scores of the second head's row. -/
theorem scores1 (n : ℕ) (hn : n < 1000) (one : BitVec 1) (q : FVec Ideal S128x128 .f32) (k : FVec Ideal S256x128 .f32) (a : Fin 128) (x : Fin 256) :
    scores (bias (BitVec.ofNat 32 n) one) q k (ix2 (⟨128 + a.val, by omega⟩ : Fin 256) x)
      = score (n = 0 ∧ one = 1#1) a.val (fun e => q (ix2 a (⟨64 + e.val, by omega⟩ : Fin 128))) (fun x e => k (ix2 x (⟨64 + e.val, by omega⟩ : Fin 128))) x := by
  have e := bias_eq n hn one (⟨128 + a.val, by omega⟩ : Fin 256) x
  generalize bias (BitVec.ofNat 32 n) one = b at e ⊢
  generalize hR : score _ _ _ _ _ = R
  pointwise [scores, k0_pay22, k0_pay21, k0_pay13]
  subst hR
  unfold score
  rw [← half1 (fun e => q (ix2 a e)) (fun e => k (ix2 x e)), ← add_mask, e,
    show (⟨128 + a.val, by omega⟩ : Fin 256).val % 128 = a.val from (by show (128 + a.val) % 128 = a.val; omega)]
  refine congrArg (· + _) (Finset.sum_congr rfl fun y _ => ?_)
  rw [sel]
  simp only [lane_lt _ y.isLt]
  split <;> simp [scale]

/-- The block's output, the two heads side by side. -/
def outs (b : FVec Ideal S256x256 .f32) (q : FVec Ideal S128x128 .f32) (k v : FVec Ideal S256x128 .f32) : FVec Ideal S128x128 .f32 :=
  k0_pay26 k0_pay13 b (k0_pay21 k0_pay13 q) k v

/-- The block's logarithms of the sums of exponentials. -/
def lses (b : FVec Ideal S256x256 .f32) (q : FVec Ideal S128x128 .f32) (k : FVec Ideal S256x128 .f32) : FVec Ideal S128x128 .f32 :=
  k0_pay27 k0_pay13 b (k0_pay21 k0_pay13 q) k

/-- The output at a lane is the average over the row of scores of the lane's head. -/
theorem outs_rows (b : FVec Ideal S256x256 .f32) (q : FVec Ideal S128x128 .f32) (k v : FVec Ideal S256x128 .f32) (a x : Fin 128) :
    outs b q k v (ix2 a x) = if x.val < 64 then out (fun y => scores b q k (ix2 (⟨a.val, by omega⟩ : Fin 256) y)) (fun y => v (ix2 y x))
      else out (fun y => scores b q k (ix2 (⟨128 + a.val, by omega⟩ : Fin 256) y)) (fun y => v (ix2 y x)) := by
  unfold outs scores out den top
  generalize k0_pay21 (F := Ideal) k0_pay13 q = Q
  generalize hS : k0_pay22 b Q k = S
  pointwise [k0_pay26, k0_pay25, k0_pay24, k0_pay23, k0_pay13, hS]
  rw [sel]
  simp only [lane_lt _ x.isLt]

/-- The logarithm at a lane is that of the row of scores of the lane's head. -/
theorem lses_rows (b : FVec Ideal S256x256 .f32) (q : FVec Ideal S128x128 .f32) (k : FVec Ideal S256x128 .f32) (a x : Fin 128) :
    lses b q k (ix2 a x) = if x.val < 64 then lse (fun y => scores b q k (ix2 (⟨a.val, by omega⟩ : Fin 256) y))
      else lse (fun y => scores b q k (ix2 (⟨128 + a.val, by omega⟩ : Fin 256) y)) := by
  unfold lses scores lse den top
  generalize k0_pay21 (F := Ideal) k0_pay13 q = Q
  generalize hS : k0_pay22 b Q k = S
  pointwise [k0_pay27, k0_pay25, k0_pay24, k0_pay23, k0_pay13, hS]
  rw [sel]
  simp only [lane_lt _ x.isLt]

/-- The channel `e` of the head of lane `x`. -/
def chan (x : Fin 128) (e : Fin 64) : Fin 128 := ⟨x.val / 64 * 64 + e.val, by omega⟩

/-- The scores of the row of query `a` in lane `x`'s head. -/
abbrev sc (first : Prop) (q : FVec Ideal S128x128 .f32) (k : FVec Ideal S256x128 .f32) (a x : Fin 128) : Fin 256 → EReal :=
  score first a.val (fun e => q (ix2 a (chan x e))) (fun y e => k (ix2 y (chan x e)))

/-- In the first 64 lanes the head's channels are the first 64. -/
theorem chan0 (x : Fin 128) (hx : x.val < 64) (e : Fin 64) : chan x e = ⟨e.val, by omega⟩ :=
  Fin.ext (show x.val / 64 * 64 + e.val = e.val by omega)

/-- In the last 64 lanes the head's channels are the last 64. -/
theorem chan1 (x : Fin 128) (hx : ¬ x.val < 64) (e : Fin 64) : chan x e = ⟨64 + e.val, by omega⟩ :=
  Fin.ext (show x.val / 64 * 64 + e.val = 64 + e.val by omega)

/-- The block's output at query `a`, lane `x`. -/
theorem outs_eq (n : ℕ) (hn : n < 1000) (one : BitVec 1) (q : FVec Ideal S128x128 .f32) (k v : FVec Ideal S256x128 .f32) (a x : Fin 128) :
    outs (bias (BitVec.ofNat 32 n) one) q k v (ix2 a x) = out (sc (n = 0 ∧ one = 1#1) q k a x) (fun y => v (ix2 y x)) := by
  rw [outs_rows]
  unfold sc
  split
  · next h => simp only [scores0 n hn, chan0 x h]
  · next h => simp only [scores1 n hn, chan1 x h]

/-- The block's logarithm at query `a`, lane `x`. -/
theorem lses_eq (n : ℕ) (hn : n < 1000) (one : BitVec 1) (q : FVec Ideal S128x128 .f32) (k : FVec Ideal S256x128 .f32) (a x : Fin 128) :
    lses (bias (BitVec.ofNat 32 n) one) q k (ix2 a x) = lse (sc (n = 0 ∧ one = 1#1) q k a x) := by
  rw [lses_rows]
  unfold sc
  split
  · next h => simp only [scores0 n hn, chan0 x h]
  · next h => simp only [scores1 n hn, chan1 x h]

end Cert.AttnBlock
end
-- ==== Proof.AttnRefRows.lean ====
module

public import proofs.«01_k».proof.Defs
public import proofs.«01_k».proof.Proof.DilatedRow
public import proofs.«01_k».proof.Proof.Gen.AttnFwd1RefIdeal.Read
public import Idealize.ShloMosaic.Lib.Pipeline.ValueKit
public import Idealize.ShloMosaic.Lib.Pointwise

/-! The reference's windowed attention without dilation, row by row. -/

@[expose] public section

set_option maxRecDepth 16384

noncomputable section

open Idealize.ShloMosaic Idealize.ShloMosaic.TcCoe Idealize.SL.Sem

namespace Cert.AttnFwd1RefIdeal.Rows

open Cert.AttnFwd1RefIdeal Cert.AttnFwd1RefIdeal.Gen Cert.AttnFwd1RefIdeal.Read Cert.DilatedRow Cert.Reals

variable (X : FVec Ideal S8192x2304 .f32) (h : Fin 4) (J : Fin 64) (a : Fin 128)

/-- The row of a block's query. -/
def row : Fin 8192 := ⟨J.val * 128 + a.val, by omega⟩

/-- The row of a block's key: the 128 rows before the block, then its own. -/
def krow (x : Fin 256) : Fin 8192 := ⟨J.val * 128 + x.val - 128, by omega⟩

/-- The lane of head `h` at channel `e`, of the queries. -/
def lane (e : Fin 64) : Fin 2304 := ⟨h.val * 64 + e.val, by omega⟩
/-- The lane of head `h` at channel `e`, of the keys. -/
def klane (e : Fin 64) : Fin 2304 := ⟨768 + (h.val * 64 + e.val), by omega⟩
/-- The lane of head `h` at channel `e`, of the values. -/
def vlane (e : Fin 64) : Fin 2304 := ⟨1536 + (h.val * 64 + e.val), by omega⟩

/-- A row's scores. -/
def sc : Fin 256 → EReal :=
  score (J.val = 0) a.val (fun e => X (ix2 (row J a) (lane h e))) (fun x e => X (ix2 (krow J x) (klane h e)))

/-- The reference's blocks of queries are the array's rows. -/
theorem v12_eq (e : Fin 64) : val_main_v12 (F := Ideal) X (ix6 0 0 h J a e) = X (ix2 (row J a) (lane h e)) := by
  unfold row lane
  pointwise [val_main_v12, val_main_v11, val_main_call0_v0, val_main_c, val_main_v10, val_main_v9, val_main_v4, val_main_v3, val_main_v0]
  rw [dif_pos (by omega)]

/-- The reference's joined blocks of keys are the array's rows, wherever there is one. -/
theorem v23_eq (x : Fin 256) (e : Fin 64) (hx : J.val = 0 → 128 ≤ x.val) :
    val_main_v23 (F := Ideal) X (ix6 0 0 h J x e) = X (ix2 (krow J x) (klane h e)) := by
  generalize hR : X _ = R
  pointwise [val_main_v23, val_main_v22, val_main_v21, val_main_v16, val_main_v15, val_main_call1_v0, val_main_c_0, val_main_call3_v0, val_main_c_2, val_main_v14, val_main_v13, val_main_v6, val_main_v5, val_main_v1]
  subst hR
  unfold krow klane
  by_cases h1 : x.val < 128
  · rw [dif_pos h1, dif_pos (by omega), dif_pos (by omega)]
    exact congrArg X (congrArg (ix2 · _) (Fin.ext (show (J.val - 1) * 128 + x.val = J.val * 128 + x.val - 128 by omega)))
  · rw [dif_neg h1, dif_pos (by omega)]
    exact congrArg X (congrArg (ix2 · _) (Fin.ext (show J.val * 128 + (x.val - 128) = J.val * 128 + x.val - 128 by omega)))

/-- The reference's joined blocks of values likewise. -/
theorem v26_eq (x : Fin 256) (e : Fin 64) (hx : J.val = 0 → 128 ≤ x.val) :
    val_main_v26 (F := Ideal) X (ix6 0 0 h J x e) = X (ix2 (krow J x) (vlane h e)) := by
  generalize hR : X _ = R
  pointwise [val_main_v26, val_main_v25, val_main_v24, val_main_v20, val_main_v19, val_main_call2_v0, val_main_c_1, val_main_call4_v0, val_main_c_3, val_main_v18, val_main_v17, val_main_v8, val_main_v7, val_main_v2]
  subst hR
  unfold krow vlane
  by_cases h1 : x.val < 128
  · rw [dif_pos h1, dif_pos (by omega), dif_pos (by omega)]
    exact congrArg X (congrArg (ix2 · _) (Fin.ext (show (J.val - 1) * 128 + x.val = J.val * 128 + x.val - 128 by omega)))
  · rw [dif_neg h1, dif_pos (by omega)]
    exact congrArg X (congrArg (ix2 · _) (Fin.ext (show J.val * 128 + (x.val - 128) = J.val * 128 + x.val - 128 by omega)))

/-- The reference's mask is set exactly where the query sees the key. -/
theorem v57_eq (x : Fin 256) : val_main_v57 (F := Ideal) (ix3 J a x) = 1#1 ↔ sees (J.val = 0) a.val x.val := by
  have hJ := J.isLt
  have ha := a.isLt
  have hx := x.isLt
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_4, val_main_c_5, val_main_c_6, val_main_c_7, val_main_c_8]
  exact window_word J.val a.val x.val (by omega) (by omega) (by omega)

/-- The reference's masked scores. -/
theorem v58_eq (x : Fin 256) : val_main_v58 (F := Ideal) X (ix6 0 0 h J a x) = sc X h J a x := by
  generalize hR : sc X h J a x = R
  pointwise [val_main_v58, val_main_call5_v2, val_main_call5_v1, val_main_call5_v0, val_main_cst_9, val_main_v29, val_main_v28, val_main_cst, val_main_v27]
  subst hR
  show Scalar.select _ _ (Ideal.ofBits .f32 0xFF800000#32) = _
  rw [sel, ofBits_neg_inf]
  unfold sc score
  by_cases hs : sees (J.val = 0) a.val x.val
  · rw [if_pos hs, if_pos ((v57_eq J a x).mpr hs), Finset.sum_congr rfl fun e _ => congrArg₂ (· * ·) (v12_eq X h J a e) (v23_eq X h J x e hs.2.2)]
    rfl
  · rw [if_neg hs, if_neg fun e => hs ((v57_eq J a x).mp e)]

/-- The reference's largest score of a row. -/
theorem v59_eq : val_main_v59 (F := Ideal) X (ix5 0 0 h J a) = top (sc X h J a) := by
  unfold val_main_v59
  have hs : S1x1x4x64x128x256.Reduces [5] S1x1x4x64x128 := by decide
  have e := Host.reduce_eq_fold_single (FloatOps.maximumf (F := Ideal) (φ := .f32)) (val_main_v58 (F := Ideal) X)
    (val_main_cst_10 (F := Ideal)) reducesTo_S1x1x4x64x128x256_S1x1x4x64x128_d5 hs h_S_ (ix5 0 0 h J a)
  rw [e]
  refine Finset.fold_congr (op := max) fun x _ => ?_
  exact (congrArg (val_main_v58 (F := Ideal) X) (funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl))).trans (v58_eq X h J a x)

/-- The reference's exponentials. -/
theorem v63_eq (x : Fin 256) : val_main_v63 (F := Ideal) X (ix6 0 0 h J a x) = Ideal.exp (sc X h J a x - top (sc X h J a)) := by
  pointwise [val_main_v63, val_main_v62, val_main_v61, val_main_v60]
  rw [v58_eq, v59_eq]

/-- The reference's sum of exponentials of a row. -/
theorem v64_eq : val_main_v64 (F := Ideal) X (ix5 0 0 h J a) = den (sc X h J a) := by
  rw [val_main_v64_apply, val_main_cst_11_apply]
  unfold den
  refine (congrArg₂ (· + ·) (show Ideal.ofBits .f32 0x00000000#32 = (0 : EReal) by simp [Ideal.ofBits, Ideal.ieee]) (Finset.sum_congr rfl fun x _ => ?_)).trans (zero_add _)
  exact (congrArg (val_main_v63 (F := Ideal) X) (funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl))).trans (v63_eq X h J a x)

end Cert.AttnFwd1RefIdeal.Rows
end
-- ==== Proof.AttnRefLast.lean ====
module

public import proofs.«01_k».proof.Defs
public import proofs.«01_k».proof.Proof.AttnRefRows
public import proofs.«01_k».proof.Proof.Gen.AttnFwd1RefIdeal.Read
public import Idealize.ShloMosaic.Lib.Pipeline.ValueKit
public import Idealize.ShloMosaic.Lib.Pointwise

/-! The reference's windowed attention without dilation, row by row. -/

@[expose] public section

set_option maxRecDepth 16384

noncomputable section

open Idealize.ShloMosaic Idealize.ShloMosaic.TcCoe Idealize.SL.Sem

namespace Cert.AttnFwd1RefIdeal.Rows

open Cert.AttnFwd1RefIdeal Cert.AttnFwd1RefIdeal.Gen Cert.AttnFwd1RefIdeal.Read Cert.DilatedRow Cert.Reals

variable (X : FVec Ideal S8192x2304 .f32) (h : Fin 4) (J : Fin 64) (a : Fin 128)

/-- The largest scores without their last axis. -/
theorem v69_eq : val_main_v69 (F := Ideal) X (ix5 0 0 h J a) = val_main_v59 (F := Ideal) X (ix5 0 0 h J a) := by
  have e : ∀ A : FVec Ideal S1x1x4x64x128x1 .f32, shapeCast S1x1x4x64x128 A shapeCasts_S1x1x4x64x128x1_S1x1x4x64x128 (ix5 0 0 h J a) = A (ix6 0 0 h J a 0) := fun A => by
    pointwise []
  unfold val_main_v69
  rw [e, val_main_v60_apply]
  generalize val_main_v59 (F := Ideal) X = A
  exact congrArg A (funext fun a => Fin.ext (by
    match a with
    | ⟨0, _⟩ => rfl
    | ⟨1, _⟩ => rfl
    | ⟨2, _⟩ => rfl
    | ⟨3, _⟩ => rfl
    | ⟨4, _⟩ => rfl))

/-- The reference's logarithms of the sums of exponentials. -/
theorem v71_eq : val_main_v71 (F := Ideal) X (ix5 0 0 h J a) = lse (sc X h J a) := by
  unfold lse
  rw [← v64_eq, ← v59_eq, ← v69_eq, val_main_v71_apply]
  unfold val_main_v70
  generalize val_main_v69 (F := Ideal) X = A
  generalize val_main_v64 (F := Ideal) X = B
  rfl

/-- The attention at query `r` and lane `C`. -/
theorem v78_eq (r : Fin 8192) (C : Fin 256) : val_main_v78 (F := Ideal) X (ix2 r C)
    = out (sc X ⟨C.val / 64, by omega⟩ ⟨r.val / 128, by omega⟩ ⟨r.val % 128, by omega⟩)
      (fun x => X (ix2 (krow ⟨r.val / 128, by omega⟩ x) ⟨1536 + C.val, by omega⟩)) := by
  generalize hR : out _ _ = R
  pointwise [val_main_v78, val_main_v74, val_main_v73, val_main_v72, val_main_v68, val_main_v67, val_main_v66, val_main_v65]
  subst hR
  rw [v64_eq, Finset.sum_congr rfl fun x _ => congrArg (· * _) (v63_eq X _ _ _ x)]
  refine congrArg (Ideal.div · _) (Finset.sum_congr rfl fun x _ => ?_)
  by_cases hs : sees (r.val / 128 = 0) (r.val % 128) x.val
  · rw [v26_eq X _ _ x _ hs.2.2]
    refine congrArg (fun w : Fin 2304 => _ * X (ix2 (krow ⟨r.val / 128, by omega⟩ x) w)) (Fin.ext ?_)
    show 1536 + (C.val / 64 * 64 + C.val % 64) = 1536 + C.val
    omega
  · have e : sc X ⟨C.val / 64, by omega⟩ ⟨r.val / 128, by omega⟩ ⟨r.val % 128, by omega⟩ x = ⊥ := if_neg hs
    rw [e, exp_bot_sub, zero_mul, zero_mul]

/-- The logarithm of the sum of exponentials at query `r` and lane `C`. -/
theorem v81_eq (r : Fin 8192) (C : Fin 256) : val_main_v81 (F := Ideal) X (ix2 r C)
    = lse (sc X ⟨C.val / 64, by omega⟩ ⟨r.val / 128, by omega⟩ ⟨r.val % 128, by omega⟩) := by
  rw [← v71_eq]
  pointwise [val_main_v81, val_main_v80, val_main_v79, val_main_v77, val_main_v76, val_main_v75]

/-- The reference leaves its two results and its argument as it was. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = Cert.AttnFwd1RefIdeal.Read.val_main_v78 (F := Ideal) (m ((c.tc : Thread nD τ).loc main_arg0))
      ∧ r.2.mem ((c.tc : Thread nD τ).loc main_v81) = Cert.AttnFwd1RefIdeal.Read.val_main_v81 (F := Ideal) (m ((c.tc : Thread nD τ).loc main_arg0))
      ∧ r.2.mem ((c.tc : Thread nD τ).loc main_arg0) = m ((c.tc : Thread nD τ).loc main_arg0) :=
  (θ_run _ _ _).mono (fun r h c => ⟨(h c).1.trans (Cert.AttnFwd1RefIdeal.Read.val_main_v78_eq m c),
    (h c).2.1.trans (Cert.AttnFwd1RefIdeal.Read.val_main_v81_eq m c), (h c).2.2⟩) (Cert.AttnFwd1RefIdeal.Value.run m ρ)

end Cert.AttnFwd1RefIdeal.Rows
end
-- ==== Proof.AttnFwd.lean ====
module

public import proofs.«01_k».proof.Defs
public import proofs.«01_k».proof.Proof.AttnBlock
public import proofs.«01_k».proof.Proof.AttnRefLast
public import proofs.«01_k».proof.Proof.Gen.AttnFwd1Ideal.Frame
public import Idealize.ShloMosaic.Lib.Pipeline.ValueKit
public import Idealize.ShloMosaic.Lib.Pointwise

/-! The windowed attention without dilation, for all extended reals: the sixteen blocks of each tile are the reference's blocks. -/

@[expose] public section

set_option maxRecDepth 16384

noncomputable section

open Idealize.ShloMosaic Idealize.ShloMosaic.TcCoe Idealize.SL.Sem
open Idealize.ShloMosaic.Pipeline (Dat)

namespace Cert.AttnFwd1Ideal.Equation

open Cert.AttnFwd1Ideal Cert.AttnFwd1Ideal.Gen Cert.DilatedRow Cert.AttnBlock
open Cert.AttnFwd1RefIdeal.Rows (row krow lane klane vlane v78_eq v81_eq)

variable (m : (ℓ : Loc nD τ sig) → Buf (Elt Ideal) ℓ)

/-- At point `t` the tile of 2048 rows is `t / 2` and the pair of heads `t % 2`; the keys lie 6 blocks of lanes after the queries, the values 12. -/
theorem idx : ∀ t : Fin cfg0.N, win0_0.index t = ![t.val / 2, t.val % 2] ∧ win0_1.index t = ![t.val / 2, 6 + t.val % 2]
    ∧ win0_2.index t = ![t.val / 2 * 16 - 1, 6 + t.val % 2] ∧ win0_3.index t = ![t.val / 2, 12 + t.val % 2]
    ∧ win0_4.index t = ![t.val / 2 * 16 - 1, 12 + t.val % 2] ∧ win0_5.index t = ![t.val / 2, t.val % 2] ∧ win0_6.index t = ![t.val / 2, t.val % 2] :=
  (by decide +kernel : ∀ t : Fin grid0.N, _)

/-- The grid's first coordinate is the tile of rows. -/
theorem tile : ∀ t : Fin cfg0.N, (grid0.coords t 0).val = t.val / 2 :=
  (by decide +kernel : ∀ t : Fin grid0.N, _)

/-- The staged rows: the 128 rows before the tile, then the tile. -/
def staged (P : FVec Ideal S128x128 .f32) (C : FVec Ideal S2048x128 .f32) (r : Fin 2176) (e : Fin 128) : EReal :=
  if h : r.val < 128 then P (ix2 ⟨r.val, h⟩ e) else C (ix2 ⟨r.val - 128, by omega⟩ e)

/-- A load of what was stored reads the stored rows at the load's own. -/
theorem read_at {sh : Shape} {el : EltTy} (v : View sig .tc .vmem sh el) (L : List (View.Piece (Elt Ideal) sh el)) (r : Rect sh) (j : r.shape.Idx) :
    v.readCov L r.toLoadRect j = View.canon L (r.toLoadRect.idx j) := by
  rw [View.readCov_eq_canon']

/-- A load of 256 rows from the scratch array reads the staged rows. -/
theorem staged_eq (P : FVec Ideal S128x128 .f32) (C : FVec Ideal S2048x128 .f32) (v : View sig .tc .vmem S2176x128 .f32) (off : ℕ) (lo : off ≤ 1920)
    (inb : ∀ a, (![off, 0] : Fin 2 → ℕ) a + (![256, 128] : Fin 2 → ℕ) a ≤ S2176x128.size a)
    (inbA : ∀ a, (![128, 0] : Fin 2 → ℕ) a + (![2048, 128] : Fin 2 → ℕ) a ≤ S2176x128.size a)
    (inbB : ∀ a, (![0, 0] : Fin 2 → ℕ) a + (![128, 128] : Fin 2 → ℕ) a ≤ S2176x128.size a) (x : Fin 256) (e : Fin 128) :
    v.readCov (Val := Elt Ideal) [⟨Rect.unit (s := S2176x128) ![128, 0] ![2048, 128] inbA, C⟩, ⟨Rect.unit (s := S2176x128) ![0, 0] ![128, 128] inbB, P⟩]
      (Rect.unit (s := S2176x128) ![off, 0] ![256, 128] inb).toLoadRect (ix2 x e : S256x128.Idx) = staged P C ⟨off + x.val, by omega⟩ e := by
  rw [read_at]
  generalize ey : (Rect.unit (s := S2176x128) ![off, 0] ![256, 128] inb).toLoadRect.idx (ix2 x e : S256x128.Idx) = y
  have y0 : (y 0).val = off + x.val := by
    rw [← ey]
    show off + 1 * x.val = off + x.val
    omega
  have y1 : (y 1).val = e.val := by
    rw [← ey]
    show 0 + 1 * e.val = e.val
    omega
  clear ey
  have cover : ∃ p ∈ ([⟨Rect.unit (s := S2176x128) ![128, 0] ![2048, 128] inbA, C⟩, ⟨Rect.unit (s := S2176x128) ![0, 0] ![128, 128] inbB, P⟩] : List (View.Piece (Elt Ideal) S2176x128 .f32)), y ∈ p.1.set := by
    by_cases g : 128 ≤ (y 0).val
    · refine ⟨⟨_, C⟩, List.mem_cons_self .., (Rect.mem_set_unit (inb := inbA)).mpr (fun a => ?_)⟩
      match a with
      | ⟨0, _⟩ => exact ⟨g, (by omega : (y 0).val < 128 + 2048)⟩
      | ⟨1, _⟩ => exact ⟨Nat.zero_le _, (by omega : (y 1).val < 0 + 128)⟩
    · refine ⟨⟨_, P⟩, List.mem_cons_of_mem _ (List.mem_cons_self ..), (Rect.mem_set_unit (inb := inbB)).mpr (fun a => ?_)⟩
      match a with
      | ⟨0, _⟩ => exact ⟨Nat.zero_le _, (by omega : (y 0).val < 0 + 128)⟩
      | ⟨1, _⟩ => exact ⟨Nat.zero_le _, (by omega : (y 1).val < 0 + 128)⟩
  canon_tiles y h using cover
  · rw [staged, dif_neg (show ¬ off + x.val < 128 by omega)]
    exact congrArg C (funext fun a => Fin.ext (by
      match a with
      | ⟨0, _⟩ => exact (by omega : (y 0).val = off + x.val - 128)
      | ⟨1, _⟩ => exact (by omega : (y 1).val = e.val)))
  · rw [staged, dif_pos (show off + x.val < 128 by omega)]
    exact congrArg P (funext fun a => Fin.ext (by
      match a with
      | ⟨0, _⟩ => exact (by omega : (y 0).val = off + x.val)
      | ⟨1, _⟩ => exact (by omega : (y 1).val = e.val)))

/-- The packed queries, keys and values. -/
abbrev packed (c : Dev nD) : FVec Ideal S8192x2304 .f32 := m ((c : Thread nD τ).loc main_arg0)

variable (c : Dev nD)

section Point

variable (t : Fin cfg0.N)

/-- The queries' block is the array's rows of the tile in the pair of heads' lanes. -/
theorem queries (r : Fin 2048) (e : Fin 128) : iblk m c 0 t (ix2 r e)
    = packed m c (ix2 (⟨t.val / 2 * 2048 + r.val, by have := lt_of_lt_of_eq t.isLt N_0; omega⟩ : Fin 8192)
      (⟨t.val % 2 * 128 + e.val, by omega⟩ : Fin 2304)) := by
  have nt : t.val < 8 := lt_of_lt_of_eq t.isLt N_0
  blk_point [iblk, V, idx t]

/-- The staged keys: row `r` is the row 128 before the tile's row `r`, wherever there is one. -/
theorem keys (r : Fin 2176) (e : Fin 128) (hr : t.val / 2 = 0 → 128 ≤ r.val) : staged (iblk m c 2 t) (iblk m c 1 t) r e
    = packed m c (ix2 (⟨t.val / 2 * 2048 + r.val - 128, by have := lt_of_lt_of_eq t.isLt N_0; omega⟩ : Fin 8192)
      (⟨768 + (t.val % 2 * 128 + e.val), by omega⟩ : Fin 2304)) := by
  have nt : t.val < 8 := lt_of_lt_of_eq t.isLt N_0
  unfold staged
  split
  · blk_point [iblk, V, idx t]
  · blk_point [iblk, V, idx t]

/-- The staged values likewise. -/
theorem values (r : Fin 2176) (e : Fin 128) (hr : t.val / 2 = 0 → 128 ≤ r.val) : staged (iblk m c 4 t) (iblk m c 3 t) r e
    = packed m c (ix2 (⟨t.val / 2 * 2048 + r.val - 128, by have := lt_of_lt_of_eq t.isLt N_0; omega⟩ : Fin 8192)
      (⟨1536 + (t.val % 2 * 128 + e.val), by omega⟩ : Fin 2304)) := by
  have nt : t.val < 8 := lt_of_lt_of_eq t.isLt N_0
  unfold staged
  split
  · blk_point [iblk, V, idx t]
  · blk_point [iblk, V, idx t]

/-- The row of the arrays at point `t`, block `j`, query `a`. -/
def orow (j : Fin 16) (a : Fin 128) : Fin 8192 := ⟨t.val / 2 * 2048 + (128 * j.val + a.val), by have := lt_of_lt_of_eq t.isLt N_0; omega⟩
/-- The lane of the result at point `t`, lane `x`. -/
def olane (x : Fin 128) : Fin 256 := ⟨t.val % 2 * 128 + x.val, by omega⟩

section Block

variable (j : Fin 16) (one : BitVec 1) (first : one = 1#1 ↔ j.val = 0) (Q : FVec Ideal S128x128 .f32) (K W : FVec Ideal S256x128 .f32)
  (isQ : ∀ a e, Q (ix2 a e) = iblk m c 0 t (ix2 (⟨128 * j.val + a.val, by omega⟩ : Fin 2048) e))
  (isK : ∀ x e, K (ix2 x e) = staged (iblk m c 2 t) (iblk m c 1 t) (⟨128 * j.val + x.val, by omega⟩ : Fin 2176) e)
  (isV : ∀ x e, W (ix2 x e) = staged (iblk m c 4 t) (iblk m c 3 t) (⟨128 * j.val + x.val, by omega⟩ : Fin 2176) e)

include first isQ isK in
/-- A block's scores are the reference's. -/
theorem block_scores (a x : Fin 128) : sc (t.val / 2 = 0 ∧ one = 1#1) Q K a x
    = Cert.AttnFwd1RefIdeal.Rows.sc (packed m c) ⟨(olane t x).val / 64, by omega⟩ ⟨(orow t j a).val / 128, by omega⟩ ⟨(orow t j a).val % 128, by omega⟩ := by
  have nt : t.val < 8 := lt_of_lt_of_eq t.isLt N_0
  have ea : (orow t j a).val % 128 = a.val := by unfold orow; show (t.val / 2 * 2048 + (128 * j.val + a.val)) % 128 = a.val; omega
  have eJ : (orow t j a).val / 128 = t.val / 2 * 16 + j.val := by unfold orow; show (t.val / 2 * 2048 + (128 * j.val + a.val)) / 128 = _; omega
  have eh : (olane t x).val / 64 = t.val % 2 * 2 + x.val / 64 := by unfold olane; show (t.val % 2 * 128 + x.val) / 64 = _; omega
  unfold sc Cert.AttnFwd1RefIdeal.Rows.sc
  simp only [ea]
  refine score_congr ?_ ?_ ?_
  · rw [first]
    show _ ↔ (orow t j a).val / 128 = 0
    omega
  · intro e
    rw [isQ, queries]
    refine congrArg (packed m c) (congrArg₂ ix2 (Fin.ext ?_) (Fin.ext ?_))
    · show t.val / 2 * 2048 + (128 * j.val + a.val) = (orow t j a).val / 128 * 128 + a.val
      omega
    · show t.val % 2 * 128 + (x.val / 64 * 64 + e.val) = (olane t x).val / 64 * 64 + e.val
      omega
  · intro y sy e
    rw [first] at sy
    rw [isK, keys m c t _ _ (by intro g; show 128 ≤ 128 * j.val + y.val; omega)]
    refine congrArg (packed m c) (congrArg₂ ix2 (Fin.ext ?_) (Fin.ext ?_))
    · show t.val / 2 * 2048 + (128 * j.val + y.val) - 128 = (orow t j a).val / 128 * 128 + y.val - 128
      omega
    · show 768 + (t.val % 2 * 128 + (x.val / 64 * 64 + e.val)) = 768 + ((olane t x).val / 64 * 64 + e.val)
      omega

include first isQ isK isV in
/-- A block's output is the reference's. -/
theorem block_out (a x : Fin 128) : outs (bias (BitVec.ofNat 32 (grid0.coords t 0).val) one) Q K W (ix2 a x)
    = Cert.AttnFwd1RefIdeal.Read.val_main_v78 (F := Ideal) (packed m c) (ix2 (orow t j a) (olane t x)) := by
  have nt : t.val < 8 := lt_of_lt_of_eq t.isLt N_0
  have eJ : (orow t j a).val / 128 = t.val / 2 * 16 + j.val := by unfold orow; show (t.val / 2 * 2048 + (128 * j.val + a.val)) / 128 = _; omega
  rw [tile, outs_eq _ (by omega), v78_eq, block_scores m c t j one first Q K isQ isK a x]
  refine out_congr fun y sy => ?_
  have sy' : (orow t j a).val / 128 = 0 → 128 ≤ y.val := sy
  rw [isV, values m c t _ _ (by intro g; show 128 ≤ 128 * j.val + y.val; omega)]
  refine congrArg (packed m c) (congrArg₂ ix2 (Fin.ext ?_) (Fin.ext ?_))
  · show t.val / 2 * 2048 + (128 * j.val + y.val) - 128 = (orow t j a).val / 128 * 128 + y.val - 128
    omega
  · rfl

include first isQ isK in
/-- A block's logarithm is the reference's. -/
theorem block_lse (a x : Fin 128) : lses (bias (BitVec.ofNat 32 (grid0.coords t 0).val) one) Q K (ix2 a x)
    = Cert.AttnFwd1RefIdeal.Read.val_main_v81 (F := Ideal) (packed m c) (ix2 (orow t j a) (olane t x)) := by
  have nt : t.val < 8 := lt_of_lt_of_eq t.isLt N_0
  rw [tile, lses_eq _ (by omega), v81_eq, block_scores m c t j one first Q K isQ isK a x]

end Block

/-- A block's queries as the body loads them. -/
abbrev loadQ (off : ℕ) (inb : ∀ a, (![off, 0] : Fin 2 → ℕ) a + (![128, 128] : Fin 2 → ℕ) a ≤ S2048x128.size a) : FVec Ideal S128x128 .f32 :=
  View.ld (iblk m c 0 t) (Rect.unit (s := S2048x128) ![off, 0] ![128, 128] inb)
/-- A block's staged keys as the body loads them. -/
abbrev loadK (off : ℕ) (inb : ∀ a, (![off, 0] : Fin 2 → ℕ) a + (![256, 128] : Fin 2 → ℕ) a ≤ S2176x128.size a) : FVec Ideal S256x128 .f32 :=
  (View.whole cc0_scratch0).readCov (Val := Elt Ideal) [⟨Rect.unit (s := S2176x128) ![128, 0] ![2048, 128] inb_S2176x128_S2048x128_128_0, k0_pay3 (F := Ideal) (iblk m c 1 t)⟩,
    ⟨Rect.unit (s := S2176x128) ![0, 0] ![128, 128] inb_S2176x128_S128x128_0_0, k0_pay2 (F := Ideal) (iblk m c 2 t)⟩] (Rect.unit (s := S2176x128) ![off, 0] ![256, 128] inb).toLoadRect
/-- A block's staged values as the body loads them. -/
abbrev loadV (off : ℕ) (inb : ∀ a, (![off, 0] : Fin 2 → ℕ) a + (![256, 128] : Fin 2 → ℕ) a ≤ S2176x128.size a) : FVec Ideal S256x128 .f32 :=
  (View.whole cc0_scratch1).readCov (Val := Elt Ideal) [⟨Rect.unit (s := S2176x128) ![128, 0] ![2048, 128] inb_S2176x128_S2048x128_128_0, k0_pay5 (F := Ideal) (iblk m c 3 t)⟩,
    ⟨Rect.unit (s := S2176x128) ![0, 0] ![128, 128] inb_S2176x128_S128x128_0_0, k0_pay4 (F := Ideal) (iblk m c 4 t)⟩] (Rect.unit (s := S2176x128) ![off, 0] ![256, 128] inb).toLoadRect

/-- The loaded queries are the block's rows from the offset on. -/
theorem loadQ_eq (off : ℕ) (inb) (lo : off ≤ 1920) (a e : Fin 128) : loadQ m c t off inb (ix2 a e) = iblk m c 0 t (ix2 (⟨off + a.val, by omega⟩ : Fin 2048) e) :=
  congrArg (iblk m c 0 t) (funext fun b => Fin.ext (by
    match b with
    | ⟨0, _⟩ => exact (by omega : off + 1 * a.val = off + a.val)
    | ⟨1, _⟩ => exact (by omega : 0 + 1 * e.val = e.val)))

/-- The loaded keys are the staged rows from the offset on. -/
theorem loadK_eq (off : ℕ) (inb) (lo : off ≤ 1920) (x : Fin 256) (e : Fin 128) :
    loadK m c t off inb (ix2 x e) = staged (iblk m c 2 t) (iblk m c 1 t) ⟨off + x.val, by omega⟩ e := by
  have e2 : k0_pay2 (F := Ideal) (iblk m c 2 t) = iblk m c 2 t := shapeCast_self _ _
  have e3 : k0_pay3 (F := Ideal) (iblk m c 1 t) = iblk m c 1 t := shapeCast_self _ _
  rw [← e2, ← e3]
  exact staged_eq _ _ _ off lo _ _ _ x e

/-- The loaded values are the staged rows from the offset on. -/
theorem loadV_eq (off : ℕ) (inb) (lo : off ≤ 1920) (x : Fin 256) (e : Fin 128) :
    loadV m c t off inb (ix2 x e) = staged (iblk m c 4 t) (iblk m c 3 t) ⟨off + x.val, by omega⟩ e := by
  have e4 : k0_pay4 (F := Ideal) (iblk m c 4 t) = iblk m c 4 t := shapeCast_self _ _
  have e5 : k0_pay5 (F := Ideal) (iblk m c 3 t) = iblk m c 3 t := shapeCast_self _ _
  rw [← e4, ← e5]
  exact staged_eq _ _ _ off lo _ _ _ x e

/-- What the body stores of block `j` is the reference's attention at the block's rows. -/
theorem piece_out (j : Fin 16) (off : ℕ) (eo : off = 128 * j.val) (one : BitVec 1) (first : one = 1#1 ↔ j.val = 0) (inb) (inbK) (inbV) (y : S128x128.Idx)
    (R C : ℕ) (eR : R = off + (y 0).val) (eC : C = (y 1).val) (lR) (lC) :
    outs (bias (BitVec.ofNat 32 (grid0.coords t 0).val) one) (loadQ m c t off inb) (loadK m c t off inbK) (loadV m c t off inbV) y
      = Cert.AttnFwd1RefIdeal.Read.val_main_v78 (F := Ideal) (packed m c) (ix2 (⟨t.val / 2 * 2048 + R, lR⟩ : Fin 8192) (⟨t.val % 2 * 128 + C, lC⟩ : Fin 256)) := by
  subst eo eR eC
  idx_vars y
  exact block_out m c t j one first _ _ _ (loadQ_eq m c t _ inb (by omega)) (loadK_eq m c t _ inbK (by omega)) (loadV_eq m c t _ inbV (by omega)) y0 y1

/-- And of the logarithms. -/
theorem piece_lse (j : Fin 16) (off : ℕ) (eo : off = 128 * j.val) (one : BitVec 1) (first : one = 1#1 ↔ j.val = 0) (inb) (inbK) (y : S128x128.Idx)
    (R C : ℕ) (eR : R = off + (y 0).val) (eC : C = (y 1).val) (lR) (lC) :
    lses (bias (BitVec.ofNat 32 (grid0.coords t 0).val) one) (loadQ m c t off inb) (loadK m c t off inbK) y
      = Cert.AttnFwd1RefIdeal.Read.val_main_v81 (F := Ideal) (packed m c) (ix2 (⟨t.val / 2 * 2048 + R, lR⟩ : Fin 8192) (⟨t.val % 2 * 128 + C, lC⟩ : Fin 256)) := by
  subst eo eR eC
  idx_vars y
  exact block_lse m c t j one first _ _ (loadQ_eq m c t _ inb (by omega)) (loadK_eq m c t _ inbK (by omega)) y0 y1

end Point

/-- Result 0 of the call is the reference's. -/
theorem final5 : (dats m 0 c).arrAt 5 cfg0.N = Cert.AttnFwd1RefIdeal.Read.val_main_v78 (F := Ideal) (packed m c) := by
  refine (dats m 0 c).arrAt_eq_of_covers 5 _ (by decide +kernel) fun t _ y => ?_
  have nt : t.val < 8 := lt_of_lt_of_eq t.isLt N_0
  blk_simp
  rw [after0_5]
  have l0 : (y 0).val < 2048 := (y 0).isLt
  have l1 : (y 1).val < 128 := (y 1).isLt
  have e : ((View.whole main_v0_0).slice (win0_5.rect t)).emb y
      = ix2 (⟨t.val / 2 * 2048 + (y 0).val, by omega⟩ : Fin 8192) (⟨t.val % 2 * 128 + (y 1).val, by omega⟩ : Fin 256) := by
    blk_ext [idx t]
  rw [e]
  unfold outsAt0
  frame_out
  canon_tiles y h
  · exact piece_out m c t 15 1920 rfl 0#1 (by decide) _ _ _ _ _ _ h0 h1 _ _
  · exact piece_out m c t 14 1792 rfl 0#1 (by decide) _ _ _ _ _ _ h0 h1 _ _
  · exact piece_out m c t 13 1664 rfl 0#1 (by decide) _ _ _ _ _ _ h0 h1 _ _
  · exact piece_out m c t 12 1536 rfl 0#1 (by decide) _ _ _ _ _ _ h0 h1 _ _
  · exact piece_out m c t 11 1408 rfl 0#1 (by decide) _ _ _ _ _ _ h0 h1 _ _
  · exact piece_out m c t 10 1280 rfl 0#1 (by decide) _ _ _ _ _ _ h0 h1 _ _
  · exact piece_out m c t 9 1152 rfl 0#1 (by decide) _ _ _ _ _ _ h0 h1 _ _
  · exact piece_out m c t 8 1024 rfl 0#1 (by decide) _ _ _ _ _ _ h0 h1 _ _
  · exact piece_out m c t 7 896 rfl 0#1 (by decide) _ _ _ _ _ _ h0 h1 _ _
  · exact piece_out m c t 6 768 rfl 0#1 (by decide) _ _ _ _ _ _ h0 h1 _ _
  · exact piece_out m c t 5 640 rfl 0#1 (by decide) _ _ _ _ _ _ h0 h1 _ _
  · exact piece_out m c t 4 512 rfl 0#1 (by decide) _ _ _ _ _ _ h0 h1 _ _
  · exact piece_out m c t 3 384 rfl 0#1 (by decide) _ _ _ _ _ _ h0 h1 _ _
  · exact piece_out m c t 2 256 rfl 0#1 (by decide) _ _ _ _ _ _ h0 h1 _ _
  · exact piece_out m c t 1 128 rfl 0#1 (by decide) _ _ _ _ _ _ h0 h1 _ _
  · exact piece_out m c t 0 0 rfl 1#1 (by decide) _ _ _ _ _ _ (h0.trans (Nat.zero_add _).symm) h1 _ _

/-- Result 1 of the call is the reference's. -/
theorem final6 : (dats m 0 c).arrAt 6 cfg0.N = Cert.AttnFwd1RefIdeal.Read.val_main_v81 (F := Ideal) (packed m c) := by
  refine (dats m 0 c).arrAt_eq_of_covers 6 _ (by decide +kernel) fun t _ y => ?_
  have nt : t.val < 8 := lt_of_lt_of_eq t.isLt N_0
  blk_simp
  rw [after0_6]
  have l0 : (y 0).val < 2048 := (y 0).isLt
  have l1 : (y 1).val < 128 := (y 1).isLt
  have e : ((View.whole main_v0_1).slice (win0_6.rect t)).emb y
      = ix2 (⟨t.val / 2 * 2048 + (y 0).val, by omega⟩ : Fin 8192) (⟨t.val % 2 * 128 + (y 1).val, by omega⟩ : Fin 256) := by
    blk_ext [idx t]
  rw [e]
  unfold outsAt0
  frame_out
  canon_tiles y h
  · exact piece_lse m c t 15 1920 rfl 0#1 (by decide) _ _ _ _ _ h0 h1 _ _
  · exact piece_lse m c t 14 1792 rfl 0#1 (by decide) _ _ _ _ _ h0 h1 _ _
  · exact piece_lse m c t 13 1664 rfl 0#1 (by decide) _ _ _ _ _ h0 h1 _ _
  · exact piece_lse m c t 12 1536 rfl 0#1 (by decide) _ _ _ _ _ h0 h1 _ _
  · exact piece_lse m c t 11 1408 rfl 0#1 (by decide) _ _ _ _ _ h0 h1 _ _
  · exact piece_lse m c t 10 1280 rfl 0#1 (by decide) _ _ _ _ _ h0 h1 _ _
  · exact piece_lse m c t 9 1152 rfl 0#1 (by decide) _ _ _ _ _ h0 h1 _ _
  · exact piece_lse m c t 8 1024 rfl 0#1 (by decide) _ _ _ _ _ h0 h1 _ _
  · exact piece_lse m c t 7 896 rfl 0#1 (by decide) _ _ _ _ _ h0 h1 _ _
  · exact piece_lse m c t 6 768 rfl 0#1 (by decide) _ _ _ _ _ h0 h1 _ _
  · exact piece_lse m c t 5 640 rfl 0#1 (by decide) _ _ _ _ _ h0 h1 _ _
  · exact piece_lse m c t 4 512 rfl 0#1 (by decide) _ _ _ _ _ h0 h1 _ _
  · exact piece_lse m c t 3 384 rfl 0#1 (by decide) _ _ _ _ _ h0 h1 _ _
  · exact piece_lse m c t 2 256 rfl 0#1 (by decide) _ _ _ _ _ h0 h1 _ _
  · exact piece_lse m c t 1 128 rfl 0#1 (by decide) _ _ _ _ _ h0 h1 _ _
  · exact piece_lse m c t 0 0 rfl 1#1 (by decide) _ _ _ _ _ (h0.trans (Nat.zero_add _).symm) h1 _ _

set_option maxRecDepth 100000 in
set_option maxHeartbeats 1600000 in
/-- The kernel's results are the reference's attention and logarithms. -/
theorem algebraic : Cert.algebraic_AttnFwd1Ideal_AttnFwd1RefIdeal := by
  pair_intro
  · run_from Cert.AttnFwd1Ideal.Gen.run_main m g
  · exact (θ_run _ _ _).mono (fun r h c => ⟨(h c).1.trans ((congrArg _ (hagree c)).trans (final5 m c).symm),
      (h c).2.1.trans ((congrArg _ (hagree c)).trans (final6 m c).symm), (h c).2.2⟩) (Cert.AttnFwd1RefIdeal.Rows.reference_run m' g')

end Cert.AttnFwd1Ideal.Equation
end
-- ==== Proof.AttnStaged.lean ====
module

public import Idealize.ShloMosaic.Lib.Pipeline.ValueKit
public import Idealize.ShloMosaic.Lib.Pipeline.FrameBody
public import Idealize.ShloMosaic.Lib.Ring
public import Idealize.ShloMosaic.Lib.Tactic
public import Idealize.ShloMosaic.Lib.Pointwise

/-! Rows staged one tile after `n` earlier rows, read at a stride. -/

@[expose] public section

noncomputable section

open Idealize.ShloMosaic Idealize.ShloMosaic.TcCoe

namespace Cert.AttnStaged

/-- `n` rows of 128 lanes. -/
abbrev Rows (n : ℕ) : Shape := ⟨2, ![n, 128]⟩

/-- The staged rows: the `n` rows before the tile, then the tile. -/
def staged (n : ℕ) (P : FVec Ideal (Rows n) .f32) (C : FVec Ideal (Rows 2048) .f32) (r : Fin (n + 2048)) (e : Fin 128) : EReal :=
  if h : r.val < n then P (ix2 ⟨r.val, h⟩ e) else C (ix2 ⟨r.val - n, by omega⟩ e)

/-- A load of 256 rows at stride `d` from the scratch array reads the staged rows. -/
theorem staged_eq {sig : RefSig} (n d off : ℕ) (hd : 0 < d) (lo : off + d * 255 < n + 2048) (P : FVec Ideal (Rows n) .f32) (C : FVec Ideal (Rows 2048) .f32)
    (v : View sig .tc .vmem (Rows (n + 2048)) .f32)
    (inb : ∀ a, (![256, 128] : Fin 2 → ℕ) a = 0 ∨ (![off, 0] : Fin 2 → ℕ) a + (![d, 1] : Fin 2 → ℕ) a * ((![256, 128] : Fin 2 → ℕ) a - 1) < (Rows (n + 2048)).size a)
    (inbA : ∀ a, (![n, 0] : Fin 2 → ℕ) a + (![2048, 128] : Fin 2 → ℕ) a ≤ (Rows (n + 2048)).size a)
    (inbB : ∀ a, (![0, 0] : Fin 2 → ℕ) a + (![n, 128] : Fin 2 → ℕ) a ≤ (Rows (n + 2048)).size a) (x : Fin 256) (e : Fin 128) :
    v.readCov (Val := Elt Ideal) [⟨Rect.unit (s := Rows (n + 2048)) ![n, 0] ![2048, 128] inbA, C⟩, ⟨Rect.unit (s := Rows (n + 2048)) ![0, 0] ![n, 128] inbB, P⟩]
      (⟨![off, 0], ![256, 128], ![d, 1], inb⟩ : LoadRect (Rows (n + 2048))) (ix2 x e : (⟨2, ![256, 128]⟩ : Shape).Idx)
      = staged n P C ⟨off + d * x.val, by have := Nat.mul_le_mul_left d (Nat.le_of_lt_succ x.isLt); omega⟩ e := by
  have hx : d * x.val ≤ d * 255 := Nat.mul_le_mul_left d (Nat.le_of_lt_succ x.isLt)
  rw [View.readCov_eq_canon']
  beta_reduce
  generalize ey : (⟨![off, 0], ![256, 128], ![d, 1], inb⟩ : LoadRect (Rows (n + 2048))).idx (ix2 x e : (⟨2, ![256, 128]⟩ : Shape).Idx) = y
  have y0 : (y 0).val = off + d * x.val := by
    rw [← ey]
    rfl
  have y1 : (y 1).val = e.val := by
    rw [← ey]
    show 0 + 1 * e.val = e.val
    omega
  clear ey
  have hk : off + d * x.val < n + 2048 := by omega
  show _ = staged n P C ⟨off + d * x.val, hk⟩ e
  generalize off + d * x.val = k at y0 hk ⊢
  have cover : ∃ p ∈ ([⟨Rect.unit (s := Rows (n + 2048)) ![n, 0] ![2048, 128] inbA, C⟩, ⟨Rect.unit (s := Rows (n + 2048)) ![0, 0] ![n, 128] inbB, P⟩] : List (View.Piece (Elt Ideal) (Rows (n + 2048)) .f32)), y ∈ p.1.set := by
    by_cases g : n ≤ (y 0).val
    · refine ⟨⟨_, C⟩, List.mem_cons_self .., (Rect.mem_set_unit (inb := inbA)).mpr (fun a => ?_)⟩
      match a with
      | ⟨0, _⟩ => exact ⟨g, (by omega : (y 0).val < n + 2048)⟩
      | ⟨1, _⟩ => exact ⟨Nat.zero_le _, (by omega : (y 1).val < 0 + 128)⟩
    · refine ⟨⟨_, P⟩, List.mem_cons_of_mem _ (List.mem_cons_self ..), (Rect.mem_set_unit (inb := inbB)).mpr (fun a => ?_)⟩
      match a with
      | ⟨0, _⟩ => exact ⟨Nat.zero_le _, (by omega : (y 0).val < 0 + n)⟩
      | ⟨1, _⟩ => exact ⟨Nat.zero_le _, (by omega : (y 1).val < 0 + 128)⟩
  refine View.canon_eq_of_allAt _ y _ cover (View.allAt_cons_unit _ _ _ _ _ (fun z hz => ?_) (View.allAt_cons_unit _ _ _ _ _ (fun z hz => ?_) (View.allAt_nil _ _)))
  · have h0 : (y 0).val = n + (z 0).val := hz 0
    have h1 : (y 1).val = 0 + (z 1).val := hz 1
    rw [staged, dif_neg (show ¬ k < n by omega)]
    exact congrArg C (funext fun a => Fin.ext (by
      match a with
      | ⟨0, _⟩ => exact (by omega : (z 0).val = k - n)
      | ⟨1, _⟩ => exact (by omega : (z 1).val = e.val)))
  · have h0 : (y 0).val = 0 + (z 0).val := hz 0
    have h1 : (y 1).val = 0 + (z 1).val := hz 1
    have l0 : (z 0).val < n := (z 0).isLt
    rw [staged, dif_pos (show k < n by omega)]
    exact congrArg P (funext fun a => Fin.ext (by
      match a with
      | ⟨0, _⟩ => exact (by omega : (z 0).val = k)
      | ⟨1, _⟩ => exact (by omega : (z 1).val = e.val)))

end Cert.AttnStaged
end
-- ==== Proof.AttnTile4.lean ====
module

public import proofs.«01_k».proof.Defs
public import proofs.«01_k».proof.Proof.AttnBlock
public import proofs.«01_k».proof.Proof.AttnStaged
public import proofs.«01_k».proof.Proof.AttnFrame4
public import Idealize.ShloMosaic.Lib.Pipeline.ValueKit
public import Idealize.ShloMosaic.Lib.Pointwise
public import Idealize.ShloMosaic.Lib.WholeRead

/-! What the window attention of dilation 4 leaves in a tile: its sixteen blocks of 128 rows at stride 4. -/

@[expose] public section

set_option maxRecDepth 65536

noncomputable section

open Idealize.ShloMosaic Idealize.ShloMosaic.TcCoe Idealize.SL.Sem
open Idealize.ShloMosaic.Pipeline (Dat)

namespace Cert.AttnFwd4Ideal.Tile

open Cert.AttnFwd4Ideal Cert.AttnFwd4Ideal.Gen Cert.AttnFwd4Ideal.Strided Cert.DilatedRow Cert.AttnBlock Cert.AttnStaged

variable (m : (ℓ : Loc nD τ sig) → Buf (Elt Ideal) ℓ)

/-- At point `t` the tile of 2048 rows is `t / 2` and the pair of heads `t % 2`, of the group that begins at lane 256. -/
theorem idx : ∀ t : Fin cfg0.N, win0_0.index t = ![t.val / 2, 2 + t.val % 2] ∧ win0_1.index t = ![t.val / 2, 8 + t.val % 2]
    ∧ win0_2.index t = ![t.val / 2 * 4 - 1, 8 + t.val % 2] ∧ win0_3.index t = ![t.val / 2, 14 + t.val % 2]
    ∧ win0_4.index t = ![t.val / 2 * 4 - 1, 14 + t.val % 2] ∧ win0_5.index t = ![t.val / 2, t.val % 2] ∧ win0_6.index t = ![t.val / 2, t.val % 2] :=
  (by decide +kernel : ∀ t : Fin grid0.N, _)

/-- The grid's first coordinate is the tile of rows. -/
theorem tile : ∀ t : Fin cfg0.N, (grid0.coords t 0).val = t.val / 2 :=
  (by decide +kernel : ∀ t : Fin grid0.N, _)

/-- The packed queries, keys and values. -/
abbrev packed (c : Dev nD) : FVec Ideal S8192x2304 .f32 := m ((c : Thread nD τ).loc main_arg0)

variable (c : Dev nD) (t : Fin cfg0.N)

/-- The queries' block is the array's rows of the tile in the pair of heads' lanes. -/
theorem queries (r : Fin 2048) (e : Fin 128) : iblk m c 0 t (ix2 r e)
    = packed m c (ix2 (⟨t.val / 2 * 2048 + r.val, by have := lt_of_lt_of_eq t.isLt N_0; omega⟩ : Fin 8192)
      (⟨256 + (t.val % 2 * 128 + e.val), by omega⟩ : Fin 2304)) := by
  have nt : t.val < 8 := lt_of_lt_of_eq t.isLt N_0
  blk_point [iblk, V, idx t]

/-- The staged keys: row `r` is the row 512 before the tile's row `r`, wherever there is one. -/
theorem keys (r : Fin (512 + 2048)) (e : Fin 128) (hr : t.val / 2 = 0 → 512 ≤ r.val) : staged 512 (iblk m c 2 t) (iblk m c 1 t) r e
    = packed m c (ix2 (⟨t.val / 2 * 2048 + r.val - 512, by have := lt_of_lt_of_eq t.isLt N_0; omega⟩ : Fin 8192)
      (⟨1024 + (t.val % 2 * 128 + e.val), by omega⟩ : Fin 2304)) := by
  have nt : t.val < 8 := lt_of_lt_of_eq t.isLt N_0
  unfold staged
  split
  · blk_point [iblk, V, idx t]
  · blk_point [iblk, V, idx t]

/-- The staged values likewise. -/
theorem values (r : Fin (512 + 2048)) (e : Fin 128) (hr : t.val / 2 = 0 → 512 ≤ r.val) : staged 512 (iblk m c 4 t) (iblk m c 3 t) r e
    = packed m c (ix2 (⟨t.val / 2 * 2048 + r.val - 512, by have := lt_of_lt_of_eq t.isLt N_0; omega⟩ : Fin 8192)
      (⟨1792 + (t.val % 2 * 128 + e.val), by omega⟩ : Fin 2304)) := by
  have nt : t.val < 8 := lt_of_lt_of_eq t.isLt N_0
  unfold staged
  split
  · blk_point [iblk, V, idx t]
  · blk_point [iblk, V, idx t]

/-- Block `k` begins at this row of the tile. -/
def base (k : Fin 16) : ℕ := k.val / 4 * 512 + k.val % 4

/-- The truth word of a tile's first blocks, whose keys reach before the tile. -/
def one (k : Fin 16) : BitVec 1 := if k.val / 4 = 0 then 1#1 else 0#1

/-- Block `k`'s queries. -/
def blockQ (k : Fin 16) : FVec Ideal S128x128 .f32 := fun i =>
  iblk m c 0 t (ix2 (⟨base k + 4 * (i 0).val, by have h : (i 0).val < 128 := (i 0).isLt; unfold base; omega⟩ : Fin 2048) (⟨(i 1).val, (i 1).isLt⟩ : Fin 128))
/-- Block `k`'s keys: those of the block before, then its own. -/
def blockK (k : Fin 16) : FVec Ideal S256x128 .f32 := fun i =>
  staged 512 (iblk m c 2 t) (iblk m c 1 t) ⟨base k + 4 * (i 0).val, by have h : (i 0).val < 256 := (i 0).isLt; unfold base; omega⟩ ⟨(i 1).val, (i 1).isLt⟩
/-- Block `k`'s values likewise. -/
def blockV (k : Fin 16) : FVec Ideal S256x128 .f32 := fun i =>
  staged 512 (iblk m c 4 t) (iblk m c 3 t) ⟨base k + 4 * (i 0).val, by have h : (i 0).val < 256 := (i 0).isLt; unfold base; omega⟩ ⟨(i 1).val, (i 1).isLt⟩

/-- The block a row of the tile belongs to. -/
def blockOf (r : Fin 2048) : Fin 16 := ⟨r.val / 512 * 4 + r.val % 4, by omega⟩
/-- The row's place in its block. -/
def placeOf (r : Fin 2048) : Fin 128 := ⟨r.val % 512 / 4, by omega⟩

/-- What the tile of the first result holds. -/
def tileO (r : Fin 2048) (e : Fin 128) : EReal :=
  outs (bias (BitVec.ofNat 32 (grid0.coords t 0).val) (one (blockOf r))) (blockQ m c t (blockOf r)) (blockK m c t (blockOf r)) (blockV m c t (blockOf r)) (ix2 (placeOf r) e)
/-- What the tile of the second result holds. -/
def tileL (r : Fin 2048) (e : Fin 128) : EReal :=
  lses (bias (BitVec.ofNat 32 (grid0.coords t 0).val) (one (blockOf r))) (blockQ m c t (blockOf r)) (blockK m c t (blockOf r)) (ix2 (placeOf r) e)

section Loads

variable (off : ℕ)
  (inbQ : ∀ a, S128x128.size a = 0 ∨ (![off, 0] : Fin 2 → ℕ) a + (![4, 1] : Fin 2 → ℕ) a * (S128x128.size a - 1) < S2048x128.size a)
  (inbK : ∀ a, S256x128.size a = 0 ∨ (![off, 0] : Fin 2 → ℕ) a + (![4, 1] : Fin 2 → ℕ) a * (S256x128.size a - 1) < S2560x128.size a)

/-- A block's queries as the body loads them. -/
abbrev loadQ : FVec Ideal S128x128 .f32 :=
  View.readAt (Elt Ideal) (win0_0.stage (cfg0.slots t 0)).view (⟨![off, 0], S128x128.size, ![4, 1], inbQ⟩ : LoadRect S2048x128)
    ((hstage0_0 ((cfg0.slots t 0).cast nbuf0_0)).unread (iblk m c 0 t))

/-- The rows of one input as the body reads them whole. -/
abbrev whole1 : FVec Ideal S2048x128 .f32 := View.readAt (Elt Ideal) (win0_1.stage (cfg0.slots t 1)).view (Rect.unit ![0, 0] S2048x128.size inb_S2048x128_S2048x128_0_0).toLoadRect
  ((hstage0_1 ((cfg0.slots t 1).cast nbuf0_1)).unread (iblk m c 1 t))
/-- The rows of the keys before the tile as the body reads them whole. -/
abbrev whole2 : FVec Ideal S512x128 .f32 := View.readAt (Elt Ideal) (win0_2.stage (cfg0.slots t 2)).view (Rect.unit ![0, 0] S512x128.size inb_S512x128_S512x128_0_0).toLoadRect
  ((hstage0_2 ((cfg0.slots t 2).cast nbuf0_2)).unread (iblk m c 2 t))
/-- The rows of the values as the body reads them whole. -/
abbrev whole3 : FVec Ideal S2048x128 .f32 := View.readAt (Elt Ideal) (win0_3.stage (cfg0.slots t 3)).view (Rect.unit ![0, 0] S2048x128.size inb_S2048x128_S2048x128_0_0).toLoadRect
  ((hstage0_3 ((cfg0.slots t 3).cast nbuf0_3)).unread (iblk m c 3 t))
/-- The rows of the values before the tile as the body reads them whole. -/
abbrev whole4 : FVec Ideal S512x128 .f32 := View.readAt (Elt Ideal) (win0_4.stage (cfg0.slots t 4)).view (Rect.unit ![0, 0] S512x128.size inb_S512x128_S512x128_0_0).toLoadRect
  ((hstage0_4 ((cfg0.slots t 4).cast nbuf0_4)).unread (iblk m c 4 t))

/-- A block's staged keys as the body loads them. -/
abbrev loadK : FVec Ideal S256x128 .f32 :=
  (View.whole cc0_scratch0).readCov (Val := Elt Ideal) [⟨Rect.unit ![512, 0] S2048x128.size inb_S2560x128_S2048x128_512_0, k0_pay2 (F := Ideal) (whole1 m c t)⟩,
    ⟨Rect.unit ![0, 0] S512x128.size inb_S2560x128_S512x128_0_0, k0_pay1 (F := Ideal) (whole2 m c t)⟩] (⟨![off, 0], S256x128.size, ![4, 1], inbK⟩ : LoadRect S2560x128)
/-- A block's staged values as the body loads them. -/
abbrev loadV : FVec Ideal S256x128 .f32 :=
  (View.whole cc0_scratch1).readCov (Val := Elt Ideal) [⟨Rect.unit ![512, 0] S2048x128.size inb_S2560x128_S2048x128_512_0, k0_pay4 (F := Ideal) (whole3 m c t)⟩,
    ⟨Rect.unit ![0, 0] S512x128.size inb_S2560x128_S512x128_0_0, k0_pay3 (F := Ideal) (whole4 m c t)⟩] (⟨![off, 0], S256x128.size, ![4, 1], inbK⟩ : LoadRect S2560x128)

variable (k : Fin 16) (eo : off = base k)

include eo in
/-- The loaded queries are the block's. -/
theorem loadQ_eq : loadQ m c t off inbQ = blockQ m c t k := by
  subst eo
  funext i
  unfold loadQ blockQ
  refine (Memref.IsWhole.readAt_unread _ _ _ _).trans ?_
  exact congrArg (iblk m c 0 t) (funext fun b => Fin.ext (by
    match b with
    | ⟨0, _⟩ => rfl
    | ⟨1, _⟩ => exact (by omega : 0 + 1 * (i 1).val = (i 1).val)))

/-- The rows of an input read whole are the input's block. -/
theorem wholes : k0_pay2 (F := Ideal) (whole1 m c t) = iblk m c 1 t ∧ k0_pay1 (F := Ideal) (whole2 m c t) = iblk m c 2 t
    ∧ k0_pay4 (F := Ideal) (whole3 m c t) = iblk m c 3 t ∧ k0_pay3 (F := Ideal) (whole4 m c t) = iblk m c 4 t := by
  refine ⟨(shapeCast_self _ _).trans ?_, (shapeCast_self _ _).trans ?_, (shapeCast_self _ _).trans ?_, (shapeCast_self _ _).trans ?_⟩ <;>
  · funext i
    refine (Memref.IsWhole.readAt_unread _ _ _ _).trans ?_
    refine congrArg (iblk m c _ t) (funext fun b => Fin.ext ?_)
    match b with
    | ⟨0, _⟩ => exact (by omega : 0 + 1 * (i 0).val = (i 0).val)
    | ⟨1, _⟩ => exact (by omega : 0 + 1 * (i 1).val = (i 1).val)

include eo in
/-- The loaded keys are the block's. -/
theorem loadK_eq : loadK m c t off inbK = blockK m c t k := by
  subst eo
  obtain ⟨e1, e2, -, -⟩ := wholes m c t
  funext i
  unfold loadK blockK
  rw [e1, e2]
  idx_vars i
  exact staged_eq 512 4 (base k) (by decide) (by unfold base; omega) (iblk m c 2 t) (iblk m c 1 t) _ inbK _ _ i0 i1

include eo in
/-- The loaded values are the block's. -/
theorem loadV_eq : loadV m c t off inbK = blockV m c t k := by
  subst eo
  obtain ⟨-, -, e3, e4⟩ := wholes m c t
  funext i
  unfold loadV blockV
  rw [e3, e4]
  idx_vars i
  exact staged_eq 512 4 (base k) (by decide) (by unfold base; omega) (iblk m c 4 t) (iblk m c 3 t) _ inbK _ _ i0 i1

end Loads

section Pieces

variable (k : Fin 16) (off : ℕ) (eo : off = base k) (w : BitVec 1) (ew : w = one k)
  (inbQ : ∀ a, S128x128.size a = 0 ∨ (![off, 0] : Fin 2 → ℕ) a + (![4, 1] : Fin 2 → ℕ) a * (S128x128.size a - 1) < S2048x128.size a)
  (pos : ∀ a, 0 < (![4, 1] : Fin 2 → ℕ) a) (x : S128x128.Idx) (y : S2048x128.Idx)
  (h : (⟨(⟨![off, 0], S128x128.size, ![4, 1], inbQ⟩ : LoadRect S2048x128), pos⟩ : Rect S2048x128).emb x = y)

include eo h in
/-- A block's store at its own index `x` is the tile's index `y`. -/
theorem at_tile : blockOf ⟨(y 0).val, (y 0).isLt⟩ = k ∧ placeOf ⟨(y 0).val, (y 0).isLt⟩ = ⟨(x 0).val, (x 0).isLt⟩ ∧ (y 1).val = (x 1).val := by
  have l : (x 0).val < 128 := (x 0).isLt
  have y0 : (y 0).val = off + 4 * (x 0).val := by rw [← h]; rfl
  have y1 : (y 1).val = 0 + 1 * (x 1).val := by rw [← h]; rfl
  subst eo
  unfold base at y0
  refine ⟨Fin.ext ?_, Fin.ext ?_, by omega⟩
  · show (y 0).val / 512 * 4 + (y 0).val % 4 = k.val
    omega
  · show (y 0).val % 512 / 4 = (x 0).val
    omega

include eo ew h in
/-- What the body stores of block `k` in the first result. -/
theorem piece_out (inbK) : outs (bias (BitVec.ofNat 32 (grid0.coords t 0).val) w) (loadQ m c t off inbQ) (loadK m c t off inbK) (loadV m c t off inbK) x
    = tileO m c t ⟨(y 0).val, (y 0).isLt⟩ ⟨(y 1).val, (y 1).isLt⟩ := by
  obtain ⟨a, b, e⟩ := at_tile k off eo inbQ pos x y h
  unfold tileO
  rw [a, b, loadQ_eq m c t off inbQ k eo, loadK_eq m c t off inbK k eo, loadV_eq m c t off inbK k eo, ew]
  refine congrArg _ (funext fun i => Fin.ext ?_)
  match i with
  | ⟨0, _⟩ => rfl
  | ⟨1, _⟩ => exact e.symm

include eo ew h in
/-- What the body stores of block `k` in the second result. -/
theorem piece_lse (inbK) : lses (bias (BitVec.ofNat 32 (grid0.coords t 0).val) w) (loadQ m c t off inbQ) (loadK m c t off inbK) x
    = tileL m c t ⟨(y 0).val, (y 0).isLt⟩ ⟨(y 1).val, (y 1).isLt⟩ := by
  obtain ⟨a, b, e⟩ := at_tile k off eo inbQ pos x y h
  unfold tileL
  rw [a, b, loadQ_eq m c t off inbQ k eo, loadK_eq m c t off inbK k eo, ew]
  refine congrArg _ (funext fun i => Fin.ext ?_)
  match i with
  | ⟨0, _⟩ => rfl
  | ⟨1, _⟩ => exact e.symm

end Pieces

/-- The tile of the first result. -/
theorem canonO (y : S2048x128.Idx) : View.canon (runAt m c t).1 y = tileO m c t ⟨(y 0).val, (y 0).isLt⟩ ⟨(y 1).val, (y 1).isLt⟩ := by
  refine View.canon_eq_of_allAt _ y _ (coverO m c t y) ?_
  unfold runAt run
  dsimp only
  refine View.allAt_cons _ _ _ (fun x h => piece_out m c t 15 1539 rfl 0#1 rfl inb_S2048x128_S128x128_1539_0_s_4_1 spos_4_1 x y h inb_S2560x128_S256x128_1539_0_s_4_1) ?_
  refine View.allAt_cons _ _ _ (fun x h => piece_out m c t 14 1538 rfl 0#1 rfl inb_S2048x128_S128x128_1538_0_s_4_1 spos_4_1 x y h inb_S2560x128_S256x128_1538_0_s_4_1) ?_
  refine View.allAt_cons _ _ _ (fun x h => piece_out m c t 13 1537 rfl 0#1 rfl inb_S2048x128_S128x128_1537_0_s_4_1 spos_4_1 x y h inb_S2560x128_S256x128_1537_0_s_4_1) ?_
  refine View.allAt_cons _ _ _ (fun x h => piece_out m c t 12 1536 rfl 0#1 rfl inb_S2048x128_S128x128_1536_0_s_4_1 spos_4_1 x y h inb_S2560x128_S256x128_1536_0_s_4_1) ?_
  refine View.allAt_cons _ _ _ (fun x h => piece_out m c t 11 1027 rfl 0#1 rfl inb_S2048x128_S128x128_1027_0_s_4_1 spos_4_1 x y h inb_S2560x128_S256x128_1027_0_s_4_1) ?_
  refine View.allAt_cons _ _ _ (fun x h => piece_out m c t 10 1026 rfl 0#1 rfl inb_S2048x128_S128x128_1026_0_s_4_1 spos_4_1 x y h inb_S2560x128_S256x128_1026_0_s_4_1) ?_
  refine View.allAt_cons _ _ _ (fun x h => piece_out m c t 9 1025 rfl 0#1 rfl inb_S2048x128_S128x128_1025_0_s_4_1 spos_4_1 x y h inb_S2560x128_S256x128_1025_0_s_4_1) ?_
  refine View.allAt_cons _ _ _ (fun x h => piece_out m c t 8 1024 rfl 0#1 rfl inb_S2048x128_S128x128_1024_0_s_4_1 spos_4_1 x y h inb_S2560x128_S256x128_1024_0_s_4_1) ?_
  refine View.allAt_cons _ _ _ (fun x h => piece_out m c t 7 515 rfl 0#1 rfl inb_S2048x128_S128x128_515_0_s_4_1 spos_4_1 x y h inb_S2560x128_S256x128_515_0_s_4_1) ?_
  refine View.allAt_cons _ _ _ (fun x h => piece_out m c t 6 514 rfl 0#1 rfl inb_S2048x128_S128x128_514_0_s_4_1 spos_4_1 x y h inb_S2560x128_S256x128_514_0_s_4_1) ?_
  refine View.allAt_cons _ _ _ (fun x h => piece_out m c t 5 513 rfl 0#1 rfl inb_S2048x128_S128x128_513_0_s_4_1 spos_4_1 x y h inb_S2560x128_S256x128_513_0_s_4_1) ?_
  refine View.allAt_cons _ _ _ (fun x h => piece_out m c t 4 512 rfl 0#1 rfl inb_S2048x128_S128x128_512_0_s_4_1 spos_4_1 x y h inb_S2560x128_S256x128_512_0_s_4_1) ?_
  refine View.allAt_cons _ _ _ (fun x h => piece_out m c t 3 3 rfl 1#1 rfl inb_S2048x128_S128x128_3_0_s_4_1 spos_4_1 x y h inb_S2560x128_S256x128_3_0_s_4_1) ?_
  refine View.allAt_cons _ _ _ (fun x h => piece_out m c t 2 2 rfl 1#1 rfl inb_S2048x128_S128x128_2_0_s_4_1 spos_4_1 x y h inb_S2560x128_S256x128_2_0_s_4_1) ?_
  refine View.allAt_cons _ _ _ (fun x h => piece_out m c t 1 1 rfl 1#1 rfl inb_S2048x128_S128x128_1_0_s_4_1 spos_4_1 x y h inb_S2560x128_S256x128_1_0_s_4_1) ?_
  refine View.allAt_cons _ _ _ (fun x h => piece_out m c t 0 0 rfl 1#1 rfl inb_S2048x128_S128x128_0_0_s_4_1 spos_4_1 x y h inb_S2560x128_S256x128_0_0_s_4_1) ?_
  exact View.allAt_nil _ _

/-- The tile of the second result. -/
theorem canonL (y : S2048x128.Idx) : View.canon (runAt m c t).2.1 y = tileL m c t ⟨(y 0).val, (y 0).isLt⟩ ⟨(y 1).val, (y 1).isLt⟩ := by
  refine View.canon_eq_of_allAt _ y _ (coverL m c t y) ?_
  unfold runAt run
  dsimp only
  refine View.allAt_cons _ _ _ (fun x h => piece_lse m c t 15 1539 rfl 0#1 rfl inb_S2048x128_S128x128_1539_0_s_4_1 spos_4_1 x y h inb_S2560x128_S256x128_1539_0_s_4_1) ?_
  refine View.allAt_cons _ _ _ (fun x h => piece_lse m c t 14 1538 rfl 0#1 rfl inb_S2048x128_S128x128_1538_0_s_4_1 spos_4_1 x y h inb_S2560x128_S256x128_1538_0_s_4_1) ?_
  refine View.allAt_cons _ _ _ (fun x h => piece_lse m c t 13 1537 rfl 0#1 rfl inb_S2048x128_S128x128_1537_0_s_4_1 spos_4_1 x y h inb_S2560x128_S256x128_1537_0_s_4_1) ?_
  refine View.allAt_cons _ _ _ (fun x h => piece_lse m c t 12 1536 rfl 0#1 rfl inb_S2048x128_S128x128_1536_0_s_4_1 spos_4_1 x y h inb_S2560x128_S256x128_1536_0_s_4_1) ?_
  refine View.allAt_cons _ _ _ (fun x h => piece_lse m c t 11 1027 rfl 0#1 rfl inb_S2048x128_S128x128_1027_0_s_4_1 spos_4_1 x y h inb_S2560x128_S256x128_1027_0_s_4_1) ?_
  refine View.allAt_cons _ _ _ (fun x h => piece_lse m c t 10 1026 rfl 0#1 rfl inb_S2048x128_S128x128_1026_0_s_4_1 spos_4_1 x y h inb_S2560x128_S256x128_1026_0_s_4_1) ?_
  refine View.allAt_cons _ _ _ (fun x h => piece_lse m c t 9 1025 rfl 0#1 rfl inb_S2048x128_S128x128_1025_0_s_4_1 spos_4_1 x y h inb_S2560x128_S256x128_1025_0_s_4_1) ?_
  refine View.allAt_cons _ _ _ (fun x h => piece_lse m c t 8 1024 rfl 0#1 rfl inb_S2048x128_S128x128_1024_0_s_4_1 spos_4_1 x y h inb_S2560x128_S256x128_1024_0_s_4_1) ?_
  refine View.allAt_cons _ _ _ (fun x h => piece_lse m c t 7 515 rfl 0#1 rfl inb_S2048x128_S128x128_515_0_s_4_1 spos_4_1 x y h inb_S2560x128_S256x128_515_0_s_4_1) ?_
  refine View.allAt_cons _ _ _ (fun x h => piece_lse m c t 6 514 rfl 0#1 rfl inb_S2048x128_S128x128_514_0_s_4_1 spos_4_1 x y h inb_S2560x128_S256x128_514_0_s_4_1) ?_
  refine View.allAt_cons _ _ _ (fun x h => piece_lse m c t 5 513 rfl 0#1 rfl inb_S2048x128_S128x128_513_0_s_4_1 spos_4_1 x y h inb_S2560x128_S256x128_513_0_s_4_1) ?_
  refine View.allAt_cons _ _ _ (fun x h => piece_lse m c t 4 512 rfl 0#1 rfl inb_S2048x128_S128x128_512_0_s_4_1 spos_4_1 x y h inb_S2560x128_S256x128_512_0_s_4_1) ?_
  refine View.allAt_cons _ _ _ (fun x h => piece_lse m c t 3 3 rfl 1#1 rfl inb_S2048x128_S128x128_3_0_s_4_1 spos_4_1 x y h inb_S2560x128_S256x128_3_0_s_4_1) ?_
  refine View.allAt_cons _ _ _ (fun x h => piece_lse m c t 2 2 rfl 1#1 rfl inb_S2048x128_S128x128_2_0_s_4_1 spos_4_1 x y h inb_S2560x128_S256x128_2_0_s_4_1) ?_
  refine View.allAt_cons _ _ _ (fun x h => piece_lse m c t 1 1 rfl 1#1 rfl inb_S2048x128_S128x128_1_0_s_4_1 spos_4_1 x y h inb_S2560x128_S256x128_1_0_s_4_1) ?_
  refine View.allAt_cons _ _ _ (fun x h => piece_lse m c t 0 0 rfl 1#1 rfl inb_S2048x128_S128x128_0_0_s_4_1 spos_4_1 x y h inb_S2560x128_S256x128_0_0_s_4_1) ?_
  exact View.allAt_nil _ _

end Cert.AttnFwd4Ideal.Tile
end
-- ==== Proof.AttnTileRows4.lean ====
module

public import proofs.«01_k».proof.Defs
public import proofs.«01_k».proof.Proof.AttnTile4

/-! The tiles of the window attention of dilation 4, row by row: the attention among the rows of one remainder. -/

@[expose] public section

set_option maxRecDepth 16384

noncomputable section

open Idealize.ShloMosaic Idealize.ShloMosaic.TcCoe Idealize.SL.Sem

namespace Cert.AttnFwd4Ideal.Tile

open Cert.AttnFwd4Ideal Cert.AttnFwd4Ideal.Gen Cert.DilatedRow Cert.AttnBlock Cert.AttnStaged

variable (X : FVec Ideal S8192x2304 .f32) (R : Fin 8192) (C : Fin 256)

/-- The scores of row `R` in the head of lane `C`, over the 256 rows of its remainder that end with its block. -/
def scores : Fin 256 → EReal :=
  score (R.val / 4 / 128 = 0) (R.val / 4 % 128)
    (fun e : Fin 64 => X (ix2 (⟨(R.val / 4 / 128 * 128 + R.val / 4 % 128) * 4 + R.val % 4, by omega⟩ : Fin 8192) (⟨256 + (C.val / 64 * 64 + e.val), by omega⟩ : Fin 2304)))
    (fun x (e : Fin 64) => X (ix2 (⟨(R.val / 4 / 128 * 128 + x.val - 128) * 4 + R.val % 4, by omega⟩ : Fin 8192) (⟨1024 + (C.val / 64 * 64 + e.val), by omega⟩ : Fin 2304)))

/-- The values those rows hold at lane `C`. -/
def weighted : Fin 256 → EReal := fun x =>
  X (ix2 (⟨(R.val / 4 / 128 * 128 + x.val - 128) * 4 + R.val % 4, by omega⟩ : Fin 8192) (⟨1792 + C.val, by omega⟩ : Fin 2304))

variable (m : (ℓ : Loc nD τ sig) → Buf (Elt Ideal) ℓ) (c : Dev nD) (t : Fin cfg0.N) (r : Fin 2048) (e : Fin 128)
  (hR : R.val = t.val / 2 * 2048 + r.val) (hC : C.val = t.val % 2 * 128 + e.val)

/-- The array at one place written twice. -/
theorem at_eq (R R' : Fin 8192) (C C' : Fin 2304) (hR : R.val = R'.val) (hC : C.val = C'.val) : X (ix2 R C) = X (ix2 R' C') := by
  rw [Fin.ext hR, Fin.ext hC]

/-- A row's place in its tile: which block, of which remainder, and where in it. -/
theorem places (hR : R.val = t.val / 2 * 2048 + r.val) : (blockOf r).val / 4 = r.val / 512 ∧ base (blockOf r) + 4 * (placeOf r).val = r.val
    ∧ R.val / 4 / 128 = t.val / 2 * 4 + r.val / 512 ∧ R.val / 4 % 128 = (placeOf r).val ∧ R.val % 4 = r.val % 4
    ∧ base (blockOf r) = r.val / 512 * 512 + r.val % 4 := by
  have nt : t.val < 8 := lt_of_lt_of_eq t.isLt N_0
  have b : (blockOf r).val = r.val / 512 * 4 + r.val % 4 := rfl
  have p : (placeOf r).val = r.val % 512 / 4 := rfl
  have b1 : (blockOf r).val / 4 = r.val / 512 := by omega
  have b2 : (blockOf r).val % 4 = r.val % 4 := by omega
  have bb : base (blockOf r) = r.val / 512 * 512 + r.val % 4 := by
    unfold base
    rw [b1, b2]
  refine ⟨b1, ?_, ?_, ?_, ?_, bb⟩ <;> omega

/-- The truth word of the row's block. -/
theorem one_iff : one (blockOf r) = 1#1 ↔ r.val / 512 = 0 := by
  have b : (blockOf r).val = r.val / 512 * 4 + r.val % 4 := rfl
  have b1 : (blockOf r).val / 4 = r.val / 512 := by omega
  unfold one
  rw [b1]
  split <;> simp_all

include hR hC in
/-- The block's scores are the row's. -/
theorem tile_scores : sc (t.val / 2 = 0 ∧ one (blockOf r) = 1#1) (blockQ m c t (blockOf r)) (blockK m c t (blockOf r)) (placeOf r) e
    = scores (packed m c) R C := by
  have nt : t.val < 8 := lt_of_lt_of_eq t.isLt N_0
  obtain ⟨p1, p2, p3, p4, p5, p6⟩ := places R t r hR
  unfold sc scores
  simp only [p4]
  refine score_congr ?_ ?_ ?_
  · rw [one_iff, p3]
    omega
  · intro z
    refine (queries m c t _ _).trans (at_eq _ _ _ _ _ ?_ ?_)
    · show t.val / 2 * 2048 + (base (blockOf r) + 4 * (placeOf r).val) = (R.val / 4 / 128 * 128 + (placeOf r).val) * 4 + R.val % 4
      omega
    · show 256 + (t.val % 2 * 128 + (e.val / 64 * 64 + z.val)) = 256 + (C.val / 64 * 64 + z.val)
      omega
  · intro y sy z
    rw [one_iff] at sy
    refine (keys m c t _ _ ?_).trans (at_eq _ _ _ _ _ ?_ ?_)
    · intro g
      show 512 ≤ base (blockOf r) + 4 * y.val
      omega
    · show t.val / 2 * 2048 + (base (blockOf r) + 4 * y.val) - 512 = (R.val / 4 / 128 * 128 + y.val - 128) * 4 + R.val % 4
      omega
    · show 1024 + (t.val % 2 * 128 + (e.val / 64 * 64 + z.val)) = 1024 + (C.val / 64 * 64 + z.val)
      omega

include hR hC in
/-- The tile of the first result at a row is the row's attention. -/
theorem tileO_eq : tileO m c t r e = out (scores (packed m c) R C) (weighted (packed m c) R C) := by
  have nt : t.val < 8 := lt_of_lt_of_eq t.isLt N_0
  obtain ⟨p1, p2, p3, p4, p5, p6⟩ := places R t r hR
  unfold tileO
  rw [tile, outs_eq _ (by omega), tile_scores R C m c t r e hR hC]
  unfold scores
  refine out_congr fun y sy => ?_
  have sy' : R.val / 4 / 128 = 0 → 128 ≤ y.val := sy
  refine (values m c t _ _ ?_).trans (at_eq _ _ _ _ _ ?_ ?_)
  · intro g
    show 512 ≤ base (blockOf r) + 4 * y.val
    omega
  · show t.val / 2 * 2048 + (base (blockOf r) + 4 * y.val) - 512 = (R.val / 4 / 128 * 128 + y.val - 128) * 4 + R.val % 4
    omega
  · show 1792 + (t.val % 2 * 128 + e.val) = 1792 + C.val
    omega

include hR hC in
/-- The tile of the second result at a row is the logarithm of the row's sum of exponentials. -/
theorem tileL_eq : tileL m c t r e = lse (scores (packed m c) R C) := by
  have nt : t.val < 8 := lt_of_lt_of_eq t.isLt N_0
  unfold tileL
  rw [tile, lses_eq _ (by omega), tile_scores R C m c t r e hR hC]

end Cert.AttnFwd4Ideal.Tile
end
-- ==== Proof.AttnRefRows4.lean ====
module

public import proofs.«01_k».proof.Defs
public import proofs.«01_k».proof.Proof.DilatedRow
public import proofs.«01_k».proof.Proof.Gen.AttnFwd4RefIdeal.Read
public import Idealize.ShloMosaic.Lib.Pipeline.ValueKit
public import Idealize.ShloMosaic.Lib.Pointwise

/-! The reference's windowed attention of dilation 4, row by row. -/

@[expose] public section

set_option maxRecDepth 16384

noncomputable section

open Idealize.ShloMosaic Idealize.ShloMosaic.TcCoe Idealize.SL.Sem

namespace Cert.AttnFwd4RefIdeal.Rows

open Cert.AttnFwd4RefIdeal Cert.AttnFwd4RefIdeal.Gen Cert.AttnFwd4RefIdeal.Read Cert.DilatedRow Cert.Reals

variable (X : FVec Ideal S8192x2304 .f32) (r : Fin 4) (h : Fin 4) (J : Fin 16) (a : Fin 128)

/-- The row of a block's query: query `a` of block `J` among the rows of remainder `r`. -/
def row : Fin 8192 := ⟨(J.val * 128 + a.val) * 4 + r.val, by omega⟩

/-- The row of a block's key, among the rows of remainder `r`: the 128 before the block, then its own. -/
def krow (x : Fin 256) : Fin 8192 := ⟨(J.val * 128 + x.val - 128) * 4 + r.val, by omega⟩

/-- The lane of head `h` at channel `e`, of the queries. -/
def lane (e : Fin 64) : Fin 2304 := ⟨256 + (h.val * 64 + e.val), by omega⟩
/-- The lane of head `h` at channel `e`, of the keys. -/
def klane (e : Fin 64) : Fin 2304 := ⟨1024 + (h.val * 64 + e.val), by omega⟩
/-- The lane of head `h` at channel `e`, of the values. -/
def vlane (e : Fin 64) : Fin 2304 := ⟨1792 + (h.val * 64 + e.val), by omega⟩

/-- A row's scores. -/
def sc : Fin 256 → EReal :=
  score (J.val = 0) a.val (fun e => X (ix2 (row r J a) (lane h e))) (fun x e => X (ix2 (krow r J x) (klane h e)))

/-- The array at one place written twice. -/
theorem at_eq (R R' : Fin 8192) (C C' : Fin 2304) (hR : R.val = R'.val) (hC : C.val = C'.val) : X (ix2 R C) = X (ix2 R' C') := by
  rw [Fin.ext hR, Fin.ext hC]

/-- The reference's blocks of queries are the array's rows. -/
theorem v12_eq (e : Fin 64) : val_main_v12 (F := Ideal) X (ix6 0 r h J a e) = X (ix2 (row r J a) (lane h e)) := by
  unfold row lane
  pointwise [val_main_v12, val_main_v11, val_main_call0_v0, val_main_c, val_main_v10, val_main_v9, val_main_v4, val_main_v3, val_main_v0]
  rw [dif_pos (by omega)]
  exact at_eq X _ _ _ _ rfl (by simp only []; omega)

/-- The reference's joined blocks of keys are the array's rows, wherever there is one. -/
theorem v23_eq (x : Fin 256) (e : Fin 64) (hx : J.val = 0 → 128 ≤ x.val) :
    val_main_v23 (F := Ideal) X (ix6 0 r h J x e) = X (ix2 (krow r J x) (klane h e)) := by
  generalize hR : X _ = R
  pointwise [val_main_v23, val_main_v22, val_main_v21, val_main_v16, val_main_v15, val_main_call1_v0, val_main_c_0, val_main_call3_v0, val_main_c_2, val_main_v14, val_main_v13, val_main_v6, val_main_v5, val_main_v1]
  subst hR
  unfold krow klane
  by_cases h1 : x.val < 128
  · rw [dif_pos h1, dif_pos (by omega), dif_pos (by omega)]
    exact at_eq X _ _ _ _ (show ((J.val - 1) * 128 + x.val) * 4 + r.val = (J.val * 128 + x.val - 128) * 4 + r.val by omega) (by simp only []; omega)
  · rw [dif_neg h1, dif_pos (by omega)]
    exact at_eq X _ _ _ _ (show (J.val * 128 + (x.val - 128)) * 4 + r.val = (J.val * 128 + x.val - 128) * 4 + r.val by omega) (by simp only []; omega)

/-- The reference's joined blocks of values likewise. -/
theorem v26_eq (x : Fin 256) (e : Fin 64) (hx : J.val = 0 → 128 ≤ x.val) :
    val_main_v26 (F := Ideal) X (ix6 0 r h J x e) = X (ix2 (krow r J x) (vlane h e)) := by
  generalize hR : X _ = R
  pointwise [val_main_v26, val_main_v25, val_main_v24, val_main_v20, val_main_v19, val_main_call2_v0, val_main_c_1, val_main_call4_v0, val_main_c_3, val_main_v18, val_main_v17, val_main_v8, val_main_v7, val_main_v2]
  subst hR
  unfold krow vlane
  by_cases h1 : x.val < 128
  · rw [dif_pos h1, dif_pos (by omega), dif_pos (by omega)]
    exact at_eq X _ _ _ _ (show ((J.val - 1) * 128 + x.val) * 4 + r.val = (J.val * 128 + x.val - 128) * 4 + r.val by omega) (by simp only []; omega)
  · rw [dif_neg h1, dif_pos (by omega)]
    exact at_eq X _ _ _ _ (show (J.val * 128 + (x.val - 128)) * 4 + r.val = (J.val * 128 + x.val - 128) * 4 + r.val by omega) (by simp only []; omega)

/-- The reference's mask is set exactly where the query sees the key. -/
theorem v57_eq (x : Fin 256) : val_main_v57 (F := Ideal) (ix3 J a x) = 1#1 ↔ sees (J.val = 0) a.val x.val := by
  have hJ := J.isLt
  have ha := a.isLt
  have hx := x.isLt
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_4, val_main_c_5, val_main_c_6, val_main_c_7, val_main_c_8]
  exact window_word J.val a.val x.val (by omega) (by omega) (by omega)

/-- The reference's masked scores. -/
theorem v58_eq (x : Fin 256) : val_main_v58 (F := Ideal) X (ix6 0 r h J a x) = sc X r h J a x := by
  generalize hR : sc X r h J a x = R
  pointwise [val_main_v58, val_main_call5_v2, val_main_call5_v1, val_main_call5_v0, val_main_cst_9, val_main_v29, val_main_v28, val_main_cst, val_main_v27]
  subst hR
  show Scalar.select _ _ (Ideal.ofBits .f32 0xFF800000#32) = _
  rw [sel, ofBits_neg_inf]
  unfold sc score
  by_cases hs : sees (J.val = 0) a.val x.val
  · rw [if_pos hs, if_pos ((v57_eq J a x).mpr hs), Finset.sum_congr rfl fun e _ => congrArg₂ (· * ·) (v12_eq X r h J a e) (v23_eq X r h J x e hs.2.2)]
    rfl
  · rw [if_neg hs, if_neg fun e => hs ((v57_eq J a x).mp e)]

/-- The reference's largest score of a row. -/
theorem v59_eq : val_main_v59 (F := Ideal) X (ix5 0 r h J a) = top (sc X r h J a) := by
  unfold val_main_v59
  have hs : S1x4x4x16x128x256.Reduces [5] S1x4x4x16x128 := by decide
  have e := Host.reduce_eq_fold_single (FloatOps.maximumf (F := Ideal) (φ := .f32)) (val_main_v58 (F := Ideal) X)
    (val_main_cst_10 (F := Ideal)) reducesTo_S1x4x4x16x128x256_S1x4x4x16x128_d5 hs h_S_ (ix5 0 r h J a)
  rw [e]
  refine Finset.fold_congr (op := max) fun x _ => ?_
  exact (congrArg (val_main_v58 (F := Ideal) X) (funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl))).trans (v58_eq X r h J a x)

/-- The reference's exponentials. -/
theorem v63_eq (x : Fin 256) : val_main_v63 (F := Ideal) X (ix6 0 r h J a x) = Ideal.exp (sc X r h J a x - top (sc X r h J a)) := by
  pointwise [val_main_v63, val_main_v62, val_main_v61, val_main_v60]
  rw [v58_eq, v59_eq]

/-- The reference's sum of exponentials of a row. -/
theorem v64_eq : val_main_v64 (F := Ideal) X (ix5 0 r h J a) = den (sc X r h J a) := by
  rw [val_main_v64_apply, val_main_cst_11_apply]
  unfold den
  refine (congrArg₂ (· + ·) (show Ideal.ofBits .f32 0x00000000#32 = (0 : EReal) by simp [Ideal.ofBits, Ideal.ieee]) (Finset.sum_congr rfl fun x _ => ?_)).trans (zero_add _)
  exact (congrArg (val_main_v63 (F := Ideal) X) (funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl))).trans (v63_eq X r h J a x)

end Cert.AttnFwd4RefIdeal.Rows
end
-- ==== Proof.AttnRefLast4.lean ====
module

public import proofs.«01_k».proof.Defs
public import proofs.«01_k».proof.Proof.AttnRefRows4
public import proofs.«01_k».proof.Proof.Gen.AttnFwd4RefIdeal.Read
public import Idealize.ShloMosaic.Lib.Pipeline.ValueKit
public import Idealize.ShloMosaic.Lib.Pointwise

/-! The reference's windowed attention of dilation 4, row by row. -/

@[expose] public section

set_option maxRecDepth 16384

noncomputable section

open Idealize.ShloMosaic Idealize.ShloMosaic.TcCoe Idealize.SL.Sem

namespace Cert.AttnFwd4RefIdeal.Rows

open Cert.AttnFwd4RefIdeal Cert.AttnFwd4RefIdeal.Gen Cert.AttnFwd4RefIdeal.Read Cert.DilatedRow Cert.Reals

variable (X : FVec Ideal S8192x2304 .f32) (r : Fin 4) (h : Fin 4) (J : Fin 16) (a : Fin 128)

/-- The largest scores without their last axis. -/
theorem v69_eq : val_main_v69 (F := Ideal) X (ix5 0 r h J a) = val_main_v59 (F := Ideal) X (ix5 0 r h J a) := by
  have e : ∀ A : FVec Ideal S1x4x4x16x128x1 .f32, shapeCast S1x4x4x16x128 A shapeCasts_S1x4x4x16x128x1_S1x4x4x16x128 (ix5 0 r h J a) = A (ix6 0 r h J a 0) := fun A => by
    pointwise []
  unfold val_main_v69
  rw [e, val_main_v60_apply]
  generalize val_main_v59 (F := Ideal) X = A
  exact congrArg A (funext fun a => Fin.ext (by
    match a with
    | ⟨0, _⟩ => rfl
    | ⟨1, _⟩ => rfl
    | ⟨2, _⟩ => rfl
    | ⟨3, _⟩ => rfl
    | ⟨4, _⟩ => rfl))

/-- The reference's logarithms of the sums of exponentials. -/
theorem v71_eq : val_main_v71 (F := Ideal) X (ix5 0 r h J a) = lse (sc X r h J a) := by
  unfold lse
  rw [← v64_eq, ← v59_eq, ← v69_eq, val_main_v71_apply]
  unfold val_main_v70
  generalize val_main_v69 (F := Ideal) X = A
  generalize val_main_v64 (F := Ideal) X = B
  rfl

/-- The attention of a block's query at one channel. -/
theorem v68_eq (e : Fin 64) : val_main_v68 (F := Ideal) X (ix6 0 r h J a e) = out (sc X r h J a) (fun x => X (ix2 (krow r J x) (vlane h e))) := by
  generalize hZ : out _ _ = Z
  pointwise [val_main_v68, val_main_v67, val_main_v66, val_main_v65]
  subst hZ
  rw [v64_eq, Finset.sum_congr rfl fun x _ => congrArg (· * _) (v63_eq X r h J a x)]
  refine congrArg (Ideal.div · _) (Finset.sum_congr rfl fun x _ => ?_)
  by_cases hs : sees (J.val = 0) a.val x.val
  · rw [v26_eq X r h J x e hs.2.2]
  · have e : sc X r h J a x = ⊥ := if_neg hs
    rw [e, exp_bot_sub, zero_mul, zero_mul]

/-- The attention at row `R` and lane `C`. -/
theorem v78_eq (R : Fin 8192) (C : Fin 256) : val_main_v78 (F := Ideal) X (ix2 R C)
    = out (sc X ⟨R.val % 4, by omega⟩ ⟨C.val / 64, by omega⟩ ⟨R.val / 4 / 128, by omega⟩ ⟨R.val / 4 % 128, by omega⟩)
      (fun x => X (ix2 (krow ⟨R.val % 4, by omega⟩ ⟨R.val / 4 / 128, by omega⟩ x) ⟨1792 + C.val, by omega⟩)) := by
  have e : ∀ k : Fin 8192, X (ix2 k (vlane ⟨C.val / 64, by omega⟩ ⟨C.val % 64, by omega⟩)) = X (ix2 k (⟨1792 + C.val, by omega⟩ : Fin 2304)) := fun k =>
    at_eq X _ _ _ _ rfl (show 1792 + (C.val / 64 * 64 + C.val % 64) = 1792 + C.val by omega)
  simp only [← e]
  rw [← v68_eq]
  pointwise [val_main_v78, val_main_v74, val_main_v73, val_main_v72]

/-- The logarithm of the sum of exponentials at row `R` and lane `C`. -/
theorem v81_eq (R : Fin 8192) (C : Fin 256) : val_main_v81 (F := Ideal) X (ix2 R C)
    = lse (sc X ⟨R.val % 4, by omega⟩ ⟨C.val / 64, by omega⟩ ⟨R.val / 4 / 128, by omega⟩ ⟨R.val / 4 % 128, by omega⟩) := by
  rw [← v71_eq]
  pointwise [val_main_v81, val_main_v80, val_main_v79, val_main_v77, val_main_v76, val_main_v75]

/-- The reference leaves its two results and its argument as it was. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = Cert.AttnFwd4RefIdeal.Read.val_main_v78 (F := Ideal) (m ((c.tc : Thread nD τ).loc main_arg0))
      ∧ r.2.mem ((c.tc : Thread nD τ).loc main_v81) = Cert.AttnFwd4RefIdeal.Read.val_main_v81 (F := Ideal) (m ((c.tc : Thread nD τ).loc main_arg0))
      ∧ r.2.mem ((c.tc : Thread nD τ).loc main_arg0) = m ((c.tc : Thread nD τ).loc main_arg0) :=
  (θ_run _ _ _).mono (fun r h c => ⟨(h c).1.trans (Cert.AttnFwd4RefIdeal.Read.val_main_v78_eq m c),
    (h c).2.1.trans (Cert.AttnFwd4RefIdeal.Read.val_main_v81_eq m c), (h c).2.2⟩) (Cert.AttnFwd4RefIdeal.Value.run m ρ)

end Cert.AttnFwd4RefIdeal.Rows
end
-- ==== Proof.AttnFwd4.lean ====
module

public import proofs.«01_k».proof.Defs
public import proofs.«01_k».proof.Proof.AttnTileRows4
public import proofs.«01_k».proof.Proof.AttnRefLast4
public import Idealize.ShloMosaic.Lib.Pipeline.ValueKit
public import Idealize.ShloMosaic.Lib.Pointwise

/-! The windowed attention of dilation 4, for all extended reals: the kernel's results are the reference's. -/

@[expose] public section

set_option maxRecDepth 16384

noncomputable section

open Idealize.ShloMosaic Idealize.ShloMosaic.TcCoe Idealize.SL.Sem
open Idealize.ShloMosaic.Pipeline (Dat)

namespace Cert.AttnFwd4Ideal.Equation

open Cert.AttnFwd4Ideal Cert.AttnFwd4Ideal.Gen Cert.AttnFwd4Ideal.Strided Cert.AttnFwd4Ideal.Tile
open Cert.AttnFwd4RefIdeal.Rows (row krow lane klane vlane v78_eq v81_eq)

variable (m : (ℓ : Loc nD τ sig) → Buf (Elt Ideal) ℓ) (c : Dev nD)

/-- The reference's scores are the kernel's. -/
theorem scores_eq (X : FVec Ideal S8192x2304 .f32) (R : Fin 8192) (C : Fin 256) :
    Cert.AttnFwd4RefIdeal.Rows.sc X ⟨R.val % 4, by omega⟩ ⟨C.val / 64, by omega⟩ ⟨R.val / 4 / 128, by omega⟩ ⟨R.val / 4 % 128, by omega⟩ = scores X R C := rfl

/-- Result 0 of the call is the reference's. -/
theorem final5 : (dats m 0 c).arrAt 5 cfg0.N = Cert.AttnFwd4RefIdeal.Read.val_main_v78 (F := Ideal) (packed m c) := by
  refine (dats m 0 c).arrAt_eq_of_covers 5 _ (by decide +kernel) fun t _ y => ?_
  have nt : t.val < 8 := lt_of_lt_of_eq t.isLt N_0
  blk_simp
  rw [(after m c t).2.2.2.2.2.1]
  have l0 : (y 0).val < 2048 := (y 0).isLt
  have l1 : (y 1).val < 128 := (y 1).isLt
  have e : ((View.whole main_v0_0).slice (win0_5.rect t)).emb y
      = ix2 (⟨t.val / 2 * 2048 + (y 0).val, by omega⟩ : Fin 8192) (⟨t.val % 2 * 128 + (y 1).val, by omega⟩ : Fin 256) := by
    blk_ext [idx t]
  rw [e]
  refine (canonO m c t y).trans ((tileO_eq ⟨t.val / 2 * 2048 + (y 0).val, by omega⟩ ⟨t.val % 2 * 128 + (y 1).val, by omega⟩ m c t ⟨_, l0⟩ ⟨_, l1⟩ rfl rfl).trans ?_)
  rw [v78_eq, scores_eq]
  rfl

/-- Result 1 of the call is the reference's. -/
theorem final6 : (dats m 0 c).arrAt 6 cfg0.N = Cert.AttnFwd4RefIdeal.Read.val_main_v81 (F := Ideal) (packed m c) := by
  refine (dats m 0 c).arrAt_eq_of_covers 6 _ (by decide +kernel) fun t _ y => ?_
  have nt : t.val < 8 := lt_of_lt_of_eq t.isLt N_0
  blk_simp
  rw [(after m c t).2.2.2.2.2.2]
  have l0 : (y 0).val < 2048 := (y 0).isLt
  have l1 : (y 1).val < 128 := (y 1).isLt
  have e : ((View.whole main_v0_1).slice (win0_6.rect t)).emb y
      = ix2 (⟨t.val / 2 * 2048 + (y 0).val, by omega⟩ : Fin 8192) (⟨t.val % 2 * 128 + (y 1).val, by omega⟩ : Fin 256) := by
    blk_ext [idx t]
  rw [e]
  refine (canonL m c t y).trans ((tileL_eq ⟨t.val / 2 * 2048 + (y 0).val, by omega⟩ ⟨t.val % 2 * 128 + (y 1).val, by omega⟩ m c t ⟨_, l0⟩ ⟨_, l1⟩ rfl rfl).trans ?_)
  rw [v81_eq, scores_eq]

set_option maxRecDepth 100000 in
set_option maxHeartbeats 1600000 in
/-- The kernel's results are the reference's attention and logarithms. -/
theorem algebraic : Cert.algebraic_AttnFwd4Ideal_AttnFwd4RefIdeal := by
  pair_intro
  · run_from Cert.AttnFwd4Ideal.Strided.run_main m g
  · exact (θ_run _ _ _).mono (fun r h c => ⟨(h c).1.trans ((congrArg _ (hagree c)).trans (final5 m c).symm),
      (h c).2.1.trans ((congrArg _ (hagree c)).trans (final6 m c).symm), (h c).2.2⟩) (Cert.AttnFwd4RefIdeal.Rows.reference_run m' g')

end Cert.AttnFwd4Ideal.Equation
end
-- ==== Proof.AttnTile16.lean ====
module

public import proofs.«01_k».proof.Defs
public import proofs.«01_k».proof.Proof.AttnBlock
public import proofs.«01_k».proof.Proof.AttnStaged
public import proofs.«01_k».proof.Proof.AttnFrame16
public import Idealize.ShloMosaic.Lib.Pipeline.ValueKit
public import Idealize.ShloMosaic.Lib.Pointwise
public import Idealize.ShloMosaic.Lib.WholeRead

/-! What the window attention of dilation 16 leaves in a tile: its sixteen blocks of 128 rows at stride 16. -/

@[expose] public section

set_option maxRecDepth 65536

noncomputable section

open Idealize.ShloMosaic Idealize.ShloMosaic.TcCoe Idealize.SL.Sem
open Idealize.ShloMosaic.Pipeline (Dat)

namespace Cert.AttnFwd16Ideal.Tile

open Cert.AttnFwd16Ideal Cert.AttnFwd16Ideal.Gen Cert.AttnFwd16Ideal.Strided Cert.DilatedRow Cert.AttnBlock Cert.AttnStaged

variable (m : (ℓ : Loc nD τ sig) → Buf (Elt Ideal) ℓ)

/-- At point `t` the tile of 2048 rows is `t / 2` and the pair of heads `t % 2`, of the group that begins at lane 512. -/
theorem idx : ∀ t : Fin cfg0.N, win0_0.index t = ![t.val / 2, 4 + t.val % 2] ∧ win0_1.index t = ![t.val / 2, 10 + t.val % 2]
    ∧ win0_2.index t = ![t.val / 2 * 1 - 1, 10 + t.val % 2] ∧ win0_3.index t = ![t.val / 2, 16 + t.val % 2]
    ∧ win0_4.index t = ![t.val / 2 * 1 - 1, 16 + t.val % 2] ∧ win0_5.index t = ![t.val / 2, t.val % 2] ∧ win0_6.index t = ![t.val / 2, t.val % 2] :=
  (by decide +kernel : ∀ t : Fin grid0.N, _)

/-- The grid's first coordinate is the tile of rows. -/
theorem tile : ∀ t : Fin cfg0.N, (grid0.coords t 0).val = t.val / 2 :=
  (by decide +kernel : ∀ t : Fin grid0.N, _)

/-- The packed queries, keys and values. -/
abbrev packed (c : Dev nD) : FVec Ideal S8192x2304 .f32 := m ((c : Thread nD τ).loc main_arg0)

variable (c : Dev nD) (t : Fin cfg0.N)

/-- The queries' block is the array's rows of the tile in the pair of heads' lanes. -/
theorem queries (r : Fin 2048) (e : Fin 128) : iblk m c 0 t (ix2 r e)
    = packed m c (ix2 (⟨t.val / 2 * 2048 + r.val, by have := lt_of_lt_of_eq t.isLt N_0; omega⟩ : Fin 8192)
      (⟨512 + (t.val % 2 * 128 + e.val), by omega⟩ : Fin 2304)) := by
  have nt : t.val < 8 := lt_of_lt_of_eq t.isLt N_0
  blk_point [iblk, V, idx t]

/-- The staged keys: row `r` is the row 2048 before the tile's row `r`, wherever there is one. -/
theorem keys (r : Fin (2048 + 2048)) (e : Fin 128) (hr : t.val / 2 = 0 → 2048 ≤ r.val) : staged 2048 (iblk m c 2 t) (iblk m c 1 t) r e
    = packed m c (ix2 (⟨t.val / 2 * 2048 + r.val - 2048, by have := lt_of_lt_of_eq t.isLt N_0; omega⟩ : Fin 8192)
      (⟨1280 + (t.val % 2 * 128 + e.val), by omega⟩ : Fin 2304)) := by
  have nt : t.val < 8 := lt_of_lt_of_eq t.isLt N_0
  unfold staged
  split
  · blk_point [iblk, V, idx t]
  · blk_point [iblk, V, idx t]

/-- The staged values likewise. -/
theorem values (r : Fin (2048 + 2048)) (e : Fin 128) (hr : t.val / 2 = 0 → 2048 ≤ r.val) : staged 2048 (iblk m c 4 t) (iblk m c 3 t) r e
    = packed m c (ix2 (⟨t.val / 2 * 2048 + r.val - 2048, by have := lt_of_lt_of_eq t.isLt N_0; omega⟩ : Fin 8192)
      (⟨2048 + (t.val % 2 * 128 + e.val), by omega⟩ : Fin 2304)) := by
  have nt : t.val < 8 := lt_of_lt_of_eq t.isLt N_0
  unfold staged
  split
  · blk_point [iblk, V, idx t]
  · blk_point [iblk, V, idx t]

/-- Block `k` begins at this row of the tile. -/
def base (k : Fin 16) : ℕ := k.val / 16 * 2048 + k.val % 16

/-- The truth word of a tile's first blocks, whose keys reach before the tile. -/
def one (k : Fin 16) : BitVec 1 := if k.val / 16 = 0 then 1#1 else 0#1

/-- Block `k`'s queries. -/
def blockQ (k : Fin 16) : FVec Ideal S128x128 .f32 := fun i =>
  iblk m c 0 t (ix2 (⟨base k + 16 * (i 0).val, by have h : (i 0).val < 128 := (i 0).isLt; unfold base; omega⟩ : Fin 2048) (⟨(i 1).val, (i 1).isLt⟩ : Fin 128))
/-- Block `k`'s keys: those of the block before, then its own. -/
def blockK (k : Fin 16) : FVec Ideal S256x128 .f32 := fun i =>
  staged 2048 (iblk m c 2 t) (iblk m c 1 t) ⟨base k + 16 * (i 0).val, by have h : (i 0).val < 256 := (i 0).isLt; unfold base; omega⟩ ⟨(i 1).val, (i 1).isLt⟩
/-- Block `k`'s values likewise. -/
def blockV (k : Fin 16) : FVec Ideal S256x128 .f32 := fun i =>
  staged 2048 (iblk m c 4 t) (iblk m c 3 t) ⟨base k + 16 * (i 0).val, by have h : (i 0).val < 256 := (i 0).isLt; unfold base; omega⟩ ⟨(i 1).val, (i 1).isLt⟩

/-- The block a row of the tile belongs to. -/
def blockOf (r : Fin 2048) : Fin 16 := ⟨r.val / 2048 * 16 + r.val % 16, by omega⟩
/-- The row's place in its block. -/
def placeOf (r : Fin 2048) : Fin 128 := ⟨r.val % 2048 / 16, by omega⟩

/-- What the tile of the first result holds. -/
def tileO (r : Fin 2048) (e : Fin 128) : EReal :=
  outs (bias (BitVec.ofNat 32 (grid0.coords t 0).val) (one (blockOf r))) (blockQ m c t (blockOf r)) (blockK m c t (blockOf r)) (blockV m c t (blockOf r)) (ix2 (placeOf r) e)
/-- What the tile of the second result holds. -/
def tileL (r : Fin 2048) (e : Fin 128) : EReal :=
  lses (bias (BitVec.ofNat 32 (grid0.coords t 0).val) (one (blockOf r))) (blockQ m c t (blockOf r)) (blockK m c t (blockOf r)) (ix2 (placeOf r) e)

section Loads

variable (off : ℕ)
  (inbQ : ∀ a, S128x128.size a = 0 ∨ (![off, 0] : Fin 2 → ℕ) a + (![16, 1] : Fin 2 → ℕ) a * (S128x128.size a - 1) < S2048x128.size a)
  (inbK : ∀ a, S256x128.size a = 0 ∨ (![off, 0] : Fin 2 → ℕ) a + (![16, 1] : Fin 2 → ℕ) a * (S256x128.size a - 1) < S4096x128.size a)

/-- A block's queries as the body loads them. -/
abbrev loadQ : FVec Ideal S128x128 .f32 :=
  View.readAt (Elt Ideal) (win0_0.stage (cfg0.slots t 0)).view (⟨![off, 0], S128x128.size, ![16, 1], inbQ⟩ : LoadRect S2048x128)
    ((hstage0_0 ((cfg0.slots t 0).cast nbuf0_0)).unread (iblk m c 0 t))

/-- The rows of one input as the body reads them whole. -/
abbrev whole1 : FVec Ideal S2048x128 .f32 := View.readAt (Elt Ideal) (win0_1.stage (cfg0.slots t 1)).view (Rect.unit ![0, 0] S2048x128.size inb_S2048x128_S2048x128_0_0).toLoadRect
  ((hstage0_1 ((cfg0.slots t 1).cast nbuf0_1)).unread (iblk m c 1 t))
/-- The rows of the keys before the tile as the body reads them whole. -/
abbrev whole2 : FVec Ideal S2048x128 .f32 := View.readAt (Elt Ideal) (win0_2.stage (cfg0.slots t 2)).view (Rect.unit ![0, 0] S2048x128.size inb_S2048x128_S2048x128_0_0).toLoadRect
  ((hstage0_2 ((cfg0.slots t 2).cast nbuf0_2)).unread (iblk m c 2 t))
/-- The rows of the values as the body reads them whole. -/
abbrev whole3 : FVec Ideal S2048x128 .f32 := View.readAt (Elt Ideal) (win0_3.stage (cfg0.slots t 3)).view (Rect.unit ![0, 0] S2048x128.size inb_S2048x128_S2048x128_0_0).toLoadRect
  ((hstage0_3 ((cfg0.slots t 3).cast nbuf0_3)).unread (iblk m c 3 t))
/-- The rows of the values before the tile as the body reads them whole. -/
abbrev whole4 : FVec Ideal S2048x128 .f32 := View.readAt (Elt Ideal) (win0_4.stage (cfg0.slots t 4)).view (Rect.unit ![0, 0] S2048x128.size inb_S2048x128_S2048x128_0_0).toLoadRect
  ((hstage0_4 ((cfg0.slots t 4).cast nbuf0_4)).unread (iblk m c 4 t))

/-- A block's staged keys as the body loads them. -/
abbrev loadK : FVec Ideal S256x128 .f32 :=
  (View.whole cc0_scratch0).readCov (Val := Elt Ideal) [⟨Rect.unit ![2048, 0] S2048x128.size inb_S4096x128_S2048x128_2048_0, k0_pay2 (F := Ideal) (whole1 m c t)⟩,
    ⟨Rect.unit ![0, 0] S2048x128.size inb_S4096x128_S2048x128_0_0, k0_pay1 (F := Ideal) (whole2 m c t)⟩] (⟨![off, 0], S256x128.size, ![16, 1], inbK⟩ : LoadRect S4096x128)
/-- A block's staged values as the body loads them. -/
abbrev loadV : FVec Ideal S256x128 .f32 :=
  (View.whole cc0_scratch1).readCov (Val := Elt Ideal) [⟨Rect.unit ![2048, 0] S2048x128.size inb_S4096x128_S2048x128_2048_0, k0_pay4 (F := Ideal) (whole3 m c t)⟩,
    ⟨Rect.unit ![0, 0] S2048x128.size inb_S4096x128_S2048x128_0_0, k0_pay3 (F := Ideal) (whole4 m c t)⟩] (⟨![off, 0], S256x128.size, ![16, 1], inbK⟩ : LoadRect S4096x128)

variable (k : Fin 16) (eo : off = base k)

include eo in
/-- The loaded queries are the block's. -/
theorem loadQ_eq : loadQ m c t off inbQ = blockQ m c t k := by
  subst eo
  funext i
  unfold loadQ blockQ
  refine (Memref.IsWhole.readAt_unread _ _ _ _).trans ?_
  exact congrArg (iblk m c 0 t) (funext fun b => Fin.ext (by
    match b with
    | ⟨0, _⟩ => rfl
    | ⟨1, _⟩ => exact (by omega : 0 + 1 * (i 1).val = (i 1).val)))

/-- The rows of an input read whole are the input's block. -/
theorem wholes : k0_pay2 (F := Ideal) (whole1 m c t) = iblk m c 1 t ∧ k0_pay1 (F := Ideal) (whole2 m c t) = iblk m c 2 t
    ∧ k0_pay4 (F := Ideal) (whole3 m c t) = iblk m c 3 t ∧ k0_pay3 (F := Ideal) (whole4 m c t) = iblk m c 4 t := by
  refine ⟨(shapeCast_self _ _).trans ?_, (shapeCast_self _ _).trans ?_, (shapeCast_self _ _).trans ?_, (shapeCast_self _ _).trans ?_⟩ <;>
  · funext i
    refine (Memref.IsWhole.readAt_unread _ _ _ _).trans ?_
    refine congrArg (iblk m c _ t) (funext fun b => Fin.ext ?_)
    match b with
    | ⟨0, _⟩ => exact (by omega : 0 + 1 * (i 0).val = (i 0).val)
    | ⟨1, _⟩ => exact (by omega : 0 + 1 * (i 1).val = (i 1).val)

include eo in
/-- The loaded keys are the block's. -/
theorem loadK_eq : loadK m c t off inbK = blockK m c t k := by
  subst eo
  obtain ⟨e1, e2, -, -⟩ := wholes m c t
  funext i
  unfold loadK blockK
  rw [e1, e2]
  idx_vars i
  exact staged_eq 2048 16 (base k) (by decide) (by unfold base; omega) (iblk m c 2 t) (iblk m c 1 t) _ inbK _ _ i0 i1

include eo in
/-- The loaded values are the block's. -/
theorem loadV_eq : loadV m c t off inbK = blockV m c t k := by
  subst eo
  obtain ⟨-, -, e3, e4⟩ := wholes m c t
  funext i
  unfold loadV blockV
  rw [e3, e4]
  idx_vars i
  exact staged_eq 2048 16 (base k) (by decide) (by unfold base; omega) (iblk m c 4 t) (iblk m c 3 t) _ inbK _ _ i0 i1

end Loads

section Pieces

variable (k : Fin 16) (off : ℕ) (eo : off = base k) (w : BitVec 1) (ew : w = one k)
  (inbQ : ∀ a, S128x128.size a = 0 ∨ (![off, 0] : Fin 2 → ℕ) a + (![16, 1] : Fin 2 → ℕ) a * (S128x128.size a - 1) < S2048x128.size a)
  (pos : ∀ a, 0 < (![16, 1] : Fin 2 → ℕ) a) (x : S128x128.Idx) (y : S2048x128.Idx)
  (h : (⟨(⟨![off, 0], S128x128.size, ![16, 1], inbQ⟩ : LoadRect S2048x128), pos⟩ : Rect S2048x128).emb x = y)

include eo h in
/-- A block's store at its own index `x` is the tile's index `y`. -/
theorem at_tile : blockOf ⟨(y 0).val, (y 0).isLt⟩ = k ∧ placeOf ⟨(y 0).val, (y 0).isLt⟩ = ⟨(x 0).val, (x 0).isLt⟩ ∧ (y 1).val = (x 1).val := by
  have l : (x 0).val < 128 := (x 0).isLt
  have y0 : (y 0).val = off + 16 * (x 0).val := by rw [← h]; rfl
  have y1 : (y 1).val = 0 + 1 * (x 1).val := by rw [← h]; rfl
  subst eo
  unfold base at y0
  refine ⟨Fin.ext ?_, Fin.ext ?_, by omega⟩
  · show (y 0).val / 2048 * 16 + (y 0).val % 16 = k.val
    omega
  · show (y 0).val % 2048 / 16 = (x 0).val
    omega

include eo ew h in
/-- What the body stores of block `k` in the first result. -/
theorem piece_out (inbK) : outs (bias (BitVec.ofNat 32 (grid0.coords t 0).val) w) (loadQ m c t off inbQ) (loadK m c t off inbK) (loadV m c t off inbK) x
    = tileO m c t ⟨(y 0).val, (y 0).isLt⟩ ⟨(y 1).val, (y 1).isLt⟩ := by
  obtain ⟨a, b, e⟩ := at_tile k off eo inbQ pos x y h
  unfold tileO
  rw [a, b, loadQ_eq m c t off inbQ k eo, loadK_eq m c t off inbK k eo, loadV_eq m c t off inbK k eo, ew]
  refine congrArg _ (funext fun i => Fin.ext ?_)
  match i with
  | ⟨0, _⟩ => rfl
  | ⟨1, _⟩ => exact e.symm

include eo ew h in
/-- What the body stores of block `k` in the second result. -/
theorem piece_lse (inbK) : lses (bias (BitVec.ofNat 32 (grid0.coords t 0).val) w) (loadQ m c t off inbQ) (loadK m c t off inbK) x
    = tileL m c t ⟨(y 0).val, (y 0).isLt⟩ ⟨(y 1).val, (y 1).isLt⟩ := by
  obtain ⟨a, b, e⟩ := at_tile k off eo inbQ pos x y h
  unfold tileL
  rw [a, b, loadQ_eq m c t off inbQ k eo, loadK_eq m c t off inbK k eo, ew]
  refine congrArg _ (funext fun i => Fin.ext ?_)
  match i with
  | ⟨0, _⟩ => rfl
  | ⟨1, _⟩ => exact e.symm

end Pieces

/-- The tile of the first result. -/
theorem canonO (y : S2048x128.Idx) : View.canon (runAt m c t).1 y = tileO m c t ⟨(y 0).val, (y 0).isLt⟩ ⟨(y 1).val, (y 1).isLt⟩ := by
  refine View.canon_eq_of_allAt _ y _ (coverO m c t y) ?_
  unfold runAt run
  dsimp only
  refine View.allAt_cons _ _ _ (fun x h => piece_out m c t 15 15 rfl 1#1 rfl inb_S2048x128_S128x128_15_0_s_16_1 spos_16_1 x y h inb_S4096x128_S256x128_15_0_s_16_1) ?_
  refine View.allAt_cons _ _ _ (fun x h => piece_out m c t 14 14 rfl 1#1 rfl inb_S2048x128_S128x128_14_0_s_16_1 spos_16_1 x y h inb_S4096x128_S256x128_14_0_s_16_1) ?_
  refine View.allAt_cons _ _ _ (fun x h => piece_out m c t 13 13 rfl 1#1 rfl inb_S2048x128_S128x128_13_0_s_16_1 spos_16_1 x y h inb_S4096x128_S256x128_13_0_s_16_1) ?_
  refine View.allAt_cons _ _ _ (fun x h => piece_out m c t 12 12 rfl 1#1 rfl inb_S2048x128_S128x128_12_0_s_16_1 spos_16_1 x y h inb_S4096x128_S256x128_12_0_s_16_1) ?_
  refine View.allAt_cons _ _ _ (fun x h => piece_out m c t 11 11 rfl 1#1 rfl inb_S2048x128_S128x128_11_0_s_16_1 spos_16_1 x y h inb_S4096x128_S256x128_11_0_s_16_1) ?_
  refine View.allAt_cons _ _ _ (fun x h => piece_out m c t 10 10 rfl 1#1 rfl inb_S2048x128_S128x128_10_0_s_16_1 spos_16_1 x y h inb_S4096x128_S256x128_10_0_s_16_1) ?_
  refine View.allAt_cons _ _ _ (fun x h => piece_out m c t 9 9 rfl 1#1 rfl inb_S2048x128_S128x128_9_0_s_16_1 spos_16_1 x y h inb_S4096x128_S256x128_9_0_s_16_1) ?_
  refine View.allAt_cons _ _ _ (fun x h => piece_out m c t 8 8 rfl 1#1 rfl inb_S2048x128_S128x128_8_0_s_16_1 spos_16_1 x y h inb_S4096x128_S256x128_8_0_s_16_1) ?_
  refine View.allAt_cons _ _ _ (fun x h => piece_out m c t 7 7 rfl 1#1 rfl inb_S2048x128_S128x128_7_0_s_16_1 spos_16_1 x y h inb_S4096x128_S256x128_7_0_s_16_1) ?_
  refine View.allAt_cons _ _ _ (fun x h => piece_out m c t 6 6 rfl 1#1 rfl inb_S2048x128_S128x128_6_0_s_16_1 spos_16_1 x y h inb_S4096x128_S256x128_6_0_s_16_1) ?_
  refine View.allAt_cons _ _ _ (fun x h => piece_out m c t 5 5 rfl 1#1 rfl inb_S2048x128_S128x128_5_0_s_16_1 spos_16_1 x y h inb_S4096x128_S256x128_5_0_s_16_1) ?_
  refine View.allAt_cons _ _ _ (fun x h => piece_out m c t 4 4 rfl 1#1 rfl inb_S2048x128_S128x128_4_0_s_16_1 spos_16_1 x y h inb_S4096x128_S256x128_4_0_s_16_1) ?_
  refine View.allAt_cons _ _ _ (fun x h => piece_out m c t 3 3 rfl 1#1 rfl inb_S2048x128_S128x128_3_0_s_16_1 spos_16_1 x y h inb_S4096x128_S256x128_3_0_s_16_1) ?_
  refine View.allAt_cons _ _ _ (fun x h => piece_out m c t 2 2 rfl 1#1 rfl inb_S2048x128_S128x128_2_0_s_16_1 spos_16_1 x y h inb_S4096x128_S256x128_2_0_s_16_1) ?_
  refine View.allAt_cons _ _ _ (fun x h => piece_out m c t 1 1 rfl 1#1 rfl inb_S2048x128_S128x128_1_0_s_16_1 spos_16_1 x y h inb_S4096x128_S256x128_1_0_s_16_1) ?_
  refine View.allAt_cons _ _ _ (fun x h => piece_out m c t 0 0 rfl 1#1 rfl inb_S2048x128_S128x128_0_0_s_16_1 spos_16_1 x y h inb_S4096x128_S256x128_0_0_s_16_1) ?_
  exact View.allAt_nil _ _

/-- The tile of the second result. -/
theorem canonL (y : S2048x128.Idx) : View.canon (runAt m c t).2.1 y = tileL m c t ⟨(y 0).val, (y 0).isLt⟩ ⟨(y 1).val, (y 1).isLt⟩ := by
  refine View.canon_eq_of_allAt _ y _ (coverL m c t y) ?_
  unfold runAt run
  dsimp only
  refine View.allAt_cons _ _ _ (fun x h => piece_lse m c t 15 15 rfl 1#1 rfl inb_S2048x128_S128x128_15_0_s_16_1 spos_16_1 x y h inb_S4096x128_S256x128_15_0_s_16_1) ?_
  refine View.allAt_cons _ _ _ (fun x h => piece_lse m c t 14 14 rfl 1#1 rfl inb_S2048x128_S128x128_14_0_s_16_1 spos_16_1 x y h inb_S4096x128_S256x128_14_0_s_16_1) ?_
  refine View.allAt_cons _ _ _ (fun x h => piece_lse m c t 13 13 rfl 1#1 rfl inb_S2048x128_S128x128_13_0_s_16_1 spos_16_1 x y h inb_S4096x128_S256x128_13_0_s_16_1) ?_
  refine View.allAt_cons _ _ _ (fun x h => piece_lse m c t 12 12 rfl 1#1 rfl inb_S2048x128_S128x128_12_0_s_16_1 spos_16_1 x y h inb_S4096x128_S256x128_12_0_s_16_1) ?_
  refine View.allAt_cons _ _ _ (fun x h => piece_lse m c t 11 11 rfl 1#1 rfl inb_S2048x128_S128x128_11_0_s_16_1 spos_16_1 x y h inb_S4096x128_S256x128_11_0_s_16_1) ?_
  refine View.allAt_cons _ _ _ (fun x h => piece_lse m c t 10 10 rfl 1#1 rfl inb_S2048x128_S128x128_10_0_s_16_1 spos_16_1 x y h inb_S4096x128_S256x128_10_0_s_16_1) ?_
  refine View.allAt_cons _ _ _ (fun x h => piece_lse m c t 9 9 rfl 1#1 rfl inb_S2048x128_S128x128_9_0_s_16_1 spos_16_1 x y h inb_S4096x128_S256x128_9_0_s_16_1) ?_
  refine View.allAt_cons _ _ _ (fun x h => piece_lse m c t 8 8 rfl 1#1 rfl inb_S2048x128_S128x128_8_0_s_16_1 spos_16_1 x y h inb_S4096x128_S256x128_8_0_s_16_1) ?_
  refine View.allAt_cons _ _ _ (fun x h => piece_lse m c t 7 7 rfl 1#1 rfl inb_S2048x128_S128x128_7_0_s_16_1 spos_16_1 x y h inb_S4096x128_S256x128_7_0_s_16_1) ?_
  refine View.allAt_cons _ _ _ (fun x h => piece_lse m c t 6 6 rfl 1#1 rfl inb_S2048x128_S128x128_6_0_s_16_1 spos_16_1 x y h inb_S4096x128_S256x128_6_0_s_16_1) ?_
  refine View.allAt_cons _ _ _ (fun x h => piece_lse m c t 5 5 rfl 1#1 rfl inb_S2048x128_S128x128_5_0_s_16_1 spos_16_1 x y h inb_S4096x128_S256x128_5_0_s_16_1) ?_
  refine View.allAt_cons _ _ _ (fun x h => piece_lse m c t 4 4 rfl 1#1 rfl inb_S2048x128_S128x128_4_0_s_16_1 spos_16_1 x y h inb_S4096x128_S256x128_4_0_s_16_1) ?_
  refine View.allAt_cons _ _ _ (fun x h => piece_lse m c t 3 3 rfl 1#1 rfl inb_S2048x128_S128x128_3_0_s_16_1 spos_16_1 x y h inb_S4096x128_S256x128_3_0_s_16_1) ?_
  refine View.allAt_cons _ _ _ (fun x h => piece_lse m c t 2 2 rfl 1#1 rfl inb_S2048x128_S128x128_2_0_s_16_1 spos_16_1 x y h inb_S4096x128_S256x128_2_0_s_16_1) ?_
  refine View.allAt_cons _ _ _ (fun x h => piece_lse m c t 1 1 rfl 1#1 rfl inb_S2048x128_S128x128_1_0_s_16_1 spos_16_1 x y h inb_S4096x128_S256x128_1_0_s_16_1) ?_
  refine View.allAt_cons _ _ _ (fun x h => piece_lse m c t 0 0 rfl 1#1 rfl inb_S2048x128_S128x128_0_0_s_16_1 spos_16_1 x y h inb_S4096x128_S256x128_0_0_s_16_1) ?_
  exact View.allAt_nil _ _

end Cert.AttnFwd16Ideal.Tile
end
-- ==== Proof.AttnTileRows16.lean ====
module

public import proofs.«01_k».proof.Defs
public import proofs.«01_k».proof.Proof.AttnTile16

/-! The tiles of the window attention of dilation 16, row by row: the attention among the rows of one remainder. -/

@[expose] public section

set_option maxRecDepth 16384

noncomputable section

open Idealize.ShloMosaic Idealize.ShloMosaic.TcCoe Idealize.SL.Sem

namespace Cert.AttnFwd16Ideal.Tile

open Cert.AttnFwd16Ideal Cert.AttnFwd16Ideal.Gen Cert.DilatedRow Cert.AttnBlock Cert.AttnStaged

variable (X : FVec Ideal S8192x2304 .f32) (R : Fin 8192) (C : Fin 256)

/-- The scores of row `R` in the head of lane `C`, over the 256 rows of its remainder that end with its block. -/
def scores : Fin 256 → EReal :=
  score (R.val / 16 / 128 = 0) (R.val / 16 % 128)
    (fun e : Fin 64 => X (ix2 (⟨(R.val / 16 / 128 * 128 + R.val / 16 % 128) * 16 + R.val % 16, by omega⟩ : Fin 8192) (⟨512 + (C.val / 64 * 64 + e.val), by omega⟩ : Fin 2304)))
    (fun x (e : Fin 64) => X (ix2 (⟨(R.val / 16 / 128 * 128 + x.val - 128) * 16 + R.val % 16, by omega⟩ : Fin 8192) (⟨1280 + (C.val / 64 * 64 + e.val), by omega⟩ : Fin 2304)))

/-- The values those rows hold at lane `C`. -/
def weighted : Fin 256 → EReal := fun x =>
  X (ix2 (⟨(R.val / 16 / 128 * 128 + x.val - 128) * 16 + R.val % 16, by omega⟩ : Fin 8192) (⟨2048 + C.val, by omega⟩ : Fin 2304))

variable (m : (ℓ : Loc nD τ sig) → Buf (Elt Ideal) ℓ) (c : Dev nD) (t : Fin cfg0.N) (r : Fin 2048) (e : Fin 128)
  (hR : R.val = t.val / 2 * 2048 + r.val) (hC : C.val = t.val % 2 * 128 + e.val)

/-- The array at one place written twice. -/
theorem at_eq (R R' : Fin 8192) (C C' : Fin 2304) (hR : R.val = R'.val) (hC : C.val = C'.val) : X (ix2 R C) = X (ix2 R' C') := by
  rw [Fin.ext hR, Fin.ext hC]

/-- A row's place in its tile: which block, of which remainder, and where in it. -/
theorem places (hR : R.val = t.val / 2 * 2048 + r.val) : (blockOf r).val / 16 = r.val / 2048 ∧ base (blockOf r) + 16 * (placeOf r).val = r.val
    ∧ R.val / 16 / 128 = t.val / 2 * 1 + r.val / 2048 ∧ R.val / 16 % 128 = (placeOf r).val ∧ R.val % 16 = r.val % 16
    ∧ base (blockOf r) = r.val / 2048 * 2048 + r.val % 16 := by
  have nt : t.val < 8 := lt_of_lt_of_eq t.isLt N_0
  have b : (blockOf r).val = r.val / 2048 * 16 + r.val % 16 := rfl
  have p : (placeOf r).val = r.val % 2048 / 16 := rfl
  have b1 : (blockOf r).val / 16 = r.val / 2048 := by omega
  have b2 : (blockOf r).val % 16 = r.val % 16 := by omega
  have bb : base (blockOf r) = r.val / 2048 * 2048 + r.val % 16 := by
    unfold base
    rw [b1, b2]
  refine ⟨b1, ?_, ?_, ?_, ?_, bb⟩ <;> omega

/-- The truth word of the row's block. -/
theorem one_iff : one (blockOf r) = 1#1 ↔ r.val / 2048 = 0 := by
  have b : (blockOf r).val = r.val / 2048 * 16 + r.val % 16 := rfl
  have b1 : (blockOf r).val / 16 = r.val / 2048 := by omega
  unfold one
  rw [b1]
  split <;> simp_all

include hR hC in
/-- The block's scores are the row's. -/
theorem tile_scores : sc (t.val / 2 = 0 ∧ one (blockOf r) = 1#1) (blockQ m c t (blockOf r)) (blockK m c t (blockOf r)) (placeOf r) e
    = scores (packed m c) R C := by
  have nt : t.val < 8 := lt_of_lt_of_eq t.isLt N_0
  obtain ⟨p1, p2, p3, p4, p5, p6⟩ := places R t r hR
  unfold sc scores
  simp only [p4]
  refine score_congr ?_ ?_ ?_
  · rw [one_iff, p3]
    omega
  · intro z
    refine (queries m c t _ _).trans (at_eq _ _ _ _ _ ?_ ?_)
    · show t.val / 2 * 2048 + (base (blockOf r) + 16 * (placeOf r).val) = (R.val / 16 / 128 * 128 + (placeOf r).val) * 16 + R.val % 16
      omega
    · show 512 + (t.val % 2 * 128 + (e.val / 64 * 64 + z.val)) = 512 + (C.val / 64 * 64 + z.val)
      omega
  · intro y sy z
    rw [one_iff] at sy
    refine (keys m c t _ _ ?_).trans (at_eq _ _ _ _ _ ?_ ?_)
    · intro g
      show 2048 ≤ base (blockOf r) + 16 * y.val
      omega
    · show t.val / 2 * 2048 + (base (blockOf r) + 16 * y.val) - 2048 = (R.val / 16 / 128 * 128 + y.val - 128) * 16 + R.val % 16
      omega
    · show 1280 + (t.val % 2 * 128 + (e.val / 64 * 64 + z.val)) = 1280 + (C.val / 64 * 64 + z.val)
      omega

include hR hC in
/-- The tile of the first result at a row is the row's attention. -/
theorem tileO_eq : tileO m c t r e = out (scores (packed m c) R C) (weighted (packed m c) R C) := by
  have nt : t.val < 8 := lt_of_lt_of_eq t.isLt N_0
  obtain ⟨p1, p2, p3, p4, p5, p6⟩ := places R t r hR
  unfold tileO
  rw [tile, outs_eq _ (by omega), tile_scores R C m c t r e hR hC]
  unfold scores
  refine out_congr fun y sy => ?_
  have sy' : R.val / 16 / 128 = 0 → 128 ≤ y.val := sy
  refine (values m c t _ _ ?_).trans (at_eq _ _ _ _ _ ?_ ?_)
  · intro g
    show 2048 ≤ base (blockOf r) + 16 * y.val
    omega
  · show t.val / 2 * 2048 + (base (blockOf r) + 16 * y.val) - 2048 = (R.val / 16 / 128 * 128 + y.val - 128) * 16 + R.val % 16
    omega
  · show 2048 + (t.val % 2 * 128 + e.val) = 2048 + C.val
    omega

include hR hC in
/-- The tile of the second result at a row is the logarithm of the row's sum of exponentials. -/
theorem tileL_eq : tileL m c t r e = lse (scores (packed m c) R C) := by
  have nt : t.val < 8 := lt_of_lt_of_eq t.isLt N_0
  unfold tileL
  rw [tile, lses_eq _ (by omega), tile_scores R C m c t r e hR hC]

end Cert.AttnFwd16Ideal.Tile
end
-- ==== Proof.AttnRefRows16.lean ====
module

public import proofs.«01_k».proof.Defs
public import proofs.«01_k».proof.Proof.DilatedRow
public import proofs.«01_k».proof.Proof.Gen.AttnFwd16RefIdeal.Read
public import Idealize.ShloMosaic.Lib.Pipeline.ValueKit
public import Idealize.ShloMosaic.Lib.Pointwise

/-! The reference's windowed attention of dilation 16, row by row. -/

@[expose] public section

set_option maxRecDepth 16384

noncomputable section

open Idealize.ShloMosaic Idealize.ShloMosaic.TcCoe Idealize.SL.Sem

namespace Cert.AttnFwd16RefIdeal.Rows

open Cert.AttnFwd16RefIdeal Cert.AttnFwd16RefIdeal.Gen Cert.AttnFwd16RefIdeal.Read Cert.DilatedRow Cert.Reals

variable (X : FVec Ideal S8192x2304 .f32) (r : Fin 16) (h : Fin 4) (J : Fin 4) (a : Fin 128)

/-- The row of a block's query: query `a` of block `J` among the rows of remainder `r`. -/
def row : Fin 8192 := ⟨(J.val * 128 + a.val) * 16 + r.val, by omega⟩

/-- The row of a block's key, among the rows of remainder `r`: the 128 before the block, then its own. -/
def krow (x : Fin 256) : Fin 8192 := ⟨(J.val * 128 + x.val - 128) * 16 + r.val, by omega⟩

/-- The lane of head `h` at channel `e`, of the queries. -/
def lane (e : Fin 64) : Fin 2304 := ⟨512 + (h.val * 64 + e.val), by omega⟩
/-- The lane of head `h` at channel `e`, of the keys. -/
def klane (e : Fin 64) : Fin 2304 := ⟨1280 + (h.val * 64 + e.val), by omega⟩
/-- The lane of head `h` at channel `e`, of the values. -/
def vlane (e : Fin 64) : Fin 2304 := ⟨2048 + (h.val * 64 + e.val), by omega⟩

/-- A row's scores. -/
def sc : Fin 256 → EReal :=
  score (J.val = 0) a.val (fun e => X (ix2 (row r J a) (lane h e))) (fun x e => X (ix2 (krow r J x) (klane h e)))

/-- The array at one place written twice. -/
theorem at_eq (R R' : Fin 8192) (C C' : Fin 2304) (hR : R.val = R'.val) (hC : C.val = C'.val) : X (ix2 R C) = X (ix2 R' C') := by
  rw [Fin.ext hR, Fin.ext hC]

/-- The reference's blocks of queries are the array's rows. -/
theorem v12_eq (e : Fin 64) : val_main_v12 (F := Ideal) X (ix6 0 r h J a e) = X (ix2 (row r J a) (lane h e)) := by
  unfold row lane
  pointwise [val_main_v12, val_main_v11, val_main_call0_v0, val_main_c, val_main_v10, val_main_v9, val_main_v4, val_main_v3, val_main_v0]
  rw [dif_pos (by omega)]
  exact at_eq X _ _ _ _ rfl (by simp only []; omega)

/-- The reference's joined blocks of keys are the array's rows, wherever there is one. -/
theorem v23_eq (x : Fin 256) (e : Fin 64) (hx : J.val = 0 → 128 ≤ x.val) :
    val_main_v23 (F := Ideal) X (ix6 0 r h J x e) = X (ix2 (krow r J x) (klane h e)) := by
  generalize hR : X _ = R
  pointwise [val_main_v23, val_main_v22, val_main_v21, val_main_v16, val_main_v15, val_main_call1_v0, val_main_c_0, val_main_call3_v0, val_main_c_2, val_main_v14, val_main_v13, val_main_v6, val_main_v5, val_main_v1]
  subst hR
  unfold krow klane
  by_cases h1 : x.val < 128
  · rw [dif_pos h1, dif_pos (by omega), dif_pos (by omega)]
    exact at_eq X _ _ _ _ (show ((J.val - 1) * 128 + x.val) * 16 + r.val = (J.val * 128 + x.val - 128) * 16 + r.val by omega) (by simp only []; omega)
  · rw [dif_neg h1, dif_pos (by omega)]
    exact at_eq X _ _ _ _ (show (J.val * 128 + (x.val - 128)) * 16 + r.val = (J.val * 128 + x.val - 128) * 16 + r.val by omega) (by simp only []; omega)

/-- The reference's joined blocks of values likewise. -/
theorem v26_eq (x : Fin 256) (e : Fin 64) (hx : J.val = 0 → 128 ≤ x.val) :
    val_main_v26 (F := Ideal) X (ix6 0 r h J x e) = X (ix2 (krow r J x) (vlane h e)) := by
  generalize hR : X _ = R
  pointwise [val_main_v26, val_main_v25, val_main_v24, val_main_v20, val_main_v19, val_main_call2_v0, val_main_c_1, val_main_call4_v0, val_main_c_3, val_main_v18, val_main_v17, val_main_v8, val_main_v7, val_main_v2]
  subst hR
  unfold krow vlane
  by_cases h1 : x.val < 128
  · rw [dif_pos h1, dif_pos (by omega), dif_pos (by omega)]
    exact at_eq X _ _ _ _ (show ((J.val - 1) * 128 + x.val) * 16 + r.val = (J.val * 128 + x.val - 128) * 16 + r.val by omega) (by simp only []; omega)
  · rw [dif_neg h1, dif_pos (by omega)]
    exact at_eq X _ _ _ _ (show (J.val * 128 + (x.val - 128)) * 16 + r.val = (J.val * 128 + x.val - 128) * 16 + r.val by omega) (by simp only []; omega)

/-- The reference's mask is set exactly where the query sees the key. -/
theorem v57_eq (x : Fin 256) : val_main_v57 (F := Ideal) (ix3 J a x) = 1#1 ↔ sees (J.val = 0) a.val x.val := by
  have hJ := J.isLt
  have ha := a.isLt
  have hx := x.isLt
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_c_4, val_main_c_5, val_main_c_6, val_main_c_7, val_main_c_8]
  exact window_word J.val a.val x.val (by omega) (by omega) (by omega)

/-- The reference's masked scores. -/
theorem v58_eq (x : Fin 256) : val_main_v58 (F := Ideal) X (ix6 0 r h J a x) = sc X r h J a x := by
  generalize hR : sc X r h J a x = R
  pointwise [val_main_v58, val_main_call5_v2, val_main_call5_v1, val_main_call5_v0, val_main_cst_9, val_main_v29, val_main_v28, val_main_cst, val_main_v27]
  subst hR
  show Scalar.select _ _ (Ideal.ofBits .f32 0xFF800000#32) = _
  rw [sel, ofBits_neg_inf]
  unfold sc score
  by_cases hs : sees (J.val = 0) a.val x.val
  · rw [if_pos hs, if_pos ((v57_eq J a x).mpr hs), Finset.sum_congr rfl fun e _ => congrArg₂ (· * ·) (v12_eq X r h J a e) (v23_eq X r h J x e hs.2.2)]
    rfl
  · rw [if_neg hs, if_neg fun e => hs ((v57_eq J a x).mp e)]

/-- The reference's largest score of a row. -/
theorem v59_eq : val_main_v59 (F := Ideal) X (ix5 0 r h J a) = top (sc X r h J a) := by
  unfold val_main_v59
  have hs : S1x16x4x4x128x256.Reduces [5] S1x16x4x4x128 := by decide
  have e := Host.reduce_eq_fold_single (FloatOps.maximumf (F := Ideal) (φ := .f32)) (val_main_v58 (F := Ideal) X)
    (val_main_cst_10 (F := Ideal)) reducesTo_S1x16x4x4x128x256_S1x16x4x4x128_d5 hs h_S_ (ix5 0 r h J a)
  rw [e]
  refine Finset.fold_congr (op := max) fun x _ => ?_
  exact (congrArg (val_main_v58 (F := Ideal) X) (funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl))).trans (v58_eq X r h J a x)

/-- The reference's exponentials. -/
theorem v63_eq (x : Fin 256) : val_main_v63 (F := Ideal) X (ix6 0 r h J a x) = Ideal.exp (sc X r h J a x - top (sc X r h J a)) := by
  pointwise [val_main_v63, val_main_v62, val_main_v61, val_main_v60]
  rw [v58_eq, v59_eq]

/-- The reference's sum of exponentials of a row. -/
theorem v64_eq : val_main_v64 (F := Ideal) X (ix5 0 r h J a) = den (sc X r h J a) := by
  rw [val_main_v64_apply, val_main_cst_11_apply]
  unfold den
  refine (congrArg₂ (· + ·) (show Ideal.ofBits .f32 0x00000000#32 = (0 : EReal) by simp [Ideal.ofBits, Ideal.ieee]) (Finset.sum_congr rfl fun x _ => ?_)).trans (zero_add _)
  exact (congrArg (val_main_v63 (F := Ideal) X) (funext fun a => Fin.ext (by
    match a with
    | ⟨0, _⟩ => rfl
    | ⟨1, _⟩ => rfl
    | ⟨2, _⟩ => rfl
    | ⟨3, _⟩ => rfl
    | ⟨4, _⟩ => rfl
    | ⟨5, _⟩ => rfl))).trans (v63_eq X r h J a x)

end Cert.AttnFwd16RefIdeal.Rows
end
-- ==== Proof.AttnRefLast16.lean ====
module

public import proofs.«01_k».proof.Defs
public import proofs.«01_k».proof.Proof.AttnRefRows16
public import proofs.«01_k».proof.Proof.Gen.AttnFwd16RefIdeal.Read
public import Idealize.ShloMosaic.Lib.Pipeline.ValueKit
public import Idealize.ShloMosaic.Lib.Pointwise

/-! The reference's windowed attention of dilation 16, row by row. -/

@[expose] public section

set_option maxRecDepth 16384

noncomputable section

open Idealize.ShloMosaic Idealize.ShloMosaic.TcCoe Idealize.SL.Sem

namespace Cert.AttnFwd16RefIdeal.Rows

open Cert.AttnFwd16RefIdeal Cert.AttnFwd16RefIdeal.Gen Cert.AttnFwd16RefIdeal.Read Cert.DilatedRow Cert.Reals

variable (X : FVec Ideal S8192x2304 .f32) (r : Fin 16) (h : Fin 4) (J : Fin 4) (a : Fin 128)

/-- The largest scores without their last axis. -/
theorem v69_eq : val_main_v69 (F := Ideal) X (ix5 0 r h J a) = val_main_v59 (F := Ideal) X (ix5 0 r h J a) := by
  have e : ∀ A : FVec Ideal S1x16x4x4x128x1 .f32, shapeCast S1x16x4x4x128 A shapeCasts_S1x16x4x4x128x1_S1x16x4x4x128 (ix5 0 r h J a) = A (ix6 0 r h J a 0) := fun A => by
    pointwise []
  unfold val_main_v69
  rw [e, val_main_v60_apply]
  generalize val_main_v59 (F := Ideal) X = A
  exact congrArg A (funext fun a => Fin.ext (by
    match a with
    | ⟨0, _⟩ => rfl
    | ⟨1, _⟩ => rfl
    | ⟨2, _⟩ => rfl
    | ⟨3, _⟩ => rfl
    | ⟨4, _⟩ => rfl))

/-- The reference's logarithms of the sums of exponentials. -/
theorem v71_eq : val_main_v71 (F := Ideal) X (ix5 0 r h J a) = lse (sc X r h J a) := by
  unfold lse
  rw [← v64_eq, ← v59_eq, ← v69_eq, val_main_v71_apply]
  unfold val_main_v70
  generalize val_main_v69 (F := Ideal) X = A
  generalize val_main_v64 (F := Ideal) X = B
  rfl

/-- The attention of a block's query at one channel. -/
theorem v68_eq (e : Fin 64) : val_main_v68 (F := Ideal) X (ix6 0 r h J a e) = out (sc X r h J a) (fun x => X (ix2 (krow r J x) (vlane h e))) := by
  generalize hZ : out _ _ = Z
  pointwise [val_main_v68, val_main_v67, val_main_v66, val_main_v65]
  subst hZ
  rw [v64_eq, Finset.sum_congr rfl fun x _ => congrArg (· * _) (v63_eq X r h J a x)]
  refine congrArg (Ideal.div · _) (Finset.sum_congr rfl fun x _ => ?_)
  by_cases hs : sees (J.val = 0) a.val x.val
  · rw [v26_eq X r h J x e hs.2.2]
  · have e : sc X r h J a x = ⊥ := if_neg hs
    rw [e, exp_bot_sub, zero_mul, zero_mul]

/-- The attention at row `R` and lane `C`. -/
theorem v78_eq (R : Fin 8192) (C : Fin 256) : val_main_v78 (F := Ideal) X (ix2 R C)
    = out (sc X ⟨R.val % 16, by omega⟩ ⟨C.val / 64, by omega⟩ ⟨R.val / 16 / 128, by omega⟩ ⟨R.val / 16 % 128, by omega⟩)
      (fun x => X (ix2 (krow ⟨R.val % 16, by omega⟩ ⟨R.val / 16 / 128, by omega⟩ x) ⟨2048 + C.val, by omega⟩)) := by
  have e : ∀ k : Fin 8192, X (ix2 k (vlane ⟨C.val / 64, by omega⟩ ⟨C.val % 64, by omega⟩)) = X (ix2 k (⟨2048 + C.val, by omega⟩ : Fin 2304)) := fun k =>
    at_eq X _ _ _ _ rfl (show 2048 + (C.val / 64 * 64 + C.val % 64) = 2048 + C.val by omega)
  simp only [← e]
  rw [← v68_eq]
  pointwise [val_main_v78, val_main_v74, val_main_v73, val_main_v72]

/-- The logarithm of the sum of exponentials at row `R` and lane `C`. -/
theorem v81_eq (R : Fin 8192) (C : Fin 256) : val_main_v81 (F := Ideal) X (ix2 R C)
    = lse (sc X ⟨R.val % 16, by omega⟩ ⟨C.val / 64, by omega⟩ ⟨R.val / 16 / 128, by omega⟩ ⟨R.val / 16 % 128, by omega⟩) := by
  rw [← v71_eq]
  pointwise [val_main_v81, val_main_v80, val_main_v79, val_main_v77, val_main_v76, val_main_v75]

/-- The reference leaves its two results and its argument as it was. -/
theorem reference_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = Cert.AttnFwd16RefIdeal.Read.val_main_v78 (F := Ideal) (m ((c.tc : Thread nD τ).loc main_arg0))
      ∧ r.2.mem ((c.tc : Thread nD τ).loc main_v81) = Cert.AttnFwd16RefIdeal.Read.val_main_v81 (F := Ideal) (m ((c.tc : Thread nD τ).loc main_arg0))
      ∧ r.2.mem ((c.tc : Thread nD τ).loc main_arg0) = m ((c.tc : Thread nD τ).loc main_arg0) :=
  (θ_run _ _ _).mono (fun r h c => ⟨(h c).1.trans (Cert.AttnFwd16RefIdeal.Read.val_main_v78_eq m c),
    (h c).2.1.trans (Cert.AttnFwd16RefIdeal.Read.val_main_v81_eq m c), (h c).2.2⟩) (Cert.AttnFwd16RefIdeal.Value.run m ρ)

end Cert.AttnFwd16RefIdeal.Rows
end
-- ==== Proof.AttnFwd16.lean ====
module

public import proofs.«01_k».proof.Defs
public import proofs.«01_k».proof.Proof.AttnTileRows16
public import proofs.«01_k».proof.Proof.AttnRefLast16
public import Idealize.ShloMosaic.Lib.Pipeline.ValueKit
public import Idealize.ShloMosaic.Lib.Pointwise

/-! The windowed attention of dilation 16, for all extended reals: the kernel's results are the reference's. -/

@[expose] public section

set_option maxRecDepth 16384

noncomputable section

open Idealize.ShloMosaic Idealize.ShloMosaic.TcCoe Idealize.SL.Sem
open Idealize.ShloMosaic.Pipeline (Dat)

namespace Cert.AttnFwd16Ideal.Equation

open Cert.AttnFwd16Ideal Cert.AttnFwd16Ideal.Gen Cert.AttnFwd16Ideal.Strided Cert.AttnFwd16Ideal.Tile
open Cert.AttnFwd16RefIdeal.Rows (row krow lane klane vlane v78_eq v81_eq)

variable (m : (ℓ : Loc nD τ sig) → Buf (Elt Ideal) ℓ) (c : Dev nD)

/-- The reference's scores are the kernel's. -/
theorem scores_eq (X : FVec Ideal S8192x2304 .f32) (R : Fin 8192) (C : Fin 256) :
    Cert.AttnFwd16RefIdeal.Rows.sc X ⟨R.val % 16, by omega⟩ ⟨C.val / 64, by omega⟩ ⟨R.val / 16 / 128, by omega⟩ ⟨R.val / 16 % 128, by omega⟩ = scores X R C := rfl

/-- Result 0 of the call is the reference's. -/
theorem final5 : (dats m 0 c).arrAt 5 cfg0.N = Cert.AttnFwd16RefIdeal.Read.val_main_v78 (F := Ideal) (packed m c) := by
  refine (dats m 0 c).arrAt_eq_of_covers 5 _ (by decide +kernel) fun t _ y => ?_
  have nt : t.val < 8 := lt_of_lt_of_eq t.isLt N_0
  blk_simp
  rw [(after m c t).2.2.2.2.2.1]
  have l0 : (y 0).val < 2048 := (y 0).isLt
  have l1 : (y 1).val < 128 := (y 1).isLt
  have e : ((View.whole main_v0_0).slice (win0_5.rect t)).emb y
      = ix2 (⟨t.val / 2 * 2048 + (y 0).val, by omega⟩ : Fin 8192) (⟨t.val % 2 * 128 + (y 1).val, by omega⟩ : Fin 256) := by
    blk_ext [idx t]
  rw [e]
  refine (canonO m c t y).trans ((tileO_eq ⟨t.val / 2 * 2048 + (y 0).val, by omega⟩ ⟨t.val % 2 * 128 + (y 1).val, by omega⟩ m c t ⟨_, l0⟩ ⟨_, l1⟩ rfl rfl).trans ?_)
  rw [v78_eq, scores_eq]
  rfl

/-- Result 1 of the call is the reference's. -/
theorem final6 : (dats m 0 c).arrAt 6 cfg0.N = Cert.AttnFwd16RefIdeal.Read.val_main_v81 (F := Ideal) (packed m c) := by
  refine (dats m 0 c).arrAt_eq_of_covers 6 _ (by decide +kernel) fun t _ y => ?_
  have nt : t.val < 8 := lt_of_lt_of_eq t.isLt N_0
  blk_simp
  rw [(after m c t).2.2.2.2.2.2]
  have l0 : (y 0).val < 2048 := (y 0).isLt
  have l1 : (y 1).val < 128 := (y 1).isLt
  have e : ((View.whole main_v0_1).slice (win0_6.rect t)).emb y
      = ix2 (⟨t.val / 2 * 2048 + (y 0).val, by omega⟩ : Fin 8192) (⟨t.val % 2 * 128 + (y 1).val, by omega⟩ : Fin 256) := by
    blk_ext [idx t]
  rw [e]
  refine (canonL m c t y).trans ((tileL_eq ⟨t.val / 2 * 2048 + (y 0).val, by omega⟩ ⟨t.val % 2 * 128 + (y 1).val, by omega⟩ m c t ⟨_, l0⟩ ⟨_, l1⟩ rfl rfl).trans ?_)
  rw [v81_eq, scores_eq]

set_option maxRecDepth 100000 in
set_option maxHeartbeats 1600000 in
/-- The kernel's results are the reference's attention and logarithms. -/
theorem algebraic : Cert.algebraic_AttnFwd16Ideal_AttnFwd16RefIdeal := by
  pair_intro
  · run_from Cert.AttnFwd16Ideal.Strided.run_main m g
  · exact (θ_run _ _ _).mono (fun r h c => ⟨(h c).1.trans ((congrArg _ (hagree c)).trans (final5 m c).symm),
      (h c).2.1.trans ((congrArg _ (hagree c)).trans (final6 m c).symm), (h c).2.2⟩) (Cert.AttnFwd16RefIdeal.Rows.reference_run m' g')

end Cert.AttnFwd16Ideal.Equation
end
-- ==== Proof.lean ====
/- Assembles the certificate's claims: each call's frames, that idealizing rewrote nothing, and each backward call's
results against the vector-Jacobian product of the layer's forward lines and each forward call's against those lines. -/
module

public import proofs.«01_k».proof.Defs
public import proofs.«01_k».proof.Proof.Gen.MemNormBwd
public import proofs.«01_k».proof.Proof.Gen.MemNormBwd.Frame
public import proofs.«01_k».proof.Proof.Gen.MemNormBwdIdeal
public import proofs.«01_k».proof.Proof.Gen.MemNormBwdIdeal.Frame
public import proofs.«01_k».proof.Proof.Gen.MemNormBwdRefIdeal
public import proofs.«01_k».proof.Proof.Gen.MemNormBwdRefIdeal.Run
public import proofs.«01_k».proof.Proof.Gen.MemNormBwdRefIdeal.Read
public import proofs.«01_k».proof.Proof.Gen.MemNormFwd
public import proofs.«01_k».proof.Proof.Gen.MemNormFwd.Frame
public import proofs.«01_k».proof.Proof.Gen.MemNormFwdIdeal
public import proofs.«01_k».proof.Proof.Gen.MemNormFwdIdeal.Frame
public import proofs.«01_k».proof.Proof.Gen.MemNormFwdRefIdeal
public import proofs.«01_k».proof.Proof.Gen.MemNormFwdRefIdeal.Run
public import proofs.«01_k».proof.Proof.Gen.MemNormFwdRefIdeal.Read
public import proofs.«01_k».proof.Proof.Gen.MemAttnBwd
public import proofs.«01_k».proof.Proof.Gen.MemAttnBwd.Frame
public import proofs.«01_k».proof.Proof.Gen.MemAttnBwdIdeal
public import proofs.«01_k».proof.Proof.Gen.MemAttnBwdIdeal.Frame
public import proofs.«01_k».proof.Proof.Gen.MemAttnBwdRefIdeal
public import proofs.«01_k».proof.Proof.Gen.MemAttnBwdRefIdeal.Run
public import proofs.«01_k».proof.Proof.Gen.MemAttnBwdRefIdeal.Read
public import proofs.«01_k».proof.Proof.Gen.MemAttnFwd
public import proofs.«01_k».proof.Proof.Gen.MemAttnFwd.Frame
public import proofs.«01_k».proof.Proof.Gen.MemAttnFwdIdeal
public import proofs.«01_k».proof.Proof.Gen.MemAttnFwdIdeal.Frame
public import proofs.«01_k».proof.Proof.Gen.MemAttnFwdRefIdeal
public import proofs.«01_k».proof.Proof.Gen.MemAttnFwdRefIdeal.Run
public import proofs.«01_k».proof.Proof.Gen.MemAttnFwdRefIdeal.Read
public import proofs.«01_k».proof.Proof.Gen.GluBwd
public import proofs.«01_k».proof.Proof.Gen.GluBwd.Frame
public import proofs.«01_k».proof.Proof.Gen.GluBwdIdeal
public import proofs.«01_k».proof.Proof.Gen.GluBwdIdeal.Frame
public import proofs.«01_k».proof.Proof.Gen.GluBwdRefIdeal
public import proofs.«01_k».proof.Proof.Gen.GluBwdRefIdeal.Run
public import proofs.«01_k».proof.Proof.Gen.GluBwdRefIdeal.Read
public import proofs.«01_k».proof.Proof.Gen.GluFwd
public import proofs.«01_k».proof.Proof.Gen.GluFwd.Frame
public import proofs.«01_k».proof.Proof.Gen.GluFwdIdeal
public import proofs.«01_k».proof.Proof.Gen.GluFwdIdeal.Frame
public import proofs.«01_k».proof.Proof.Gen.GluFwdRefIdeal
public import proofs.«01_k».proof.Proof.Gen.GluFwdRefIdeal.Run
public import proofs.«01_k».proof.Proof.Gen.GluFwdRefIdeal.Read
public import proofs.«01_k».proof.Proof.Gen.BranchMergeBwd
public import proofs.«01_k».proof.Proof.Gen.BranchMergeBwd.Frame
public import proofs.«01_k».proof.Proof.Gen.BranchMergeBwdIdeal
public import proofs.«01_k».proof.Proof.Gen.BranchMergeBwdIdeal.Frame
public import proofs.«01_k».proof.Proof.Gen.BranchMergeBwdRefIdeal
public import proofs.«01_k».proof.Proof.Gen.BranchMergeBwdRefIdeal.Run
public import proofs.«01_k».proof.Proof.Gen.BranchMergeBwdRefIdeal.Read
public import proofs.«01_k».proof.Proof.Gen.BranchMergeFwd
public import proofs.«01_k».proof.Proof.Gen.BranchMergeFwd.Frame
public import proofs.«01_k».proof.Proof.Gen.BranchMergeFwdIdeal
public import proofs.«01_k».proof.Proof.Gen.BranchMergeFwdIdeal.Frame
public import proofs.«01_k».proof.Proof.Gen.BranchMergeFwdRefIdeal
public import proofs.«01_k».proof.Proof.Gen.BranchMergeFwdRefIdeal.Run
public import proofs.«01_k».proof.Proof.Gen.BranchMergeFwdRefIdeal.Read
public import proofs.«01_k».proof.Proof.Gen.Norm2Bwd
public import proofs.«01_k».proof.Proof.Gen.Norm2Bwd.Frame
public import proofs.«01_k».proof.Proof.Gen.Norm2BwdIdeal
public import proofs.«01_k».proof.Proof.Gen.Norm2BwdIdeal.Frame
public import proofs.«01_k».proof.Proof.Gen.Norm2BwdRefIdeal
public import proofs.«01_k».proof.Proof.Gen.Norm2BwdRefIdeal.Run
public import proofs.«01_k».proof.Proof.Gen.Norm2BwdRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Norm1Bwd
public import proofs.«01_k».proof.Proof.Gen.Norm1Bwd.Frame
public import proofs.«01_k».proof.Proof.Gen.Norm1BwdIdeal
public import proofs.«01_k».proof.Proof.Gen.Norm1BwdIdeal.Frame
public import proofs.«01_k».proof.Proof.Gen.Norm1BwdRefIdeal
public import proofs.«01_k».proof.Proof.Gen.Norm1BwdRefIdeal.Run
public import proofs.«01_k».proof.Proof.Gen.Norm1BwdRefIdeal.Read
public import proofs.«01_k».proof.Proof.Gen.Norm1Fwd
public import proofs.«01_k».proof.Proof.Gen.Norm1Fwd.Frame
public import proofs.«01_k».proof.Proof.Gen.Norm1FwdIdeal
public import proofs.«01_k».proof.Proof.Gen.Norm1FwdIdeal.Frame
public import proofs.«01_k».proof.Proof.Gen.Norm1FwdRefIdeal
public import proofs.«01_k».proof.Proof.Gen.Norm1FwdRefIdeal.Run
public import proofs.«01_k».proof.Proof.Gen.Norm1FwdRefIdeal.Read
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.Relu2Bwd
public import proofs.«01_k».proof.Proof.Gen.Relu2Bwd.Frame
public import proofs.«01_k».proof.Proof.Gen.Relu2BwdIdeal
public import proofs.«01_k».proof.Proof.Gen.Relu2BwdIdeal.Frame
public import proofs.«01_k».proof.Proof.Gen.Relu2BwdRefIdeal
public import proofs.«01_k».proof.Proof.Gen.Relu2BwdRefIdeal.Run
public import proofs.«01_k».proof.Proof.Gen.Relu2BwdRefIdeal.Read
public import proofs.«01_k».proof.Proof.Gen.MlpUp
public import proofs.«01_k».proof.Proof.Gen.MlpUp.Frame
public import proofs.«01_k».proof.Proof.Gen.MlpUpIdeal
public import proofs.«01_k».proof.Proof.Gen.MlpUpIdeal.Frame
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.Gen.AttnMerge
public import proofs.«01_k».proof.Proof.Gen.AttnMerge.Frame
public import proofs.«01_k».proof.Proof.Gen.AttnMergeIdeal
public import proofs.«01_k».proof.Proof.Gen.AttnMergeIdeal.Frame
public import proofs.«01_k».proof.Proof.Gen.AttnMergeRefIdeal
public import proofs.«01_k».proof.Proof.Gen.AttnMergeRefIdeal.Run
public import proofs.«01_k».proof.Proof.Gen.AttnMergeRefIdeal.Read
public import proofs.«01_k».proof.Proof.Gen.AttnFwd1
public import proofs.«01_k».proof.Proof.Gen.AttnFwd1.Frame
public import proofs.«01_k».proof.Proof.Gen.AttnFwd1Ideal
public import proofs.«01_k».proof.Proof.Gen.AttnFwd1Ideal.Frame
public import proofs.«01_k».proof.Proof.Gen.AttnFwd1RefIdeal
public import proofs.«01_k».proof.Proof.Gen.AttnFwd1RefIdeal.Run
public import proofs.«01_k».proof.Proof.Gen.AttnFwd1RefIdeal.Read
public import proofs.«01_k».proof.Proof.Gen.AttnFwd4
public import proofs.«01_k».proof.Proof.Gen.AttnFwd4Ideal
public import proofs.«01_k».proof.Proof.Gen.AttnFwd4RefIdeal
public import proofs.«01_k».proof.Proof.Gen.AttnFwd4RefIdeal.Run
public import proofs.«01_k».proof.Proof.Gen.AttnFwd4RefIdeal.Read
public import proofs.«01_k».proof.Proof.Gen.AttnFwd16
public import proofs.«01_k».proof.Proof.Gen.AttnFwd16Ideal
public import proofs.«01_k».proof.Proof.Gen.AttnFwd16RefIdeal
public import proofs.«01_k».proof.Proof.Gen.AttnFwd16RefIdeal.Run
public import proofs.«01_k».proof.Proof.Gen.AttnFwd16RefIdeal.Read
public import proofs.«01_k».proof.Proof.Gen.SsmBwdEnds
public import proofs.«01_k».proof.Proof.Gen.SsmBwdEnds.Frame
public import proofs.«01_k».proof.Proof.Gen.SsmBwdEndsIdeal
public import proofs.«01_k».proof.Proof.Gen.SsmBwdEndsIdeal.Frame
public import proofs.«01_k».proof.Proof.Gen.Pre_mem_norm_finite
public import proofs.«01_k».proof.Proof.Gen.Pre_mem_attn_finite
public import proofs.«01_k».proof.Proof.Gen.Pre_glu_finite
public import proofs.«01_k».proof.Proof.FiniteFacts
public import proofs.«01_k».proof.Proof.AttnPrinted
public import proofs.«01_k».proof.Proof.MemNorm
public import proofs.«01_k».proof.Proof.NormFwd
public import proofs.«01_k».proof.Proof.MemAttn
public import proofs.«01_k».proof.Proof.MemAttnFwd
public import proofs.«01_k».proof.Proof.Glu
public import proofs.«01_k».proof.Proof.GluFwd
public import proofs.«01_k».proof.Proof.BranchMerge
public import proofs.«01_k».proof.Proof.BranchMergeFwd
public import proofs.«01_k».proof.Proof.Norm2
public import proofs.«01_k».proof.Proof.OutProj
public import proofs.«01_k».proof.Proof.Norm1
public import proofs.«01_k».proof.Proof.Loss
public import proofs.«01_k».proof.Proof.Relu2
public import proofs.«01_k».proof.Proof.MlpUp
public import proofs.«01_k».proof.Proof.AttnMerge
public import proofs.«01_k».proof.Proof.AttnFwd
public import proofs.«01_k».proof.Proof.AttnFwd4
public import proofs.«01_k».proof.Proof.AttnFwd16
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The memory norm's reference changes no argument; it declares no semaphore. -/
theorem frame_MemNormBwd_ref : Cert.quiescent_MemNormBwdRefIdeal := fun m ρ _ =>
  (θ_run Cert.MemNormBwdRefIdeal.defs _ _).mono (fun r h => ⟨fun c => (h c).2.2, sem_eq_zero_of_no_sems (by decide) r.2⟩)
    (Cert.MemNormBwdRefIdeal.Value.run (F := Ideal) m ρ)

/-- The memory norm's forward reference changes no argument; it declares no semaphore. -/
theorem frame_MemNormFwd_ref : Cert.quiescent_MemNormFwdRefIdeal := fun m ρ _ =>
  (θ_run Cert.MemNormFwdRefIdeal.defs _ _).mono (fun r h => ⟨fun c => (h c).2, sem_eq_zero_of_no_sems (by decide) r.2⟩)
    (Cert.MemNormFwdRefIdeal.Value.run (F := Ideal) m ρ)

/-- The memory cross-attention's reference changes no argument; it declares no semaphore. -/
theorem frame_MemAttnBwd_ref : Cert.quiescent_MemAttnBwdRefIdeal := fun m ρ _ =>
  (θ_run Cert.MemAttnBwdRefIdeal.defs _ _).mono (fun r h => ⟨fun c => (h c).2.2.2, sem_eq_zero_of_no_sems (by decide) r.2⟩)
    (Cert.MemAttnBwdRefIdeal.Value.run (F := Ideal) m ρ)

/-- The memory cross-attention's forward reference changes no argument; it declares no semaphore. -/
theorem frame_MemAttnFwd_ref : Cert.quiescent_MemAttnFwdRefIdeal := fun m ρ _ =>
  (θ_run Cert.MemAttnFwdRefIdeal.defs _ _).mono (fun r h => ⟨fun c => (h c).2, sem_eq_zero_of_no_sems (by decide) r.2⟩)
    (Cert.MemAttnFwdRefIdeal.Value.run (F := Ideal) m ρ)

/-- The gated unit's reference changes no argument; it declares no semaphore. -/
theorem frame_GluBwd_ref : Cert.quiescent_GluBwdRefIdeal := fun m ρ _ =>
  (θ_run Cert.GluBwdRefIdeal.defs _ _).mono (fun r h => ⟨fun c => (h c).2.2.2.2.2, sem_eq_zero_of_no_sems (by decide) r.2⟩)
    (Cert.GluBwdRefIdeal.Value.run (F := Ideal) m ρ)

/-- The gated unit's forward reference changes no argument; it declares no semaphore. -/
theorem frame_GluFwd_ref : Cert.quiescent_GluFwdRefIdeal := fun m ρ _ =>
  (θ_run Cert.GluFwdRefIdeal.defs _ _).mono (fun r h => ⟨fun c => (h c).2, sem_eq_zero_of_no_sems (by decide) r.2⟩)
    (Cert.GluFwdRefIdeal.Value.run (F := Ideal) m ρ)

/-- The gated merge's reference changes no argument; it declares no semaphore. -/
theorem frame_BranchMergeBwd_ref : Cert.quiescent_BranchMergeBwdRefIdeal := fun m ρ _ =>
  (θ_run Cert.BranchMergeBwdRefIdeal.defs _ _).mono (fun r h => ⟨fun c => (h c).2.2.2.2.2.2.2.2, sem_eq_zero_of_no_sems (by decide) r.2⟩)
    (Cert.BranchMergeBwdRefIdeal.Value.run (F := Ideal) m ρ)

/-- The gated merge's forward reference changes no argument; it declares no semaphore. -/
theorem frame_BranchMergeFwd_ref : Cert.quiescent_BranchMergeFwdRefIdeal := fun m ρ _ =>
  (θ_run Cert.BranchMergeFwdRefIdeal.defs _ _).mono (fun r h => ⟨fun c => (h c).2, sem_eq_zero_of_no_sems (by decide) r.2⟩)
    (Cert.BranchMergeFwdRefIdeal.Value.run (F := Ideal) m ρ)

/-- The second norm's reference changes no argument; it declares no semaphore. -/
theorem frame_Norm2Bwd_ref : Cert.quiescent_Norm2BwdRefIdeal := fun m ρ _ =>
  (θ_run Cert.Norm2BwdRefIdeal.defs _ _).mono (fun r h => ⟨fun c => (h c).2.2, sem_eq_zero_of_no_sems (by decide) r.2⟩)
    (Cert.Norm2BwdRefIdeal.Value.run (F := Ideal) m ρ)

/-- The output projection's reference changes no argument; it declares no semaphore. -/
theorem frame_OutProj_ref : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

/-- The first norm's reference changes no argument; it declares no semaphore. -/
theorem frame_Norm1Bwd_ref : Cert.quiescent_Norm1BwdRefIdeal := fun m ρ _ =>
  (θ_run Cert.Norm1BwdRefIdeal.defs _ _).mono (fun r h => ⟨fun c => (h c).2.2, sem_eq_zero_of_no_sems (by decide) r.2⟩)
    (Cert.Norm1BwdRefIdeal.Value.run (F := Ideal) m ρ)

/-- The first norm's forward reference changes no argument; it declares no semaphore. -/
theorem frame_Norm1Fwd_ref : Cert.quiescent_Norm1FwdRefIdeal := fun m ρ _ =>
  (θ_run Cert.Norm1FwdRefIdeal.defs _ _).mono (fun r h => ⟨fun c => (h c).2, sem_eq_zero_of_no_sems (by decide) r.2⟩)
    (Cert.Norm1FwdRefIdeal.Value.run (F := Ideal) m ρ)

/-- The loss head's reference changes no argument; it declares no semaphore. -/
theorem frame_LossHead_ref : Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

/-- The squared unit's reference changes no argument; it declares no semaphore. -/
theorem frame_Relu2Bwd_ref : Cert.quiescent_Relu2BwdRefIdeal := fun m ρ _ =>
  (θ_run Cert.Relu2BwdRefIdeal.defs _ _).mono (fun r h => ⟨fun c => (h c).2, sem_eq_zero_of_no_sems (by decide) r.2⟩)
    (Cert.Relu2BwdRefIdeal.Value.run (F := Ideal) m ρ)

/-- The squared rectifier's forward reference changes no argument; it declares no semaphore. -/
theorem frame_MlpUp_ref : Cert.quiescent_MlpUpRefIdeal := fun m ρ _ =>
  (θ_run Cert.MlpUpRefIdeal.defs _ _).mono (fun r h => ⟨fun c => (h c).2, sem_eq_zero_of_no_sems (by decide) r.2⟩)
    (Cert.MlpUpRefIdeal.Value.run (F := Ideal) m ρ)

/-- The attention merge's reference changes no argument; it declares no semaphore. -/
theorem frame_AttnMerge_ref : Cert.quiescent_AttnMergeRefIdeal := fun m ρ _ =>
  (θ_run Cert.AttnMergeRefIdeal.defs _ _).mono (fun r h => ⟨fun c => (h c).2.2, sem_eq_zero_of_no_sems (by decide) r.2⟩)
    (Cert.AttnMergeRefIdeal.Value.run (F := Ideal) m ρ)

/-- The undilated window attention's forward reference changes no argument; it declares no semaphore. -/
theorem frame_AttnFwd1_ref : Cert.quiescent_AttnFwd1RefIdeal := fun m ρ _ =>
  (θ_run Cert.AttnFwd1RefIdeal.defs _ _).mono (fun r h => ⟨fun c => (h c).2.2, sem_eq_zero_of_no_sems (by decide) r.2⟩)
    (Cert.AttnFwd1RefIdeal.Value.run (F := Ideal) m ρ)

/-- The dilation 4 window attention's forward reference changes no argument; it declares no semaphore. -/
theorem frame_AttnFwd4_ref : Cert.quiescent_AttnFwd4RefIdeal := fun m ρ _ =>
  (θ_run Cert.AttnFwd4RefIdeal.defs _ _).mono (fun r h => ⟨fun c => (h c).2.2, sem_eq_zero_of_no_sems (by decide) r.2⟩)
    (Cert.AttnFwd4RefIdeal.Value.run (F := Ideal) m ρ)

/-- The dilation 16 window attention's forward reference changes no argument; it declares no semaphore. -/
theorem frame_AttnFwd16_ref : Cert.quiescent_AttnFwd16RefIdeal := fun m ρ _ =>
  (θ_run Cert.AttnFwd16RefIdeal.defs _ _).mono (fun r h => ⟨fun c => (h c).2.2, sem_eq_zero_of_no_sems (by decide) r.2⟩)
    (Cert.AttnFwd16RefIdeal.Value.run (F := Ideal) m ρ)

/-- All the claims. -/
theorem claim : Cert.Claim := ⟨
  Cert.MemNormBwd.Gen.facts,
  Cert.MemNormBwdIdeal.Gen.facts,
  Cert.MemNormBwdRefIdeal.Gen.facts,
  Cert.MemNormFwd.Gen.facts,
  Cert.MemNormFwdIdeal.Gen.facts,
  Cert.MemNormFwdRefIdeal.Gen.facts,
  Cert.MemAttnBwd.Gen.facts,
  Cert.MemAttnBwdIdeal.Gen.facts,
  Cert.MemAttnBwdRefIdeal.Gen.facts,
  Cert.MemAttnFwd.Gen.facts,
  Cert.MemAttnFwdIdeal.Gen.facts,
  Cert.MemAttnFwdRefIdeal.Gen.facts,
  Cert.GluBwd.Gen.facts,
  Cert.GluBwdIdeal.Gen.facts,
  Cert.GluBwdRefIdeal.Gen.facts,
  Cert.GluFwd.Gen.facts,
  Cert.GluFwdIdeal.Gen.facts,
  Cert.GluFwdRefIdeal.Gen.facts,
  Cert.BranchMergeBwd.Gen.facts,
  Cert.BranchMergeBwdIdeal.Gen.facts,
  Cert.BranchMergeBwdRefIdeal.Gen.facts,
  Cert.BranchMergeFwd.Gen.facts,
  Cert.BranchMergeFwdIdeal.Gen.facts,
  Cert.BranchMergeFwdRefIdeal.Gen.facts,
  Cert.Norm2Bwd.Gen.facts,
  Cert.Norm2BwdIdeal.Gen.facts,
  Cert.Norm2BwdRefIdeal.Gen.facts,
  Cert.OutProj.Gen.facts,
  Cert.OutProjIdeal.Gen.facts,
  Cert.OutProjRefIdeal.Gen.facts,
  Cert.Norm1Bwd.Gen.facts,
  Cert.Norm1BwdIdeal.Gen.facts,
  Cert.Norm1BwdRefIdeal.Gen.facts,
  Cert.Norm1Fwd.Gen.facts,
  Cert.Norm1FwdIdeal.Gen.facts,
  Cert.Norm1FwdRefIdeal.Gen.facts,
  Cert.LossHead.Gen.facts,
  Cert.LossHeadIdeal.Gen.facts,
  Cert.LossHeadRefIdeal.Gen.facts,
  Cert.Relu2Bwd.Gen.facts,
  Cert.Relu2BwdIdeal.Gen.facts,
  Cert.Relu2BwdRefIdeal.Gen.facts,
  Cert.MlpUp.Gen.facts,
  Cert.MlpUpIdeal.Gen.facts,
  Cert.MlpUpRefIdeal.Gen.facts,
  Cert.AttnMerge.Gen.facts,
  Cert.AttnMergeIdeal.Gen.facts,
  Cert.AttnMergeRefIdeal.Gen.facts,
  Cert.AttnFwd1.Gen.facts,
  Cert.AttnFwd1Ideal.Gen.facts,
  Cert.AttnFwd1RefIdeal.Gen.facts,
  Cert.AttnFwd4.Gen.facts,
  Cert.AttnFwd4Ideal.Gen.facts,
  Cert.AttnFwd4RefIdeal.Gen.facts,
  Cert.AttnFwd16.Gen.facts,
  Cert.AttnFwd16Ideal.Gen.facts,
  Cert.AttnFwd16RefIdeal.Gen.facts,
  Cert.SsmBwdEnds.Gen.facts,
  Cert.SsmBwdEndsIdeal.Gen.facts,
  Cert.Pre_mem_norm_finite.Gen.facts,
  Cert.Pre_mem_attn_finite.Gen.facts,
  Cert.Pre_glu_finite.Gen.facts,
  Cert.Pre_norm2_finite.Gen.facts,
  Cert.Pre_norm1_finite.Gen.facts,
  Cert.Pre_loss_head_finite.Gen.facts,
  fun m ρ _ => Cert.MemNormBwd.Gen.frame m ρ,
  fun m ρ _ => Cert.MemNormBwdIdeal.Gen.frame m ρ,
  fun m ρ _ => Cert.MemNormBwdIdeal.Gen.frame m ρ,
  fun m ρ _ => frame_MemNormBwd_ref m ρ trivial,
  fun m ρ _ => frame_MemNormBwd_ref m ρ trivial,
  fun m ρ _ => Cert.MemNormFwd.Gen.frame m ρ,
  fun m ρ _ => Cert.MemNormFwdIdeal.Gen.frame m ρ,
  fun m ρ _ => frame_MemNormFwd_ref m ρ trivial,
  fun m ρ _ => Cert.MemAttnBwd.Gen.frame m ρ,
  fun m ρ _ => Cert.MemAttnBwdIdeal.Gen.frame m ρ,
  fun m ρ _ => Cert.MemAttnBwdIdeal.Gen.frame m ρ,
  fun m ρ _ => frame_MemAttnBwd_ref m ρ trivial,
  fun m ρ _ => frame_MemAttnBwd_ref m ρ trivial,
  fun m ρ _ => Cert.MemAttnFwd.Gen.frame m ρ,
  fun m ρ _ => Cert.MemAttnFwdIdeal.Gen.frame m ρ,
  fun m ρ _ => frame_MemAttnFwd_ref m ρ trivial,
  fun m ρ _ => Cert.GluBwd.Gen.frame m ρ,
  fun m ρ _ => Cert.GluBwdIdeal.Gen.frame m ρ,
  fun m ρ _ => Cert.GluBwdIdeal.Gen.frame m ρ,
  fun m ρ _ => frame_GluBwd_ref m ρ trivial,
  fun m ρ _ => frame_GluBwd_ref m ρ trivial,
  fun m ρ _ => Cert.GluFwd.Gen.frame m ρ,
  fun m ρ _ => Cert.GluFwdIdeal.Gen.frame m ρ,
  fun m ρ _ => frame_GluFwd_ref m ρ trivial,
  fun m ρ _ => Cert.BranchMergeBwd.Gen.frame m ρ,
  fun m ρ _ => Cert.BranchMergeBwdIdeal.Gen.frame m ρ,
  fun m ρ _ => frame_BranchMergeBwd_ref m ρ trivial,
  fun m ρ _ => Cert.BranchMergeFwd.Gen.frame m ρ,
  fun m ρ _ => Cert.BranchMergeFwdIdeal.Gen.frame m ρ,
  fun m ρ _ => frame_BranchMergeFwd_ref m ρ trivial,
  fun m ρ _ => Cert.Norm2Bwd.Gen.frame m ρ,
  fun m ρ _ => Cert.Norm2BwdIdeal.Gen.frame m ρ,
  fun m ρ _ => Cert.Norm2BwdIdeal.Gen.frame m ρ,
  fun m ρ _ => frame_Norm2Bwd_ref m ρ trivial,
  fun m ρ _ => frame_Norm2Bwd_ref m ρ trivial,
  fun m ρ _ => Cert.OutProj.Gen.frame m ρ,
  fun m ρ _ => Cert.OutProjIdeal.Gen.frame m ρ,
  fun m ρ _ => frame_OutProj_ref m ρ trivial,
  fun m ρ _ => Cert.Norm1Bwd.Gen.frame m ρ,
  fun m ρ _ => Cert.Norm1BwdIdeal.Gen.frame m ρ,
  fun m ρ _ => Cert.Norm1BwdIdeal.Gen.frame m ρ,
  fun m ρ _ => frame_Norm1Bwd_ref m ρ trivial,
  fun m ρ _ => frame_Norm1Bwd_ref m ρ trivial,
  fun m ρ _ => Cert.Norm1Fwd.Gen.frame m ρ,
  fun m ρ _ => Cert.Norm1FwdIdeal.Gen.frame m ρ,
  fun m ρ _ => frame_Norm1Fwd_ref m ρ trivial,
  fun m ρ _ => Cert.LossHead.Gen.frame m ρ,
  fun m ρ _ => Cert.LossHeadIdeal.Gen.frame m ρ,
  fun m ρ _ => Cert.LossHeadIdeal.Gen.frame m ρ,
  fun m ρ _ => frame_LossHead_ref m ρ trivial,
  fun m ρ _ => frame_LossHead_ref m ρ trivial,
  fun m ρ _ => Cert.Relu2Bwd.Gen.frame m ρ,
  fun m ρ _ => Cert.Relu2BwdIdeal.Gen.frame m ρ,
  fun m ρ _ => frame_Relu2Bwd_ref m ρ trivial,
  fun m ρ _ => Cert.MlpUp.Gen.frame m ρ,
  fun m ρ _ => Cert.MlpUpIdeal.Gen.frame m ρ,
  fun m ρ _ => frame_MlpUp_ref m ρ trivial,
  fun m ρ _ => Cert.AttnMerge.Gen.frame m ρ,
  fun m ρ _ => Cert.AttnMergeIdeal.Gen.frame m ρ,
  fun m ρ _ => frame_AttnMerge_ref m ρ trivial,
  fun m ρ _ => Cert.AttnFwd1.Gen.frame m ρ,
  fun m ρ _ => Cert.AttnFwd1Ideal.Gen.frame m ρ,
  fun m ρ _ => frame_AttnFwd1_ref m ρ trivial,
  Cert.AttnPrinted.frame4,
  fun m ρ _ => Cert.AttnFwd4Ideal.Strided.frame m ρ,
  fun m ρ _ => frame_AttnFwd4_ref m ρ trivial,
  Cert.AttnPrinted.frame16,
  fun m ρ _ => Cert.AttnFwd16Ideal.Strided.frame m ρ,
  fun m ρ _ => frame_AttnFwd16_ref m ρ trivial,
  fun m ρ _ => Cert.SsmBwdEnds.Gen.frame m ρ,
  fun m ρ _ => Cert.SsmBwdEndsIdeal.Gen.frame m ρ,
  trivial,
  Cert.MemNormBwdIdeal.Equation.algebraic,
  trivial,
  Cert.MemNormFwdIdeal.Equation.algebraic,
  trivial,
  Cert.MemAttnBwdIdeal.Equation.algebraic,
  trivial,
  Cert.MemAttnFwdIdeal.Equation.algebraic,
  ⟨IdealRules.named_const.statement Cert.GluBwdIdeal.κ "cubic" .f32 0x3D372713#32 ((8943 / 200000 : ℝ) : EReal) rfl,
    IdealRules.named_const.statement Cert.GluBwdIdeal.κ "three_cubic" .f32 0x3E095D4F#32 ((26829 / 200000 : ℝ) : EReal) rfl⟩,
  Cert.GluBwdIdeal.Equation.algebraic,
  trivial,
  Cert.GluFwdIdeal.Equation.algebraic,
  trivial,
  Cert.BranchMergeBwdIdeal.Equation.algebraic,
  trivial,
  Cert.BranchMergeFwdIdeal.Equation.algebraic,
  trivial,
  Cert.Norm2BwdIdeal.Equation.algebraic,
  trivial,
  Cert.OutProjIdeal.Equation.algebraic,
  trivial,
  Cert.Norm1BwdIdeal.Equation.algebraic,
  trivial,
  Cert.Norm1FwdIdeal.Equation.algebraic,
  trivial,
  Cert.LossHeadIdeal.Equation.algebraic,
  trivial,
  Cert.Relu2BwdIdeal.Equation.algebraic,
  trivial,
  Cert.MlpUpIdeal.Equation.algebraic,
  trivial,
  Cert.AttnMergeIdeal.Equation.algebraic,
  IdealRules.named_const.statement Cert.AttnFwd1Ideal.κ "mask" .f32 0xF149F2CA#32 (⊥ : EReal) rfl,
  Cert.AttnFwd1Ideal.Equation.algebraic,
  IdealRules.named_const.statement Cert.AttnFwd4Ideal.κ "mask" .f32 0xF149F2CA#32 (⊥ : EReal) rfl,
  Cert.AttnFwd4Ideal.Equation.algebraic,
  IdealRules.named_const.statement Cert.AttnFwd16Ideal.κ "mask" .f32 0xF149F2CA#32 (⊥ : EReal) rfl,
  Cert.AttnFwd16Ideal.Equation.algebraic,
  trivial⟩

end Cert.Proof

end
